-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite [hPre_finite : Cert.Pre_finite.Facts] (m : (ℓ : Loc Cert.KernelIdeal.nD Cert.KernelIdeal.τ Cert.KernelIdeal.sig) → Buf (Elt Ideal) ℓ) : Prop :=
  ∀ c : Dev Cert.KernelIdeal.nD,
    (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))).1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))).2.1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))).2.2.1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))).2.2.2.1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))).2.2.2.2.1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))).2.2.2.2.2.1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))).2.2.2.2.2.2 = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite [hPre_finite : Cert.Pre_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))).1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))).2.1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))).2.2.1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))).2.2.2.1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))).2.2.2.2.1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))).2.2.2.2.2.1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))).2.2.2.2.2.2 = (fun _ => 1#1)

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Kernel2Ideal_finite2 [hPre_finite2 : Cert.Pre_finite2.Facts] (m : (ℓ : Loc Cert.Kernel2Ideal.nD Cert.Kernel2Ideal.τ Cert.Kernel2Ideal.sig) → Buf (Elt Ideal) ℓ) : Prop :=
  ∀ c : Dev Cert.Kernel2Ideal.nD,
    (Cert.Pre_finite2.fn (F := Ideal) (m ((c.tc : Thread Cert.Kernel2Ideal.nD Cert.Kernel2Ideal.τ).loc Cert.Kernel2Ideal.main_arg0)) (m ((c.tc : Thread Cert.Kernel2Ideal.nD Cert.Kernel2Ideal.τ).loc Cert.Kernel2Ideal.main_arg1)) (m ((c.tc : Thread Cert.Kernel2Ideal.nD Cert.Kernel2Ideal.τ).loc Cert.Kernel2Ideal.main_arg2)) (m ((c.tc : Thread Cert.Kernel2Ideal.nD Cert.Kernel2Ideal.τ).loc Cert.Kernel2Ideal.main_arg3)) (m ((c.tc : Thread Cert.Kernel2Ideal.nD Cert.Kernel2Ideal.τ).loc Cert.Kernel2Ideal.main_arg4))).1 = (fun _ => 1#1)
    ∧ (Cert.Pre_finite2.fn (F := Ideal) (m ((c.tc : Thread Cert.Kernel2Ideal.nD Cert.Kernel2Ideal.τ).loc Cert.Kernel2Ideal.main_arg0)) (m ((c.tc : Thread Cert.Kernel2Ideal.nD Cert.Kernel2Ideal.τ).loc Cert.Kernel2Ideal.main_arg1)) (m ((c.tc : Thread Cert.Kernel2Ideal.nD Cert.Kernel2Ideal.τ).loc Cert.Kernel2Ideal.main_arg2)) (m ((c.tc : Thread Cert.Kernel2Ideal.nD Cert.Kernel2Ideal.τ).loc Cert.Kernel2Ideal.main_arg3)) (m ((c.tc : Thread Cert.Kernel2Ideal.nD Cert.Kernel2Ideal.τ).loc Cert.Kernel2Ideal.main_arg4))).2.1 = (fun _ => 1#1)
    ∧ (Cert.Pre_finite2.fn (F := Ideal) (m ((c.tc : Thread Cert.Kernel2Ideal.nD Cert.Kernel2Ideal.τ).loc Cert.Kernel2Ideal.main_arg0)) (m ((c.tc : Thread Cert.Kernel2Ideal.nD Cert.Kernel2Ideal.τ).loc Cert.Kernel2Ideal.main_arg1)) (m ((c.tc : Thread Cert.Kernel2Ideal.nD Cert.Kernel2Ideal.τ).loc Cert.Kernel2Ideal.main_arg2)) (m ((c.tc : Thread Cert.Kernel2Ideal.nD Cert.Kernel2Ideal.τ).loc Cert.Kernel2Ideal.main_arg3)) (m ((c.tc : Thread Cert.Kernel2Ideal.nD Cert.Kernel2Ideal.τ).loc Cert.Kernel2Ideal.main_arg4))).2.2.1 = (fun _ => 1#1)
    ∧ (Cert.Pre_finite2.fn (F := Ideal) (m ((c.tc : Thread Cert.Kernel2Ideal.nD Cert.Kernel2Ideal.τ).loc Cert.Kernel2Ideal.main_arg0)) (m ((c.tc : Thread Cert.Kernel2Ideal.nD Cert.Kernel2Ideal.τ).loc Cert.Kernel2Ideal.main_arg1)) (m ((c.tc : Thread Cert.Kernel2Ideal.nD Cert.Kernel2Ideal.τ).loc Cert.Kernel2Ideal.main_arg2)) (m ((c.tc : Thread Cert.Kernel2Ideal.nD Cert.Kernel2Ideal.τ).loc Cert.Kernel2Ideal.main_arg3)) (m ((c.tc : Thread Cert.Kernel2Ideal.nD Cert.Kernel2Ideal.τ).loc Cert.Kernel2Ideal.main_arg4))).2.2.2.1 = (fun _ => 1#1)
    ∧ (Cert.Pre_finite2.fn (F := Ideal) (m ((c.tc : Thread Cert.Kernel2Ideal.nD Cert.Kernel2Ideal.τ).loc Cert.Kernel2Ideal.main_arg0)) (m ((c.tc : Thread Cert.Kernel2Ideal.nD Cert.Kernel2Ideal.τ).loc Cert.Kernel2Ideal.main_arg1)) (m ((c.tc : Thread Cert.Kernel2Ideal.nD Cert.Kernel2Ideal.τ).loc Cert.Kernel2Ideal.main_arg2)) (m ((c.tc : Thread Cert.Kernel2Ideal.nD Cert.Kernel2Ideal.τ).loc Cert.Kernel2Ideal.main_arg3)) (m ((c.tc : Thread Cert.Kernel2Ideal.nD Cert.Kernel2Ideal.τ).loc Cert.Kernel2Ideal.main_arg4))).2.2.2.2 = (fun _ => 1#1)

def Pre_Reference2Ideal (m : (ℓ : Loc Cert.Reference2Ideal.nD Cert.Reference2Ideal.τ Cert.Reference2Ideal.sig) → Buf (Elt Ideal) ℓ) : Prop :=
  True

def Pre_Reference2Ideal_finite2 [hPre_finite2 : Cert.Pre_finite2.Facts] (m : (ℓ : Loc Cert.Reference2Ideal.nD Cert.Reference2Ideal.τ Cert.Reference2Ideal.sig) → Buf (Elt Ideal) ℓ) : Prop :=
  ∀ c : Dev Cert.Reference2Ideal.nD,
    (Cert.Pre_finite2.fn (F := Ideal) (m ((c.tc : Thread Cert.Reference2Ideal.nD Cert.Reference2Ideal.τ).loc Cert.Reference2Ideal.main_arg0)) (m ((c.tc : Thread Cert.Reference2Ideal.nD Cert.Reference2Ideal.τ).loc Cert.Reference2Ideal.main_arg1)) (m ((c.tc : Thread Cert.Reference2Ideal.nD Cert.Reference2Ideal.τ).loc Cert.Reference2Ideal.main_arg2)) (m ((c.tc : Thread Cert.Reference2Ideal.nD Cert.Reference2Ideal.τ).loc Cert.Reference2Ideal.main_arg3)) (m ((c.tc : Thread Cert.Reference2Ideal.nD Cert.Reference2Ideal.τ).loc Cert.Reference2Ideal.main_arg4))).1 = (fun _ => 1#1)
    ∧ (Cert.Pre_finite2.fn (F := Ideal) (m ((c.tc : Thread Cert.Reference2Ideal.nD Cert.Reference2Ideal.τ).loc Cert.Reference2Ideal.main_arg0)) (m ((c.tc : Thread Cert.Reference2Ideal.nD Cert.Reference2Ideal.τ).loc Cert.Reference2Ideal.main_arg1)) (m ((c.tc : Thread Cert.Reference2Ideal.nD Cert.Reference2Ideal.τ).loc Cert.Reference2Ideal.main_arg2)) (m ((c.tc : Thread Cert.Reference2Ideal.nD Cert.Reference2Ideal.τ).loc Cert.Reference2Ideal.main_arg3)) (m ((c.tc : Thread Cert.Reference2Ideal.nD Cert.Reference2Ideal.τ).loc Cert.Reference2Ideal.main_arg4))).2.1 = (fun _ => 1#1)
    ∧ (Cert.Pre_finite2.fn (F := Ideal) (m ((c.tc : Thread Cert.Reference2Ideal.nD Cert.Reference2Ideal.τ).loc Cert.Reference2Ideal.main_arg0)) (m ((c.tc : Thread Cert.Reference2Ideal.nD Cert.Reference2Ideal.τ).loc Cert.Reference2Ideal.main_arg1)) (m ((c.tc : Thread Cert.Reference2Ideal.nD Cert.Reference2Ideal.τ).loc Cert.Reference2Ideal.main_arg2)) (m ((c.tc : Thread Cert.Reference2Ideal.nD Cert.Reference2Ideal.τ).loc Cert.Reference2Ideal.main_arg3)) (m ((c.tc : Thread Cert.Reference2Ideal.nD Cert.Reference2Ideal.τ).loc Cert.Reference2Ideal.main_arg4))).2.2.1 = (fun _ => 1#1)
    ∧ (Cert.Pre_finite2.fn (F := Ideal) (m ((c.tc : Thread Cert.Reference2Ideal.nD Cert.Reference2Ideal.τ).loc Cert.Reference2Ideal.main_arg0)) (m ((c.tc : Thread Cert.Reference2Ideal.nD Cert.Reference2Ideal.τ).loc Cert.Reference2Ideal.main_arg1)) (m ((c.tc : Thread Cert.Reference2Ideal.nD Cert.Reference2Ideal.τ).loc Cert.Reference2Ideal.main_arg2)) (m ((c.tc : Thread Cert.Reference2Ideal.nD Cert.Reference2Ideal.τ).loc Cert.Reference2Ideal.main_arg3)) (m ((c.tc : Thread Cert.Reference2Ideal.nD Cert.Reference2Ideal.τ).loc Cert.Reference2Ideal.main_arg4))).2.2.2.1 = (fun _ => 1#1)
    ∧ (Cert.Pre_finite2.fn (F := Ideal) (m ((c.tc : Thread Cert.Reference2Ideal.nD Cert.Reference2Ideal.τ).loc Cert.Reference2Ideal.main_arg0)) (m ((c.tc : Thread Cert.Reference2Ideal.nD Cert.Reference2Ideal.τ).loc Cert.Reference2Ideal.main_arg1)) (m ((c.tc : Thread Cert.Reference2Ideal.nD Cert.Reference2Ideal.τ).loc Cert.Reference2Ideal.main_arg2)) (m ((c.tc : Thread Cert.Reference2Ideal.nD Cert.Reference2Ideal.τ).loc Cert.Reference2Ideal.main_arg3)) (m ((c.tc : Thread Cert.Reference2Ideal.nD Cert.Reference2Ideal.τ).loc Cert.Reference2Ideal.main_arg4))).2.2.2.2 = (fun _ => 1#1)

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Reference3Ideal (m : (ℓ : Loc Cert.Reference3Ideal.nD Cert.Reference3Ideal.τ Cert.Reference3Ideal.sig) → Buf (Elt Ideal) ℓ) : Prop :=
  True

def Pre_Kernel4 (m : (ℓ : Loc Cert.Kernel4.nD Cert.Kernel4.τ Cert.Kernel4.sig) → Buf (Elt Bits) ℓ) : Prop :=
  True

def Pre_Kernel4Ideal (m : (ℓ : Loc Cert.Kernel4Ideal.nD Cert.Kernel4Ideal.τ Cert.Kernel4Ideal.sig) → Buf (Elt Ideal) ℓ) : Prop :=
  True

def Pre_Reference4Ideal (m : (ℓ : Loc Cert.Reference4Ideal.nD Cert.Reference4Ideal.τ Cert.Reference4Ideal.sig) → Buf (Elt Ideal) ℓ) : Prop :=
  True

def Pre_Kernel5 (m : (ℓ : Loc Cert.Kernel5.nD Cert.Kernel5.τ Cert.Kernel5.sig) → Buf (Elt Bits) ℓ) : Prop :=
  True

def Pre_Kernel5Ideal (m : (ℓ : Loc Cert.Kernel5Ideal.nD Cert.Kernel5Ideal.τ Cert.Kernel5Ideal.sig) → Buf (Elt Ideal) ℓ) : Prop :=
  True

def Pre_Reference5Ideal (m : (ℓ : Loc Cert.Reference5Ideal.nD Cert.Reference5Ideal.τ Cert.Reference5Ideal.sig) → Buf (Elt Ideal) ℓ) : Prop :=
  True

def Pre_Kernel6 (m : (ℓ : Loc Cert.Kernel6.nD Cert.Kernel6.τ Cert.Kernel6.sig) → Buf (Elt Bits) ℓ) : Prop :=
  True

def Pre_Kernel6Ideal (m : (ℓ : Loc Cert.Kernel6Ideal.nD Cert.Kernel6Ideal.τ Cert.Kernel6Ideal.sig) → Buf (Elt Ideal) ℓ) : Prop :=
  True

def Pre_Kernel6Ideal_finite6 [hPre_finite6 : Cert.Pre_finite6.Facts] (m : (ℓ : Loc Cert.Kernel6Ideal.nD Cert.Kernel6Ideal.τ Cert.Kernel6Ideal.sig) → Buf (Elt Ideal) ℓ) : Prop :=
  ∀ c : Dev Cert.Kernel6Ideal.nD,
    (Cert.Pre_finite6.fn (F := Ideal) (m ((c.tc : Thread Cert.Kernel6Ideal.nD Cert.Kernel6Ideal.τ).loc Cert.Kernel6Ideal.main_arg0)) (m ((c.tc : Thread Cert.Kernel6Ideal.nD Cert.Kernel6Ideal.τ).loc Cert.Kernel6Ideal.main_arg1)) (m ((c.tc : Thread Cert.Kernel6Ideal.nD Cert.Kernel6Ideal.τ).loc Cert.Kernel6Ideal.main_arg2)) (m ((c.tc : Thread Cert.Kernel6Ideal.nD Cert.Kernel6Ideal.τ).loc Cert.Kernel6Ideal.main_arg3)) (m ((c.tc : Thread Cert.Kernel6Ideal.nD Cert.Kernel6Ideal.τ).loc Cert.Kernel6Ideal.main_arg4)) (m ((c.tc : Thread Cert.Kernel6Ideal.nD Cert.Kernel6Ideal.τ).loc Cert.Kernel6Ideal.main_arg5)) (m ((c.tc : Thread Cert.Kernel6Ideal.nD Cert.Kernel6Ideal.τ).loc Cert.Kernel6Ideal.main_arg6))).1 = (fun _ => 1#1)
    ∧ (Cert.Pre_finite6.fn (F := Ideal) (m ((c.tc : Thread Cert.Kernel6Ideal.nD Cert.Kernel6Ideal.τ).loc Cert.Kernel6Ideal.main_arg0)) (m ((c.tc : Thread Cert.Kernel6Ideal.nD Cert.Kernel6Ideal.τ).loc Cert.Kernel6Ideal.main_arg1)) (m ((c.tc : Thread Cert.Kernel6Ideal.nD Cert.Kernel6Ideal.τ).loc Cert.Kernel6Ideal.main_arg2)) (m ((c.tc : Thread Cert.Kernel6Ideal.nD Cert.Kernel6Ideal.τ).loc Cert.Kernel6Ideal.main_arg3)) (m ((c.tc : Thread Cert.Kernel6Ideal.nD Cert.Kernel6Ideal.τ).loc Cert.Kernel6Ideal.main_arg4)) (m ((c.tc : Thread Cert.Kernel6Ideal.nD Cert.Kernel6Ideal.τ).loc Cert.Kernel6Ideal.main_arg5)) (m ((c.tc : Thread Cert.Kernel6Ideal.nD Cert.Kernel6Ideal.τ).loc Cert.Kernel6Ideal.main_arg6))).2.1 = (fun _ => 1#1)
    ∧ (Cert.Pre_finite6.fn (F := Ideal) (m ((c.tc : Thread Cert.Kernel6Ideal.nD Cert.Kernel6Ideal.τ).loc Cert.Kernel6Ideal.main_arg0)) (m ((c.tc : Thread Cert.Kernel6Ideal.nD Cert.Kernel6Ideal.τ).loc Cert.Kernel6Ideal.main_arg1)) (m ((c.tc : Thread Cert.Kernel6Ideal.nD Cert.Kernel6Ideal.τ).loc Cert.Kernel6Ideal.main_arg2)) (m ((c.tc : Thread Cert.Kernel6Ideal.nD Cert.Kernel6Ideal.τ).loc Cert.Kernel6Ideal.main_arg3)) (m ((c.tc : Thread Cert.Kernel6Ideal.nD Cert.Kernel6Ideal.τ).loc Cert.Kernel6Ideal.main_arg4)) (m ((c.tc : Thread Cert.Kernel6Ideal.nD Cert.Kernel6Ideal.τ).loc Cert.Kernel6Ideal.main_arg5)) (m ((c.tc : Thread Cert.Kernel6Ideal.nD Cert.Kernel6Ideal.τ).loc Cert.Kernel6Ideal.main_arg6))).2.2.1 = (fun _ => 1#1)
    ∧ (Cert.Pre_finite6.fn (F := Ideal) (m ((c.tc : Thread Cert.Kernel6Ideal.nD Cert.Kernel6Ideal.τ).loc Cert.Kernel6Ideal.main_arg0)) (m ((c.tc : Thread Cert.Kernel6Ideal.nD Cert.Kernel6Ideal.τ).loc Cert.Kernel6Ideal.main_arg1)) (m ((c.tc : Thread Cert.Kernel6Ideal.nD Cert.Kernel6Ideal.τ).loc Cert.Kernel6Ideal.main_arg2)) (m ((c.tc : Thread Cert.Kernel6Ideal.nD Cert.Kernel6Ideal.τ).loc Cert.Kernel6Ideal.main_arg3)) (m ((c.tc : Thread Cert.Kernel6Ideal.nD Cert.Kernel6Ideal.τ).loc Cert.Kernel6Ideal.main_arg4)) (m ((c.tc : Thread Cert.Kernel6Ideal.nD Cert.Kernel6Ideal.τ).loc Cert.Kernel6Ideal.main_arg5)) (m ((c.tc : Thread Cert.Kernel6Ideal.nD Cert.Kernel6Ideal.τ).loc Cert.Kernel6Ideal.main_arg6))).2.2.2.1 = (fun _ => 1#1)
    ∧ (Cert.Pre_finite6.fn (F := Ideal) (m ((c.tc : Thread Cert.Kernel6Ideal.nD Cert.Kernel6Ideal.τ).loc Cert.Kernel6Ideal.main_arg0)) (m ((c.tc : Thread Cert.Kernel6Ideal.nD Cert.Kernel6Ideal.τ).loc Cert.Kernel6Ideal.main_arg1)) (m ((c.tc : Thread Cert.Kernel6Ideal.nD Cert.Kernel6Ideal.τ).loc Cert.Kernel6Ideal.main_arg2)) (m ((c.tc : Thread Cert.Kernel6Ideal.nD Cert.Kernel6Ideal.τ).loc Cert.Kernel6Ideal.main_arg3)) (m ((c.tc : Thread Cert.Kernel6Ideal.nD Cert.Kernel6Ideal.τ).loc Cert.Kernel6Ideal.main_arg4)) (m ((c.tc : Thread Cert.Kernel6Ideal.nD Cert.Kernel6Ideal.τ).loc Cert.Kernel6Ideal.main_arg5)) (m ((c.tc : Thread Cert.Kernel6Ideal.nD Cert.Kernel6Ideal.τ).loc Cert.Kernel6Ideal.main_arg6))).2.2.2.2.1 = (fun _ => 1#1)
    ∧ (Cert.Pre_finite6.fn (F := Ideal) (m ((c.tc : Thread Cert.Kernel6Ideal.nD Cert.Kernel6Ideal.τ).loc Cert.Kernel6Ideal.main_arg0)) (m ((c.tc : Thread Cert.Kernel6Ideal.nD Cert.Kernel6Ideal.τ).loc Cert.Kernel6Ideal.main_arg1)) (m ((c.tc : Thread Cert.Kernel6Ideal.nD Cert.Kernel6Ideal.τ).loc Cert.Kernel6Ideal.main_arg2)) (m ((c.tc : Thread Cert.Kernel6Ideal.nD Cert.Kernel6Ideal.τ).loc Cert.Kernel6Ideal.main_arg3)) (m ((c.tc : Thread Cert.Kernel6Ideal.nD Cert.Kernel6Ideal.τ).loc Cert.Kernel6Ideal.main_arg4)) (m ((c.tc : Thread Cert.Kernel6Ideal.nD Cert.Kernel6Ideal.τ).loc Cert.Kernel6Ideal.main_arg5)) (m ((c.tc : Thread Cert.Kernel6Ideal.nD Cert.Kernel6Ideal.τ).loc Cert.Kernel6Ideal.main_arg6))).2.2.2.2.2.1 = (fun _ => 1#1)
    ∧ (Cert.Pre_finite6.fn (F := Ideal) (m ((c.tc : Thread Cert.Kernel6Ideal.nD Cert.Kernel6Ideal.τ).loc Cert.Kernel6Ideal.main_arg0)) (m ((c.tc : Thread Cert.Kernel6Ideal.nD Cert.Kernel6Ideal.τ).loc Cert.Kernel6Ideal.main_arg1)) (m ((c.tc : Thread Cert.Kernel6Ideal.nD Cert.Kernel6Ideal.τ).loc Cert.Kernel6Ideal.main_arg2)) (m ((c.tc : Thread Cert.Kernel6Ideal.nD Cert.Kernel6Ideal.τ).loc Cert.Kernel6Ideal.main_arg3)) (m ((c.tc : Thread Cert.Kernel6Ideal.nD Cert.Kernel6Ideal.τ).loc Cert.Kernel6Ideal.main_arg4)) (m ((c.tc : Thread Cert.Kernel6Ideal.nD Cert.Kernel6Ideal.τ).loc Cert.Kernel6Ideal.main_arg5)) (m ((c.tc : Thread Cert.Kernel6Ideal.nD Cert.Kernel6Ideal.τ).loc Cert.Kernel6Ideal.main_arg6))).2.2.2.2.2.2 = (fun _ => 1#1)

def Pre_Reference6Ideal (m : (ℓ : Loc Cert.Reference6Ideal.nD Cert.Reference6Ideal.τ Cert.Reference6Ideal.sig) → Buf (Elt Ideal) ℓ) : Prop :=
  True

def Pre_Reference6Ideal_finite6 [hPre_finite6 : Cert.Pre_finite6.Facts] (m : (ℓ : Loc Cert.Reference6Ideal.nD Cert.Reference6Ideal.τ Cert.Reference6Ideal.sig) → Buf (Elt Ideal) ℓ) : Prop :=
  ∀ c : Dev Cert.Reference6Ideal.nD,
    (Cert.Pre_finite6.fn (F := Ideal) (m ((c.tc : Thread Cert.Reference6Ideal.nD Cert.Reference6Ideal.τ).loc Cert.Reference6Ideal.main_arg0)) (m ((c.tc : Thread Cert.Reference6Ideal.nD Cert.Reference6Ideal.τ).loc Cert.Reference6Ideal.main_arg1)) (m ((c.tc : Thread Cert.Reference6Ideal.nD Cert.Reference6Ideal.τ).loc Cert.Reference6Ideal.main_arg2)) (m ((c.tc : Thread Cert.Reference6Ideal.nD Cert.Reference6Ideal.τ).loc Cert.Reference6Ideal.main_arg3)) (m ((c.tc : Thread Cert.Reference6Ideal.nD Cert.Reference6Ideal.τ).loc Cert.Reference6Ideal.main_arg4)) (m ((c.tc : Thread Cert.Reference6Ideal.nD Cert.Reference6Ideal.τ).loc Cert.Reference6Ideal.main_arg5)) (m ((c.tc : Thread Cert.Reference6Ideal.nD Cert.Reference6Ideal.τ).loc Cert.Reference6Ideal.main_arg6))).1 = (fun _ => 1#1)
    ∧ (Cert.Pre_finite6.fn (F := Ideal) (m ((c.tc : Thread Cert.Reference6Ideal.nD Cert.Reference6Ideal.τ).loc Cert.Reference6Ideal.main_arg0)) (m ((c.tc : Thread Cert.Reference6Ideal.nD Cert.Reference6Ideal.τ).loc Cert.Reference6Ideal.main_arg1)) (m ((c.tc : Thread Cert.Reference6Ideal.nD Cert.Reference6Ideal.τ).loc Cert.Reference6Ideal.main_arg2)) (m ((c.tc : Thread Cert.Reference6Ideal.nD Cert.Reference6Ideal.τ).loc Cert.Reference6Ideal.main_arg3)) (m ((c.tc : Thread Cert.Reference6Ideal.nD Cert.Reference6Ideal.τ).loc Cert.Reference6Ideal.main_arg4)) (m ((c.tc : Thread Cert.Reference6Ideal.nD Cert.Reference6Ideal.τ).loc Cert.Reference6Ideal.main_arg5)) (m ((c.tc : Thread Cert.Reference6Ideal.nD Cert.Reference6Ideal.τ).loc Cert.Reference6Ideal.main_arg6))).2.1 = (fun _ => 1#1)
    ∧ (Cert.Pre_finite6.fn (F := Ideal) (m ((c.tc : Thread Cert.Reference6Ideal.nD Cert.Reference6Ideal.τ).loc Cert.Reference6Ideal.main_arg0)) (m ((c.tc : Thread Cert.Reference6Ideal.nD Cert.Reference6Ideal.τ).loc Cert.Reference6Ideal.main_arg1)) (m ((c.tc : Thread Cert.Reference6Ideal.nD Cert.Reference6Ideal.τ).loc Cert.Reference6Ideal.main_arg2)) (m ((c.tc : Thread Cert.Reference6Ideal.nD Cert.Reference6Ideal.τ).loc Cert.Reference6Ideal.main_arg3)) (m ((c.tc : Thread Cert.Reference6Ideal.nD Cert.Reference6Ideal.τ).loc Cert.Reference6Ideal.main_arg4)) (m ((c.tc : Thread Cert.Reference6Ideal.nD Cert.Reference6Ideal.τ).loc Cert.Reference6Ideal.main_arg5)) (m ((c.tc : Thread Cert.Reference6Ideal.nD Cert.Reference6Ideal.τ).loc Cert.Reference6Ideal.main_arg6))).2.2.1 = (fun _ => 1#1)
    ∧ (Cert.Pre_finite6.fn (F := Ideal) (m ((c.tc : Thread Cert.Reference6Ideal.nD Cert.Reference6Ideal.τ).loc Cert.Reference6Ideal.main_arg0)) (m ((c.tc : Thread Cert.Reference6Ideal.nD Cert.Reference6Ideal.τ).loc Cert.Reference6Ideal.main_arg1)) (m ((c.tc : Thread Cert.Reference6Ideal.nD Cert.Reference6Ideal.τ).loc Cert.Reference6Ideal.main_arg2)) (m ((c.tc : Thread Cert.Reference6Ideal.nD Cert.Reference6Ideal.τ).loc Cert.Reference6Ideal.main_arg3)) (m ((c.tc : Thread Cert.Reference6Ideal.nD Cert.Reference6Ideal.τ).loc Cert.Reference6Ideal.main_arg4)) (m ((c.tc : Thread Cert.Reference6Ideal.nD Cert.Reference6Ideal.τ).loc Cert.Reference6Ideal.main_arg5)) (m ((c.tc : Thread Cert.Reference6Ideal.nD Cert.Reference6Ideal.τ).loc Cert.Reference6Ideal.main_arg6))).2.2.2.1 = (fun _ => 1#1)
    ∧ (Cert.Pre_finite6.fn (F := Ideal) (m ((c.tc : Thread Cert.Reference6Ideal.nD Cert.Reference6Ideal.τ).loc Cert.Reference6Ideal.main_arg0)) (m ((c.tc : Thread Cert.Reference6Ideal.nD Cert.Reference6Ideal.τ).loc Cert.Reference6Ideal.main_arg1)) (m ((c.tc : Thread Cert.Reference6Ideal.nD Cert.Reference6Ideal.τ).loc Cert.Reference6Ideal.main_arg2)) (m ((c.tc : Thread Cert.Reference6Ideal.nD Cert.Reference6Ideal.τ).loc Cert.Reference6Ideal.main_arg3)) (m ((c.tc : Thread Cert.Reference6Ideal.nD Cert.Reference6Ideal.τ).loc Cert.Reference6Ideal.main_arg4)) (m ((c.tc : Thread Cert.Reference6Ideal.nD Cert.Reference6Ideal.τ).loc Cert.Reference6Ideal.main_arg5)) (m ((c.tc : Thread Cert.Reference6Ideal.nD Cert.Reference6Ideal.τ).loc Cert.Reference6Ideal.main_arg6))).2.2.2.2.1 = (fun _ => 1#1)
    ∧ (Cert.Pre_finite6.fn (F := Ideal) (m ((c.tc : Thread Cert.Reference6Ideal.nD Cert.Reference6Ideal.τ).loc Cert.Reference6Ideal.main_arg0)) (m ((c.tc : Thread Cert.Reference6Ideal.nD Cert.Reference6Ideal.τ).loc Cert.Reference6Ideal.main_arg1)) (m ((c.tc : Thread Cert.Reference6Ideal.nD Cert.Reference6Ideal.τ).loc Cert.Reference6Ideal.main_arg2)) (m ((c.tc : Thread Cert.Reference6Ideal.nD Cert.Reference6Ideal.τ).loc Cert.Reference6Ideal.main_arg3)) (m ((c.tc : Thread Cert.Reference6Ideal.nD Cert.Reference6Ideal.τ).loc Cert.Reference6Ideal.main_arg4)) (m ((c.tc : Thread Cert.Reference6Ideal.nD Cert.Reference6Ideal.τ).loc Cert.Reference6Ideal.main_arg5)) (m ((c.tc : Thread Cert.Reference6Ideal.nD Cert.Reference6Ideal.τ).loc Cert.Reference6Ideal.main_arg6))).2.2.2.2.2.1 = (fun _ => 1#1)
    ∧ (Cert.Pre_finite6.fn (F := Ideal) (m ((c.tc : Thread Cert.Reference6Ideal.nD Cert.Reference6Ideal.τ).loc Cert.Reference6Ideal.main_arg0)) (m ((c.tc : Thread Cert.Reference6Ideal.nD Cert.Reference6Ideal.τ).loc Cert.Reference6Ideal.main_arg1)) (m ((c.tc : Thread Cert.Reference6Ideal.nD Cert.Reference6Ideal.τ).loc Cert.Reference6Ideal.main_arg2)) (m ((c.tc : Thread Cert.Reference6Ideal.nD Cert.Reference6Ideal.τ).loc Cert.Reference6Ideal.main_arg3)) (m ((c.tc : Thread Cert.Reference6Ideal.nD Cert.Reference6Ideal.τ).loc Cert.Reference6Ideal.main_arg4)) (m ((c.tc : Thread Cert.Reference6Ideal.nD Cert.Reference6Ideal.τ).loc Cert.Reference6Ideal.main_arg5)) (m ((c.tc : Thread Cert.Reference6Ideal.nD Cert.Reference6Ideal.τ).loc Cert.Reference6Ideal.main_arg6))).2.2.2.2.2.2 = (fun _ => 1#1)

def Pre_Kernel7 (m : (ℓ : Loc Cert.Kernel7.nD Cert.Kernel7.τ Cert.Kernel7.sig) → Buf (Elt Bits) ℓ) : Prop :=
  True

def Pre_Kernel7Ideal (m : (ℓ : Loc Cert.Kernel7Ideal.nD Cert.Kernel7Ideal.τ Cert.Kernel7Ideal.sig) → Buf (Elt Ideal) ℓ) : Prop :=
  True

def Pre_Kernel7Ideal_finite7 [hPre_finite7 : Cert.Pre_finite7.Facts] (m : (ℓ : Loc Cert.Kernel7Ideal.nD Cert.Kernel7Ideal.τ Cert.Kernel7Ideal.sig) → Buf (Elt Ideal) ℓ) : Prop :=
  ∀ c : Dev Cert.Kernel7Ideal.nD,
    (Cert.Pre_finite7.fn (F := Ideal) (m ((c.tc : Thread Cert.Kernel7Ideal.nD Cert.Kernel7Ideal.τ).loc Cert.Kernel7Ideal.main_arg0)) (m ((c.tc : Thread Cert.Kernel7Ideal.nD Cert.Kernel7Ideal.τ).loc Cert.Kernel7Ideal.main_arg1)) (m ((c.tc : Thread Cert.Kernel7Ideal.nD Cert.Kernel7Ideal.τ).loc Cert.Kernel7Ideal.main_arg2)) (m ((c.tc : Thread Cert.Kernel7Ideal.nD Cert.Kernel7Ideal.τ).loc Cert.Kernel7Ideal.main_arg3)) (m ((c.tc : Thread Cert.Kernel7Ideal.nD Cert.Kernel7Ideal.τ).loc Cert.Kernel7Ideal.main_arg4)) (m ((c.tc : Thread Cert.Kernel7Ideal.nD Cert.Kernel7Ideal.τ).loc Cert.Kernel7Ideal.main_arg5)) (m ((c.tc : Thread Cert.Kernel7Ideal.nD Cert.Kernel7Ideal.τ).loc Cert.Kernel7Ideal.main_arg6)) (m ((c.tc : Thread Cert.Kernel7Ideal.nD Cert.Kernel7Ideal.τ).loc Cert.Kernel7Ideal.main_arg7)) (m ((c.tc : Thread Cert.Kernel7Ideal.nD Cert.Kernel7Ideal.τ).loc Cert.Kernel7Ideal.main_arg8))).1 = (fun _ => 1#1)
    ∧ (Cert.Pre_finite7.fn (F := Ideal) (m ((c.tc : Thread Cert.Kernel7Ideal.nD Cert.Kernel7Ideal.τ).loc Cert.Kernel7Ideal.main_arg0)) (m ((c.tc : Thread Cert.Kernel7Ideal.nD Cert.Kernel7Ideal.τ).loc Cert.Kernel7Ideal.main_arg1)) (m ((c.tc : Thread Cert.Kernel7Ideal.nD Cert.Kernel7Ideal.τ).loc Cert.Kernel7Ideal.main_arg2)) (m ((c.tc : Thread Cert.Kernel7Ideal.nD Cert.Kernel7Ideal.τ).loc Cert.Kernel7Ideal.main_arg3)) (m ((c.tc : Thread Cert.Kernel7Ideal.nD Cert.Kernel7Ideal.τ).loc Cert.Kernel7Ideal.main_arg4)) (m ((c.tc : Thread Cert.Kernel7Ideal.nD Cert.Kernel7Ideal.τ).loc Cert.Kernel7Ideal.main_arg5)) (m ((c.tc : Thread Cert.Kernel7Ideal.nD Cert.Kernel7Ideal.τ).loc Cert.Kernel7Ideal.main_arg6)) (m ((c.tc : Thread Cert.Kernel7Ideal.nD Cert.Kernel7Ideal.τ).loc Cert.Kernel7Ideal.main_arg7)) (m ((c.tc : Thread Cert.Kernel7Ideal.nD Cert.Kernel7Ideal.τ).loc Cert.Kernel7Ideal.main_arg8))).2.1 = (fun _ => 1#1)
    ∧ (Cert.Pre_finite7.fn (F := Ideal) (m ((c.tc : Thread Cert.Kernel7Ideal.nD Cert.Kernel7Ideal.τ).loc Cert.Kernel7Ideal.main_arg0)) (m ((c.tc : Thread Cert.Kernel7Ideal.nD Cert.Kernel7Ideal.τ).loc Cert.Kernel7Ideal.main_arg1)) (m ((c.tc : Thread Cert.Kernel7Ideal.nD Cert.Kernel7Ideal.τ).loc Cert.Kernel7Ideal.main_arg2)) (m ((c.tc : Thread Cert.Kernel7Ideal.nD Cert.Kernel7Ideal.τ).loc Cert.Kernel7Ideal.main_arg3)) (m ((c.tc : Thread Cert.Kernel7Ideal.nD Cert.Kernel7Ideal.τ).loc Cert.Kernel7Ideal.main_arg4)) (m ((c.tc : Thread Cert.Kernel7Ideal.nD Cert.Kernel7Ideal.τ).loc Cert.Kernel7Ideal.main_arg5)) (m ((c.tc : Thread Cert.Kernel7Ideal.nD Cert.Kernel7Ideal.τ).loc Cert.Kernel7Ideal.main_arg6)) (m ((c.tc : Thread Cert.Kernel7Ideal.nD Cert.Kernel7Ideal.τ).loc Cert.Kernel7Ideal.main_arg7)) (m ((c.tc : Thread Cert.Kernel7Ideal.nD Cert.Kernel7Ideal.τ).loc Cert.Kernel7Ideal.main_arg8))).2.2.1 = (fun _ => 1#1)
    ∧ (Cert.Pre_finite7.fn (F := Ideal) (m ((c.tc : Thread Cert.Kernel7Ideal.nD Cert.Kernel7Ideal.τ).loc Cert.Kernel7Ideal.main_arg0)) (m ((c.tc : Thread Cert.Kernel7Ideal.nD Cert.Kernel7Ideal.τ).loc Cert.Kernel7Ideal.main_arg1)) (m ((c.tc : Thread Cert.Kernel7Ideal.nD Cert.Kernel7Ideal.τ).loc Cert.Kernel7Ideal.main_arg2)) (m ((c.tc : Thread Cert.Kernel7Ideal.nD Cert.Kernel7Ideal.τ).loc Cert.Kernel7Ideal.main_arg3)) (m ((c.tc : Thread Cert.Kernel7Ideal.nD Cert.Kernel7Ideal.τ).loc Cert.Kernel7Ideal.main_arg4)) (m ((c.tc : Thread Cert.Kernel7Ideal.nD Cert.Kernel7Ideal.τ).loc Cert.Kernel7Ideal.main_arg5)) (m ((c.tc : Thread Cert.Kernel7Ideal.nD Cert.Kernel7Ideal.τ).loc Cert.Kernel7Ideal.main_arg6)) (m ((c.tc : Thread Cert.Kernel7Ideal.nD Cert.Kernel7Ideal.τ).loc Cert.Kernel7Ideal.main_arg7)) (m ((c.tc : Thread Cert.Kernel7Ideal.nD Cert.Kernel7Ideal.τ).loc Cert.Kernel7Ideal.main_arg8))).2.2.2.1 = (fun _ => 1#1)
    ∧ (Cert.Pre_finite7.fn (F := Ideal) (m ((c.tc : Thread Cert.Kernel7Ideal.nD Cert.Kernel7Ideal.τ).loc Cert.Kernel7Ideal.main_arg0)) (m ((c.tc : Thread Cert.Kernel7Ideal.nD Cert.Kernel7Ideal.τ).loc Cert.Kernel7Ideal.main_arg1)) (m ((c.tc : Thread Cert.Kernel7Ideal.nD Cert.Kernel7Ideal.τ).loc Cert.Kernel7Ideal.main_arg2)) (m ((c.tc : Thread Cert.Kernel7Ideal.nD Cert.Kernel7Ideal.τ).loc Cert.Kernel7Ideal.main_arg3)) (m ((c.tc : Thread Cert.Kernel7Ideal.nD Cert.Kernel7Ideal.τ).loc Cert.Kernel7Ideal.main_arg4)) (m ((c.tc : Thread Cert.Kernel7Ideal.nD Cert.Kernel7Ideal.τ).loc Cert.Kernel7Ideal.main_arg5)) (m ((c.tc : Thread Cert.Kernel7Ideal.nD Cert.Kernel7Ideal.τ).loc Cert.Kernel7Ideal.main_arg6)) (m ((c.tc : Thread Cert.Kernel7Ideal.nD Cert.Kernel7Ideal.τ).loc Cert.Kernel7Ideal.main_arg7)) (m ((c.tc : Thread Cert.Kernel7Ideal.nD Cert.Kernel7Ideal.τ).loc Cert.Kernel7Ideal.main_arg8))).2.2.2.2.1 = (fun _ => 1#1)
    ∧ (Cert.Pre_finite7.fn (F := Ideal) (m ((c.tc : Thread Cert.Kernel7Ideal.nD Cert.Kernel7Ideal.τ).loc Cert.Kernel7Ideal.main_arg0)) (m ((c.tc : Thread Cert.Kernel7Ideal.nD Cert.Kernel7Ideal.τ).loc Cert.Kernel7Ideal.main_arg1)) (m ((c.tc : Thread Cert.Kernel7Ideal.nD Cert.Kernel7Ideal.τ).loc Cert.Kernel7Ideal.main_arg2)) (m ((c.tc : Thread Cert.Kernel7Ideal.nD Cert.Kernel7Ideal.τ).loc Cert.Kernel7Ideal.main_arg3)) (m ((c.tc : Thread Cert.Kernel7Ideal.nD Cert.Kernel7Ideal.τ).loc Cert.Kernel7Ideal.main_arg4)) (m ((c.tc : Thread Cert.Kernel7Ideal.nD Cert.Kernel7Ideal.τ).loc Cert.Kernel7Ideal.main_arg5)) (m ((c.tc : Thread Cert.Kernel7Ideal.nD Cert.Kernel7Ideal.τ).loc Cert.Kernel7Ideal.main_arg6)) (m ((c.tc : Thread Cert.Kernel7Ideal.nD Cert.Kernel7Ideal.τ).loc Cert.Kernel7Ideal.main_arg7)) (m ((c.tc : Thread Cert.Kernel7Ideal.nD Cert.Kernel7Ideal.τ).loc Cert.Kernel7Ideal.main_arg8))).2.2.2.2.2.1 = (fun _ => 1#1)
    ∧ (Cert.Pre_finite7.fn (F := Ideal) (m ((c.tc : Thread Cert.Kernel7Ideal.nD Cert.Kernel7Ideal.τ).loc Cert.Kernel7Ideal.main_arg0)) (m ((c.tc : Thread Cert.Kernel7Ideal.nD Cert.Kernel7Ideal.τ).loc Cert.Kernel7Ideal.main_arg1)) (m ((c.tc : Thread Cert.Kernel7Ideal.nD Cert.Kernel7Ideal.τ).loc Cert.Kernel7Ideal.main_arg2)) (m ((c.tc : Thread Cert.Kernel7Ideal.nD Cert.Kernel7Ideal.τ).loc Cert.Kernel7Ideal.main_arg3)) (m ((c.tc : Thread Cert.Kernel7Ideal.nD Cert.Kernel7Ideal.τ).loc Cert.Kernel7Ideal.main_arg4)) (m ((c.tc : Thread Cert.Kernel7Ideal.nD Cert.Kernel7Ideal.τ).loc Cert.Kernel7Ideal.main_arg5)) (m ((c.tc : Thread Cert.Kernel7Ideal.nD Cert.Kernel7Ideal.τ).loc Cert.Kernel7Ideal.main_arg6)) (m ((c.tc : Thread Cert.Kernel7Ideal.nD Cert.Kernel7Ideal.τ).loc Cert.Kernel7Ideal.main_arg7)) (m ((c.tc : Thread Cert.Kernel7Ideal.nD Cert.Kernel7Ideal.τ).loc Cert.Kernel7Ideal.main_arg8))).2.2.2.2.2.2.1 = (fun _ => 1#1)
    ∧ (Cert.Pre_finite7.fn (F := Ideal) (m ((c.tc : Thread Cert.Kernel7Ideal.nD Cert.Kernel7Ideal.τ).loc Cert.Kernel7Ideal.main_arg0)) (m ((c.tc : Thread Cert.Kernel7Ideal.nD Cert.Kernel7Ideal.τ).loc Cert.Kernel7Ideal.main_arg1)) (m ((c.tc : Thread Cert.Kernel7Ideal.nD Cert.Kernel7Ideal.τ).loc Cert.Kernel7Ideal.main_arg2)) (m ((c.tc : Thread Cert.Kernel7Ideal.nD Cert.Kernel7Ideal.τ).loc Cert.Kernel7Ideal.main_arg3)) (m ((c.tc : Thread Cert.Kernel7Ideal.nD Cert.Kernel7Ideal.τ).loc Cert.Kernel7Ideal.main_arg4)) (m ((c.tc : Thread Cert.Kernel7Ideal.nD Cert.Kernel7Ideal.τ).loc Cert.Kernel7Ideal.main_arg5)) (m ((c.tc : Thread Cert.Kernel7Ideal.nD Cert.Kernel7Ideal.τ).loc Cert.Kernel7Ideal.main_arg6)) (m ((c.tc : Thread Cert.Kernel7Ideal.nD Cert.Kernel7Ideal.τ).loc Cert.Kernel7Ideal.main_arg7)) (m ((c.tc : Thread Cert.Kernel7Ideal.nD Cert.Kernel7Ideal.τ).loc Cert.Kernel7Ideal.main_arg8))).2.2.2.2.2.2.2.1 = (fun _ => 1#1)
    ∧ (Cert.Pre_finite7.fn (F := Ideal) (m ((c.tc : Thread Cert.Kernel7Ideal.nD Cert.Kernel7Ideal.τ).loc Cert.Kernel7Ideal.main_arg0)) (m ((c.tc : Thread Cert.Kernel7Ideal.nD Cert.Kernel7Ideal.τ).loc Cert.Kernel7Ideal.main_arg1)) (m ((c.tc : Thread Cert.Kernel7Ideal.nD Cert.Kernel7Ideal.τ).loc Cert.Kernel7Ideal.main_arg2)) (m ((c.tc : Thread Cert.Kernel7Ideal.nD Cert.Kernel7Ideal.τ).loc Cert.Kernel7Ideal.main_arg3)) (m ((c.tc : Thread Cert.Kernel7Ideal.nD Cert.Kernel7Ideal.τ).loc Cert.Kernel7Ideal.main_arg4)) (m ((c.tc : Thread Cert.Kernel7Ideal.nD Cert.Kernel7Ideal.τ).loc Cert.Kernel7Ideal.main_arg5)) (m ((c.tc : Thread Cert.Kernel7Ideal.nD Cert.Kernel7Ideal.τ).loc Cert.Kernel7Ideal.main_arg6)) (m ((c.tc : Thread Cert.Kernel7Ideal.nD Cert.Kernel7Ideal.τ).loc Cert.Kernel7Ideal.main_arg7)) (m ((c.tc : Thread Cert.Kernel7Ideal.nD Cert.Kernel7Ideal.τ).loc Cert.Kernel7Ideal.main_arg8))).2.2.2.2.2.2.2.2 = (fun _ => 1#1)

def Pre_Reference7Ideal (m : (ℓ : Loc Cert.Reference7Ideal.nD Cert.Reference7Ideal.τ Cert.Reference7Ideal.sig) → Buf (Elt Ideal) ℓ) : Prop :=
  True

def Pre_Reference7Ideal_finite7 [hPre_finite7 : Cert.Pre_finite7.Facts] (m : (ℓ : Loc Cert.Reference7Ideal.nD Cert.Reference7Ideal.τ Cert.Reference7Ideal.sig) → Buf (Elt Ideal) ℓ) : Prop :=
  ∀ c : Dev Cert.Reference7Ideal.nD,
    (Cert.Pre_finite7.fn (F := Ideal) (m ((c.tc : Thread Cert.Reference7Ideal.nD Cert.Reference7Ideal.τ).loc Cert.Reference7Ideal.main_arg0)) (m ((c.tc : Thread Cert.Reference7Ideal.nD Cert.Reference7Ideal.τ).loc Cert.Reference7Ideal.main_arg1)) (m ((c.tc : Thread Cert.Reference7Ideal.nD Cert.Reference7Ideal.τ).loc Cert.Reference7Ideal.main_arg2)) (m ((c.tc : Thread Cert.Reference7Ideal.nD Cert.Reference7Ideal.τ).loc Cert.Reference7Ideal.main_arg3)) (m ((c.tc : Thread Cert.Reference7Ideal.nD Cert.Reference7Ideal.τ).loc Cert.Reference7Ideal.main_arg4)) (m ((c.tc : Thread Cert.Reference7Ideal.nD Cert.Reference7Ideal.τ).loc Cert.Reference7Ideal.main_arg5)) (m ((c.tc : Thread Cert.Reference7Ideal.nD Cert.Reference7Ideal.τ).loc Cert.Reference7Ideal.main_arg6)) (m ((c.tc : Thread Cert.Reference7Ideal.nD Cert.Reference7Ideal.τ).loc Cert.Reference7Ideal.main_arg7)) (m ((c.tc : Thread Cert.Reference7Ideal.nD Cert.Reference7Ideal.τ).loc Cert.Reference7Ideal.main_arg8))).1 = (fun _ => 1#1)
    ∧ (Cert.Pre_finite7.fn (F := Ideal) (m ((c.tc : Thread Cert.Reference7Ideal.nD Cert.Reference7Ideal.τ).loc Cert.Reference7Ideal.main_arg0)) (m ((c.tc : Thread Cert.Reference7Ideal.nD Cert.Reference7Ideal.τ).loc Cert.Reference7Ideal.main_arg1)) (m ((c.tc : Thread Cert.Reference7Ideal.nD Cert.Reference7Ideal.τ).loc Cert.Reference7Ideal.main_arg2)) (m ((c.tc : Thread Cert.Reference7Ideal.nD Cert.Reference7Ideal.τ).loc Cert.Reference7Ideal.main_arg3)) (m ((c.tc : Thread Cert.Reference7Ideal.nD Cert.Reference7Ideal.τ).loc Cert.Reference7Ideal.main_arg4)) (m ((c.tc : Thread Cert.Reference7Ideal.nD Cert.Reference7Ideal.τ).loc Cert.Reference7Ideal.main_arg5)) (m ((c.tc : Thread Cert.Reference7Ideal.nD Cert.Reference7Ideal.τ).loc Cert.Reference7Ideal.main_arg6)) (m ((c.tc : Thread Cert.Reference7Ideal.nD Cert.Reference7Ideal.τ).loc Cert.Reference7Ideal.main_arg7)) (m ((c.tc : Thread Cert.Reference7Ideal.nD Cert.Reference7Ideal.τ).loc Cert.Reference7Ideal.main_arg8))).2.1 = (fun _ => 1#1)
    ∧ (Cert.Pre_finite7.fn (F := Ideal) (m ((c.tc : Thread Cert.Reference7Ideal.nD Cert.Reference7Ideal.τ).loc Cert.Reference7Ideal.main_arg0)) (m ((c.tc : Thread Cert.Reference7Ideal.nD Cert.Reference7Ideal.τ).loc Cert.Reference7Ideal.main_arg1)) (m ((c.tc : Thread Cert.Reference7Ideal.nD Cert.Reference7Ideal.τ).loc Cert.Reference7Ideal.main_arg2)) (m ((c.tc : Thread Cert.Reference7Ideal.nD Cert.Reference7Ideal.τ).loc Cert.Reference7Ideal.main_arg3)) (m ((c.tc : Thread Cert.Reference7Ideal.nD Cert.Reference7Ideal.τ).loc Cert.Reference7Ideal.main_arg4)) (m ((c.tc : Thread Cert.Reference7Ideal.nD Cert.Reference7Ideal.τ).loc Cert.Reference7Ideal.main_arg5)) (m ((c.tc : Thread Cert.Reference7Ideal.nD Cert.Reference7Ideal.τ).loc Cert.Reference7Ideal.main_arg6)) (m ((c.tc : Thread Cert.Reference7Ideal.nD Cert.Reference7Ideal.τ).loc Cert.Reference7Ideal.main_arg7)) (m ((c.tc : Thread Cert.Reference7Ideal.nD Cert.Reference7Ideal.τ).loc Cert.Reference7Ideal.main_arg8))).2.2.1 = (fun _ => 1#1)
    ∧ (Cert.Pre_finite7.fn (F := Ideal) (m ((c.tc : Thread Cert.Reference7Ideal.nD Cert.Reference7Ideal.τ).loc Cert.Reference7Ideal.main_arg0)) (m ((c.tc : Thread Cert.Reference7Ideal.nD Cert.Reference7Ideal.τ).loc Cert.Reference7Ideal.main_arg1)) (m ((c.tc : Thread Cert.Reference7Ideal.nD Cert.Reference7Ideal.τ).loc Cert.Reference7Ideal.main_arg2)) (m ((c.tc : Thread Cert.Reference7Ideal.nD Cert.Reference7Ideal.τ).loc Cert.Reference7Ideal.main_arg3)) (m ((c.tc : Thread Cert.Reference7Ideal.nD Cert.Reference7Ideal.τ).loc Cert.Reference7Ideal.main_arg4)) (m ((c.tc : Thread Cert.Reference7Ideal.nD Cert.Reference7Ideal.τ).loc Cert.Reference7Ideal.main_arg5)) (m ((c.tc : Thread Cert.Reference7Ideal.nD Cert.Reference7Ideal.τ).loc Cert.Reference7Ideal.main_arg6)) (m ((c.tc : Thread Cert.Reference7Ideal.nD Cert.Reference7Ideal.τ).loc Cert.Reference7Ideal.main_arg7)) (m ((c.tc : Thread Cert.Reference7Ideal.nD Cert.Reference7Ideal.τ).loc Cert.Reference7Ideal.main_arg8))).2.2.2.1 = (fun _ => 1#1)
    ∧ (Cert.Pre_finite7.fn (F := Ideal) (m ((c.tc : Thread Cert.Reference7Ideal.nD Cert.Reference7Ideal.τ).loc Cert.Reference7Ideal.main_arg0)) (m ((c.tc : Thread Cert.Reference7Ideal.nD Cert.Reference7Ideal.τ).loc Cert.Reference7Ideal.main_arg1)) (m ((c.tc : Thread Cert.Reference7Ideal.nD Cert.Reference7Ideal.τ).loc Cert.Reference7Ideal.main_arg2)) (m ((c.tc : Thread Cert.Reference7Ideal.nD Cert.Reference7Ideal.τ).loc Cert.Reference7Ideal.main_arg3)) (m ((c.tc : Thread Cert.Reference7Ideal.nD Cert.Reference7Ideal.τ).loc Cert.Reference7Ideal.main_arg4)) (m ((c.tc : Thread Cert.Reference7Ideal.nD Cert.Reference7Ideal.τ).loc Cert.Reference7Ideal.main_arg5)) (m ((c.tc : Thread Cert.Reference7Ideal.nD Cert.Reference7Ideal.τ).loc Cert.Reference7Ideal.main_arg6)) (m ((c.tc : Thread Cert.Reference7Ideal.nD Cert.Reference7Ideal.τ).loc Cert.Reference7Ideal.main_arg7)) (m ((c.tc : Thread Cert.Reference7Ideal.nD Cert.Reference7Ideal.τ).loc Cert.Reference7Ideal.main_arg8))).2.2.2.2.1 = (fun _ => 1#1)
    ∧ (Cert.Pre_finite7.fn (F := Ideal) (m ((c.tc : Thread Cert.Reference7Ideal.nD Cert.Reference7Ideal.τ).loc Cert.Reference7Ideal.main_arg0)) (m ((c.tc : Thread Cert.Reference7Ideal.nD Cert.Reference7Ideal.τ).loc Cert.Reference7Ideal.main_arg1)) (m ((c.tc : Thread Cert.Reference7Ideal.nD Cert.Reference7Ideal.τ).loc Cert.Reference7Ideal.main_arg2)) (m ((c.tc : Thread Cert.Reference7Ideal.nD Cert.Reference7Ideal.τ).loc Cert.Reference7Ideal.main_arg3)) (m ((c.tc : Thread Cert.Reference7Ideal.nD Cert.Reference7Ideal.τ).loc Cert.Reference7Ideal.main_arg4)) (m ((c.tc : Thread Cert.Reference7Ideal.nD Cert.Reference7Ideal.τ).loc Cert.Reference7Ideal.main_arg5)) (m ((c.tc : Thread Cert.Reference7Ideal.nD Cert.Reference7Ideal.τ).loc Cert.Reference7Ideal.main_arg6)) (m ((c.tc : Thread Cert.Reference7Ideal.nD Cert.Reference7Ideal.τ).loc Cert.Reference7Ideal.main_arg7)) (m ((c.tc : Thread Cert.Reference7Ideal.nD Cert.Reference7Ideal.τ).loc Cert.Reference7Ideal.main_arg8))).2.2.2.2.2.1 = (fun _ => 1#1)
    ∧ (Cert.Pre_finite7.fn (F := Ideal) (m ((c.tc : Thread Cert.Reference7Ideal.nD Cert.Reference7Ideal.τ).loc Cert.Reference7Ideal.main_arg0)) (m ((c.tc : Thread Cert.Reference7Ideal.nD Cert.Reference7Ideal.τ).loc Cert.Reference7Ideal.main_arg1)) (m ((c.tc : Thread Cert.Reference7Ideal.nD Cert.Reference7Ideal.τ).loc Cert.Reference7Ideal.main_arg2)) (m ((c.tc : Thread Cert.Reference7Ideal.nD Cert.Reference7Ideal.τ).loc Cert.Reference7Ideal.main_arg3)) (m ((c.tc : Thread Cert.Reference7Ideal.nD Cert.Reference7Ideal.τ).loc Cert.Reference7Ideal.main_arg4)) (m ((c.tc : Thread Cert.Reference7Ideal.nD Cert.Reference7Ideal.τ).loc Cert.Reference7Ideal.main_arg5)) (m ((c.tc : Thread Cert.Reference7Ideal.nD Cert.Reference7Ideal.τ).loc Cert.Reference7Ideal.main_arg6)) (m ((c.tc : Thread Cert.Reference7Ideal.nD Cert.Reference7Ideal.τ).loc Cert.Reference7Ideal.main_arg7)) (m ((c.tc : Thread Cert.Reference7Ideal.nD Cert.Reference7Ideal.τ).loc Cert.Reference7Ideal.main_arg8))).2.2.2.2.2.2.1 = (fun _ => 1#1)
    ∧ (Cert.Pre_finite7.fn (F := Ideal) (m ((c.tc : Thread Cert.Reference7Ideal.nD Cert.Reference7Ideal.τ).loc Cert.Reference7Ideal.main_arg0)) (m ((c.tc : Thread Cert.Reference7Ideal.nD Cert.Reference7Ideal.τ).loc Cert.Reference7Ideal.main_arg1)) (m ((c.tc : Thread Cert.Reference7Ideal.nD Cert.Reference7Ideal.τ).loc Cert.Reference7Ideal.main_arg2)) (m ((c.tc : Thread Cert.Reference7Ideal.nD Cert.Reference7Ideal.τ).loc Cert.Reference7Ideal.main_arg3)) (m ((c.tc : Thread Cert.Reference7Ideal.nD Cert.Reference7Ideal.τ).loc Cert.Reference7Ideal.main_arg4)) (m ((c.tc : Thread Cert.Reference7Ideal.nD Cert.Reference7Ideal.τ).loc Cert.Reference7Ideal.main_arg5)) (m ((c.tc : Thread Cert.Reference7Ideal.nD Cert.Reference7Ideal.τ).loc Cert.Reference7Ideal.main_arg6)) (m ((c.tc : Thread Cert.Reference7Ideal.nD Cert.Reference7Ideal.τ).loc Cert.Reference7Ideal.main_arg7)) (m ((c.tc : Thread Cert.Reference7Ideal.nD Cert.Reference7Ideal.τ).loc Cert.Reference7Ideal.main_arg8))).2.2.2.2.2.2.2.1 = (fun _ => 1#1)
    ∧ (Cert.Pre_finite7.fn (F := Ideal) (m ((c.tc : Thread Cert.Reference7Ideal.nD Cert.Reference7Ideal.τ).loc Cert.Reference7Ideal.main_arg0)) (m ((c.tc : Thread Cert.Reference7Ideal.nD Cert.Reference7Ideal.τ).loc Cert.Reference7Ideal.main_arg1)) (m ((c.tc : Thread Cert.Reference7Ideal.nD Cert.Reference7Ideal.τ).loc Cert.Reference7Ideal.main_arg2)) (m ((c.tc : Thread Cert.Reference7Ideal.nD Cert.Reference7Ideal.τ).loc Cert.Reference7Ideal.main_arg3)) (m ((c.tc : Thread Cert.Reference7Ideal.nD Cert.Reference7Ideal.τ).loc Cert.Reference7Ideal.main_arg4)) (m ((c.tc : Thread Cert.Reference7Ideal.nD Cert.Reference7Ideal.τ).loc Cert.Reference7Ideal.main_arg5)) (m ((c.tc : Thread Cert.Reference7Ideal.nD Cert.Reference7Ideal.τ).loc Cert.Reference7Ideal.main_arg6)) (m ((c.tc : Thread Cert.Reference7Ideal.nD Cert.Reference7Ideal.τ).loc Cert.Reference7Ideal.main_arg7)) (m ((c.tc : Thread Cert.Reference7Ideal.nD Cert.Reference7Ideal.τ).loc Cert.Reference7Ideal.main_arg8))).2.2.2.2.2.2.2.2 = (fun _ => 1#1)

def Pre_Kernel8 (m : (ℓ : Loc Cert.Kernel8.nD Cert.Kernel8.τ Cert.Kernel8.sig) → Buf (Elt Bits) ℓ) : Prop :=
  True

def Pre_Kernel8Ideal (m : (ℓ : Loc Cert.Kernel8Ideal.nD Cert.Kernel8Ideal.τ Cert.Kernel8Ideal.sig) → Buf (Elt Ideal) ℓ) : Prop :=
  True

def Pre_Reference8Ideal (m : (ℓ : Loc Cert.Reference8Ideal.nD Cert.Reference8Ideal.τ Cert.Reference8Ideal.sig) → Buf (Elt Ideal) ℓ) : Prop :=
  True

def Pre_Kernel9 (m : (ℓ : Loc Cert.Kernel9.nD Cert.Kernel9.τ Cert.Kernel9.sig) → Buf (Elt Bits) ℓ) : Prop :=
  True

def Pre_Kernel9Ideal (m : (ℓ : Loc Cert.Kernel9Ideal.nD Cert.Kernel9Ideal.τ Cert.Kernel9Ideal.sig) → Buf (Elt Ideal) ℓ) : Prop :=
  True

def Pre_Reference9Ideal (m : (ℓ : Loc Cert.Reference9Ideal.nD Cert.Reference9Ideal.τ Cert.Reference9Ideal.sig) → Buf (Elt Ideal) ℓ) : Prop :=
  True

def Pre_Kernel10 (m : (ℓ : Loc Cert.Kernel10.nD Cert.Kernel10.τ Cert.Kernel10.sig) → Buf (Elt Bits) ℓ) : Prop :=
  True

def Pre_Kernel10Ideal (m : (ℓ : Loc Cert.Kernel10Ideal.nD Cert.Kernel10Ideal.τ Cert.Kernel10Ideal.sig) → Buf (Elt Ideal) ℓ) : Prop :=
  True

def Pre_Kernel10Ideal_finite10 [hPre_finite10 : Cert.Pre_finite10.Facts] (m : (ℓ : Loc Cert.Kernel10Ideal.nD Cert.Kernel10Ideal.τ Cert.Kernel10Ideal.sig) → Buf (Elt Ideal) ℓ) : Prop :=
  ∀ c : Dev Cert.Kernel10Ideal.nD,
    (Cert.Pre_finite10.fn (F := Ideal) (m ((c.tc : Thread Cert.Kernel10Ideal.nD Cert.Kernel10Ideal.τ).loc Cert.Kernel10Ideal.main_arg0)) (m ((c.tc : Thread Cert.Kernel10Ideal.nD Cert.Kernel10Ideal.τ).loc Cert.Kernel10Ideal.main_arg1)) (m ((c.tc : Thread Cert.Kernel10Ideal.nD Cert.Kernel10Ideal.τ).loc Cert.Kernel10Ideal.main_arg2)) (m ((c.tc : Thread Cert.Kernel10Ideal.nD Cert.Kernel10Ideal.τ).loc Cert.Kernel10Ideal.main_arg3)) (m ((c.tc : Thread Cert.Kernel10Ideal.nD Cert.Kernel10Ideal.τ).loc Cert.Kernel10Ideal.main_arg4)) (m ((c.tc : Thread Cert.Kernel10Ideal.nD Cert.Kernel10Ideal.τ).loc Cert.Kernel10Ideal.main_arg5)) (m ((c.tc : Thread Cert.Kernel10Ideal.nD Cert.Kernel10Ideal.τ).loc Cert.Kernel10Ideal.main_arg6)) (m ((c.tc : Thread Cert.Kernel10Ideal.nD Cert.Kernel10Ideal.τ).loc Cert.Kernel10Ideal.main_arg7)) (m ((c.tc : Thread Cert.Kernel10Ideal.nD Cert.Kernel10Ideal.τ).loc Cert.Kernel10Ideal.main_arg8))).1 = (fun _ => 1#1)
    ∧ (Cert.Pre_finite10.fn (F := Ideal) (m ((c.tc : Thread Cert.Kernel10Ideal.nD Cert.Kernel10Ideal.τ).loc Cert.Kernel10Ideal.main_arg0)) (m ((c.tc : Thread Cert.Kernel10Ideal.nD Cert.Kernel10Ideal.τ).loc Cert.Kernel10Ideal.main_arg1)) (m ((c.tc : Thread Cert.Kernel10Ideal.nD Cert.Kernel10Ideal.τ).loc Cert.Kernel10Ideal.main_arg2)) (m ((c.tc : Thread Cert.Kernel10Ideal.nD Cert.Kernel10Ideal.τ).loc Cert.Kernel10Ideal.main_arg3)) (m ((c.tc : Thread Cert.Kernel10Ideal.nD Cert.Kernel10Ideal.τ).loc Cert.Kernel10Ideal.main_arg4)) (m ((c.tc : Thread Cert.Kernel10Ideal.nD Cert.Kernel10Ideal.τ).loc Cert.Kernel10Ideal.main_arg5)) (m ((c.tc : Thread Cert.Kernel10Ideal.nD Cert.Kernel10Ideal.τ).loc Cert.Kernel10Ideal.main_arg6)) (m ((c.tc : Thread Cert.Kernel10Ideal.nD Cert.Kernel10Ideal.τ).loc Cert.Kernel10Ideal.main_arg7)) (m ((c.tc : Thread Cert.Kernel10Ideal.nD Cert.Kernel10Ideal.τ).loc Cert.Kernel10Ideal.main_arg8))).2.1 = (fun _ => 1#1)
    ∧ (Cert.Pre_finite10.fn (F := Ideal) (m ((c.tc : Thread Cert.Kernel10Ideal.nD Cert.Kernel10Ideal.τ).loc Cert.Kernel10Ideal.main_arg0)) (m ((c.tc : Thread Cert.Kernel10Ideal.nD Cert.Kernel10Ideal.τ).loc Cert.Kernel10Ideal.main_arg1)) (m ((c.tc : Thread Cert.Kernel10Ideal.nD Cert.Kernel10Ideal.τ).loc Cert.Kernel10Ideal.main_arg2)) (m ((c.tc : Thread Cert.Kernel10Ideal.nD Cert.Kernel10Ideal.τ).loc Cert.Kernel10Ideal.main_arg3)) (m ((c.tc : Thread Cert.Kernel10Ideal.nD Cert.Kernel10Ideal.τ).loc Cert.Kernel10Ideal.main_arg4)) (m ((c.tc : Thread Cert.Kernel10Ideal.nD Cert.Kernel10Ideal.τ).loc Cert.Kernel10Ideal.main_arg5)) (m ((c.tc : Thread Cert.Kernel10Ideal.nD Cert.Kernel10Ideal.τ).loc Cert.Kernel10Ideal.main_arg6)) (m ((c.tc : Thread Cert.Kernel10Ideal.nD Cert.Kernel10Ideal.τ).loc Cert.Kernel10Ideal.main_arg7)) (m ((c.tc : Thread Cert.Kernel10Ideal.nD Cert.Kernel10Ideal.τ).loc Cert.Kernel10Ideal.main_arg8))).2.2.1 = (fun _ => 1#1)
    ∧ (Cert.Pre_finite10.fn (F := Ideal) (m ((c.tc : Thread Cert.Kernel10Ideal.nD Cert.Kernel10Ideal.τ).loc Cert.Kernel10Ideal.main_arg0)) (m ((c.tc : Thread Cert.Kernel10Ideal.nD Cert.Kernel10Ideal.τ).loc Cert.Kernel10Ideal.main_arg1)) (m ((c.tc : Thread Cert.Kernel10Ideal.nD Cert.Kernel10Ideal.τ).loc Cert.Kernel10Ideal.main_arg2)) (m ((c.tc : Thread Cert.Kernel10Ideal.nD Cert.Kernel10Ideal.τ).loc Cert.Kernel10Ideal.main_arg3)) (m ((c.tc : Thread Cert.Kernel10Ideal.nD Cert.Kernel10Ideal.τ).loc Cert.Kernel10Ideal.main_arg4)) (m ((c.tc : Thread Cert.Kernel10Ideal.nD Cert.Kernel10Ideal.τ).loc Cert.Kernel10Ideal.main_arg5)) (m ((c.tc : Thread Cert.Kernel10Ideal.nD Cert.Kernel10Ideal.τ).loc Cert.Kernel10Ideal.main_arg6)) (m ((c.tc : Thread Cert.Kernel10Ideal.nD Cert.Kernel10Ideal.τ).loc Cert.Kernel10Ideal.main_arg7)) (m ((c.tc : Thread Cert.Kernel10Ideal.nD Cert.Kernel10Ideal.τ).loc Cert.Kernel10Ideal.main_arg8))).2.2.2.1 = (fun _ => 1#1)
    ∧ (Cert.Pre_finite10.fn (F := Ideal) (m ((c.tc : Thread Cert.Kernel10Ideal.nD Cert.Kernel10Ideal.τ).loc Cert.Kernel10Ideal.main_arg0)) (m ((c.tc : Thread Cert.Kernel10Ideal.nD Cert.Kernel10Ideal.τ).loc Cert.Kernel10Ideal.main_arg1)) (m ((c.tc : Thread Cert.Kernel10Ideal.nD Cert.Kernel10Ideal.τ).loc Cert.Kernel10Ideal.main_arg2)) (m ((c.tc : Thread Cert.Kernel10Ideal.nD Cert.Kernel10Ideal.τ).loc Cert.Kernel10Ideal.main_arg3)) (m ((c.tc : Thread Cert.Kernel10Ideal.nD Cert.Kernel10Ideal.τ).loc Cert.Kernel10Ideal.main_arg4)) (m ((c.tc : Thread Cert.Kernel10Ideal.nD Cert.Kernel10Ideal.τ).loc Cert.Kernel10Ideal.main_arg5)) (m ((c.tc : Thread Cert.Kernel10Ideal.nD Cert.Kernel10Ideal.τ).loc Cert.Kernel10Ideal.main_arg6)) (m ((c.tc : Thread Cert.Kernel10Ideal.nD Cert.Kernel10Ideal.τ).loc Cert.Kernel10Ideal.main_arg7)) (m ((c.tc : Thread Cert.Kernel10Ideal.nD Cert.Kernel10Ideal.τ).loc Cert.Kernel10Ideal.main_arg8))).2.2.2.2.1 = (fun _ => 1#1)
    ∧ (Cert.Pre_finite10.fn (F := Ideal) (m ((c.tc : Thread Cert.Kernel10Ideal.nD Cert.Kernel10Ideal.τ).loc Cert.Kernel10Ideal.main_arg0)) (m ((c.tc : Thread Cert.Kernel10Ideal.nD Cert.Kernel10Ideal.τ).loc Cert.Kernel10Ideal.main_arg1)) (m ((c.tc : Thread Cert.Kernel10Ideal.nD Cert.Kernel10Ideal.τ).loc Cert.Kernel10Ideal.main_arg2)) (m ((c.tc : Thread Cert.Kernel10Ideal.nD Cert.Kernel10Ideal.τ).loc Cert.Kernel10Ideal.main_arg3)) (m ((c.tc : Thread Cert.Kernel10Ideal.nD Cert.Kernel10Ideal.τ).loc Cert.Kernel10Ideal.main_arg4)) (m ((c.tc : Thread Cert.Kernel10Ideal.nD Cert.Kernel10Ideal.τ).loc Cert.Kernel10Ideal.main_arg5)) (m ((c.tc : Thread Cert.Kernel10Ideal.nD Cert.Kernel10Ideal.τ).loc Cert.Kernel10Ideal.main_arg6)) (m ((c.tc : Thread Cert.Kernel10Ideal.nD Cert.Kernel10Ideal.τ).loc Cert.Kernel10Ideal.main_arg7)) (m ((c.tc : Thread Cert.Kernel10Ideal.nD Cert.Kernel10Ideal.τ).loc Cert.Kernel10Ideal.main_arg8))).2.2.2.2.2.1 = (fun _ => 1#1)
    ∧ (Cert.Pre_finite10.fn (F := Ideal) (m ((c.tc : Thread Cert.Kernel10Ideal.nD Cert.Kernel10Ideal.τ).loc Cert.Kernel10Ideal.main_arg0)) (m ((c.tc : Thread Cert.Kernel10Ideal.nD Cert.Kernel10Ideal.τ).loc Cert.Kernel10Ideal.main_arg1)) (m ((c.tc : Thread Cert.Kernel10Ideal.nD Cert.Kernel10Ideal.τ).loc Cert.Kernel10Ideal.main_arg2)) (m ((c.tc : Thread Cert.Kernel10Ideal.nD Cert.Kernel10Ideal.τ).loc Cert.Kernel10Ideal.main_arg3)) (m ((c.tc : Thread Cert.Kernel10Ideal.nD Cert.Kernel10Ideal.τ).loc Cert.Kernel10Ideal.main_arg4)) (m ((c.tc : Thread Cert.Kernel10Ideal.nD Cert.Kernel10Ideal.τ).loc Cert.Kernel10Ideal.main_arg5)) (m ((c.tc : Thread Cert.Kernel10Ideal.nD Cert.Kernel10Ideal.τ).loc Cert.Kernel10Ideal.main_arg6)) (m ((c.tc : Thread Cert.Kernel10Ideal.nD Cert.Kernel10Ideal.τ).loc Cert.Kernel10Ideal.main_arg7)) (m ((c.tc : Thread Cert.Kernel10Ideal.nD Cert.Kernel10Ideal.τ).loc Cert.Kernel10Ideal.main_arg8))).2.2.2.2.2.2.1 = (fun _ => 1#1)
    ∧ (Cert.Pre_finite10.fn (F := Ideal) (m ((c.tc : Thread Cert.Kernel10Ideal.nD Cert.Kernel10Ideal.τ).loc Cert.Kernel10Ideal.main_arg0)) (m ((c.tc : Thread Cert.Kernel10Ideal.nD Cert.Kernel10Ideal.τ).loc Cert.Kernel10Ideal.main_arg1)) (m ((c.tc : Thread Cert.Kernel10Ideal.nD Cert.Kernel10Ideal.τ).loc Cert.Kernel10Ideal.main_arg2)) (m ((c.tc : Thread Cert.Kernel10Ideal.nD Cert.Kernel10Ideal.τ).loc Cert.Kernel10Ideal.main_arg3)) (m ((c.tc : Thread Cert.Kernel10Ideal.nD Cert.Kernel10Ideal.τ).loc Cert.Kernel10Ideal.main_arg4)) (m ((c.tc : Thread Cert.Kernel10Ideal.nD Cert.Kernel10Ideal.τ).loc Cert.Kernel10Ideal.main_arg5)) (m ((c.tc : Thread Cert.Kernel10Ideal.nD Cert.Kernel10Ideal.τ).loc Cert.Kernel10Ideal.main_arg6)) (m ((c.tc : Thread Cert.Kernel10Ideal.nD Cert.Kernel10Ideal.τ).loc Cert.Kernel10Ideal.main_arg7)) (m ((c.tc : Thread Cert.Kernel10Ideal.nD Cert.Kernel10Ideal.τ).loc Cert.Kernel10Ideal.main_arg8))).2.2.2.2.2.2.2.1 = (fun _ => 1#1)
    ∧ (Cert.Pre_finite10.fn (F := Ideal) (m ((c.tc : Thread Cert.Kernel10Ideal.nD Cert.Kernel10Ideal.τ).loc Cert.Kernel10Ideal.main_arg0)) (m ((c.tc : Thread Cert.Kernel10Ideal.nD Cert.Kernel10Ideal.τ).loc Cert.Kernel10Ideal.main_arg1)) (m ((c.tc : Thread Cert.Kernel10Ideal.nD Cert.Kernel10Ideal.τ).loc Cert.Kernel10Ideal.main_arg2)) (m ((c.tc : Thread Cert.Kernel10Ideal.nD Cert.Kernel10Ideal.τ).loc Cert.Kernel10Ideal.main_arg3)) (m ((c.tc : Thread Cert.Kernel10Ideal.nD Cert.Kernel10Ideal.τ).loc Cert.Kernel10Ideal.main_arg4)) (m ((c.tc : Thread Cert.Kernel10Ideal.nD Cert.Kernel10Ideal.τ).loc Cert.Kernel10Ideal.main_arg5)) (m ((c.tc : Thread Cert.Kernel10Ideal.nD Cert.Kernel10Ideal.τ).loc Cert.Kernel10Ideal.main_arg6)) (m ((c.tc : Thread Cert.Kernel10Ideal.nD Cert.Kernel10Ideal.τ).loc Cert.Kernel10Ideal.main_arg7)) (m ((c.tc : Thread Cert.Kernel10Ideal.nD Cert.Kernel10Ideal.τ).loc Cert.Kernel10Ideal.main_arg8))).2.2.2.2.2.2.2.2 = (fun _ => 1#1)

def Pre_Reference10Ideal (m : (ℓ : Loc Cert.Reference10Ideal.nD Cert.Reference10Ideal.τ Cert.Reference10Ideal.sig) → Buf (Elt Ideal) ℓ) : Prop :=
  True

def Pre_Reference10Ideal_finite10 [hPre_finite10 : Cert.Pre_finite10.Facts] (m : (ℓ : Loc Cert.Reference10Ideal.nD Cert.Reference10Ideal.τ Cert.Reference10Ideal.sig) → Buf (Elt Ideal) ℓ) : Prop :=
  ∀ c : Dev Cert.Reference10Ideal.nD,
    (Cert.Pre_finite10.fn (F := Ideal) (m ((c.tc : Thread Cert.Reference10Ideal.nD Cert.Reference10Ideal.τ).loc Cert.Reference10Ideal.main_arg0)) (m ((c.tc : Thread Cert.Reference10Ideal.nD Cert.Reference10Ideal.τ).loc Cert.Reference10Ideal.main_arg1)) (m ((c.tc : Thread Cert.Reference10Ideal.nD Cert.Reference10Ideal.τ).loc Cert.Reference10Ideal.main_arg2)) (m ((c.tc : Thread Cert.Reference10Ideal.nD Cert.Reference10Ideal.τ).loc Cert.Reference10Ideal.main_arg3)) (m ((c.tc : Thread Cert.Reference10Ideal.nD Cert.Reference10Ideal.τ).loc Cert.Reference10Ideal.main_arg4)) (m ((c.tc : Thread Cert.Reference10Ideal.nD Cert.Reference10Ideal.τ).loc Cert.Reference10Ideal.main_arg5)) (m ((c.tc : Thread Cert.Reference10Ideal.nD Cert.Reference10Ideal.τ).loc Cert.Reference10Ideal.main_arg6)) (m ((c.tc : Thread Cert.Reference10Ideal.nD Cert.Reference10Ideal.τ).loc Cert.Reference10Ideal.main_arg7)) (m ((c.tc : Thread Cert.Reference10Ideal.nD Cert.Reference10Ideal.τ).loc Cert.Reference10Ideal.main_arg8))).1 = (fun _ => 1#1)
    ∧ (Cert.Pre_finite10.fn (F := Ideal) (m ((c.tc : Thread Cert.Reference10Ideal.nD Cert.Reference10Ideal.τ).loc Cert.Reference10Ideal.main_arg0)) (m ((c.tc : Thread Cert.Reference10Ideal.nD Cert.Reference10Ideal.τ).loc Cert.Reference10Ideal.main_arg1)) (m ((c.tc : Thread Cert.Reference10Ideal.nD Cert.Reference10Ideal.τ).loc Cert.Reference10Ideal.main_arg2)) (m ((c.tc : Thread Cert.Reference10Ideal.nD Cert.Reference10Ideal.τ).loc Cert.Reference10Ideal.main_arg3)) (m ((c.tc : Thread Cert.Reference10Ideal.nD Cert.Reference10Ideal.τ).loc Cert.Reference10Ideal.main_arg4)) (m ((c.tc : Thread Cert.Reference10Ideal.nD Cert.Reference10Ideal.τ).loc Cert.Reference10Ideal.main_arg5)) (m ((c.tc : Thread Cert.Reference10Ideal.nD Cert.Reference10Ideal.τ).loc Cert.Reference10Ideal.main_arg6)) (m ((c.tc : Thread Cert.Reference10Ideal.nD Cert.Reference10Ideal.τ).loc Cert.Reference10Ideal.main_arg7)) (m ((c.tc : Thread Cert.Reference10Ideal.nD Cert.Reference10Ideal.τ).loc Cert.Reference10Ideal.main_arg8))).2.1 = (fun _ => 1#1)
    ∧ (Cert.Pre_finite10.fn (F := Ideal) (m ((c.tc : Thread Cert.Reference10Ideal.nD Cert.Reference10Ideal.τ).loc Cert.Reference10Ideal.main_arg0)) (m ((c.tc : Thread Cert.Reference10Ideal.nD Cert.Reference10Ideal.τ).loc Cert.Reference10Ideal.main_arg1)) (m ((c.tc : Thread Cert.Reference10Ideal.nD Cert.Reference10Ideal.τ).loc Cert.Reference10Ideal.main_arg2)) (m ((c.tc : Thread Cert.Reference10Ideal.nD Cert.Reference10Ideal.τ).loc Cert.Reference10Ideal.main_arg3)) (m ((c.tc : Thread Cert.Reference10Ideal.nD Cert.Reference10Ideal.τ).loc Cert.Reference10Ideal.main_arg4)) (m ((c.tc : Thread Cert.Reference10Ideal.nD Cert.Reference10Ideal.τ).loc Cert.Reference10Ideal.main_arg5)) (m ((c.tc : Thread Cert.Reference10Ideal.nD Cert.Reference10Ideal.τ).loc Cert.Reference10Ideal.main_arg6)) (m ((c.tc : Thread Cert.Reference10Ideal.nD Cert.Reference10Ideal.τ).loc Cert.Reference10Ideal.main_arg7)) (m ((c.tc : Thread Cert.Reference10Ideal.nD Cert.Reference10Ideal.τ).loc Cert.Reference10Ideal.main_arg8))).2.2.1 = (fun _ => 1#1)
    ∧ (Cert.Pre_finite10.fn (F := Ideal) (m ((c.tc : Thread Cert.Reference10Ideal.nD Cert.Reference10Ideal.τ).loc Cert.Reference10Ideal.main_arg0)) (m ((c.tc : Thread Cert.Reference10Ideal.nD Cert.Reference10Ideal.τ).loc Cert.Reference10Ideal.main_arg1)) (m ((c.tc : Thread Cert.Reference10Ideal.nD Cert.Reference10Ideal.τ).loc Cert.Reference10Ideal.main_arg2)) (m ((c.tc : Thread Cert.Reference10Ideal.nD Cert.Reference10Ideal.τ).loc Cert.Reference10Ideal.main_arg3)) (m ((c.tc : Thread Cert.Reference10Ideal.nD Cert.Reference10Ideal.τ).loc Cert.Reference10Ideal.main_arg4)) (m ((c.tc : Thread Cert.Reference10Ideal.nD Cert.Reference10Ideal.τ).loc Cert.Reference10Ideal.main_arg5)) (m ((c.tc : Thread Cert.Reference10Ideal.nD Cert.Reference10Ideal.τ).loc Cert.Reference10Ideal.main_arg6)) (m ((c.tc : Thread Cert.Reference10Ideal.nD Cert.Reference10Ideal.τ).loc Cert.Reference10Ideal.main_arg7)) (m ((c.tc : Thread Cert.Reference10Ideal.nD Cert.Reference10Ideal.τ).loc Cert.Reference10Ideal.main_arg8))).2.2.2.1 = (fun _ => 1#1)
    ∧ (Cert.Pre_finite10.fn (F := Ideal) (m ((c.tc : Thread Cert.Reference10Ideal.nD Cert.Reference10Ideal.τ).loc Cert.Reference10Ideal.main_arg0)) (m ((c.tc : Thread Cert.Reference10Ideal.nD Cert.Reference10Ideal.τ).loc Cert.Reference10Ideal.main_arg1)) (m ((c.tc : Thread Cert.Reference10Ideal.nD Cert.Reference10Ideal.τ).loc Cert.Reference10Ideal.main_arg2)) (m ((c.tc : Thread Cert.Reference10Ideal.nD Cert.Reference10Ideal.τ).loc Cert.Reference10Ideal.main_arg3)) (m ((c.tc : Thread Cert.Reference10Ideal.nD Cert.Reference10Ideal.τ).loc Cert.Reference10Ideal.main_arg4)) (m ((c.tc : Thread Cert.Reference10Ideal.nD Cert.Reference10Ideal.τ).loc Cert.Reference10Ideal.main_arg5)) (m ((c.tc : Thread Cert.Reference10Ideal.nD Cert.Reference10Ideal.τ).loc Cert.Reference10Ideal.main_arg6)) (m ((c.tc : Thread Cert.Reference10Ideal.nD Cert.Reference10Ideal.τ).loc Cert.Reference10Ideal.main_arg7)) (m ((c.tc : Thread Cert.Reference10Ideal.nD Cert.Reference10Ideal.τ).loc Cert.Reference10Ideal.main_arg8))).2.2.2.2.1 = (fun _ => 1#1)
    ∧ (Cert.Pre_finite10.fn (F := Ideal) (m ((c.tc : Thread Cert.Reference10Ideal.nD Cert.Reference10Ideal.τ).loc Cert.Reference10Ideal.main_arg0)) (m ((c.tc : Thread Cert.Reference10Ideal.nD Cert.Reference10Ideal.τ).loc Cert.Reference10Ideal.main_arg1)) (m ((c.tc : Thread Cert.Reference10Ideal.nD Cert.Reference10Ideal.τ).loc Cert.Reference10Ideal.main_arg2)) (m ((c.tc : Thread Cert.Reference10Ideal.nD Cert.Reference10Ideal.τ).loc Cert.Reference10Ideal.main_arg3)) (m ((c.tc : Thread Cert.Reference10Ideal.nD Cert.Reference10Ideal.τ).loc Cert.Reference10Ideal.main_arg4)) (m ((c.tc : Thread Cert.Reference10Ideal.nD Cert.Reference10Ideal.τ).loc Cert.Reference10Ideal.main_arg5)) (m ((c.tc : Thread Cert.Reference10Ideal.nD Cert.Reference10Ideal.τ).loc Cert.Reference10Ideal.main_arg6)) (m ((c.tc : Thread Cert.Reference10Ideal.nD Cert.Reference10Ideal.τ).loc Cert.Reference10Ideal.main_arg7)) (m ((c.tc : Thread Cert.Reference10Ideal.nD Cert.Reference10Ideal.τ).loc Cert.Reference10Ideal.main_arg8))).2.2.2.2.2.1 = (fun _ => 1#1)
    ∧ (Cert.Pre_finite10.fn (F := Ideal) (m ((c.tc : Thread Cert.Reference10Ideal.nD Cert.Reference10Ideal.τ).loc Cert.Reference10Ideal.main_arg0)) (m ((c.tc : Thread Cert.Reference10Ideal.nD Cert.Reference10Ideal.τ).loc Cert.Reference10Ideal.main_arg1)) (m ((c.tc : Thread Cert.Reference10Ideal.nD Cert.Reference10Ideal.τ).loc Cert.Reference10Ideal.main_arg2)) (m ((c.tc : Thread Cert.Reference10Ideal.nD Cert.Reference10Ideal.τ).loc Cert.Reference10Ideal.main_arg3)) (m ((c.tc : Thread Cert.Reference10Ideal.nD Cert.Reference10Ideal.τ).loc Cert.Reference10Ideal.main_arg4)) (m ((c.tc : Thread Cert.Reference10Ideal.nD Cert.Reference10Ideal.τ).loc Cert.Reference10Ideal.main_arg5)) (m ((c.tc : Thread Cert.Reference10Ideal.nD Cert.Reference10Ideal.τ).loc Cert.Reference10Ideal.main_arg6)) (m ((c.tc : Thread Cert.Reference10Ideal.nD Cert.Reference10Ideal.τ).loc Cert.Reference10Ideal.main_arg7)) (m ((c.tc : Thread Cert.Reference10Ideal.nD Cert.Reference10Ideal.τ).loc Cert.Reference10Ideal.main_arg8))).2.2.2.2.2.2.1 = (fun _ => 1#1)
    ∧ (Cert.Pre_finite10.fn (F := Ideal) (m ((c.tc : Thread Cert.Reference10Ideal.nD Cert.Reference10Ideal.τ).loc Cert.Reference10Ideal.main_arg0)) (m ((c.tc : Thread Cert.Reference10Ideal.nD Cert.Reference10Ideal.τ).loc Cert.Reference10Ideal.main_arg1)) (m ((c.tc : Thread Cert.Reference10Ideal.nD Cert.Reference10Ideal.τ).loc Cert.Reference10Ideal.main_arg2)) (m ((c.tc : Thread Cert.Reference10Ideal.nD Cert.Reference10Ideal.τ).loc Cert.Reference10Ideal.main_arg3)) (m ((c.tc : Thread Cert.Reference10Ideal.nD Cert.Reference10Ideal.τ).loc Cert.Reference10Ideal.main_arg4)) (m ((c.tc : Thread Cert.Reference10Ideal.nD Cert.Reference10Ideal.τ).loc Cert.Reference10Ideal.main_arg5)) (m ((c.tc : Thread Cert.Reference10Ideal.nD Cert.Reference10Ideal.τ).loc Cert.Reference10Ideal.main_arg6)) (m ((c.tc : Thread Cert.Reference10Ideal.nD Cert.Reference10Ideal.τ).loc Cert.Reference10Ideal.main_arg7)) (m ((c.tc : Thread Cert.Reference10Ideal.nD Cert.Reference10Ideal.τ).loc Cert.Reference10Ideal.main_arg8))).2.2.2.2.2.2.2.1 = (fun _ => 1#1)
    ∧ (Cert.Pre_finite10.fn (F := Ideal) (m ((c.tc : Thread Cert.Reference10Ideal.nD Cert.Reference10Ideal.τ).loc Cert.Reference10Ideal.main_arg0)) (m ((c.tc : Thread Cert.Reference10Ideal.nD Cert.Reference10Ideal.τ).loc Cert.Reference10Ideal.main_arg1)) (m ((c.tc : Thread Cert.Reference10Ideal.nD Cert.Reference10Ideal.τ).loc Cert.Reference10Ideal.main_arg2)) (m ((c.tc : Thread Cert.Reference10Ideal.nD Cert.Reference10Ideal.τ).loc Cert.Reference10Ideal.main_arg3)) (m ((c.tc : Thread Cert.Reference10Ideal.nD Cert.Reference10Ideal.τ).loc Cert.Reference10Ideal.main_arg4)) (m ((c.tc : Thread Cert.Reference10Ideal.nD Cert.Reference10Ideal.τ).loc Cert.Reference10Ideal.main_arg5)) (m ((c.tc : Thread Cert.Reference10Ideal.nD Cert.Reference10Ideal.τ).loc Cert.Reference10Ideal.main_arg6)) (m ((c.tc : Thread Cert.Reference10Ideal.nD Cert.Reference10Ideal.τ).loc Cert.Reference10Ideal.main_arg7)) (m ((c.tc : Thread Cert.Reference10Ideal.nD Cert.Reference10Ideal.τ).loc Cert.Reference10Ideal.main_arg8))).2.2.2.2.2.2.2.2 = (fun _ => 1#1)

def Pre_Kernel11 (m : (ℓ : Loc Cert.Kernel11.nD Cert.Kernel11.τ Cert.Kernel11.sig) → Buf (Elt Bits) ℓ) : Prop :=
  True

def Pre_Kernel11Ideal (m : (ℓ : Loc Cert.Kernel11Ideal.nD Cert.Kernel11Ideal.τ Cert.Kernel11Ideal.sig) → Buf (Elt Ideal) ℓ) : Prop :=
  True

def Pre_Reference11Ideal (m : (ℓ : Loc Cert.Reference11Ideal.nD Cert.Reference11Ideal.τ Cert.Reference11Ideal.sig) → Buf (Elt Ideal) ℓ) : Prop :=
  True

def Pre_Kernel12 (m : (ℓ : Loc Cert.Kernel12.nD Cert.Kernel12.τ Cert.Kernel12.sig) → Buf (Elt Bits) ℓ) : Prop :=
  True

def Pre_Kernel12Ideal (m : (ℓ : Loc Cert.Kernel12Ideal.nD Cert.Kernel12Ideal.τ Cert.Kernel12Ideal.sig) → Buf (Elt Ideal) ℓ) : Prop :=
  True

def Pre_Reference12Ideal (m : (ℓ : Loc Cert.Reference12Ideal.nD Cert.Reference12Ideal.τ Cert.Reference12Ideal.sig) → Buf (Elt Ideal) ℓ) : Prop :=
  True

def Pre_Kernel13 (m : (ℓ : Loc Cert.Kernel13.nD Cert.Kernel13.τ Cert.Kernel13.sig) → Buf (Elt Bits) ℓ) : Prop :=
  True

def Pre_Kernel13Ideal (m : (ℓ : Loc Cert.Kernel13Ideal.nD Cert.Kernel13Ideal.τ Cert.Kernel13Ideal.sig) → Buf (Elt Ideal) ℓ) : Prop :=
  True

def Pre_Reference13Ideal (m : (ℓ : Loc Cert.Reference13Ideal.nD Cert.Reference13Ideal.τ Cert.Reference13Ideal.sig) → Buf (Elt Ideal) ℓ) : Prop :=
  True

def Pre_Kernel14 (m : (ℓ : Loc Cert.Kernel14.nD Cert.Kernel14.τ Cert.Kernel14.sig) → Buf (Elt Bits) ℓ) : Prop :=
  True

def Pre_Kernel14Ideal (m : (ℓ : Loc Cert.Kernel14Ideal.nD Cert.Kernel14Ideal.τ Cert.Kernel14Ideal.sig) → Buf (Elt Ideal) ℓ) : Prop :=
  True

def Pre_Reference14Ideal (m : (ℓ : Loc Cert.Reference14Ideal.nD Cert.Reference14Ideal.τ Cert.Reference14Ideal.sig) → Buf (Elt Ideal) ℓ) : Prop :=
  True

def Pre_Kernel15 (m : (ℓ : Loc Cert.Kernel15.nD Cert.Kernel15.τ Cert.Kernel15.sig) → Buf (Elt Bits) ℓ) : Prop :=
  True

def Pre_Kernel15Ideal (m : (ℓ : Loc Cert.Kernel15Ideal.nD Cert.Kernel15Ideal.τ Cert.Kernel15Ideal.sig) → Buf (Elt Ideal) ℓ) : Prop :=
  True

def Pre_Kernel15Ideal_finite15 [hPre_finite15 : Cert.Pre_finite15.Facts] (m : (ℓ : Loc Cert.Kernel15Ideal.nD Cert.Kernel15Ideal.τ Cert.Kernel15Ideal.sig) → Buf (Elt Ideal) ℓ) : Prop :=
  ∀ c : Dev Cert.Kernel15Ideal.nD,
    (Cert.Pre_finite15.fn (F := Ideal) (m ((c.tc : Thread Cert.Kernel15Ideal.nD Cert.Kernel15Ideal.τ).loc Cert.Kernel15Ideal.main_arg0)) (m ((c.tc : Thread Cert.Kernel15Ideal.nD Cert.Kernel15Ideal.τ).loc Cert.Kernel15Ideal.main_arg1)) (m ((c.tc : Thread Cert.Kernel15Ideal.nD Cert.Kernel15Ideal.τ).loc Cert.Kernel15Ideal.main_arg2)) (m ((c.tc : Thread Cert.Kernel15Ideal.nD Cert.Kernel15Ideal.τ).loc Cert.Kernel15Ideal.main_arg3)) (m ((c.tc : Thread Cert.Kernel15Ideal.nD Cert.Kernel15Ideal.τ).loc Cert.Kernel15Ideal.main_arg4))).1 = (fun _ => 1#1)
    ∧ (Cert.Pre_finite15.fn (F := Ideal) (m ((c.tc : Thread Cert.Kernel15Ideal.nD Cert.Kernel15Ideal.τ).loc Cert.Kernel15Ideal.main_arg0)) (m ((c.tc : Thread Cert.Kernel15Ideal.nD Cert.Kernel15Ideal.τ).loc Cert.Kernel15Ideal.main_arg1)) (m ((c.tc : Thread Cert.Kernel15Ideal.nD Cert.Kernel15Ideal.τ).loc Cert.Kernel15Ideal.main_arg2)) (m ((c.tc : Thread Cert.Kernel15Ideal.nD Cert.Kernel15Ideal.τ).loc Cert.Kernel15Ideal.main_arg3)) (m ((c.tc : Thread Cert.Kernel15Ideal.nD Cert.Kernel15Ideal.τ).loc Cert.Kernel15Ideal.main_arg4))).2.1 = (fun _ => 1#1)
    ∧ (Cert.Pre_finite15.fn (F := Ideal) (m ((c.tc : Thread Cert.Kernel15Ideal.nD Cert.Kernel15Ideal.τ).loc Cert.Kernel15Ideal.main_arg0)) (m ((c.tc : Thread Cert.Kernel15Ideal.nD Cert.Kernel15Ideal.τ).loc Cert.Kernel15Ideal.main_arg1)) (m ((c.tc : Thread Cert.Kernel15Ideal.nD Cert.Kernel15Ideal.τ).loc Cert.Kernel15Ideal.main_arg2)) (m ((c.tc : Thread Cert.Kernel15Ideal.nD Cert.Kernel15Ideal.τ).loc Cert.Kernel15Ideal.main_arg3)) (m ((c.tc : Thread Cert.Kernel15Ideal.nD Cert.Kernel15Ideal.τ).loc Cert.Kernel15Ideal.main_arg4))).2.2.1 = (fun _ => 1#1)
    ∧ (Cert.Pre_finite15.fn (F := Ideal) (m ((c.tc : Thread Cert.Kernel15Ideal.nD Cert.Kernel15Ideal.τ).loc Cert.Kernel15Ideal.main_arg0)) (m ((c.tc : Thread Cert.Kernel15Ideal.nD Cert.Kernel15Ideal.τ).loc Cert.Kernel15Ideal.main_arg1)) (m ((c.tc : Thread Cert.Kernel15Ideal.nD Cert.Kernel15Ideal.τ).loc Cert.Kernel15Ideal.main_arg2)) (m ((c.tc : Thread Cert.Kernel15Ideal.nD Cert.Kernel15Ideal.τ).loc Cert.Kernel15Ideal.main_arg3)) (m ((c.tc : Thread Cert.Kernel15Ideal.nD Cert.Kernel15Ideal.τ).loc Cert.Kernel15Ideal.main_arg4))).2.2.2.1 = (fun _ => 1#1)
    ∧ (Cert.Pre_finite15.fn (F := Ideal) (m ((c.tc : Thread Cert.Kernel15Ideal.nD Cert.Kernel15Ideal.τ).loc Cert.Kernel15Ideal.main_arg0)) (m ((c.tc : Thread Cert.Kernel15Ideal.nD Cert.Kernel15Ideal.τ).loc Cert.Kernel15Ideal.main_arg1)) (m ((c.tc : Thread Cert.Kernel15Ideal.nD Cert.Kernel15Ideal.τ).loc Cert.Kernel15Ideal.main_arg2)) (m ((c.tc : Thread Cert.Kernel15Ideal.nD Cert.Kernel15Ideal.τ).loc Cert.Kernel15Ideal.main_arg3)) (m ((c.tc : Thread Cert.Kernel15Ideal.nD Cert.Kernel15Ideal.τ).loc Cert.Kernel15Ideal.main_arg4))).2.2.2.2 = (fun _ => 1#1)

def Pre_Reference15Ideal (m : (ℓ : Loc Cert.Reference15Ideal.nD Cert.Reference15Ideal.τ Cert.Reference15Ideal.sig) → Buf (Elt Ideal) ℓ) : Prop :=
  True

def Pre_Reference15Ideal_finite15 [hPre_finite15 : Cert.Pre_finite15.Facts] (m : (ℓ : Loc Cert.Reference15Ideal.nD Cert.Reference15Ideal.τ Cert.Reference15Ideal.sig) → Buf (Elt Ideal) ℓ) : Prop :=
  ∀ c : Dev Cert.Reference15Ideal.nD,
    (Cert.Pre_finite15.fn (F := Ideal) (m ((c.tc : Thread Cert.Reference15Ideal.nD Cert.Reference15Ideal.τ).loc Cert.Reference15Ideal.main_arg0)) (m ((c.tc : Thread Cert.Reference15Ideal.nD Cert.Reference15Ideal.τ).loc Cert.Reference15Ideal.main_arg1)) (m ((c.tc : Thread Cert.Reference15Ideal.nD Cert.Reference15Ideal.τ).loc Cert.Reference15Ideal.main_arg2)) (m ((c.tc : Thread Cert.Reference15Ideal.nD Cert.Reference15Ideal.τ).loc Cert.Reference15Ideal.main_arg3)) (m ((c.tc : Thread Cert.Reference15Ideal.nD Cert.Reference15Ideal.τ).loc Cert.Reference15Ideal.main_arg4))).1 = (fun _ => 1#1)
    ∧ (Cert.Pre_finite15.fn (F := Ideal) (m ((c.tc : Thread Cert.Reference15Ideal.nD Cert.Reference15Ideal.τ).loc Cert.Reference15Ideal.main_arg0)) (m ((c.tc : Thread Cert.Reference15Ideal.nD Cert.Reference15Ideal.τ).loc Cert.Reference15Ideal.main_arg1)) (m ((c.tc : Thread Cert.Reference15Ideal.nD Cert.Reference15Ideal.τ).loc Cert.Reference15Ideal.main_arg2)) (m ((c.tc : Thread Cert.Reference15Ideal.nD Cert.Reference15Ideal.τ).loc Cert.Reference15Ideal.main_arg3)) (m ((c.tc : Thread Cert.Reference15Ideal.nD Cert.Reference15Ideal.τ).loc Cert.Reference15Ideal.main_arg4))).2.1 = (fun _ => 1#1)
    ∧ (Cert.Pre_finite15.fn (F := Ideal) (m ((c.tc : Thread Cert.Reference15Ideal.nD Cert.Reference15Ideal.τ).loc Cert.Reference15Ideal.main_arg0)) (m ((c.tc : Thread Cert.Reference15Ideal.nD Cert.Reference15Ideal.τ).loc Cert.Reference15Ideal.main_arg1)) (m ((c.tc : Thread Cert.Reference15Ideal.nD Cert.Reference15Ideal.τ).loc Cert.Reference15Ideal.main_arg2)) (m ((c.tc : Thread Cert.Reference15Ideal.nD Cert.Reference15Ideal.τ).loc Cert.Reference15Ideal.main_arg3)) (m ((c.tc : Thread Cert.Reference15Ideal.nD Cert.Reference15Ideal.τ).loc Cert.Reference15Ideal.main_arg4))).2.2.1 = (fun _ => 1#1)
    ∧ (Cert.Pre_finite15.fn (F := Ideal) (m ((c.tc : Thread Cert.Reference15Ideal.nD Cert.Reference15Ideal.τ).loc Cert.Reference15Ideal.main_arg0)) (m ((c.tc : Thread Cert.Reference15Ideal.nD Cert.Reference15Ideal.τ).loc Cert.Reference15Ideal.main_arg1)) (m ((c.tc : Thread Cert.Reference15Ideal.nD Cert.Reference15Ideal.τ).loc Cert.Reference15Ideal.main_arg2)) (m ((c.tc : Thread Cert.Reference15Ideal.nD Cert.Reference15Ideal.τ).loc Cert.Reference15Ideal.main_arg3)) (m ((c.tc : Thread Cert.Reference15Ideal.nD Cert.Reference15Ideal.τ).loc Cert.Reference15Ideal.main_arg4))).2.2.2.1 = (fun _ => 1#1)
    ∧ (Cert.Pre_finite15.fn (F := Ideal) (m ((c.tc : Thread Cert.Reference15Ideal.nD Cert.Reference15Ideal.τ).loc Cert.Reference15Ideal.main_arg0)) (m ((c.tc : Thread Cert.Reference15Ideal.nD Cert.Reference15Ideal.τ).loc Cert.Reference15Ideal.main_arg1)) (m ((c.tc : Thread Cert.Reference15Ideal.nD Cert.Reference15Ideal.τ).loc Cert.Reference15Ideal.main_arg2)) (m ((c.tc : Thread Cert.Reference15Ideal.nD Cert.Reference15Ideal.τ).loc Cert.Reference15Ideal.main_arg3)) (m ((c.tc : Thread Cert.Reference15Ideal.nD Cert.Reference15Ideal.τ).loc Cert.Reference15Ideal.main_arg4))).2.2.2.2 = (fun _ => 1#1)

def Pre_Kernel16 (m : (ℓ : Loc Cert.Kernel16.nD Cert.Kernel16.τ Cert.Kernel16.sig) → Buf (Elt Bits) ℓ) : Prop :=
  True

def Pre_Kernel16Ideal (m : (ℓ : Loc Cert.Kernel16Ideal.nD Cert.Kernel16Ideal.τ Cert.Kernel16Ideal.sig) → Buf (Elt Ideal) ℓ) : Prop :=
  True

def Pre_Reference16Ideal (m : (ℓ : Loc Cert.Reference16Ideal.nD Cert.Reference16Ideal.τ Cert.Reference16Ideal.sig) → Buf (Elt Ideal) ℓ) : Prop :=
  True

def Pre_Kernel17 (m : (ℓ : Loc Cert.Kernel17.nD Cert.Kernel17.τ Cert.Kernel17.sig) → Buf (Elt Bits) ℓ) : Prop :=
  True

def Pre_Kernel17Ideal (m : (ℓ : Loc Cert.Kernel17Ideal.nD Cert.Kernel17Ideal.τ Cert.Kernel17Ideal.sig) → Buf (Elt Ideal) ℓ) : Prop :=
  True

def Pre_Reference17Ideal (m : (ℓ : Loc Cert.Reference17Ideal.nD Cert.Reference17Ideal.τ Cert.Reference17Ideal.sig) → Buf (Elt Ideal) ℓ) : Prop :=
  True

def Pre_Kernel18 (m : (ℓ : Loc Cert.Kernel18.nD Cert.Kernel18.τ Cert.Kernel18.sig) → Buf (Elt Bits) ℓ) : Prop :=
  True

def Pre_Kernel18Ideal (m : (ℓ : Loc Cert.Kernel18Ideal.nD Cert.Kernel18Ideal.τ Cert.Kernel18Ideal.sig) → Buf (Elt Ideal) ℓ) : Prop :=
  True

def Pre_Reference18Ideal (m : (ℓ : Loc Cert.Reference18Ideal.nD Cert.Reference18Ideal.τ Cert.Reference18Ideal.sig) → Buf (Elt Ideal) ℓ) : Prop :=
  True

def Pre_Kernel19 (m : (ℓ : Loc Cert.Kernel19.nD Cert.Kernel19.τ Cert.Kernel19.sig) → Buf (Elt Bits) ℓ) : Prop :=
  True

def Pre_Kernel19Ideal (m : (ℓ : Loc Cert.Kernel19Ideal.nD Cert.Kernel19Ideal.τ Cert.Kernel19Ideal.sig) → Buf (Elt Ideal) ℓ) : Prop :=
  True

def Pre_Reference19Ideal (m : (ℓ : Loc Cert.Reference19Ideal.nD Cert.Reference19Ideal.τ Cert.Reference19Ideal.sig) → Buf (Elt Ideal) ℓ) : Prop :=
  True

def Pre_Kernel20 (m : (ℓ : Loc Cert.Kernel20.nD Cert.Kernel20.τ Cert.Kernel20.sig) → Buf (Elt Bits) ℓ) : Prop :=
  True

def Pre_Kernel20Ideal (m : (ℓ : Loc Cert.Kernel20Ideal.nD Cert.Kernel20Ideal.τ Cert.Kernel20Ideal.sig) → Buf (Elt Ideal) ℓ) : Prop :=
  True

def Pre_Kernel20Ideal_finite20 [hPre_finite20 : Cert.Pre_finite20.Facts] (m : (ℓ : Loc Cert.Kernel20Ideal.nD Cert.Kernel20Ideal.τ Cert.Kernel20Ideal.sig) → Buf (Elt Ideal) ℓ) : Prop :=
  ∀ c : Dev Cert.Kernel20Ideal.nD,
    (Cert.Pre_finite20.fn (F := Ideal) (m ((c.tc : Thread Cert.Kernel20Ideal.nD Cert.Kernel20Ideal.τ).loc Cert.Kernel20Ideal.main_arg0)) (m ((c.tc : Thread Cert.Kernel20Ideal.nD Cert.Kernel20Ideal.τ).loc Cert.Kernel20Ideal.main_arg1)) (m ((c.tc : Thread Cert.Kernel20Ideal.nD Cert.Kernel20Ideal.τ).loc Cert.Kernel20Ideal.main_arg2))) = (fun _ => 1#1)

def Pre_Reference20Ideal (m : (ℓ : Loc Cert.Reference20Ideal.nD Cert.Reference20Ideal.τ Cert.Reference20Ideal.sig) → Buf (Elt Ideal) ℓ) : Prop :=
  True

def Pre_Reference20Ideal_finite20 [hPre_finite20 : Cert.Pre_finite20.Facts] (m : (ℓ : Loc Cert.Reference20Ideal.nD Cert.Reference20Ideal.τ Cert.Reference20Ideal.sig) → Buf (Elt Ideal) ℓ) : Prop :=
  ∀ c : Dev Cert.Reference20Ideal.nD,
    (Cert.Pre_finite20.fn (F := Ideal) (m ((c.tc : Thread Cert.Reference20Ideal.nD Cert.Reference20Ideal.τ).loc Cert.Reference20Ideal.main_arg0)) (m ((c.tc : Thread Cert.Reference20Ideal.nD Cert.Reference20Ideal.τ).loc Cert.Reference20Ideal.main_arg1)) (m ((c.tc : Thread Cert.Reference20Ideal.nD Cert.Reference20Ideal.τ).loc Cert.Reference20Ideal.main_arg2))) = (fun _ => 1#1)

def Pre_Kernel21 (m : (ℓ : Loc Cert.Kernel21.nD Cert.Kernel21.τ Cert.Kernel21.sig) → Buf (Elt Bits) ℓ) : Prop :=
  True

def Pre_Kernel21Ideal (m : (ℓ : Loc Cert.Kernel21Ideal.nD Cert.Kernel21Ideal.τ Cert.Kernel21Ideal.sig) → Buf (Elt Ideal) ℓ) : Prop :=
  True

def Pre_Reference21Ideal (m : (ℓ : Loc Cert.Reference21Ideal.nD Cert.Reference21Ideal.τ Cert.Reference21Ideal.sig) → Buf (Elt Ideal) ℓ) : Prop :=
  True

def Pre_Kernel22 (m : (ℓ : Loc Cert.Kernel22.nD Cert.Kernel22.τ Cert.Kernel22.sig) → Buf (Elt Bits) ℓ) : Prop :=
  True

def Pre_Kernel22Ideal (m : (ℓ : Loc Cert.Kernel22Ideal.nD Cert.Kernel22Ideal.τ Cert.Kernel22Ideal.sig) → Buf (Elt Ideal) ℓ) : Prop :=
  True

def Pre_Reference22Ideal (m : (ℓ : Loc Cert.Reference22Ideal.nD Cert.Reference22Ideal.τ Cert.Reference22Ideal.sig) → Buf (Elt Ideal) ℓ) : Prop :=
  True

def Pre_Kernel23 (m : (ℓ : Loc Cert.Kernel23.nD Cert.Kernel23.τ Cert.Kernel23.sig) → Buf (Elt Bits) ℓ) : Prop :=
  True

def Pre_Kernel23Ideal (m : (ℓ : Loc Cert.Kernel23Ideal.nD Cert.Kernel23Ideal.τ Cert.Kernel23Ideal.sig) → Buf (Elt Ideal) ℓ) : Prop :=
  True

def Pre_Reference23Ideal (m : (ℓ : Loc Cert.Reference23Ideal.nD Cert.Reference23Ideal.τ Cert.Reference23Ideal.sig) → Buf (Elt Ideal) ℓ) : Prop :=
  True

def Pre_Kernel24 (m : (ℓ : Loc Cert.Kernel24.nD Cert.Kernel24.τ Cert.Kernel24.sig) → Buf (Elt Bits) ℓ) : Prop :=
  True

def Pre_Kernel24Ideal (m : (ℓ : Loc Cert.Kernel24Ideal.nD Cert.Kernel24Ideal.τ Cert.Kernel24Ideal.sig) → Buf (Elt Ideal) ℓ) : Prop :=
  True

def Pre_Reference24Ideal (m : (ℓ : Loc Cert.Reference24Ideal.nD Cert.Reference24Ideal.τ Cert.Reference24Ideal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ r.2.sem = fun _ => 0)

def quiescent_KernelIdeal_pre_finite [hKernelIdeal : Cert.KernelIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))
      ∧ r.2.sem = fun _ => 0)

def quiescent_ReferenceIdeal_pre_finite [hReferenceIdeal : Cert.ReferenceIdeal.Facts] [hPre_finite : Cert.Pre_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1)
      ∧ r.2.mem ((c.tc : Thread Cert.Kernel2.nD Cert.Kernel2.τ).loc Cert.Kernel2.main_arg2) = m ((c.tc : Thread Cert.Kernel2.nD Cert.Kernel2.τ).loc Cert.Kernel2.main_arg2)
      ∧ r.2.mem ((c.tc : Thread Cert.Kernel2.nD Cert.Kernel2.τ).loc Cert.Kernel2.main_arg3) = m ((c.tc : Thread Cert.Kernel2.nD Cert.Kernel2.τ).loc Cert.Kernel2.main_arg3)
      ∧ r.2.mem ((c.tc : Thread Cert.Kernel2.nD Cert.Kernel2.τ).loc Cert.Kernel2.main_arg4) = m ((c.tc : Thread Cert.Kernel2.nD Cert.Kernel2.τ).loc Cert.Kernel2.main_arg4))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
      ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4))
      ∧ r.2.sem = fun _ => 0)

def quiescent_Kernel2Ideal_pre_finite2 [hKernel2Ideal : Cert.Kernel2Ideal.Facts] [hPre_finite2 : Cert.Pre_finite2.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal_finite2 m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
      ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3)
      ∧ r.2.mem ((c.tc : Thread Cert.Reference2Ideal.nD Cert.Reference2Ideal.τ).loc Cert.Reference2Ideal.main_arg4) = m ((c.tc : Thread Cert.Reference2Ideal.nD Cert.Reference2Ideal.τ).loc Cert.Reference2Ideal.main_arg4))
      ∧ r.2.sem = fun _ => 0)

def quiescent_Reference2Ideal_pre_finite2 [hReference2Ideal : Cert.Reference2Ideal.Facts] [hPre_finite2 : Cert.Pre_finite2.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal_finite2 m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3)
      ∧ r.2.mem ((c.tc : Thread Cert.Reference2Ideal.nD Cert.Reference2Ideal.τ).loc Cert.Reference2Ideal.main_arg4) = m ((c.tc : Thread Cert.Reference2Ideal.nD Cert.Reference2Ideal.τ).loc Cert.Reference2Ideal.main_arg4))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1)
      ∧ r.2.mem ((c.tc : Thread Cert.Kernel3.nD Cert.Kernel3.τ).loc Cert.Kernel3.main_arg2) = m ((c.tc : Thread Cert.Kernel3.nD Cert.Kernel3.τ).loc Cert.Kernel3.main_arg2))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2))
      ∧ r.2.sem = fun _ => 0)

def quiescent_Kernel4 [hKernel4 : Cert.Kernel4.Facts] : Prop :=
  ∀ (m : (ℓ : Loc Cert.Kernel4.nD Cert.Kernel4.τ Cert.Kernel4.sig) → Buf (Elt Bits) ℓ) (g : Dev Cert.Kernel4.nD → PrngReg), Pre_Kernel4 m →
    θ_run (Cert.Kernel4.defs (F := Bits)) (onTc (τ := Cert.Kernel4.τ) (Cert.Kernel4.main (F := Bits))) ⟨m, fun _ => 0, g⟩ (fun r => (∀ c : Dev Cert.Kernel4.nD,
      r.2.mem ((c.tc : Thread Cert.Kernel4.nD Cert.Kernel4.τ).loc Cert.Kernel4.main_arg0) = m ((c.tc : Thread Cert.Kernel4.nD Cert.Kernel4.τ).loc Cert.Kernel4.main_arg0)
      ∧ r.2.mem ((c.tc : Thread Cert.Kernel4.nD Cert.Kernel4.τ).loc Cert.Kernel4.main_arg1) = m ((c.tc : Thread Cert.Kernel4.nD Cert.Kernel4.τ).loc Cert.Kernel4.main_arg1))
      ∧ r.2.sem = fun _ => 0)

def quiescent_Kernel4Ideal [hKernel4Ideal : Cert.Kernel4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1))
      ∧ r.2.sem = fun _ => 0)

def quiescent_Reference4Ideal [hReference4Ideal : Cert.Reference4Ideal.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1))
      ∧ r.2.sem = fun _ => 0)

def quiescent_Kernel5 [hKernel5 : Cert.Kernel5.Facts] : Prop :=
  ∀ (m : (ℓ : Loc Cert.Kernel5.nD Cert.Kernel5.τ Cert.Kernel5.sig) → Buf (Elt Bits) ℓ) (g : Dev Cert.Kernel5.nD → PrngReg), Pre_Kernel5 m →
    θ_run (Cert.Kernel5.defs (F := Bits)) (onTc (τ := Cert.Kernel5.τ) (Cert.Kernel5.main (F := Bits))) ⟨m, fun _ => 0, g⟩ (fun r => (∀ c : Dev Cert.Kernel5.nD,
      r.2.mem ((c.tc : Thread Cert.Kernel5.nD Cert.Kernel5.τ).loc Cert.Kernel5.main_arg0) = m ((c.tc : Thread Cert.Kernel5.nD Cert.Kernel5.τ).loc Cert.Kernel5.main_arg0)
      ∧ r.2.mem ((c.tc : Thread Cert.Kernel5.nD Cert.Kernel5.τ).loc Cert.Kernel5.main_arg1) = m ((c.tc : Thread Cert.Kernel5.nD Cert.Kernel5.τ).loc Cert.Kernel5.main_arg1))
      ∧ r.2.sem = fun _ => 0)

def quiescent_Kernel5Ideal [hKernel5Ideal : Cert.Kernel5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg), Pre_Kernel5Ideal m →
    θ_run (Cert.Kernel5Ideal.defs (F := Ideal)) (onTc (τ := Cert.Kernel5Ideal.τ) (Cert.Kernel5Ideal.main (F := Ideal))) ⟨m, fun _ => 0, g⟩ (fun r => (∀ c : Dev Cert.Kernel5Ideal.nD,
      r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
      ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1))
      ∧ r.2.sem = fun _ => 0)

def quiescent_Reference5Ideal [hReference5Ideal : Cert.Reference5Ideal.Facts] : Prop :=
  ∀ (m : (ℓ : Loc Cert.Reference5Ideal.nD Cert.Reference5Ideal.τ Cert.Reference5Ideal.sig) → Buf (Elt Ideal) ℓ) (g : Dev Cert.Reference5Ideal.nD → PrngReg), Pre_Reference5Ideal m →
    θ_run (Cert.Reference5Ideal.defs (F := Ideal)) (onTc (τ := Cert.Reference5Ideal.τ) (Cert.Reference5Ideal.main (F := Ideal))) ⟨m, fun _ => 0, g⟩ (fun r => (∀ c : Dev Cert.Reference5Ideal.nD,
      r.2.mem ((c.tc : Thread Cert.Reference5Ideal.nD Cert.Reference5Ideal.τ).loc Cert.Reference5Ideal.main_arg0) = m ((c.tc : Thread Cert.Reference5Ideal.nD Cert.Reference5Ideal.τ).loc Cert.Reference5Ideal.main_arg0)
      ∧ r.2.mem ((c.tc : Thread Cert.Reference5Ideal.nD Cert.Reference5Ideal.τ).loc Cert.Reference5Ideal.main_arg1) = m ((c.tc : Thread Cert.Reference5Ideal.nD Cert.Reference5Ideal.τ).loc Cert.Reference5Ideal.main_arg1))
      ∧ r.2.sem = fun _ => 0)

def quiescent_Kernel6 [hKernel6 : Cert.Kernel6.Facts] : Prop :=
  ∀ (m : (ℓ : Loc Cert.Kernel6.nD Cert.Kernel6.τ Cert.Kernel6.sig) → Buf (Elt Bits) ℓ) (g : Dev Cert.Kernel6.nD → PrngReg), Pre_Kernel6 m →
    θ_run (Cert.Kernel6.defs (F := Bits)) (onTc (τ := Cert.Kernel6.τ) (Cert.Kernel6.main (F := Bits))) ⟨m, fun _ => 0, g⟩ (fun r => (∀ c : Dev Cert.Kernel6.nD,
      r.2.mem ((c.tc : Thread Cert.Kernel6.nD Cert.Kernel6.τ).loc Cert.Kernel6.main_arg0) = m ((c.tc : Thread Cert.Kernel6.nD Cert.Kernel6.τ).loc Cert.Kernel6.main_arg0)
      ∧ r.2.mem ((c.tc : Thread Cert.Kernel6.nD Cert.Kernel6.τ).loc Cert.Kernel6.main_arg1) = m ((c.tc : Thread Cert.Kernel6.nD Cert.Kernel6.τ).loc Cert.Kernel6.main_arg1)
      ∧ r.2.mem ((c.tc : Thread Cert.Kernel6.nD Cert.Kernel6.τ).loc Cert.Kernel6.main_arg2) = m ((c.tc : Thread Cert.Kernel6.nD Cert.Kernel6.τ).loc Cert.Kernel6.main_arg2)
      ∧ r.2.mem ((c.tc : Thread Cert.Kernel6.nD Cert.Kernel6.τ).loc Cert.Kernel6.main_arg3) = m ((c.tc : Thread Cert.Kernel6.nD Cert.Kernel6.τ).loc Cert.Kernel6.main_arg3)
      ∧ r.2.mem ((c.tc : Thread Cert.Kernel6.nD Cert.Kernel6.τ).loc Cert.Kernel6.main_arg4) = m ((c.tc : Thread Cert.Kernel6.nD Cert.Kernel6.τ).loc Cert.Kernel6.main_arg4)
      ∧ r.2.mem ((c.tc : Thread Cert.Kernel6.nD Cert.Kernel6.τ).loc Cert.Kernel6.main_arg5) = m ((c.tc : Thread Cert.Kernel6.nD Cert.Kernel6.τ).loc Cert.Kernel6.main_arg5)
      ∧ r.2.mem ((c.tc : Thread Cert.Kernel6.nD Cert.Kernel6.τ).loc Cert.Kernel6.main_arg6) = m ((c.tc : Thread Cert.Kernel6.nD Cert.Kernel6.τ).loc Cert.Kernel6.main_arg6))
      ∧ r.2.sem = fun _ => 0)

def quiescent_Kernel6Ideal [hKernel6Ideal : Cert.Kernel6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg), Pre_Kernel6Ideal m →
    θ_run (Cert.Kernel6Ideal.defs (F := Ideal)) (onTc (τ := Cert.Kernel6Ideal.τ) (Cert.Kernel6Ideal.main (F := Ideal))) ⟨m, fun _ => 0, g⟩ (fun r => (∀ c : Dev Cert.Kernel6Ideal.nD,
      r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
      ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
      ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2)
      ∧ r.2.mem ((c.tc : Thread Cert.Kernel6Ideal.nD Cert.Kernel6Ideal.τ).loc Cert.Kernel6Ideal.main_arg3) = m ((c.tc : Thread Cert.Kernel6Ideal.nD Cert.Kernel6Ideal.τ).loc Cert.Kernel6Ideal.main_arg3)
      ∧ r.2.mem ((c.tc : Thread Cert.Kernel6Ideal.nD Cert.Kernel6Ideal.τ).loc Cert.Kernel6Ideal.main_arg4) = m ((c.tc : Thread Cert.Kernel6Ideal.nD Cert.Kernel6Ideal.τ).loc Cert.Kernel6Ideal.main_arg4)
      ∧ r.2.mem ((c.tc : Thread Cert.Kernel6Ideal.nD Cert.Kernel6Ideal.τ).loc Cert.Kernel6Ideal.main_arg5) = m ((c.tc : Thread Cert.Kernel6Ideal.nD Cert.Kernel6Ideal.τ).loc Cert.Kernel6Ideal.main_arg5)
      ∧ r.2.mem ((c.tc : Thread Cert.Kernel6Ideal.nD Cert.Kernel6Ideal.τ).loc Cert.Kernel6Ideal.main_arg6) = m ((c.tc : Thread Cert.Kernel6Ideal.nD Cert.Kernel6Ideal.τ).loc Cert.Kernel6Ideal.main_arg6))
      ∧ r.2.sem = fun _ => 0)

def quiescent_Kernel6Ideal_pre_finite6 [hKernel6Ideal : Cert.Kernel6Ideal.Facts] [hPre_finite6 : Cert.Pre_finite6.Facts] : Prop :=
  ∀ (m : (ℓ : Loc Cert.Kernel6Ideal.nD Cert.Kernel6Ideal.τ Cert.Kernel6Ideal.sig) → Buf (Elt Ideal) ℓ) (g : Dev Cert.Kernel6Ideal.nD → PrngReg), Pre_Kernel6Ideal_finite6 m →
    θ_run (Cert.Kernel6Ideal.defs (F := Ideal)) (onTc (τ := Cert.Kernel6Ideal.τ) (Cert.Kernel6Ideal.main (F := Ideal))) ⟨m, fun _ => 0, g⟩ (fun r => (∀ c : Dev Cert.Kernel6Ideal.nD,
      r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
      ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
      ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2)
      ∧ r.2.mem ((c.tc : Thread Cert.Kernel6Ideal.nD Cert.Kernel6Ideal.τ).loc Cert.Kernel6Ideal.main_arg3) = m ((c.tc : Thread Cert.Kernel6Ideal.nD Cert.Kernel6Ideal.τ).loc Cert.Kernel6Ideal.main_arg3)
      ∧ r.2.mem ((c.tc : Thread Cert.Kernel6Ideal.nD Cert.Kernel6Ideal.τ).loc Cert.Kernel6Ideal.main_arg4) = m ((c.tc : Thread Cert.Kernel6Ideal.nD Cert.Kernel6Ideal.τ).loc Cert.Kernel6Ideal.main_arg4)
      ∧ r.2.mem ((c.tc : Thread Cert.Kernel6Ideal.nD Cert.Kernel6Ideal.τ).loc Cert.Kernel6Ideal.main_arg5) = m ((c.tc : Thread Cert.Kernel6Ideal.nD Cert.Kernel6Ideal.τ).loc Cert.Kernel6Ideal.main_arg5)
      ∧ r.2.mem ((c.tc : Thread Cert.Kernel6Ideal.nD Cert.Kernel6Ideal.τ).loc Cert.Kernel6Ideal.main_arg6) = m ((c.tc : Thread Cert.Kernel6Ideal.nD Cert.Kernel6Ideal.τ).loc Cert.Kernel6Ideal.main_arg6))
      ∧ r.2.sem = fun _ => 0)

def quiescent_Reference6Ideal [hReference6Ideal : Cert.Reference6Ideal.Facts] : Prop :=
  ∀ (m : (ℓ : Loc Cert.Reference6Ideal.nD Cert.Reference6Ideal.τ Cert.Reference6Ideal.sig) → Buf (Elt Ideal) ℓ) (g : Dev Cert.Reference6Ideal.nD → PrngReg), Pre_Reference6Ideal m →
    θ_run (Cert.Reference6Ideal.defs (F := Ideal)) (onTc (τ := Cert.Reference6Ideal.τ) (Cert.Reference6Ideal.main (F := Ideal))) ⟨m, fun _ => 0, g⟩ (fun r => (∀ c : Dev Cert.Reference6Ideal.nD,
      r.2.mem ((c.tc : Thread Cert.Reference6Ideal.nD Cert.Reference6Ideal.τ).loc Cert.Reference6Ideal.main_arg0) = m ((c.tc : Thread Cert.Reference6Ideal.nD Cert.Reference6Ideal.τ).loc Cert.Reference6Ideal.main_arg0)
      ∧ r.2.mem ((c.tc : Thread Cert.Reference6Ideal.nD Cert.Reference6Ideal.τ).loc Cert.Reference6Ideal.main_arg1) = m ((c.tc : Thread Cert.Reference6Ideal.nD Cert.Reference6Ideal.τ).loc Cert.Reference6Ideal.main_arg1)
      ∧ r.2.mem ((c.tc : Thread Cert.Reference6Ideal.nD Cert.Reference6Ideal.τ).loc Cert.Reference6Ideal.main_arg2) = m ((c.tc : Thread Cert.Reference6Ideal.nD Cert.Reference6Ideal.τ).loc Cert.Reference6Ideal.main_arg2)
      ∧ r.2.mem ((c.tc : Thread Cert.Reference6Ideal.nD Cert.Reference6Ideal.τ).loc Cert.Reference6Ideal.main_arg3) = m ((c.tc : Thread Cert.Reference6Ideal.nD Cert.Reference6Ideal.τ).loc Cert.Reference6Ideal.main_arg3)
      ∧ r.2.mem ((c.tc : Thread Cert.Reference6Ideal.nD Cert.Reference6Ideal.τ).loc Cert.Reference6Ideal.main_arg4) = m ((c.tc : Thread Cert.Reference6Ideal.nD Cert.Reference6Ideal.τ).loc Cert.Reference6Ideal.main_arg4)
      ∧ r.2.mem ((c.tc : Thread Cert.Reference6Ideal.nD Cert.Reference6Ideal.τ).loc Cert.Reference6Ideal.main_arg5) = m ((c.tc : Thread Cert.Reference6Ideal.nD Cert.Reference6Ideal.τ).loc Cert.Reference6Ideal.main_arg5)
      ∧ r.2.mem ((c.tc : Thread Cert.Reference6Ideal.nD Cert.Reference6Ideal.τ).loc Cert.Reference6Ideal.main_arg6) = m ((c.tc : Thread Cert.Reference6Ideal.nD Cert.Reference6Ideal.τ).loc Cert.Reference6Ideal.main_arg6))
      ∧ r.2.sem = fun _ => 0)

def quiescent_Reference6Ideal_pre_finite6 [hReference6Ideal : Cert.Reference6Ideal.Facts] [hPre_finite6 : Cert.Pre_finite6.Facts] : Prop :=
  ∀ (m : (ℓ : Loc Cert.Reference6Ideal.nD Cert.Reference6Ideal.τ Cert.Reference6Ideal.sig) → Buf (Elt Ideal) ℓ) (g : Dev Cert.Reference6Ideal.nD → PrngReg), Pre_Reference6Ideal_finite6 m →
    θ_run (Cert.Reference6Ideal.defs (F := Ideal)) (onTc (τ := Cert.Reference6Ideal.τ) (Cert.Reference6Ideal.main (F := Ideal))) ⟨m, fun _ => 0, g⟩ (fun r => (∀ c : Dev Cert.Reference6Ideal.nD,
      r.2.mem ((c.tc : Thread Cert.Reference6Ideal.nD Cert.Reference6Ideal.τ).loc Cert.Reference6Ideal.main_arg0) = m ((c.tc : Thread Cert.Reference6Ideal.nD Cert.Reference6Ideal.τ).loc Cert.Reference6Ideal.main_arg0)
      ∧ r.2.mem ((c.tc : Thread Cert.Reference6Ideal.nD Cert.Reference6Ideal.τ).loc Cert.Reference6Ideal.main_arg1) = m ((c.tc : Thread Cert.Reference6Ideal.nD Cert.Reference6Ideal.τ).loc Cert.Reference6Ideal.main_arg1)
      ∧ r.2.mem ((c.tc : Thread Cert.Reference6Ideal.nD Cert.Reference6Ideal.τ).loc Cert.Reference6Ideal.main_arg2) = m ((c.tc : Thread Cert.Reference6Ideal.nD Cert.Reference6Ideal.τ).loc Cert.Reference6Ideal.main_arg2)
      ∧ r.2.mem ((c.tc : Thread Cert.Reference6Ideal.nD Cert.Reference6Ideal.τ).loc Cert.Reference6Ideal.main_arg3) = m ((c.tc : Thread Cert.Reference6Ideal.nD Cert.Reference6Ideal.τ).loc Cert.Reference6Ideal.main_arg3)
      ∧ r.2.mem ((c.tc : Thread Cert.Reference6Ideal.nD Cert.Reference6Ideal.τ).loc Cert.Reference6Ideal.main_arg4) = m ((c.tc : Thread Cert.Reference6Ideal.nD Cert.Reference6Ideal.τ).loc Cert.Reference6Ideal.main_arg4)
      ∧ r.2.mem ((c.tc : Thread Cert.Reference6Ideal.nD Cert.Reference6Ideal.τ).loc Cert.Reference6Ideal.main_arg5) = m ((c.tc : Thread Cert.Reference6Ideal.nD Cert.Reference6Ideal.τ).loc Cert.Reference6Ideal.main_arg5)
      ∧ r.2.mem ((c.tc : Thread Cert.Reference6Ideal.nD Cert.Reference6Ideal.τ).loc Cert.Reference6Ideal.main_arg6) = m ((c.tc : Thread Cert.Reference6Ideal.nD Cert.Reference6Ideal.τ).loc Cert.Reference6Ideal.main_arg6))
      ∧ r.2.sem = fun _ => 0)

def quiescent_Kernel7 [hKernel7 : Cert.Kernel7.Facts] : Prop :=
  ∀ (m : (ℓ : Loc Cert.Kernel7.nD Cert.Kernel7.τ Cert.Kernel7.sig) → Buf (Elt Bits) ℓ) (g : Dev Cert.Kernel7.nD → PrngReg), Pre_Kernel7 m →
    θ_run (Cert.Kernel7.defs (F := Bits)) (onTc (τ := Cert.Kernel7.τ) (Cert.Kernel7.main (F := Bits))) ⟨m, fun _ => 0, g⟩ (fun r => (∀ c : Dev Cert.Kernel7.nD,
      r.2.mem ((c.tc : Thread Cert.Kernel7.nD Cert.Kernel7.τ).loc Cert.Kernel7.main_arg0) = m ((c.tc : Thread Cert.Kernel7.nD Cert.Kernel7.τ).loc Cert.Kernel7.main_arg0)
      ∧ r.2.mem ((c.tc : Thread Cert.Kernel7.nD Cert.Kernel7.τ).loc Cert.Kernel7.main_arg1) = m ((c.tc : Thread Cert.Kernel7.nD Cert.Kernel7.τ).loc Cert.Kernel7.main_arg1)
      ∧ r.2.mem ((c.tc : Thread Cert.Kernel7.nD Cert.Kernel7.τ).loc Cert.Kernel7.main_arg2) = m ((c.tc : Thread Cert.Kernel7.nD Cert.Kernel7.τ).loc Cert.Kernel7.main_arg2)
      ∧ r.2.mem ((c.tc : Thread Cert.Kernel7.nD Cert.Kernel7.τ).loc Cert.Kernel7.main_arg3) = m ((c.tc : Thread Cert.Kernel7.nD Cert.Kernel7.τ).loc Cert.Kernel7.main_arg3)
      ∧ r.2.mem ((c.tc : Thread Cert.Kernel7.nD Cert.Kernel7.τ).loc Cert.Kernel7.main_arg4) = m ((c.tc : Thread Cert.Kernel7.nD Cert.Kernel7.τ).loc Cert.Kernel7.main_arg4)
      ∧ r.2.mem ((c.tc : Thread Cert.Kernel7.nD Cert.Kernel7.τ).loc Cert.Kernel7.main_arg5) = m ((c.tc : Thread Cert.Kernel7.nD Cert.Kernel7.τ).loc Cert.Kernel7.main_arg5)
      ∧ r.2.mem ((c.tc : Thread Cert.Kernel7.nD Cert.Kernel7.τ).loc Cert.Kernel7.main_arg6) = m ((c.tc : Thread Cert.Kernel7.nD Cert.Kernel7.τ).loc Cert.Kernel7.main_arg6)
      ∧ r.2.mem ((c.tc : Thread Cert.Kernel7.nD Cert.Kernel7.τ).loc Cert.Kernel7.main_arg7) = m ((c.tc : Thread Cert.Kernel7.nD Cert.Kernel7.τ).loc Cert.Kernel7.main_arg7)
      ∧ r.2.mem ((c.tc : Thread Cert.Kernel7.nD Cert.Kernel7.τ).loc Cert.Kernel7.main_arg8) = m ((c.tc : Thread Cert.Kernel7.nD Cert.Kernel7.τ).loc Cert.Kernel7.main_arg8))
      ∧ r.2.sem = fun _ => 0)

def quiescent_Kernel7Ideal [hKernel7Ideal : Cert.Kernel7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg), Pre_Kernel7Ideal m →
    θ_run (Cert.Kernel7Ideal.defs (F := Ideal)) (onTc (τ := Cert.Kernel7Ideal.τ) (Cert.Kernel7Ideal.main (F := Ideal))) ⟨m, fun _ => 0, g⟩ (fun r => (∀ c : Dev Cert.Kernel7Ideal.nD,
      r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
      ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1)
      ∧ r.2.mem ((c.tc : Thread Cert.Kernel7Ideal.nD Cert.Kernel7Ideal.τ).loc Cert.Kernel7Ideal.main_arg2) = m ((c.tc : Thread Cert.Kernel7Ideal.nD Cert.Kernel7Ideal.τ).loc Cert.Kernel7Ideal.main_arg2)
      ∧ r.2.mem ((c.tc : Thread Cert.Kernel7Ideal.nD Cert.Kernel7Ideal.τ).loc Cert.Kernel7Ideal.main_arg3) = m ((c.tc : Thread Cert.Kernel7Ideal.nD Cert.Kernel7Ideal.τ).loc Cert.Kernel7Ideal.main_arg3)
      ∧ r.2.mem ((c.tc : Thread Cert.Kernel7Ideal.nD Cert.Kernel7Ideal.τ).loc Cert.Kernel7Ideal.main_arg4) = m ((c.tc : Thread Cert.Kernel7Ideal.nD Cert.Kernel7Ideal.τ).loc Cert.Kernel7Ideal.main_arg4)
      ∧ r.2.mem ((c.tc : Thread Cert.Kernel7Ideal.nD Cert.Kernel7Ideal.τ).loc Cert.Kernel7Ideal.main_arg5) = m ((c.tc : Thread Cert.Kernel7Ideal.nD Cert.Kernel7Ideal.τ).loc Cert.Kernel7Ideal.main_arg5)
      ∧ r.2.mem ((c.tc : Thread Cert.Kernel7Ideal.nD Cert.Kernel7Ideal.τ).loc Cert.Kernel7Ideal.main_arg6) = m ((c.tc : Thread Cert.Kernel7Ideal.nD Cert.Kernel7Ideal.τ).loc Cert.Kernel7Ideal.main_arg6)
      ∧ r.2.mem ((c.tc : Thread Cert.Kernel7Ideal.nD Cert.Kernel7Ideal.τ).loc Cert.Kernel7Ideal.main_arg7) = m ((c.tc : Thread Cert.Kernel7Ideal.nD Cert.Kernel7Ideal.τ).loc Cert.Kernel7Ideal.main_arg7)
      ∧ r.2.mem ((c.tc : Thread Cert.Kernel7Ideal.nD Cert.Kernel7Ideal.τ).loc Cert.Kernel7Ideal.main_arg8) = m ((c.tc : Thread Cert.Kernel7Ideal.nD Cert.Kernel7Ideal.τ).loc Cert.Kernel7Ideal.main_arg8))
      ∧ r.2.sem = fun _ => 0)

def quiescent_Kernel7Ideal_pre_finite7 [hKernel7Ideal : Cert.Kernel7Ideal.Facts] [hPre_finite7 : Cert.Pre_finite7.Facts] : Prop :=
  ∀ (m : (ℓ : Loc Cert.Kernel7Ideal.nD Cert.Kernel7Ideal.τ Cert.Kernel7Ideal.sig) → Buf (Elt Ideal) ℓ) (g : Dev Cert.Kernel7Ideal.nD → PrngReg), Pre_Kernel7Ideal_finite7 m →
    θ_run (Cert.Kernel7Ideal.defs (F := Ideal)) (onTc (τ := Cert.Kernel7Ideal.τ) (Cert.Kernel7Ideal.main (F := Ideal))) ⟨m, fun _ => 0, g⟩ (fun r => (∀ c : Dev Cert.Kernel7Ideal.nD,
      r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
      ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1)
      ∧ r.2.mem ((c.tc : Thread Cert.Kernel7Ideal.nD Cert.Kernel7Ideal.τ).loc Cert.Kernel7Ideal.main_arg2) = m ((c.tc : Thread Cert.Kernel7Ideal.nD Cert.Kernel7Ideal.τ).loc Cert.Kernel7Ideal.main_arg2)
      ∧ r.2.mem ((c.tc : Thread Cert.Kernel7Ideal.nD Cert.Kernel7Ideal.τ).loc Cert.Kernel7Ideal.main_arg3) = m ((c.tc : Thread Cert.Kernel7Ideal.nD Cert.Kernel7Ideal.τ).loc Cert.Kernel7Ideal.main_arg3)
      ∧ r.2.mem ((c.tc : Thread Cert.Kernel7Ideal.nD Cert.Kernel7Ideal.τ).loc Cert.Kernel7Ideal.main_arg4) = m ((c.tc : Thread Cert.Kernel7Ideal.nD Cert.Kernel7Ideal.τ).loc Cert.Kernel7Ideal.main_arg4)
      ∧ r.2.mem ((c.tc : Thread Cert.Kernel7Ideal.nD Cert.Kernel7Ideal.τ).loc Cert.Kernel7Ideal.main_arg5) = m ((c.tc : Thread Cert.Kernel7Ideal.nD Cert.Kernel7Ideal.τ).loc Cert.Kernel7Ideal.main_arg5)
      ∧ r.2.mem ((c.tc : Thread Cert.Kernel7Ideal.nD Cert.Kernel7Ideal.τ).loc Cert.Kernel7Ideal.main_arg6) = m ((c.tc : Thread Cert.Kernel7Ideal.nD Cert.Kernel7Ideal.τ).loc Cert.Kernel7Ideal.main_arg6)
      ∧ r.2.mem ((c.tc : Thread Cert.Kernel7Ideal.nD Cert.Kernel7Ideal.τ).loc Cert.Kernel7Ideal.main_arg7) = m ((c.tc : Thread Cert.Kernel7Ideal.nD Cert.Kernel7Ideal.τ).loc Cert.Kernel7Ideal.main_arg7)
      ∧ r.2.mem ((c.tc : Thread Cert.Kernel7Ideal.nD Cert.Kernel7Ideal.τ).loc Cert.Kernel7Ideal.main_arg8) = m ((c.tc : Thread Cert.Kernel7Ideal.nD Cert.Kernel7Ideal.τ).loc Cert.Kernel7Ideal.main_arg8))
      ∧ r.2.sem = fun _ => 0)

def quiescent_Reference7Ideal [hReference7Ideal : Cert.Reference7Ideal.Facts] : Prop :=
  ∀ (m : (ℓ : Loc Cert.Reference7Ideal.nD Cert.Reference7Ideal.τ Cert.Reference7Ideal.sig) → Buf (Elt Ideal) ℓ) (g : Dev Cert.Reference7Ideal.nD → PrngReg), Pre_Reference7Ideal m →
    θ_run (Cert.Reference7Ideal.defs (F := Ideal)) (onTc (τ := Cert.Reference7Ideal.τ) (Cert.Reference7Ideal.main (F := Ideal))) ⟨m, fun _ => 0, g⟩ (fun r => (∀ c : Dev Cert.Reference7Ideal.nD,
      r.2.mem ((c.tc : Thread Cert.Reference7Ideal.nD Cert.Reference7Ideal.τ).loc Cert.Reference7Ideal.main_arg0) = m ((c.tc : Thread Cert.Reference7Ideal.nD Cert.Reference7Ideal.τ).loc Cert.Reference7Ideal.main_arg0)
      ∧ r.2.mem ((c.tc : Thread Cert.Reference7Ideal.nD Cert.Reference7Ideal.τ).loc Cert.Reference7Ideal.main_arg1) = m ((c.tc : Thread Cert.Reference7Ideal.nD Cert.Reference7Ideal.τ).loc Cert.Reference7Ideal.main_arg1)
      ∧ r.2.mem ((c.tc : Thread Cert.Reference7Ideal.nD Cert.Reference7Ideal.τ).loc Cert.Reference7Ideal.main_arg2) = m ((c.tc : Thread Cert.Reference7Ideal.nD Cert.Reference7Ideal.τ).loc Cert.Reference7Ideal.main_arg2)
      ∧ r.2.mem ((c.tc : Thread Cert.Reference7Ideal.nD Cert.Reference7Ideal.τ).loc Cert.Reference7Ideal.main_arg3) = m ((c.tc : Thread Cert.Reference7Ideal.nD Cert.Reference7Ideal.τ).loc Cert.Reference7Ideal.main_arg3)
      ∧ r.2.mem ((c.tc : Thread Cert.Reference7Ideal.nD Cert.Reference7Ideal.τ).loc Cert.Reference7Ideal.main_arg4) = m ((c.tc : Thread Cert.Reference7Ideal.nD Cert.Reference7Ideal.τ).loc Cert.Reference7Ideal.main_arg4)
      ∧ r.2.mem ((c.tc : Thread Cert.Reference7Ideal.nD Cert.Reference7Ideal.τ).loc Cert.Reference7Ideal.main_arg5) = m ((c.tc : Thread Cert.Reference7Ideal.nD Cert.Reference7Ideal.τ).loc Cert.Reference7Ideal.main_arg5)
      ∧ r.2.mem ((c.tc : Thread Cert.Reference7Ideal.nD Cert.Reference7Ideal.τ).loc Cert.Reference7Ideal.main_arg6) = m ((c.tc : Thread Cert.Reference7Ideal.nD Cert.Reference7Ideal.τ).loc Cert.Reference7Ideal.main_arg6)
      ∧ r.2.mem ((c.tc : Thread Cert.Reference7Ideal.nD Cert.Reference7Ideal.τ).loc Cert.Reference7Ideal.main_arg7) = m ((c.tc : Thread Cert.Reference7Ideal.nD Cert.Reference7Ideal.τ).loc Cert.Reference7Ideal.main_arg7)
      ∧ r.2.mem ((c.tc : Thread Cert.Reference7Ideal.nD Cert.Reference7Ideal.τ).loc Cert.Reference7Ideal.main_arg8) = m ((c.tc : Thread Cert.Reference7Ideal.nD Cert.Reference7Ideal.τ).loc Cert.Reference7Ideal.main_arg8))
      ∧ r.2.sem = fun _ => 0)

def quiescent_Reference7Ideal_pre_finite7 [hReference7Ideal : Cert.Reference7Ideal.Facts] [hPre_finite7 : Cert.Pre_finite7.Facts] : Prop :=
  ∀ (m : (ℓ : Loc Cert.Reference7Ideal.nD Cert.Reference7Ideal.τ Cert.Reference7Ideal.sig) → Buf (Elt Ideal) ℓ) (g : Dev Cert.Reference7Ideal.nD → PrngReg), Pre_Reference7Ideal_finite7 m →
    θ_run (Cert.Reference7Ideal.defs (F := Ideal)) (onTc (τ := Cert.Reference7Ideal.τ) (Cert.Reference7Ideal.main (F := Ideal))) ⟨m, fun _ => 0, g⟩ (fun r => (∀ c : Dev Cert.Reference7Ideal.nD,
      r.2.mem ((c.tc : Thread Cert.Reference7Ideal.nD Cert.Reference7Ideal.τ).loc Cert.Reference7Ideal.main_arg0) = m ((c.tc : Thread Cert.Reference7Ideal.nD Cert.Reference7Ideal.τ).loc Cert.Reference7Ideal.main_arg0)
      ∧ r.2.mem ((c.tc : Thread Cert.Reference7Ideal.nD Cert.Reference7Ideal.τ).loc Cert.Reference7Ideal.main_arg1) = m ((c.tc : Thread Cert.Reference7Ideal.nD Cert.Reference7Ideal.τ).loc Cert.Reference7Ideal.main_arg1)
      ∧ r.2.mem ((c.tc : Thread Cert.Reference7Ideal.nD Cert.Reference7Ideal.τ).loc Cert.Reference7Ideal.main_arg2) = m ((c.tc : Thread Cert.Reference7Ideal.nD Cert.Reference7Ideal.τ).loc Cert.Reference7Ideal.main_arg2)
      ∧ r.2.mem ((c.tc : Thread Cert.Reference7Ideal.nD Cert.Reference7Ideal.τ).loc Cert.Reference7Ideal.main_arg3) = m ((c.tc : Thread Cert.Reference7Ideal.nD Cert.Reference7Ideal.τ).loc Cert.Reference7Ideal.main_arg3)
      ∧ r.2.mem ((c.tc : Thread Cert.Reference7Ideal.nD Cert.Reference7Ideal.τ).loc Cert.Reference7Ideal.main_arg4) = m ((c.tc : Thread Cert.Reference7Ideal.nD Cert.Reference7Ideal.τ).loc Cert.Reference7Ideal.main_arg4)
      ∧ r.2.mem ((c.tc : Thread Cert.Reference7Ideal.nD Cert.Reference7Ideal.τ).loc Cert.Reference7Ideal.main_arg5) = m ((c.tc : Thread Cert.Reference7Ideal.nD Cert.Reference7Ideal.τ).loc Cert.Reference7Ideal.main_arg5)
      ∧ r.2.mem ((c.tc : Thread Cert.Reference7Ideal.nD Cert.Reference7Ideal.τ).loc Cert.Reference7Ideal.main_arg6) = m ((c.tc : Thread Cert.Reference7Ideal.nD Cert.Reference7Ideal.τ).loc Cert.Reference7Ideal.main_arg6)
      ∧ r.2.mem ((c.tc : Thread Cert.Reference7Ideal.nD Cert.Reference7Ideal.τ).loc Cert.Reference7Ideal.main_arg7) = m ((c.tc : Thread Cert.Reference7Ideal.nD Cert.Reference7Ideal.τ).loc Cert.Reference7Ideal.main_arg7)
      ∧ r.2.mem ((c.tc : Thread Cert.Reference7Ideal.nD Cert.Reference7Ideal.τ).loc Cert.Reference7Ideal.main_arg8) = m ((c.tc : Thread Cert.Reference7Ideal.nD Cert.Reference7Ideal.τ).loc Cert.Reference7Ideal.main_arg8))
      ∧ r.2.sem = fun _ => 0)

def quiescent_Kernel8 [hKernel8 : Cert.Kernel8.Facts] : Prop :=
  ∀ (m : (ℓ : Loc Cert.Kernel8.nD Cert.Kernel8.τ Cert.Kernel8.sig) → Buf (Elt Bits) ℓ) (g : Dev Cert.Kernel8.nD → PrngReg), Pre_Kernel8 m →
    θ_run (Cert.Kernel8.defs (F := Bits)) (onTc (τ := Cert.Kernel8.τ) (Cert.Kernel8.main (F := Bits))) ⟨m, fun _ => 0, g⟩ (fun r => (∀ c : Dev Cert.Kernel8.nD,
      r.2.mem ((c.tc : Thread Cert.Kernel8.nD Cert.Kernel8.τ).loc Cert.Kernel8.main_arg0) = m ((c.tc : Thread Cert.Kernel8.nD Cert.Kernel8.τ).loc Cert.Kernel8.main_arg0)
      ∧ r.2.mem ((c.tc : Thread Cert.Kernel8.nD Cert.Kernel8.τ).loc Cert.Kernel8.main_arg1) = m ((c.tc : Thread Cert.Kernel8.nD Cert.Kernel8.τ).loc Cert.Kernel8.main_arg1)
      ∧ r.2.mem ((c.tc : Thread Cert.Kernel8.nD Cert.Kernel8.τ).loc Cert.Kernel8.main_arg2) = m ((c.tc : Thread Cert.Kernel8.nD Cert.Kernel8.τ).loc Cert.Kernel8.main_arg2)
      ∧ r.2.mem ((c.tc : Thread Cert.Kernel8.nD Cert.Kernel8.τ).loc Cert.Kernel8.main_arg3) = m ((c.tc : Thread Cert.Kernel8.nD Cert.Kernel8.τ).loc Cert.Kernel8.main_arg3))
      ∧ r.2.sem = fun _ => 0)

def quiescent_Kernel8Ideal [hKernel8Ideal : Cert.Kernel8Ideal.Facts] : Prop :=
  ∀ (m : (ℓ : Loc Cert.Kernel8Ideal.nD Cert.Kernel8Ideal.τ Cert.Kernel8Ideal.sig) → Buf (Elt Ideal) ℓ) (g : Dev Cert.Kernel8Ideal.nD → PrngReg), Pre_Kernel8Ideal m →
    θ_run (Cert.Kernel8Ideal.defs (F := Ideal)) (onTc (τ := Cert.Kernel8Ideal.τ) (Cert.Kernel8Ideal.main (F := Ideal))) ⟨m, fun _ => 0, g⟩ (fun r => (∀ c : Dev Cert.Kernel8Ideal.nD,
      r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
      ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1)
      ∧ r.2.mem ((c.tc : Thread Cert.Kernel8Ideal.nD Cert.Kernel8Ideal.τ).loc Cert.Kernel8Ideal.main_arg2) = m ((c.tc : Thread Cert.Kernel8Ideal.nD Cert.Kernel8Ideal.τ).loc Cert.Kernel8Ideal.main_arg2)
      ∧ r.2.mem ((c.tc : Thread Cert.Kernel8Ideal.nD Cert.Kernel8Ideal.τ).loc Cert.Kernel8Ideal.main_arg3) = m ((c.tc : Thread Cert.Kernel8Ideal.nD Cert.Kernel8Ideal.τ).loc Cert.Kernel8Ideal.main_arg3))
      ∧ r.2.sem = fun _ => 0)

def quiescent_Reference8Ideal [hReference8Ideal : Cert.Reference8Ideal.Facts] : Prop :=
  ∀ (m : (ℓ : Loc Cert.Reference8Ideal.nD Cert.Reference8Ideal.τ Cert.Reference8Ideal.sig) → Buf (Elt Ideal) ℓ) (g : Dev Cert.Reference8Ideal.nD → PrngReg), Pre_Reference8Ideal m →
    θ_run (Cert.Reference8Ideal.defs (F := Ideal)) (onTc (τ := Cert.Reference8Ideal.τ) (Cert.Reference8Ideal.main (F := Ideal))) ⟨m, fun _ => 0, g⟩ (fun r => (∀ c : Dev Cert.Reference8Ideal.nD,
      r.2.mem ((c.tc : Thread Cert.Reference8Ideal.nD Cert.Reference8Ideal.τ).loc Cert.Reference8Ideal.main_arg0) = m ((c.tc : Thread Cert.Reference8Ideal.nD Cert.Reference8Ideal.τ).loc Cert.Reference8Ideal.main_arg0)
      ∧ r.2.mem ((c.tc : Thread Cert.Reference8Ideal.nD Cert.Reference8Ideal.τ).loc Cert.Reference8Ideal.main_arg1) = m ((c.tc : Thread Cert.Reference8Ideal.nD Cert.Reference8Ideal.τ).loc Cert.Reference8Ideal.main_arg1)
      ∧ r.2.mem ((c.tc : Thread Cert.Reference8Ideal.nD Cert.Reference8Ideal.τ).loc Cert.Reference8Ideal.main_arg2) = m ((c.tc : Thread Cert.Reference8Ideal.nD Cert.Reference8Ideal.τ).loc Cert.Reference8Ideal.main_arg2)
      ∧ r.2.mem ((c.tc : Thread Cert.Reference8Ideal.nD Cert.Reference8Ideal.τ).loc Cert.Reference8Ideal.main_arg3) = m ((c.tc : Thread Cert.Reference8Ideal.nD Cert.Reference8Ideal.τ).loc Cert.Reference8Ideal.main_arg3))
      ∧ r.2.sem = fun _ => 0)

def quiescent_Kernel9 [hKernel9 : Cert.Kernel9.Facts] : Prop :=
  ∀ (m : (ℓ : Loc Cert.Kernel9.nD Cert.Kernel9.τ Cert.Kernel9.sig) → Buf (Elt Bits) ℓ) (g : Dev Cert.Kernel9.nD → PrngReg), Pre_Kernel9 m →
    θ_run (Cert.Kernel9.defs (F := Bits)) (onTc (τ := Cert.Kernel9.τ) (Cert.Kernel9.main (F := Bits))) ⟨m, fun _ => 0, g⟩ (fun r => (∀ c : Dev Cert.Kernel9.nD,
      r.2.mem ((c.tc : Thread Cert.Kernel9.nD Cert.Kernel9.τ).loc Cert.Kernel9.main_arg0) = m ((c.tc : Thread Cert.Kernel9.nD Cert.Kernel9.τ).loc Cert.Kernel9.main_arg0)
      ∧ r.2.mem ((c.tc : Thread Cert.Kernel9.nD Cert.Kernel9.τ).loc Cert.Kernel9.main_arg1) = m ((c.tc : Thread Cert.Kernel9.nD Cert.Kernel9.τ).loc Cert.Kernel9.main_arg1)
      ∧ r.2.mem ((c.tc : Thread Cert.Kernel9.nD Cert.Kernel9.τ).loc Cert.Kernel9.main_arg2) = m ((c.tc : Thread Cert.Kernel9.nD Cert.Kernel9.τ).loc Cert.Kernel9.main_arg2))
      ∧ r.2.sem = fun _ => 0)

def quiescent_Kernel9Ideal [hKernel9Ideal : Cert.Kernel9Ideal.Facts] : Prop :=
  ∀ (m : (ℓ : Loc Cert.Kernel9Ideal.nD Cert.Kernel9Ideal.τ Cert.Kernel9Ideal.sig) → Buf (Elt Ideal) ℓ) (g : Dev Cert.Kernel9Ideal.nD → PrngReg), Pre_Kernel9Ideal m →
    θ_run (Cert.Kernel9Ideal.defs (F := Ideal)) (onTc (τ := Cert.Kernel9Ideal.τ) (Cert.Kernel9Ideal.main (F := Ideal))) ⟨m, fun _ => 0, g⟩ (fun r => (∀ c : Dev Cert.Kernel9Ideal.nD,
      r.2.mem ((c.tc : Thread Cert.Kernel9Ideal.nD Cert.Kernel9Ideal.τ).loc Cert.Kernel9Ideal.main_arg0) = m ((c.tc : Thread Cert.Kernel9Ideal.nD Cert.Kernel9Ideal.τ).loc Cert.Kernel9Ideal.main_arg0)
      ∧ r.2.mem ((c.tc : Thread Cert.Kernel9Ideal.nD Cert.Kernel9Ideal.τ).loc Cert.Kernel9Ideal.main_arg1) = m ((c.tc : Thread Cert.Kernel9Ideal.nD Cert.Kernel9Ideal.τ).loc Cert.Kernel9Ideal.main_arg1)
      ∧ r.2.mem ((c.tc : Thread Cert.Kernel9Ideal.nD Cert.Kernel9Ideal.τ).loc Cert.Kernel9Ideal.main_arg2) = m ((c.tc : Thread Cert.Kernel9Ideal.nD Cert.Kernel9Ideal.τ).loc Cert.Kernel9Ideal.main_arg2))
      ∧ r.2.sem = fun _ => 0)

def quiescent_Reference9Ideal [hReference9Ideal : Cert.Reference9Ideal.Facts] : Prop :=
  ∀ (m : (ℓ : Loc Cert.Reference9Ideal.nD Cert.Reference9Ideal.τ Cert.Reference9Ideal.sig) → Buf (Elt Ideal) ℓ) (g : Dev Cert.Reference9Ideal.nD → PrngReg), Pre_Reference9Ideal m →
    θ_run (Cert.Reference9Ideal.defs (F := Ideal)) (onTc (τ := Cert.Reference9Ideal.τ) (Cert.Reference9Ideal.main (F := Ideal))) ⟨m, fun _ => 0, g⟩ (fun r => (∀ c : Dev Cert.Reference9Ideal.nD,
      r.2.mem ((c.tc : Thread Cert.Reference9Ideal.nD Cert.Reference9Ideal.τ).loc Cert.Reference9Ideal.main_arg0) = m ((c.tc : Thread Cert.Reference9Ideal.nD Cert.Reference9Ideal.τ).loc Cert.Reference9Ideal.main_arg0)
      ∧ r.2.mem ((c.tc : Thread Cert.Reference9Ideal.nD Cert.Reference9Ideal.τ).loc Cert.Reference9Ideal.main_arg1) = m ((c.tc : Thread Cert.Reference9Ideal.nD Cert.Reference9Ideal.τ).loc Cert.Reference9Ideal.main_arg1)
      ∧ r.2.mem ((c.tc : Thread Cert.Reference9Ideal.nD Cert.Reference9Ideal.τ).loc Cert.Reference9Ideal.main_arg2) = m ((c.tc : Thread Cert.Reference9Ideal.nD Cert.Reference9Ideal.τ).loc Cert.Reference9Ideal.main_arg2))
      ∧ r.2.sem = fun _ => 0)

def quiescent_Kernel10 [hKernel10 : Cert.Kernel10.Facts] : Prop :=
  ∀ (m : (ℓ : Loc Cert.Kernel10.nD Cert.Kernel10.τ Cert.Kernel10.sig) → Buf (Elt Bits) ℓ) (g : Dev Cert.Kernel10.nD → PrngReg), Pre_Kernel10 m →
    θ_run (Cert.Kernel10.defs (F := Bits)) (onTc (τ := Cert.Kernel10.τ) (Cert.Kernel10.main (F := Bits))) ⟨m, fun _ => 0, g⟩ (fun r => (∀ c : Dev Cert.Kernel10.nD,
      r.2.mem ((c.tc : Thread Cert.Kernel10.nD Cert.Kernel10.τ).loc Cert.Kernel10.main_arg0) = m ((c.tc : Thread Cert.Kernel10.nD Cert.Kernel10.τ).loc Cert.Kernel10.main_arg0)
      ∧ r.2.mem ((c.tc : Thread Cert.Kernel10.nD Cert.Kernel10.τ).loc Cert.Kernel10.main_arg1) = m ((c.tc : Thread Cert.Kernel10.nD Cert.Kernel10.τ).loc Cert.Kernel10.main_arg1)
      ∧ r.2.mem ((c.tc : Thread Cert.Kernel10.nD Cert.Kernel10.τ).loc Cert.Kernel10.main_arg2) = m ((c.tc : Thread Cert.Kernel10.nD Cert.Kernel10.τ).loc Cert.Kernel10.main_arg2)
      ∧ r.2.mem ((c.tc : Thread Cert.Kernel10.nD Cert.Kernel10.τ).loc Cert.Kernel10.main_arg3) = m ((c.tc : Thread Cert.Kernel10.nD Cert.Kernel10.τ).loc Cert.Kernel10.main_arg3)
      ∧ r.2.mem ((c.tc : Thread Cert.Kernel10.nD Cert.Kernel10.τ).loc Cert.Kernel10.main_arg4) = m ((c.tc : Thread Cert.Kernel10.nD Cert.Kernel10.τ).loc Cert.Kernel10.main_arg4)
      ∧ r.2.mem ((c.tc : Thread Cert.Kernel10.nD Cert.Kernel10.τ).loc Cert.Kernel10.main_arg5) = m ((c.tc : Thread Cert.Kernel10.nD Cert.Kernel10.τ).loc Cert.Kernel10.main_arg5)
      ∧ r.2.mem ((c.tc : Thread Cert.Kernel10.nD Cert.Kernel10.τ).loc Cert.Kernel10.main_arg6) = m ((c.tc : Thread Cert.Kernel10.nD Cert.Kernel10.τ).loc Cert.Kernel10.main_arg6)
      ∧ r.2.mem ((c.tc : Thread Cert.Kernel10.nD Cert.Kernel10.τ).loc Cert.Kernel10.main_arg7) = m ((c.tc : Thread Cert.Kernel10.nD Cert.Kernel10.τ).loc Cert.Kernel10.main_arg7)
      ∧ r.2.mem ((c.tc : Thread Cert.Kernel10.nD Cert.Kernel10.τ).loc Cert.Kernel10.main_arg8) = m ((c.tc : Thread Cert.Kernel10.nD Cert.Kernel10.τ).loc Cert.Kernel10.main_arg8))
      ∧ r.2.sem = fun _ => 0)

def quiescent_Kernel10Ideal [hKernel10Ideal : Cert.Kernel10Ideal.Facts] : Prop :=
  ∀ (m : (ℓ : Loc Cert.Kernel10Ideal.nD Cert.Kernel10Ideal.τ Cert.Kernel10Ideal.sig) → Buf (Elt Ideal) ℓ) (g : Dev Cert.Kernel10Ideal.nD → PrngReg), Pre_Kernel10Ideal m →
    θ_run (Cert.Kernel10Ideal.defs (F := Ideal)) (onTc (τ := Cert.Kernel10Ideal.τ) (Cert.Kernel10Ideal.main (F := Ideal))) ⟨m, fun _ => 0, g⟩ (fun r => (∀ c : Dev Cert.Kernel10Ideal.nD,
      r.2.mem ((c.tc : Thread Cert.Kernel10Ideal.nD Cert.Kernel10Ideal.τ).loc Cert.Kernel10Ideal.main_arg0) = m ((c.tc : Thread Cert.Kernel10Ideal.nD Cert.Kernel10Ideal.τ).loc Cert.Kernel10Ideal.main_arg0)
      ∧ r.2.mem ((c.tc : Thread Cert.Kernel10Ideal.nD Cert.Kernel10Ideal.τ).loc Cert.Kernel10Ideal.main_arg1) = m ((c.tc : Thread Cert.Kernel10Ideal.nD Cert.Kernel10Ideal.τ).loc Cert.Kernel10Ideal.main_arg1)
      ∧ r.2.mem ((c.tc : Thread Cert.Kernel10Ideal.nD Cert.Kernel10Ideal.τ).loc Cert.Kernel10Ideal.main_arg2) = m ((c.tc : Thread Cert.Kernel10Ideal.nD Cert.Kernel10Ideal.τ).loc Cert.Kernel10Ideal.main_arg2)
      ∧ r.2.mem ((c.tc : Thread Cert.Kernel10Ideal.nD Cert.Kernel10Ideal.τ).loc Cert.Kernel10Ideal.main_arg3) = m ((c.tc : Thread Cert.Kernel10Ideal.nD Cert.Kernel10Ideal.τ).loc Cert.Kernel10Ideal.main_arg3)
      ∧ r.2.mem ((c.tc : Thread Cert.Kernel10Ideal.nD Cert.Kernel10Ideal.τ).loc Cert.Kernel10Ideal.main_arg4) = m ((c.tc : Thread Cert.Kernel10Ideal.nD Cert.Kernel10Ideal.τ).loc Cert.Kernel10Ideal.main_arg4)
      ∧ r.2.mem ((c.tc : Thread Cert.Kernel10Ideal.nD Cert.Kernel10Ideal.τ).loc Cert.Kernel10Ideal.main_arg5) = m ((c.tc : Thread Cert.Kernel10Ideal.nD Cert.Kernel10Ideal.τ).loc Cert.Kernel10Ideal.main_arg5)
      ∧ r.2.mem ((c.tc : Thread Cert.Kernel10Ideal.nD Cert.Kernel10Ideal.τ).loc Cert.Kernel10Ideal.main_arg6) = m ((c.tc : Thread Cert.Kernel10Ideal.nD Cert.Kernel10Ideal.τ).loc Cert.Kernel10Ideal.main_arg6)
      ∧ r.2.mem ((c.tc : Thread Cert.Kernel10Ideal.nD Cert.Kernel10Ideal.τ).loc Cert.Kernel10Ideal.main_arg7) = m ((c.tc : Thread Cert.Kernel10Ideal.nD Cert.Kernel10Ideal.τ).loc Cert.Kernel10Ideal.main_arg7)
      ∧ r.2.mem ((c.tc : Thread Cert.Kernel10Ideal.nD Cert.Kernel10Ideal.τ).loc Cert.Kernel10Ideal.main_arg8) = m ((c.tc : Thread Cert.Kernel10Ideal.nD Cert.Kernel10Ideal.τ).loc Cert.Kernel10Ideal.main_arg8))
      ∧ r.2.sem = fun _ => 0)

def quiescent_Kernel10Ideal_pre_finite10 [hKernel10Ideal : Cert.Kernel10Ideal.Facts] [hPre_finite10 : Cert.Pre_finite10.Facts] : Prop :=
  ∀ (m : (ℓ : Loc Cert.Kernel10Ideal.nD Cert.Kernel10Ideal.τ Cert.Kernel10Ideal.sig) → Buf (Elt Ideal) ℓ) (g : Dev Cert.Kernel10Ideal.nD → PrngReg), Pre_Kernel10Ideal_finite10 m →
    θ_run (Cert.Kernel10Ideal.defs (F := Ideal)) (onTc (τ := Cert.Kernel10Ideal.τ) (Cert.Kernel10Ideal.main (F := Ideal))) ⟨m, fun _ => 0, g⟩ (fun r => (∀ c : Dev Cert.Kernel10Ideal.nD,
      r.2.mem ((c.tc : Thread Cert.Kernel10Ideal.nD Cert.Kernel10Ideal.τ).loc Cert.Kernel10Ideal.main_arg0) = m ((c.tc : Thread Cert.Kernel10Ideal.nD Cert.Kernel10Ideal.τ).loc Cert.Kernel10Ideal.main_arg0)
      ∧ r.2.mem ((c.tc : Thread Cert.Kernel10Ideal.nD Cert.Kernel10Ideal.τ).loc Cert.Kernel10Ideal.main_arg1) = m ((c.tc : Thread Cert.Kernel10Ideal.nD Cert.Kernel10Ideal.τ).loc Cert.Kernel10Ideal.main_arg1)
      ∧ r.2.mem ((c.tc : Thread Cert.Kernel10Ideal.nD Cert.Kernel10Ideal.τ).loc Cert.Kernel10Ideal.main_arg2) = m ((c.tc : Thread Cert.Kernel10Ideal.nD Cert.Kernel10Ideal.τ).loc Cert.Kernel10Ideal.main_arg2)
      ∧ r.2.mem ((c.tc : Thread Cert.Kernel10Ideal.nD Cert.Kernel10Ideal.τ).loc Cert.Kernel10Ideal.main_arg3) = m ((c.tc : Thread Cert.Kernel10Ideal.nD Cert.Kernel10Ideal.τ).loc Cert.Kernel10Ideal.main_arg3)
      ∧ r.2.mem ((c.tc : Thread Cert.Kernel10Ideal.nD Cert.Kernel10Ideal.τ).loc Cert.Kernel10Ideal.main_arg4) = m ((c.tc : Thread Cert.Kernel10Ideal.nD Cert.Kernel10Ideal.τ).loc Cert.Kernel10Ideal.main_arg4)
      ∧ r.2.mem ((c.tc : Thread Cert.Kernel10Ideal.nD Cert.Kernel10Ideal.τ).loc Cert.Kernel10Ideal.main_arg5) = m ((c.tc : Thread Cert.Kernel10Ideal.nD Cert.Kernel10Ideal.τ).loc Cert.Kernel10Ideal.main_arg5)
      ∧ r.2.mem ((c.tc : Thread Cert.Kernel10Ideal.nD Cert.Kernel10Ideal.τ).loc Cert.Kernel10Ideal.main_arg6) = m ((c.tc : Thread Cert.Kernel10Ideal.nD Cert.Kernel10Ideal.τ).loc Cert.Kernel10Ideal.main_arg6)
      ∧ r.2.mem ((c.tc : Thread Cert.Kernel10Ideal.nD Cert.Kernel10Ideal.τ).loc Cert.Kernel10Ideal.main_arg7) = m ((c.tc : Thread Cert.Kernel10Ideal.nD Cert.Kernel10Ideal.τ).loc Cert.Kernel10Ideal.main_arg7)
      ∧ r.2.mem ((c.tc : Thread Cert.Kernel10Ideal.nD Cert.Kernel10Ideal.τ).loc Cert.Kernel10Ideal.main_arg8) = m ((c.tc : Thread Cert.Kernel10Ideal.nD Cert.Kernel10Ideal.τ).loc Cert.Kernel10Ideal.main_arg8))
      ∧ r.2.sem = fun _ => 0)

def quiescent_Reference10Ideal [hReference10Ideal : Cert.Reference10Ideal.Facts] : Prop :=
  ∀ (m : (ℓ : Loc Cert.Reference10Ideal.nD Cert.Reference10Ideal.τ Cert.Reference10Ideal.sig) → Buf (Elt Ideal) ℓ) (g : Dev Cert.Reference10Ideal.nD → PrngReg), Pre_Reference10Ideal m →
    θ_run (Cert.Reference10Ideal.defs (F := Ideal)) (onTc (τ := Cert.Reference10Ideal.τ) (Cert.Reference10Ideal.main (F := Ideal))) ⟨m, fun _ => 0, g⟩ (fun r => (∀ c : Dev Cert.Reference10Ideal.nD,
      r.2.mem ((c.tc : Thread Cert.Reference10Ideal.nD Cert.Reference10Ideal.τ).loc Cert.Reference10Ideal.main_arg0) = m ((c.tc : Thread Cert.Reference10Ideal.nD Cert.Reference10Ideal.τ).loc Cert.Reference10Ideal.main_arg0)
      ∧ r.2.mem ((c.tc : Thread Cert.Reference10Ideal.nD Cert.Reference10Ideal.τ).loc Cert.Reference10Ideal.main_arg1) = m ((c.tc : Thread Cert.Reference10Ideal.nD Cert.Reference10Ideal.τ).loc Cert.Reference10Ideal.main_arg1)
      ∧ r.2.mem ((c.tc : Thread Cert.Reference10Ideal.nD Cert.Reference10Ideal.τ).loc Cert.Reference10Ideal.main_arg2) = m ((c.tc : Thread Cert.Reference10Ideal.nD Cert.Reference10Ideal.τ).loc Cert.Reference10Ideal.main_arg2)
      ∧ r.2.mem ((c.tc : Thread Cert.Reference10Ideal.nD Cert.Reference10Ideal.τ).loc Cert.Reference10Ideal.main_arg3) = m ((c.tc : Thread Cert.Reference10Ideal.nD Cert.Reference10Ideal.τ).loc Cert.Reference10Ideal.main_arg3)
      ∧ r.2.mem ((c.tc : Thread Cert.Reference10Ideal.nD Cert.Reference10Ideal.τ).loc Cert.Reference10Ideal.main_arg4) = m ((c.tc : Thread Cert.Reference10Ideal.nD Cert.Reference10Ideal.τ).loc Cert.Reference10Ideal.main_arg4)
      ∧ r.2.mem ((c.tc : Thread Cert.Reference10Ideal.nD Cert.Reference10Ideal.τ).loc Cert.Reference10Ideal.main_arg5) = m ((c.tc : Thread Cert.Reference10Ideal.nD Cert.Reference10Ideal.τ).loc Cert.Reference10Ideal.main_arg5)
      ∧ r.2.mem ((c.tc : Thread Cert.Reference10Ideal.nD Cert.Reference10Ideal.τ).loc Cert.Reference10Ideal.main_arg6) = m ((c.tc : Thread Cert.Reference10Ideal.nD Cert.Reference10Ideal.τ).loc Cert.Reference10Ideal.main_arg6)
      ∧ r.2.mem ((c.tc : Thread Cert.Reference10Ideal.nD Cert.Reference10Ideal.τ).loc Cert.Reference10Ideal.main_arg7) = m ((c.tc : Thread Cert.Reference10Ideal.nD Cert.Reference10Ideal.τ).loc Cert.Reference10Ideal.main_arg7)
      ∧ r.2.mem ((c.tc : Thread Cert.Reference10Ideal.nD Cert.Reference10Ideal.τ).loc Cert.Reference10Ideal.main_arg8) = m ((c.tc : Thread Cert.Reference10Ideal.nD Cert.Reference10Ideal.τ).loc Cert.Reference10Ideal.main_arg8))
      ∧ r.2.sem = fun _ => 0)

def quiescent_Reference10Ideal_pre_finite10 [hReference10Ideal : Cert.Reference10Ideal.Facts] [hPre_finite10 : Cert.Pre_finite10.Facts] : Prop :=
  ∀ (m : (ℓ : Loc Cert.Reference10Ideal.nD Cert.Reference10Ideal.τ Cert.Reference10Ideal.sig) → Buf (Elt Ideal) ℓ) (g : Dev Cert.Reference10Ideal.nD → PrngReg), Pre_Reference10Ideal_finite10 m →
    θ_run (Cert.Reference10Ideal.defs (F := Ideal)) (onTc (τ := Cert.Reference10Ideal.τ) (Cert.Reference10Ideal.main (F := Ideal))) ⟨m, fun _ => 0, g⟩ (fun r => (∀ c : Dev Cert.Reference10Ideal.nD,
      r.2.mem ((c.tc : Thread Cert.Reference10Ideal.nD Cert.Reference10Ideal.τ).loc Cert.Reference10Ideal.main_arg0) = m ((c.tc : Thread Cert.Reference10Ideal.nD Cert.Reference10Ideal.τ).loc Cert.Reference10Ideal.main_arg0)
      ∧ r.2.mem ((c.tc : Thread Cert.Reference10Ideal.nD Cert.Reference10Ideal.τ).loc Cert.Reference10Ideal.main_arg1) = m ((c.tc : Thread Cert.Reference10Ideal.nD Cert.Reference10Ideal.τ).loc Cert.Reference10Ideal.main_arg1)
      ∧ r.2.mem ((c.tc : Thread Cert.Reference10Ideal.nD Cert.Reference10Ideal.τ).loc Cert.Reference10Ideal.main_arg2) = m ((c.tc : Thread Cert.Reference10Ideal.nD Cert.Reference10Ideal.τ).loc Cert.Reference10Ideal.main_arg2)
      ∧ r.2.mem ((c.tc : Thread Cert.Reference10Ideal.nD Cert.Reference10Ideal.τ).loc Cert.Reference10Ideal.main_arg3) = m ((c.tc : Thread Cert.Reference10Ideal.nD Cert.Reference10Ideal.τ).loc Cert.Reference10Ideal.main_arg3)
      ∧ r.2.mem ((c.tc : Thread Cert.Reference10Ideal.nD Cert.Reference10Ideal.τ).loc Cert.Reference10Ideal.main_arg4) = m ((c.tc : Thread Cert.Reference10Ideal.nD Cert.Reference10Ideal.τ).loc Cert.Reference10Ideal.main_arg4)
      ∧ r.2.mem ((c.tc : Thread Cert.Reference10Ideal.nD Cert.Reference10Ideal.τ).loc Cert.Reference10Ideal.main_arg5) = m ((c.tc : Thread Cert.Reference10Ideal.nD Cert.Reference10Ideal.τ).loc Cert.Reference10Ideal.main_arg5)
      ∧ r.2.mem ((c.tc : Thread Cert.Reference10Ideal.nD Cert.Reference10Ideal.τ).loc Cert.Reference10Ideal.main_arg6) = m ((c.tc : Thread Cert.Reference10Ideal.nD Cert.Reference10Ideal.τ).loc Cert.Reference10Ideal.main_arg6)
      ∧ r.2.mem ((c.tc : Thread Cert.Reference10Ideal.nD Cert.Reference10Ideal.τ).loc Cert.Reference10Ideal.main_arg7) = m ((c.tc : Thread Cert.Reference10Ideal.nD Cert.Reference10Ideal.τ).loc Cert.Reference10Ideal.main_arg7)
      ∧ r.2.mem ((c.tc : Thread Cert.Reference10Ideal.nD Cert.Reference10Ideal.τ).loc Cert.Reference10Ideal.main_arg8) = m ((c.tc : Thread Cert.Reference10Ideal.nD Cert.Reference10Ideal.τ).loc Cert.Reference10Ideal.main_arg8))
      ∧ r.2.sem = fun _ => 0)

def quiescent_Kernel11 [hKernel11 : Cert.Kernel11.Facts] : Prop :=
  ∀ (m : (ℓ : Loc Cert.Kernel11.nD Cert.Kernel11.τ Cert.Kernel11.sig) → Buf (Elt Bits) ℓ) (g : Dev Cert.Kernel11.nD → PrngReg), Pre_Kernel11 m →
    θ_run (Cert.Kernel11.defs (F := Bits)) (onTc (τ := Cert.Kernel11.τ) (Cert.Kernel11.main (F := Bits))) ⟨m, fun _ => 0, g⟩ (fun r => (∀ c : Dev Cert.Kernel11.nD,
      r.2.mem ((c.tc : Thread Cert.Kernel11.nD Cert.Kernel11.τ).loc Cert.Kernel11.main_arg0) = m ((c.tc : Thread Cert.Kernel11.nD Cert.Kernel11.τ).loc Cert.Kernel11.main_arg0)
      ∧ r.2.mem ((c.tc : Thread Cert.Kernel11.nD Cert.Kernel11.τ).loc Cert.Kernel11.main_arg1) = m ((c.tc : Thread Cert.Kernel11.nD Cert.Kernel11.τ).loc Cert.Kernel11.main_arg1)
      ∧ r.2.mem ((c.tc : Thread Cert.Kernel11.nD Cert.Kernel11.τ).loc Cert.Kernel11.main_arg2) = m ((c.tc : Thread Cert.Kernel11.nD Cert.Kernel11.τ).loc Cert.Kernel11.main_arg2)
      ∧ r.2.mem ((c.tc : Thread Cert.Kernel11.nD Cert.Kernel11.τ).loc Cert.Kernel11.main_arg3) = m ((c.tc : Thread Cert.Kernel11.nD Cert.Kernel11.τ).loc Cert.Kernel11.main_arg3)
      ∧ r.2.mem ((c.tc : Thread Cert.Kernel11.nD Cert.Kernel11.τ).loc Cert.Kernel11.main_arg4) = m ((c.tc : Thread Cert.Kernel11.nD Cert.Kernel11.τ).loc Cert.Kernel11.main_arg4)
      ∧ r.2.mem ((c.tc : Thread Cert.Kernel11.nD Cert.Kernel11.τ).loc Cert.Kernel11.main_arg5) = m ((c.tc : Thread Cert.Kernel11.nD Cert.Kernel11.τ).loc Cert.Kernel11.main_arg5))
      ∧ r.2.sem = fun _ => 0)

def quiescent_Kernel11Ideal [hKernel11Ideal : Cert.Kernel11Ideal.Facts] : Prop :=
  ∀ (m : (ℓ : Loc Cert.Kernel11Ideal.nD Cert.Kernel11Ideal.τ Cert.Kernel11Ideal.sig) → Buf (Elt Ideal) ℓ) (g : Dev Cert.Kernel11Ideal.nD → PrngReg), Pre_Kernel11Ideal m →
    θ_run (Cert.Kernel11Ideal.defs (F := Ideal)) (onTc (τ := Cert.Kernel11Ideal.τ) (Cert.Kernel11Ideal.main (F := Ideal))) ⟨m, fun _ => 0, g⟩ (fun r => (∀ c : Dev Cert.Kernel11Ideal.nD,
      r.2.mem ((c.tc : Thread Cert.Kernel11Ideal.nD Cert.Kernel11Ideal.τ).loc Cert.Kernel11Ideal.main_arg0) = m ((c.tc : Thread Cert.Kernel11Ideal.nD Cert.Kernel11Ideal.τ).loc Cert.Kernel11Ideal.main_arg0)
      ∧ r.2.mem ((c.tc : Thread Cert.Kernel11Ideal.nD Cert.Kernel11Ideal.τ).loc Cert.Kernel11Ideal.main_arg1) = m ((c.tc : Thread Cert.Kernel11Ideal.nD Cert.Kernel11Ideal.τ).loc Cert.Kernel11Ideal.main_arg1)
      ∧ r.2.mem ((c.tc : Thread Cert.Kernel11Ideal.nD Cert.Kernel11Ideal.τ).loc Cert.Kernel11Ideal.main_arg2) = m ((c.tc : Thread Cert.Kernel11Ideal.nD Cert.Kernel11Ideal.τ).loc Cert.Kernel11Ideal.main_arg2)
      ∧ r.2.mem ((c.tc : Thread Cert.Kernel11Ideal.nD Cert.Kernel11Ideal.τ).loc Cert.Kernel11Ideal.main_arg3) = m ((c.tc : Thread Cert.Kernel11Ideal.nD Cert.Kernel11Ideal.τ).loc Cert.Kernel11Ideal.main_arg3)
      ∧ r.2.mem ((c.tc : Thread Cert.Kernel11Ideal.nD Cert.Kernel11Ideal.τ).loc Cert.Kernel11Ideal.main_arg4) = m ((c.tc : Thread Cert.Kernel11Ideal.nD Cert.Kernel11Ideal.τ).loc Cert.Kernel11Ideal.main_arg4)
      ∧ r.2.mem ((c.tc : Thread Cert.Kernel11Ideal.nD Cert.Kernel11Ideal.τ).loc Cert.Kernel11Ideal.main_arg5) = m ((c.tc : Thread Cert.Kernel11Ideal.nD Cert.Kernel11Ideal.τ).loc Cert.Kernel11Ideal.main_arg5))
      ∧ r.2.sem = fun _ => 0)

def quiescent_Reference11Ideal [hReference11Ideal : Cert.Reference11Ideal.Facts] : Prop :=
  ∀ (m : (ℓ : Loc Cert.Reference11Ideal.nD Cert.Reference11Ideal.τ Cert.Reference11Ideal.sig) → Buf (Elt Ideal) ℓ) (g : Dev Cert.Reference11Ideal.nD → PrngReg), Pre_Reference11Ideal m →
    θ_run (Cert.Reference11Ideal.defs (F := Ideal)) (onTc (τ := Cert.Reference11Ideal.τ) (Cert.Reference11Ideal.main (F := Ideal))) ⟨m, fun _ => 0, g⟩ (fun r => (∀ c : Dev Cert.Reference11Ideal.nD,
      r.2.mem ((c.tc : Thread Cert.Reference11Ideal.nD Cert.Reference11Ideal.τ).loc Cert.Reference11Ideal.main_arg0) = m ((c.tc : Thread Cert.Reference11Ideal.nD Cert.Reference11Ideal.τ).loc Cert.Reference11Ideal.main_arg0)
      ∧ r.2.mem ((c.tc : Thread Cert.Reference11Ideal.nD Cert.Reference11Ideal.τ).loc Cert.Reference11Ideal.main_arg1) = m ((c.tc : Thread Cert.Reference11Ideal.nD Cert.Reference11Ideal.τ).loc Cert.Reference11Ideal.main_arg1)
      ∧ r.2.mem ((c.tc : Thread Cert.Reference11Ideal.nD Cert.Reference11Ideal.τ).loc Cert.Reference11Ideal.main_arg2) = m ((c.tc : Thread Cert.Reference11Ideal.nD Cert.Reference11Ideal.τ).loc Cert.Reference11Ideal.main_arg2)
      ∧ r.2.mem ((c.tc : Thread Cert.Reference11Ideal.nD Cert.Reference11Ideal.τ).loc Cert.Reference11Ideal.main_arg3) = m ((c.tc : Thread Cert.Reference11Ideal.nD Cert.Reference11Ideal.τ).loc Cert.Reference11Ideal.main_arg3)
      ∧ r.2.mem ((c.tc : Thread Cert.Reference11Ideal.nD Cert.Reference11Ideal.τ).loc Cert.Reference11Ideal.main_arg4) = m ((c.tc : Thread Cert.Reference11Ideal.nD Cert.Reference11Ideal.τ).loc Cert.Reference11Ideal.main_arg4)
      ∧ r.2.mem ((c.tc : Thread Cert.Reference11Ideal.nD Cert.Reference11Ideal.τ).loc Cert.Reference11Ideal.main_arg5) = m ((c.tc : Thread Cert.Reference11Ideal.nD Cert.Reference11Ideal.τ).loc Cert.Reference11Ideal.main_arg5))
      ∧ r.2.sem = fun _ => 0)

def quiescent_Kernel12 [hKernel12 : Cert.Kernel12.Facts] : Prop :=
  ∀ (m : (ℓ : Loc Cert.Kernel12.nD Cert.Kernel12.τ Cert.Kernel12.sig) → Buf (Elt Bits) ℓ) (g : Dev Cert.Kernel12.nD → PrngReg), Pre_Kernel12 m →
    θ_run (Cert.Kernel12.defs (F := Bits)) (onTc (τ := Cert.Kernel12.τ) (Cert.Kernel12.main (F := Bits))) ⟨m, fun _ => 0, g⟩ (fun r => (∀ c : Dev Cert.Kernel12.nD,
      r.2.mem ((c.tc : Thread Cert.Kernel12.nD Cert.Kernel12.τ).loc Cert.Kernel12.main_arg0) = m ((c.tc : Thread Cert.Kernel12.nD Cert.Kernel12.τ).loc Cert.Kernel12.main_arg0)
      ∧ r.2.mem ((c.tc : Thread Cert.Kernel12.nD Cert.Kernel12.τ).loc Cert.Kernel12.main_arg1) = m ((c.tc : Thread Cert.Kernel12.nD Cert.Kernel12.τ).loc Cert.Kernel12.main_arg1))
      ∧ r.2.sem = fun _ => 0)

def quiescent_Kernel12Ideal [hKernel12Ideal : Cert.Kernel12Ideal.Facts] : Prop :=
  ∀ (m : (ℓ : Loc Cert.Kernel12Ideal.nD Cert.Kernel12Ideal.τ Cert.Kernel12Ideal.sig) → Buf (Elt Ideal) ℓ) (g : Dev Cert.Kernel12Ideal.nD → PrngReg), Pre_Kernel12Ideal m →
    θ_run (Cert.Kernel12Ideal.defs (F := Ideal)) (onTc (τ := Cert.Kernel12Ideal.τ) (Cert.Kernel12Ideal.main (F := Ideal))) ⟨m, fun _ => 0, g⟩ (fun r => (∀ c : Dev Cert.Kernel12Ideal.nD,
      r.2.mem ((c.tc : Thread Cert.Kernel12Ideal.nD Cert.Kernel12Ideal.τ).loc Cert.Kernel12Ideal.main_arg0) = m ((c.tc : Thread Cert.Kernel12Ideal.nD Cert.Kernel12Ideal.τ).loc Cert.Kernel12Ideal.main_arg0)
      ∧ r.2.mem ((c.tc : Thread Cert.Kernel12Ideal.nD Cert.Kernel12Ideal.τ).loc Cert.Kernel12Ideal.main_arg1) = m ((c.tc : Thread Cert.Kernel12Ideal.nD Cert.Kernel12Ideal.τ).loc Cert.Kernel12Ideal.main_arg1))
      ∧ r.2.sem = fun _ => 0)

def quiescent_Reference12Ideal [hReference12Ideal : Cert.Reference12Ideal.Facts] : Prop :=
  ∀ (m : (ℓ : Loc Cert.Reference12Ideal.nD Cert.Reference12Ideal.τ Cert.Reference12Ideal.sig) → Buf (Elt Ideal) ℓ) (g : Dev Cert.Reference12Ideal.nD → PrngReg), Pre_Reference12Ideal m →
    θ_run (Cert.Reference12Ideal.defs (F := Ideal)) (onTc (τ := Cert.Reference12Ideal.τ) (Cert.Reference12Ideal.main (F := Ideal))) ⟨m, fun _ => 0, g⟩ (fun r => (∀ c : Dev Cert.Reference12Ideal.nD,
      r.2.mem ((c.tc : Thread Cert.Reference12Ideal.nD Cert.Reference12Ideal.τ).loc Cert.Reference12Ideal.main_arg0) = m ((c.tc : Thread Cert.Reference12Ideal.nD Cert.Reference12Ideal.τ).loc Cert.Reference12Ideal.main_arg0)
      ∧ r.2.mem ((c.tc : Thread Cert.Reference12Ideal.nD Cert.Reference12Ideal.τ).loc Cert.Reference12Ideal.main_arg1) = m ((c.tc : Thread Cert.Reference12Ideal.nD Cert.Reference12Ideal.τ).loc Cert.Reference12Ideal.main_arg1))
      ∧ r.2.sem = fun _ => 0)

def quiescent_Kernel13 [hKernel13 : Cert.Kernel13.Facts] : Prop :=
  ∀ (m : (ℓ : Loc Cert.Kernel13.nD Cert.Kernel13.τ Cert.Kernel13.sig) → Buf (Elt Bits) ℓ) (g : Dev Cert.Kernel13.nD → PrngReg), Pre_Kernel13 m →
    θ_run (Cert.Kernel13.defs (F := Bits)) (onTc (τ := Cert.Kernel13.τ) (Cert.Kernel13.main (F := Bits))) ⟨m, fun _ => 0, g⟩ (fun r => (∀ c : Dev Cert.Kernel13.nD,
      r.2.mem ((c.tc : Thread Cert.Kernel13.nD Cert.Kernel13.τ).loc Cert.Kernel13.main_arg0) = m ((c.tc : Thread Cert.Kernel13.nD Cert.Kernel13.τ).loc Cert.Kernel13.main_arg0)
      ∧ r.2.mem ((c.tc : Thread Cert.Kernel13.nD Cert.Kernel13.τ).loc Cert.Kernel13.main_arg1) = m ((c.tc : Thread Cert.Kernel13.nD Cert.Kernel13.τ).loc Cert.Kernel13.main_arg1))
      ∧ r.2.sem = fun _ => 0)

def quiescent_Kernel13Ideal [hKernel13Ideal : Cert.Kernel13Ideal.Facts] : Prop :=
  ∀ (m : (ℓ : Loc Cert.Kernel13Ideal.nD Cert.Kernel13Ideal.τ Cert.Kernel13Ideal.sig) → Buf (Elt Ideal) ℓ) (g : Dev Cert.Kernel13Ideal.nD → PrngReg), Pre_Kernel13Ideal m →
    θ_run (Cert.Kernel13Ideal.defs (F := Ideal)) (onTc (τ := Cert.Kernel13Ideal.τ) (Cert.Kernel13Ideal.main (F := Ideal))) ⟨m, fun _ => 0, g⟩ (fun r => (∀ c : Dev Cert.Kernel13Ideal.nD,
      r.2.mem ((c.tc : Thread Cert.Kernel13Ideal.nD Cert.Kernel13Ideal.τ).loc Cert.Kernel13Ideal.main_arg0) = m ((c.tc : Thread Cert.Kernel13Ideal.nD Cert.Kernel13Ideal.τ).loc Cert.Kernel13Ideal.main_arg0)
      ∧ r.2.mem ((c.tc : Thread Cert.Kernel13Ideal.nD Cert.Kernel13Ideal.τ).loc Cert.Kernel13Ideal.main_arg1) = m ((c.tc : Thread Cert.Kernel13Ideal.nD Cert.Kernel13Ideal.τ).loc Cert.Kernel13Ideal.main_arg1))
      ∧ r.2.sem = fun _ => 0)

def quiescent_Reference13Ideal [hReference13Ideal : Cert.Reference13Ideal.Facts] : Prop :=
  ∀ (m : (ℓ : Loc Cert.Reference13Ideal.nD Cert.Reference13Ideal.τ Cert.Reference13Ideal.sig) → Buf (Elt Ideal) ℓ) (g : Dev Cert.Reference13Ideal.nD → PrngReg), Pre_Reference13Ideal m →
    θ_run (Cert.Reference13Ideal.defs (F := Ideal)) (onTc (τ := Cert.Reference13Ideal.τ) (Cert.Reference13Ideal.main (F := Ideal))) ⟨m, fun _ => 0, g⟩ (fun r => (∀ c : Dev Cert.Reference13Ideal.nD,
      r.2.mem ((c.tc : Thread Cert.Reference13Ideal.nD Cert.Reference13Ideal.τ).loc Cert.Reference13Ideal.main_arg0) = m ((c.tc : Thread Cert.Reference13Ideal.nD Cert.Reference13Ideal.τ).loc Cert.Reference13Ideal.main_arg0)
      ∧ r.2.mem ((c.tc : Thread Cert.Reference13Ideal.nD Cert.Reference13Ideal.τ).loc Cert.Reference13Ideal.main_arg1) = m ((c.tc : Thread Cert.Reference13Ideal.nD Cert.Reference13Ideal.τ).loc Cert.Reference13Ideal.main_arg1))
      ∧ r.2.sem = fun _ => 0)

def quiescent_Kernel14 [hKernel14 : Cert.Kernel14.Facts] : Prop :=
  ∀ (m : (ℓ : Loc Cert.Kernel14.nD Cert.Kernel14.τ Cert.Kernel14.sig) → Buf (Elt Bits) ℓ) (g : Dev Cert.Kernel14.nD → PrngReg), Pre_Kernel14 m →
    θ_run (Cert.Kernel14.defs (F := Bits)) (onTc (τ := Cert.Kernel14.τ) (Cert.Kernel14.main (F := Bits))) ⟨m, fun _ => 0, g⟩ (fun r => (∀ c : Dev Cert.Kernel14.nD,
      r.2.mem ((c.tc : Thread Cert.Kernel14.nD Cert.Kernel14.τ).loc Cert.Kernel14.main_arg0) = m ((c.tc : Thread Cert.Kernel14.nD Cert.Kernel14.τ).loc Cert.Kernel14.main_arg0)
      ∧ r.2.mem ((c.tc : Thread Cert.Kernel14.nD Cert.Kernel14.τ).loc Cert.Kernel14.main_arg1) = m ((c.tc : Thread Cert.Kernel14.nD Cert.Kernel14.τ).loc Cert.Kernel14.main_arg1)
      ∧ r.2.mem ((c.tc : Thread Cert.Kernel14.nD Cert.Kernel14.τ).loc Cert.Kernel14.main_arg2) = m ((c.tc : Thread Cert.Kernel14.nD Cert.Kernel14.τ).loc Cert.Kernel14.main_arg2)
      ∧ r.2.mem ((c.tc : Thread Cert.Kernel14.nD Cert.Kernel14.τ).loc Cert.Kernel14.main_arg3) = m ((c.tc : Thread Cert.Kernel14.nD Cert.Kernel14.τ).loc Cert.Kernel14.main_arg3)
      ∧ r.2.mem ((c.tc : Thread Cert.Kernel14.nD Cert.Kernel14.τ).loc Cert.Kernel14.main_arg4) = m ((c.tc : Thread Cert.Kernel14.nD Cert.Kernel14.τ).loc Cert.Kernel14.main_arg4))
      ∧ r.2.sem = fun _ => 0)

def quiescent_Kernel14Ideal [hKernel14Ideal : Cert.Kernel14Ideal.Facts] : Prop :=
  ∀ (m : (ℓ : Loc Cert.Kernel14Ideal.nD Cert.Kernel14Ideal.τ Cert.Kernel14Ideal.sig) → Buf (Elt Ideal) ℓ) (g : Dev Cert.Kernel14Ideal.nD → PrngReg), Pre_Kernel14Ideal m →
    θ_run (Cert.Kernel14Ideal.defs (F := Ideal)) (onTc (τ := Cert.Kernel14Ideal.τ) (Cert.Kernel14Ideal.main (F := Ideal))) ⟨m, fun _ => 0, g⟩ (fun r => (∀ c : Dev Cert.Kernel14Ideal.nD,
      r.2.mem ((c.tc : Thread Cert.Kernel14Ideal.nD Cert.Kernel14Ideal.τ).loc Cert.Kernel14Ideal.main_arg0) = m ((c.tc : Thread Cert.Kernel14Ideal.nD Cert.Kernel14Ideal.τ).loc Cert.Kernel14Ideal.main_arg0)
      ∧ r.2.mem ((c.tc : Thread Cert.Kernel14Ideal.nD Cert.Kernel14Ideal.τ).loc Cert.Kernel14Ideal.main_arg1) = m ((c.tc : Thread Cert.Kernel14Ideal.nD Cert.Kernel14Ideal.τ).loc Cert.Kernel14Ideal.main_arg1)
      ∧ r.2.mem ((c.tc : Thread Cert.Kernel14Ideal.nD Cert.Kernel14Ideal.τ).loc Cert.Kernel14Ideal.main_arg2) = m ((c.tc : Thread Cert.Kernel14Ideal.nD Cert.Kernel14Ideal.τ).loc Cert.Kernel14Ideal.main_arg2)
      ∧ r.2.mem ((c.tc : Thread Cert.Kernel14Ideal.nD Cert.Kernel14Ideal.τ).loc Cert.Kernel14Ideal.main_arg3) = m ((c.tc : Thread Cert.Kernel14Ideal.nD Cert.Kernel14Ideal.τ).loc Cert.Kernel14Ideal.main_arg3)
      ∧ r.2.mem ((c.tc : Thread Cert.Kernel14Ideal.nD Cert.Kernel14Ideal.τ).loc Cert.Kernel14Ideal.main_arg4) = m ((c.tc : Thread Cert.Kernel14Ideal.nD Cert.Kernel14Ideal.τ).loc Cert.Kernel14Ideal.main_arg4))
      ∧ r.2.sem = fun _ => 0)

def quiescent_Reference14Ideal [hReference14Ideal : Cert.Reference14Ideal.Facts] : Prop :=
  ∀ (m : (ℓ : Loc Cert.Reference14Ideal.nD Cert.Reference14Ideal.τ Cert.Reference14Ideal.sig) → Buf (Elt Ideal) ℓ) (g : Dev Cert.Reference14Ideal.nD → PrngReg), Pre_Reference14Ideal m →
    θ_run (Cert.Reference14Ideal.defs (F := Ideal)) (onTc (τ := Cert.Reference14Ideal.τ) (Cert.Reference14Ideal.main (F := Ideal))) ⟨m, fun _ => 0, g⟩ (fun r => (∀ c : Dev Cert.Reference14Ideal.nD,
      r.2.mem ((c.tc : Thread Cert.Reference14Ideal.nD Cert.Reference14Ideal.τ).loc Cert.Reference14Ideal.main_arg0) = m ((c.tc : Thread Cert.Reference14Ideal.nD Cert.Reference14Ideal.τ).loc Cert.Reference14Ideal.main_arg0)
      ∧ r.2.mem ((c.tc : Thread Cert.Reference14Ideal.nD Cert.Reference14Ideal.τ).loc Cert.Reference14Ideal.main_arg1) = m ((c.tc : Thread Cert.Reference14Ideal.nD Cert.Reference14Ideal.τ).loc Cert.Reference14Ideal.main_arg1)
      ∧ r.2.mem ((c.tc : Thread Cert.Reference14Ideal.nD Cert.Reference14Ideal.τ).loc Cert.Reference14Ideal.main_arg2) = m ((c.tc : Thread Cert.Reference14Ideal.nD Cert.Reference14Ideal.τ).loc Cert.Reference14Ideal.main_arg2)
      ∧ r.2.mem ((c.tc : Thread Cert.Reference14Ideal.nD Cert.Reference14Ideal.τ).loc Cert.Reference14Ideal.main_arg3) = m ((c.tc : Thread Cert.Reference14Ideal.nD Cert.Reference14Ideal.τ).loc Cert.Reference14Ideal.main_arg3)
      ∧ r.2.mem ((c.tc : Thread Cert.Reference14Ideal.nD Cert.Reference14Ideal.τ).loc Cert.Reference14Ideal.main_arg4) = m ((c.tc : Thread Cert.Reference14Ideal.nD Cert.Reference14Ideal.τ).loc Cert.Reference14Ideal.main_arg4))
      ∧ r.2.sem = fun _ => 0)

def quiescent_Kernel15 [hKernel15 : Cert.Kernel15.Facts] : Prop :=
  ∀ (m : (ℓ : Loc Cert.Kernel15.nD Cert.Kernel15.τ Cert.Kernel15.sig) → Buf (Elt Bits) ℓ) (g : Dev Cert.Kernel15.nD → PrngReg), Pre_Kernel15 m →
    θ_run (Cert.Kernel15.defs (F := Bits)) (onTc (τ := Cert.Kernel15.τ) (Cert.Kernel15.main (F := Bits))) ⟨m, fun _ => 0, g⟩ (fun r => (∀ c : Dev Cert.Kernel15.nD,
      r.2.mem ((c.tc : Thread Cert.Kernel15.nD Cert.Kernel15.τ).loc Cert.Kernel15.main_arg0) = m ((c.tc : Thread Cert.Kernel15.nD Cert.Kernel15.τ).loc Cert.Kernel15.main_arg0)
      ∧ r.2.mem ((c.tc : Thread Cert.Kernel15.nD Cert.Kernel15.τ).loc Cert.Kernel15.main_arg1) = m ((c.tc : Thread Cert.Kernel15.nD Cert.Kernel15.τ).loc Cert.Kernel15.main_arg1)
      ∧ r.2.mem ((c.tc : Thread Cert.Kernel15.nD Cert.Kernel15.τ).loc Cert.Kernel15.main_arg2) = m ((c.tc : Thread Cert.Kernel15.nD Cert.Kernel15.τ).loc Cert.Kernel15.main_arg2)
      ∧ r.2.mem ((c.tc : Thread Cert.Kernel15.nD Cert.Kernel15.τ).loc Cert.Kernel15.main_arg3) = m ((c.tc : Thread Cert.Kernel15.nD Cert.Kernel15.τ).loc Cert.Kernel15.main_arg3)
      ∧ r.2.mem ((c.tc : Thread Cert.Kernel15.nD Cert.Kernel15.τ).loc Cert.Kernel15.main_arg4) = m ((c.tc : Thread Cert.Kernel15.nD Cert.Kernel15.τ).loc Cert.Kernel15.main_arg4))
      ∧ r.2.sem = fun _ => 0)

def quiescent_Kernel15Ideal [hKernel15Ideal : Cert.Kernel15Ideal.Facts] : Prop :=
  ∀ (m : (ℓ : Loc Cert.Kernel15Ideal.nD Cert.Kernel15Ideal.τ Cert.Kernel15Ideal.sig) → Buf (Elt Ideal) ℓ) (g : Dev Cert.Kernel15Ideal.nD → PrngReg), Pre_Kernel15Ideal m →
    θ_run (Cert.Kernel15Ideal.defs (F := Ideal)) (onTc (τ := Cert.Kernel15Ideal.τ) (Cert.Kernel15Ideal.main (F := Ideal))) ⟨m, fun _ => 0, g⟩ (fun r => (∀ c : Dev Cert.Kernel15Ideal.nD,
      r.2.mem ((c.tc : Thread Cert.Kernel15Ideal.nD Cert.Kernel15Ideal.τ).loc Cert.Kernel15Ideal.main_arg0) = m ((c.tc : Thread Cert.Kernel15Ideal.nD Cert.Kernel15Ideal.τ).loc Cert.Kernel15Ideal.main_arg0)
      ∧ r.2.mem ((c.tc : Thread Cert.Kernel15Ideal.nD Cert.Kernel15Ideal.τ).loc Cert.Kernel15Ideal.main_arg1) = m ((c.tc : Thread Cert.Kernel15Ideal.nD Cert.Kernel15Ideal.τ).loc Cert.Kernel15Ideal.main_arg1)
      ∧ r.2.mem ((c.tc : Thread Cert.Kernel15Ideal.nD Cert.Kernel15Ideal.τ).loc Cert.Kernel15Ideal.main_arg2) = m ((c.tc : Thread Cert.Kernel15Ideal.nD Cert.Kernel15Ideal.τ).loc Cert.Kernel15Ideal.main_arg2)
      ∧ r.2.mem ((c.tc : Thread Cert.Kernel15Ideal.nD Cert.Kernel15Ideal.τ).loc Cert.Kernel15Ideal.main_arg3) = m ((c.tc : Thread Cert.Kernel15Ideal.nD Cert.Kernel15Ideal.τ).loc Cert.Kernel15Ideal.main_arg3)
      ∧ r.2.mem ((c.tc : Thread Cert.Kernel15Ideal.nD Cert.Kernel15Ideal.τ).loc Cert.Kernel15Ideal.main_arg4) = m ((c.tc : Thread Cert.Kernel15Ideal.nD Cert.Kernel15Ideal.τ).loc Cert.Kernel15Ideal.main_arg4))
      ∧ r.2.sem = fun _ => 0)

def quiescent_Kernel15Ideal_pre_finite15 [hKernel15Ideal : Cert.Kernel15Ideal.Facts] [hPre_finite15 : Cert.Pre_finite15.Facts] : Prop :=
  ∀ (m : (ℓ : Loc Cert.Kernel15Ideal.nD Cert.Kernel15Ideal.τ Cert.Kernel15Ideal.sig) → Buf (Elt Ideal) ℓ) (g : Dev Cert.Kernel15Ideal.nD → PrngReg), Pre_Kernel15Ideal_finite15 m →
    θ_run (Cert.Kernel15Ideal.defs (F := Ideal)) (onTc (τ := Cert.Kernel15Ideal.τ) (Cert.Kernel15Ideal.main (F := Ideal))) ⟨m, fun _ => 0, g⟩ (fun r => (∀ c : Dev Cert.Kernel15Ideal.nD,
      r.2.mem ((c.tc : Thread Cert.Kernel15Ideal.nD Cert.Kernel15Ideal.τ).loc Cert.Kernel15Ideal.main_arg0) = m ((c.tc : Thread Cert.Kernel15Ideal.nD Cert.Kernel15Ideal.τ).loc Cert.Kernel15Ideal.main_arg0)
      ∧ r.2.mem ((c.tc : Thread Cert.Kernel15Ideal.nD Cert.Kernel15Ideal.τ).loc Cert.Kernel15Ideal.main_arg1) = m ((c.tc : Thread Cert.Kernel15Ideal.nD Cert.Kernel15Ideal.τ).loc Cert.Kernel15Ideal.main_arg1)
      ∧ r.2.mem ((c.tc : Thread Cert.Kernel15Ideal.nD Cert.Kernel15Ideal.τ).loc Cert.Kernel15Ideal.main_arg2) = m ((c.tc : Thread Cert.Kernel15Ideal.nD Cert.Kernel15Ideal.τ).loc Cert.Kernel15Ideal.main_arg2)
      ∧ r.2.mem ((c.tc : Thread Cert.Kernel15Ideal.nD Cert.Kernel15Ideal.τ).loc Cert.Kernel15Ideal.main_arg3) = m ((c.tc : Thread Cert.Kernel15Ideal.nD Cert.Kernel15Ideal.τ).loc Cert.Kernel15Ideal.main_arg3)
      ∧ r.2.mem ((c.tc : Thread Cert.Kernel15Ideal.nD Cert.Kernel15Ideal.τ).loc Cert.Kernel15Ideal.main_arg4) = m ((c.tc : Thread Cert.Kernel15Ideal.nD Cert.Kernel15Ideal.τ).loc Cert.Kernel15Ideal.main_arg4))
      ∧ r.2.sem = fun _ => 0)

def quiescent_Reference15Ideal [hReference15Ideal : Cert.Reference15Ideal.Facts] : Prop :=
  ∀ (m : (ℓ : Loc Cert.Reference15Ideal.nD Cert.Reference15Ideal.τ Cert.Reference15Ideal.sig) → Buf (Elt Ideal) ℓ) (g : Dev Cert.Reference15Ideal.nD → PrngReg), Pre_Reference15Ideal m →
    θ_run (Cert.Reference15Ideal.defs (F := Ideal)) (onTc (τ := Cert.Reference15Ideal.τ) (Cert.Reference15Ideal.main (F := Ideal))) ⟨m, fun _ => 0, g⟩ (fun r => (∀ c : Dev Cert.Reference15Ideal.nD,
      r.2.mem ((c.tc : Thread Cert.Reference15Ideal.nD Cert.Reference15Ideal.τ).loc Cert.Reference15Ideal.main_arg0) = m ((c.tc : Thread Cert.Reference15Ideal.nD Cert.Reference15Ideal.τ).loc Cert.Reference15Ideal.main_arg0)
      ∧ r.2.mem ((c.tc : Thread Cert.Reference15Ideal.nD Cert.Reference15Ideal.τ).loc Cert.Reference15Ideal.main_arg1) = m ((c.tc : Thread Cert.Reference15Ideal.nD Cert.Reference15Ideal.τ).loc Cert.Reference15Ideal.main_arg1)
      ∧ r.2.mem ((c.tc : Thread Cert.Reference15Ideal.nD Cert.Reference15Ideal.τ).loc Cert.Reference15Ideal.main_arg2) = m ((c.tc : Thread Cert.Reference15Ideal.nD Cert.Reference15Ideal.τ).loc Cert.Reference15Ideal.main_arg2)
      ∧ r.2.mem ((c.tc : Thread Cert.Reference15Ideal.nD Cert.Reference15Ideal.τ).loc Cert.Reference15Ideal.main_arg3) = m ((c.tc : Thread Cert.Reference15Ideal.nD Cert.Reference15Ideal.τ).loc Cert.Reference15Ideal.main_arg3)
      ∧ r.2.mem ((c.tc : Thread Cert.Reference15Ideal.nD Cert.Reference15Ideal.τ).loc Cert.Reference15Ideal.main_arg4) = m ((c.tc : Thread Cert.Reference15Ideal.nD Cert.Reference15Ideal.τ).loc Cert.Reference15Ideal.main_arg4))
      ∧ r.2.sem = fun _ => 0)

def quiescent_Reference15Ideal_pre_finite15 [hReference15Ideal : Cert.Reference15Ideal.Facts] [hPre_finite15 : Cert.Pre_finite15.Facts] : Prop :=
  ∀ (m : (ℓ : Loc Cert.Reference15Ideal.nD Cert.Reference15Ideal.τ Cert.Reference15Ideal.sig) → Buf (Elt Ideal) ℓ) (g : Dev Cert.Reference15Ideal.nD → PrngReg), Pre_Reference15Ideal_finite15 m →
    θ_run (Cert.Reference15Ideal.defs (F := Ideal)) (onTc (τ := Cert.Reference15Ideal.τ) (Cert.Reference15Ideal.main (F := Ideal))) ⟨m, fun _ => 0, g⟩ (fun r => (∀ c : Dev Cert.Reference15Ideal.nD,
      r.2.mem ((c.tc : Thread Cert.Reference15Ideal.nD Cert.Reference15Ideal.τ).loc Cert.Reference15Ideal.main_arg0) = m ((c.tc : Thread Cert.Reference15Ideal.nD Cert.Reference15Ideal.τ).loc Cert.Reference15Ideal.main_arg0)
      ∧ r.2.mem ((c.tc : Thread Cert.Reference15Ideal.nD Cert.Reference15Ideal.τ).loc Cert.Reference15Ideal.main_arg1) = m ((c.tc : Thread Cert.Reference15Ideal.nD Cert.Reference15Ideal.τ).loc Cert.Reference15Ideal.main_arg1)
      ∧ r.2.mem ((c.tc : Thread Cert.Reference15Ideal.nD Cert.Reference15Ideal.τ).loc Cert.Reference15Ideal.main_arg2) = m ((c.tc : Thread Cert.Reference15Ideal.nD Cert.Reference15Ideal.τ).loc Cert.Reference15Ideal.main_arg2)
      ∧ r.2.mem ((c.tc : Thread Cert.Reference15Ideal.nD Cert.Reference15Ideal.τ).loc Cert.Reference15Ideal.main_arg3) = m ((c.tc : Thread Cert.Reference15Ideal.nD Cert.Reference15Ideal.τ).loc Cert.Reference15Ideal.main_arg3)
      ∧ r.2.mem ((c.tc : Thread Cert.Reference15Ideal.nD Cert.Reference15Ideal.τ).loc Cert.Reference15Ideal.main_arg4) = m ((c.tc : Thread Cert.Reference15Ideal.nD Cert.Reference15Ideal.τ).loc Cert.Reference15Ideal.main_arg4))
      ∧ r.2.sem = fun _ => 0)

def quiescent_Kernel16 [hKernel16 : Cert.Kernel16.Facts] : Prop :=
  ∀ (m : (ℓ : Loc Cert.Kernel16.nD Cert.Kernel16.τ Cert.Kernel16.sig) → Buf (Elt Bits) ℓ) (g : Dev Cert.Kernel16.nD → PrngReg), Pre_Kernel16 m →
    θ_run (Cert.Kernel16.defs (F := Bits)) (onTc (τ := Cert.Kernel16.τ) (Cert.Kernel16.main (F := Bits))) ⟨m, fun _ => 0, g⟩ (fun r => (∀ c : Dev Cert.Kernel16.nD,
      r.2.mem ((c.tc : Thread Cert.Kernel16.nD Cert.Kernel16.τ).loc Cert.Kernel16.main_arg0) = m ((c.tc : Thread Cert.Kernel16.nD Cert.Kernel16.τ).loc Cert.Kernel16.main_arg0)
      ∧ r.2.mem ((c.tc : Thread Cert.Kernel16.nD Cert.Kernel16.τ).loc Cert.Kernel16.main_arg1) = m ((c.tc : Thread Cert.Kernel16.nD Cert.Kernel16.τ).loc Cert.Kernel16.main_arg1))
      ∧ r.2.sem = fun _ => 0)

def quiescent_Kernel16Ideal [hKernel16Ideal : Cert.Kernel16Ideal.Facts] : Prop :=
  ∀ (m : (ℓ : Loc Cert.Kernel16Ideal.nD Cert.Kernel16Ideal.τ Cert.Kernel16Ideal.sig) → Buf (Elt Ideal) ℓ) (g : Dev Cert.Kernel16Ideal.nD → PrngReg), Pre_Kernel16Ideal m →
    θ_run (Cert.Kernel16Ideal.defs (F := Ideal)) (onTc (τ := Cert.Kernel16Ideal.τ) (Cert.Kernel16Ideal.main (F := Ideal))) ⟨m, fun _ => 0, g⟩ (fun r => (∀ c : Dev Cert.Kernel16Ideal.nD,
      r.2.mem ((c.tc : Thread Cert.Kernel16Ideal.nD Cert.Kernel16Ideal.τ).loc Cert.Kernel16Ideal.main_arg0) = m ((c.tc : Thread Cert.Kernel16Ideal.nD Cert.Kernel16Ideal.τ).loc Cert.Kernel16Ideal.main_arg0)
      ∧ r.2.mem ((c.tc : Thread Cert.Kernel16Ideal.nD Cert.Kernel16Ideal.τ).loc Cert.Kernel16Ideal.main_arg1) = m ((c.tc : Thread Cert.Kernel16Ideal.nD Cert.Kernel16Ideal.τ).loc Cert.Kernel16Ideal.main_arg1))
      ∧ r.2.sem = fun _ => 0)

def quiescent_Reference16Ideal [hReference16Ideal : Cert.Reference16Ideal.Facts] : Prop :=
  ∀ (m : (ℓ : Loc Cert.Reference16Ideal.nD Cert.Reference16Ideal.τ Cert.Reference16Ideal.sig) → Buf (Elt Ideal) ℓ) (g : Dev Cert.Reference16Ideal.nD → PrngReg), Pre_Reference16Ideal m →
    θ_run (Cert.Reference16Ideal.defs (F := Ideal)) (onTc (τ := Cert.Reference16Ideal.τ) (Cert.Reference16Ideal.main (F := Ideal))) ⟨m, fun _ => 0, g⟩ (fun r => (∀ c : Dev Cert.Reference16Ideal.nD,
      r.2.mem ((c.tc : Thread Cert.Reference16Ideal.nD Cert.Reference16Ideal.τ).loc Cert.Reference16Ideal.main_arg0) = m ((c.tc : Thread Cert.Reference16Ideal.nD Cert.Reference16Ideal.τ).loc Cert.Reference16Ideal.main_arg0)
      ∧ r.2.mem ((c.tc : Thread Cert.Reference16Ideal.nD Cert.Reference16Ideal.τ).loc Cert.Reference16Ideal.main_arg1) = m ((c.tc : Thread Cert.Reference16Ideal.nD Cert.Reference16Ideal.τ).loc Cert.Reference16Ideal.main_arg1))
      ∧ r.2.sem = fun _ => 0)

def quiescent_Kernel17 [hKernel17 : Cert.Kernel17.Facts] : Prop :=
  ∀ (m : (ℓ : Loc Cert.Kernel17.nD Cert.Kernel17.τ Cert.Kernel17.sig) → Buf (Elt Bits) ℓ) (g : Dev Cert.Kernel17.nD → PrngReg), Pre_Kernel17 m →
    θ_run (Cert.Kernel17.defs (F := Bits)) (onTc (τ := Cert.Kernel17.τ) (Cert.Kernel17.main (F := Bits))) ⟨m, fun _ => 0, g⟩ (fun r => (∀ c : Dev Cert.Kernel17.nD,
      r.2.mem ((c.tc : Thread Cert.Kernel17.nD Cert.Kernel17.τ).loc Cert.Kernel17.main_arg0) = m ((c.tc : Thread Cert.Kernel17.nD Cert.Kernel17.τ).loc Cert.Kernel17.main_arg0)
      ∧ r.2.mem ((c.tc : Thread Cert.Kernel17.nD Cert.Kernel17.τ).loc Cert.Kernel17.main_arg1) = m ((c.tc : Thread Cert.Kernel17.nD Cert.Kernel17.τ).loc Cert.Kernel17.main_arg1))
      ∧ r.2.sem = fun _ => 0)

def quiescent_Kernel17Ideal [hKernel17Ideal : Cert.Kernel17Ideal.Facts] : Prop :=
  ∀ (m : (ℓ : Loc Cert.Kernel17Ideal.nD Cert.Kernel17Ideal.τ Cert.Kernel17Ideal.sig) → Buf (Elt Ideal) ℓ) (g : Dev Cert.Kernel17Ideal.nD → PrngReg), Pre_Kernel17Ideal m →
    θ_run (Cert.Kernel17Ideal.defs (F := Ideal)) (onTc (τ := Cert.Kernel17Ideal.τ) (Cert.Kernel17Ideal.main (F := Ideal))) ⟨m, fun _ => 0, g⟩ (fun r => (∀ c : Dev Cert.Kernel17Ideal.nD,
      r.2.mem ((c.tc : Thread Cert.Kernel17Ideal.nD Cert.Kernel17Ideal.τ).loc Cert.Kernel17Ideal.main_arg0) = m ((c.tc : Thread Cert.Kernel17Ideal.nD Cert.Kernel17Ideal.τ).loc Cert.Kernel17Ideal.main_arg0)
      ∧ r.2.mem ((c.tc : Thread Cert.Kernel17Ideal.nD Cert.Kernel17Ideal.τ).loc Cert.Kernel17Ideal.main_arg1) = m ((c.tc : Thread Cert.Kernel17Ideal.nD Cert.Kernel17Ideal.τ).loc Cert.Kernel17Ideal.main_arg1))
      ∧ r.2.sem = fun _ => 0)

def quiescent_Reference17Ideal [hReference17Ideal : Cert.Reference17Ideal.Facts] : Prop :=
  ∀ (m : (ℓ : Loc Cert.Reference17Ideal.nD Cert.Reference17Ideal.τ Cert.Reference17Ideal.sig) → Buf (Elt Ideal) ℓ) (g : Dev Cert.Reference17Ideal.nD → PrngReg), Pre_Reference17Ideal m →
    θ_run (Cert.Reference17Ideal.defs (F := Ideal)) (onTc (τ := Cert.Reference17Ideal.τ) (Cert.Reference17Ideal.main (F := Ideal))) ⟨m, fun _ => 0, g⟩ (fun r => (∀ c : Dev Cert.Reference17Ideal.nD,
      r.2.mem ((c.tc : Thread Cert.Reference17Ideal.nD Cert.Reference17Ideal.τ).loc Cert.Reference17Ideal.main_arg0) = m ((c.tc : Thread Cert.Reference17Ideal.nD Cert.Reference17Ideal.τ).loc Cert.Reference17Ideal.main_arg0)
      ∧ r.2.mem ((c.tc : Thread Cert.Reference17Ideal.nD Cert.Reference17Ideal.τ).loc Cert.Reference17Ideal.main_arg1) = m ((c.tc : Thread Cert.Reference17Ideal.nD Cert.Reference17Ideal.τ).loc Cert.Reference17Ideal.main_arg1))
      ∧ r.2.sem = fun _ => 0)

def quiescent_Kernel18 [hKernel18 : Cert.Kernel18.Facts] : Prop :=
  ∀ (m : (ℓ : Loc Cert.Kernel18.nD Cert.Kernel18.τ Cert.Kernel18.sig) → Buf (Elt Bits) ℓ) (g : Dev Cert.Kernel18.nD → PrngReg), Pre_Kernel18 m →
    θ_run (Cert.Kernel18.defs (F := Bits)) (onTc (τ := Cert.Kernel18.τ) (Cert.Kernel18.main (F := Bits))) ⟨m, fun _ => 0, g⟩ (fun r => (∀ c : Dev Cert.Kernel18.nD,
      r.2.mem ((c.tc : Thread Cert.Kernel18.nD Cert.Kernel18.τ).loc Cert.Kernel18.main_arg0) = m ((c.tc : Thread Cert.Kernel18.nD Cert.Kernel18.τ).loc Cert.Kernel18.main_arg0)
      ∧ r.2.mem ((c.tc : Thread Cert.Kernel18.nD Cert.Kernel18.τ).loc Cert.Kernel18.main_arg1) = m ((c.tc : Thread Cert.Kernel18.nD Cert.Kernel18.τ).loc Cert.Kernel18.main_arg1)
      ∧ r.2.mem ((c.tc : Thread Cert.Kernel18.nD Cert.Kernel18.τ).loc Cert.Kernel18.main_arg2) = m ((c.tc : Thread Cert.Kernel18.nD Cert.Kernel18.τ).loc Cert.Kernel18.main_arg2)
      ∧ r.2.mem ((c.tc : Thread Cert.Kernel18.nD Cert.Kernel18.τ).loc Cert.Kernel18.main_arg3) = m ((c.tc : Thread Cert.Kernel18.nD Cert.Kernel18.τ).loc Cert.Kernel18.main_arg3)
      ∧ r.2.mem ((c.tc : Thread Cert.Kernel18.nD Cert.Kernel18.τ).loc Cert.Kernel18.main_arg4) = m ((c.tc : Thread Cert.Kernel18.nD Cert.Kernel18.τ).loc Cert.Kernel18.main_arg4)
      ∧ r.2.mem ((c.tc : Thread Cert.Kernel18.nD Cert.Kernel18.τ).loc Cert.Kernel18.main_arg5) = m ((c.tc : Thread Cert.Kernel18.nD Cert.Kernel18.τ).loc Cert.Kernel18.main_arg5))
      ∧ r.2.sem = fun _ => 0)

def quiescent_Kernel18Ideal [hKernel18Ideal : Cert.Kernel18Ideal.Facts] : Prop :=
  ∀ (m : (ℓ : Loc Cert.Kernel18Ideal.nD Cert.Kernel18Ideal.τ Cert.Kernel18Ideal.sig) → Buf (Elt Ideal) ℓ) (g : Dev Cert.Kernel18Ideal.nD → PrngReg), Pre_Kernel18Ideal m →
    θ_run (Cert.Kernel18Ideal.defs (F := Ideal)) (onTc (τ := Cert.Kernel18Ideal.τ) (Cert.Kernel18Ideal.main (F := Ideal))) ⟨m, fun _ => 0, g⟩ (fun r => (∀ c : Dev Cert.Kernel18Ideal.nD,
      r.2.mem ((c.tc : Thread Cert.Kernel18Ideal.nD Cert.Kernel18Ideal.τ).loc Cert.Kernel18Ideal.main_arg0) = m ((c.tc : Thread Cert.Kernel18Ideal.nD Cert.Kernel18Ideal.τ).loc Cert.Kernel18Ideal.main_arg0)
      ∧ r.2.mem ((c.tc : Thread Cert.Kernel18Ideal.nD Cert.Kernel18Ideal.τ).loc Cert.Kernel18Ideal.main_arg1) = m ((c.tc : Thread Cert.Kernel18Ideal.nD Cert.Kernel18Ideal.τ).loc Cert.Kernel18Ideal.main_arg1)
      ∧ r.2.mem ((c.tc : Thread Cert.Kernel18Ideal.nD Cert.Kernel18Ideal.τ).loc Cert.Kernel18Ideal.main_arg2) = m ((c.tc : Thread Cert.Kernel18Ideal.nD Cert.Kernel18Ideal.τ).loc Cert.Kernel18Ideal.main_arg2)
      ∧ r.2.mem ((c.tc : Thread Cert.Kernel18Ideal.nD Cert.Kernel18Ideal.τ).loc Cert.Kernel18Ideal.main_arg3) = m ((c.tc : Thread Cert.Kernel18Ideal.nD Cert.Kernel18Ideal.τ).loc Cert.Kernel18Ideal.main_arg3)
      ∧ r.2.mem ((c.tc : Thread Cert.Kernel18Ideal.nD Cert.Kernel18Ideal.τ).loc Cert.Kernel18Ideal.main_arg4) = m ((c.tc : Thread Cert.Kernel18Ideal.nD Cert.Kernel18Ideal.τ).loc Cert.Kernel18Ideal.main_arg4)
      ∧ r.2.mem ((c.tc : Thread Cert.Kernel18Ideal.nD Cert.Kernel18Ideal.τ).loc Cert.Kernel18Ideal.main_arg5) = m ((c.tc : Thread Cert.Kernel18Ideal.nD Cert.Kernel18Ideal.τ).loc Cert.Kernel18Ideal.main_arg5))
      ∧ r.2.sem = fun _ => 0)

def quiescent_Reference18Ideal [hReference18Ideal : Cert.Reference18Ideal.Facts] : Prop :=
  ∀ (m : (ℓ : Loc Cert.Reference18Ideal.nD Cert.Reference18Ideal.τ Cert.Reference18Ideal.sig) → Buf (Elt Ideal) ℓ) (g : Dev Cert.Reference18Ideal.nD → PrngReg), Pre_Reference18Ideal m →
    θ_run (Cert.Reference18Ideal.defs (F := Ideal)) (onTc (τ := Cert.Reference18Ideal.τ) (Cert.Reference18Ideal.main (F := Ideal))) ⟨m, fun _ => 0, g⟩ (fun r => (∀ c : Dev Cert.Reference18Ideal.nD,
      r.2.mem ((c.tc : Thread Cert.Reference18Ideal.nD Cert.Reference18Ideal.τ).loc Cert.Reference18Ideal.main_arg0) = m ((c.tc : Thread Cert.Reference18Ideal.nD Cert.Reference18Ideal.τ).loc Cert.Reference18Ideal.main_arg0)
      ∧ r.2.mem ((c.tc : Thread Cert.Reference18Ideal.nD Cert.Reference18Ideal.τ).loc Cert.Reference18Ideal.main_arg1) = m ((c.tc : Thread Cert.Reference18Ideal.nD Cert.Reference18Ideal.τ).loc Cert.Reference18Ideal.main_arg1)
      ∧ r.2.mem ((c.tc : Thread Cert.Reference18Ideal.nD Cert.Reference18Ideal.τ).loc Cert.Reference18Ideal.main_arg2) = m ((c.tc : Thread Cert.Reference18Ideal.nD Cert.Reference18Ideal.τ).loc Cert.Reference18Ideal.main_arg2)
      ∧ r.2.mem ((c.tc : Thread Cert.Reference18Ideal.nD Cert.Reference18Ideal.τ).loc Cert.Reference18Ideal.main_arg3) = m ((c.tc : Thread Cert.Reference18Ideal.nD Cert.Reference18Ideal.τ).loc Cert.Reference18Ideal.main_arg3)
      ∧ r.2.mem ((c.tc : Thread Cert.Reference18Ideal.nD Cert.Reference18Ideal.τ).loc Cert.Reference18Ideal.main_arg4) = m ((c.tc : Thread Cert.Reference18Ideal.nD Cert.Reference18Ideal.τ).loc Cert.Reference18Ideal.main_arg4)
      ∧ r.2.mem ((c.tc : Thread Cert.Reference18Ideal.nD Cert.Reference18Ideal.τ).loc Cert.Reference18Ideal.main_arg5) = m ((c.tc : Thread Cert.Reference18Ideal.nD Cert.Reference18Ideal.τ).loc Cert.Reference18Ideal.main_arg5))
      ∧ r.2.sem = fun _ => 0)

def quiescent_Kernel19 [hKernel19 : Cert.Kernel19.Facts] : Prop :=
  ∀ (m : (ℓ : Loc Cert.Kernel19.nD Cert.Kernel19.τ Cert.Kernel19.sig) → Buf (Elt Bits) ℓ) (g : Dev Cert.Kernel19.nD → PrngReg), Pre_Kernel19 m →
    θ_run (Cert.Kernel19.defs (F := Bits)) (onTc (τ := Cert.Kernel19.τ) (Cert.Kernel19.main (F := Bits))) ⟨m, fun _ => 0, g⟩ (fun r => (∀ c : Dev Cert.Kernel19.nD,
      r.2.mem ((c.tc : Thread Cert.Kernel19.nD Cert.Kernel19.τ).loc Cert.Kernel19.main_arg0) = m ((c.tc : Thread Cert.Kernel19.nD Cert.Kernel19.τ).loc Cert.Kernel19.main_arg0)
      ∧ r.2.mem ((c.tc : Thread Cert.Kernel19.nD Cert.Kernel19.τ).loc Cert.Kernel19.main_arg1) = m ((c.tc : Thread Cert.Kernel19.nD Cert.Kernel19.τ).loc Cert.Kernel19.main_arg1)
      ∧ r.2.mem ((c.tc : Thread Cert.Kernel19.nD Cert.Kernel19.τ).loc Cert.Kernel19.main_arg2) = m ((c.tc : Thread Cert.Kernel19.nD Cert.Kernel19.τ).loc Cert.Kernel19.main_arg2)
      ∧ r.2.mem ((c.tc : Thread Cert.Kernel19.nD Cert.Kernel19.τ).loc Cert.Kernel19.main_arg3) = m ((c.tc : Thread Cert.Kernel19.nD Cert.Kernel19.τ).loc Cert.Kernel19.main_arg3)
      ∧ r.2.mem ((c.tc : Thread Cert.Kernel19.nD Cert.Kernel19.τ).loc Cert.Kernel19.main_arg4) = m ((c.tc : Thread Cert.Kernel19.nD Cert.Kernel19.τ).loc Cert.Kernel19.main_arg4))
      ∧ r.2.sem = fun _ => 0)

def quiescent_Kernel19Ideal [hKernel19Ideal : Cert.Kernel19Ideal.Facts] : Prop :=
  ∀ (m : (ℓ : Loc Cert.Kernel19Ideal.nD Cert.Kernel19Ideal.τ Cert.Kernel19Ideal.sig) → Buf (Elt Ideal) ℓ) (g : Dev Cert.Kernel19Ideal.nD → PrngReg), Pre_Kernel19Ideal m →
    θ_run (Cert.Kernel19Ideal.defs (F := Ideal)) (onTc (τ := Cert.Kernel19Ideal.τ) (Cert.Kernel19Ideal.main (F := Ideal))) ⟨m, fun _ => 0, g⟩ (fun r => (∀ c : Dev Cert.Kernel19Ideal.nD,
      r.2.mem ((c.tc : Thread Cert.Kernel19Ideal.nD Cert.Kernel19Ideal.τ).loc Cert.Kernel19Ideal.main_arg0) = m ((c.tc : Thread Cert.Kernel19Ideal.nD Cert.Kernel19Ideal.τ).loc Cert.Kernel19Ideal.main_arg0)
      ∧ r.2.mem ((c.tc : Thread Cert.Kernel19Ideal.nD Cert.Kernel19Ideal.τ).loc Cert.Kernel19Ideal.main_arg1) = m ((c.tc : Thread Cert.Kernel19Ideal.nD Cert.Kernel19Ideal.τ).loc Cert.Kernel19Ideal.main_arg1)
      ∧ r.2.mem ((c.tc : Thread Cert.Kernel19Ideal.nD Cert.Kernel19Ideal.τ).loc Cert.Kernel19Ideal.main_arg2) = m ((c.tc : Thread Cert.Kernel19Ideal.nD Cert.Kernel19Ideal.τ).loc Cert.Kernel19Ideal.main_arg2)
      ∧ r.2.mem ((c.tc : Thread Cert.Kernel19Ideal.nD Cert.Kernel19Ideal.τ).loc Cert.Kernel19Ideal.main_arg3) = m ((c.tc : Thread Cert.Kernel19Ideal.nD Cert.Kernel19Ideal.τ).loc Cert.Kernel19Ideal.main_arg3)
      ∧ r.2.mem ((c.tc : Thread Cert.Kernel19Ideal.nD Cert.Kernel19Ideal.τ).loc Cert.Kernel19Ideal.main_arg4) = m ((c.tc : Thread Cert.Kernel19Ideal.nD Cert.Kernel19Ideal.τ).loc Cert.Kernel19Ideal.main_arg4))
      ∧ r.2.sem = fun _ => 0)

def quiescent_Reference19Ideal [hReference19Ideal : Cert.Reference19Ideal.Facts] : Prop :=
  ∀ (m : (ℓ : Loc Cert.Reference19Ideal.nD Cert.Reference19Ideal.τ Cert.Reference19Ideal.sig) → Buf (Elt Ideal) ℓ) (g : Dev Cert.Reference19Ideal.nD → PrngReg), Pre_Reference19Ideal m →
    θ_run (Cert.Reference19Ideal.defs (F := Ideal)) (onTc (τ := Cert.Reference19Ideal.τ) (Cert.Reference19Ideal.main (F := Ideal))) ⟨m, fun _ => 0, g⟩ (fun r => (∀ c : Dev Cert.Reference19Ideal.nD,
      r.2.mem ((c.tc : Thread Cert.Reference19Ideal.nD Cert.Reference19Ideal.τ).loc Cert.Reference19Ideal.main_arg0) = m ((c.tc : Thread Cert.Reference19Ideal.nD Cert.Reference19Ideal.τ).loc Cert.Reference19Ideal.main_arg0)
      ∧ r.2.mem ((c.tc : Thread Cert.Reference19Ideal.nD Cert.Reference19Ideal.τ).loc Cert.Reference19Ideal.main_arg1) = m ((c.tc : Thread Cert.Reference19Ideal.nD Cert.Reference19Ideal.τ).loc Cert.Reference19Ideal.main_arg1)
      ∧ r.2.mem ((c.tc : Thread Cert.Reference19Ideal.nD Cert.Reference19Ideal.τ).loc Cert.Reference19Ideal.main_arg2) = m ((c.tc : Thread Cert.Reference19Ideal.nD Cert.Reference19Ideal.τ).loc Cert.Reference19Ideal.main_arg2)
      ∧ r.2.mem ((c.tc : Thread Cert.Reference19Ideal.nD Cert.Reference19Ideal.τ).loc Cert.Reference19Ideal.main_arg3) = m ((c.tc : Thread Cert.Reference19Ideal.nD Cert.Reference19Ideal.τ).loc Cert.Reference19Ideal.main_arg3)
      ∧ r.2.mem ((c.tc : Thread Cert.Reference19Ideal.nD Cert.Reference19Ideal.τ).loc Cert.Reference19Ideal.main_arg4) = m ((c.tc : Thread Cert.Reference19Ideal.nD Cert.Reference19Ideal.τ).loc Cert.Reference19Ideal.main_arg4))
      ∧ r.2.sem = fun _ => 0)

def quiescent_Kernel20 [hKernel20 : Cert.Kernel20.Facts] : Prop :=
  ∀ (m : (ℓ : Loc Cert.Kernel20.nD Cert.Kernel20.τ Cert.Kernel20.sig) → Buf (Elt Bits) ℓ) (g : Dev Cert.Kernel20.nD → PrngReg), Pre_Kernel20 m →
    θ_run (Cert.Kernel20.defs (F := Bits)) (onTc (τ := Cert.Kernel20.τ) (Cert.Kernel20.main (F := Bits))) ⟨m, fun _ => 0, g⟩ (fun r => (∀ c : Dev Cert.Kernel20.nD,
      r.2.mem ((c.tc : Thread Cert.Kernel20.nD Cert.Kernel20.τ).loc Cert.Kernel20.main_arg0) = m ((c.tc : Thread Cert.Kernel20.nD Cert.Kernel20.τ).loc Cert.Kernel20.main_arg0)
      ∧ r.2.mem ((c.tc : Thread Cert.Kernel20.nD Cert.Kernel20.τ).loc Cert.Kernel20.main_arg1) = m ((c.tc : Thread Cert.Kernel20.nD Cert.Kernel20.τ).loc Cert.Kernel20.main_arg1)
      ∧ r.2.mem ((c.tc : Thread Cert.Kernel20.nD Cert.Kernel20.τ).loc Cert.Kernel20.main_arg2) = m ((c.tc : Thread Cert.Kernel20.nD Cert.Kernel20.τ).loc Cert.Kernel20.main_arg2))
      ∧ r.2.sem = fun _ => 0)

def quiescent_Kernel20Ideal [hKernel20Ideal : Cert.Kernel20Ideal.Facts] : Prop :=
  ∀ (m : (ℓ : Loc Cert.Kernel20Ideal.nD Cert.Kernel20Ideal.τ Cert.Kernel20Ideal.sig) → Buf (Elt Ideal) ℓ) (g : Dev Cert.Kernel20Ideal.nD → PrngReg), Pre_Kernel20Ideal m →
    θ_run (Cert.Kernel20Ideal.defs (F := Ideal)) (onTc (τ := Cert.Kernel20Ideal.τ) (Cert.Kernel20Ideal.main (F := Ideal))) ⟨m, fun _ => 0, g⟩ (fun r => (∀ c : Dev Cert.Kernel20Ideal.nD,
      r.2.mem ((c.tc : Thread Cert.Kernel20Ideal.nD Cert.Kernel20Ideal.τ).loc Cert.Kernel20Ideal.main_arg0) = m ((c.tc : Thread Cert.Kernel20Ideal.nD Cert.Kernel20Ideal.τ).loc Cert.Kernel20Ideal.main_arg0)
      ∧ r.2.mem ((c.tc : Thread Cert.Kernel20Ideal.nD Cert.Kernel20Ideal.τ).loc Cert.Kernel20Ideal.main_arg1) = m ((c.tc : Thread Cert.Kernel20Ideal.nD Cert.Kernel20Ideal.τ).loc Cert.Kernel20Ideal.main_arg1)
      ∧ r.2.mem ((c.tc : Thread Cert.Kernel20Ideal.nD Cert.Kernel20Ideal.τ).loc Cert.Kernel20Ideal.main_arg2) = m ((c.tc : Thread Cert.Kernel20Ideal.nD Cert.Kernel20Ideal.τ).loc Cert.Kernel20Ideal.main_arg2))
      ∧ r.2.sem = fun _ => 0)

def quiescent_Kernel20Ideal_pre_finite20 [hKernel20Ideal : Cert.Kernel20Ideal.Facts] [hPre_finite20 : Cert.Pre_finite20.Facts] : Prop :=
  ∀ (m : (ℓ : Loc Cert.Kernel20Ideal.nD Cert.Kernel20Ideal.τ Cert.Kernel20Ideal.sig) → Buf (Elt Ideal) ℓ) (g : Dev Cert.Kernel20Ideal.nD → PrngReg), Pre_Kernel20Ideal_finite20 m →
    θ_run (Cert.Kernel20Ideal.defs (F := Ideal)) (onTc (τ := Cert.Kernel20Ideal.τ) (Cert.Kernel20Ideal.main (F := Ideal))) ⟨m, fun _ => 0, g⟩ (fun r => (∀ c : Dev Cert.Kernel20Ideal.nD,
      r.2.mem ((c.tc : Thread Cert.Kernel20Ideal.nD Cert.Kernel20Ideal.τ).loc Cert.Kernel20Ideal.main_arg0) = m ((c.tc : Thread Cert.Kernel20Ideal.nD Cert.Kernel20Ideal.τ).loc Cert.Kernel20Ideal.main_arg0)
      ∧ r.2.mem ((c.tc : Thread Cert.Kernel20Ideal.nD Cert.Kernel20Ideal.τ).loc Cert.Kernel20Ideal.main_arg1) = m ((c.tc : Thread Cert.Kernel20Ideal.nD Cert.Kernel20Ideal.τ).loc Cert.Kernel20Ideal.main_arg1)
      ∧ r.2.mem ((c.tc : Thread Cert.Kernel20Ideal.nD Cert.Kernel20Ideal.τ).loc Cert.Kernel20Ideal.main_arg2) = m ((c.tc : Thread Cert.Kernel20Ideal.nD Cert.Kernel20Ideal.τ).loc Cert.Kernel20Ideal.main_arg2))
      ∧ r.2.sem = fun _ => 0)

def quiescent_Reference20Ideal [hReference20Ideal : Cert.Reference20Ideal.Facts] : Prop :=
  ∀ (m : (ℓ : Loc Cert.Reference20Ideal.nD Cert.Reference20Ideal.τ Cert.Reference20Ideal.sig) → Buf (Elt Ideal) ℓ) (g : Dev Cert.Reference20Ideal.nD → PrngReg), Pre_Reference20Ideal m →
    θ_run (Cert.Reference20Ideal.defs (F := Ideal)) (onTc (τ := Cert.Reference20Ideal.τ) (Cert.Reference20Ideal.main (F := Ideal))) ⟨m, fun _ => 0, g⟩ (fun r => (∀ c : Dev Cert.Reference20Ideal.nD,
      r.2.mem ((c.tc : Thread Cert.Reference20Ideal.nD Cert.Reference20Ideal.τ).loc Cert.Reference20Ideal.main_arg0) = m ((c.tc : Thread Cert.Reference20Ideal.nD Cert.Reference20Ideal.τ).loc Cert.Reference20Ideal.main_arg0)
      ∧ r.2.mem ((c.tc : Thread Cert.Reference20Ideal.nD Cert.Reference20Ideal.τ).loc Cert.Reference20Ideal.main_arg1) = m ((c.tc : Thread Cert.Reference20Ideal.nD Cert.Reference20Ideal.τ).loc Cert.Reference20Ideal.main_arg1)
      ∧ r.2.mem ((c.tc : Thread Cert.Reference20Ideal.nD Cert.Reference20Ideal.τ).loc Cert.Reference20Ideal.main_arg2) = m ((c.tc : Thread Cert.Reference20Ideal.nD Cert.Reference20Ideal.τ).loc Cert.Reference20Ideal.main_arg2))
      ∧ r.2.sem = fun _ => 0)

def quiescent_Reference20Ideal_pre_finite20 [hReference20Ideal : Cert.Reference20Ideal.Facts] [hPre_finite20 : Cert.Pre_finite20.Facts] : Prop :=
  ∀ (m : (ℓ : Loc Cert.Reference20Ideal.nD Cert.Reference20Ideal.τ Cert.Reference20Ideal.sig) → Buf (Elt Ideal) ℓ) (g : Dev Cert.Reference20Ideal.nD → PrngReg), Pre_Reference20Ideal_finite20 m →
    θ_run (Cert.Reference20Ideal.defs (F := Ideal)) (onTc (τ := Cert.Reference20Ideal.τ) (Cert.Reference20Ideal.main (F := Ideal))) ⟨m, fun _ => 0, g⟩ (fun r => (∀ c : Dev Cert.Reference20Ideal.nD,
      r.2.mem ((c.tc : Thread Cert.Reference20Ideal.nD Cert.Reference20Ideal.τ).loc Cert.Reference20Ideal.main_arg0) = m ((c.tc : Thread Cert.Reference20Ideal.nD Cert.Reference20Ideal.τ).loc Cert.Reference20Ideal.main_arg0)
      ∧ r.2.mem ((c.tc : Thread Cert.Reference20Ideal.nD Cert.Reference20Ideal.τ).loc Cert.Reference20Ideal.main_arg1) = m ((c.tc : Thread Cert.Reference20Ideal.nD Cert.Reference20Ideal.τ).loc Cert.Reference20Ideal.main_arg1)
      ∧ r.2.mem ((c.tc : Thread Cert.Reference20Ideal.nD Cert.Reference20Ideal.τ).loc Cert.Reference20Ideal.main_arg2) = m ((c.tc : Thread Cert.Reference20Ideal.nD Cert.Reference20Ideal.τ).loc Cert.Reference20Ideal.main_arg2))
      ∧ r.2.sem = fun _ => 0)

def quiescent_Kernel21 [hKernel21 : Cert.Kernel21.Facts] : Prop :=
  ∀ (m : (ℓ : Loc Cert.Kernel21.nD Cert.Kernel21.τ Cert.Kernel21.sig) → Buf (Elt Bits) ℓ) (g : Dev Cert.Kernel21.nD → PrngReg), Pre_Kernel21 m →
    θ_run (Cert.Kernel21.defs (F := Bits)) (onTc (τ := Cert.Kernel21.τ) (Cert.Kernel21.main (F := Bits))) ⟨m, fun _ => 0, g⟩ (fun r => (∀ c : Dev Cert.Kernel21.nD,
      r.2.mem ((c.tc : Thread Cert.Kernel21.nD Cert.Kernel21.τ).loc Cert.Kernel21.main_arg0) = m ((c.tc : Thread Cert.Kernel21.nD Cert.Kernel21.τ).loc Cert.Kernel21.main_arg0)
      ∧ r.2.mem ((c.tc : Thread Cert.Kernel21.nD Cert.Kernel21.τ).loc Cert.Kernel21.main_arg1) = m ((c.tc : Thread Cert.Kernel21.nD Cert.Kernel21.τ).loc Cert.Kernel21.main_arg1))
      ∧ r.2.sem = fun _ => 0)

def quiescent_Kernel21Ideal [hKernel21Ideal : Cert.Kernel21Ideal.Facts] : Prop :=
  ∀ (m : (ℓ : Loc Cert.Kernel21Ideal.nD Cert.Kernel21Ideal.τ Cert.Kernel21Ideal.sig) → Buf (Elt Ideal) ℓ) (g : Dev Cert.Kernel21Ideal.nD → PrngReg), Pre_Kernel21Ideal m →
    θ_run (Cert.Kernel21Ideal.defs (F := Ideal)) (onTc (τ := Cert.Kernel21Ideal.τ) (Cert.Kernel21Ideal.main (F := Ideal))) ⟨m, fun _ => 0, g⟩ (fun r => (∀ c : Dev Cert.Kernel21Ideal.nD,
      r.2.mem ((c.tc : Thread Cert.Kernel21Ideal.nD Cert.Kernel21Ideal.τ).loc Cert.Kernel21Ideal.main_arg0) = m ((c.tc : Thread Cert.Kernel21Ideal.nD Cert.Kernel21Ideal.τ).loc Cert.Kernel21Ideal.main_arg0)
      ∧ r.2.mem ((c.tc : Thread Cert.Kernel21Ideal.nD Cert.Kernel21Ideal.τ).loc Cert.Kernel21Ideal.main_arg1) = m ((c.tc : Thread Cert.Kernel21Ideal.nD Cert.Kernel21Ideal.τ).loc Cert.Kernel21Ideal.main_arg1))
      ∧ r.2.sem = fun _ => 0)

def quiescent_Reference21Ideal [hReference21Ideal : Cert.Reference21Ideal.Facts] : Prop :=
  ∀ (m : (ℓ : Loc Cert.Reference21Ideal.nD Cert.Reference21Ideal.τ Cert.Reference21Ideal.sig) → Buf (Elt Ideal) ℓ) (g : Dev Cert.Reference21Ideal.nD → PrngReg), Pre_Reference21Ideal m →
    θ_run (Cert.Reference21Ideal.defs (F := Ideal)) (onTc (τ := Cert.Reference21Ideal.τ) (Cert.Reference21Ideal.main (F := Ideal))) ⟨m, fun _ => 0, g⟩ (fun r => (∀ c : Dev Cert.Reference21Ideal.nD,
      r.2.mem ((c.tc : Thread Cert.Reference21Ideal.nD Cert.Reference21Ideal.τ).loc Cert.Reference21Ideal.main_arg0) = m ((c.tc : Thread Cert.Reference21Ideal.nD Cert.Reference21Ideal.τ).loc Cert.Reference21Ideal.main_arg0)
      ∧ r.2.mem ((c.tc : Thread Cert.Reference21Ideal.nD Cert.Reference21Ideal.τ).loc Cert.Reference21Ideal.main_arg1) = m ((c.tc : Thread Cert.Reference21Ideal.nD Cert.Reference21Ideal.τ).loc Cert.Reference21Ideal.main_arg1))
      ∧ r.2.sem = fun _ => 0)

def quiescent_Kernel22 [hKernel22 : Cert.Kernel22.Facts] : Prop :=
  ∀ (m : (ℓ : Loc Cert.Kernel22.nD Cert.Kernel22.τ Cert.Kernel22.sig) → Buf (Elt Bits) ℓ) (g : Dev Cert.Kernel22.nD → PrngReg), Pre_Kernel22 m →
    θ_run (Cert.Kernel22.defs (F := Bits)) (onTc (τ := Cert.Kernel22.τ) (Cert.Kernel22.main (F := Bits))) ⟨m, fun _ => 0, g⟩ (fun r => (∀ c : Dev Cert.Kernel22.nD,
      r.2.mem ((c.tc : Thread Cert.Kernel22.nD Cert.Kernel22.τ).loc Cert.Kernel22.main_arg0) = m ((c.tc : Thread Cert.Kernel22.nD Cert.Kernel22.τ).loc Cert.Kernel22.main_arg0)
      ∧ r.2.mem ((c.tc : Thread Cert.Kernel22.nD Cert.Kernel22.τ).loc Cert.Kernel22.main_arg1) = m ((c.tc : Thread Cert.Kernel22.nD Cert.Kernel22.τ).loc Cert.Kernel22.main_arg1))
      ∧ r.2.sem = fun _ => 0)

def quiescent_Kernel22Ideal [hKernel22Ideal : Cert.Kernel22Ideal.Facts] : Prop :=
  ∀ (m : (ℓ : Loc Cert.Kernel22Ideal.nD Cert.Kernel22Ideal.τ Cert.Kernel22Ideal.sig) → Buf (Elt Ideal) ℓ) (g : Dev Cert.Kernel22Ideal.nD → PrngReg), Pre_Kernel22Ideal m →
    θ_run (Cert.Kernel22Ideal.defs (F := Ideal)) (onTc (τ := Cert.Kernel22Ideal.τ) (Cert.Kernel22Ideal.main (F := Ideal))) ⟨m, fun _ => 0, g⟩ (fun r => (∀ c : Dev Cert.Kernel22Ideal.nD,
      r.2.mem ((c.tc : Thread Cert.Kernel22Ideal.nD Cert.Kernel22Ideal.τ).loc Cert.Kernel22Ideal.main_arg0) = m ((c.tc : Thread Cert.Kernel22Ideal.nD Cert.Kernel22Ideal.τ).loc Cert.Kernel22Ideal.main_arg0)
      ∧ r.2.mem ((c.tc : Thread Cert.Kernel22Ideal.nD Cert.Kernel22Ideal.τ).loc Cert.Kernel22Ideal.main_arg1) = m ((c.tc : Thread Cert.Kernel22Ideal.nD Cert.Kernel22Ideal.τ).loc Cert.Kernel22Ideal.main_arg1))
      ∧ r.2.sem = fun _ => 0)

def quiescent_Reference22Ideal [hReference22Ideal : Cert.Reference22Ideal.Facts] : Prop :=
  ∀ (m : (ℓ : Loc Cert.Reference22Ideal.nD Cert.Reference22Ideal.τ Cert.Reference22Ideal.sig) → Buf (Elt Ideal) ℓ) (g : Dev Cert.Reference22Ideal.nD → PrngReg), Pre_Reference22Ideal m →
    θ_run (Cert.Reference22Ideal.defs (F := Ideal)) (onTc (τ := Cert.Reference22Ideal.τ) (Cert.Reference22Ideal.main (F := Ideal))) ⟨m, fun _ => 0, g⟩ (fun r => (∀ c : Dev Cert.Reference22Ideal.nD,
      r.2.mem ((c.tc : Thread Cert.Reference22Ideal.nD Cert.Reference22Ideal.τ).loc Cert.Reference22Ideal.main_arg0) = m ((c.tc : Thread Cert.Reference22Ideal.nD Cert.Reference22Ideal.τ).loc Cert.Reference22Ideal.main_arg0)
      ∧ r.2.mem ((c.tc : Thread Cert.Reference22Ideal.nD Cert.Reference22Ideal.τ).loc Cert.Reference22Ideal.main_arg1) = m ((c.tc : Thread Cert.Reference22Ideal.nD Cert.Reference22Ideal.τ).loc Cert.Reference22Ideal.main_arg1))
      ∧ r.2.sem = fun _ => 0)

def quiescent_Kernel23 [hKernel23 : Cert.Kernel23.Facts] : Prop :=
  ∀ (m : (ℓ : Loc Cert.Kernel23.nD Cert.Kernel23.τ Cert.Kernel23.sig) → Buf (Elt Bits) ℓ) (g : Dev Cert.Kernel23.nD → PrngReg), Pre_Kernel23 m →
    θ_run (Cert.Kernel23.defs (F := Bits)) (onTc (τ := Cert.Kernel23.τ) (Cert.Kernel23.main (F := Bits))) ⟨m, fun _ => 0, g⟩ (fun r => (∀ c : Dev Cert.Kernel23.nD,
      r.2.mem ((c.tc : Thread Cert.Kernel23.nD Cert.Kernel23.τ).loc Cert.Kernel23.main_arg0) = m ((c.tc : Thread Cert.Kernel23.nD Cert.Kernel23.τ).loc Cert.Kernel23.main_arg0)
      ∧ r.2.mem ((c.tc : Thread Cert.Kernel23.nD Cert.Kernel23.τ).loc Cert.Kernel23.main_arg1) = m ((c.tc : Thread Cert.Kernel23.nD Cert.Kernel23.τ).loc Cert.Kernel23.main_arg1)
      ∧ r.2.mem ((c.tc : Thread Cert.Kernel23.nD Cert.Kernel23.τ).loc Cert.Kernel23.main_arg2) = m ((c.tc : Thread Cert.Kernel23.nD Cert.Kernel23.τ).loc Cert.Kernel23.main_arg2)
      ∧ r.2.mem ((c.tc : Thread Cert.Kernel23.nD Cert.Kernel23.τ).loc Cert.Kernel23.main_arg3) = m ((c.tc : Thread Cert.Kernel23.nD Cert.Kernel23.τ).loc Cert.Kernel23.main_arg3)
      ∧ r.2.mem ((c.tc : Thread Cert.Kernel23.nD Cert.Kernel23.τ).loc Cert.Kernel23.main_arg4) = m ((c.tc : Thread Cert.Kernel23.nD Cert.Kernel23.τ).loc Cert.Kernel23.main_arg4)
      ∧ r.2.mem ((c.tc : Thread Cert.Kernel23.nD Cert.Kernel23.τ).loc Cert.Kernel23.main_arg5) = m ((c.tc : Thread Cert.Kernel23.nD Cert.Kernel23.τ).loc Cert.Kernel23.main_arg5))
      ∧ r.2.sem = fun _ => 0)

def quiescent_Kernel23Ideal [hKernel23Ideal : Cert.Kernel23Ideal.Facts] : Prop :=
  ∀ (m : (ℓ : Loc Cert.Kernel23Ideal.nD Cert.Kernel23Ideal.τ Cert.Kernel23Ideal.sig) → Buf (Elt Ideal) ℓ) (g : Dev Cert.Kernel23Ideal.nD → PrngReg), Pre_Kernel23Ideal m →
    θ_run (Cert.Kernel23Ideal.defs (F := Ideal)) (onTc (τ := Cert.Kernel23Ideal.τ) (Cert.Kernel23Ideal.main (F := Ideal))) ⟨m, fun _ => 0, g⟩ (fun r => (∀ c : Dev Cert.Kernel23Ideal.nD,
      r.2.mem ((c.tc : Thread Cert.Kernel23Ideal.nD Cert.Kernel23Ideal.τ).loc Cert.Kernel23Ideal.main_arg0) = m ((c.tc : Thread Cert.Kernel23Ideal.nD Cert.Kernel23Ideal.τ).loc Cert.Kernel23Ideal.main_arg0)
      ∧ r.2.mem ((c.tc : Thread Cert.Kernel23Ideal.nD Cert.Kernel23Ideal.τ).loc Cert.Kernel23Ideal.main_arg1) = m ((c.tc : Thread Cert.Kernel23Ideal.nD Cert.Kernel23Ideal.τ).loc Cert.Kernel23Ideal.main_arg1)
      ∧ r.2.mem ((c.tc : Thread Cert.Kernel23Ideal.nD Cert.Kernel23Ideal.τ).loc Cert.Kernel23Ideal.main_arg2) = m ((c.tc : Thread Cert.Kernel23Ideal.nD Cert.Kernel23Ideal.τ).loc Cert.Kernel23Ideal.main_arg2)
      ∧ r.2.mem ((c.tc : Thread Cert.Kernel23Ideal.nD Cert.Kernel23Ideal.τ).loc Cert.Kernel23Ideal.main_arg3) = m ((c.tc : Thread Cert.Kernel23Ideal.nD Cert.Kernel23Ideal.τ).loc Cert.Kernel23Ideal.main_arg3)
      ∧ r.2.mem ((c.tc : Thread Cert.Kernel23Ideal.nD Cert.Kernel23Ideal.τ).loc Cert.Kernel23Ideal.main_arg4) = m ((c.tc : Thread Cert.Kernel23Ideal.nD Cert.Kernel23Ideal.τ).loc Cert.Kernel23Ideal.main_arg4)
      ∧ r.2.mem ((c.tc : Thread Cert.Kernel23Ideal.nD Cert.Kernel23Ideal.τ).loc Cert.Kernel23Ideal.main_arg5) = m ((c.tc : Thread Cert.Kernel23Ideal.nD Cert.Kernel23Ideal.τ).loc Cert.Kernel23Ideal.main_arg5))
      ∧ r.2.sem = fun _ => 0)

def quiescent_Reference23Ideal [hReference23Ideal : Cert.Reference23Ideal.Facts] : Prop :=
  ∀ (m : (ℓ : Loc Cert.Reference23Ideal.nD Cert.Reference23Ideal.τ Cert.Reference23Ideal.sig) → Buf (Elt Ideal) ℓ) (g : Dev Cert.Reference23Ideal.nD → PrngReg), Pre_Reference23Ideal m →
    θ_run (Cert.Reference23Ideal.defs (F := Ideal)) (onTc (τ := Cert.Reference23Ideal.τ) (Cert.Reference23Ideal.main (F := Ideal))) ⟨m, fun _ => 0, g⟩ (fun r => (∀ c : Dev Cert.Reference23Ideal.nD,
      r.2.mem ((c.tc : Thread Cert.Reference23Ideal.nD Cert.Reference23Ideal.τ).loc Cert.Reference23Ideal.main_arg0) = m ((c.tc : Thread Cert.Reference23Ideal.nD Cert.Reference23Ideal.τ).loc Cert.Reference23Ideal.main_arg0)
      ∧ r.2.mem ((c.tc : Thread Cert.Reference23Ideal.nD Cert.Reference23Ideal.τ).loc Cert.Reference23Ideal.main_arg1) = m ((c.tc : Thread Cert.Reference23Ideal.nD Cert.Reference23Ideal.τ).loc Cert.Reference23Ideal.main_arg1)
      ∧ r.2.mem ((c.tc : Thread Cert.Reference23Ideal.nD Cert.Reference23Ideal.τ).loc Cert.Reference23Ideal.main_arg2) = m ((c.tc : Thread Cert.Reference23Ideal.nD Cert.Reference23Ideal.τ).loc Cert.Reference23Ideal.main_arg2)
      ∧ r.2.mem ((c.tc : Thread Cert.Reference23Ideal.nD Cert.Reference23Ideal.τ).loc Cert.Reference23Ideal.main_arg3) = m ((c.tc : Thread Cert.Reference23Ideal.nD Cert.Reference23Ideal.τ).loc Cert.Reference23Ideal.main_arg3)
      ∧ r.2.mem ((c.tc : Thread Cert.Reference23Ideal.nD Cert.Reference23Ideal.τ).loc Cert.Reference23Ideal.main_arg4) = m ((c.tc : Thread Cert.Reference23Ideal.nD Cert.Reference23Ideal.τ).loc Cert.Reference23Ideal.main_arg4)
      ∧ r.2.mem ((c.tc : Thread Cert.Reference23Ideal.nD Cert.Reference23Ideal.τ).loc Cert.Reference23Ideal.main_arg5) = m ((c.tc : Thread Cert.Reference23Ideal.nD Cert.Reference23Ideal.τ).loc Cert.Reference23Ideal.main_arg5))
      ∧ r.2.sem = fun _ => 0)

def quiescent_Kernel24 [hKernel24 : Cert.Kernel24.Facts] : Prop :=
  ∀ (m : (ℓ : Loc Cert.Kernel24.nD Cert.Kernel24.τ Cert.Kernel24.sig) → Buf (Elt Bits) ℓ) (g : Dev Cert.Kernel24.nD → PrngReg), Pre_Kernel24 m →
    θ_run (Cert.Kernel24.defs (F := Bits)) (onTc (τ := Cert.Kernel24.τ) (Cert.Kernel24.main (F := Bits))) ⟨m, fun _ => 0, g⟩ (fun r => (∀ c : Dev Cert.Kernel24.nD,
      r.2.mem ((c.tc : Thread Cert.Kernel24.nD Cert.Kernel24.τ).loc Cert.Kernel24.main_arg0) = m ((c.tc : Thread Cert.Kernel24.nD Cert.Kernel24.τ).loc Cert.Kernel24.main_arg0)
      ∧ r.2.mem ((c.tc : Thread Cert.Kernel24.nD Cert.Kernel24.τ).loc Cert.Kernel24.main_arg1) = m ((c.tc : Thread Cert.Kernel24.nD Cert.Kernel24.τ).loc Cert.Kernel24.main_arg1)
      ∧ r.2.mem ((c.tc : Thread Cert.Kernel24.nD Cert.Kernel24.τ).loc Cert.Kernel24.main_arg2) = m ((c.tc : Thread Cert.Kernel24.nD Cert.Kernel24.τ).loc Cert.Kernel24.main_arg2))
      ∧ r.2.sem = fun _ => 0)

def quiescent_Kernel24Ideal [hKernel24Ideal : Cert.Kernel24Ideal.Facts] : Prop :=
  ∀ (m : (ℓ : Loc Cert.Kernel24Ideal.nD Cert.Kernel24Ideal.τ Cert.Kernel24Ideal.sig) → Buf (Elt Ideal) ℓ) (g : Dev Cert.Kernel24Ideal.nD → PrngReg), Pre_Kernel24Ideal m →
    θ_run (Cert.Kernel24Ideal.defs (F := Ideal)) (onTc (τ := Cert.Kernel24Ideal.τ) (Cert.Kernel24Ideal.main (F := Ideal))) ⟨m, fun _ => 0, g⟩ (fun r => (∀ c : Dev Cert.Kernel24Ideal.nD,
      r.2.mem ((c.tc : Thread Cert.Kernel24Ideal.nD Cert.Kernel24Ideal.τ).loc Cert.Kernel24Ideal.main_arg0) = m ((c.tc : Thread Cert.Kernel24Ideal.nD Cert.Kernel24Ideal.τ).loc Cert.Kernel24Ideal.main_arg0)
      ∧ r.2.mem ((c.tc : Thread Cert.Kernel24Ideal.nD Cert.Kernel24Ideal.τ).loc Cert.Kernel24Ideal.main_arg1) = m ((c.tc : Thread Cert.Kernel24Ideal.nD Cert.Kernel24Ideal.τ).loc Cert.Kernel24Ideal.main_arg1)
      ∧ r.2.mem ((c.tc : Thread Cert.Kernel24Ideal.nD Cert.Kernel24Ideal.τ).loc Cert.Kernel24Ideal.main_arg2) = m ((c.tc : Thread Cert.Kernel24Ideal.nD Cert.Kernel24Ideal.τ).loc Cert.Kernel24Ideal.main_arg2))
      ∧ r.2.sem = fun _ => 0)

def quiescent_Reference24Ideal [hReference24Ideal : Cert.Reference24Ideal.Facts] : Prop :=
  ∀ (m : (ℓ : Loc Cert.Reference24Ideal.nD Cert.Reference24Ideal.τ Cert.Reference24Ideal.sig) → Buf (Elt Ideal) ℓ) (g : Dev Cert.Reference24Ideal.nD → PrngReg), Pre_Reference24Ideal m →
    θ_run (Cert.Reference24Ideal.defs (F := Ideal)) (onTc (τ := Cert.Reference24Ideal.τ) (Cert.Reference24Ideal.main (F := Ideal))) ⟨m, fun _ => 0, g⟩ (fun r => (∀ c : Dev Cert.Reference24Ideal.nD,
      r.2.mem ((c.tc : Thread Cert.Reference24Ideal.nD Cert.Reference24Ideal.τ).loc Cert.Reference24Ideal.main_arg0) = m ((c.tc : Thread Cert.Reference24Ideal.nD Cert.Reference24Ideal.τ).loc Cert.Reference24Ideal.main_arg0)
      ∧ r.2.mem ((c.tc : Thread Cert.Reference24Ideal.nD Cert.Reference24Ideal.τ).loc Cert.Reference24Ideal.main_arg1) = m ((c.tc : Thread Cert.Reference24Ideal.nD Cert.Reference24Ideal.τ).loc Cert.Reference24Ideal.main_arg1)
      ∧ r.2.mem ((c.tc : Thread Cert.Reference24Ideal.nD Cert.Reference24Ideal.τ).loc Cert.Reference24Ideal.main_arg2) = m ((c.tc : Thread Cert.Reference24Ideal.nD Cert.Reference24Ideal.τ).loc Cert.Reference24Ideal.main_arg2))
      ∧ r.2.sem = fun _ => 0)

def preserves_Kernel_KernelIdeal : Prop :=
  IdealRules.named_const.Statement Cert.KernelIdeal.κ "gelu_cubic" .f32 0x3D372713#32 ((8943 / 200000 : ℝ) : EReal)
  ∧ IdealRules.named_const.Statement Cert.KernelIdeal.κ "gelu_cubic3" .f32 0x3E095D4F#32 ((26829 / 200000 : ℝ) : EReal)

def algebraic_KernelIdeal_ReferenceIdeal_pre_finite [hKernelIdeal : Cert.KernelIdeal.Facts] [hReferenceIdeal : Cert.ReferenceIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)) →
    ∃ (v0 : (c : Dev Cert.KernelIdeal.nD) → Buf (Elt Ideal) ((c.tc : Thread Cert.KernelIdeal.nD Cert.KernelIdeal.τ).loc Cert.KernelIdeal.main_v1_0)) (v1 : (c : Dev Cert.KernelIdeal.nD) → Buf (Elt Ideal) ((c.tc : Thread Cert.KernelIdeal.nD Cert.KernelIdeal.τ).loc Cert.KernelIdeal.main_v1_1)) (v2 : (c : Dev Cert.KernelIdeal.nD) → Buf (Elt Ideal) ((c.tc : Thread Cert.KernelIdeal.nD Cert.KernelIdeal.τ).loc Cert.KernelIdeal.main_v1_2)) (v3 : (c : Dev Cert.KernelIdeal.nD) → Buf (Elt Ideal) ((c.tc : Thread Cert.KernelIdeal.nD Cert.KernelIdeal.τ).loc Cert.KernelIdeal.main_v1_3)) (v4 : (c : Dev Cert.KernelIdeal.nD) → Buf (Elt Ideal) ((c.tc : Thread Cert.KernelIdeal.nD Cert.KernelIdeal.τ).loc Cert.KernelIdeal.main_v1_4)) (v5 : (c : Dev Cert.KernelIdeal.nD) → Buf (Elt Ideal) ((c.tc : Thread Cert.KernelIdeal.nD Cert.KernelIdeal.τ).loc Cert.KernelIdeal.main_v1_5)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1_0) = v0 c
          ∧ r.2.mem ((c.tc : Thread Cert.KernelIdeal.nD Cert.KernelIdeal.τ).loc Cert.KernelIdeal.main_v1_1) = v1 c
          ∧ r.2.mem ((c.tc : Thread Cert.KernelIdeal.nD Cert.KernelIdeal.τ).loc Cert.KernelIdeal.main_v1_2) = v2 c
          ∧ r.2.mem ((c.tc : Thread Cert.KernelIdeal.nD Cert.KernelIdeal.τ).loc Cert.KernelIdeal.main_v1_3) = v3 c
          ∧ r.2.mem ((c.tc : Thread Cert.KernelIdeal.nD Cert.KernelIdeal.τ).loc Cert.KernelIdeal.main_v1_4) = v4 c
          ∧ r.2.mem ((c.tc : Thread Cert.KernelIdeal.nD Cert.KernelIdeal.τ).loc Cert.KernelIdeal.main_v1_5) = v5 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v171) = v0 c
          ∧ r.2.mem ((c.tc : Thread Cert.ReferenceIdeal.nD Cert.ReferenceIdeal.τ).loc Cert.ReferenceIdeal.main_v170) = v1 c
          ∧ r.2.mem ((c.tc : Thread Cert.ReferenceIdeal.nD Cert.ReferenceIdeal.τ).loc Cert.ReferenceIdeal.main_v99) = v2 c
          ∧ r.2.mem ((c.tc : Thread Cert.ReferenceIdeal.nD Cert.ReferenceIdeal.τ).loc Cert.ReferenceIdeal.main_v172) = v3 c
          ∧ r.2.mem ((c.tc : Thread Cert.ReferenceIdeal.nD Cert.ReferenceIdeal.τ).loc Cert.ReferenceIdeal.main_v111) = v4 c
          ∧ r.2.mem ((c.tc : Thread Cert.ReferenceIdeal.nD Cert.ReferenceIdeal.τ).loc Cert.ReferenceIdeal.main_v104) = v5 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6))

def preserves_Kernel2_Kernel2Ideal : Prop :=
  True

def algebraic_Kernel2Ideal_Reference2Ideal_pre_finite2 [hKernel2Ideal : Cert.Kernel2Ideal.Facts] [hReference2Ideal : Cert.Reference2Ideal.Facts] [hPre_finite2 : Cert.Pre_finite2.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal_finite2 m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)
      ∧ m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2)
      ∧ m' ((c.tc : Thread Cert.Reference2Ideal.nD Cert.Reference2Ideal.τ).loc Cert.Reference2Ideal.main_arg3) = m ((c.tc : Thread Cert.Kernel2Ideal.nD Cert.Kernel2Ideal.τ).loc Cert.Kernel2Ideal.main_arg3)
      ∧ m' ((c.tc : Thread Cert.Reference2Ideal.nD Cert.Reference2Ideal.τ).loc Cert.Reference2Ideal.main_arg4) = m ((c.tc : Thread Cert.Kernel2Ideal.nD Cert.Kernel2Ideal.τ).loc Cert.Kernel2Ideal.main_arg4)) →
    ∃ (v0 : (c : Dev Cert.Kernel2Ideal.nD) → Buf (Elt Ideal) ((c.tc : Thread Cert.Kernel2Ideal.nD Cert.Kernel2Ideal.τ).loc Cert.Kernel2Ideal.main_v80_0)) (v1 : (c : Dev Cert.Kernel2Ideal.nD) → Buf (Elt Ideal) ((c.tc : Thread Cert.Kernel2Ideal.nD Cert.Kernel2Ideal.τ).loc Cert.Kernel2Ideal.main_v80_1)) (v2 : (c : Dev Cert.Kernel2Ideal.nD) → Buf (Elt Ideal) ((c.tc : Thread Cert.Kernel2Ideal.nD Cert.Kernel2Ideal.τ).loc Cert.Kernel2Ideal.main_v80_2)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v80_0) = v0 c
          ∧ r.2.mem ((c.tc : Thread Cert.Kernel2Ideal.nD Cert.Kernel2Ideal.τ).loc Cert.Kernel2Ideal.main_v80_1) = v1 c
          ∧ r.2.mem ((c.tc : Thread Cert.Kernel2Ideal.nD Cert.Kernel2Ideal.τ).loc Cert.Kernel2Ideal.main_v80_2) = v2 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
          ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
          ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
          ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v172) = v0 c
          ∧ r.2.mem ((c.tc : Thread Cert.Reference2Ideal.nD Cert.Reference2Ideal.τ).loc Cert.Reference2Ideal.main_v106) = v1 c
          ∧ r.2.mem ((c.tc : Thread Cert.Reference2Ideal.nD Cert.Reference2Ideal.τ).loc Cert.Reference2Ideal.main_v100) = v2 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1)
          ∧ r.2.mem ((c.tc : Thread Cert.Reference2Ideal.nD Cert.Reference2Ideal.τ).loc Cert.Reference2Ideal.main_arg2) = m' ((c.tc : Thread Cert.Reference2Ideal.nD Cert.Reference2Ideal.τ).loc Cert.Reference2Ideal.main_arg2)
          ∧ r.2.mem ((c.tc : Thread Cert.Reference2Ideal.nD Cert.Reference2Ideal.τ).loc Cert.Reference2Ideal.main_arg3) = m' ((c.tc : Thread Cert.Reference2Ideal.nD Cert.Reference2Ideal.τ).loc Cert.Reference2Ideal.main_arg3)
          ∧ r.2.mem ((c.tc : Thread Cert.Reference2Ideal.nD Cert.Reference2Ideal.τ).loc Cert.Reference2Ideal.main_arg4) = m' ((c.tc : Thread Cert.Reference2Ideal.nD Cert.Reference2Ideal.τ).loc Cert.Reference2Ideal.main_arg4))

def preserves_Kernel3_Kernel3Ideal : Prop :=
  True

def algebraic_Kernel3Ideal_Reference3Ideal [hKernel3Ideal : Cert.Kernel3Ideal.Facts] [hReference3Ideal : Cert.Reference3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)
      ∧ m' ((c.tc : Thread Cert.Reference3Ideal.nD Cert.Reference3Ideal.τ).loc Cert.Reference3Ideal.main_arg2) = m ((c.tc : Thread Cert.Kernel3Ideal.nD Cert.Kernel3Ideal.τ).loc Cert.Kernel3Ideal.main_arg2)) →
    ∃ (v0 : (c : Dev Cert.Kernel3Ideal.nD) → Buf (Elt Ideal) ((c.tc : Thread Cert.Kernel3Ideal.nD Cert.Kernel3Ideal.τ).loc Cert.Kernel3Ideal.main_v0)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v0) = v0 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
          ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v15) = v0 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1)
          ∧ r.2.mem ((c.tc : Thread Cert.Reference3Ideal.nD Cert.Reference3Ideal.τ).loc Cert.Reference3Ideal.main_arg2) = m' ((c.tc : Thread Cert.Reference3Ideal.nD Cert.Reference3Ideal.τ).loc Cert.Reference3Ideal.main_arg2))

def preserves_Kernel4_Kernel4Ideal : Prop :=
  True

def algebraic_Kernel4Ideal_Reference4Ideal [hKernel4Ideal : Cert.Kernel4Ideal.Facts] [hReference4Ideal : Cert.Reference4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg)
    (m' : (ℓ : Loc Cert.Reference4Ideal.nD Cert.Reference4Ideal.τ Cert.Reference4Ideal.sig) → Buf (Elt Ideal) ℓ) (g' : Dev Cert.Reference4Ideal.nD → PrngReg), Pre_Kernel4Ideal m →
    (∀ c : Dev Cert.Kernel4Ideal.nD,
      m' ((c.tc : Thread Cert.Reference4Ideal.nD Cert.Reference4Ideal.τ).loc Cert.Reference4Ideal.main_arg0) = m ((c.tc : Thread Cert.Kernel4Ideal.nD Cert.Kernel4Ideal.τ).loc Cert.Kernel4Ideal.main_arg0)
      ∧ m' ((c.tc : Thread Cert.Reference4Ideal.nD Cert.Reference4Ideal.τ).loc Cert.Reference4Ideal.main_arg1) = m ((c.tc : Thread Cert.Kernel4Ideal.nD Cert.Kernel4Ideal.τ).loc Cert.Kernel4Ideal.main_arg1)) →
    ∃ (v0 : (c : Dev Cert.Kernel4Ideal.nD) → Buf (Elt Ideal) ((c.tc : Thread Cert.Kernel4Ideal.nD Cert.Kernel4Ideal.τ).loc Cert.Kernel4Ideal.main_v0)),
      θ_run (Cert.Kernel4Ideal.defs (F := Ideal)) (onTc (τ := Cert.Kernel4Ideal.τ) (Cert.Kernel4Ideal.main (F := Ideal))) ⟨m, fun _ => 0, g⟩ (fun r => ∀ c : Dev Cert.Kernel4Ideal.nD,
          r.2.mem ((c.tc : Thread Cert.Kernel4Ideal.nD Cert.Kernel4Ideal.τ).loc Cert.Kernel4Ideal.main_v0) = v0 c
          ∧ r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
          ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1))
      ∧ θ_run (Cert.Reference4Ideal.defs (F := Ideal)) (onTc (τ := Cert.Reference4Ideal.τ) (Cert.Reference4Ideal.main (F := Ideal))) ⟨m', fun _ => 0, g'⟩ (fun r => ∀ c : Dev Cert.Reference4Ideal.nD,
          r.2.mem ((c.tc : Thread Cert.Reference4Ideal.nD Cert.Reference4Ideal.τ).loc Cert.Reference4Ideal.main_v5) = v0 c
          ∧ r.2.mem ((c.tc : Thread Cert.Reference4Ideal.nD Cert.Reference4Ideal.τ).loc Cert.Reference4Ideal.main_arg0) = m' ((c.tc : Thread Cert.Reference4Ideal.nD Cert.Reference4Ideal.τ).loc Cert.Reference4Ideal.main_arg0)
          ∧ r.2.mem ((c.tc : Thread Cert.Reference4Ideal.nD Cert.Reference4Ideal.τ).loc Cert.Reference4Ideal.main_arg1) = m' ((c.tc : Thread Cert.Reference4Ideal.nD Cert.Reference4Ideal.τ).loc Cert.Reference4Ideal.main_arg1))

def preserves_Kernel5_Kernel5Ideal : Prop :=
  True

def algebraic_Kernel5Ideal_Reference5Ideal [hKernel5Ideal : Cert.Kernel5Ideal.Facts] [hReference5Ideal : Cert.Reference5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg)
    (m' : (ℓ : Loc Cert.Reference5Ideal.nD Cert.Reference5Ideal.τ Cert.Reference5Ideal.sig) → Buf (Elt Ideal) ℓ) (g' : Dev Cert.Reference5Ideal.nD → PrngReg), Pre_Kernel5Ideal m →
    (∀ c : Dev Cert.Kernel5Ideal.nD,
      m' ((c.tc : Thread Cert.Reference5Ideal.nD Cert.Reference5Ideal.τ).loc Cert.Reference5Ideal.main_arg0) = m ((c.tc : Thread Cert.Kernel5Ideal.nD Cert.Kernel5Ideal.τ).loc Cert.Kernel5Ideal.main_arg0)
      ∧ m' ((c.tc : Thread Cert.Reference5Ideal.nD Cert.Reference5Ideal.τ).loc Cert.Reference5Ideal.main_arg1) = m ((c.tc : Thread Cert.Kernel5Ideal.nD Cert.Kernel5Ideal.τ).loc Cert.Kernel5Ideal.main_arg1)) →
    ∃ (v0 : (c : Dev Cert.Kernel5Ideal.nD) → Buf (Elt Ideal) ((c.tc : Thread Cert.Kernel5Ideal.nD Cert.Kernel5Ideal.τ).loc Cert.Kernel5Ideal.main_v0)),
      θ_run (Cert.Kernel5Ideal.defs (F := Ideal)) (onTc (τ := Cert.Kernel5Ideal.τ) (Cert.Kernel5Ideal.main (F := Ideal))) ⟨m, fun _ => 0, g⟩ (fun r => ∀ c : Dev Cert.Kernel5Ideal.nD,
          r.2.mem ((c.tc : Thread Cert.Kernel5Ideal.nD Cert.Kernel5Ideal.τ).loc Cert.Kernel5Ideal.main_v0) = v0 c
          ∧ r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
          ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1))
      ∧ θ_run (Cert.Reference5Ideal.defs (F := Ideal)) (onTc (τ := Cert.Reference5Ideal.τ) (Cert.Reference5Ideal.main (F := Ideal))) ⟨m', fun _ => 0, g'⟩ (fun r => ∀ c : Dev Cert.Reference5Ideal.nD,
          r.2.mem ((c.tc : Thread Cert.Reference5Ideal.nD Cert.Reference5Ideal.τ).loc Cert.Reference5Ideal.main_v9) = v0 c
          ∧ r.2.mem ((c.tc : Thread Cert.Reference5Ideal.nD Cert.Reference5Ideal.τ).loc Cert.Reference5Ideal.main_arg0) = m' ((c.tc : Thread Cert.Reference5Ideal.nD Cert.Reference5Ideal.τ).loc Cert.Reference5Ideal.main_arg0)
          ∧ r.2.mem ((c.tc : Thread Cert.Reference5Ideal.nD Cert.Reference5Ideal.τ).loc Cert.Reference5Ideal.main_arg1) = m' ((c.tc : Thread Cert.Reference5Ideal.nD Cert.Reference5Ideal.τ).loc Cert.Reference5Ideal.main_arg1))

def preserves_Kernel6_Kernel6Ideal : Prop :=
  True

def algebraic_Kernel6Ideal_Reference6Ideal_pre_finite6 [hKernel6Ideal : Cert.Kernel6Ideal.Facts] [hReference6Ideal : Cert.Reference6Ideal.Facts] [hPre_finite6 : Cert.Pre_finite6.Facts] : Prop :=
  ∀ (m : (ℓ : Loc Cert.Kernel6Ideal.nD Cert.Kernel6Ideal.τ Cert.Kernel6Ideal.sig) → Buf (Elt Ideal) ℓ) (g : Dev Cert.Kernel6Ideal.nD → PrngReg)
    (m' : (ℓ : Loc Cert.Reference6Ideal.nD Cert.Reference6Ideal.τ Cert.Reference6Ideal.sig) → Buf (Elt Ideal) ℓ) (g' : Dev Cert.Reference6Ideal.nD → PrngReg), Pre_Kernel6Ideal_finite6 m →
    (∀ c : Dev Cert.Kernel6Ideal.nD,
      m' ((c.tc : Thread Cert.Reference6Ideal.nD Cert.Reference6Ideal.τ).loc Cert.Reference6Ideal.main_arg0) = m ((c.tc : Thread Cert.Kernel6Ideal.nD Cert.Kernel6Ideal.τ).loc Cert.Kernel6Ideal.main_arg0)
      ∧ m' ((c.tc : Thread Cert.Reference6Ideal.nD Cert.Reference6Ideal.τ).loc Cert.Reference6Ideal.main_arg1) = m ((c.tc : Thread Cert.Kernel6Ideal.nD Cert.Kernel6Ideal.τ).loc Cert.Kernel6Ideal.main_arg1)
      ∧ m' ((c.tc : Thread Cert.Reference6Ideal.nD Cert.Reference6Ideal.τ).loc Cert.Reference6Ideal.main_arg2) = m ((c.tc : Thread Cert.Kernel6Ideal.nD Cert.Kernel6Ideal.τ).loc Cert.Kernel6Ideal.main_arg2)
      ∧ m' ((c.tc : Thread Cert.Reference6Ideal.nD Cert.Reference6Ideal.τ).loc Cert.Reference6Ideal.main_arg3) = m ((c.tc : Thread Cert.Kernel6Ideal.nD Cert.Kernel6Ideal.τ).loc Cert.Kernel6Ideal.main_arg3)
      ∧ m' ((c.tc : Thread Cert.Reference6Ideal.nD Cert.Reference6Ideal.τ).loc Cert.Reference6Ideal.main_arg4) = m ((c.tc : Thread Cert.Kernel6Ideal.nD Cert.Kernel6Ideal.τ).loc Cert.Kernel6Ideal.main_arg4)
      ∧ m' ((c.tc : Thread Cert.Reference6Ideal.nD Cert.Reference6Ideal.τ).loc Cert.Reference6Ideal.main_arg5) = m ((c.tc : Thread Cert.Kernel6Ideal.nD Cert.Kernel6Ideal.τ).loc Cert.Kernel6Ideal.main_arg5)
      ∧ m' ((c.tc : Thread Cert.Reference6Ideal.nD Cert.Reference6Ideal.τ).loc Cert.Reference6Ideal.main_arg6) = m ((c.tc : Thread Cert.Kernel6Ideal.nD Cert.Kernel6Ideal.τ).loc Cert.Kernel6Ideal.main_arg6)) →
    ∃ (v0 : (c : Dev Cert.Kernel6Ideal.nD) → Buf (Elt Ideal) ((c.tc : Thread Cert.Kernel6Ideal.nD Cert.Kernel6Ideal.τ).loc Cert.Kernel6Ideal.main_v29_0)) (v1 : (c : Dev Cert.Kernel6Ideal.nD) → Buf (Elt Ideal) ((c.tc : Thread Cert.Kernel6Ideal.nD Cert.Kernel6Ideal.τ).loc Cert.Kernel6Ideal.main_v29_1)) (v2 : (c : Dev Cert.Kernel6Ideal.nD) → Buf (Elt Ideal) ((c.tc : Thread Cert.Kernel6Ideal.nD Cert.Kernel6Ideal.τ).loc Cert.Kernel6Ideal.main_v29_2)) (v3 : (c : Dev Cert.Kernel6Ideal.nD) → Buf (Elt Ideal) ((c.tc : Thread Cert.Kernel6Ideal.nD Cert.Kernel6Ideal.τ).loc Cert.Kernel6Ideal.main_v29_3)),
      θ_run (Cert.Kernel6Ideal.defs (F := Ideal)) (onTc (τ := Cert.Kernel6Ideal.τ) (Cert.Kernel6Ideal.main (F := Ideal))) ⟨m, fun _ => 0, g⟩ (fun r => ∀ c : Dev Cert.Kernel6Ideal.nD,
          r.2.mem ((c.tc : Thread Cert.Kernel6Ideal.nD Cert.Kernel6Ideal.τ).loc Cert.Kernel6Ideal.main_v29_0) = v0 c
          ∧ r.2.mem ((c.tc : Thread Cert.Kernel6Ideal.nD Cert.Kernel6Ideal.τ).loc Cert.Kernel6Ideal.main_v29_1) = v1 c
          ∧ r.2.mem ((c.tc : Thread Cert.Kernel6Ideal.nD Cert.Kernel6Ideal.τ).loc Cert.Kernel6Ideal.main_v29_2) = v2 c
          ∧ r.2.mem ((c.tc : Thread Cert.Kernel6Ideal.nD Cert.Kernel6Ideal.τ).loc Cert.Kernel6Ideal.main_v29_3) = v3 c
          ∧ r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
          ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
          ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2)
          ∧ r.2.mem ((c.tc : Thread Cert.Kernel6Ideal.nD Cert.Kernel6Ideal.τ).loc Cert.Kernel6Ideal.main_arg3) = m ((c.tc : Thread Cert.Kernel6Ideal.nD Cert.Kernel6Ideal.τ).loc Cert.Kernel6Ideal.main_arg3)
          ∧ r.2.mem ((c.tc : Thread Cert.Kernel6Ideal.nD Cert.Kernel6Ideal.τ).loc Cert.Kernel6Ideal.main_arg4) = m ((c.tc : Thread Cert.Kernel6Ideal.nD Cert.Kernel6Ideal.τ).loc Cert.Kernel6Ideal.main_arg4)
          ∧ r.2.mem ((c.tc : Thread Cert.Kernel6Ideal.nD Cert.Kernel6Ideal.τ).loc Cert.Kernel6Ideal.main_arg5) = m ((c.tc : Thread Cert.Kernel6Ideal.nD Cert.Kernel6Ideal.τ).loc Cert.Kernel6Ideal.main_arg5)
          ∧ r.2.mem ((c.tc : Thread Cert.Kernel6Ideal.nD Cert.Kernel6Ideal.τ).loc Cert.Kernel6Ideal.main_arg6) = m ((c.tc : Thread Cert.Kernel6Ideal.nD Cert.Kernel6Ideal.τ).loc Cert.Kernel6Ideal.main_arg6))
      ∧ θ_run (Cert.Reference6Ideal.defs (F := Ideal)) (onTc (τ := Cert.Reference6Ideal.τ) (Cert.Reference6Ideal.main (F := Ideal))) ⟨m', fun _ => 0, g'⟩ (fun r => ∀ c : Dev Cert.Reference6Ideal.nD,
          r.2.mem ((c.tc : Thread Cert.Reference6Ideal.nD Cert.Reference6Ideal.τ).loc Cert.Reference6Ideal.main_v56) = v0 c
          ∧ r.2.mem ((c.tc : Thread Cert.Reference6Ideal.nD Cert.Reference6Ideal.τ).loc Cert.Reference6Ideal.main_v39) = v1 c
          ∧ r.2.mem ((c.tc : Thread Cert.Reference6Ideal.nD Cert.Reference6Ideal.τ).loc Cert.Reference6Ideal.main_v77) = v2 c
          ∧ r.2.mem ((c.tc : Thread Cert.Reference6Ideal.nD Cert.Reference6Ideal.τ).loc Cert.Reference6Ideal.main_v60) = v3 c
          ∧ r.2.mem ((c.tc : Thread Cert.Reference6Ideal.nD Cert.Reference6Ideal.τ).loc Cert.Reference6Ideal.main_arg0) = m' ((c.tc : Thread Cert.Reference6Ideal.nD Cert.Reference6Ideal.τ).loc Cert.Reference6Ideal.main_arg0)
          ∧ r.2.mem ((c.tc : Thread Cert.Reference6Ideal.nD Cert.Reference6Ideal.τ).loc Cert.Reference6Ideal.main_arg1) = m' ((c.tc : Thread Cert.Reference6Ideal.nD Cert.Reference6Ideal.τ).loc Cert.Reference6Ideal.main_arg1)
          ∧ r.2.mem ((c.tc : Thread Cert.Reference6Ideal.nD Cert.Reference6Ideal.τ).loc Cert.Reference6Ideal.main_arg2) = m' ((c.tc : Thread Cert.Reference6Ideal.nD Cert.Reference6Ideal.τ).loc Cert.Reference6Ideal.main_arg2)
          ∧ r.2.mem ((c.tc : Thread Cert.Reference6Ideal.nD Cert.Reference6Ideal.τ).loc Cert.Reference6Ideal.main_arg3) = m' ((c.tc : Thread Cert.Reference6Ideal.nD Cert.Reference6Ideal.τ).loc Cert.Reference6Ideal.main_arg3)
          ∧ r.2.mem ((c.tc : Thread Cert.Reference6Ideal.nD Cert.Reference6Ideal.τ).loc Cert.Reference6Ideal.main_arg4) = m' ((c.tc : Thread Cert.Reference6Ideal.nD Cert.Reference6Ideal.τ).loc Cert.Reference6Ideal.main_arg4)
          ∧ r.2.mem ((c.tc : Thread Cert.Reference6Ideal.nD Cert.Reference6Ideal.τ).loc Cert.Reference6Ideal.main_arg5) = m' ((c.tc : Thread Cert.Reference6Ideal.nD Cert.Reference6Ideal.τ).loc Cert.Reference6Ideal.main_arg5)
          ∧ r.2.mem ((c.tc : Thread Cert.Reference6Ideal.nD Cert.Reference6Ideal.τ).loc Cert.Reference6Ideal.main_arg6) = m' ((c.tc : Thread Cert.Reference6Ideal.nD Cert.Reference6Ideal.τ).loc Cert.Reference6Ideal.main_arg6))

def preserves_Kernel7_Kernel7Ideal : Prop :=
  True

def algebraic_Kernel7Ideal_Reference7Ideal_pre_finite7 [hKernel7Ideal : Cert.Kernel7Ideal.Facts] [hReference7Ideal : Cert.Reference7Ideal.Facts] [hPre_finite7 : Cert.Pre_finite7.Facts] : Prop :=
  ∀ (m : (ℓ : Loc Cert.Kernel7Ideal.nD Cert.Kernel7Ideal.τ Cert.Kernel7Ideal.sig) → Buf (Elt Ideal) ℓ) (g : Dev Cert.Kernel7Ideal.nD → PrngReg)
    (m' : (ℓ : Loc Cert.Reference7Ideal.nD Cert.Reference7Ideal.τ Cert.Reference7Ideal.sig) → Buf (Elt Ideal) ℓ) (g' : Dev Cert.Reference7Ideal.nD → PrngReg), Pre_Kernel7Ideal_finite7 m →
    (∀ c : Dev Cert.Kernel7Ideal.nD,
      m' ((c.tc : Thread Cert.Reference7Ideal.nD Cert.Reference7Ideal.τ).loc Cert.Reference7Ideal.main_arg0) = m ((c.tc : Thread Cert.Kernel7Ideal.nD Cert.Kernel7Ideal.τ).loc Cert.Kernel7Ideal.main_arg0)
      ∧ m' ((c.tc : Thread Cert.Reference7Ideal.nD Cert.Reference7Ideal.τ).loc Cert.Reference7Ideal.main_arg1) = m ((c.tc : Thread Cert.Kernel7Ideal.nD Cert.Kernel7Ideal.τ).loc Cert.Kernel7Ideal.main_arg1)
      ∧ m' ((c.tc : Thread Cert.Reference7Ideal.nD Cert.Reference7Ideal.τ).loc Cert.Reference7Ideal.main_arg2) = m ((c.tc : Thread Cert.Kernel7Ideal.nD Cert.Kernel7Ideal.τ).loc Cert.Kernel7Ideal.main_arg2)
      ∧ m' ((c.tc : Thread Cert.Reference7Ideal.nD Cert.Reference7Ideal.τ).loc Cert.Reference7Ideal.main_arg3) = m ((c.tc : Thread Cert.Kernel7Ideal.nD Cert.Kernel7Ideal.τ).loc Cert.Kernel7Ideal.main_arg3)
      ∧ m' ((c.tc : Thread Cert.Reference7Ideal.nD Cert.Reference7Ideal.τ).loc Cert.Reference7Ideal.main_arg4) = m ((c.tc : Thread Cert.Kernel7Ideal.nD Cert.Kernel7Ideal.τ).loc Cert.Kernel7Ideal.main_arg4)
      ∧ m' ((c.tc : Thread Cert.Reference7Ideal.nD Cert.Reference7Ideal.τ).loc Cert.Reference7Ideal.main_arg5) = m ((c.tc : Thread Cert.Kernel7Ideal.nD Cert.Kernel7Ideal.τ).loc Cert.Kernel7Ideal.main_arg5)
      ∧ m' ((c.tc : Thread Cert.Reference7Ideal.nD Cert.Reference7Ideal.τ).loc Cert.Reference7Ideal.main_arg6) = m ((c.tc : Thread Cert.Kernel7Ideal.nD Cert.Kernel7Ideal.τ).loc Cert.Kernel7Ideal.main_arg6)
      ∧ m' ((c.tc : Thread Cert.Reference7Ideal.nD Cert.Reference7Ideal.τ).loc Cert.Reference7Ideal.main_arg7) = m ((c.tc : Thread Cert.Kernel7Ideal.nD Cert.Kernel7Ideal.τ).loc Cert.Kernel7Ideal.main_arg7)
      ∧ m' ((c.tc : Thread Cert.Reference7Ideal.nD Cert.Reference7Ideal.τ).loc Cert.Reference7Ideal.main_arg8) = m ((c.tc : Thread Cert.Kernel7Ideal.nD Cert.Kernel7Ideal.τ).loc Cert.Kernel7Ideal.main_arg8)) →
    ∃ (v0 : (c : Dev Cert.Kernel7Ideal.nD) → Buf (Elt Ideal) ((c.tc : Thread Cert.Kernel7Ideal.nD Cert.Kernel7Ideal.τ).loc Cert.Kernel7Ideal.main_v29_0)) (v1 : (c : Dev Cert.Kernel7Ideal.nD) → Buf (Elt Ideal) ((c.tc : Thread Cert.Kernel7Ideal.nD Cert.Kernel7Ideal.τ).loc Cert.Kernel7Ideal.main_v29_1)) (v2 : (c : Dev Cert.Kernel7Ideal.nD) → Buf (Elt Ideal) ((c.tc : Thread Cert.Kernel7Ideal.nD Cert.Kernel7Ideal.τ).loc Cert.Kernel7Ideal.main_v29_2)) (v3 : (c : Dev Cert.Kernel7Ideal.nD) → Buf (Elt Ideal) ((c.tc : Thread Cert.Kernel7Ideal.nD Cert.Kernel7Ideal.τ).loc Cert.Kernel7Ideal.main_v29_3)),
      θ_run (Cert.Kernel7Ideal.defs (F := Ideal)) (onTc (τ := Cert.Kernel7Ideal.τ) (Cert.Kernel7Ideal.main (F := Ideal))) ⟨m, fun _ => 0, g⟩ (fun r => ∀ c : Dev Cert.Kernel7Ideal.nD,
          r.2.mem ((c.tc : Thread Cert.Kernel7Ideal.nD Cert.Kernel7Ideal.τ).loc Cert.Kernel7Ideal.main_v29_0) = v0 c
          ∧ r.2.mem ((c.tc : Thread Cert.Kernel7Ideal.nD Cert.Kernel7Ideal.τ).loc Cert.Kernel7Ideal.main_v29_1) = v1 c
          ∧ r.2.mem ((c.tc : Thread Cert.Kernel7Ideal.nD Cert.Kernel7Ideal.τ).loc Cert.Kernel7Ideal.main_v29_2) = v2 c
          ∧ r.2.mem ((c.tc : Thread Cert.Kernel7Ideal.nD Cert.Kernel7Ideal.τ).loc Cert.Kernel7Ideal.main_v29_3) = v3 c
          ∧ r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
          ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1)
          ∧ r.2.mem ((c.tc : Thread Cert.Kernel7Ideal.nD Cert.Kernel7Ideal.τ).loc Cert.Kernel7Ideal.main_arg2) = m ((c.tc : Thread Cert.Kernel7Ideal.nD Cert.Kernel7Ideal.τ).loc Cert.Kernel7Ideal.main_arg2)
          ∧ r.2.mem ((c.tc : Thread Cert.Kernel7Ideal.nD Cert.Kernel7Ideal.τ).loc Cert.Kernel7Ideal.main_arg3) = m ((c.tc : Thread Cert.Kernel7Ideal.nD Cert.Kernel7Ideal.τ).loc Cert.Kernel7Ideal.main_arg3)
          ∧ r.2.mem ((c.tc : Thread Cert.Kernel7Ideal.nD Cert.Kernel7Ideal.τ).loc Cert.Kernel7Ideal.main_arg4) = m ((c.tc : Thread Cert.Kernel7Ideal.nD Cert.Kernel7Ideal.τ).loc Cert.Kernel7Ideal.main_arg4)
          ∧ r.2.mem ((c.tc : Thread Cert.Kernel7Ideal.nD Cert.Kernel7Ideal.τ).loc Cert.Kernel7Ideal.main_arg5) = m ((c.tc : Thread Cert.Kernel7Ideal.nD Cert.Kernel7Ideal.τ).loc Cert.Kernel7Ideal.main_arg5)
          ∧ r.2.mem ((c.tc : Thread Cert.Kernel7Ideal.nD Cert.Kernel7Ideal.τ).loc Cert.Kernel7Ideal.main_arg6) = m ((c.tc : Thread Cert.Kernel7Ideal.nD Cert.Kernel7Ideal.τ).loc Cert.Kernel7Ideal.main_arg6)
          ∧ r.2.mem ((c.tc : Thread Cert.Kernel7Ideal.nD Cert.Kernel7Ideal.τ).loc Cert.Kernel7Ideal.main_arg7) = m ((c.tc : Thread Cert.Kernel7Ideal.nD Cert.Kernel7Ideal.τ).loc Cert.Kernel7Ideal.main_arg7)
          ∧ r.2.mem ((c.tc : Thread Cert.Kernel7Ideal.nD Cert.Kernel7Ideal.τ).loc Cert.Kernel7Ideal.main_arg8) = m ((c.tc : Thread Cert.Kernel7Ideal.nD Cert.Kernel7Ideal.τ).loc Cert.Kernel7Ideal.main_arg8))
      ∧ θ_run (Cert.Reference7Ideal.defs (F := Ideal)) (onTc (τ := Cert.Reference7Ideal.τ) (Cert.Reference7Ideal.main (F := Ideal))) ⟨m', fun _ => 0, g'⟩ (fun r => ∀ c : Dev Cert.Reference7Ideal.nD,
          r.2.mem ((c.tc : Thread Cert.Reference7Ideal.nD Cert.Reference7Ideal.τ).loc Cert.Reference7Ideal.main_v55) = v0 c
          ∧ r.2.mem ((c.tc : Thread Cert.Reference7Ideal.nD Cert.Reference7Ideal.τ).loc Cert.Reference7Ideal.main_v38) = v1 c
          ∧ r.2.mem ((c.tc : Thread Cert.Reference7Ideal.nD Cert.Reference7Ideal.τ).loc Cert.Reference7Ideal.main_v76) = v2 c
          ∧ r.2.mem ((c.tc : Thread Cert.Reference7Ideal.nD Cert.Reference7Ideal.τ).loc Cert.Reference7Ideal.main_v59) = v3 c
          ∧ r.2.mem ((c.tc : Thread Cert.Reference7Ideal.nD Cert.Reference7Ideal.τ).loc Cert.Reference7Ideal.main_arg0) = m' ((c.tc : Thread Cert.Reference7Ideal.nD Cert.Reference7Ideal.τ).loc Cert.Reference7Ideal.main_arg0)
          ∧ r.2.mem ((c.tc : Thread Cert.Reference7Ideal.nD Cert.Reference7Ideal.τ).loc Cert.Reference7Ideal.main_arg1) = m' ((c.tc : Thread Cert.Reference7Ideal.nD Cert.Reference7Ideal.τ).loc Cert.Reference7Ideal.main_arg1)
          ∧ r.2.mem ((c.tc : Thread Cert.Reference7Ideal.nD Cert.Reference7Ideal.τ).loc Cert.Reference7Ideal.main_arg2) = m' ((c.tc : Thread Cert.Reference7Ideal.nD Cert.Reference7Ideal.τ).loc Cert.Reference7Ideal.main_arg2)
          ∧ r.2.mem ((c.tc : Thread Cert.Reference7Ideal.nD Cert.Reference7Ideal.τ).loc Cert.Reference7Ideal.main_arg3) = m' ((c.tc : Thread Cert.Reference7Ideal.nD Cert.Reference7Ideal.τ).loc Cert.Reference7Ideal.main_arg3)
          ∧ r.2.mem ((c.tc : Thread Cert.Reference7Ideal.nD Cert.Reference7Ideal.τ).loc Cert.Reference7Ideal.main_arg4) = m' ((c.tc : Thread Cert.Reference7Ideal.nD Cert.Reference7Ideal.τ).loc Cert.Reference7Ideal.main_arg4)
          ∧ r.2.mem ((c.tc : Thread Cert.Reference7Ideal.nD Cert.Reference7Ideal.τ).loc Cert.Reference7Ideal.main_arg5) = m' ((c.tc : Thread Cert.Reference7Ideal.nD Cert.Reference7Ideal.τ).loc Cert.Reference7Ideal.main_arg5)
          ∧ r.2.mem ((c.tc : Thread Cert.Reference7Ideal.nD Cert.Reference7Ideal.τ).loc Cert.Reference7Ideal.main_arg6) = m' ((c.tc : Thread Cert.Reference7Ideal.nD Cert.Reference7Ideal.τ).loc Cert.Reference7Ideal.main_arg6)
          ∧ r.2.mem ((c.tc : Thread Cert.Reference7Ideal.nD Cert.Reference7Ideal.τ).loc Cert.Reference7Ideal.main_arg7) = m' ((c.tc : Thread Cert.Reference7Ideal.nD Cert.Reference7Ideal.τ).loc Cert.Reference7Ideal.main_arg7)
          ∧ r.2.mem ((c.tc : Thread Cert.Reference7Ideal.nD Cert.Reference7Ideal.τ).loc Cert.Reference7Ideal.main_arg8) = m' ((c.tc : Thread Cert.Reference7Ideal.nD Cert.Reference7Ideal.τ).loc Cert.Reference7Ideal.main_arg8))

def preserves_Kernel8_Kernel8Ideal : Prop :=
  True

def algebraic_Kernel8Ideal_Reference8Ideal [hKernel8Ideal : Cert.Kernel8Ideal.Facts] [hReference8Ideal : Cert.Reference8Ideal.Facts] : Prop :=
  ∀ (m : (ℓ : Loc Cert.Kernel8Ideal.nD Cert.Kernel8Ideal.τ Cert.Kernel8Ideal.sig) → Buf (Elt Ideal) ℓ) (g : Dev Cert.Kernel8Ideal.nD → PrngReg)
    (m' : (ℓ : Loc Cert.Reference8Ideal.nD Cert.Reference8Ideal.τ Cert.Reference8Ideal.sig) → Buf (Elt Ideal) ℓ) (g' : Dev Cert.Reference8Ideal.nD → PrngReg), Pre_Kernel8Ideal m →
    (∀ c : Dev Cert.Kernel8Ideal.nD,
      m' ((c.tc : Thread Cert.Reference8Ideal.nD Cert.Reference8Ideal.τ).loc Cert.Reference8Ideal.main_arg0) = m ((c.tc : Thread Cert.Kernel8Ideal.nD Cert.Kernel8Ideal.τ).loc Cert.Kernel8Ideal.main_arg0)
      ∧ m' ((c.tc : Thread Cert.Reference8Ideal.nD Cert.Reference8Ideal.τ).loc Cert.Reference8Ideal.main_arg1) = m ((c.tc : Thread Cert.Kernel8Ideal.nD Cert.Kernel8Ideal.τ).loc Cert.Kernel8Ideal.main_arg1)
      ∧ m' ((c.tc : Thread Cert.Reference8Ideal.nD Cert.Reference8Ideal.τ).loc Cert.Reference8Ideal.main_arg2) = m ((c.tc : Thread Cert.Kernel8Ideal.nD Cert.Kernel8Ideal.τ).loc Cert.Kernel8Ideal.main_arg2)
      ∧ m' ((c.tc : Thread Cert.Reference8Ideal.nD Cert.Reference8Ideal.τ).loc Cert.Reference8Ideal.main_arg3) = m ((c.tc : Thread Cert.Kernel8Ideal.nD Cert.Kernel8Ideal.τ).loc Cert.Kernel8Ideal.main_arg3)) →
    ∃ (v0 : (c : Dev Cert.Kernel8Ideal.nD) → Buf (Elt Ideal) ((c.tc : Thread Cert.Kernel8Ideal.nD Cert.Kernel8Ideal.τ).loc Cert.Kernel8Ideal.main_v0)),
      θ_run (Cert.Kernel8Ideal.defs (F := Ideal)) (onTc (τ := Cert.Kernel8Ideal.τ) (Cert.Kernel8Ideal.main (F := Ideal))) ⟨m, fun _ => 0, g⟩ (fun r => ∀ c : Dev Cert.Kernel8Ideal.nD,
          r.2.mem ((c.tc : Thread Cert.Kernel8Ideal.nD Cert.Kernel8Ideal.τ).loc Cert.Kernel8Ideal.main_v0) = v0 c
          ∧ r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
          ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1)
          ∧ r.2.mem ((c.tc : Thread Cert.Kernel8Ideal.nD Cert.Kernel8Ideal.τ).loc Cert.Kernel8Ideal.main_arg2) = m ((c.tc : Thread Cert.Kernel8Ideal.nD Cert.Kernel8Ideal.τ).loc Cert.Kernel8Ideal.main_arg2)
          ∧ r.2.mem ((c.tc : Thread Cert.Kernel8Ideal.nD Cert.Kernel8Ideal.τ).loc Cert.Kernel8Ideal.main_arg3) = m ((c.tc : Thread Cert.Kernel8Ideal.nD Cert.Kernel8Ideal.τ).loc Cert.Kernel8Ideal.main_arg3))
      ∧ θ_run (Cert.Reference8Ideal.defs (F := Ideal)) (onTc (τ := Cert.Reference8Ideal.τ) (Cert.Reference8Ideal.main (F := Ideal))) ⟨m', fun _ => 0, g'⟩ (fun r => ∀ c : Dev Cert.Reference8Ideal.nD,
          r.2.mem ((c.tc : Thread Cert.Reference8Ideal.nD Cert.Reference8Ideal.τ).loc Cert.Reference8Ideal.main_v7) = v0 c
          ∧ r.2.mem ((c.tc : Thread Cert.Reference8Ideal.nD Cert.Reference8Ideal.τ).loc Cert.Reference8Ideal.main_arg0) = m' ((c.tc : Thread Cert.Reference8Ideal.nD Cert.Reference8Ideal.τ).loc Cert.Reference8Ideal.main_arg0)
          ∧ r.2.mem ((c.tc : Thread Cert.Reference8Ideal.nD Cert.Reference8Ideal.τ).loc Cert.Reference8Ideal.main_arg1) = m' ((c.tc : Thread Cert.Reference8Ideal.nD Cert.Reference8Ideal.τ).loc Cert.Reference8Ideal.main_arg1)
          ∧ r.2.mem ((c.tc : Thread Cert.Reference8Ideal.nD Cert.Reference8Ideal.τ).loc Cert.Reference8Ideal.main_arg2) = m' ((c.tc : Thread Cert.Reference8Ideal.nD Cert.Reference8Ideal.τ).loc Cert.Reference8Ideal.main_arg2)
          ∧ r.2.mem ((c.tc : Thread Cert.Reference8Ideal.nD Cert.Reference8Ideal.τ).loc Cert.Reference8Ideal.main_arg3) = m' ((c.tc : Thread Cert.Reference8Ideal.nD Cert.Reference8Ideal.τ).loc Cert.Reference8Ideal.main_arg3))

def preserves_Kernel9_Kernel9Ideal : Prop :=
  True

def algebraic_Kernel9Ideal_Reference9Ideal [hKernel9Ideal : Cert.Kernel9Ideal.Facts] [hReference9Ideal : Cert.Reference9Ideal.Facts] : Prop :=
  ∀ (m : (ℓ : Loc Cert.Kernel9Ideal.nD Cert.Kernel9Ideal.τ Cert.Kernel9Ideal.sig) → Buf (Elt Ideal) ℓ) (g : Dev Cert.Kernel9Ideal.nD → PrngReg)
    (m' : (ℓ : Loc Cert.Reference9Ideal.nD Cert.Reference9Ideal.τ Cert.Reference9Ideal.sig) → Buf (Elt Ideal) ℓ) (g' : Dev Cert.Reference9Ideal.nD → PrngReg), Pre_Kernel9Ideal m →
    (∀ c : Dev Cert.Kernel9Ideal.nD,
      m' ((c.tc : Thread Cert.Reference9Ideal.nD Cert.Reference9Ideal.τ).loc Cert.Reference9Ideal.main_arg0) = m ((c.tc : Thread Cert.Kernel9Ideal.nD Cert.Kernel9Ideal.τ).loc Cert.Kernel9Ideal.main_arg0)
      ∧ m' ((c.tc : Thread Cert.Reference9Ideal.nD Cert.Reference9Ideal.τ).loc Cert.Reference9Ideal.main_arg1) = m ((c.tc : Thread Cert.Kernel9Ideal.nD Cert.Kernel9Ideal.τ).loc Cert.Kernel9Ideal.main_arg1)
      ∧ m' ((c.tc : Thread Cert.Reference9Ideal.nD Cert.Reference9Ideal.τ).loc Cert.Reference9Ideal.main_arg2) = m ((c.tc : Thread Cert.Kernel9Ideal.nD Cert.Kernel9Ideal.τ).loc Cert.Kernel9Ideal.main_arg2)) →
    ∃ (v0 : (c : Dev Cert.Kernel9Ideal.nD) → Buf (Elt Ideal) ((c.tc : Thread Cert.Kernel9Ideal.nD Cert.Kernel9Ideal.τ).loc Cert.Kernel9Ideal.main_v0)),
      θ_run (Cert.Kernel9Ideal.defs (F := Ideal)) (onTc (τ := Cert.Kernel9Ideal.τ) (Cert.Kernel9Ideal.main (F := Ideal))) ⟨m, fun _ => 0, g⟩ (fun r => ∀ c : Dev Cert.Kernel9Ideal.nD,
          r.2.mem ((c.tc : Thread Cert.Kernel9Ideal.nD Cert.Kernel9Ideal.τ).loc Cert.Kernel9Ideal.main_v0) = v0 c
          ∧ r.2.mem ((c.tc : Thread Cert.Kernel9Ideal.nD Cert.Kernel9Ideal.τ).loc Cert.Kernel9Ideal.main_arg0) = m ((c.tc : Thread Cert.Kernel9Ideal.nD Cert.Kernel9Ideal.τ).loc Cert.Kernel9Ideal.main_arg0)
          ∧ r.2.mem ((c.tc : Thread Cert.Kernel9Ideal.nD Cert.Kernel9Ideal.τ).loc Cert.Kernel9Ideal.main_arg1) = m ((c.tc : Thread Cert.Kernel9Ideal.nD Cert.Kernel9Ideal.τ).loc Cert.Kernel9Ideal.main_arg1)
          ∧ r.2.mem ((c.tc : Thread Cert.Kernel9Ideal.nD Cert.Kernel9Ideal.τ).loc Cert.Kernel9Ideal.main_arg2) = m ((c.tc : Thread Cert.Kernel9Ideal.nD Cert.Kernel9Ideal.τ).loc Cert.Kernel9Ideal.main_arg2))
      ∧ θ_run (Cert.Reference9Ideal.defs (F := Ideal)) (onTc (τ := Cert.Reference9Ideal.τ) (Cert.Reference9Ideal.main (F := Ideal))) ⟨m', fun _ => 0, g'⟩ (fun r => ∀ c : Dev Cert.Reference9Ideal.nD,
          r.2.mem ((c.tc : Thread Cert.Reference9Ideal.nD Cert.Reference9Ideal.τ).loc Cert.Reference9Ideal.main_v6) = v0 c
          ∧ r.2.mem ((c.tc : Thread Cert.Reference9Ideal.nD Cert.Reference9Ideal.τ).loc Cert.Reference9Ideal.main_arg0) = m' ((c.tc : Thread Cert.Reference9Ideal.nD Cert.Reference9Ideal.τ).loc Cert.Reference9Ideal.main_arg0)
          ∧ r.2.mem ((c.tc : Thread Cert.Reference9Ideal.nD Cert.Reference9Ideal.τ).loc Cert.Reference9Ideal.main_arg1) = m' ((c.tc : Thread Cert.Reference9Ideal.nD Cert.Reference9Ideal.τ).loc Cert.Reference9Ideal.main_arg1)
          ∧ r.2.mem ((c.tc : Thread Cert.Reference9Ideal.nD Cert.Reference9Ideal.τ).loc Cert.Reference9Ideal.main_arg2) = m' ((c.tc : Thread Cert.Reference9Ideal.nD Cert.Reference9Ideal.τ).loc Cert.Reference9Ideal.main_arg2))

def preserves_Kernel10_Kernel10Ideal : Prop :=
  True

def algebraic_Kernel10Ideal_Reference10Ideal_pre_finite10 [hKernel10Ideal : Cert.Kernel10Ideal.Facts] [hReference10Ideal : Cert.Reference10Ideal.Facts] [hPre_finite10 : Cert.Pre_finite10.Facts] : Prop :=
  ∀ (m : (ℓ : Loc Cert.Kernel10Ideal.nD Cert.Kernel10Ideal.τ Cert.Kernel10Ideal.sig) → Buf (Elt Ideal) ℓ) (g : Dev Cert.Kernel10Ideal.nD → PrngReg)
    (m' : (ℓ : Loc Cert.Reference10Ideal.nD Cert.Reference10Ideal.τ Cert.Reference10Ideal.sig) → Buf (Elt Ideal) ℓ) (g' : Dev Cert.Reference10Ideal.nD → PrngReg), Pre_Kernel10Ideal_finite10 m →
    (∀ c : Dev Cert.Kernel10Ideal.nD,
      m' ((c.tc : Thread Cert.Reference10Ideal.nD Cert.Reference10Ideal.τ).loc Cert.Reference10Ideal.main_arg0) = m ((c.tc : Thread Cert.Kernel10Ideal.nD Cert.Kernel10Ideal.τ).loc Cert.Kernel10Ideal.main_arg0)
      ∧ m' ((c.tc : Thread Cert.Reference10Ideal.nD Cert.Reference10Ideal.τ).loc Cert.Reference10Ideal.main_arg1) = m ((c.tc : Thread Cert.Kernel10Ideal.nD Cert.Kernel10Ideal.τ).loc Cert.Kernel10Ideal.main_arg1)
      ∧ m' ((c.tc : Thread Cert.Reference10Ideal.nD Cert.Reference10Ideal.τ).loc Cert.Reference10Ideal.main_arg2) = m ((c.tc : Thread Cert.Kernel10Ideal.nD Cert.Kernel10Ideal.τ).loc Cert.Kernel10Ideal.main_arg2)
      ∧ m' ((c.tc : Thread Cert.Reference10Ideal.nD Cert.Reference10Ideal.τ).loc Cert.Reference10Ideal.main_arg3) = m ((c.tc : Thread Cert.Kernel10Ideal.nD Cert.Kernel10Ideal.τ).loc Cert.Kernel10Ideal.main_arg3)
      ∧ m' ((c.tc : Thread Cert.Reference10Ideal.nD Cert.Reference10Ideal.τ).loc Cert.Reference10Ideal.main_arg4) = m ((c.tc : Thread Cert.Kernel10Ideal.nD Cert.Kernel10Ideal.τ).loc Cert.Kernel10Ideal.main_arg4)
      ∧ m' ((c.tc : Thread Cert.Reference10Ideal.nD Cert.Reference10Ideal.τ).loc Cert.Reference10Ideal.main_arg5) = m ((c.tc : Thread Cert.Kernel10Ideal.nD Cert.Kernel10Ideal.τ).loc Cert.Kernel10Ideal.main_arg5)
      ∧ m' ((c.tc : Thread Cert.Reference10Ideal.nD Cert.Reference10Ideal.τ).loc Cert.Reference10Ideal.main_arg6) = m ((c.tc : Thread Cert.Kernel10Ideal.nD Cert.Kernel10Ideal.τ).loc Cert.Kernel10Ideal.main_arg6)
      ∧ m' ((c.tc : Thread Cert.Reference10Ideal.nD Cert.Reference10Ideal.τ).loc Cert.Reference10Ideal.main_arg7) = m ((c.tc : Thread Cert.Kernel10Ideal.nD Cert.Kernel10Ideal.τ).loc Cert.Kernel10Ideal.main_arg7)
      ∧ m' ((c.tc : Thread Cert.Reference10Ideal.nD Cert.Reference10Ideal.τ).loc Cert.Reference10Ideal.main_arg8) = m ((c.tc : Thread Cert.Kernel10Ideal.nD Cert.Kernel10Ideal.τ).loc Cert.Kernel10Ideal.main_arg8)) →
    ∃ (v0 : (c : Dev Cert.Kernel10Ideal.nD) → Buf (Elt Ideal) ((c.tc : Thread Cert.Kernel10Ideal.nD Cert.Kernel10Ideal.τ).loc Cert.Kernel10Ideal.main_v9_0)) (v1 : (c : Dev Cert.Kernel10Ideal.nD) → Buf (Elt Ideal) ((c.tc : Thread Cert.Kernel10Ideal.nD Cert.Kernel10Ideal.τ).loc Cert.Kernel10Ideal.main_v9_1)),
      θ_run (Cert.Kernel10Ideal.defs (F := Ideal)) (onTc (τ := Cert.Kernel10Ideal.τ) (Cert.Kernel10Ideal.main (F := Ideal))) ⟨m, fun _ => 0, g⟩ (fun r => ∀ c : Dev Cert.Kernel10Ideal.nD,
          r.2.mem ((c.tc : Thread Cert.Kernel10Ideal.nD Cert.Kernel10Ideal.τ).loc Cert.Kernel10Ideal.main_v9_0) = v0 c
          ∧ r.2.mem ((c.tc : Thread Cert.Kernel10Ideal.nD Cert.Kernel10Ideal.τ).loc Cert.Kernel10Ideal.main_v9_1) = v1 c
          ∧ r.2.mem ((c.tc : Thread Cert.Kernel10Ideal.nD Cert.Kernel10Ideal.τ).loc Cert.Kernel10Ideal.main_arg0) = m ((c.tc : Thread Cert.Kernel10Ideal.nD Cert.Kernel10Ideal.τ).loc Cert.Kernel10Ideal.main_arg0)
          ∧ r.2.mem ((c.tc : Thread Cert.Kernel10Ideal.nD Cert.Kernel10Ideal.τ).loc Cert.Kernel10Ideal.main_arg1) = m ((c.tc : Thread Cert.Kernel10Ideal.nD Cert.Kernel10Ideal.τ).loc Cert.Kernel10Ideal.main_arg1)
          ∧ r.2.mem ((c.tc : Thread Cert.Kernel10Ideal.nD Cert.Kernel10Ideal.τ).loc Cert.Kernel10Ideal.main_arg2) = m ((c.tc : Thread Cert.Kernel10Ideal.nD Cert.Kernel10Ideal.τ).loc Cert.Kernel10Ideal.main_arg2)
          ∧ r.2.mem ((c.tc : Thread Cert.Kernel10Ideal.nD Cert.Kernel10Ideal.τ).loc Cert.Kernel10Ideal.main_arg3) = m ((c.tc : Thread Cert.Kernel10Ideal.nD Cert.Kernel10Ideal.τ).loc Cert.Kernel10Ideal.main_arg3)
          ∧ r.2.mem ((c.tc : Thread Cert.Kernel10Ideal.nD Cert.Kernel10Ideal.τ).loc Cert.Kernel10Ideal.main_arg4) = m ((c.tc : Thread Cert.Kernel10Ideal.nD Cert.Kernel10Ideal.τ).loc Cert.Kernel10Ideal.main_arg4)
          ∧ r.2.mem ((c.tc : Thread Cert.Kernel10Ideal.nD Cert.Kernel10Ideal.τ).loc Cert.Kernel10Ideal.main_arg5) = m ((c.tc : Thread Cert.Kernel10Ideal.nD Cert.Kernel10Ideal.τ).loc Cert.Kernel10Ideal.main_arg5)
          ∧ r.2.mem ((c.tc : Thread Cert.Kernel10Ideal.nD Cert.Kernel10Ideal.τ).loc Cert.Kernel10Ideal.main_arg6) = m ((c.tc : Thread Cert.Kernel10Ideal.nD Cert.Kernel10Ideal.τ).loc Cert.Kernel10Ideal.main_arg6)
          ∧ r.2.mem ((c.tc : Thread Cert.Kernel10Ideal.nD Cert.Kernel10Ideal.τ).loc Cert.Kernel10Ideal.main_arg7) = m ((c.tc : Thread Cert.Kernel10Ideal.nD Cert.Kernel10Ideal.τ).loc Cert.Kernel10Ideal.main_arg7)
          ∧ r.2.mem ((c.tc : Thread Cert.Kernel10Ideal.nD Cert.Kernel10Ideal.τ).loc Cert.Kernel10Ideal.main_arg8) = m ((c.tc : Thread Cert.Kernel10Ideal.nD Cert.Kernel10Ideal.τ).loc Cert.Kernel10Ideal.main_arg8))
      ∧ θ_run (Cert.Reference10Ideal.defs (F := Ideal)) (onTc (τ := Cert.Reference10Ideal.τ) (Cert.Reference10Ideal.main (F := Ideal))) ⟨m', fun _ => 0, g'⟩ (fun r => ∀ c : Dev Cert.Reference10Ideal.nD,
          r.2.mem ((c.tc : Thread Cert.Reference10Ideal.nD Cert.Reference10Ideal.τ).loc Cert.Reference10Ideal.main_v40) = v0 c
          ∧ r.2.mem ((c.tc : Thread Cert.Reference10Ideal.nD Cert.Reference10Ideal.τ).loc Cert.Reference10Ideal.main_v23) = v1 c
          ∧ r.2.mem ((c.tc : Thread Cert.Reference10Ideal.nD Cert.Reference10Ideal.τ).loc Cert.Reference10Ideal.main_arg0) = m' ((c.tc : Thread Cert.Reference10Ideal.nD Cert.Reference10Ideal.τ).loc Cert.Reference10Ideal.main_arg0)
          ∧ r.2.mem ((c.tc : Thread Cert.Reference10Ideal.nD Cert.Reference10Ideal.τ).loc Cert.Reference10Ideal.main_arg1) = m' ((c.tc : Thread Cert.Reference10Ideal.nD Cert.Reference10Ideal.τ).loc Cert.Reference10Ideal.main_arg1)
          ∧ r.2.mem ((c.tc : Thread Cert.Reference10Ideal.nD Cert.Reference10Ideal.τ).loc Cert.Reference10Ideal.main_arg2) = m' ((c.tc : Thread Cert.Reference10Ideal.nD Cert.Reference10Ideal.τ).loc Cert.Reference10Ideal.main_arg2)
          ∧ r.2.mem ((c.tc : Thread Cert.Reference10Ideal.nD Cert.Reference10Ideal.τ).loc Cert.Reference10Ideal.main_arg3) = m' ((c.tc : Thread Cert.Reference10Ideal.nD Cert.Reference10Ideal.τ).loc Cert.Reference10Ideal.main_arg3)
          ∧ r.2.mem ((c.tc : Thread Cert.Reference10Ideal.nD Cert.Reference10Ideal.τ).loc Cert.Reference10Ideal.main_arg4) = m' ((c.tc : Thread Cert.Reference10Ideal.nD Cert.Reference10Ideal.τ).loc Cert.Reference10Ideal.main_arg4)
          ∧ r.2.mem ((c.tc : Thread Cert.Reference10Ideal.nD Cert.Reference10Ideal.τ).loc Cert.Reference10Ideal.main_arg5) = m' ((c.tc : Thread Cert.Reference10Ideal.nD Cert.Reference10Ideal.τ).loc Cert.Reference10Ideal.main_arg5)
          ∧ r.2.mem ((c.tc : Thread Cert.Reference10Ideal.nD Cert.Reference10Ideal.τ).loc Cert.Reference10Ideal.main_arg6) = m' ((c.tc : Thread Cert.Reference10Ideal.nD Cert.Reference10Ideal.τ).loc Cert.Reference10Ideal.main_arg6)
          ∧ r.2.mem ((c.tc : Thread Cert.Reference10Ideal.nD Cert.Reference10Ideal.τ).loc Cert.Reference10Ideal.main_arg7) = m' ((c.tc : Thread Cert.Reference10Ideal.nD Cert.Reference10Ideal.τ).loc Cert.Reference10Ideal.main_arg7)
          ∧ r.2.mem ((c.tc : Thread Cert.Reference10Ideal.nD Cert.Reference10Ideal.τ).loc Cert.Reference10Ideal.main_arg8) = m' ((c.tc : Thread Cert.Reference10Ideal.nD Cert.Reference10Ideal.τ).loc Cert.Reference10Ideal.main_arg8))

def preserves_Kernel11_Kernel11Ideal : Prop :=
  True

def algebraic_Kernel11Ideal_Reference11Ideal [hKernel11Ideal : Cert.Kernel11Ideal.Facts] [hReference11Ideal : Cert.Reference11Ideal.Facts] : Prop :=
  ∀ (m : (ℓ : Loc Cert.Kernel11Ideal.nD Cert.Kernel11Ideal.τ Cert.Kernel11Ideal.sig) → Buf (Elt Ideal) ℓ) (g : Dev Cert.Kernel11Ideal.nD → PrngReg)
    (m' : (ℓ : Loc Cert.Reference11Ideal.nD Cert.Reference11Ideal.τ Cert.Reference11Ideal.sig) → Buf (Elt Ideal) ℓ) (g' : Dev Cert.Reference11Ideal.nD → PrngReg), Pre_Kernel11Ideal m →
    (∀ c : Dev Cert.Kernel11Ideal.nD,
      m' ((c.tc : Thread Cert.Reference11Ideal.nD Cert.Reference11Ideal.τ).loc Cert.Reference11Ideal.main_arg0) = m ((c.tc : Thread Cert.Kernel11Ideal.nD Cert.Kernel11Ideal.τ).loc Cert.Kernel11Ideal.main_arg0)
      ∧ m' ((c.tc : Thread Cert.Reference11Ideal.nD Cert.Reference11Ideal.τ).loc Cert.Reference11Ideal.main_arg1) = m ((c.tc : Thread Cert.Kernel11Ideal.nD Cert.Kernel11Ideal.τ).loc Cert.Kernel11Ideal.main_arg1)
      ∧ m' ((c.tc : Thread Cert.Reference11Ideal.nD Cert.Reference11Ideal.τ).loc Cert.Reference11Ideal.main_arg2) = m ((c.tc : Thread Cert.Kernel11Ideal.nD Cert.Kernel11Ideal.τ).loc Cert.Kernel11Ideal.main_arg2)
      ∧ m' ((c.tc : Thread Cert.Reference11Ideal.nD Cert.Reference11Ideal.τ).loc Cert.Reference11Ideal.main_arg3) = m ((c.tc : Thread Cert.Kernel11Ideal.nD Cert.Kernel11Ideal.τ).loc Cert.Kernel11Ideal.main_arg3)
      ∧ m' ((c.tc : Thread Cert.Reference11Ideal.nD Cert.Reference11Ideal.τ).loc Cert.Reference11Ideal.main_arg4) = m ((c.tc : Thread Cert.Kernel11Ideal.nD Cert.Kernel11Ideal.τ).loc Cert.Kernel11Ideal.main_arg4)
      ∧ m' ((c.tc : Thread Cert.Reference11Ideal.nD Cert.Reference11Ideal.τ).loc Cert.Reference11Ideal.main_arg5) = m ((c.tc : Thread Cert.Kernel11Ideal.nD Cert.Kernel11Ideal.τ).loc Cert.Kernel11Ideal.main_arg5)) →
    ∃ (v0 : (c : Dev Cert.Kernel11Ideal.nD) → Buf (Elt Ideal) ((c.tc : Thread Cert.Kernel11Ideal.nD Cert.Kernel11Ideal.τ).loc Cert.Kernel11Ideal.main_v0)),
      θ_run (Cert.Kernel11Ideal.defs (F := Ideal)) (onTc (τ := Cert.Kernel11Ideal.τ) (Cert.Kernel11Ideal.main (F := Ideal))) ⟨m, fun _ => 0, g⟩ (fun r => ∀ c : Dev Cert.Kernel11Ideal.nD,
          r.2.mem ((c.tc : Thread Cert.Kernel11Ideal.nD Cert.Kernel11Ideal.τ).loc Cert.Kernel11Ideal.main_v0) = v0 c
          ∧ r.2.mem ((c.tc : Thread Cert.Kernel11Ideal.nD Cert.Kernel11Ideal.τ).loc Cert.Kernel11Ideal.main_arg0) = m ((c.tc : Thread Cert.Kernel11Ideal.nD Cert.Kernel11Ideal.τ).loc Cert.Kernel11Ideal.main_arg0)
          ∧ r.2.mem ((c.tc : Thread Cert.Kernel11Ideal.nD Cert.Kernel11Ideal.τ).loc Cert.Kernel11Ideal.main_arg1) = m ((c.tc : Thread Cert.Kernel11Ideal.nD Cert.Kernel11Ideal.τ).loc Cert.Kernel11Ideal.main_arg1)
          ∧ r.2.mem ((c.tc : Thread Cert.Kernel11Ideal.nD Cert.Kernel11Ideal.τ).loc Cert.Kernel11Ideal.main_arg2) = m ((c.tc : Thread Cert.Kernel11Ideal.nD Cert.Kernel11Ideal.τ).loc Cert.Kernel11Ideal.main_arg2)
          ∧ r.2.mem ((c.tc : Thread Cert.Kernel11Ideal.nD Cert.Kernel11Ideal.τ).loc Cert.Kernel11Ideal.main_arg3) = m ((c.tc : Thread Cert.Kernel11Ideal.nD Cert.Kernel11Ideal.τ).loc Cert.Kernel11Ideal.main_arg3)
          ∧ r.2.mem ((c.tc : Thread Cert.Kernel11Ideal.nD Cert.Kernel11Ideal.τ).loc Cert.Kernel11Ideal.main_arg4) = m ((c.tc : Thread Cert.Kernel11Ideal.nD Cert.Kernel11Ideal.τ).loc Cert.Kernel11Ideal.main_arg4)
          ∧ r.2.mem ((c.tc : Thread Cert.Kernel11Ideal.nD Cert.Kernel11Ideal.τ).loc Cert.Kernel11Ideal.main_arg5) = m ((c.tc : Thread Cert.Kernel11Ideal.nD Cert.Kernel11Ideal.τ).loc Cert.Kernel11Ideal.main_arg5))
      ∧ θ_run (Cert.Reference11Ideal.defs (F := Ideal)) (onTc (τ := Cert.Reference11Ideal.τ) (Cert.Reference11Ideal.main (F := Ideal))) ⟨m', fun _ => 0, g'⟩ (fun r => ∀ c : Dev Cert.Reference11Ideal.nD,
          r.2.mem ((c.tc : Thread Cert.Reference11Ideal.nD Cert.Reference11Ideal.τ).loc Cert.Reference11Ideal.main_v8) = v0 c
          ∧ r.2.mem ((c.tc : Thread Cert.Reference11Ideal.nD Cert.Reference11Ideal.τ).loc Cert.Reference11Ideal.main_arg0) = m' ((c.tc : Thread Cert.Reference11Ideal.nD Cert.Reference11Ideal.τ).loc Cert.Reference11Ideal.main_arg0)
          ∧ r.2.mem ((c.tc : Thread Cert.Reference11Ideal.nD Cert.Reference11Ideal.τ).loc Cert.Reference11Ideal.main_arg1) = m' ((c.tc : Thread Cert.Reference11Ideal.nD Cert.Reference11Ideal.τ).loc Cert.Reference11Ideal.main_arg1)
          ∧ r.2.mem ((c.tc : Thread Cert.Reference11Ideal.nD Cert.Reference11Ideal.τ).loc Cert.Reference11Ideal.main_arg2) = m' ((c.tc : Thread Cert.Reference11Ideal.nD Cert.Reference11Ideal.τ).loc Cert.Reference11Ideal.main_arg2)
          ∧ r.2.mem ((c.tc : Thread Cert.Reference11Ideal.nD Cert.Reference11Ideal.τ).loc Cert.Reference11Ideal.main_arg3) = m' ((c.tc : Thread Cert.Reference11Ideal.nD Cert.Reference11Ideal.τ).loc Cert.Reference11Ideal.main_arg3)
          ∧ r.2.mem ((c.tc : Thread Cert.Reference11Ideal.nD Cert.Reference11Ideal.τ).loc Cert.Reference11Ideal.main_arg4) = m' ((c.tc : Thread Cert.Reference11Ideal.nD Cert.Reference11Ideal.τ).loc Cert.Reference11Ideal.main_arg4)
          ∧ r.2.mem ((c.tc : Thread Cert.Reference11Ideal.nD Cert.Reference11Ideal.τ).loc Cert.Reference11Ideal.main_arg5) = m' ((c.tc : Thread Cert.Reference11Ideal.nD Cert.Reference11Ideal.τ).loc Cert.Reference11Ideal.main_arg5))

def preserves_Kernel12_Kernel12Ideal : Prop :=
  True

def algebraic_Kernel12Ideal_Reference12Ideal [hKernel12Ideal : Cert.Kernel12Ideal.Facts] [hReference12Ideal : Cert.Reference12Ideal.Facts] : Prop :=
  ∀ (m : (ℓ : Loc Cert.Kernel12Ideal.nD Cert.Kernel12Ideal.τ Cert.Kernel12Ideal.sig) → Buf (Elt Ideal) ℓ) (g : Dev Cert.Kernel12Ideal.nD → PrngReg)
    (m' : (ℓ : Loc Cert.Reference12Ideal.nD Cert.Reference12Ideal.τ Cert.Reference12Ideal.sig) → Buf (Elt Ideal) ℓ) (g' : Dev Cert.Reference12Ideal.nD → PrngReg), Pre_Kernel12Ideal m →
    (∀ c : Dev Cert.Kernel12Ideal.nD,
      m' ((c.tc : Thread Cert.Reference12Ideal.nD Cert.Reference12Ideal.τ).loc Cert.Reference12Ideal.main_arg0) = m ((c.tc : Thread Cert.Kernel12Ideal.nD Cert.Kernel12Ideal.τ).loc Cert.Kernel12Ideal.main_arg0)
      ∧ m' ((c.tc : Thread Cert.Reference12Ideal.nD Cert.Reference12Ideal.τ).loc Cert.Reference12Ideal.main_arg1) = m ((c.tc : Thread Cert.Kernel12Ideal.nD Cert.Kernel12Ideal.τ).loc Cert.Kernel12Ideal.main_arg1)) →
    ∃ (v0 : (c : Dev Cert.Kernel12Ideal.nD) → Buf (Elt Ideal) ((c.tc : Thread Cert.Kernel12Ideal.nD Cert.Kernel12Ideal.τ).loc Cert.Kernel12Ideal.main_v1)),
      θ_run (Cert.Kernel12Ideal.defs (F := Ideal)) (onTc (τ := Cert.Kernel12Ideal.τ) (Cert.Kernel12Ideal.main (F := Ideal))) ⟨m, fun _ => 0, g⟩ (fun r => ∀ c : Dev Cert.Kernel12Ideal.nD,
          r.2.mem ((c.tc : Thread Cert.Kernel12Ideal.nD Cert.Kernel12Ideal.τ).loc Cert.Kernel12Ideal.main_v1) = v0 c
          ∧ r.2.mem ((c.tc : Thread Cert.Kernel12Ideal.nD Cert.Kernel12Ideal.τ).loc Cert.Kernel12Ideal.main_arg0) = m ((c.tc : Thread Cert.Kernel12Ideal.nD Cert.Kernel12Ideal.τ).loc Cert.Kernel12Ideal.main_arg0)
          ∧ r.2.mem ((c.tc : Thread Cert.Kernel12Ideal.nD Cert.Kernel12Ideal.τ).loc Cert.Kernel12Ideal.main_arg1) = m ((c.tc : Thread Cert.Kernel12Ideal.nD Cert.Kernel12Ideal.τ).loc Cert.Kernel12Ideal.main_arg1))
      ∧ θ_run (Cert.Reference12Ideal.defs (F := Ideal)) (onTc (τ := Cert.Reference12Ideal.τ) (Cert.Reference12Ideal.main (F := Ideal))) ⟨m', fun _ => 0, g'⟩ (fun r => ∀ c : Dev Cert.Reference12Ideal.nD,
          r.2.mem ((c.tc : Thread Cert.Reference12Ideal.nD Cert.Reference12Ideal.τ).loc Cert.Reference12Ideal.main_v5) = v0 c
          ∧ r.2.mem ((c.tc : Thread Cert.Reference12Ideal.nD Cert.Reference12Ideal.τ).loc Cert.Reference12Ideal.main_arg0) = m' ((c.tc : Thread Cert.Reference12Ideal.nD Cert.Reference12Ideal.τ).loc Cert.Reference12Ideal.main_arg0)
          ∧ r.2.mem ((c.tc : Thread Cert.Reference12Ideal.nD Cert.Reference12Ideal.τ).loc Cert.Reference12Ideal.main_arg1) = m' ((c.tc : Thread Cert.Reference12Ideal.nD Cert.Reference12Ideal.τ).loc Cert.Reference12Ideal.main_arg1))

def preserves_Kernel13_Kernel13Ideal : Prop :=
  True

def algebraic_Kernel13Ideal_Reference13Ideal [hKernel13Ideal : Cert.Kernel13Ideal.Facts] [hReference13Ideal : Cert.Reference13Ideal.Facts] : Prop :=
  ∀ (m : (ℓ : Loc Cert.Kernel13Ideal.nD Cert.Kernel13Ideal.τ Cert.Kernel13Ideal.sig) → Buf (Elt Ideal) ℓ) (g : Dev Cert.Kernel13Ideal.nD → PrngReg)
    (m' : (ℓ : Loc Cert.Reference13Ideal.nD Cert.Reference13Ideal.τ Cert.Reference13Ideal.sig) → Buf (Elt Ideal) ℓ) (g' : Dev Cert.Reference13Ideal.nD → PrngReg), Pre_Kernel13Ideal m →
    (∀ c : Dev Cert.Kernel13Ideal.nD,
      m' ((c.tc : Thread Cert.Reference13Ideal.nD Cert.Reference13Ideal.τ).loc Cert.Reference13Ideal.main_arg0) = m ((c.tc : Thread Cert.Kernel13Ideal.nD Cert.Kernel13Ideal.τ).loc Cert.Kernel13Ideal.main_arg0)
      ∧ m' ((c.tc : Thread Cert.Reference13Ideal.nD Cert.Reference13Ideal.τ).loc Cert.Reference13Ideal.main_arg1) = m ((c.tc : Thread Cert.Kernel13Ideal.nD Cert.Kernel13Ideal.τ).loc Cert.Kernel13Ideal.main_arg1)) →
    ∃ (v0 : (c : Dev Cert.Kernel13Ideal.nD) → Buf (Elt Ideal) ((c.tc : Thread Cert.Kernel13Ideal.nD Cert.Kernel13Ideal.τ).loc Cert.Kernel13Ideal.main_v0_0)) (v1 : (c : Dev Cert.Kernel13Ideal.nD) → Buf (Elt Ideal) ((c.tc : Thread Cert.Kernel13Ideal.nD Cert.Kernel13Ideal.τ).loc Cert.Kernel13Ideal.main_v0_1)),
      θ_run (Cert.Kernel13Ideal.defs (F := Ideal)) (onTc (τ := Cert.Kernel13Ideal.τ) (Cert.Kernel13Ideal.main (F := Ideal))) ⟨m, fun _ => 0, g⟩ (fun r => ∀ c : Dev Cert.Kernel13Ideal.nD,
          r.2.mem ((c.tc : Thread Cert.Kernel13Ideal.nD Cert.Kernel13Ideal.τ).loc Cert.Kernel13Ideal.main_v0_0) = v0 c
          ∧ r.2.mem ((c.tc : Thread Cert.Kernel13Ideal.nD Cert.Kernel13Ideal.τ).loc Cert.Kernel13Ideal.main_v0_1) = v1 c
          ∧ r.2.mem ((c.tc : Thread Cert.Kernel13Ideal.nD Cert.Kernel13Ideal.τ).loc Cert.Kernel13Ideal.main_arg0) = m ((c.tc : Thread Cert.Kernel13Ideal.nD Cert.Kernel13Ideal.τ).loc Cert.Kernel13Ideal.main_arg0)
          ∧ r.2.mem ((c.tc : Thread Cert.Kernel13Ideal.nD Cert.Kernel13Ideal.τ).loc Cert.Kernel13Ideal.main_arg1) = m ((c.tc : Thread Cert.Kernel13Ideal.nD Cert.Kernel13Ideal.τ).loc Cert.Kernel13Ideal.main_arg1))
      ∧ θ_run (Cert.Reference13Ideal.defs (F := Ideal)) (onTc (τ := Cert.Reference13Ideal.τ) (Cert.Reference13Ideal.main (F := Ideal))) ⟨m', fun _ => 0, g'⟩ (fun r => ∀ c : Dev Cert.Reference13Ideal.nD,
          r.2.mem ((c.tc : Thread Cert.Reference13Ideal.nD Cert.Reference13Ideal.τ).loc Cert.Reference13Ideal.main_v5) = v0 c
          ∧ r.2.mem ((c.tc : Thread Cert.Reference13Ideal.nD Cert.Reference13Ideal.τ).loc Cert.Reference13Ideal.main_v8) = v1 c
          ∧ r.2.mem ((c.tc : Thread Cert.Reference13Ideal.nD Cert.Reference13Ideal.τ).loc Cert.Reference13Ideal.main_arg0) = m' ((c.tc : Thread Cert.Reference13Ideal.nD Cert.Reference13Ideal.τ).loc Cert.Reference13Ideal.main_arg0)
          ∧ r.2.mem ((c.tc : Thread Cert.Reference13Ideal.nD Cert.Reference13Ideal.τ).loc Cert.Reference13Ideal.main_arg1) = m' ((c.tc : Thread Cert.Reference13Ideal.nD Cert.Reference13Ideal.τ).loc Cert.Reference13Ideal.main_arg1))

def preserves_Kernel14_Kernel14Ideal : Prop :=
  True

def algebraic_Kernel14Ideal_Reference14Ideal [hKernel14Ideal : Cert.Kernel14Ideal.Facts] [hReference14Ideal : Cert.Reference14Ideal.Facts] : Prop :=
  ∀ (m : (ℓ : Loc Cert.Kernel14Ideal.nD Cert.Kernel14Ideal.τ Cert.Kernel14Ideal.sig) → Buf (Elt Ideal) ℓ) (g : Dev Cert.Kernel14Ideal.nD → PrngReg)
    (m' : (ℓ : Loc Cert.Reference14Ideal.nD Cert.Reference14Ideal.τ Cert.Reference14Ideal.sig) → Buf (Elt Ideal) ℓ) (g' : Dev Cert.Reference14Ideal.nD → PrngReg), Pre_Kernel14Ideal m →
    (∀ c : Dev Cert.Kernel14Ideal.nD,
      m' ((c.tc : Thread Cert.Reference14Ideal.nD Cert.Reference14Ideal.τ).loc Cert.Reference14Ideal.main_arg0) = m ((c.tc : Thread Cert.Kernel14Ideal.nD Cert.Kernel14Ideal.τ).loc Cert.Kernel14Ideal.main_arg0)
      ∧ m' ((c.tc : Thread Cert.Reference14Ideal.nD Cert.Reference14Ideal.τ).loc Cert.Reference14Ideal.main_arg1) = m ((c.tc : Thread Cert.Kernel14Ideal.nD Cert.Kernel14Ideal.τ).loc Cert.Kernel14Ideal.main_arg1)
      ∧ m' ((c.tc : Thread Cert.Reference14Ideal.nD Cert.Reference14Ideal.τ).loc Cert.Reference14Ideal.main_arg2) = m ((c.tc : Thread Cert.Kernel14Ideal.nD Cert.Kernel14Ideal.τ).loc Cert.Kernel14Ideal.main_arg2)
      ∧ m' ((c.tc : Thread Cert.Reference14Ideal.nD Cert.Reference14Ideal.τ).loc Cert.Reference14Ideal.main_arg3) = m ((c.tc : Thread Cert.Kernel14Ideal.nD Cert.Kernel14Ideal.τ).loc Cert.Kernel14Ideal.main_arg3)
      ∧ m' ((c.tc : Thread Cert.Reference14Ideal.nD Cert.Reference14Ideal.τ).loc Cert.Reference14Ideal.main_arg4) = m ((c.tc : Thread Cert.Kernel14Ideal.nD Cert.Kernel14Ideal.τ).loc Cert.Kernel14Ideal.main_arg4)) →
    ∃ (v0 : (c : Dev Cert.Kernel14Ideal.nD) → Buf (Elt Ideal) ((c.tc : Thread Cert.Kernel14Ideal.nD Cert.Kernel14Ideal.τ).loc Cert.Kernel14Ideal.main_v0_0)) (v1 : (c : Dev Cert.Kernel14Ideal.nD) → Buf (Elt Ideal) ((c.tc : Thread Cert.Kernel14Ideal.nD Cert.Kernel14Ideal.τ).loc Cert.Kernel14Ideal.main_v0_1)) (v2 : (c : Dev Cert.Kernel14Ideal.nD) → Buf (Elt Ideal) ((c.tc : Thread Cert.Kernel14Ideal.nD Cert.Kernel14Ideal.τ).loc Cert.Kernel14Ideal.main_v0_2)) (v3 : (c : Dev Cert.Kernel14Ideal.nD) → Buf (Elt Ideal) ((c.tc : Thread Cert.Kernel14Ideal.nD Cert.Kernel14Ideal.τ).loc Cert.Kernel14Ideal.main_v0_3)) (v4 : (c : Dev Cert.Kernel14Ideal.nD) → Buf (Elt Ideal) ((c.tc : Thread Cert.Kernel14Ideal.nD Cert.Kernel14Ideal.τ).loc Cert.Kernel14Ideal.main_v0_4)),
      θ_run (Cert.Kernel14Ideal.defs (F := Ideal)) (onTc (τ := Cert.Kernel14Ideal.τ) (Cert.Kernel14Ideal.main (F := Ideal))) ⟨m, fun _ => 0, g⟩ (fun r => ∀ c : Dev Cert.Kernel14Ideal.nD,
          r.2.mem ((c.tc : Thread Cert.Kernel14Ideal.nD Cert.Kernel14Ideal.τ).loc Cert.Kernel14Ideal.main_v0_0) = v0 c
          ∧ r.2.mem ((c.tc : Thread Cert.Kernel14Ideal.nD Cert.Kernel14Ideal.τ).loc Cert.Kernel14Ideal.main_v0_1) = v1 c
          ∧ r.2.mem ((c.tc : Thread Cert.Kernel14Ideal.nD Cert.Kernel14Ideal.τ).loc Cert.Kernel14Ideal.main_v0_2) = v2 c
          ∧ r.2.mem ((c.tc : Thread Cert.Kernel14Ideal.nD Cert.Kernel14Ideal.τ).loc Cert.Kernel14Ideal.main_v0_3) = v3 c
          ∧ r.2.mem ((c.tc : Thread Cert.Kernel14Ideal.nD Cert.Kernel14Ideal.τ).loc Cert.Kernel14Ideal.main_v0_4) = v4 c
          ∧ r.2.mem ((c.tc : Thread Cert.Kernel14Ideal.nD Cert.Kernel14Ideal.τ).loc Cert.Kernel14Ideal.main_arg0) = m ((c.tc : Thread Cert.Kernel14Ideal.nD Cert.Kernel14Ideal.τ).loc Cert.Kernel14Ideal.main_arg0)
          ∧ r.2.mem ((c.tc : Thread Cert.Kernel14Ideal.nD Cert.Kernel14Ideal.τ).loc Cert.Kernel14Ideal.main_arg1) = m ((c.tc : Thread Cert.Kernel14Ideal.nD Cert.Kernel14Ideal.τ).loc Cert.Kernel14Ideal.main_arg1)
          ∧ r.2.mem ((c.tc : Thread Cert.Kernel14Ideal.nD Cert.Kernel14Ideal.τ).loc Cert.Kernel14Ideal.main_arg2) = m ((c.tc : Thread Cert.Kernel14Ideal.nD Cert.Kernel14Ideal.τ).loc Cert.Kernel14Ideal.main_arg2)
          ∧ r.2.mem ((c.tc : Thread Cert.Kernel14Ideal.nD Cert.Kernel14Ideal.τ).loc Cert.Kernel14Ideal.main_arg3) = m ((c.tc : Thread Cert.Kernel14Ideal.nD Cert.Kernel14Ideal.τ).loc Cert.Kernel14Ideal.main_arg3)
          ∧ r.2.mem ((c.tc : Thread Cert.Kernel14Ideal.nD Cert.Kernel14Ideal.τ).loc Cert.Kernel14Ideal.main_arg4) = m ((c.tc : Thread Cert.Kernel14Ideal.nD Cert.Kernel14Ideal.τ).loc Cert.Kernel14Ideal.main_arg4))
      ∧ θ_run (Cert.Reference14Ideal.defs (F := Ideal)) (onTc (τ := Cert.Reference14Ideal.τ) (Cert.Reference14Ideal.main (F := Ideal))) ⟨m', fun _ => 0, g'⟩ (fun r => ∀ c : Dev Cert.Reference14Ideal.nD,
          r.2.mem ((c.tc : Thread Cert.Reference14Ideal.nD Cert.Reference14Ideal.τ).loc Cert.Reference14Ideal.main_v15) = v0 c
          ∧ r.2.mem ((c.tc : Thread Cert.Reference14Ideal.nD Cert.Reference14Ideal.τ).loc Cert.Reference14Ideal.main_v23) = v1 c
          ∧ r.2.mem ((c.tc : Thread Cert.Reference14Ideal.nD Cert.Reference14Ideal.τ).loc Cert.Reference14Ideal.main_v36) = v2 c
          ∧ r.2.mem ((c.tc : Thread Cert.Reference14Ideal.nD Cert.Reference14Ideal.τ).loc Cert.Reference14Ideal.main_v44) = v3 c
          ∧ r.2.mem ((c.tc : Thread Cert.Reference14Ideal.nD Cert.Reference14Ideal.τ).loc Cert.Reference14Ideal.main_v2) = v4 c
          ∧ r.2.mem ((c.tc : Thread Cert.Reference14Ideal.nD Cert.Reference14Ideal.τ).loc Cert.Reference14Ideal.main_arg0) = m' ((c.tc : Thread Cert.Reference14Ideal.nD Cert.Reference14Ideal.τ).loc Cert.Reference14Ideal.main_arg0)
          ∧ r.2.mem ((c.tc : Thread Cert.Reference14Ideal.nD Cert.Reference14Ideal.τ).loc Cert.Reference14Ideal.main_arg1) = m' ((c.tc : Thread Cert.Reference14Ideal.nD Cert.Reference14Ideal.τ).loc Cert.Reference14Ideal.main_arg1)
          ∧ r.2.mem ((c.tc : Thread Cert.Reference14Ideal.nD Cert.Reference14Ideal.τ).loc Cert.Reference14Ideal.main_arg2) = m' ((c.tc : Thread Cert.Reference14Ideal.nD Cert.Reference14Ideal.τ).loc Cert.Reference14Ideal.main_arg2)
          ∧ r.2.mem ((c.tc : Thread Cert.Reference14Ideal.nD Cert.Reference14Ideal.τ).loc Cert.Reference14Ideal.main_arg3) = m' ((c.tc : Thread Cert.Reference14Ideal.nD Cert.Reference14Ideal.τ).loc Cert.Reference14Ideal.main_arg3)
          ∧ r.2.mem ((c.tc : Thread Cert.Reference14Ideal.nD Cert.Reference14Ideal.τ).loc Cert.Reference14Ideal.main_arg4) = m' ((c.tc : Thread Cert.Reference14Ideal.nD Cert.Reference14Ideal.τ).loc Cert.Reference14Ideal.main_arg4))

def preserves_Kernel15_Kernel15Ideal : Prop :=
  True

def algebraic_Kernel15Ideal_Reference15Ideal_pre_finite15 [hKernel15Ideal : Cert.Kernel15Ideal.Facts] [hReference15Ideal : Cert.Reference15Ideal.Facts] [hPre_finite15 : Cert.Pre_finite15.Facts] : Prop :=
  ∀ (m : (ℓ : Loc Cert.Kernel15Ideal.nD Cert.Kernel15Ideal.τ Cert.Kernel15Ideal.sig) → Buf (Elt Ideal) ℓ) (g : Dev Cert.Kernel15Ideal.nD → PrngReg)
    (m' : (ℓ : Loc Cert.Reference15Ideal.nD Cert.Reference15Ideal.τ Cert.Reference15Ideal.sig) → Buf (Elt Ideal) ℓ) (g' : Dev Cert.Reference15Ideal.nD → PrngReg), Pre_Kernel15Ideal_finite15 m →
    (∀ c : Dev Cert.Kernel15Ideal.nD,
      m' ((c.tc : Thread Cert.Reference15Ideal.nD Cert.Reference15Ideal.τ).loc Cert.Reference15Ideal.main_arg0) = m ((c.tc : Thread Cert.Kernel15Ideal.nD Cert.Kernel15Ideal.τ).loc Cert.Kernel15Ideal.main_arg0)
      ∧ m' ((c.tc : Thread Cert.Reference15Ideal.nD Cert.Reference15Ideal.τ).loc Cert.Reference15Ideal.main_arg1) = m ((c.tc : Thread Cert.Kernel15Ideal.nD Cert.Kernel15Ideal.τ).loc Cert.Kernel15Ideal.main_arg1)
      ∧ m' ((c.tc : Thread Cert.Reference15Ideal.nD Cert.Reference15Ideal.τ).loc Cert.Reference15Ideal.main_arg2) = m ((c.tc : Thread Cert.Kernel15Ideal.nD Cert.Kernel15Ideal.τ).loc Cert.Kernel15Ideal.main_arg2)
      ∧ m' ((c.tc : Thread Cert.Reference15Ideal.nD Cert.Reference15Ideal.τ).loc Cert.Reference15Ideal.main_arg3) = m ((c.tc : Thread Cert.Kernel15Ideal.nD Cert.Kernel15Ideal.τ).loc Cert.Kernel15Ideal.main_arg3)
      ∧ m' ((c.tc : Thread Cert.Reference15Ideal.nD Cert.Reference15Ideal.τ).loc Cert.Reference15Ideal.main_arg4) = m ((c.tc : Thread Cert.Kernel15Ideal.nD Cert.Kernel15Ideal.τ).loc Cert.Kernel15Ideal.main_arg4)) →
    ∃ (v0 : (c : Dev Cert.Kernel15Ideal.nD) → Buf (Elt Ideal) ((c.tc : Thread Cert.Kernel15Ideal.nD Cert.Kernel15Ideal.τ).loc Cert.Kernel15Ideal.main_v0_0)) (v1 : (c : Dev Cert.Kernel15Ideal.nD) → Buf (Elt Ideal) ((c.tc : Thread Cert.Kernel15Ideal.nD Cert.Kernel15Ideal.τ).loc Cert.Kernel15Ideal.main_v0_1)) (v2 : (c : Dev Cert.Kernel15Ideal.nD) → Buf (Elt Ideal) ((c.tc : Thread Cert.Kernel15Ideal.nD Cert.Kernel15Ideal.τ).loc Cert.Kernel15Ideal.main_v0_2)) (v3 : (c : Dev Cert.Kernel15Ideal.nD) → Buf (Elt Ideal) ((c.tc : Thread Cert.Kernel15Ideal.nD Cert.Kernel15Ideal.τ).loc Cert.Kernel15Ideal.main_v0_3)),
      θ_run (Cert.Kernel15Ideal.defs (F := Ideal)) (onTc (τ := Cert.Kernel15Ideal.τ) (Cert.Kernel15Ideal.main (F := Ideal))) ⟨m, fun _ => 0, g⟩ (fun r => ∀ c : Dev Cert.Kernel15Ideal.nD,
          r.2.mem ((c.tc : Thread Cert.Kernel15Ideal.nD Cert.Kernel15Ideal.τ).loc Cert.Kernel15Ideal.main_v0_0) = v0 c
          ∧ r.2.mem ((c.tc : Thread Cert.Kernel15Ideal.nD Cert.Kernel15Ideal.τ).loc Cert.Kernel15Ideal.main_v0_1) = v1 c
          ∧ r.2.mem ((c.tc : Thread Cert.Kernel15Ideal.nD Cert.Kernel15Ideal.τ).loc Cert.Kernel15Ideal.main_v0_2) = v2 c
          ∧ r.2.mem ((c.tc : Thread Cert.Kernel15Ideal.nD Cert.Kernel15Ideal.τ).loc Cert.Kernel15Ideal.main_v0_3) = v3 c
          ∧ r.2.mem ((c.tc : Thread Cert.Kernel15Ideal.nD Cert.Kernel15Ideal.τ).loc Cert.Kernel15Ideal.main_arg0) = m ((c.tc : Thread Cert.Kernel15Ideal.nD Cert.Kernel15Ideal.τ).loc Cert.Kernel15Ideal.main_arg0)
          ∧ r.2.mem ((c.tc : Thread Cert.Kernel15Ideal.nD Cert.Kernel15Ideal.τ).loc Cert.Kernel15Ideal.main_arg1) = m ((c.tc : Thread Cert.Kernel15Ideal.nD Cert.Kernel15Ideal.τ).loc Cert.Kernel15Ideal.main_arg1)
          ∧ r.2.mem ((c.tc : Thread Cert.Kernel15Ideal.nD Cert.Kernel15Ideal.τ).loc Cert.Kernel15Ideal.main_arg2) = m ((c.tc : Thread Cert.Kernel15Ideal.nD Cert.Kernel15Ideal.τ).loc Cert.Kernel15Ideal.main_arg2)
          ∧ r.2.mem ((c.tc : Thread Cert.Kernel15Ideal.nD Cert.Kernel15Ideal.τ).loc Cert.Kernel15Ideal.main_arg3) = m ((c.tc : Thread Cert.Kernel15Ideal.nD Cert.Kernel15Ideal.τ).loc Cert.Kernel15Ideal.main_arg3)
          ∧ r.2.mem ((c.tc : Thread Cert.Kernel15Ideal.nD Cert.Kernel15Ideal.τ).loc Cert.Kernel15Ideal.main_arg4) = m ((c.tc : Thread Cert.Kernel15Ideal.nD Cert.Kernel15Ideal.τ).loc Cert.Kernel15Ideal.main_arg4))
      ∧ θ_run (Cert.Reference15Ideal.defs (F := Ideal)) (onTc (τ := Cert.Reference15Ideal.τ) (Cert.Reference15Ideal.main (F := Ideal))) ⟨m', fun _ => 0, g'⟩ (fun r => ∀ c : Dev Cert.Reference15Ideal.nD,
          r.2.mem ((c.tc : Thread Cert.Reference15Ideal.nD Cert.Reference15Ideal.τ).loc Cert.Reference15Ideal.main_v33) = v0 c
          ∧ r.2.mem ((c.tc : Thread Cert.Reference15Ideal.nD Cert.Reference15Ideal.τ).loc Cert.Reference15Ideal.main_v68) = v1 c
          ∧ r.2.mem ((c.tc : Thread Cert.Reference15Ideal.nD Cert.Reference15Ideal.τ).loc Cert.Reference15Ideal.main_v36) = v2 c
          ∧ r.2.mem ((c.tc : Thread Cert.Reference15Ideal.nD Cert.Reference15Ideal.τ).loc Cert.Reference15Ideal.main_v70) = v3 c
          ∧ r.2.mem ((c.tc : Thread Cert.Reference15Ideal.nD Cert.Reference15Ideal.τ).loc Cert.Reference15Ideal.main_arg0) = m' ((c.tc : Thread Cert.Reference15Ideal.nD Cert.Reference15Ideal.τ).loc Cert.Reference15Ideal.main_arg0)
          ∧ r.2.mem ((c.tc : Thread Cert.Reference15Ideal.nD Cert.Reference15Ideal.τ).loc Cert.Reference15Ideal.main_arg1) = m' ((c.tc : Thread Cert.Reference15Ideal.nD Cert.Reference15Ideal.τ).loc Cert.Reference15Ideal.main_arg1)
          ∧ r.2.mem ((c.tc : Thread Cert.Reference15Ideal.nD Cert.Reference15Ideal.τ).loc Cert.Reference15Ideal.main_arg2) = m' ((c.tc : Thread Cert.Reference15Ideal.nD Cert.Reference15Ideal.τ).loc Cert.Reference15Ideal.main_arg2)
          ∧ r.2.mem ((c.tc : Thread Cert.Reference15Ideal.nD Cert.Reference15Ideal.τ).loc Cert.Reference15Ideal.main_arg3) = m' ((c.tc : Thread Cert.Reference15Ideal.nD Cert.Reference15Ideal.τ).loc Cert.Reference15Ideal.main_arg3)
          ∧ r.2.mem ((c.tc : Thread Cert.Reference15Ideal.nD Cert.Reference15Ideal.τ).loc Cert.Reference15Ideal.main_arg4) = m' ((c.tc : Thread Cert.Reference15Ideal.nD Cert.Reference15Ideal.τ).loc Cert.Reference15Ideal.main_arg4))

def preserves_Kernel16_Kernel16Ideal : Prop :=
  True

def algebraic_Kernel16Ideal_Reference16Ideal [hKernel16Ideal : Cert.Kernel16Ideal.Facts] [hReference16Ideal : Cert.Reference16Ideal.Facts] : Prop :=
  ∀ (m : (ℓ : Loc Cert.Kernel16Ideal.nD Cert.Kernel16Ideal.τ Cert.Kernel16Ideal.sig) → Buf (Elt Ideal) ℓ) (g : Dev Cert.Kernel16Ideal.nD → PrngReg)
    (m' : (ℓ : Loc Cert.Reference16Ideal.nD Cert.Reference16Ideal.τ Cert.Reference16Ideal.sig) → Buf (Elt Ideal) ℓ) (g' : Dev Cert.Reference16Ideal.nD → PrngReg), Pre_Kernel16Ideal m →
    (∀ c : Dev Cert.Kernel16Ideal.nD,
      m' ((c.tc : Thread Cert.Reference16Ideal.nD Cert.Reference16Ideal.τ).loc Cert.Reference16Ideal.main_arg0) = m ((c.tc : Thread Cert.Kernel16Ideal.nD Cert.Kernel16Ideal.τ).loc Cert.Kernel16Ideal.main_arg0)
      ∧ m' ((c.tc : Thread Cert.Reference16Ideal.nD Cert.Reference16Ideal.τ).loc Cert.Reference16Ideal.main_arg1) = m ((c.tc : Thread Cert.Kernel16Ideal.nD Cert.Kernel16Ideal.τ).loc Cert.Kernel16Ideal.main_arg1)) →
    ∃ (v0 : (c : Dev Cert.Kernel16Ideal.nD) → Buf (Elt Ideal) ((c.tc : Thread Cert.Kernel16Ideal.nD Cert.Kernel16Ideal.τ).loc Cert.Kernel16Ideal.main_v0)),
      θ_run (Cert.Kernel16Ideal.defs (F := Ideal)) (onTc (τ := Cert.Kernel16Ideal.τ) (Cert.Kernel16Ideal.main (F := Ideal))) ⟨m, fun _ => 0, g⟩ (fun r => ∀ c : Dev Cert.Kernel16Ideal.nD,
          r.2.mem ((c.tc : Thread Cert.Kernel16Ideal.nD Cert.Kernel16Ideal.τ).loc Cert.Kernel16Ideal.main_v0) = v0 c
          ∧ r.2.mem ((c.tc : Thread Cert.Kernel16Ideal.nD Cert.Kernel16Ideal.τ).loc Cert.Kernel16Ideal.main_arg0) = m ((c.tc : Thread Cert.Kernel16Ideal.nD Cert.Kernel16Ideal.τ).loc Cert.Kernel16Ideal.main_arg0)
          ∧ r.2.mem ((c.tc : Thread Cert.Kernel16Ideal.nD Cert.Kernel16Ideal.τ).loc Cert.Kernel16Ideal.main_arg1) = m ((c.tc : Thread Cert.Kernel16Ideal.nD Cert.Kernel16Ideal.τ).loc Cert.Kernel16Ideal.main_arg1))
      ∧ θ_run (Cert.Reference16Ideal.defs (F := Ideal)) (onTc (τ := Cert.Reference16Ideal.τ) (Cert.Reference16Ideal.main (F := Ideal))) ⟨m', fun _ => 0, g'⟩ (fun r => ∀ c : Dev Cert.Reference16Ideal.nD,
          r.2.mem ((c.tc : Thread Cert.Reference16Ideal.nD Cert.Reference16Ideal.τ).loc Cert.Reference16Ideal.main_v3) = v0 c
          ∧ r.2.mem ((c.tc : Thread Cert.Reference16Ideal.nD Cert.Reference16Ideal.τ).loc Cert.Reference16Ideal.main_arg0) = m' ((c.tc : Thread Cert.Reference16Ideal.nD Cert.Reference16Ideal.τ).loc Cert.Reference16Ideal.main_arg0)
          ∧ r.2.mem ((c.tc : Thread Cert.Reference16Ideal.nD Cert.Reference16Ideal.τ).loc Cert.Reference16Ideal.main_arg1) = m' ((c.tc : Thread Cert.Reference16Ideal.nD Cert.Reference16Ideal.τ).loc Cert.Reference16Ideal.main_arg1))

def preserves_Kernel17_Kernel17Ideal : Prop :=
  True

def algebraic_Kernel17Ideal_Reference17Ideal [hKernel17Ideal : Cert.Kernel17Ideal.Facts] [hReference17Ideal : Cert.Reference17Ideal.Facts] : Prop :=
  ∀ (m : (ℓ : Loc Cert.Kernel17Ideal.nD Cert.Kernel17Ideal.τ Cert.Kernel17Ideal.sig) → Buf (Elt Ideal) ℓ) (g : Dev Cert.Kernel17Ideal.nD → PrngReg)
    (m' : (ℓ : Loc Cert.Reference17Ideal.nD Cert.Reference17Ideal.τ Cert.Reference17Ideal.sig) → Buf (Elt Ideal) ℓ) (g' : Dev Cert.Reference17Ideal.nD → PrngReg), Pre_Kernel17Ideal m →
    (∀ c : Dev Cert.Kernel17Ideal.nD,
      m' ((c.tc : Thread Cert.Reference17Ideal.nD Cert.Reference17Ideal.τ).loc Cert.Reference17Ideal.main_arg0) = m ((c.tc : Thread Cert.Kernel17Ideal.nD Cert.Kernel17Ideal.τ).loc Cert.Kernel17Ideal.main_arg0)
      ∧ m' ((c.tc : Thread Cert.Reference17Ideal.nD Cert.Reference17Ideal.τ).loc Cert.Reference17Ideal.main_arg1) = m ((c.tc : Thread Cert.Kernel17Ideal.nD Cert.Kernel17Ideal.τ).loc Cert.Kernel17Ideal.main_arg1)) →
    ∃ (v0 : (c : Dev Cert.Kernel17Ideal.nD) → Buf (Elt Ideal) ((c.tc : Thread Cert.Kernel17Ideal.nD Cert.Kernel17Ideal.τ).loc Cert.Kernel17Ideal.main_v1)),
      θ_run (Cert.Kernel17Ideal.defs (F := Ideal)) (onTc (τ := Cert.Kernel17Ideal.τ) (Cert.Kernel17Ideal.main (F := Ideal))) ⟨m, fun _ => 0, g⟩ (fun r => ∀ c : Dev Cert.Kernel17Ideal.nD,
          r.2.mem ((c.tc : Thread Cert.Kernel17Ideal.nD Cert.Kernel17Ideal.τ).loc Cert.Kernel17Ideal.main_v1) = v0 c
          ∧ r.2.mem ((c.tc : Thread Cert.Kernel17Ideal.nD Cert.Kernel17Ideal.τ).loc Cert.Kernel17Ideal.main_arg0) = m ((c.tc : Thread Cert.Kernel17Ideal.nD Cert.Kernel17Ideal.τ).loc Cert.Kernel17Ideal.main_arg0)
          ∧ r.2.mem ((c.tc : Thread Cert.Kernel17Ideal.nD Cert.Kernel17Ideal.τ).loc Cert.Kernel17Ideal.main_arg1) = m ((c.tc : Thread Cert.Kernel17Ideal.nD Cert.Kernel17Ideal.τ).loc Cert.Kernel17Ideal.main_arg1))
      ∧ θ_run (Cert.Reference17Ideal.defs (F := Ideal)) (onTc (τ := Cert.Reference17Ideal.τ) (Cert.Reference17Ideal.main (F := Ideal))) ⟨m', fun _ => 0, g'⟩ (fun r => ∀ c : Dev Cert.Reference17Ideal.nD,
          r.2.mem ((c.tc : Thread Cert.Reference17Ideal.nD Cert.Reference17Ideal.τ).loc Cert.Reference17Ideal.main_v4) = v0 c
          ∧ r.2.mem ((c.tc : Thread Cert.Reference17Ideal.nD Cert.Reference17Ideal.τ).loc Cert.Reference17Ideal.main_arg0) = m' ((c.tc : Thread Cert.Reference17Ideal.nD Cert.Reference17Ideal.τ).loc Cert.Reference17Ideal.main_arg0)
          ∧ r.2.mem ((c.tc : Thread Cert.Reference17Ideal.nD Cert.Reference17Ideal.τ).loc Cert.Reference17Ideal.main_arg1) = m' ((c.tc : Thread Cert.Reference17Ideal.nD Cert.Reference17Ideal.τ).loc Cert.Reference17Ideal.main_arg1))

def preserves_Kernel18_Kernel18Ideal : Prop :=
  True

def algebraic_Kernel18Ideal_Reference18Ideal [hKernel18Ideal : Cert.Kernel18Ideal.Facts] [hReference18Ideal : Cert.Reference18Ideal.Facts] : Prop :=
  ∀ (m : (ℓ : Loc Cert.Kernel18Ideal.nD Cert.Kernel18Ideal.τ Cert.Kernel18Ideal.sig) → Buf (Elt Ideal) ℓ) (g : Dev Cert.Kernel18Ideal.nD → PrngReg)
    (m' : (ℓ : Loc Cert.Reference18Ideal.nD Cert.Reference18Ideal.τ Cert.Reference18Ideal.sig) → Buf (Elt Ideal) ℓ) (g' : Dev Cert.Reference18Ideal.nD → PrngReg), Pre_Kernel18Ideal m →
    (∀ c : Dev Cert.Kernel18Ideal.nD,
      m' ((c.tc : Thread Cert.Reference18Ideal.nD Cert.Reference18Ideal.τ).loc Cert.Reference18Ideal.main_arg0) = m ((c.tc : Thread Cert.Kernel18Ideal.nD Cert.Kernel18Ideal.τ).loc Cert.Kernel18Ideal.main_arg0)
      ∧ m' ((c.tc : Thread Cert.Reference18Ideal.nD Cert.Reference18Ideal.τ).loc Cert.Reference18Ideal.main_arg1) = m ((c.tc : Thread Cert.Kernel18Ideal.nD Cert.Kernel18Ideal.τ).loc Cert.Kernel18Ideal.main_arg1)
      ∧ m' ((c.tc : Thread Cert.Reference18Ideal.nD Cert.Reference18Ideal.τ).loc Cert.Reference18Ideal.main_arg2) = m ((c.tc : Thread Cert.Kernel18Ideal.nD Cert.Kernel18Ideal.τ).loc Cert.Kernel18Ideal.main_arg2)
      ∧ m' ((c.tc : Thread Cert.Reference18Ideal.nD Cert.Reference18Ideal.τ).loc Cert.Reference18Ideal.main_arg3) = m ((c.tc : Thread Cert.Kernel18Ideal.nD Cert.Kernel18Ideal.τ).loc Cert.Kernel18Ideal.main_arg3)
      ∧ m' ((c.tc : Thread Cert.Reference18Ideal.nD Cert.Reference18Ideal.τ).loc Cert.Reference18Ideal.main_arg4) = m ((c.tc : Thread Cert.Kernel18Ideal.nD Cert.Kernel18Ideal.τ).loc Cert.Kernel18Ideal.main_arg4)
      ∧ m' ((c.tc : Thread Cert.Reference18Ideal.nD Cert.Reference18Ideal.τ).loc Cert.Reference18Ideal.main_arg5) = m ((c.tc : Thread Cert.Kernel18Ideal.nD Cert.Kernel18Ideal.τ).loc Cert.Kernel18Ideal.main_arg5)) →
    ∃ (v0 : (c : Dev Cert.Kernel18Ideal.nD) → Buf (Elt Ideal) ((c.tc : Thread Cert.Kernel18Ideal.nD Cert.Kernel18Ideal.τ).loc Cert.Kernel18Ideal.main_v0_0)) (v1 : (c : Dev Cert.Kernel18Ideal.nD) → Buf (Elt Ideal) ((c.tc : Thread Cert.Kernel18Ideal.nD Cert.Kernel18Ideal.τ).loc Cert.Kernel18Ideal.main_v0_1)) (v2 : (c : Dev Cert.Kernel18Ideal.nD) → Buf (Elt Ideal) ((c.tc : Thread Cert.Kernel18Ideal.nD Cert.Kernel18Ideal.τ).loc Cert.Kernel18Ideal.main_v0_2)) (v3 : (c : Dev Cert.Kernel18Ideal.nD) → Buf (Elt Ideal) ((c.tc : Thread Cert.Kernel18Ideal.nD Cert.Kernel18Ideal.τ).loc Cert.Kernel18Ideal.main_v0_3)) (v4 : (c : Dev Cert.Kernel18Ideal.nD) → Buf (Elt Ideal) ((c.tc : Thread Cert.Kernel18Ideal.nD Cert.Kernel18Ideal.τ).loc Cert.Kernel18Ideal.main_v0_4)),
      θ_run (Cert.Kernel18Ideal.defs (F := Ideal)) (onTc (τ := Cert.Kernel18Ideal.τ) (Cert.Kernel18Ideal.main (F := Ideal))) ⟨m, fun _ => 0, g⟩ (fun r => ∀ c : Dev Cert.Kernel18Ideal.nD,
          r.2.mem ((c.tc : Thread Cert.Kernel18Ideal.nD Cert.Kernel18Ideal.τ).loc Cert.Kernel18Ideal.main_v0_0) = v0 c
          ∧ r.2.mem ((c.tc : Thread Cert.Kernel18Ideal.nD Cert.Kernel18Ideal.τ).loc Cert.Kernel18Ideal.main_v0_1) = v1 c
          ∧ r.2.mem ((c.tc : Thread Cert.Kernel18Ideal.nD Cert.Kernel18Ideal.τ).loc Cert.Kernel18Ideal.main_v0_2) = v2 c
          ∧ r.2.mem ((c.tc : Thread Cert.Kernel18Ideal.nD Cert.Kernel18Ideal.τ).loc Cert.Kernel18Ideal.main_v0_3) = v3 c
          ∧ r.2.mem ((c.tc : Thread Cert.Kernel18Ideal.nD Cert.Kernel18Ideal.τ).loc Cert.Kernel18Ideal.main_v0_4) = v4 c
          ∧ r.2.mem ((c.tc : Thread Cert.Kernel18Ideal.nD Cert.Kernel18Ideal.τ).loc Cert.Kernel18Ideal.main_arg0) = m ((c.tc : Thread Cert.Kernel18Ideal.nD Cert.Kernel18Ideal.τ).loc Cert.Kernel18Ideal.main_arg0)
          ∧ r.2.mem ((c.tc : Thread Cert.Kernel18Ideal.nD Cert.Kernel18Ideal.τ).loc Cert.Kernel18Ideal.main_arg1) = m ((c.tc : Thread Cert.Kernel18Ideal.nD Cert.Kernel18Ideal.τ).loc Cert.Kernel18Ideal.main_arg1)
          ∧ r.2.mem ((c.tc : Thread Cert.Kernel18Ideal.nD Cert.Kernel18Ideal.τ).loc Cert.Kernel18Ideal.main_arg2) = m ((c.tc : Thread Cert.Kernel18Ideal.nD Cert.Kernel18Ideal.τ).loc Cert.Kernel18Ideal.main_arg2)
          ∧ r.2.mem ((c.tc : Thread Cert.Kernel18Ideal.nD Cert.Kernel18Ideal.τ).loc Cert.Kernel18Ideal.main_arg3) = m ((c.tc : Thread Cert.Kernel18Ideal.nD Cert.Kernel18Ideal.τ).loc Cert.Kernel18Ideal.main_arg3)
          ∧ r.2.mem ((c.tc : Thread Cert.Kernel18Ideal.nD Cert.Kernel18Ideal.τ).loc Cert.Kernel18Ideal.main_arg4) = m ((c.tc : Thread Cert.Kernel18Ideal.nD Cert.Kernel18Ideal.τ).loc Cert.Kernel18Ideal.main_arg4)
          ∧ r.2.mem ((c.tc : Thread Cert.Kernel18Ideal.nD Cert.Kernel18Ideal.τ).loc Cert.Kernel18Ideal.main_arg5) = m ((c.tc : Thread Cert.Kernel18Ideal.nD Cert.Kernel18Ideal.τ).loc Cert.Kernel18Ideal.main_arg5))
      ∧ θ_run (Cert.Reference18Ideal.defs (F := Ideal)) (onTc (τ := Cert.Reference18Ideal.τ) (Cert.Reference18Ideal.main (F := Ideal))) ⟨m', fun _ => 0, g'⟩ (fun r => ∀ c : Dev Cert.Reference18Ideal.nD,
          r.2.mem ((c.tc : Thread Cert.Reference18Ideal.nD Cert.Reference18Ideal.τ).loc Cert.Reference18Ideal.main_v16) = v0 c
          ∧ r.2.mem ((c.tc : Thread Cert.Reference18Ideal.nD Cert.Reference18Ideal.τ).loc Cert.Reference18Ideal.main_v24) = v1 c
          ∧ r.2.mem ((c.tc : Thread Cert.Reference18Ideal.nD Cert.Reference18Ideal.τ).loc Cert.Reference18Ideal.main_v37) = v2 c
          ∧ r.2.mem ((c.tc : Thread Cert.Reference18Ideal.nD Cert.Reference18Ideal.τ).loc Cert.Reference18Ideal.main_v45) = v3 c
          ∧ r.2.mem ((c.tc : Thread Cert.Reference18Ideal.nD Cert.Reference18Ideal.τ).loc Cert.Reference18Ideal.main_v3) = v4 c
          ∧ r.2.mem ((c.tc : Thread Cert.Reference18Ideal.nD Cert.Reference18Ideal.τ).loc Cert.Reference18Ideal.main_arg0) = m' ((c.tc : Thread Cert.Reference18Ideal.nD Cert.Reference18Ideal.τ).loc Cert.Reference18Ideal.main_arg0)
          ∧ r.2.mem ((c.tc : Thread Cert.Reference18Ideal.nD Cert.Reference18Ideal.τ).loc Cert.Reference18Ideal.main_arg1) = m' ((c.tc : Thread Cert.Reference18Ideal.nD Cert.Reference18Ideal.τ).loc Cert.Reference18Ideal.main_arg1)
          ∧ r.2.mem ((c.tc : Thread Cert.Reference18Ideal.nD Cert.Reference18Ideal.τ).loc Cert.Reference18Ideal.main_arg2) = m' ((c.tc : Thread Cert.Reference18Ideal.nD Cert.Reference18Ideal.τ).loc Cert.Reference18Ideal.main_arg2)
          ∧ r.2.mem ((c.tc : Thread Cert.Reference18Ideal.nD Cert.Reference18Ideal.τ).loc Cert.Reference18Ideal.main_arg3) = m' ((c.tc : Thread Cert.Reference18Ideal.nD Cert.Reference18Ideal.τ).loc Cert.Reference18Ideal.main_arg3)
          ∧ r.2.mem ((c.tc : Thread Cert.Reference18Ideal.nD Cert.Reference18Ideal.τ).loc Cert.Reference18Ideal.main_arg4) = m' ((c.tc : Thread Cert.Reference18Ideal.nD Cert.Reference18Ideal.τ).loc Cert.Reference18Ideal.main_arg4)
          ∧ r.2.mem ((c.tc : Thread Cert.Reference18Ideal.nD Cert.Reference18Ideal.τ).loc Cert.Reference18Ideal.main_arg5) = m' ((c.tc : Thread Cert.Reference18Ideal.nD Cert.Reference18Ideal.τ).loc Cert.Reference18Ideal.main_arg5))

def preserves_Kernel19_Kernel19Ideal : Prop :=
  IdealRules.named_const.Statement Cert.Kernel19Ideal.κ "gelu_cubic" .f32 0x3D372713#32 ((8943 / 200000 : ℝ) : EReal)

def algebraic_Kernel19Ideal_Reference19Ideal [hKernel19Ideal : Cert.Kernel19Ideal.Facts] [hReference19Ideal : Cert.Reference19Ideal.Facts] : Prop :=
  ∀ (m : (ℓ : Loc Cert.Kernel19Ideal.nD Cert.Kernel19Ideal.τ Cert.Kernel19Ideal.sig) → Buf (Elt Ideal) ℓ) (g : Dev Cert.Kernel19Ideal.nD → PrngReg)
    (m' : (ℓ : Loc Cert.Reference19Ideal.nD Cert.Reference19Ideal.τ Cert.Reference19Ideal.sig) → Buf (Elt Ideal) ℓ) (g' : Dev Cert.Reference19Ideal.nD → PrngReg), Pre_Kernel19Ideal m →
    (∀ c : Dev Cert.Kernel19Ideal.nD,
      m' ((c.tc : Thread Cert.Reference19Ideal.nD Cert.Reference19Ideal.τ).loc Cert.Reference19Ideal.main_arg0) = m ((c.tc : Thread Cert.Kernel19Ideal.nD Cert.Kernel19Ideal.τ).loc Cert.Kernel19Ideal.main_arg0)
      ∧ m' ((c.tc : Thread Cert.Reference19Ideal.nD Cert.Reference19Ideal.τ).loc Cert.Reference19Ideal.main_arg1) = m ((c.tc : Thread Cert.Kernel19Ideal.nD Cert.Kernel19Ideal.τ).loc Cert.Kernel19Ideal.main_arg1)
      ∧ m' ((c.tc : Thread Cert.Reference19Ideal.nD Cert.Reference19Ideal.τ).loc Cert.Reference19Ideal.main_arg2) = m ((c.tc : Thread Cert.Kernel19Ideal.nD Cert.Kernel19Ideal.τ).loc Cert.Kernel19Ideal.main_arg2)
      ∧ m' ((c.tc : Thread Cert.Reference19Ideal.nD Cert.Reference19Ideal.τ).loc Cert.Reference19Ideal.main_arg3) = m ((c.tc : Thread Cert.Kernel19Ideal.nD Cert.Kernel19Ideal.τ).loc Cert.Kernel19Ideal.main_arg3)
      ∧ m' ((c.tc : Thread Cert.Reference19Ideal.nD Cert.Reference19Ideal.τ).loc Cert.Reference19Ideal.main_arg4) = m ((c.tc : Thread Cert.Kernel19Ideal.nD Cert.Kernel19Ideal.τ).loc Cert.Kernel19Ideal.main_arg4)) →
    ∃ (v0 : (c : Dev Cert.Kernel19Ideal.nD) → Buf (Elt Ideal) ((c.tc : Thread Cert.Kernel19Ideal.nD Cert.Kernel19Ideal.τ).loc Cert.Kernel19Ideal.main_v1)),
      θ_run (Cert.Kernel19Ideal.defs (F := Ideal)) (onTc (τ := Cert.Kernel19Ideal.τ) (Cert.Kernel19Ideal.main (F := Ideal))) ⟨m, fun _ => 0, g⟩ (fun r => ∀ c : Dev Cert.Kernel19Ideal.nD,
          r.2.mem ((c.tc : Thread Cert.Kernel19Ideal.nD Cert.Kernel19Ideal.τ).loc Cert.Kernel19Ideal.main_v1) = v0 c
          ∧ r.2.mem ((c.tc : Thread Cert.Kernel19Ideal.nD Cert.Kernel19Ideal.τ).loc Cert.Kernel19Ideal.main_arg0) = m ((c.tc : Thread Cert.Kernel19Ideal.nD Cert.Kernel19Ideal.τ).loc Cert.Kernel19Ideal.main_arg0)
          ∧ r.2.mem ((c.tc : Thread Cert.Kernel19Ideal.nD Cert.Kernel19Ideal.τ).loc Cert.Kernel19Ideal.main_arg1) = m ((c.tc : Thread Cert.Kernel19Ideal.nD Cert.Kernel19Ideal.τ).loc Cert.Kernel19Ideal.main_arg1)
          ∧ r.2.mem ((c.tc : Thread Cert.Kernel19Ideal.nD Cert.Kernel19Ideal.τ).loc Cert.Kernel19Ideal.main_arg2) = m ((c.tc : Thread Cert.Kernel19Ideal.nD Cert.Kernel19Ideal.τ).loc Cert.Kernel19Ideal.main_arg2)
          ∧ r.2.mem ((c.tc : Thread Cert.Kernel19Ideal.nD Cert.Kernel19Ideal.τ).loc Cert.Kernel19Ideal.main_arg3) = m ((c.tc : Thread Cert.Kernel19Ideal.nD Cert.Kernel19Ideal.τ).loc Cert.Kernel19Ideal.main_arg3)
          ∧ r.2.mem ((c.tc : Thread Cert.Kernel19Ideal.nD Cert.Kernel19Ideal.τ).loc Cert.Kernel19Ideal.main_arg4) = m ((c.tc : Thread Cert.Kernel19Ideal.nD Cert.Kernel19Ideal.τ).loc Cert.Kernel19Ideal.main_arg4))
      ∧ θ_run (Cert.Reference19Ideal.defs (F := Ideal)) (onTc (τ := Cert.Reference19Ideal.τ) (Cert.Reference19Ideal.main (F := Ideal))) ⟨m', fun _ => 0, g'⟩ (fun r => ∀ c : Dev Cert.Reference19Ideal.nD,
          r.2.mem ((c.tc : Thread Cert.Reference19Ideal.nD Cert.Reference19Ideal.τ).loc Cert.Reference19Ideal.main_v69) = v0 c
          ∧ r.2.mem ((c.tc : Thread Cert.Reference19Ideal.nD Cert.Reference19Ideal.τ).loc Cert.Reference19Ideal.main_arg0) = m' ((c.tc : Thread Cert.Reference19Ideal.nD Cert.Reference19Ideal.τ).loc Cert.Reference19Ideal.main_arg0)
          ∧ r.2.mem ((c.tc : Thread Cert.Reference19Ideal.nD Cert.Reference19Ideal.τ).loc Cert.Reference19Ideal.main_arg1) = m' ((c.tc : Thread Cert.Reference19Ideal.nD Cert.Reference19Ideal.τ).loc Cert.Reference19Ideal.main_arg1)
          ∧ r.2.mem ((c.tc : Thread Cert.Reference19Ideal.nD Cert.Reference19Ideal.τ).loc Cert.Reference19Ideal.main_arg2) = m' ((c.tc : Thread Cert.Reference19Ideal.nD Cert.Reference19Ideal.τ).loc Cert.Reference19Ideal.main_arg2)
          ∧ r.2.mem ((c.tc : Thread Cert.Reference19Ideal.nD Cert.Reference19Ideal.τ).loc Cert.Reference19Ideal.main_arg3) = m' ((c.tc : Thread Cert.Reference19Ideal.nD Cert.Reference19Ideal.τ).loc Cert.Reference19Ideal.main_arg3)
          ∧ r.2.mem ((c.tc : Thread Cert.Reference19Ideal.nD Cert.Reference19Ideal.τ).loc Cert.Reference19Ideal.main_arg4) = m' ((c.tc : Thread Cert.Reference19Ideal.nD Cert.Reference19Ideal.τ).loc Cert.Reference19Ideal.main_arg4))

def preserves_Kernel20_Kernel20Ideal : Prop :=
  True

def algebraic_Kernel20Ideal_Reference20Ideal_pre_finite20 [hKernel20Ideal : Cert.Kernel20Ideal.Facts] [hReference20Ideal : Cert.Reference20Ideal.Facts] [hPre_finite20 : Cert.Pre_finite20.Facts] : Prop :=
  ∀ (m : (ℓ : Loc Cert.Kernel20Ideal.nD Cert.Kernel20Ideal.τ Cert.Kernel20Ideal.sig) → Buf (Elt Ideal) ℓ) (g : Dev Cert.Kernel20Ideal.nD → PrngReg)
    (m' : (ℓ : Loc Cert.Reference20Ideal.nD Cert.Reference20Ideal.τ Cert.Reference20Ideal.sig) → Buf (Elt Ideal) ℓ) (g' : Dev Cert.Reference20Ideal.nD → PrngReg), Pre_Kernel20Ideal_finite20 m →
    (∀ c : Dev Cert.Kernel20Ideal.nD,
      m' ((c.tc : Thread Cert.Reference20Ideal.nD Cert.Reference20Ideal.τ).loc Cert.Reference20Ideal.main_arg0) = m ((c.tc : Thread Cert.Kernel20Ideal.nD Cert.Kernel20Ideal.τ).loc Cert.Kernel20Ideal.main_arg0)
      ∧ m' ((c.tc : Thread Cert.Reference20Ideal.nD Cert.Reference20Ideal.τ).loc Cert.Reference20Ideal.main_arg1) = m ((c.tc : Thread Cert.Kernel20Ideal.nD Cert.Kernel20Ideal.τ).loc Cert.Kernel20Ideal.main_arg1)
      ∧ m' ((c.tc : Thread Cert.Reference20Ideal.nD Cert.Reference20Ideal.τ).loc Cert.Reference20Ideal.main_arg2) = m ((c.tc : Thread Cert.Kernel20Ideal.nD Cert.Kernel20Ideal.τ).loc Cert.Kernel20Ideal.main_arg2)) →
    ∃ (v0 : (c : Dev Cert.Kernel20Ideal.nD) → Buf (Elt Ideal) ((c.tc : Thread Cert.Kernel20Ideal.nD Cert.Kernel20Ideal.τ).loc Cert.Kernel20Ideal.main_v0_0)) (v1 : (c : Dev Cert.Kernel20Ideal.nD) → Buf (Elt Ideal) ((c.tc : Thread Cert.Kernel20Ideal.nD Cert.Kernel20Ideal.τ).loc Cert.Kernel20Ideal.main_v0_1)),
      θ_run (Cert.Kernel20Ideal.defs (F := Ideal)) (onTc (τ := Cert.Kernel20Ideal.τ) (Cert.Kernel20Ideal.main (F := Ideal))) ⟨m, fun _ => 0, g⟩ (fun r => ∀ c : Dev Cert.Kernel20Ideal.nD,
          r.2.mem ((c.tc : Thread Cert.Kernel20Ideal.nD Cert.Kernel20Ideal.τ).loc Cert.Kernel20Ideal.main_v0_0) = v0 c
          ∧ r.2.mem ((c.tc : Thread Cert.Kernel20Ideal.nD Cert.Kernel20Ideal.τ).loc Cert.Kernel20Ideal.main_v0_1) = v1 c
          ∧ r.2.mem ((c.tc : Thread Cert.Kernel20Ideal.nD Cert.Kernel20Ideal.τ).loc Cert.Kernel20Ideal.main_arg0) = m ((c.tc : Thread Cert.Kernel20Ideal.nD Cert.Kernel20Ideal.τ).loc Cert.Kernel20Ideal.main_arg0)
          ∧ r.2.mem ((c.tc : Thread Cert.Kernel20Ideal.nD Cert.Kernel20Ideal.τ).loc Cert.Kernel20Ideal.main_arg1) = m ((c.tc : Thread Cert.Kernel20Ideal.nD Cert.Kernel20Ideal.τ).loc Cert.Kernel20Ideal.main_arg1)
          ∧ r.2.mem ((c.tc : Thread Cert.Kernel20Ideal.nD Cert.Kernel20Ideal.τ).loc Cert.Kernel20Ideal.main_arg2) = m ((c.tc : Thread Cert.Kernel20Ideal.nD Cert.Kernel20Ideal.τ).loc Cert.Kernel20Ideal.main_arg2))
      ∧ θ_run (Cert.Reference20Ideal.defs (F := Ideal)) (onTc (τ := Cert.Reference20Ideal.τ) (Cert.Reference20Ideal.main (F := Ideal))) ⟨m', fun _ => 0, g'⟩ (fun r => ∀ c : Dev Cert.Reference20Ideal.nD,
          r.2.mem ((c.tc : Thread Cert.Reference20Ideal.nD Cert.Reference20Ideal.τ).loc Cert.Reference20Ideal.main_v85) = v0 c
          ∧ r.2.mem ((c.tc : Thread Cert.Reference20Ideal.nD Cert.Reference20Ideal.τ).loc Cert.Reference20Ideal.main_v164) = v1 c
          ∧ r.2.mem ((c.tc : Thread Cert.Reference20Ideal.nD Cert.Reference20Ideal.τ).loc Cert.Reference20Ideal.main_arg0) = m' ((c.tc : Thread Cert.Reference20Ideal.nD Cert.Reference20Ideal.τ).loc Cert.Reference20Ideal.main_arg0)
          ∧ r.2.mem ((c.tc : Thread Cert.Reference20Ideal.nD Cert.Reference20Ideal.τ).loc Cert.Reference20Ideal.main_arg1) = m' ((c.tc : Thread Cert.Reference20Ideal.nD Cert.Reference20Ideal.τ).loc Cert.Reference20Ideal.main_arg1)
          ∧ r.2.mem ((c.tc : Thread Cert.Reference20Ideal.nD Cert.Reference20Ideal.τ).loc Cert.Reference20Ideal.main_arg2) = m' ((c.tc : Thread Cert.Reference20Ideal.nD Cert.Reference20Ideal.τ).loc Cert.Reference20Ideal.main_arg2))

def preserves_Kernel21_Kernel21Ideal : Prop :=
  IdealRules.named_const.Statement Cert.Kernel21Ideal.κ "gelu_cubic" .f32 0x3D372713#32 ((8943 / 200000 : ℝ) : EReal)

def algebraic_Kernel21Ideal_Reference21Ideal [hKernel21Ideal : Cert.Kernel21Ideal.Facts] [hReference21Ideal : Cert.Reference21Ideal.Facts] : Prop :=
  ∀ (m : (ℓ : Loc Cert.Kernel21Ideal.nD Cert.Kernel21Ideal.τ Cert.Kernel21Ideal.sig) → Buf (Elt Ideal) ℓ) (g : Dev Cert.Kernel21Ideal.nD → PrngReg)
    (m' : (ℓ : Loc Cert.Reference21Ideal.nD Cert.Reference21Ideal.τ Cert.Reference21Ideal.sig) → Buf (Elt Ideal) ℓ) (g' : Dev Cert.Reference21Ideal.nD → PrngReg), Pre_Kernel21Ideal m →
    (∀ c : Dev Cert.Kernel21Ideal.nD,
      m' ((c.tc : Thread Cert.Reference21Ideal.nD Cert.Reference21Ideal.τ).loc Cert.Reference21Ideal.main_arg0) = m ((c.tc : Thread Cert.Kernel21Ideal.nD Cert.Kernel21Ideal.τ).loc Cert.Kernel21Ideal.main_arg0)
      ∧ m' ((c.tc : Thread Cert.Reference21Ideal.nD Cert.Reference21Ideal.τ).loc Cert.Reference21Ideal.main_arg1) = m ((c.tc : Thread Cert.Kernel21Ideal.nD Cert.Kernel21Ideal.τ).loc Cert.Kernel21Ideal.main_arg1)) →
    ∃ (v0 : (c : Dev Cert.Kernel21Ideal.nD) → Buf (Elt Ideal) ((c.tc : Thread Cert.Kernel21Ideal.nD Cert.Kernel21Ideal.τ).loc Cert.Kernel21Ideal.main_v0)),
      θ_run (Cert.Kernel21Ideal.defs (F := Ideal)) (onTc (τ := Cert.Kernel21Ideal.τ) (Cert.Kernel21Ideal.main (F := Ideal))) ⟨m, fun _ => 0, g⟩ (fun r => ∀ c : Dev Cert.Kernel21Ideal.nD,
          r.2.mem ((c.tc : Thread Cert.Kernel21Ideal.nD Cert.Kernel21Ideal.τ).loc Cert.Kernel21Ideal.main_v0) = v0 c
          ∧ r.2.mem ((c.tc : Thread Cert.Kernel21Ideal.nD Cert.Kernel21Ideal.τ).loc Cert.Kernel21Ideal.main_arg0) = m ((c.tc : Thread Cert.Kernel21Ideal.nD Cert.Kernel21Ideal.τ).loc Cert.Kernel21Ideal.main_arg0)
          ∧ r.2.mem ((c.tc : Thread Cert.Kernel21Ideal.nD Cert.Kernel21Ideal.τ).loc Cert.Kernel21Ideal.main_arg1) = m ((c.tc : Thread Cert.Kernel21Ideal.nD Cert.Kernel21Ideal.τ).loc Cert.Kernel21Ideal.main_arg1))
      ∧ θ_run (Cert.Reference21Ideal.defs (F := Ideal)) (onTc (τ := Cert.Reference21Ideal.τ) (Cert.Reference21Ideal.main (F := Ideal))) ⟨m', fun _ => 0, g'⟩ (fun r => ∀ c : Dev Cert.Reference21Ideal.nD,
          r.2.mem ((c.tc : Thread Cert.Reference21Ideal.nD Cert.Reference21Ideal.τ).loc Cert.Reference21Ideal.main_v23) = v0 c
          ∧ r.2.mem ((c.tc : Thread Cert.Reference21Ideal.nD Cert.Reference21Ideal.τ).loc Cert.Reference21Ideal.main_arg0) = m' ((c.tc : Thread Cert.Reference21Ideal.nD Cert.Reference21Ideal.τ).loc Cert.Reference21Ideal.main_arg0)
          ∧ r.2.mem ((c.tc : Thread Cert.Reference21Ideal.nD Cert.Reference21Ideal.τ).loc Cert.Reference21Ideal.main_arg1) = m' ((c.tc : Thread Cert.Reference21Ideal.nD Cert.Reference21Ideal.τ).loc Cert.Reference21Ideal.main_arg1))

def preserves_Kernel22_Kernel22Ideal : Prop :=
  True

def algebraic_Kernel22Ideal_Reference22Ideal [hKernel22Ideal : Cert.Kernel22Ideal.Facts] [hReference22Ideal : Cert.Reference22Ideal.Facts] : Prop :=
  ∀ (m : (ℓ : Loc Cert.Kernel22Ideal.nD Cert.Kernel22Ideal.τ Cert.Kernel22Ideal.sig) → Buf (Elt Ideal) ℓ) (g : Dev Cert.Kernel22Ideal.nD → PrngReg)
    (m' : (ℓ : Loc Cert.Reference22Ideal.nD Cert.Reference22Ideal.τ Cert.Reference22Ideal.sig) → Buf (Elt Ideal) ℓ) (g' : Dev Cert.Reference22Ideal.nD → PrngReg), Pre_Kernel22Ideal m →
    (∀ c : Dev Cert.Kernel22Ideal.nD,
      m' ((c.tc : Thread Cert.Reference22Ideal.nD Cert.Reference22Ideal.τ).loc Cert.Reference22Ideal.main_arg0) = m ((c.tc : Thread Cert.Kernel22Ideal.nD Cert.Kernel22Ideal.τ).loc Cert.Kernel22Ideal.main_arg0)
      ∧ m' ((c.tc : Thread Cert.Reference22Ideal.nD Cert.Reference22Ideal.τ).loc Cert.Reference22Ideal.main_arg1) = m ((c.tc : Thread Cert.Kernel22Ideal.nD Cert.Kernel22Ideal.τ).loc Cert.Kernel22Ideal.main_arg1)) →
    ∃ (v0 : (c : Dev Cert.Kernel22Ideal.nD) → Buf (Elt Ideal) ((c.tc : Thread Cert.Kernel22Ideal.nD Cert.Kernel22Ideal.τ).loc Cert.Kernel22Ideal.main_v0_0)) (v1 : (c : Dev Cert.Kernel22Ideal.nD) → Buf (Elt Ideal) ((c.tc : Thread Cert.Kernel22Ideal.nD Cert.Kernel22Ideal.τ).loc Cert.Kernel22Ideal.main_v0_1)),
      θ_run (Cert.Kernel22Ideal.defs (F := Ideal)) (onTc (τ := Cert.Kernel22Ideal.τ) (Cert.Kernel22Ideal.main (F := Ideal))) ⟨m, fun _ => 0, g⟩ (fun r => ∀ c : Dev Cert.Kernel22Ideal.nD,
          r.2.mem ((c.tc : Thread Cert.Kernel22Ideal.nD Cert.Kernel22Ideal.τ).loc Cert.Kernel22Ideal.main_v0_0) = v0 c
          ∧ r.2.mem ((c.tc : Thread Cert.Kernel22Ideal.nD Cert.Kernel22Ideal.τ).loc Cert.Kernel22Ideal.main_v0_1) = v1 c
          ∧ r.2.mem ((c.tc : Thread Cert.Kernel22Ideal.nD Cert.Kernel22Ideal.τ).loc Cert.Kernel22Ideal.main_arg0) = m ((c.tc : Thread Cert.Kernel22Ideal.nD Cert.Kernel22Ideal.τ).loc Cert.Kernel22Ideal.main_arg0)
          ∧ r.2.mem ((c.tc : Thread Cert.Kernel22Ideal.nD Cert.Kernel22Ideal.τ).loc Cert.Kernel22Ideal.main_arg1) = m ((c.tc : Thread Cert.Kernel22Ideal.nD Cert.Kernel22Ideal.τ).loc Cert.Kernel22Ideal.main_arg1))
      ∧ θ_run (Cert.Reference22Ideal.defs (F := Ideal)) (onTc (τ := Cert.Reference22Ideal.τ) (Cert.Reference22Ideal.main (F := Ideal))) ⟨m', fun _ => 0, g'⟩ (fun r => ∀ c : Dev Cert.Reference22Ideal.nD,
          r.2.mem ((c.tc : Thread Cert.Reference22Ideal.nD Cert.Reference22Ideal.τ).loc Cert.Reference22Ideal.main_v12) = v0 c
          ∧ r.2.mem ((c.tc : Thread Cert.Reference22Ideal.nD Cert.Reference22Ideal.τ).loc Cert.Reference22Ideal.main_v20) = v1 c
          ∧ r.2.mem ((c.tc : Thread Cert.Reference22Ideal.nD Cert.Reference22Ideal.τ).loc Cert.Reference22Ideal.main_arg0) = m' ((c.tc : Thread Cert.Reference22Ideal.nD Cert.Reference22Ideal.τ).loc Cert.Reference22Ideal.main_arg0)
          ∧ r.2.mem ((c.tc : Thread Cert.Reference22Ideal.nD Cert.Reference22Ideal.τ).loc Cert.Reference22Ideal.main_arg1) = m' ((c.tc : Thread Cert.Reference22Ideal.nD Cert.Reference22Ideal.τ).loc Cert.Reference22Ideal.main_arg1))

def preserves_Kernel23_Kernel23Ideal : Prop :=
  True

def algebraic_Kernel23Ideal_Reference23Ideal [hKernel23Ideal : Cert.Kernel23Ideal.Facts] [hReference23Ideal : Cert.Reference23Ideal.Facts] : Prop :=
  ∀ (m : (ℓ : Loc Cert.Kernel23Ideal.nD Cert.Kernel23Ideal.τ Cert.Kernel23Ideal.sig) → Buf (Elt Ideal) ℓ) (g : Dev Cert.Kernel23Ideal.nD → PrngReg)
    (m' : (ℓ : Loc Cert.Reference23Ideal.nD Cert.Reference23Ideal.τ Cert.Reference23Ideal.sig) → Buf (Elt Ideal) ℓ) (g' : Dev Cert.Reference23Ideal.nD → PrngReg), Pre_Kernel23Ideal m →
    (∀ c : Dev Cert.Kernel23Ideal.nD,
      m' ((c.tc : Thread Cert.Reference23Ideal.nD Cert.Reference23Ideal.τ).loc Cert.Reference23Ideal.main_arg0) = m ((c.tc : Thread Cert.Kernel23Ideal.nD Cert.Kernel23Ideal.τ).loc Cert.Kernel23Ideal.main_arg0)
      ∧ m' ((c.tc : Thread Cert.Reference23Ideal.nD Cert.Reference23Ideal.τ).loc Cert.Reference23Ideal.main_arg1) = m ((c.tc : Thread Cert.Kernel23Ideal.nD Cert.Kernel23Ideal.τ).loc Cert.Kernel23Ideal.main_arg1)
      ∧ m' ((c.tc : Thread Cert.Reference23Ideal.nD Cert.Reference23Ideal.τ).loc Cert.Reference23Ideal.main_arg2) = m ((c.tc : Thread Cert.Kernel23Ideal.nD Cert.Kernel23Ideal.τ).loc Cert.Kernel23Ideal.main_arg2)
      ∧ m' ((c.tc : Thread Cert.Reference23Ideal.nD Cert.Reference23Ideal.τ).loc Cert.Reference23Ideal.main_arg3) = m ((c.tc : Thread Cert.Kernel23Ideal.nD Cert.Kernel23Ideal.τ).loc Cert.Kernel23Ideal.main_arg3)
      ∧ m' ((c.tc : Thread Cert.Reference23Ideal.nD Cert.Reference23Ideal.τ).loc Cert.Reference23Ideal.main_arg4) = m ((c.tc : Thread Cert.Kernel23Ideal.nD Cert.Kernel23Ideal.τ).loc Cert.Kernel23Ideal.main_arg4)
      ∧ m' ((c.tc : Thread Cert.Reference23Ideal.nD Cert.Reference23Ideal.τ).loc Cert.Reference23Ideal.main_arg5) = m ((c.tc : Thread Cert.Kernel23Ideal.nD Cert.Kernel23Ideal.τ).loc Cert.Kernel23Ideal.main_arg5)) →
    ∃ (v0 : (c : Dev Cert.Kernel23Ideal.nD) → Buf (Elt Ideal) ((c.tc : Thread Cert.Kernel23Ideal.nD Cert.Kernel23Ideal.τ).loc Cert.Kernel23Ideal.main_v0_0)) (v1 : (c : Dev Cert.Kernel23Ideal.nD) → Buf (Elt Ideal) ((c.tc : Thread Cert.Kernel23Ideal.nD Cert.Kernel23Ideal.τ).loc Cert.Kernel23Ideal.main_v0_1)) (v2 : (c : Dev Cert.Kernel23Ideal.nD) → Buf (Elt Ideal) ((c.tc : Thread Cert.Kernel23Ideal.nD Cert.Kernel23Ideal.τ).loc Cert.Kernel23Ideal.main_v0_2)) (v3 : (c : Dev Cert.Kernel23Ideal.nD) → Buf (Elt Ideal) ((c.tc : Thread Cert.Kernel23Ideal.nD Cert.Kernel23Ideal.τ).loc Cert.Kernel23Ideal.main_v0_3)) (v4 : (c : Dev Cert.Kernel23Ideal.nD) → Buf (Elt Ideal) ((c.tc : Thread Cert.Kernel23Ideal.nD Cert.Kernel23Ideal.τ).loc Cert.Kernel23Ideal.main_v0_4)),
      θ_run (Cert.Kernel23Ideal.defs (F := Ideal)) (onTc (τ := Cert.Kernel23Ideal.τ) (Cert.Kernel23Ideal.main (F := Ideal))) ⟨m, fun _ => 0, g⟩ (fun r => ∀ c : Dev Cert.Kernel23Ideal.nD,
          r.2.mem ((c.tc : Thread Cert.Kernel23Ideal.nD Cert.Kernel23Ideal.τ).loc Cert.Kernel23Ideal.main_v0_0) = v0 c
          ∧ r.2.mem ((c.tc : Thread Cert.Kernel23Ideal.nD Cert.Kernel23Ideal.τ).loc Cert.Kernel23Ideal.main_v0_1) = v1 c
          ∧ r.2.mem ((c.tc : Thread Cert.Kernel23Ideal.nD Cert.Kernel23Ideal.τ).loc Cert.Kernel23Ideal.main_v0_2) = v2 c
          ∧ r.2.mem ((c.tc : Thread Cert.Kernel23Ideal.nD Cert.Kernel23Ideal.τ).loc Cert.Kernel23Ideal.main_v0_3) = v3 c
          ∧ r.2.mem ((c.tc : Thread Cert.Kernel23Ideal.nD Cert.Kernel23Ideal.τ).loc Cert.Kernel23Ideal.main_v0_4) = v4 c
          ∧ r.2.mem ((c.tc : Thread Cert.Kernel23Ideal.nD Cert.Kernel23Ideal.τ).loc Cert.Kernel23Ideal.main_arg0) = m ((c.tc : Thread Cert.Kernel23Ideal.nD Cert.Kernel23Ideal.τ).loc Cert.Kernel23Ideal.main_arg0)
          ∧ r.2.mem ((c.tc : Thread Cert.Kernel23Ideal.nD Cert.Kernel23Ideal.τ).loc Cert.Kernel23Ideal.main_arg1) = m ((c.tc : Thread Cert.Kernel23Ideal.nD Cert.Kernel23Ideal.τ).loc Cert.Kernel23Ideal.main_arg1)
          ∧ r.2.mem ((c.tc : Thread Cert.Kernel23Ideal.nD Cert.Kernel23Ideal.τ).loc Cert.Kernel23Ideal.main_arg2) = m ((c.tc : Thread Cert.Kernel23Ideal.nD Cert.Kernel23Ideal.τ).loc Cert.Kernel23Ideal.main_arg2)
          ∧ r.2.mem ((c.tc : Thread Cert.Kernel23Ideal.nD Cert.Kernel23Ideal.τ).loc Cert.Kernel23Ideal.main_arg3) = m ((c.tc : Thread Cert.Kernel23Ideal.nD Cert.Kernel23Ideal.τ).loc Cert.Kernel23Ideal.main_arg3)
          ∧ r.2.mem ((c.tc : Thread Cert.Kernel23Ideal.nD Cert.Kernel23Ideal.τ).loc Cert.Kernel23Ideal.main_arg4) = m ((c.tc : Thread Cert.Kernel23Ideal.nD Cert.Kernel23Ideal.τ).loc Cert.Kernel23Ideal.main_arg4)
          ∧ r.2.mem ((c.tc : Thread Cert.Kernel23Ideal.nD Cert.Kernel23Ideal.τ).loc Cert.Kernel23Ideal.main_arg5) = m ((c.tc : Thread Cert.Kernel23Ideal.nD Cert.Kernel23Ideal.τ).loc Cert.Kernel23Ideal.main_arg5))
      ∧ θ_run (Cert.Reference23Ideal.defs (F := Ideal)) (onTc (τ := Cert.Reference23Ideal.τ) (Cert.Reference23Ideal.main (F := Ideal))) ⟨m', fun _ => 0, g'⟩ (fun r => ∀ c : Dev Cert.Reference23Ideal.nD,
          r.2.mem ((c.tc : Thread Cert.Reference23Ideal.nD Cert.Reference23Ideal.τ).loc Cert.Reference23Ideal.main_v16) = v0 c
          ∧ r.2.mem ((c.tc : Thread Cert.Reference23Ideal.nD Cert.Reference23Ideal.τ).loc Cert.Reference23Ideal.main_v24) = v1 c
          ∧ r.2.mem ((c.tc : Thread Cert.Reference23Ideal.nD Cert.Reference23Ideal.τ).loc Cert.Reference23Ideal.main_v37) = v2 c
          ∧ r.2.mem ((c.tc : Thread Cert.Reference23Ideal.nD Cert.Reference23Ideal.τ).loc Cert.Reference23Ideal.main_v45) = v3 c
          ∧ r.2.mem ((c.tc : Thread Cert.Reference23Ideal.nD Cert.Reference23Ideal.τ).loc Cert.Reference23Ideal.main_v3) = v4 c
          ∧ r.2.mem ((c.tc : Thread Cert.Reference23Ideal.nD Cert.Reference23Ideal.τ).loc Cert.Reference23Ideal.main_arg0) = m' ((c.tc : Thread Cert.Reference23Ideal.nD Cert.Reference23Ideal.τ).loc Cert.Reference23Ideal.main_arg0)
          ∧ r.2.mem ((c.tc : Thread Cert.Reference23Ideal.nD Cert.Reference23Ideal.τ).loc Cert.Reference23Ideal.main_arg1) = m' ((c.tc : Thread Cert.Reference23Ideal.nD Cert.Reference23Ideal.τ).loc Cert.Reference23Ideal.main_arg1)
          ∧ r.2.mem ((c.tc : Thread Cert.Reference23Ideal.nD Cert.Reference23Ideal.τ).loc Cert.Reference23Ideal.main_arg2) = m' ((c.tc : Thread Cert.Reference23Ideal.nD Cert.Reference23Ideal.τ).loc Cert.Reference23Ideal.main_arg2)
          ∧ r.2.mem ((c.tc : Thread Cert.Reference23Ideal.nD Cert.Reference23Ideal.τ).loc Cert.Reference23Ideal.main_arg3) = m' ((c.tc : Thread Cert.Reference23Ideal.nD Cert.Reference23Ideal.τ).loc Cert.Reference23Ideal.main_arg3)
          ∧ r.2.mem ((c.tc : Thread Cert.Reference23Ideal.nD Cert.Reference23Ideal.τ).loc Cert.Reference23Ideal.main_arg4) = m' ((c.tc : Thread Cert.Reference23Ideal.nD Cert.Reference23Ideal.τ).loc Cert.Reference23Ideal.main_arg4)
          ∧ r.2.mem ((c.tc : Thread Cert.Reference23Ideal.nD Cert.Reference23Ideal.τ).loc Cert.Reference23Ideal.main_arg5) = m' ((c.tc : Thread Cert.Reference23Ideal.nD Cert.Reference23Ideal.τ).loc Cert.Reference23Ideal.main_arg5))

def preserves_Kernel24_Kernel24Ideal : Prop :=
  True

def algebraic_Kernel24Ideal_Reference24Ideal [hKernel24Ideal : Cert.Kernel24Ideal.Facts] [hReference24Ideal : Cert.Reference24Ideal.Facts] : Prop :=
  ∀ (m : (ℓ : Loc Cert.Kernel24Ideal.nD Cert.Kernel24Ideal.τ Cert.Kernel24Ideal.sig) → Buf (Elt Ideal) ℓ) (g : Dev Cert.Kernel24Ideal.nD → PrngReg)
    (m' : (ℓ : Loc Cert.Reference24Ideal.nD Cert.Reference24Ideal.τ Cert.Reference24Ideal.sig) → Buf (Elt Ideal) ℓ) (g' : Dev Cert.Reference24Ideal.nD → PrngReg), Pre_Kernel24Ideal m →
    (∀ c : Dev Cert.Kernel24Ideal.nD,
      m' ((c.tc : Thread Cert.Reference24Ideal.nD Cert.Reference24Ideal.τ).loc Cert.Reference24Ideal.main_arg0) = m ((c.tc : Thread Cert.Kernel24Ideal.nD Cert.Kernel24Ideal.τ).loc Cert.Kernel24Ideal.main_arg0)
      ∧ m' ((c.tc : Thread Cert.Reference24Ideal.nD Cert.Reference24Ideal.τ).loc Cert.Reference24Ideal.main_arg1) = m ((c.tc : Thread Cert.Kernel24Ideal.nD Cert.Kernel24Ideal.τ).loc Cert.Kernel24Ideal.main_arg1)
      ∧ m' ((c.tc : Thread Cert.Reference24Ideal.nD Cert.Reference24Ideal.τ).loc Cert.Reference24Ideal.main_arg2) = m ((c.tc : Thread Cert.Kernel24Ideal.nD Cert.Kernel24Ideal.τ).loc Cert.Kernel24Ideal.main_arg2)) →
    ∃ (v0 : (c : Dev Cert.Kernel24Ideal.nD) → Buf (Elt Ideal) ((c.tc : Thread Cert.Kernel24Ideal.nD Cert.Kernel24Ideal.τ).loc Cert.Kernel24Ideal.main_v0)),
      θ_run (Cert.Kernel24Ideal.defs (F := Ideal)) (onTc (τ := Cert.Kernel24Ideal.τ) (Cert.Kernel24Ideal.main (F := Ideal))) ⟨m, fun _ => 0, g⟩ (fun r => ∀ c : Dev Cert.Kernel24Ideal.nD,
          r.2.mem ((c.tc : Thread Cert.Kernel24Ideal.nD Cert.Kernel24Ideal.τ).loc Cert.Kernel24Ideal.main_v0) = v0 c
          ∧ r.2.mem ((c.tc : Thread Cert.Kernel24Ideal.nD Cert.Kernel24Ideal.τ).loc Cert.Kernel24Ideal.main_arg0) = m ((c.tc : Thread Cert.Kernel24Ideal.nD Cert.Kernel24Ideal.τ).loc Cert.Kernel24Ideal.main_arg0)
          ∧ r.2.mem ((c.tc : Thread Cert.Kernel24Ideal.nD Cert.Kernel24Ideal.τ).loc Cert.Kernel24Ideal.main_arg1) = m ((c.tc : Thread Cert.Kernel24Ideal.nD Cert.Kernel24Ideal.τ).loc Cert.Kernel24Ideal.main_arg1)
          ∧ r.2.mem ((c.tc : Thread Cert.Kernel24Ideal.nD Cert.Kernel24Ideal.τ).loc Cert.Kernel24Ideal.main_arg2) = m ((c.tc : Thread Cert.Kernel24Ideal.nD Cert.Kernel24Ideal.τ).loc Cert.Kernel24Ideal.main_arg2))
      ∧ θ_run (Cert.Reference24Ideal.defs (F := Ideal)) (onTc (τ := Cert.Reference24Ideal.τ) (Cert.Reference24Ideal.main (F := Ideal))) ⟨m', fun _ => 0, g'⟩ (fun r => ∀ c : Dev Cert.Reference24Ideal.nD,
          r.2.mem ((c.tc : Thread Cert.Reference24Ideal.nD Cert.Reference24Ideal.τ).loc Cert.Reference24Ideal.main_v6) = v0 c
          ∧ r.2.mem ((c.tc : Thread Cert.Reference24Ideal.nD Cert.Reference24Ideal.τ).loc Cert.Reference24Ideal.main_arg0) = m' ((c.tc : Thread Cert.Reference24Ideal.nD Cert.Reference24Ideal.τ).loc Cert.Reference24Ideal.main_arg0)
          ∧ r.2.mem ((c.tc : Thread Cert.Reference24Ideal.nD Cert.Reference24Ideal.τ).loc Cert.Reference24Ideal.main_arg1) = m' ((c.tc : Thread Cert.Reference24Ideal.nD Cert.Reference24Ideal.τ).loc Cert.Reference24Ideal.main_arg1)
          ∧ r.2.mem ((c.tc : Thread Cert.Reference24Ideal.nD Cert.Reference24Ideal.τ).loc Cert.Reference24Ideal.main_arg2) = m' ((c.tc : Thread Cert.Reference24Ideal.nD Cert.Reference24Ideal.τ).loc Cert.Reference24Ideal.main_arg2))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hKernel4 : Cert.Kernel4.Facts) (hKernel4Ideal : Cert.Kernel4Ideal.Facts) (hReference4Ideal : Cert.Reference4Ideal.Facts) (hKernel5 : Cert.Kernel5.Facts) (hKernel5Ideal : Cert.Kernel5Ideal.Facts) (hReference5Ideal : Cert.Reference5Ideal.Facts) (hKernel6 : Cert.Kernel6.Facts) (hKernel6Ideal : Cert.Kernel6Ideal.Facts) (hReference6Ideal : Cert.Reference6Ideal.Facts) (hKernel7 : Cert.Kernel7.Facts) (hKernel7Ideal : Cert.Kernel7Ideal.Facts) (hReference7Ideal : Cert.Reference7Ideal.Facts) (hKernel8 : Cert.Kernel8.Facts) (hKernel8Ideal : Cert.Kernel8Ideal.Facts) (hReference8Ideal : Cert.Reference8Ideal.Facts) (hKernel9 : Cert.Kernel9.Facts) (hKernel9Ideal : Cert.Kernel9Ideal.Facts) (hReference9Ideal : Cert.Reference9Ideal.Facts) (hKernel10 : Cert.Kernel10.Facts) (hKernel10Ideal : Cert.Kernel10Ideal.Facts) (hReference10Ideal : Cert.Reference10Ideal.Facts) (hKernel11 : Cert.Kernel11.Facts) (hKernel11Ideal : Cert.Kernel11Ideal.Facts) (hReference11Ideal : Cert.Reference11Ideal.Facts) (hKernel12 : Cert.Kernel12.Facts) (hKernel12Ideal : Cert.Kernel12Ideal.Facts) (hReference12Ideal : Cert.Reference12Ideal.Facts) (hKernel13 : Cert.Kernel13.Facts) (hKernel13Ideal : Cert.Kernel13Ideal.Facts) (hReference13Ideal : Cert.Reference13Ideal.Facts) (hKernel14 : Cert.Kernel14.Facts) (hKernel14Ideal : Cert.Kernel14Ideal.Facts) (hReference14Ideal : Cert.Reference14Ideal.Facts) (hKernel15 : Cert.Kernel15.Facts) (hKernel15Ideal : Cert.Kernel15Ideal.Facts) (hReference15Ideal : Cert.Reference15Ideal.Facts) (hKernel16 : Cert.Kernel16.Facts) (hKernel16Ideal : Cert.Kernel16Ideal.Facts) (hReference16Ideal : Cert.Reference16Ideal.Facts) (hKernel17 : Cert.Kernel17.Facts) (hKernel17Ideal : Cert.Kernel17Ideal.Facts) (hReference17Ideal : Cert.Reference17Ideal.Facts) (hKernel18 : Cert.Kernel18.Facts) (hKernel18Ideal : Cert.Kernel18Ideal.Facts) (hReference18Ideal : Cert.Reference18Ideal.Facts) (hKernel19 : Cert.Kernel19.Facts) (hKernel19Ideal : Cert.Kernel19Ideal.Facts) (hReference19Ideal : Cert.Reference19Ideal.Facts) (hKernel20 : Cert.Kernel20.Facts) (hKernel20Ideal : Cert.Kernel20Ideal.Facts) (hReference20Ideal : Cert.Reference20Ideal.Facts) (hKernel21 : Cert.Kernel21.Facts) (hKernel21Ideal : Cert.Kernel21Ideal.Facts) (hReference21Ideal : Cert.Reference21Ideal.Facts) (hKernel22 : Cert.Kernel22.Facts) (hKernel22Ideal : Cert.Kernel22Ideal.Facts) (hReference22Ideal : Cert.Reference22Ideal.Facts) (hKernel23 : Cert.Kernel23.Facts) (hKernel23Ideal : Cert.Kernel23Ideal.Facts) (hReference23Ideal : Cert.Reference23Ideal.Facts) (hKernel24 : Cert.Kernel24.Facts) (hKernel24Ideal : Cert.Kernel24Ideal.Facts) (hReference24Ideal : Cert.Reference24Ideal.Facts) (hPre_finite : Cert.Pre_finite.Facts) (hPre_finite2 : Cert.Pre_finite2.Facts) (hPre_finite6 : Cert.Pre_finite6.Facts) (hPre_finite7 : Cert.Pre_finite7.Facts) (hPre_finite10 : Cert.Pre_finite10.Facts) (hPre_finite15 : Cert.Pre_finite15.Facts) (hPre_finite20 : Cert.Pre_finite20.Facts),
    quiescent_Kernel (hKernel := hKernel)
    ∧ quiescent_KernelIdeal (hKernelIdeal := hKernelIdeal)
    ∧ quiescent_KernelIdeal_pre_finite (hKernelIdeal := hKernelIdeal) (hPre_finite := hPre_finite)
    ∧ quiescent_ReferenceIdeal (hReferenceIdeal := hReferenceIdeal)
    ∧ quiescent_ReferenceIdeal_pre_finite (hReferenceIdeal := hReferenceIdeal) (hPre_finite := hPre_finite)
    ∧ quiescent_Kernel2 (hKernel2 := hKernel2)
    ∧ quiescent_Kernel2Ideal (hKernel2Ideal := hKernel2Ideal)
    ∧ quiescent_Kernel2Ideal_pre_finite2 (hKernel2Ideal := hKernel2Ideal) (hPre_finite2 := hPre_finite2)
    ∧ quiescent_Reference2Ideal (hReference2Ideal := hReference2Ideal)
    ∧ quiescent_Reference2Ideal_pre_finite2 (hReference2Ideal := hReference2Ideal) (hPre_finite2 := hPre_finite2)
    ∧ quiescent_Kernel3 (hKernel3 := hKernel3)
    ∧ quiescent_Kernel3Ideal (hKernel3Ideal := hKernel3Ideal)
    ∧ quiescent_Reference3Ideal (hReference3Ideal := hReference3Ideal)
    ∧ quiescent_Kernel4 (hKernel4 := hKernel4)
    ∧ quiescent_Kernel4Ideal (hKernel4Ideal := hKernel4Ideal)
    ∧ quiescent_Reference4Ideal (hReference4Ideal := hReference4Ideal)
    ∧ quiescent_Kernel5 (hKernel5 := hKernel5)
    ∧ quiescent_Kernel5Ideal (hKernel5Ideal := hKernel5Ideal)
    ∧ quiescent_Reference5Ideal (hReference5Ideal := hReference5Ideal)
    ∧ quiescent_Kernel6 (hKernel6 := hKernel6)
    ∧ quiescent_Kernel6Ideal (hKernel6Ideal := hKernel6Ideal)
    ∧ quiescent_Kernel6Ideal_pre_finite6 (hKernel6Ideal := hKernel6Ideal) (hPre_finite6 := hPre_finite6)
    ∧ quiescent_Reference6Ideal (hReference6Ideal := hReference6Ideal)
    ∧ quiescent_Reference6Ideal_pre_finite6 (hReference6Ideal := hReference6Ideal) (hPre_finite6 := hPre_finite6)
    ∧ quiescent_Kernel7 (hKernel7 := hKernel7)
    ∧ quiescent_Kernel7Ideal (hKernel7Ideal := hKernel7Ideal)
    ∧ quiescent_Kernel7Ideal_pre_finite7 (hKernel7Ideal := hKernel7Ideal) (hPre_finite7 := hPre_finite7)
    ∧ quiescent_Reference7Ideal (hReference7Ideal := hReference7Ideal)
    ∧ quiescent_Reference7Ideal_pre_finite7 (hReference7Ideal := hReference7Ideal) (hPre_finite7 := hPre_finite7)
    ∧ quiescent_Kernel8 (hKernel8 := hKernel8)
    ∧ quiescent_Kernel8Ideal (hKernel8Ideal := hKernel8Ideal)
    ∧ quiescent_Reference8Ideal (hReference8Ideal := hReference8Ideal)
    ∧ quiescent_Kernel9 (hKernel9 := hKernel9)
    ∧ quiescent_Kernel9Ideal (hKernel9Ideal := hKernel9Ideal)
    ∧ quiescent_Reference9Ideal (hReference9Ideal := hReference9Ideal)
    ∧ quiescent_Kernel10 (hKernel10 := hKernel10)
    ∧ quiescent_Kernel10Ideal (hKernel10Ideal := hKernel10Ideal)
    ∧ quiescent_Kernel10Ideal_pre_finite10 (hKernel10Ideal := hKernel10Ideal) (hPre_finite10 := hPre_finite10)
    ∧ quiescent_Reference10Ideal (hReference10Ideal := hReference10Ideal)
    ∧ quiescent_Reference10Ideal_pre_finite10 (hReference10Ideal := hReference10Ideal) (hPre_finite10 := hPre_finite10)
    ∧ quiescent_Kernel11 (hKernel11 := hKernel11)
    ∧ quiescent_Kernel11Ideal (hKernel11Ideal := hKernel11Ideal)
    ∧ quiescent_Reference11Ideal (hReference11Ideal := hReference11Ideal)
    ∧ quiescent_Kernel12 (hKernel12 := hKernel12)
    ∧ quiescent_Kernel12Ideal (hKernel12Ideal := hKernel12Ideal)
    ∧ quiescent_Reference12Ideal (hReference12Ideal := hReference12Ideal)
    ∧ quiescent_Kernel13 (hKernel13 := hKernel13)
    ∧ quiescent_Kernel13Ideal (hKernel13Ideal := hKernel13Ideal)
    ∧ quiescent_Reference13Ideal (hReference13Ideal := hReference13Ideal)
    ∧ quiescent_Kernel14 (hKernel14 := hKernel14)
    ∧ quiescent_Kernel14Ideal (hKernel14Ideal := hKernel14Ideal)
    ∧ quiescent_Reference14Ideal (hReference14Ideal := hReference14Ideal)
    ∧ quiescent_Kernel15 (hKernel15 := hKernel15)
    ∧ quiescent_Kernel15Ideal (hKernel15Ideal := hKernel15Ideal)
    ∧ quiescent_Kernel15Ideal_pre_finite15 (hKernel15Ideal := hKernel15Ideal) (hPre_finite15 := hPre_finite15)
    ∧ quiescent_Reference15Ideal (hReference15Ideal := hReference15Ideal)
    ∧ quiescent_Reference15Ideal_pre_finite15 (hReference15Ideal := hReference15Ideal) (hPre_finite15 := hPre_finite15)
    ∧ quiescent_Kernel16 (hKernel16 := hKernel16)
    ∧ quiescent_Kernel16Ideal (hKernel16Ideal := hKernel16Ideal)
    ∧ quiescent_Reference16Ideal (hReference16Ideal := hReference16Ideal)
    ∧ quiescent_Kernel17 (hKernel17 := hKernel17)
    ∧ quiescent_Kernel17Ideal (hKernel17Ideal := hKernel17Ideal)
    ∧ quiescent_Reference17Ideal (hReference17Ideal := hReference17Ideal)
    ∧ quiescent_Kernel18 (hKernel18 := hKernel18)
    ∧ quiescent_Kernel18Ideal (hKernel18Ideal := hKernel18Ideal)
    ∧ quiescent_Reference18Ideal (hReference18Ideal := hReference18Ideal)
    ∧ quiescent_Kernel19 (hKernel19 := hKernel19)
    ∧ quiescent_Kernel19Ideal (hKernel19Ideal := hKernel19Ideal)
    ∧ quiescent_Reference19Ideal (hReference19Ideal := hReference19Ideal)
    ∧ quiescent_Kernel20 (hKernel20 := hKernel20)
    ∧ quiescent_Kernel20Ideal (hKernel20Ideal := hKernel20Ideal)
    ∧ quiescent_Kernel20Ideal_pre_finite20 (hKernel20Ideal := hKernel20Ideal) (hPre_finite20 := hPre_finite20)
    ∧ quiescent_Reference20Ideal (hReference20Ideal := hReference20Ideal)
    ∧ quiescent_Reference20Ideal_pre_finite20 (hReference20Ideal := hReference20Ideal) (hPre_finite20 := hPre_finite20)
    ∧ quiescent_Kernel21 (hKernel21 := hKernel21)
    ∧ quiescent_Kernel21Ideal (hKernel21Ideal := hKernel21Ideal)
    ∧ quiescent_Reference21Ideal (hReference21Ideal := hReference21Ideal)
    ∧ quiescent_Kernel22 (hKernel22 := hKernel22)
    ∧ quiescent_Kernel22Ideal (hKernel22Ideal := hKernel22Ideal)
    ∧ quiescent_Reference22Ideal (hReference22Ideal := hReference22Ideal)
    ∧ quiescent_Kernel23 (hKernel23 := hKernel23)
    ∧ quiescent_Kernel23Ideal (hKernel23Ideal := hKernel23Ideal)
    ∧ quiescent_Reference23Ideal (hReference23Ideal := hReference23Ideal)
    ∧ quiescent_Kernel24 (hKernel24 := hKernel24)
    ∧ quiescent_Kernel24Ideal (hKernel24Ideal := hKernel24Ideal)
    ∧ quiescent_Reference24Ideal (hReference24Ideal := hReference24Ideal)
    ∧ preserves_Kernel_KernelIdeal
    ∧ algebraic_KernelIdeal_ReferenceIdeal_pre_finite (hKernelIdeal := hKernelIdeal) (hReferenceIdeal := hReferenceIdeal) (hPre_finite := hPre_finite)
    ∧ preserves_Kernel2_Kernel2Ideal
    ∧ algebraic_Kernel2Ideal_Reference2Ideal_pre_finite2 (hKernel2Ideal := hKernel2Ideal) (hReference2Ideal := hReference2Ideal) (hPre_finite2 := hPre_finite2)
    ∧ preserves_Kernel3_Kernel3Ideal
    ∧ algebraic_Kernel3Ideal_Reference3Ideal (hKernel3Ideal := hKernel3Ideal) (hReference3Ideal := hReference3Ideal)
    ∧ preserves_Kernel4_Kernel4Ideal
    ∧ algebraic_Kernel4Ideal_Reference4Ideal (hKernel4Ideal := hKernel4Ideal) (hReference4Ideal := hReference4Ideal)
    ∧ preserves_Kernel5_Kernel5Ideal
    ∧ algebraic_Kernel5Ideal_Reference5Ideal (hKernel5Ideal := hKernel5Ideal) (hReference5Ideal := hReference5Ideal)
    ∧ preserves_Kernel6_Kernel6Ideal
    ∧ algebraic_Kernel6Ideal_Reference6Ideal_pre_finite6 (hKernel6Ideal := hKernel6Ideal) (hReference6Ideal := hReference6Ideal) (hPre_finite6 := hPre_finite6)
    ∧ preserves_Kernel7_Kernel7Ideal
    ∧ algebraic_Kernel7Ideal_Reference7Ideal_pre_finite7 (hKernel7Ideal := hKernel7Ideal) (hReference7Ideal := hReference7Ideal) (hPre_finite7 := hPre_finite7)
    ∧ preserves_Kernel8_Kernel8Ideal
    ∧ algebraic_Kernel8Ideal_Reference8Ideal (hKernel8Ideal := hKernel8Ideal) (hReference8Ideal := hReference8Ideal)
    ∧ preserves_Kernel9_Kernel9Ideal
    ∧ algebraic_Kernel9Ideal_Reference9Ideal (hKernel9Ideal := hKernel9Ideal) (hReference9Ideal := hReference9Ideal)
    ∧ preserves_Kernel10_Kernel10Ideal
    ∧ algebraic_Kernel10Ideal_Reference10Ideal_pre_finite10 (hKernel10Ideal := hKernel10Ideal) (hReference10Ideal := hReference10Ideal) (hPre_finite10 := hPre_finite10)
    ∧ preserves_Kernel11_Kernel11Ideal
    ∧ algebraic_Kernel11Ideal_Reference11Ideal (hKernel11Ideal := hKernel11Ideal) (hReference11Ideal := hReference11Ideal)
    ∧ preserves_Kernel12_Kernel12Ideal
    ∧ algebraic_Kernel12Ideal_Reference12Ideal (hKernel12Ideal := hKernel12Ideal) (hReference12Ideal := hReference12Ideal)
    ∧ preserves_Kernel13_Kernel13Ideal
    ∧ algebraic_Kernel13Ideal_Reference13Ideal (hKernel13Ideal := hKernel13Ideal) (hReference13Ideal := hReference13Ideal)
    ∧ preserves_Kernel14_Kernel14Ideal
    ∧ algebraic_Kernel14Ideal_Reference14Ideal (hKernel14Ideal := hKernel14Ideal) (hReference14Ideal := hReference14Ideal)
    ∧ preserves_Kernel15_Kernel15Ideal
    ∧ algebraic_Kernel15Ideal_Reference15Ideal_pre_finite15 (hKernel15Ideal := hKernel15Ideal) (hReference15Ideal := hReference15Ideal) (hPre_finite15 := hPre_finite15)
    ∧ preserves_Kernel16_Kernel16Ideal
    ∧ algebraic_Kernel16Ideal_Reference16Ideal (hKernel16Ideal := hKernel16Ideal) (hReference16Ideal := hReference16Ideal)
    ∧ preserves_Kernel17_Kernel17Ideal
    ∧ algebraic_Kernel17Ideal_Reference17Ideal (hKernel17Ideal := hKernel17Ideal) (hReference17Ideal := hReference17Ideal)
    ∧ preserves_Kernel18_Kernel18Ideal
    ∧ algebraic_Kernel18Ideal_Reference18Ideal (hKernel18Ideal := hKernel18Ideal) (hReference18Ideal := hReference18Ideal)
    ∧ preserves_Kernel19_Kernel19Ideal
    ∧ algebraic_Kernel19Ideal_Reference19Ideal (hKernel19Ideal := hKernel19Ideal) (hReference19Ideal := hReference19Ideal)
    ∧ preserves_Kernel20_Kernel20Ideal
    ∧ algebraic_Kernel20Ideal_Reference20Ideal_pre_finite20 (hKernel20Ideal := hKernel20Ideal) (hReference20Ideal := hReference20Ideal) (hPre_finite20 := hPre_finite20)
    ∧ preserves_Kernel21_Kernel21Ideal
    ∧ algebraic_Kernel21Ideal_Reference21Ideal (hKernel21Ideal := hKernel21Ideal) (hReference21Ideal := hReference21Ideal)
    ∧ preserves_Kernel22_Kernel22Ideal
    ∧ algebraic_Kernel22Ideal_Reference22Ideal (hKernel22Ideal := hKernel22Ideal) (hReference22Ideal := hReference22Ideal)
    ∧ preserves_Kernel23_Kernel23Ideal
    ∧ algebraic_Kernel23Ideal_Reference23Ideal (hKernel23Ideal := hKernel23Ideal) (hReference23Ideal := hReference23Ideal)
    ∧ preserves_Kernel24_Kernel24Ideal
    ∧ algebraic_Kernel24Ideal_Reference24Ideal (hKernel24Ideal := hKernel24Ideal) (hReference24Ideal := hReference24Ideal)
-- ==== Pre_finite.lean ====
abbrev S4096x1024 : Shape := ⟨2, ![4096, 1024]⟩
abbrev S1024x1024 : Shape := ⟨2, ![1024, 1024]⟩
abbrev S4096x1536 : Shape := ⟨2, ![4096, 1536]⟩
abbrev S1x512 : Shape := ⟨2, ![1, 512]⟩
abbrev S4x128x128 : Shape := ⟨3, ![4, 128, 128]⟩
abbrev S4x128 : Shape := ⟨2, ![4, 128]⟩
abbrev S_ : Shape := ⟨0, ![]⟩

class Facts : Prop where
  bitsLt_bf16_f32 : FTy.bits .bf16 < FTy.bits .f32
  bcast_S_S4096x1024 : S_.BroadcastsInDim S4096x1024 (![] : Fin 0 → Fin S4096x1024.rank)
  bcast_S_S1024x1024 : S_.BroadcastsInDim S1024x1024 (![] : Fin 0 → Fin S1024x1024.rank)
  bcast_S_S4096x1536 : S_.BroadcastsInDim S4096x1536 (![] : Fin 0 → Fin S4096x1536.rank)
  bcast_S_S1x512 : S_.BroadcastsInDim S1x512 (![] : Fin 0 → Fin S1x512.rank)
  bcast_S_S4x128x128 : S_.BroadcastsInDim S4x128x128 (![] : Fin 0 → Fin S4x128x128.rank)
  bcast_S_S4x128 : S_.BroadcastsInDim S4x128 (![] : Fin 0 → Fin S4x128.rank)

variable [Facts]

def fn_part1 {F : FTy → Type} [FloatOps F] (main_arg6 : FVec F S4x128 .f32) (main_v3 : IVec S4096x1024 1) (main_v7 : IVec S1024x1024 1) (main_v10 : IVec S4096x1536 1) (main_v13 : IVec S1x512 1) (main_v16 : IVec S1x512 1) (main_v17 : FVec F S4x128x128 .f32) (main_cst_4 : FVec F S_ .f32) : IVec S4096x1024 1 × IVec S1024x1024 1 × IVec S4096x1536 1 × IVec S1x512 1 × IVec S1x512 1 × IVec S4x128x128 1 × IVec S4x128 1 :=
  let main_v18 : FVec F S4x128x128 .f32 := broadcastInDim S4x128x128 ![] bcast_S_S4x128x128 main_cst_4
  let main_v19 : IVec S4x128x128 1 := cmpf .olt main_v17 main_v18
  let main_v20 : FVec F S4x128 .f32 := Host.absf main_arg6
  let main_cst_5 : FVec F S_ .f32 := constant S_ .f32 0x7F800000#32
  let main_v21 : FVec F S4x128 .f32 := broadcastInDim S4x128 ![] bcast_S_S4x128 main_cst_5
  let main_v22 : IVec S4x128 1 := cmpf .olt main_v20 main_v21
  (main_v3, main_v7, main_v10, main_v13, main_v16, main_v19, main_v22)

def fn {F : FTy → Type} [FloatOps F] (main_arg0 : FVec F S4096x1024 .bf16) (main_arg1 : FVec F S1024x1024 .bf16) (main_arg2 : FVec F S4096x1536 .f32) (main_arg3 : FVec F S1x512 .f32) (main_arg4 : FVec F S1x512 .f32) (main_arg5 : FVec F S4x128x128 .f32) (main_arg6 : FVec F S4x128 .f32) : IVec S4096x1024 1 × IVec S1024x1024 1 × IVec S4096x1536 1 × IVec S1x512 1 × IVec S1x512 1 × IVec S4x128x128 1 × IVec S4x128 1 :=
  let main_v0 : FVec F S4096x1024 .f32 := (extf .f32 · bitsLt_bf16_f32) main_arg0
  let main_v1 : FVec F S4096x1024 .f32 := Host.absf main_v0
  let main_cst : FVec F S_ .f32 := constant S_ .f32 0x7F800000#32
  let main_v2 : FVec F S4096x1024 .f32 := broadcastInDim S4096x1024 ![] bcast_S_S4096x1024 main_cst
  let main_v3 : IVec S4096x1024 1 := cmpf .olt main_v1 main_v2
  let main_v4 : FVec F S1024x1024 .f32 := (extf .f32 · bitsLt_bf16_f32) main_arg1
  let main_v5 : FVec F S1024x1024 .f32 := Host.absf main_v4
  let main_cst_0 : FVec F S_ .f32 := constant S_ .f32 0x7F800000#32
  let main_v6 : FVec F S1024x1024 .f32 := broadcastInDim S1024x1024 ![] bcast_S_S1024x1024 main_cst_0
  let main_v7 : IVec S1024x1024 1 := cmpf .olt main_v5 main_v6
  let main_v8 : FVec F S4096x1536 .f32 := Host.absf main_arg2
  let main_cst_1 : FVec F S_ .f32 := constant S_ .f32 0x7F800000#32
  let main_v9 : FVec F S4096x1536 .f32 := broadcastInDim S4096x1536 ![] bcast_S_S4096x1536 main_cst_1
  let main_v10 : IVec S4096x1536 1 := cmpf .olt main_v8 main_v9
  let main_v11 : FVec F S1x512 .f32 := Host.absf main_arg3
  let main_cst_2 : FVec F S_ .f32 := constant S_ .f32 0x7F800000#32
  let main_v12 : FVec F S1x512 .f32 := broadcastInDim S1x512 ![] bcast_S_S1x512 main_cst_2
  let main_v13 : IVec S1x512 1 := cmpf .olt main_v11 main_v12
  let main_v14 : FVec F S1x512 .f32 := Host.absf main_arg4
  let main_cst_3 : FVec F S_ .f32 := constant S_ .f32 0x7F800000#32
  let main_v15 : FVec F S1x512 .f32 := broadcastInDim S1x512 ![] bcast_S_S1x512 main_cst_3
  let main_v16 : IVec S1x512 1 := cmpf .olt main_v14 main_v15
  let main_v17 : FVec F S4x128x128 .f32 := Host.absf main_arg5
  let main_cst_4 : FVec F S_ .f32 := constant S_ .f32 0x7F800000#32
  fn_part1 (F := F) main_arg6 main_v3 main_v7 main_v10 main_v13 main_v16 main_v17 main_cst_4
-- ==== Pre_finite10.lean ====
abbrev S4096x512 : Shape := ⟨2, ![4096, 512]⟩
abbrev S4096x128 : Shape := ⟨2, ![4096, 128]⟩
abbrev S2056x1024 : Shape := ⟨2, ![2056, 1024]⟩
abbrev S4096x1024 : Shape := ⟨2, ![4096, 1024]⟩
abbrev S1x1024 : Shape := ⟨2, ![1, 1024]⟩
abbrev S_ : Shape := ⟨0, ![]⟩

class Facts : Prop where
  bcast_S_S4096x512 : S_.BroadcastsInDim S4096x512 (![] : Fin 0 → Fin S4096x512.rank)
  bcast_S_S4096x128 : S_.BroadcastsInDim S4096x128 (![] : Fin 0 → Fin S4096x128.rank)
  bitsLt_bf16_f32 : FTy.bits .bf16 < FTy.bits .f32
  bcast_S_S2056x1024 : S_.BroadcastsInDim S2056x1024 (![] : Fin 0 → Fin S2056x1024.rank)
  bcast_S_S4096x1024 : S_.BroadcastsInDim S4096x1024 (![] : Fin 0 → Fin S4096x1024.rank)
  bcast_S_S1x1024 : S_.BroadcastsInDim S1x1024 (![] : Fin 0 → Fin S1x1024.rank)

variable [Facts]

def fn_part1 {F : FTy → Type} [FloatOps F] (main_arg6 : FVec F S4096x1024 .f32) (main_arg7 : FVec F S4096x1024 .f32) (main_arg8 : FVec F S1x1024 .f32) (main_v2 : IVec S4096x512 1) (main_v5 : IVec S4096x512 1) (main_v8 : IVec S4096x512 1) (main_v11 : IVec S4096x512 1) (main_v14 : IVec S4096x128 1) (main_v16 : FVec F S2056x1024 .f32) (main_v17 : FVec F S2056x1024 .f32) : IVec S4096x512 1 × IVec S4096x512 1 × IVec S4096x512 1 × IVec S4096x512 1 × IVec S4096x128 1 × IVec S2056x1024 1 × IVec S4096x1024 1 × IVec S4096x1024 1 × IVec S1x1024 1 :=
  let main_v18 : IVec S2056x1024 1 := cmpf .olt main_v16 main_v17
  let main_v19 : FVec F S4096x1024 .f32 := Host.absf main_arg6
  let main_cst_5 : FVec F S_ .f32 := constant S_ .f32 0x7F800000#32
  let main_v20 : FVec F S4096x1024 .f32 := broadcastInDim S4096x1024 ![] bcast_S_S4096x1024 main_cst_5
  let main_v21 : IVec S4096x1024 1 := cmpf .olt main_v19 main_v20
  let main_v22 : FVec F S4096x1024 .f32 := Host.absf main_arg7
  let main_cst_6 : FVec F S_ .f32 := constant S_ .f32 0x7F800000#32
  let main_v23 : FVec F S4096x1024 .f32 := broadcastInDim S4096x1024 ![] bcast_S_S4096x1024 main_cst_6
  let main_v24 : IVec S4096x1024 1 := cmpf .olt main_v22 main_v23
  let main_v25 : FVec F S1x1024 .f32 := Host.absf main_arg8
  let main_cst_7 : FVec F S_ .f32 := constant S_ .f32 0x7F800000#32
  let main_v26 : FVec F S1x1024 .f32 := broadcastInDim S1x1024 ![] bcast_S_S1x1024 main_cst_7
  let main_v27 : IVec S1x1024 1 := cmpf .olt main_v25 main_v26
  (main_v2, main_v5, main_v8, main_v11, main_v14, main_v18, main_v21, main_v24, main_v27)

def fn {F : FTy → Type} [FloatOps F] (main_arg0 : FVec F S4096x512 .f32) (main_arg1 : FVec F S4096x512 .f32) (main_arg2 : FVec F S4096x512 .f32) (main_arg3 : FVec F S4096x512 .f32) (main_arg4 : FVec F S4096x128 .f32) (main_arg5 : FVec F S2056x1024 .bf16) (main_arg6 : FVec F S4096x1024 .f32) (main_arg7 : FVec F S4096x1024 .f32) (main_arg8 : FVec F S1x1024 .f32) : IVec S4096x512 1 × IVec S4096x512 1 × IVec S4096x512 1 × IVec S4096x512 1 × IVec S4096x128 1 × IVec S2056x1024 1 × IVec S4096x1024 1 × IVec S4096x1024 1 × IVec S1x1024 1 :=
  let main_v0 : FVec F S4096x512 .f32 := Host.absf main_arg0
  let main_cst : FVec F S_ .f32 := constant S_ .f32 0x7F800000#32
  let main_v1 : FVec F S4096x512 .f32 := broadcastInDim S4096x512 ![] bcast_S_S4096x512 main_cst
  let main_v2 : IVec S4096x512 1 := cmpf .olt main_v0 main_v1
  let main_v3 : FVec F S4096x512 .f32 := Host.absf main_arg1
  let main_cst_0 : FVec F S_ .f32 := constant S_ .f32 0x7F800000#32
  let main_v4 : FVec F S4096x512 .f32 := broadcastInDim S4096x512 ![] bcast_S_S4096x512 main_cst_0
  let main_v5 : IVec S4096x512 1 := cmpf .olt main_v3 main_v4
  let main_v6 : FVec F S4096x512 .f32 := Host.absf main_arg2
  let main_cst_1 : FVec F S_ .f32 := constant S_ .f32 0x7F800000#32
  let main_v7 : FVec F S4096x512 .f32 := broadcastInDim S4096x512 ![] bcast_S_S4096x512 main_cst_1
  let main_v8 : IVec S4096x512 1 := cmpf .olt main_v6 main_v7
  let main_v9 : FVec F S4096x512 .f32 := Host.absf main_arg3
  let main_cst_2 : FVec F S_ .f32 := constant S_ .f32 0x7F800000#32
  let main_v10 : FVec F S4096x512 .f32 := broadcastInDim S4096x512 ![] bcast_S_S4096x512 main_cst_2
  let main_v11 : IVec S4096x512 1 := cmpf .olt main_v9 main_v10
  let main_v12 : FVec F S4096x128 .f32 := Host.absf main_arg4
  let main_cst_3 : FVec F S_ .f32 := constant S_ .f32 0x7F800000#32
  let main_v13 : FVec F S4096x128 .f32 := broadcastInDim S4096x128 ![] bcast_S_S4096x128 main_cst_3
  let main_v14 : IVec S4096x128 1 := cmpf .olt main_v12 main_v13
  let main_v15 : FVec F S2056x1024 .f32 := (extf .f32 · bitsLt_bf16_f32) main_arg5
  let main_v16 : FVec F S2056x1024 .f32 := Host.absf main_v15
  let main_cst_4 : FVec F S_ .f32 := constant S_ .f32 0x7F800000#32
  let main_v17 : FVec F S2056x1024 .f32 := broadcastInDim S2056x1024 ![] bcast_S_S2056x1024 main_cst_4
  fn_part1 (F := F) main_arg6 main_arg7 main_arg8 main_v2 main_v5 main_v8 main_v11 main_v14 main_v16 main_v17
-- ==== Pre_finite15.lean ====
abbrev S4096x4096 : Shape := ⟨2, ![4096, 4096]⟩
abbrev S4096x1024 : Shape := ⟨2, ![4096, 1024]⟩
abbrev S1x1024 : Shape := ⟨2, ![1, 1024]⟩
abbrev S_ : Shape := ⟨0, ![]⟩

class Facts : Prop where
  bitsLt_bf16_f32 : FTy.bits .bf16 < FTy.bits .f32
  bcast_S_S4096x4096 : S_.BroadcastsInDim S4096x4096 (![] : Fin 0 → Fin S4096x4096.rank)
  bcast_S_S4096x1024 : S_.BroadcastsInDim S4096x1024 (![] : Fin 0 → Fin S4096x1024.rank)
  bcast_S_S1x1024 : S_.BroadcastsInDim S1x1024 (![] : Fin 0 → Fin S1x1024.rank)

variable [Facts]

def fn {F : FTy → Type} [FloatOps F] (main_arg0 : FVec F S4096x4096 .bf16) (main_arg1 : FVec F S4096x1024 .bf16) (main_arg2 : FVec F S4096x1024 .f32) (main_arg3 : FVec F S4096x1024 .f32) (main_arg4 : FVec F S1x1024 .f32) : IVec S4096x4096 1 × IVec S4096x1024 1 × IVec S4096x1024 1 × IVec S4096x1024 1 × IVec S1x1024 1 :=
  let main_v0 : FVec F S4096x4096 .f32 := (extf .f32 · bitsLt_bf16_f32) main_arg0
  let main_v1 : FVec F S4096x4096 .f32 := Host.absf main_v0
  let main_cst : FVec F S_ .f32 := constant S_ .f32 0x7F800000#32
  let main_v2 : FVec F S4096x4096 .f32 := broadcastInDim S4096x4096 ![] bcast_S_S4096x4096 main_cst
  let main_v3 : IVec S4096x4096 1 := cmpf .olt main_v1 main_v2
  let main_v4 : FVec F S4096x1024 .f32 := (extf .f32 · bitsLt_bf16_f32) main_arg1
  let main_v5 : FVec F S4096x1024 .f32 := Host.absf main_v4
  let main_cst_0 : FVec F S_ .f32 := constant S_ .f32 0x7F800000#32
  let main_v6 : FVec F S4096x1024 .f32 := broadcastInDim S4096x1024 ![] bcast_S_S4096x1024 main_cst_0
  let main_v7 : IVec S4096x1024 1 := cmpf .olt main_v5 main_v6
  let main_v8 : FVec F S4096x1024 .f32 := Host.absf main_arg2
  let main_cst_1 : FVec F S_ .f32 := constant S_ .f32 0x7F800000#32
  let main_v9 : FVec F S4096x1024 .f32 := broadcastInDim S4096x1024 ![] bcast_S_S4096x1024 main_cst_1
  let main_v10 : IVec S4096x1024 1 := cmpf .olt main_v8 main_v9
  let main_v11 : FVec F S4096x1024 .f32 := Host.absf main_arg3
  let main_cst_2 : FVec F S_ .f32 := constant S_ .f32 0x7F800000#32
  let main_v12 : FVec F S4096x1024 .f32 := broadcastInDim S4096x1024 ![] bcast_S_S4096x1024 main_cst_2
  let main_v13 : IVec S4096x1024 1 := cmpf .olt main_v11 main_v12
  let main_v14 : FVec F S1x1024 .f32 := Host.absf main_arg4
  let main_cst_3 : FVec F S_ .f32 := constant S_ .f32 0x7F800000#32
  let main_v15 : FVec F S1x1024 .f32 := broadcastInDim S1x1024 ![] bcast_S_S1x1024 main_cst_3
  let main_v16 : IVec S1x1024 1 := cmpf .olt main_v14 main_v15
  (main_v3, main_v7, main_v10, main_v13, main_v16)
-- ==== Pre_finite2.lean ====
abbrev S4096x1024 : Shape := ⟨2, ![4096, 1024]⟩
abbrev S1024x1024 : Shape := ⟨2, ![1024, 1024]⟩
abbrev S4096x512 : Shape := ⟨2, ![4096, 512]⟩
abbrev S4x128x128 : Shape := ⟨3, ![4, 128, 128]⟩
abbrev S1x512 : Shape := ⟨2, ![1, 512]⟩
abbrev S_ : Shape := ⟨0, ![]⟩

class Facts : Prop where
  bitsLt_bf16_f32 : FTy.bits .bf16 < FTy.bits .f32
  bcast_S_S4096x1024 : S_.BroadcastsInDim S4096x1024 (![] : Fin 0 → Fin S4096x1024.rank)
  bcast_S_S1024x1024 : S_.BroadcastsInDim S1024x1024 (![] : Fin 0 → Fin S1024x1024.rank)
  bcast_S_S4096x512 : S_.BroadcastsInDim S4096x512 (![] : Fin 0 → Fin S4096x512.rank)
  bcast_S_S4x128x128 : S_.BroadcastsInDim S4x128x128 (![] : Fin 0 → Fin S4x128x128.rank)
  bcast_S_S1x512 : S_.BroadcastsInDim S1x512 (![] : Fin 0 → Fin S1x512.rank)

variable [Facts]

def fn {F : FTy → Type} [FloatOps F] (main_arg0 : FVec F S4096x1024 .bf16) (main_arg1 : FVec F S1024x1024 .bf16) (main_arg2 : FVec F S4096x512 .f32) (main_arg3 : FVec F S4x128x128 .f32) (main_arg4 : FVec F S1x512 .f32) : IVec S4096x1024 1 × IVec S1024x1024 1 × IVec S4096x512 1 × IVec S4x128x128 1 × IVec S1x512 1 :=
  let main_v0 : FVec F S4096x1024 .f32 := (extf .f32 · bitsLt_bf16_f32) main_arg0
  let main_v1 : FVec F S4096x1024 .f32 := Host.absf main_v0
  let main_cst : FVec F S_ .f32 := constant S_ .f32 0x7F800000#32
  let main_v2 : FVec F S4096x1024 .f32 := broadcastInDim S4096x1024 ![] bcast_S_S4096x1024 main_cst
  let main_v3 : IVec S4096x1024 1 := cmpf .olt main_v1 main_v2
  let main_v4 : FVec F S1024x1024 .f32 := (extf .f32 · bitsLt_bf16_f32) main_arg1
  let main_v5 : FVec F S1024x1024 .f32 := Host.absf main_v4
  let main_cst_0 : FVec F S_ .f32 := constant S_ .f32 0x7F800000#32
  let main_v6 : FVec F S1024x1024 .f32 := broadcastInDim S1024x1024 ![] bcast_S_S1024x1024 main_cst_0
  let main_v7 : IVec S1024x1024 1 := cmpf .olt main_v5 main_v6
  let main_v8 : FVec F S4096x512 .f32 := Host.absf main_arg2
  let main_cst_1 : FVec F S_ .f32 := constant S_ .f32 0x7F800000#32
  let main_v9 : FVec F S4096x512 .f32 := broadcastInDim S4096x512 ![] bcast_S_S4096x512 main_cst_1
  let main_v10 : IVec S4096x512 1 := cmpf .olt main_v8 main_v9
  let main_v11 : FVec F S4x128x128 .f32 := Host.absf main_arg3
  let main_cst_2 : FVec F S_ .f32 := constant S_ .f32 0x7F800000#32
  let main_v12 : FVec F S4x128x128 .f32 := broadcastInDim S4x128x128 ![] bcast_S_S4x128x128 main_cst_2
  let main_v13 : IVec S4x128x128 1 := cmpf .olt main_v11 main_v12
  let main_v14 : FVec F S1x512 .f32 := Host.absf main_arg4
  let main_cst_3 : FVec F S_ .f32 := constant S_ .f32 0x7F800000#32
  let main_v15 : FVec F S1x512 .f32 := broadcastInDim S1x512 ![] bcast_S_S1x512 main_cst_3
  let main_v16 : IVec S1x512 1 := cmpf .olt main_v14 main_v15
  (main_v3, main_v7, main_v10, main_v13, main_v16)
-- ==== Pre_finite20.lean ====
abbrev S4096x1536 : Shape := ⟨2, ![4096, 1536]⟩
abbrev S4x128x128 : Shape := ⟨3, ![4, 128, 128]⟩
abbrev S1x512 : Shape := ⟨2, ![1, 512]⟩
abbrev S4096x512 : Shape := ⟨2, ![4096, 512]⟩
abbrev S_ : Shape := ⟨0, ![]⟩

class Facts : Prop where
  slices_S4096x1536_S4096x512_0_0 : S4096x1536.Slices ![0, 0] S4096x512
  bcast_S_S4096x512 : S_.BroadcastsInDim S4096x512 (![] : Fin 0 → Fin S4096x512.rank)

variable [Facts]

def fn {F : FTy → Type} [FloatOps F] (main_arg0 : FVec F S4096x1536 .f32) (main_arg1 : FVec F S4x128x128 .f32) (main_arg2 : FVec F S1x512 .f32) : IVec S4096x512 1 :=
  let main_v0 : FVec F S4096x512 .f32 := (extractStridedSlice S4096x512 ![0, 0] · slices_S4096x1536_S4096x512_0_0) main_arg0
  let main_v1 : FVec F S4096x512 .f32 := Host.absf main_v0
  let main_cst : FVec F S_ .f32 := constant S_ .f32 0x7F800000#32
  let main_v2 : FVec F S4096x512 .f32 := broadcastInDim S4096x512 ![] bcast_S_S4096x512 main_cst
  let main_v3 : IVec S4096x512 1 := cmpf .olt main_v1 main_v2
  main_v3
-- ==== Pre_finite6.lean ====
abbrev S4096x4096 : Shape := ⟨2, ![4096, 4096]⟩
abbrev S8x1024x512 : Shape := ⟨3, ![8, 1024, 512]⟩
abbrev S4096x1024 : Shape := ⟨2, ![4096, 1024]⟩
abbrev S1x1024 : Shape := ⟨2, ![1, 1024]⟩
abbrev S_ : Shape := ⟨0, ![]⟩

class Facts : Prop where
  bitsLt_bf16_f32 : FTy.bits .bf16 < FTy.bits .f32
  bcast_S_S4096x4096 : S_.BroadcastsInDim S4096x4096 (![] : Fin 0 → Fin S4096x4096.rank)
  bcast_S_S8x1024x512 : S_.BroadcastsInDim S8x1024x512 (![] : Fin 0 → Fin S8x1024x512.rank)
  bcast_S_S4096x1024 : S_.BroadcastsInDim S4096x1024 (![] : Fin 0 → Fin S4096x1024.rank)
  bcast_S_S1x1024 : S_.BroadcastsInDim S1x1024 (![] : Fin 0 → Fin S1x1024.rank)

variable [Facts]

def fn_part1 {F : FTy → Type} [FloatOps F] (main_arg6 : FVec F S1x1024 .f32) (main_v3 : IVec S4096x4096 1) (main_v7 : IVec S8x1024x512 1) (main_v10 : IVec S4096x1024 1) (main_v13 : IVec S4096x1024 1) (main_v16 : IVec S4096x1024 1) (main_v17 : FVec F S1x1024 .f32) (main_cst_4 : FVec F S_ .f32) : IVec S4096x4096 1 × IVec S8x1024x512 1 × IVec S4096x1024 1 × IVec S4096x1024 1 × IVec S4096x1024 1 × IVec S1x1024 1 × IVec S1x1024 1 :=
  let main_v18 : FVec F S1x1024 .f32 := broadcastInDim S1x1024 ![] bcast_S_S1x1024 main_cst_4
  let main_v19 : IVec S1x1024 1 := cmpf .olt main_v17 main_v18
  let main_v20 : FVec F S1x1024 .f32 := Host.absf main_arg6
  let main_cst_5 : FVec F S_ .f32 := constant S_ .f32 0x7F800000#32
  let main_v21 : FVec F S1x1024 .f32 := broadcastInDim S1x1024 ![] bcast_S_S1x1024 main_cst_5
  let main_v22 : IVec S1x1024 1 := cmpf .olt main_v20 main_v21
  (main_v3, main_v7, main_v10, main_v13, main_v16, main_v19, main_v22)

def fn {F : FTy → Type} [FloatOps F] (main_arg0 : FVec F S4096x4096 .bf16) (main_arg1 : FVec F S8x1024x512 .bf16) (main_arg2 : FVec F S4096x1024 .f32) (main_arg3 : FVec F S4096x1024 .f32) (main_arg4 : FVec F S4096x1024 .f32) (main_arg5 : FVec F S1x1024 .f32) (main_arg6 : FVec F S1x1024 .f32) : IVec S4096x4096 1 × IVec S8x1024x512 1 × IVec S4096x1024 1 × IVec S4096x1024 1 × IVec S4096x1024 1 × IVec S1x1024 1 × IVec S1x1024 1 :=
  let main_v0 : FVec F S4096x4096 .f32 := (extf .f32 · bitsLt_bf16_f32) main_arg0
  let main_v1 : FVec F S4096x4096 .f32 := Host.absf main_v0
  let main_cst : FVec F S_ .f32 := constant S_ .f32 0x7F800000#32
  let main_v2 : FVec F S4096x4096 .f32 := broadcastInDim S4096x4096 ![] bcast_S_S4096x4096 main_cst
  let main_v3 : IVec S4096x4096 1 := cmpf .olt main_v1 main_v2
  let main_v4 : FVec F S8x1024x512 .f32 := (extf .f32 · bitsLt_bf16_f32) main_arg1
  let main_v5 : FVec F S8x1024x512 .f32 := Host.absf main_v4
  let main_cst_0 : FVec F S_ .f32 := constant S_ .f32 0x7F800000#32
  let main_v6 : FVec F S8x1024x512 .f32 := broadcastInDim S8x1024x512 ![] bcast_S_S8x1024x512 main_cst_0
  let main_v7 : IVec S8x1024x512 1 := cmpf .olt main_v5 main_v6
  let main_v8 : FVec F S4096x1024 .f32 := Host.absf main_arg2
  let main_cst_1 : FVec F S_ .f32 := constant S_ .f32 0x7F800000#32
  let main_v9 : FVec F S4096x1024 .f32 := broadcastInDim S4096x1024 ![] bcast_S_S4096x1024 main_cst_1
  let main_v10 : IVec S4096x1024 1 := cmpf .olt main_v8 main_v9
  let main_v11 : FVec F S4096x1024 .f32 := Host.absf main_arg3
  let main_cst_2 : FVec F S_ .f32 := constant S_ .f32 0x7F800000#32
  let main_v12 : FVec F S4096x1024 .f32 := broadcastInDim S4096x1024 ![] bcast_S_S4096x1024 main_cst_2
  let main_v13 : IVec S4096x1024 1 := cmpf .olt main_v11 main_v12
  let main_v14 : FVec F S4096x1024 .f32 := Host.absf main_arg4
  let main_cst_3 : FVec F S_ .f32 := constant S_ .f32 0x7F800000#32
  let main_v15 : FVec F S4096x1024 .f32 := broadcastInDim S4096x1024 ![] bcast_S_S4096x1024 main_cst_3
  let main_v16 : IVec S4096x1024 1 := cmpf .olt main_v14 main_v15
  let main_v17 : FVec F S1x1024 .f32 := Host.absf main_arg5
  let main_cst_4 : FVec F S_ .f32 := constant S_ .f32 0x7F800000#32
  fn_part1 (F := F) main_arg6 main_v3 main_v7 main_v10 main_v13 main_v16 main_v17 main_cst_4
-- ==== Pre_finite7.lean ====
abbrev S4096x512 : Shape := ⟨2, ![4096, 512]⟩
abbrev S1536x1024 : Shape := ⟨2, ![1536, 1024]⟩
abbrev S4096x1024 : Shape := ⟨2, ![4096, 1024]⟩
abbrev S1x1024 : Shape := ⟨2, ![1, 1024]⟩
abbrev S_ : Shape := ⟨0, ![]⟩

class Facts : Prop where
  bcast_S_S4096x512 : S_.BroadcastsInDim S4096x512 (![] : Fin 0 → Fin S4096x512.rank)
  bitsLt_bf16_f32 : FTy.bits .bf16 < FTy.bits .f32
  bcast_S_S1536x1024 : S_.BroadcastsInDim S1536x1024 (![] : Fin 0 → Fin S1536x1024.rank)
  bcast_S_S4096x1024 : S_.BroadcastsInDim S4096x1024 (![] : Fin 0 → Fin S4096x1024.rank)
  bcast_S_S1x1024 : S_.BroadcastsInDim S1x1024 (![] : Fin 0 → Fin S1x1024.rank)

variable [Facts]

def fn_part1 {F : FTy → Type} [FloatOps F] (main_arg6 : FVec F S4096x1024 .f32) (main_arg7 : FVec F S1x1024 .f32) (main_arg8 : FVec F S1x1024 .f32) (main_v2 : IVec S4096x512 1) (main_v5 : IVec S4096x512 1) (main_v8 : IVec S4096x512 1) (main_v12 : IVec S1536x1024 1) (main_v15 : IVec S4096x1024 1) (main_v16 : FVec F S4096x1024 .f32) (main_v17 : FVec F S4096x1024 .f32) : IVec S4096x512 1 × IVec S4096x512 1 × IVec S4096x512 1 × IVec S1536x1024 1 × IVec S4096x1024 1 × IVec S4096x1024 1 × IVec S4096x1024 1 × IVec S1x1024 1 × IVec S1x1024 1 :=
  let main_v18 : IVec S4096x1024 1 := cmpf .olt main_v16 main_v17
  let main_v19 : FVec F S4096x1024 .f32 := Host.absf main_arg6
  let main_cst_5 : FVec F S_ .f32 := constant S_ .f32 0x7F800000#32
  let main_v20 : FVec F S4096x1024 .f32 := broadcastInDim S4096x1024 ![] bcast_S_S4096x1024 main_cst_5
  let main_v21 : IVec S4096x1024 1 := cmpf .olt main_v19 main_v20
  let main_v22 : FVec F S1x1024 .f32 := Host.absf main_arg7
  let main_cst_6 : FVec F S_ .f32 := constant S_ .f32 0x7F800000#32
  let main_v23 : FVec F S1x1024 .f32 := broadcastInDim S1x1024 ![] bcast_S_S1x1024 main_cst_6
  let main_v24 : IVec S1x1024 1 := cmpf .olt main_v22 main_v23
  let main_v25 : FVec F S1x1024 .f32 := Host.absf main_arg8
  let main_cst_7 : FVec F S_ .f32 := constant S_ .f32 0x7F800000#32
  let main_v26 : FVec F S1x1024 .f32 := broadcastInDim S1x1024 ![] bcast_S_S1x1024 main_cst_7
  let main_v27 : IVec S1x1024 1 := cmpf .olt main_v25 main_v26
  (main_v2, main_v5, main_v8, main_v12, main_v15, main_v18, main_v21, main_v24, main_v27)

def fn {F : FTy → Type} [FloatOps F] (main_arg0 : FVec F S4096x512 .f32) (main_arg1 : FVec F S4096x512 .f32) (main_arg2 : FVec F S4096x512 .f32) (main_arg3 : FVec F S1536x1024 .bf16) (main_arg4 : FVec F S4096x1024 .f32) (main_arg5 : FVec F S4096x1024 .f32) (main_arg6 : FVec F S4096x1024 .f32) (main_arg7 : FVec F S1x1024 .f32) (main_arg8 : FVec F S1x1024 .f32) : IVec S4096x512 1 × IVec S4096x512 1 × IVec S4096x512 1 × IVec S1536x1024 1 × IVec S4096x1024 1 × IVec S4096x1024 1 × IVec S4096x1024 1 × IVec S1x1024 1 × IVec S1x1024 1 :=
  let main_v0 : FVec F S4096x512 .f32 := Host.absf main_arg0
  let main_cst : FVec F S_ .f32 := constant S_ .f32 0x7F800000#32
  let main_v1 : FVec F S4096x512 .f32 := broadcastInDim S4096x512 ![] bcast_S_S4096x512 main_cst
  let main_v2 : IVec S4096x512 1 := cmpf .olt main_v0 main_v1
  let main_v3 : FVec F S4096x512 .f32 := Host.absf main_arg1
  let main_cst_0 : FVec F S_ .f32 := constant S_ .f32 0x7F800000#32
  let main_v4 : FVec F S4096x512 .f32 := broadcastInDim S4096x512 ![] bcast_S_S4096x512 main_cst_0
  let main_v5 : IVec S4096x512 1 := cmpf .olt main_v3 main_v4
  let main_v6 : FVec F S4096x512 .f32 := Host.absf main_arg2
  let main_cst_1 : FVec F S_ .f32 := constant S_ .f32 0x7F800000#32
  let main_v7 : FVec F S4096x512 .f32 := broadcastInDim S4096x512 ![] bcast_S_S4096x512 main_cst_1
  let main_v8 : IVec S4096x512 1 := cmpf .olt main_v6 main_v7
  let main_v9 : FVec F S1536x1024 .f32 := (extf .f32 · bitsLt_bf16_f32) main_arg3
  let main_v10 : FVec F S1536x1024 .f32 := Host.absf main_v9
  let main_cst_2 : FVec F S_ .f32 := constant S_ .f32 0x7F800000#32
  let main_v11 : FVec F S1536x1024 .f32 := broadcastInDim S1536x1024 ![] bcast_S_S1536x1024 main_cst_2
  let main_v12 : IVec S1536x1024 1 := cmpf .olt main_v10 main_v11
  let main_v13 : FVec F S4096x1024 .f32 := Host.absf main_arg4
  let main_cst_3 : FVec F S_ .f32 := constant S_ .f32 0x7F800000#32
  let main_v14 : FVec F S4096x1024 .f32 := broadcastInDim S4096x1024 ![] bcast_S_S4096x1024 main_cst_3
  let main_v15 : IVec S4096x1024 1 := cmpf .olt main_v13 main_v14
  let main_v16 : FVec F S4096x1024 .f32 := Host.absf main_arg5
  let main_cst_4 : FVec F S_ .f32 := constant S_ .f32 0x7F800000#32
  let main_v17 : FVec F S4096x1024 .f32 := broadcastInDim S4096x1024 ![] bcast_S_S4096x1024 main_cst_4
  fn_part1 (F := F) main_arg6 main_arg7 main_arg8 main_v2 main_v5 main_v8 main_v12 main_v15 main_v16 main_v17
-- ==== Kernel.lean ====
abbrev S4096x1024 : Shape := ⟨2, ![4096, 1024]⟩
abbrev S1024x1024 : Shape := ⟨2, ![1024, 1024]⟩
abbrev S4096x1536 : Shape := ⟨2, ![4096, 1536]⟩
abbrev S1x512 : Shape := ⟨2, ![1, 512]⟩
abbrev S4x128x128 : Shape := ⟨3, ![4, 128, 128]⟩
abbrev S4x128 : Shape := ⟨2, ![4, 128]⟩
abbrev S128x4 : Shape := ⟨2, ![128, 4]⟩
abbrev S4096x512 : Shape := ⟨2, ![4096, 512]⟩
abbrev S512x1024 : Shape := ⟨2, ![512, 1024]⟩
abbrev S512x512 : Shape := ⟨2, ![512, 512]⟩
abbrev S512 : Shape := ⟨1, ![512]⟩
abbrev S512x1 : Shape := ⟨2, ![512, 1]⟩
abbrev S128x128 : Shape := ⟨2, ![128, 128]⟩
abbrev S1x128x128 : Shape := ⟨3, ![1, 128, 128]⟩
abbrev S128x1 : Shape := ⟨2, ![128, 1]⟩
abbrev S128 : Shape := ⟨1, ![128]⟩
abbrev S512x128 : Shape := ⟨2, ![512, 128]⟩

abbrev nBuf : Space → Nat
  | .hbm => 14
  | .vmem => 19
  | .smem => 0
  | _ => 0

abbrev bufTy : (tb : Table) → Fin (tcTables nBuf tb) → BufTy
  | .hbm, ⟨0, _⟩ => ⟨S4096x1024, .bf16⟩
  | .hbm, ⟨1, _⟩ => ⟨S1024x1024, .bf16⟩
  | .hbm, ⟨2, _⟩ => ⟨S4096x1536, .f32⟩
  | .hbm, ⟨3, _⟩ => ⟨S1x512, .f32⟩
  | .hbm, ⟨4, _⟩ => ⟨S1x512, .f32⟩
  | .hbm, ⟨5, _⟩ => ⟨S4x128x128, .f32⟩
  | .hbm, ⟨6, _⟩ => ⟨S4x128, .f32⟩
  | .hbm, ⟨7, _⟩ => ⟨S128x4, .f32⟩
  | .hbm, ⟨8, _⟩ => ⟨S4096x512, .f32⟩
  | .hbm, ⟨9, _⟩ => ⟨S4096x512, .f32⟩
  | .hbm, ⟨10, _⟩ => ⟨S4x128x128, .f32⟩
  | .hbm, ⟨11, _⟩ => ⟨S128x4, .f32⟩
  | .hbm, ⟨12, _⟩ => ⟨S1x512, .f32⟩
  | .hbm, ⟨13, _⟩ => ⟨S1x512, .f32⟩
  | .local _ .vmem, ⟨0, _⟩ => ⟨S512x1024, .bf16⟩
  | .local _ .vmem, ⟨1, _⟩ => ⟨S512x1024, .bf16⟩
  | .local _ .vmem, ⟨2, _⟩ => ⟨S512x1024, .bf16⟩
  | .local _ .vmem, ⟨3, _⟩ => ⟨S512x512, .f32⟩
  | .local _ .vmem, ⟨4, _⟩ => ⟨S512x512, .f32⟩
  | .local _ .vmem, ⟨5, _⟩ => ⟨S512x512, .f32⟩
  | .local _ .vmem, ⟨6, _⟩ => ⟨S512x512, .f32⟩
  | .local _ .vmem, ⟨7, _⟩ => ⟨S1x512, .f32⟩
  | .local _ .vmem, ⟨8, _⟩ => ⟨S1x512, .f32⟩
  | .local _ .vmem, ⟨9, _⟩ => ⟨S4x128x128, .f32⟩
  | .local _ .vmem, ⟨10, _⟩ => ⟨S128x4, .f32⟩
  | .local _ .vmem, ⟨11, _⟩ => ⟨S512x512, .f32⟩
  | .local _ .vmem, ⟨12, _⟩ => ⟨S512x512, .f32⟩
  | .local _ .vmem, ⟨13, _⟩ => ⟨S512x512, .f32⟩
  | .local _ .vmem, ⟨14, _⟩ => ⟨S512x512, .f32⟩
  | .local _ .vmem, ⟨15, _⟩ => ⟨S4x128x128, .f32⟩
  | .local _ .vmem, ⟨16, _⟩ => ⟨S128x4, .f32⟩
  | .local _ .vmem, ⟨17, _⟩ => ⟨S1x512, .f32⟩
  | .local _ .vmem, ⟨18, _⟩ => ⟨S1x512, .f32⟩
  | _, _ => ⟨S4096x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | _, _ => false

abbrev semScoped : Fin 0 → Bool
  | ⟨_, h⟩ => absurd h (Nat.not_lt_zero _)

abbrev dmaSemScoped : Fin 19 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | _ => false

abbrev sig : RefSig :=
  ofTc nBuf bufTy 0 19 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1_0 : Ref sig .tc := ⟨.hbm, 8, rfl⟩
abbrev main_v1_1 : Ref sig .tc := ⟨.hbm, 9, rfl⟩
abbrev main_v1_2 : Ref sig .tc := ⟨.hbm, 10, rfl⟩
abbrev main_v1_3 : Ref sig .tc := ⟨.hbm, 11, rfl⟩
abbrev main_v1_4 : Ref sig .tc := ⟨.hbm, 12, rfl⟩
abbrev main_v1_5 : Ref sig .tc := ⟨.hbm, 13, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg7_0 : Ref sig .tc := ⟨.vmem, 10, rfl⟩
abbrev cc0_stg8_0 : Ref sig .tc := ⟨.vmem, 11, rfl⟩
abbrev cc0_stg8_1 : Ref sig .tc := ⟨.vmem, 12, rfl⟩
abbrev cc0_stg9_0 : Ref sig .tc := ⟨.vmem, 13, rfl⟩
abbrev cc0_stg9_1 : Ref sig .tc := ⟨.vmem, 14, rfl⟩
abbrev cc0_stg10_0 : Ref sig .tc := ⟨.vmem, 15, rfl⟩
abbrev cc0_stg11_0 : Ref sig .tc := ⟨.vmem, 16, rfl⟩
abbrev cc0_stg12_0 : Ref sig .tc := ⟨.vmem, 17, rfl⟩
abbrev cc0_stg13_0 : Ref sig .tc := ⟨.vmem, 18, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem5_0 : DmaSem sig := 8
abbrev cc0_sem6_0 : DmaSem sig := 9
abbrev cc0_sem7_0 : DmaSem sig := 10
abbrev cc0_sem8_0 : DmaSem sig := 11
abbrev cc0_sem8_1 : DmaSem sig := 12
abbrev cc0_sem9_0 : DmaSem sig := 13
abbrev cc0_sem9_1 : DmaSem sig := 14
abbrev cc0_sem10_0 : DmaSem sig := 15
abbrev cc0_sem11_0 : DmaSem sig := 16
abbrev cc0_sem12_0 : DmaSem sig := 17
abbrev cc0_sem13_0 : DmaSem sig := 18

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c1_i32 : BitVec 32 := 1#32
  let c0_i32 : BitVec 32 := 0#32
  let c0_i32_0 : BitVec 32 := 0#32
  ![c1_i32.toNat, c0_i32.toNat]

def cc0_transform_2 (i : grid0.Coords) : Fin 2 → Nat :=
  let arg0 : BitVec 32 := BitVec.ofNat 32 (i 0).val
  let c1_i32 : BitVec 32 := 1#32
  let c0_i32 : BitVec 32 := 0#32
  ![arg0.toNat, c1_i32.toNat]

def cc0_transform_3 (i : grid0.Coords) : Fin 2 → Nat :=
  let arg0 : BitVec 32 := BitVec.ofNat 32 (i 0).val
  let c2_i32 : BitVec 32 := 2#32
  let c0_i32 : BitVec 32 := 0#32
  ![arg0.toNat, c2_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_13 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S512x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S1x512 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x512 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S4x128x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S128x4 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 2 → Memref sig .tc .vmem S512x512 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S512x512 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 1 → Memref sig .tc .vmem S4x128x128 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S128x4 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 1 → Memref sig .tc .vmem S1x512 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]

abbrev stage0_13 : Fin 1 → Memref sig .tc .vmem S1x512 .f32 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false]
-- ==== KernelIdeal.lean ====
variable {F : FTy → Type} [FloatOps F] [Named F]
def κ : String → Option EReal := fun
  | "gelu_cubic" => some ((8943 / 200000 : ℝ) : EReal)
  | "gelu_cubic3" => some ((26829 / 200000 : ℝ) : EReal)
  | _ => none
-- ==== ReferenceIdeal.lean ====
abbrev S4096x1024 : Shape := ⟨2, ![4096, 1024]⟩
abbrev S1024x1024 : Shape := ⟨2, ![1024, 1024]⟩
abbrev S4096x1536 : Shape := ⟨2, ![4096, 1536]⟩
abbrev S1x512 : Shape := ⟨2, ![1, 512]⟩
abbrev S4x128x128 : Shape := ⟨3, ![4, 128, 128]⟩
abbrev S4x128 : Shape := ⟨2, ![4, 128]⟩
abbrev S512x1024 : Shape := ⟨2, ![512, 1024]⟩
abbrev S4096x512 : Shape := ⟨2, ![4096, 512]⟩
abbrev S1x4096x512 : Shape := ⟨3, ![1, 4096, 512]⟩
abbrev S_ : Shape := ⟨0, ![]⟩
abbrev S1x4096 : Shape := ⟨2, ![1, 4096]⟩
abbrev S1x4096x1 : Shape := ⟨3, ![1, 4096, 1]⟩
abbrev S1x1x512 : Shape := ⟨3, ![1, 1, 512]⟩
abbrev S1x32x128x4x128 : Shape := ⟨5, ![1, 32, 128, 4, 128]⟩
abbrev S128x128 : Shape := ⟨2, ![128, 128]⟩
abbrev S1x128x128 : Shape := ⟨3, ![1, 128, 128]⟩
abbrev S4x1x32x128x128 : Shape := ⟨5, ![4, 1, 32, 128, 128]⟩
abbrev S128x4 : Shape := ⟨2, ![128, 4]⟩
abbrev S1x1x128x4x1 : Shape := ⟨5, ![1, 1, 128, 4, 1]⟩
abbrev S1x128x4 : Shape := ⟨3, ![1, 128, 4]⟩
abbrev S512 : Shape := ⟨1, ![512]⟩
abbrev S4096 : Shape := ⟨1, ![4096]⟩

abbrev nBuf : Space → Nat
  | .hbm => 233
  | .vmem => 0
  | .smem => 0
  | _ => 0

abbrev hbmTy0_0 (i : Nat) : BufTy := match i % 128 with
  | 0 => ⟨S4096x1024, .bf16⟩
  | 1 => ⟨S1024x1024, .bf16⟩
  | 2 => ⟨S4096x1536, .f32⟩
  | 3 => ⟨S1x512, .f32⟩
  | 4 => ⟨S1x512, .f32⟩
  | 5 => ⟨S4x128x128, .f32⟩
  | 6 => ⟨S4x128, .f32⟩
  | 7 => ⟨S512x1024, .bf16⟩
  | 8 => ⟨S512x1024, .f32⟩
  | 9 => ⟨S4096x512, .f32⟩
  | 10 => ⟨S4096x512, .f32⟩
  | 11 => ⟨S1x4096x512, .f32⟩
  | 12 => ⟨S1x4096x512, .f32⟩
  | 13 => ⟨S_, .f32⟩
  | 14 => ⟨S_, .f32⟩
  | 15 => ⟨S_, .f32⟩
  | 16 => ⟨S1x4096x512, .f32⟩
  | 17 => ⟨S1x4096x512, .f32⟩
  | 18 => ⟨S1x4096x512, .f32⟩
  | 19 => ⟨S1x4096x512, .f32⟩
  | 20 => ⟨S1x4096x512, .f32⟩
  | 21 => ⟨S_, .f32⟩
  | 22 => ⟨S1x4096x512, .f32⟩
  | 23 => ⟨S1x4096x512, .f32⟩
  | 24 => ⟨S1x4096x512, .f32⟩
  | 25 => ⟨S_, .f32⟩
  | 26 => ⟨S1x4096x512, .f32⟩
  | 27 => ⟨S1x4096x512, .f32⟩
  | 28 => ⟨S_, .f32⟩
  | 29 => ⟨S1x4096x512, .f32⟩
  | 30 => ⟨S1x4096x512, .f32⟩
  | 31 => ⟨S1x4096x512, .f32⟩
  | 32 => ⟨S_, .f32⟩
  | 33 => ⟨S1x4096x512, .f32⟩
  | 34 => ⟨S1x4096x512, .f32⟩
  | 35 => ⟨S_, .f32⟩
  | 36 => ⟨S1x4096x512, .f32⟩
  | 37 => ⟨S1x4096x512, .f32⟩
  | 38 => ⟨S1x4096x512, .f32⟩
  | 39 => ⟨S_, .f32⟩
  | 40 => ⟨S_, .f32⟩
  | 41 => ⟨S_, .f32⟩
  | 42 => ⟨S1x4096x512, .f32⟩
  | 43 => ⟨S1x4096x512, .f32⟩
  | 44 => ⟨S1x4096x512, .f32⟩
  | 45 => ⟨S1x4096x512, .f32⟩
  | 46 => ⟨S1x4096x512, .f32⟩
  | 47 => ⟨S_, .f32⟩
  | 48 => ⟨S1x4096x512, .f32⟩
  | 49 => ⟨S1x4096x512, .f32⟩
  | 50 => ⟨S1x4096x512, .f32⟩
  | 51 => ⟨S_, .f32⟩
  | 52 => ⟨S1x4096x512, .f32⟩
  | 53 => ⟨S1x4096x512, .f32⟩
  | 54 => ⟨S_, .f32⟩
  | 55 => ⟨S1x4096x512, .f32⟩
  | 56 => ⟨S1x4096x512, .f32⟩
  | 57 => ⟨S1x4096x512, .f32⟩
  | 58 => ⟨S_, .f32⟩
  | 59 => ⟨S1x4096x512, .f32⟩
  | 60 => ⟨S1x4096x512, .f32⟩
  | 61 => ⟨S_, .f32⟩
  | 62 => ⟨S1x4096x512, .f32⟩
  | 63 => ⟨S1x4096x512, .f32⟩
  | 64 => ⟨S1x4096x512, .f32⟩
  | 65 => ⟨S_, .f32⟩
  | 66 => ⟨S1x4096, .f32⟩
  | 67 => ⟨S1x4096x1, .f32⟩
  | 68 => ⟨S_, .f32⟩
  | 69 => ⟨S1x4096x1, .f32⟩
  | 70 => ⟨S1x4096x1, .f32⟩
  | 71 => ⟨S1x4096x512, .f32⟩
  | 72 => ⟨S1x4096x512, .f32⟩
  | 73 => ⟨S1x4096x512, .f32⟩
  | 74 => ⟨S_, .f32⟩
  | 75 => ⟨S1x4096, .f32⟩
  | 76 => ⟨S1x4096x1, .f32⟩
  | 77 => ⟨S_, .f32⟩
  | 78 => ⟨S1x4096x1, .f32⟩
  | 79 => ⟨S1x4096x1, .f32⟩
  | 80 => ⟨S_, .f32⟩
  | 81 => ⟨S1x4096x1, .f32⟩
  | 82 => ⟨S1x4096x1, .f32⟩
  | 83 => ⟨S1x4096x1, .f32⟩
  | 84 => ⟨S1x4096x1, .f32⟩
  | 85 => ⟨S_, .f32⟩
  | 86 => ⟨S1x4096x1, .f32⟩
  | 87 => ⟨S1x4096x1, .f32⟩
  | 88 => ⟨S1x4096x512, .f32⟩
  | 89 => ⟨S1x4096x512, .f32⟩
  | 90 => ⟨S1x1x512, .f32⟩
  | 91 => ⟨S1x4096x512, .f32⟩
  | 92 => ⟨S1x4096x512, .f32⟩
  | 93 => ⟨S1x1x512, .f32⟩
  | 94 => ⟨S1x4096x512, .f32⟩
  | 95 => ⟨S1x4096x512, .f32⟩
  | 96 => ⟨S1x32x128x4x128, .f32⟩
  | 97 => ⟨S_, .i1⟩
  | 98 => ⟨S128x128, .i1⟩
  | 99 => ⟨S128x128, .i32⟩
  | 100 => ⟨S_, .i32⟩
  | 101 => ⟨S128x128, .i32⟩
  | 102 => ⟨S128x128, .i32⟩
  | 103 => ⟨S128x128, .i32⟩
  | 104 => ⟨S128x128, .i1⟩
  | 105 => ⟨S_, .i1⟩
  | 106 => ⟨S128x128, .i1⟩
  | 107 => ⟨S128x128, .i1⟩
  | 108 => ⟨S1x128x128, .i1⟩
  | 109 => ⟨S_, .f32⟩
  | 110 => ⟨S4x128x128, .f32⟩
  | 111 => ⟨S4x128x128, .i1⟩
  | 112 => ⟨S4x128x128, .f32⟩
  | 113 => ⟨S_, .f32⟩
  | 114 => ⟨S4x128x128, .f32⟩
  | 115 => ⟨S4x1x32x128x128, .f32⟩
  | 116 => ⟨S1x32x128x4x128, .f32⟩
  | 117 => ⟨S128x4, .f32⟩
  | 118 => ⟨S1x1x128x4x1, .f32⟩
  | 119 => ⟨S1x32x128x4x128, .f32⟩
  | 120 => ⟨S1x32x128x4x128, .f32⟩
  | 121 => ⟨S1x4096x512, .f32⟩
  | 122 => ⟨S1x4096x512, .f32⟩
  | 123 => ⟨S4096x512, .f32⟩
  | 124 => ⟨S4096x1024, .f32⟩
  | 125 => ⟨S4096x1024, .f32⟩
  | 126 => ⟨S4096x512, .f32⟩
  | 127 => ⟨S1x4096x512, .f32⟩
  | _ => ⟨S4096x1024, .bf16⟩

abbrev hbmTy0_1 (i : Nat) : BufTy := match i % 128 with
  | 0 => ⟨S1x4096x512, .f32⟩
  | 1 => ⟨S1x4096x512, .f32⟩
  | 2 => ⟨S1x32x128x4x128, .f32⟩
  | 3 => ⟨S_, .f32⟩
  | 4 => ⟨S1x128x4, .f32⟩
  | 5 => ⟨S1x1x128x4x1, .f32⟩
  | 6 => ⟨S_, .f32⟩
  | 7 => ⟨S128x4, .f32⟩
  | 8 => ⟨S4x128, .f32⟩
  | 9 => ⟨S4x1x32x128x128, .f32⟩
  | 10 => ⟨S4x128x128, .f32⟩
  | 11 => ⟨S4x1x32x128x128, .f32⟩
  | 12 => ⟨S1x32x128x4x128, .f32⟩
  | 13 => ⟨S_, .f32⟩
  | 14 => ⟨S4x128x128, .f32⟩
  | 15 => ⟨S4x128x128, .f32⟩
  | 16 => ⟨S1x4096x512, .f32⟩
  | 17 => ⟨S_, .f32⟩
  | 18 => ⟨S1x512, .f32⟩
  | 19 => ⟨S1x1x512, .f32⟩
  | 20 => ⟨S_, .f32⟩
  | 21 => ⟨S512, .f32⟩
  | 22 => ⟨S1x512, .f32⟩
  | 23 => ⟨S1x4096x512, .f32⟩
  | 24 => ⟨S_, .f32⟩
  | 25 => ⟨S1x512, .f32⟩
  | 26 => ⟨S1x1x512, .f32⟩
  | 27 => ⟨S1x4096x512, .f32⟩
  | 28 => ⟨S1x4096x512, .f32⟩
  | 29 => ⟨S_, .f32⟩
  | 30 => ⟨S512, .f32⟩
  | 31 => ⟨S1x512, .f32⟩
  | 32 => ⟨S1x4096x512, .f32⟩
  | 33 => ⟨S_, .f32⟩
  | 34 => ⟨S1x4096, .f32⟩
  | 35 => ⟨S1x4096x1, .f32⟩
  | 36 => ⟨S1x4096x512, .f32⟩
  | 37 => ⟨S1x4096x512, .f32⟩
  | 38 => ⟨S1x4096x1, .f32⟩
  | 39 => ⟨S_, .f32⟩
  | 40 => ⟨S1x4096x1, .f32⟩
  | 41 => ⟨S1x4096x1, .f32⟩
  | 42 => ⟨S_, .f32⟩
  | 43 => ⟨S4096, .f32⟩
  | 44 => ⟨S1x4096, .f32⟩
  | 45 => ⟨S1x4096x512, .f32⟩
  | 46 => ⟨S1x4096x512, .f32⟩
  | 47 => ⟨S1x4096x512, .f32⟩
  | 48 => ⟨S1x4096x512, .f32⟩
  | 49 => ⟨S1x4096x512, .f32⟩
  | 50 => ⟨S1x4096x512, .f32⟩
  | 51 => ⟨S_, .f32⟩
  | 52 => ⟨S1x4096, .f32⟩
  | 53 => ⟨S1x4096x1, .f32⟩
  | 54 => ⟨S_, .f32⟩
  | 55 => ⟨S1x4096x1, .f32⟩
  | 56 => ⟨S1x4096x1, .f32⟩
  | 57 => ⟨S_, .f32⟩
  | 58 => ⟨S4096, .f32⟩
  | 59 => ⟨S1x4096, .f32⟩
  | 60 => ⟨S1x4096x512, .f32⟩
  | 61 => ⟨S1x4096x512, .f32⟩
  | 62 => ⟨S1x4096x512, .f32⟩
  | 63 => ⟨S1x4096x512, .f32⟩
  | 64 => ⟨S_, .f32⟩
  | 65 => ⟨S1x4096x512, .f32⟩
  | 66 => ⟨S1x4096x512, .f32⟩
  | 67 => ⟨S1x4096x512, .f32⟩
  | 68 => ⟨S_, .f32⟩
  | 69 => ⟨S1x4096x512, .f32⟩
  | 70 => ⟨S1x4096x512, .f32⟩
  | 71 => ⟨S1x4096x512, .f32⟩
  | 72 => ⟨S1x4096x512, .f32⟩
  | 73 => ⟨S1x4096x512, .f32⟩
  | 74 => ⟨S1x4096x512, .f32⟩
  | 75 => ⟨S1x4096x512, .f32⟩
  | 76 => ⟨S1x4096x512, .f32⟩
  | 77 => ⟨S1x4096x512, .f32⟩
  | 78 => ⟨S1x4096x512, .f32⟩
  | 79 => ⟨S1x4096x512, .f32⟩
  | 80 => ⟨S1x4096x512, .f32⟩
  | 81 => ⟨S1x4096x512, .f32⟩
  | 82 => ⟨S1x4096x512, .f32⟩
  | 83 => ⟨S_, .f32⟩
  | 84 => ⟨S1x4096x512, .f32⟩
  | 85 => ⟨S1x4096x512, .f32⟩
  | 86 => ⟨S1x4096x512, .f32⟩
  | 87 => ⟨S_, .f32⟩
  | 88 => ⟨S1x4096x512, .f32⟩
  | 89 => ⟨S1x4096x512, .f32⟩
  | 90 => ⟨S1x4096x512, .f32⟩
  | 91 => ⟨S1x4096x512, .f32⟩
  | 92 => ⟨S1x4096x512, .f32⟩
  | 93 => ⟨S1x4096x512, .f32⟩
  | 94 => ⟨S1x4096x512, .f32⟩
  | 95 => ⟨S1x4096x512, .f32⟩
  | 96 => ⟨S1x4096x512, .f32⟩
  | 97 => ⟨S1x4096x512, .f32⟩
  | 98 => ⟨S1x4096x512, .f32⟩
  | 99 => ⟨S1x4096x512, .f32⟩
  | 100 => ⟨S_, .f32⟩
  | 101 => ⟨S4096x512, .f32⟩
  | 102 => ⟨S_, .f32⟩
  | 103 => ⟨S4096x512, .f32⟩
  | 104 => ⟨S128x4, .f32⟩
  | _ => ⟨S4096x1024, .bf16⟩

abbrev hbmTy (i : Nat) : BufTy := match i / 128 with
  | 0 => hbmTy0_0 i
  | 1 => hbmTy0_1 i
  | _ => ⟨S4096x1024, .bf16⟩

abbrev bufTy : (tb : Table) → Fin (tcTables nBuf tb) → BufTy
  | .hbm, ⟨i, _⟩ => hbmTy i
  | _, _ => ⟨S4096x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_cst : Ref sig .tc := ⟨.hbm, 13, rfl⟩
abbrev main_cst_0 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_cst_1 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_cst_2 : Ref sig .tc := ⟨.hbm, 25, rfl⟩
abbrev main_v15 : Ref sig .tc := ⟨.hbm, 26, rfl⟩
abbrev main_v16 : Ref sig .tc := ⟨.hbm, 27, rfl⟩
abbrev main_cst_3 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_cst_4 : Ref sig .tc := ⟨.hbm, 32, rfl⟩
abbrev main_v20 : Ref sig .tc := ⟨.hbm, 33, rfl⟩
abbrev main_v21 : Ref sig .tc := ⟨.hbm, 34, rfl⟩
abbrev main_cst_5 : Ref sig .tc := ⟨.hbm, 35, rfl⟩
abbrev main_v22 : Ref sig .tc := ⟨.hbm, 36, rfl⟩
abbrev main_v23 : Ref sig .tc := ⟨.hbm, 37, rfl⟩
abbrev main_v24 : Ref sig .tc := ⟨.hbm, 38, rfl⟩
abbrev main_cst_6 : Ref sig .tc := ⟨.hbm, 39, rfl⟩
abbrev main_cst_7 : Ref sig .tc := ⟨.hbm, 40, rfl⟩
abbrev main_v25 : Ref sig .tc := ⟨.hbm, 41, rfl⟩
abbrev main_v26 : Ref sig .tc := ⟨.hbm, 42, rfl⟩
abbrev main_v27 : Ref sig .tc := ⟨.hbm, 43, rfl⟩
abbrev main_v28 : Ref sig .tc := ⟨.hbm, 44, rfl⟩
abbrev main_v29 : Ref sig .tc := ⟨.hbm, 45, rfl⟩
abbrev main_v30 : Ref sig .tc := ⟨.hbm, 46, rfl⟩
abbrev main_cst_8 : Ref sig .tc := ⟨.hbm, 47, rfl⟩
abbrev main_v31 : Ref sig .tc := ⟨.hbm, 48, rfl⟩
abbrev main_v32 : Ref sig .tc := ⟨.hbm, 49, rfl⟩
abbrev main_v33 : Ref sig .tc := ⟨.hbm, 50, rfl⟩
abbrev main_cst_9 : Ref sig .tc := ⟨.hbm, 51, rfl⟩
abbrev main_v34 : Ref sig .tc := ⟨.hbm, 52, rfl⟩
abbrev main_v35 : Ref sig .tc := ⟨.hbm, 53, rfl⟩
abbrev main_cst_10 : Ref sig .tc := ⟨.hbm, 54, rfl⟩
abbrev main_v36 : Ref sig .tc := ⟨.hbm, 55, rfl⟩
abbrev main_v37 : Ref sig .tc := ⟨.hbm, 56, rfl⟩
abbrev main_v38 : Ref sig .tc := ⟨.hbm, 57, rfl⟩
abbrev main_cst_11 : Ref sig .tc := ⟨.hbm, 58, rfl⟩
abbrev main_v39 : Ref sig .tc := ⟨.hbm, 59, rfl⟩
abbrev main_v40 : Ref sig .tc := ⟨.hbm, 60, rfl⟩
abbrev main_cst_12 : Ref sig .tc := ⟨.hbm, 61, rfl⟩
abbrev main_v41 : Ref sig .tc := ⟨.hbm, 62, rfl⟩
abbrev main_v42 : Ref sig .tc := ⟨.hbm, 63, rfl⟩
abbrev main_v43 : Ref sig .tc := ⟨.hbm, 64, rfl⟩
abbrev main_cst_13 : Ref sig .tc := ⟨.hbm, 65, rfl⟩
abbrev main_v44 : Ref sig .tc := ⟨.hbm, 66, rfl⟩
abbrev main_v45 : Ref sig .tc := ⟨.hbm, 67, rfl⟩
abbrev main_cst_14 : Ref sig .tc := ⟨.hbm, 68, rfl⟩
abbrev main_v46 : Ref sig .tc := ⟨.hbm, 69, rfl⟩
abbrev main_v47 : Ref sig .tc := ⟨.hbm, 70, rfl⟩
abbrev main_v48 : Ref sig .tc := ⟨.hbm, 71, rfl⟩
abbrev main_v49 : Ref sig .tc := ⟨.hbm, 72, rfl⟩
abbrev main_v50 : Ref sig .tc := ⟨.hbm, 73, rfl⟩
abbrev main_cst_15 : Ref sig .tc := ⟨.hbm, 74, rfl⟩
abbrev main_v51 : Ref sig .tc := ⟨.hbm, 75, rfl⟩
abbrev main_v52 : Ref sig .tc := ⟨.hbm, 76, rfl⟩
abbrev main_cst_16 : Ref sig .tc := ⟨.hbm, 77, rfl⟩
abbrev main_v53 : Ref sig .tc := ⟨.hbm, 78, rfl⟩
abbrev main_v54 : Ref sig .tc := ⟨.hbm, 79, rfl⟩
abbrev main_cst_17 : Ref sig .tc := ⟨.hbm, 80, rfl⟩
abbrev main_v55 : Ref sig .tc := ⟨.hbm, 81, rfl⟩
abbrev main_v56 : Ref sig .tc := ⟨.hbm, 82, rfl⟩
abbrev main_v57 : Ref sig .tc := ⟨.hbm, 83, rfl⟩
abbrev main_v58 : Ref sig .tc := ⟨.hbm, 84, rfl⟩
abbrev main_cst_18 : Ref sig .tc := ⟨.hbm, 85, rfl⟩
abbrev main_v59 : Ref sig .tc := ⟨.hbm, 86, rfl⟩
abbrev main_v60 : Ref sig .tc := ⟨.hbm, 87, rfl⟩
abbrev main_v61 : Ref sig .tc := ⟨.hbm, 88, rfl⟩
abbrev main_v62 : Ref sig .tc := ⟨.hbm, 89, rfl⟩
abbrev main_v63 : Ref sig .tc := ⟨.hbm, 90, rfl⟩
abbrev main_v64 : Ref sig .tc := ⟨.hbm, 91, rfl⟩
abbrev main_v65 : Ref sig .tc := ⟨.hbm, 92, rfl⟩
abbrev main_v66 : Ref sig .tc := ⟨.hbm, 93, rfl⟩
abbrev main_v67 : Ref sig .tc := ⟨.hbm, 94, rfl⟩
abbrev main_v68 : Ref sig .tc := ⟨.hbm, 95, rfl⟩
abbrev main_v69 : Ref sig .tc := ⟨.hbm, 96, rfl⟩
abbrev main_c : Ref sig .tc := ⟨.hbm, 97, rfl⟩
abbrev main_v70 : Ref sig .tc := ⟨.hbm, 98, rfl⟩
abbrev main_call0_v0 : Ref sig .tc := ⟨.hbm, 99, rfl⟩
abbrev main_call0_c : Ref sig .tc := ⟨.hbm, 100, rfl⟩
abbrev main_call0_v1 : Ref sig .tc := ⟨.hbm, 101, rfl⟩
abbrev main_call0_v2 : Ref sig .tc := ⟨.hbm, 102, rfl⟩
abbrev main_call0_v3 : Ref sig .tc := ⟨.hbm, 103, rfl⟩
abbrev main_call0_v4 : Ref sig .tc := ⟨.hbm, 104, rfl⟩
abbrev main_call0_c_0 : Ref sig .tc := ⟨.hbm, 105, rfl⟩
abbrev main_call0_v5 : Ref sig .tc := ⟨.hbm, 106, rfl⟩
abbrev main_v71 : Ref sig .tc := ⟨.hbm, 107, rfl⟩
abbrev main_v72 : Ref sig .tc := ⟨.hbm, 108, rfl⟩
abbrev main_cst_19 : Ref sig .tc := ⟨.hbm, 109, rfl⟩
abbrev main_v73 : Ref sig .tc := ⟨.hbm, 110, rfl⟩
abbrev main_v74_1 : Ref sig .tc := ⟨.hbm, 111, rfl⟩
abbrev main_v74_0 : Ref sig .tc := ⟨.hbm, 112, rfl⟩
abbrev main_call1_cst : Ref sig .tc := ⟨.hbm, 113, rfl⟩
abbrev main_v74_2 : Ref sig .tc := ⟨.hbm, 114, rfl⟩
abbrev main_v75 : Ref sig .tc := ⟨.hbm, 115, rfl⟩
abbrev main_v76 : Ref sig .tc := ⟨.hbm, 116, rfl⟩
abbrev main_v77 : Ref sig .tc := ⟨.hbm, 117, rfl⟩
abbrev main_v78 : Ref sig .tc := ⟨.hbm, 118, rfl⟩
abbrev main_v79 : Ref sig .tc := ⟨.hbm, 119, rfl⟩
abbrev main_v80 : Ref sig .tc := ⟨.hbm, 120, rfl⟩
abbrev main_v81 : Ref sig .tc := ⟨.hbm, 121, rfl⟩
abbrev main_v82 : Ref sig .tc := ⟨.hbm, 122, rfl⟩
abbrev main_v83 : Ref sig .tc := ⟨.hbm, 123, rfl⟩
abbrev main_v84 : Ref sig .tc := ⟨.hbm, 124, rfl⟩
abbrev main_v85 : Ref sig .tc := ⟨.hbm, 125, rfl⟩
abbrev main_v86 : Ref sig .tc := ⟨.hbm, 126, rfl⟩
abbrev main_v87 : Ref sig .tc := ⟨.hbm, 127, rfl⟩
abbrev main_v88 : Ref sig .tc := ⟨.hbm, 128, rfl⟩
abbrev main_v89 : Ref sig .tc := ⟨.hbm, 129, rfl⟩
abbrev main_v90 : Ref sig .tc := ⟨.hbm, 130, rfl⟩
abbrev main_cst_20 : Ref sig .tc := ⟨.hbm, 131, rfl⟩
abbrev main_v91 : Ref sig .tc := ⟨.hbm, 132, rfl⟩
abbrev main_v92 : Ref sig .tc := ⟨.hbm, 133, rfl⟩
abbrev main_cst_21 : Ref sig .tc := ⟨.hbm, 134, rfl⟩
abbrev main_v93 : Ref sig .tc := ⟨.hbm, 135, rfl⟩
abbrev main_v94 : Ref sig .tc := ⟨.hbm, 136, rfl⟩
abbrev main_v95 : Ref sig .tc := ⟨.hbm, 137, rfl⟩
abbrev main_v96 : Ref sig .tc := ⟨.hbm, 138, rfl⟩
abbrev main_v97 : Ref sig .tc := ⟨.hbm, 139, rfl⟩
abbrev main_v98 : Ref sig .tc := ⟨.hbm, 140, rfl⟩
abbrev main_call2_cst : Ref sig .tc := ⟨.hbm, 141, rfl⟩
abbrev main_call2_v0 : Ref sig .tc := ⟨.hbm, 142, rfl⟩
abbrev main_v99 : Ref sig .tc := ⟨.hbm, 143, rfl⟩
abbrev main_v100 : Ref sig .tc := ⟨.hbm, 144, rfl⟩
abbrev main_cst_22 : Ref sig .tc := ⟨.hbm, 145, rfl⟩
abbrev main_v101 : Ref sig .tc := ⟨.hbm, 146, rfl⟩
abbrev main_v102 : Ref sig .tc := ⟨.hbm, 147, rfl⟩
abbrev main_cst_23 : Ref sig .tc := ⟨.hbm, 148, rfl⟩
abbrev main_v103 : Ref sig .tc := ⟨.hbm, 149, rfl⟩
abbrev main_v104 : Ref sig .tc := ⟨.hbm, 150, rfl⟩
abbrev main_v105 : Ref sig .tc := ⟨.hbm, 151, rfl⟩
abbrev main_cst_24 : Ref sig .tc := ⟨.hbm, 152, rfl⟩
abbrev main_v106 : Ref sig .tc := ⟨.hbm, 153, rfl⟩
abbrev main_v107 : Ref sig .tc := ⟨.hbm, 154, rfl⟩
abbrev main_v108 : Ref sig .tc := ⟨.hbm, 155, rfl⟩
abbrev main_v109 : Ref sig .tc := ⟨.hbm, 156, rfl⟩
abbrev main_cst_25 : Ref sig .tc := ⟨.hbm, 157, rfl⟩
abbrev main_v110 : Ref sig .tc := ⟨.hbm, 158, rfl⟩
abbrev main_v111 : Ref sig .tc := ⟨.hbm, 159, rfl⟩
abbrev main_v112 : Ref sig .tc := ⟨.hbm, 160, rfl⟩
abbrev main_cst_26 : Ref sig .tc := ⟨.hbm, 161, rfl⟩
abbrev main_v113 : Ref sig .tc := ⟨.hbm, 162, rfl⟩
abbrev main_v114 : Ref sig .tc := ⟨.hbm, 163, rfl⟩
abbrev main_v115 : Ref sig .tc := ⟨.hbm, 164, rfl⟩
abbrev main_v116 : Ref sig .tc := ⟨.hbm, 165, rfl⟩
abbrev main_v117 : Ref sig .tc := ⟨.hbm, 166, rfl⟩
abbrev main_cst_27 : Ref sig .tc := ⟨.hbm, 167, rfl⟩
abbrev main_v118 : Ref sig .tc := ⟨.hbm, 168, rfl⟩
abbrev main_v119 : Ref sig .tc := ⟨.hbm, 169, rfl⟩
abbrev main_cst_28 : Ref sig .tc := ⟨.hbm, 170, rfl⟩
abbrev main_v120 : Ref sig .tc := ⟨.hbm, 171, rfl⟩
abbrev main_v121 : Ref sig .tc := ⟨.hbm, 172, rfl⟩
abbrev main_v122 : Ref sig .tc := ⟨.hbm, 173, rfl⟩
abbrev main_v123 : Ref sig .tc := ⟨.hbm, 174, rfl⟩
abbrev main_v124 : Ref sig .tc := ⟨.hbm, 175, rfl⟩
abbrev main_v125 : Ref sig .tc := ⟨.hbm, 176, rfl⟩
abbrev main_v126 : Ref sig .tc := ⟨.hbm, 177, rfl⟩
abbrev main_v127 : Ref sig .tc := ⟨.hbm, 178, rfl⟩
abbrev main_cst_29 : Ref sig .tc := ⟨.hbm, 179, rfl⟩
abbrev main_v128 : Ref sig .tc := ⟨.hbm, 180, rfl⟩
abbrev main_v129 : Ref sig .tc := ⟨.hbm, 181, rfl⟩
abbrev main_cst_30 : Ref sig .tc := ⟨.hbm, 182, rfl⟩
abbrev main_v130 : Ref sig .tc := ⟨.hbm, 183, rfl⟩
abbrev main_v131 : Ref sig .tc := ⟨.hbm, 184, rfl⟩
abbrev main_cst_31 : Ref sig .tc := ⟨.hbm, 185, rfl⟩
abbrev main_v132 : Ref sig .tc := ⟨.hbm, 186, rfl⟩
abbrev main_v133 : Ref sig .tc := ⟨.hbm, 187, rfl⟩
abbrev main_v134 : Ref sig .tc := ⟨.hbm, 188, rfl⟩
abbrev main_v135 : Ref sig .tc := ⟨.hbm, 189, rfl⟩
abbrev main_v136 : Ref sig .tc := ⟨.hbm, 190, rfl⟩
abbrev main_v137 : Ref sig .tc := ⟨.hbm, 191, rfl⟩
abbrev main_cst_32 : Ref sig .tc := ⟨.hbm, 192, rfl⟩
abbrev main_v138 : Ref sig .tc := ⟨.hbm, 193, rfl⟩
abbrev main_v139 : Ref sig .tc := ⟨.hbm, 194, rfl⟩
abbrev main_v140 : Ref sig .tc := ⟨.hbm, 195, rfl⟩
abbrev main_cst_33 : Ref sig .tc := ⟨.hbm, 196, rfl⟩
abbrev main_v141 : Ref sig .tc := ⟨.hbm, 197, rfl⟩
abbrev main_v142 : Ref sig .tc := ⟨.hbm, 198, rfl⟩
abbrev main_v143 : Ref sig .tc := ⟨.hbm, 199, rfl⟩
abbrev main_v144 : Ref sig .tc := ⟨.hbm, 200, rfl⟩
abbrev main_v145 : Ref sig .tc := ⟨.hbm, 201, rfl⟩
abbrev main_v146 : Ref sig .tc := ⟨.hbm, 202, rfl⟩
abbrev main_v147 : Ref sig .tc := ⟨.hbm, 203, rfl⟩
abbrev main_v148 : Ref sig .tc := ⟨.hbm, 204, rfl⟩
abbrev main_v149 : Ref sig .tc := ⟨.hbm, 205, rfl⟩
abbrev main_v150 : Ref sig .tc := ⟨.hbm, 206, rfl⟩
abbrev main_v151 : Ref sig .tc := ⟨.hbm, 207, rfl⟩
abbrev main_v152 : Ref sig .tc := ⟨.hbm, 208, rfl⟩
abbrev main_v153 : Ref sig .tc := ⟨.hbm, 209, rfl⟩
abbrev main_v154 : Ref sig .tc := ⟨.hbm, 210, rfl⟩
abbrev main_cst_34 : Ref sig .tc := ⟨.hbm, 211, rfl⟩
abbrev main_v155 : Ref sig .tc := ⟨.hbm, 212, rfl⟩
abbrev main_v156 : Ref sig .tc := ⟨.hbm, 213, rfl⟩
abbrev main_v157 : Ref sig .tc := ⟨.hbm, 214, rfl⟩
abbrev main_cst_35 : Ref sig .tc := ⟨.hbm, 215, rfl⟩
abbrev main_v158 : Ref sig .tc := ⟨.hbm, 216, rfl⟩
abbrev main_v159 : Ref sig .tc := ⟨.hbm, 217, rfl⟩
abbrev main_v160 : Ref sig .tc := ⟨.hbm, 218, rfl⟩
abbrev main_v161 : Ref sig .tc := ⟨.hbm, 219, rfl⟩
abbrev main_v162 : Ref sig .tc := ⟨.hbm, 220, rfl⟩
abbrev main_v163 : Ref sig .tc := ⟨.hbm, 221, rfl⟩
abbrev main_v164 : Ref sig .tc := ⟨.hbm, 222, rfl⟩
abbrev main_v165 : Ref sig .tc := ⟨.hbm, 223, rfl⟩
abbrev main_v166 : Ref sig .tc := ⟨.hbm, 224, rfl⟩
abbrev main_v167 : Ref sig .tc := ⟨.hbm, 225, rfl⟩
abbrev main_v168 : Ref sig .tc := ⟨.hbm, 226, rfl⟩
abbrev main_v169 : Ref sig .tc := ⟨.hbm, 227, rfl⟩
abbrev main_cst_36 : Ref sig .tc := ⟨.hbm, 228, rfl⟩
abbrev main_v170 : Ref sig .tc := ⟨.hbm, 229, rfl⟩
abbrev main_cst_37 : Ref sig .tc := ⟨.hbm, 230, rfl⟩
abbrev main_v171 : Ref sig .tc := ⟨.hbm, 231, rfl⟩
abbrev main_v172 : Ref sig .tc := ⟨.hbm, 232, rfl⟩

abbrev nD : Nat := 1
abbrev τ : Topo := Topo.v7x

variable {F : FTy → Type} [FloatOps F]
-- ==== Kernel2.lean ====
abbrev S4096x1024 : Shape := ⟨2, ![4096, 1024]⟩
abbrev S1024x1024 : Shape := ⟨2, ![1024, 1024]⟩
abbrev S4096x512 : Shape := ⟨2, ![4096, 512]⟩
abbrev S4x128x128 : Shape := ⟨3, ![4, 128, 128]⟩
abbrev S1x512 : Shape := ⟨2, ![1, 512]⟩
abbrev S1x4096x512 : Shape := ⟨3, ![1, 4096, 512]⟩
abbrev S1x4096x4x128 : Shape := ⟨4, ![1, 4096, 4, 128]⟩
abbrev S_ : Shape := ⟨0, ![]⟩
abbrev S4096 : Shape := ⟨1, ![4096]⟩
abbrev S1x4096x1x128 : Shape := ⟨4, ![1, 4096, 1, 128]⟩
abbrev S1x4096x128 : Shape := ⟨3, ![1, 4096, 128]⟩
abbrev S1x2x128 : Shape := ⟨3, ![1, 2, 128]⟩
abbrev S1x4094x128 : Shape := ⟨3, ![1, 4094, 128]⟩
abbrev S1x4096x1 : Shape := ⟨3, ![1, 4096, 1]⟩
abbrev S1x4x128 : Shape := ⟨3, ![1, 4, 128]⟩
abbrev S1x4092x128 : Shape := ⟨3, ![1, 4092, 128]⟩
abbrev S1x8x128 : Shape := ⟨3, ![1, 8, 128]⟩
abbrev S1x4088x128 : Shape := ⟨3, ![1, 4088, 128]⟩
abbrev S1x16x128 : Shape := ⟨3, ![1, 16, 128]⟩
abbrev S1x4080x128 : Shape := ⟨3, ![1, 4080, 128]⟩
abbrev S4096x4x128 : Shape := ⟨3, ![4096, 4, 128]⟩
abbrev S128x1024 : Shape := ⟨2, ![128, 1024]⟩
abbrev S4096x128 : Shape := ⟨2, ![4096, 128]⟩
abbrev S1x128x128 : Shape := ⟨3, ![1, 128, 128]⟩
abbrev S1x128 : Shape := ⟨2, ![1, 128]⟩
abbrev S128x128 : Shape := ⟨2, ![128, 128]⟩
abbrev S128 : Shape := ⟨1, ![128]⟩

abbrev nBuf : Space → Nat
  | .hbm => 102
  | .vmem => 15
  | .smem => 0
  | _ => 0

abbrev bufTy : (tb : Table) → Fin (tcTables nBuf tb) → BufTy
  | .hbm, ⟨0, _⟩ => ⟨S4096x1024, .bf16⟩
  | .hbm, ⟨1, _⟩ => ⟨S1024x1024, .bf16⟩
  | .hbm, ⟨2, _⟩ => ⟨S4096x512, .f32⟩
  | .hbm, ⟨3, _⟩ => ⟨S4x128x128, .f32⟩
  | .hbm, ⟨4, _⟩ => ⟨S1x512, .f32⟩
  | .hbm, ⟨5, _⟩ => ⟨S1x4096x512, .f32⟩
  | .hbm, ⟨6, _⟩ => ⟨S1x4096x4x128, .f32⟩
  | .hbm, ⟨7, _⟩ => ⟨S_, .f32⟩
  | .hbm, ⟨8, _⟩ => ⟨S_, .f32⟩
  | .hbm, ⟨9, _⟩ => ⟨S1x4096x4x128, .f32⟩
  | .hbm, ⟨10, _⟩ => ⟨S4096, .f32⟩
  | .hbm, ⟨11, _⟩ => ⟨S1x4096x1x128, .f32⟩
  | .hbm, ⟨12, _⟩ => ⟨S1x4096x128, .f32⟩
  | .hbm, ⟨13, _⟩ => ⟨S1x2x128, .f32⟩
  | .hbm, ⟨14, _⟩ => ⟨S_, .f32⟩
  | .hbm, ⟨15, _⟩ => ⟨S1x2x128, .f32⟩
  | .hbm, ⟨16, _⟩ => ⟨S1x4094x128, .f32⟩
  | .hbm, ⟨17, _⟩ => ⟨S1x4096x128, .f32⟩
  | .hbm, ⟨18, _⟩ => ⟨S_, .f32⟩
  | .hbm, ⟨19, _⟩ => ⟨S4096, .f32⟩
  | .hbm, ⟨20, _⟩ => ⟨S4096, .f32⟩
  | .hbm, ⟨21, _⟩ => ⟨S_, .f32⟩
  | .hbm, ⟨22, _⟩ => ⟨S4096, .f32⟩
  | .hbm, ⟨23, _⟩ => ⟨S4096, .f32⟩
  | .hbm, ⟨24, _⟩ => ⟨S1x4096x1, .f32⟩
  | .hbm, ⟨25, _⟩ => ⟨S1x4096x128, .f32⟩
  | .hbm, ⟨26, _⟩ => ⟨S1x4096x128, .f32⟩
  | .hbm, ⟨27, _⟩ => ⟨S1x4096x128, .f32⟩
  | .hbm, ⟨28, _⟩ => ⟨S1x4096x1x128, .f32⟩
  | .hbm, ⟨29, _⟩ => ⟨S1x4096x128, .f32⟩
  | .hbm, ⟨30, _⟩ => ⟨S1x4096x128, .f32⟩
  | .hbm, ⟨31, _⟩ => ⟨S1x4096x1x128, .f32⟩
  | .hbm, ⟨32, _⟩ => ⟨S1x4096x128, .f32⟩
  | .hbm, ⟨33, _⟩ => ⟨S1x4x128, .f32⟩
  | .hbm, ⟨34, _⟩ => ⟨S_, .f32⟩
  | .hbm, ⟨35, _⟩ => ⟨S1x4x128, .f32⟩
  | .hbm, ⟨36, _⟩ => ⟨S1x4092x128, .f32⟩
  | .hbm, ⟨37, _⟩ => ⟨S1x4096x128, .f32⟩
  | .hbm, ⟨38, _⟩ => ⟨S_, .f32⟩
  | .hbm, ⟨39, _⟩ => ⟨S4096, .f32⟩
  | .hbm, ⟨40, _⟩ => ⟨S4096, .f32⟩
  | .hbm, ⟨41, _⟩ => ⟨S_, .f32⟩
  | .hbm, ⟨42, _⟩ => ⟨S4096, .f32⟩
  | .hbm, ⟨43, _⟩ => ⟨S4096, .f32⟩
  | .hbm, ⟨44, _⟩ => ⟨S1x4096x1, .f32⟩
  | .hbm, ⟨45, _⟩ => ⟨S1x4096x128, .f32⟩
  | .hbm, ⟨46, _⟩ => ⟨S1x4096x128, .f32⟩
  | .hbm, ⟨47, _⟩ => ⟨S1x4096x128, .f32⟩
  | .hbm, ⟨48, _⟩ => ⟨S1x4096x1x128, .f32⟩
  | .hbm, ⟨49, _⟩ => ⟨S1x4096x128, .f32⟩
  | .hbm, ⟨50, _⟩ => ⟨S1x4096x128, .f32⟩
  | .hbm, ⟨51, _⟩ => ⟨S1x4096x1x128, .f32⟩
  | .hbm, ⟨52, _⟩ => ⟨S1x4096x128, .f32⟩
  | .hbm, ⟨53, _⟩ => ⟨S1x8x128, .f32⟩
  | .hbm, ⟨54, _⟩ => ⟨S_, .f32⟩
  | .hbm, ⟨55, _⟩ => ⟨S1x8x128, .f32⟩
  | .hbm, ⟨56, _⟩ => ⟨S1x4088x128, .f32⟩
  | .hbm, ⟨57, _⟩ => ⟨S1x4096x128, .f32⟩
  | .hbm, ⟨58, _⟩ => ⟨S_, .f32⟩
  | .hbm, ⟨59, _⟩ => ⟨S4096, .f32⟩
  | .hbm, ⟨60, _⟩ => ⟨S4096, .f32⟩
  | .hbm, ⟨61, _⟩ => ⟨S_, .f32⟩
  | .hbm, ⟨62, _⟩ => ⟨S4096, .f32⟩
  | .hbm, ⟨63, _⟩ => ⟨S4096, .f32⟩
  | .hbm, ⟨64, _⟩ => ⟨S1x4096x1, .f32⟩
  | .hbm, ⟨65, _⟩ => ⟨S1x4096x128, .f32⟩
  | .hbm, ⟨66, _⟩ => ⟨S1x4096x128, .f32⟩
  | .hbm, ⟨67, _⟩ => ⟨S1x4096x128, .f32⟩
  | .hbm, ⟨68, _⟩ => ⟨S1x4096x1x128, .f32⟩
  | .hbm, ⟨69, _⟩ => ⟨S1x4096x128, .f32⟩
  | .hbm, ⟨70, _⟩ => ⟨S1x4096x128, .f32⟩
  | .hbm, ⟨71, _⟩ => ⟨S1x4096x1x128, .f32⟩
  | .hbm, ⟨72, _⟩ => ⟨S1x4096x128, .f32⟩
  | .hbm, ⟨73, _⟩ => ⟨S1x16x128, .f32⟩
  | .hbm, ⟨74, _⟩ => ⟨S_, .f32⟩
  | .hbm, ⟨75, _⟩ => ⟨S1x16x128, .f32⟩
  | .hbm, ⟨76, _⟩ => ⟨S1x4080x128, .f32⟩
  | .hbm, ⟨77, _⟩ => ⟨S1x4096x128, .f32⟩
  | .hbm, ⟨78, _⟩ => ⟨S_, .f32⟩
  | .hbm, ⟨79, _⟩ => ⟨S4096, .f32⟩
  | .hbm, ⟨80, _⟩ => ⟨S4096, .f32⟩
  | .hbm, ⟨81, _⟩ => ⟨S_, .f32⟩
  | .hbm, ⟨82, _⟩ => ⟨S4096, .f32⟩
  | .hbm, ⟨83, _⟩ => ⟨S4096, .f32⟩
  | .hbm, ⟨84, _⟩ => ⟨S1x4096x1, .f32⟩
  | .hbm, ⟨85, _⟩ => ⟨S1x4096x128, .f32⟩
  | .hbm, ⟨86, _⟩ => ⟨S1x4096x128, .f32⟩
  | .hbm, ⟨87, _⟩ => ⟨S1x4096x128, .f32⟩
  | .hbm, ⟨88, _⟩ => ⟨S1x4096x1x128, .f32⟩
  | .hbm, ⟨89, _⟩ => ⟨S1x4096x128, .f32⟩
  | .hbm, ⟨90, _⟩ => ⟨S1x4096x128, .f32⟩
  | .hbm, ⟨91, _⟩ => ⟨S1x4096x1x128, .f32⟩
  | .hbm, ⟨92, _⟩ => ⟨S1x4096x1x128, .f32⟩
  | .hbm, ⟨93, _⟩ => ⟨S1x4096x1x128, .f32⟩
  | .hbm, ⟨94, _⟩ => ⟨S1x4096x1x128, .f32⟩
  | .hbm, ⟨95, _⟩ => ⟨S1x4096x4x128, .f32⟩
  | .hbm, ⟨96, _⟩ => ⟨S4096x4x128, .f32⟩
  | .hbm, ⟨97, _⟩ => ⟨S4096x512, .f32⟩
  | .hbm, ⟨98, _⟩ => ⟨S4096x512, .bf16⟩
  | .hbm, ⟨99, _⟩ => ⟨S4096x512, .f32⟩
  | .hbm, ⟨100, _⟩ => ⟨S4x128x128, .f32⟩
  | .hbm, ⟨101, _⟩ => ⟨S1x512, .f32⟩
  | .local _ .vmem, ⟨0, _⟩ => ⟨S4096x1024, .bf16⟩
  | .local _ .vmem, ⟨1, _⟩ => ⟨S128x1024, .bf16⟩
  | .local _ .vmem, ⟨2, _⟩ => ⟨S128x1024, .bf16⟩
  | .local _ .vmem, ⟨3, _⟩ => ⟨S4096x128, .bf16⟩
  | .local _ .vmem, ⟨4, _⟩ => ⟨S4096x128, .bf16⟩
  | .local _ .vmem, ⟨5, _⟩ => ⟨S1x128x128, .f32⟩
  | .local _ .vmem, ⟨6, _⟩ => ⟨S1x128x128, .f32⟩
  | .local _ .vmem, ⟨7, _⟩ => ⟨S1x128, .f32⟩
  | .local _ .vmem, ⟨8, _⟩ => ⟨S1x128, .f32⟩
  | .local _ .vmem, ⟨9, _⟩ => ⟨S4096x128, .f32⟩
  | .local _ .vmem, ⟨10, _⟩ => ⟨S4096x128, .f32⟩
  | .local _ .vmem, ⟨11, _⟩ => ⟨S1x128x128, .f32⟩
  | .local _ .vmem, ⟨12, _⟩ => ⟨S1x128x128, .f32⟩
  | .local _ .vmem, ⟨13, _⟩ => ⟨S1x128, .f32⟩
  | .local _ .vmem, ⟨14, _⟩ => ⟨S1x128, .f32⟩
  | _, _ => ⟨S4096x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | _, _ => false

abbrev semScoped : Fin 0 → Bool
  | ⟨_, h⟩ => absurd h (Nat.not_lt_zero _)

abbrev dmaSemScoped : Fin 15 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | _ => false

abbrev sig : RefSig :=
  ofTc nBuf bufTy 0 15 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_call0_call0_cst : Ref sig .tc := ⟨.hbm, 7, rfl⟩
abbrev main_call0_call0_v0 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_cst : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_cst_0 : Ref sig .tc := ⟨.hbm, 18, rfl⟩
abbrev main_v10 : Ref sig .tc := ⟨.hbm, 19, rfl⟩
abbrev main_v11 : Ref sig .tc := ⟨.hbm, 20, rfl⟩
abbrev main_cst_1 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_cst_2 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_cst_3 : Ref sig .tc := ⟨.hbm, 38, rfl⟩
abbrev main_v27 : Ref sig .tc := ⟨.hbm, 39, rfl⟩
abbrev main_v28 : Ref sig .tc := ⟨.hbm, 40, rfl⟩
abbrev main_cst_4 : Ref sig .tc := ⟨.hbm, 41, rfl⟩
abbrev main_v29 : Ref sig .tc := ⟨.hbm, 42, rfl⟩
abbrev main_v30 : Ref sig .tc := ⟨.hbm, 43, rfl⟩
abbrev main_v31 : Ref sig .tc := ⟨.hbm, 44, rfl⟩
abbrev main_v32 : Ref sig .tc := ⟨.hbm, 45, rfl⟩
abbrev main_v33 : Ref sig .tc := ⟨.hbm, 46, rfl⟩
abbrev main_v34 : Ref sig .tc := ⟨.hbm, 47, rfl⟩
abbrev main_v35 : Ref sig .tc := ⟨.hbm, 48, rfl⟩
abbrev main_v36 : Ref sig .tc := ⟨.hbm, 49, rfl⟩
abbrev main_v37 : Ref sig .tc := ⟨.hbm, 50, rfl⟩
abbrev main_v38 : Ref sig .tc := ⟨.hbm, 51, rfl⟩
abbrev main_v39 : Ref sig .tc := ⟨.hbm, 52, rfl⟩
abbrev main_v40 : Ref sig .tc := ⟨.hbm, 53, rfl⟩
abbrev main_cst_5 : Ref sig .tc := ⟨.hbm, 54, rfl⟩
abbrev main_v41 : Ref sig .tc := ⟨.hbm, 55, rfl⟩
abbrev main_v42 : Ref sig .tc := ⟨.hbm, 56, rfl⟩
abbrev main_v43 : Ref sig .tc := ⟨.hbm, 57, rfl⟩
abbrev main_cst_6 : Ref sig .tc := ⟨.hbm, 58, rfl⟩
abbrev main_v44 : Ref sig .tc := ⟨.hbm, 59, rfl⟩
abbrev main_v45 : Ref sig .tc := ⟨.hbm, 60, rfl⟩
abbrev main_cst_7 : Ref sig .tc := ⟨.hbm, 61, rfl⟩
abbrev main_v46 : Ref sig .tc := ⟨.hbm, 62, rfl⟩
abbrev main_v47 : Ref sig .tc := ⟨.hbm, 63, rfl⟩
abbrev main_v48 : Ref sig .tc := ⟨.hbm, 64, rfl⟩
abbrev main_v49 : Ref sig .tc := ⟨.hbm, 65, rfl⟩
abbrev main_v50 : Ref sig .tc := ⟨.hbm, 66, rfl⟩
abbrev main_v51 : Ref sig .tc := ⟨.hbm, 67, rfl⟩
abbrev main_v52 : Ref sig .tc := ⟨.hbm, 68, rfl⟩
abbrev main_v53 : Ref sig .tc := ⟨.hbm, 69, rfl⟩
abbrev main_v54 : Ref sig .tc := ⟨.hbm, 70, rfl⟩
abbrev main_v55 : Ref sig .tc := ⟨.hbm, 71, rfl⟩
abbrev main_v56 : Ref sig .tc := ⟨.hbm, 72, rfl⟩
abbrev main_v57 : Ref sig .tc := ⟨.hbm, 73, rfl⟩
abbrev main_cst_8 : Ref sig .tc := ⟨.hbm, 74, rfl⟩
abbrev main_v58 : Ref sig .tc := ⟨.hbm, 75, rfl⟩
abbrev main_v59 : Ref sig .tc := ⟨.hbm, 76, rfl⟩
abbrev main_v60 : Ref sig .tc := ⟨.hbm, 77, rfl⟩
abbrev main_cst_9 : Ref sig .tc := ⟨.hbm, 78, rfl⟩
abbrev main_v61 : Ref sig .tc := ⟨.hbm, 79, rfl⟩
abbrev main_v62 : Ref sig .tc := ⟨.hbm, 80, rfl⟩
abbrev main_cst_10 : Ref sig .tc := ⟨.hbm, 81, rfl⟩
abbrev main_v63 : Ref sig .tc := ⟨.hbm, 82, rfl⟩
abbrev main_v64 : Ref sig .tc := ⟨.hbm, 83, rfl⟩
abbrev main_v65 : Ref sig .tc := ⟨.hbm, 84, rfl⟩
abbrev main_v66 : Ref sig .tc := ⟨.hbm, 85, rfl⟩
abbrev main_v67 : Ref sig .tc := ⟨.hbm, 86, rfl⟩
abbrev main_v68 : Ref sig .tc := ⟨.hbm, 87, rfl⟩
abbrev main_v69 : Ref sig .tc := ⟨.hbm, 88, rfl⟩
abbrev main_v70 : Ref sig .tc := ⟨.hbm, 89, rfl⟩
abbrev main_v71 : Ref sig .tc := ⟨.hbm, 90, rfl⟩
abbrev main_v72 : Ref sig .tc := ⟨.hbm, 91, rfl⟩
abbrev main_v73 : Ref sig .tc := ⟨.hbm, 92, rfl⟩
abbrev main_v74 : Ref sig .tc := ⟨.hbm, 93, rfl⟩
abbrev main_v75 : Ref sig .tc := ⟨.hbm, 94, rfl⟩
abbrev main_v76 : Ref sig .tc := ⟨.hbm, 95, rfl⟩
abbrev main_v77 : Ref sig .tc := ⟨.hbm, 96, rfl⟩
abbrev main_v78 : Ref sig .tc := ⟨.hbm, 97, rfl⟩
abbrev main_v79 : Ref sig .tc := ⟨.hbm, 98, rfl⟩
abbrev main_v80_0 : Ref sig .tc := ⟨.hbm, 99, rfl⟩
abbrev main_v80_1 : Ref sig .tc := ⟨.hbm, 100, rfl⟩
abbrev main_v80_2 : Ref sig .tc := ⟨.hbm, 101, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_stg6_1 : Ref sig .tc := ⟨.vmem, 12, rfl⟩
abbrev cc0_stg7_0 : Ref sig .tc := ⟨.vmem, 13, rfl⟩
abbrev cc0_stg7_1 : Ref sig .tc := ⟨.vmem, 14, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11
abbrev cc0_sem6_1 : DmaSem sig := 12
abbrev cc0_sem7_0 : DmaSem sig := 13
abbrev cc0_sem7_1 : DmaSem sig := 14

abbrev nD : Nat := 1
abbrev τ : Topo := Topo.v7x

variable {F : FTy → Type} [FloatOps F]

abbrev grid0 : Pipeline.Grid := ⟨1, ![4], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_6 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 1 → Memref sig .tc .vmem S4096x1024 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 2 → Memref sig .tc .vmem S128x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S4096x128 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x128x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S4096x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S1x128x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S1x128 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== Reference2Ideal.lean ====
abbrev S4096x1024 : Shape := ⟨2, ![4096, 1024]⟩
abbrev S1024x1024 : Shape := ⟨2, ![1024, 1024]⟩
abbrev S4096x512 : Shape := ⟨2, ![4096, 512]⟩
abbrev S4x128x128 : Shape := ⟨3, ![4, 128, 128]⟩
abbrev S1x512 : Shape := ⟨2, ![1, 512]⟩
abbrev S512x1024 : Shape := ⟨2, ![512, 1024]⟩
abbrev S1x4096x512 : Shape := ⟨3, ![1, 4096, 512]⟩
abbrev S1x4096x4x128 : Shape := ⟨4, ![1, 4096, 4, 128]⟩
abbrev S_ : Shape := ⟨0, ![]⟩
abbrev S4096 : Shape := ⟨1, ![4096]⟩
abbrev S1x4096x1x128 : Shape := ⟨4, ![1, 4096, 1, 128]⟩
abbrev S1x4096x128 : Shape := ⟨3, ![1, 4096, 128]⟩
abbrev S1x2x128 : Shape := ⟨3, ![1, 2, 128]⟩
abbrev S1x4094x128 : Shape := ⟨3, ![1, 4094, 128]⟩
abbrev S1x4096x1 : Shape := ⟨3, ![1, 4096, 1]⟩
abbrev S1x4x128 : Shape := ⟨3, ![1, 4, 128]⟩
abbrev S1x4092x128 : Shape := ⟨3, ![1, 4092, 128]⟩
abbrev S1x8x128 : Shape := ⟨3, ![1, 8, 128]⟩
abbrev S1x4088x128 : Shape := ⟨3, ![1, 4088, 128]⟩
abbrev S1x16x128 : Shape := ⟨3, ![1, 16, 128]⟩
abbrev S1x4080x128 : Shape := ⟨3, ![1, 4080, 128]⟩
abbrev S4x128x1x4096 : Shape := ⟨4, ![4, 128, 1, 4096]⟩
abbrev S1x1x512 : Shape := ⟨3, ![1, 1, 512]⟩
abbrev S512 : Shape := ⟨1, ![512]⟩
abbrev S4x1x4096x128 : Shape := ⟨4, ![4, 1, 4096, 128]⟩

abbrev nBuf : Space → Nat
  | .hbm => 213
  | .vmem => 0
  | .smem => 0
  | _ => 0

abbrev hbmTy0_0 (i : Nat) : BufTy := match i % 128 with
  | 0 => ⟨S4096x1024, .bf16⟩
  | 1 => ⟨S1024x1024, .bf16⟩
  | 2 => ⟨S4096x512, .f32⟩
  | 3 => ⟨S4x128x128, .f32⟩
  | 4 => ⟨S1x512, .f32⟩
  | 5 => ⟨S512x1024, .bf16⟩
  | 6 => ⟨S512x1024, .f32⟩
  | 7 => ⟨S1x4096x512, .f32⟩
  | 8 => ⟨S1x4096x4x128, .f32⟩
  | 9 => ⟨S_, .f32⟩
  | 10 => ⟨S_, .f32⟩
  | 11 => ⟨S1x4096x4x128, .f32⟩
  | 12 => ⟨S4096, .f32⟩
  | 13 => ⟨S1x4096x1x128, .f32⟩
  | 14 => ⟨S1x4096x128, .f32⟩
  | 15 => ⟨S1x2x128, .f32⟩
  | 16 => ⟨S_, .f32⟩
  | 17 => ⟨S1x2x128, .f32⟩
  | 18 => ⟨S1x4094x128, .f32⟩
  | 19 => ⟨S1x4096x128, .f32⟩
  | 20 => ⟨S_, .f32⟩
  | 21 => ⟨S1x2x128, .f32⟩
  | 22 => ⟨S_, .f32⟩
  | 23 => ⟨S4096, .f32⟩
  | 24 => ⟨S4096, .f32⟩
  | 25 => ⟨S_, .f32⟩
  | 26 => ⟨S4096, .f32⟩
  | 27 => ⟨S4096, .f32⟩
  | 28 => ⟨S1x4096x1, .f32⟩
  | 29 => ⟨S1x4096x128, .f32⟩
  | 30 => ⟨S1x4096x128, .f32⟩
  | 31 => ⟨S1x4096x128, .f32⟩
  | 32 => ⟨S1x4096x1x128, .f32⟩
  | 33 => ⟨S1x4096x128, .f32⟩
  | 34 => ⟨S1x4096x128, .f32⟩
  | 35 => ⟨S1x4096x1x128, .f32⟩
  | 36 => ⟨S1x4096x128, .f32⟩
  | 37 => ⟨S1x4x128, .f32⟩
  | 38 => ⟨S_, .f32⟩
  | 39 => ⟨S1x4x128, .f32⟩
  | 40 => ⟨S1x4092x128, .f32⟩
  | 41 => ⟨S1x4096x128, .f32⟩
  | 42 => ⟨S_, .f32⟩
  | 43 => ⟨S1x4x128, .f32⟩
  | 44 => ⟨S_, .f32⟩
  | 45 => ⟨S4096, .f32⟩
  | 46 => ⟨S4096, .f32⟩
  | 47 => ⟨S_, .f32⟩
  | 48 => ⟨S4096, .f32⟩
  | 49 => ⟨S4096, .f32⟩
  | 50 => ⟨S1x4096x1, .f32⟩
  | 51 => ⟨S1x4096x128, .f32⟩
  | 52 => ⟨S1x4096x128, .f32⟩
  | 53 => ⟨S1x4096x128, .f32⟩
  | 54 => ⟨S1x4096x1x128, .f32⟩
  | 55 => ⟨S1x4096x128, .f32⟩
  | 56 => ⟨S1x4096x128, .f32⟩
  | 57 => ⟨S1x4096x1x128, .f32⟩
  | 58 => ⟨S1x4096x128, .f32⟩
  | 59 => ⟨S1x8x128, .f32⟩
  | 60 => ⟨S_, .f32⟩
  | 61 => ⟨S1x8x128, .f32⟩
  | 62 => ⟨S1x4088x128, .f32⟩
  | 63 => ⟨S1x4096x128, .f32⟩
  | 64 => ⟨S_, .f32⟩
  | 65 => ⟨S1x8x128, .f32⟩
  | 66 => ⟨S_, .f32⟩
  | 67 => ⟨S4096, .f32⟩
  | 68 => ⟨S4096, .f32⟩
  | 69 => ⟨S_, .f32⟩
  | 70 => ⟨S4096, .f32⟩
  | 71 => ⟨S4096, .f32⟩
  | 72 => ⟨S1x4096x1, .f32⟩
  | 73 => ⟨S1x4096x128, .f32⟩
  | 74 => ⟨S1x4096x128, .f32⟩
  | 75 => ⟨S1x4096x128, .f32⟩
  | 76 => ⟨S1x4096x1x128, .f32⟩
  | 77 => ⟨S1x4096x128, .f32⟩
  | 78 => ⟨S1x4096x128, .f32⟩
  | 79 => ⟨S1x4096x1x128, .f32⟩
  | 80 => ⟨S1x4096x128, .f32⟩
  | 81 => ⟨S1x16x128, .f32⟩
  | 82 => ⟨S_, .f32⟩
  | 83 => ⟨S1x16x128, .f32⟩
  | 84 => ⟨S1x4080x128, .f32⟩
  | 85 => ⟨S1x4096x128, .f32⟩
  | 86 => ⟨S_, .f32⟩
  | 87 => ⟨S1x16x128, .f32⟩
  | 88 => ⟨S_, .f32⟩
  | 89 => ⟨S4096, .f32⟩
  | 90 => ⟨S4096, .f32⟩
  | 91 => ⟨S_, .f32⟩
  | 92 => ⟨S4096, .f32⟩
  | 93 => ⟨S4096, .f32⟩
  | 94 => ⟨S1x4096x1, .f32⟩
  | 95 => ⟨S1x4096x128, .f32⟩
  | 96 => ⟨S1x4096x128, .f32⟩
  | 97 => ⟨S1x4096x128, .f32⟩
  | 98 => ⟨S1x4096x1x128, .f32⟩
  | 99 => ⟨S1x4096x128, .f32⟩
  | 100 => ⟨S1x4096x128, .f32⟩
  | 101 => ⟨S1x4096x1x128, .f32⟩
  | 102 => ⟨S1x4096x1x128, .f32⟩
  | 103 => ⟨S1x4096x1x128, .f32⟩
  | 104 => ⟨S1x4096x1x128, .f32⟩
  | 105 => ⟨S1x4096x4x128, .f32⟩
  | 106 => ⟨S4x128x1x4096, .f32⟩
  | 107 => ⟨S1x4096x4x128, .f32⟩
  | 108 => ⟨S1x4096x512, .f32⟩
  | 109 => ⟨S1x1x512, .f32⟩
  | 110 => ⟨S1x4096x512, .f32⟩
  | 111 => ⟨S1x4096x512, .f32⟩
  | 112 => ⟨S4096x512, .f32⟩
  | 113 => ⟨S4096x1024, .f32⟩
  | 114 => ⟨S4096x1024, .f32⟩
  | 115 => ⟨S4096x512, .f32⟩
  | 116 => ⟨S1x4096x512, .f32⟩
  | 117 => ⟨S1x4096x512, .f32⟩
  | 118 => ⟨S_, .f32⟩
  | 119 => ⟨S1x512, .f32⟩
  | 120 => ⟨S1x1x512, .f32⟩
  | 121 => ⟨S1x4096x512, .f32⟩
  | 122 => ⟨S1x4096x512, .f32⟩
  | 123 => ⟨S_, .f32⟩
  | 124 => ⟨S512, .f32⟩
  | 125 => ⟨S1x512, .f32⟩
  | 126 => ⟨S1x4096x4x128, .f32⟩
  | 127 => ⟨S4x128x1x4096, .f32⟩
  | _ => ⟨S4096x1024, .bf16⟩

abbrev hbmTy0_1 (i : Nat) : BufTy := match i % 128 with
  | 0 => ⟨S4x1x4096x128, .f32⟩
  | 1 => ⟨S1x4096x4x128, .f32⟩
  | 2 => ⟨S4x128x128, .f32⟩
  | 3 => ⟨S4x128x128, .f32⟩
  | 4 => ⟨S1x4096x1x128, .f32⟩
  | 5 => ⟨S1x4096x128, .f32⟩
  | 6 => ⟨S1x4096x1x128, .f32⟩
  | 7 => ⟨S1x4096x128, .f32⟩
  | 8 => ⟨S1x4096x1x128, .f32⟩
  | 9 => ⟨S1x4096x128, .f32⟩
  | 10 => ⟨S1x4096x1x128, .f32⟩
  | 11 => ⟨S1x4096x128, .f32⟩
  | 12 => ⟨S1x4096x128, .f32⟩
  | 13 => ⟨S1x4096x1x128, .f32⟩
  | 14 => ⟨S_, .f32⟩
  | 15 => ⟨S1x4096x4x128, .f32⟩
  | 16 => ⟨S1x4096x128, .f32⟩
  | 17 => ⟨S1x4096x128, .f32⟩
  | 18 => ⟨S1x4096x128, .f32⟩
  | 19 => ⟨S1x16x128, .f32⟩
  | 20 => ⟨S1x4080x128, .f32⟩
  | 21 => ⟨S_, .f32⟩
  | 22 => ⟨S1x4096x128, .f32⟩
  | 23 => ⟨S1x4096x128, .f32⟩
  | 24 => ⟨S1x4096x1x128, .f32⟩
  | 25 => ⟨S_, .f32⟩
  | 26 => ⟨S1x4096x4x128, .f32⟩
  | 27 => ⟨S1x4096x128, .f32⟩
  | 28 => ⟨S1x4096x1x128, .f32⟩
  | 29 => ⟨S_, .f32⟩
  | 30 => ⟨S1x4096x4x128, .f32⟩
  | 31 => ⟨S1x4096x4x128, .f32⟩
  | 32 => ⟨S1x4096x128, .f32⟩
  | 33 => ⟨S1x4096x128, .f32⟩
  | 34 => ⟨S1x4096x128, .f32⟩
  | 35 => ⟨S1x8x128, .f32⟩
  | 36 => ⟨S1x4088x128, .f32⟩
  | 37 => ⟨S_, .f32⟩
  | 38 => ⟨S1x4096x128, .f32⟩
  | 39 => ⟨S1x4096x128, .f32⟩
  | 40 => ⟨S1x4096x1x128, .f32⟩
  | 41 => ⟨S_, .f32⟩
  | 42 => ⟨S1x4096x4x128, .f32⟩
  | 43 => ⟨S1x4096x4x128, .f32⟩
  | 44 => ⟨S1x4096x128, .f32⟩
  | 45 => ⟨S1x4096x1x128, .f32⟩
  | 46 => ⟨S_, .f32⟩
  | 47 => ⟨S1x4096x4x128, .f32⟩
  | 48 => ⟨S1x4096x4x128, .f32⟩
  | 49 => ⟨S1x4096x128, .f32⟩
  | 50 => ⟨S1x4096x128, .f32⟩
  | 51 => ⟨S1x4096x128, .f32⟩
  | 52 => ⟨S1x4x128, .f32⟩
  | 53 => ⟨S1x4092x128, .f32⟩
  | 54 => ⟨S_, .f32⟩
  | 55 => ⟨S1x4096x128, .f32⟩
  | 56 => ⟨S1x4096x128, .f32⟩
  | 57 => ⟨S1x4096x1x128, .f32⟩
  | 58 => ⟨S_, .f32⟩
  | 59 => ⟨S1x4096x4x128, .f32⟩
  | 60 => ⟨S1x4096x4x128, .f32⟩
  | 61 => ⟨S1x4096x128, .f32⟩
  | 62 => ⟨S1x4096x1x128, .f32⟩
  | 63 => ⟨S_, .f32⟩
  | 64 => ⟨S1x4096x4x128, .f32⟩
  | 65 => ⟨S1x4096x4x128, .f32⟩
  | 66 => ⟨S1x4096x128, .f32⟩
  | 67 => ⟨S1x4096x128, .f32⟩
  | 68 => ⟨S1x4096x128, .f32⟩
  | 69 => ⟨S1x2x128, .f32⟩
  | 70 => ⟨S1x4094x128, .f32⟩
  | 71 => ⟨S_, .f32⟩
  | 72 => ⟨S1x4096x128, .f32⟩
  | 73 => ⟨S1x4096x128, .f32⟩
  | 74 => ⟨S1x4096x1x128, .f32⟩
  | 75 => ⟨S_, .f32⟩
  | 76 => ⟨S1x4096x4x128, .f32⟩
  | 77 => ⟨S1x4096x4x128, .f32⟩
  | 78 => ⟨S_, .f32⟩
  | 79 => ⟨S_, .f32⟩
  | 80 => ⟨S1x4096x4x128, .f32⟩
  | 81 => ⟨S1x4096x4x128, .f32⟩
  | 82 => ⟨S1x4096x512, .f32⟩
  | 83 => ⟨S_, .f32⟩
  | 84 => ⟨S4096x512, .f32⟩
  | _ => ⟨S4096x1024, .bf16⟩

abbrev hbmTy (i : Nat) : BufTy := match i / 128 with
  | 0 => hbmTy0_0 i
  | 1 => hbmTy0_1 i
  | _ => ⟨S4096x1024, .bf16⟩

abbrev bufTy : (tb : Table) → Fin (tcTables nBuf tb) → BufTy
  | .hbm, ⟨i, _⟩ => hbmTy i
  | _, _ => ⟨S4096x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_call0_call0_cst : Ref sig .tc := ⟨.hbm, 9, rfl⟩
abbrev main_call0_call0_v0 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_cst : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_cst_0 : Ref sig .tc := ⟨.hbm, 20, rfl⟩
abbrev main_v12 : Ref sig .tc := ⟨.hbm, 21, rfl⟩
abbrev main_cst_1 : Ref sig .tc := ⟨.hbm, 22, rfl⟩
abbrev main_v13 : Ref sig .tc := ⟨.hbm, 23, rfl⟩
abbrev main_v14 : Ref sig .tc := ⟨.hbm, 24, rfl⟩
abbrev main_cst_2 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_cst_3 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_cst_4 : Ref sig .tc := ⟨.hbm, 42, rfl⟩
abbrev main_v30 : Ref sig .tc := ⟨.hbm, 43, rfl⟩
abbrev main_cst_5 : Ref sig .tc := ⟨.hbm, 44, rfl⟩
abbrev main_v31 : Ref sig .tc := ⟨.hbm, 45, rfl⟩
abbrev main_v32 : Ref sig .tc := ⟨.hbm, 46, rfl⟩
abbrev main_cst_6 : Ref sig .tc := ⟨.hbm, 47, rfl⟩
abbrev main_v33 : Ref sig .tc := ⟨.hbm, 48, rfl⟩
abbrev main_v34 : Ref sig .tc := ⟨.hbm, 49, rfl⟩
abbrev main_v35 : Ref sig .tc := ⟨.hbm, 50, rfl⟩
abbrev main_v36 : Ref sig .tc := ⟨.hbm, 51, rfl⟩
abbrev main_v37 : Ref sig .tc := ⟨.hbm, 52, rfl⟩
abbrev main_v38 : Ref sig .tc := ⟨.hbm, 53, rfl⟩
abbrev main_v39 : Ref sig .tc := ⟨.hbm, 54, rfl⟩
abbrev main_v40 : Ref sig .tc := ⟨.hbm, 55, rfl⟩
abbrev main_v41 : Ref sig .tc := ⟨.hbm, 56, rfl⟩
abbrev main_v42 : Ref sig .tc := ⟨.hbm, 57, rfl⟩
abbrev main_v43 : Ref sig .tc := ⟨.hbm, 58, rfl⟩
abbrev main_v44 : Ref sig .tc := ⟨.hbm, 59, rfl⟩
abbrev main_cst_7 : Ref sig .tc := ⟨.hbm, 60, rfl⟩
abbrev main_v45 : Ref sig .tc := ⟨.hbm, 61, rfl⟩
abbrev main_v46 : Ref sig .tc := ⟨.hbm, 62, rfl⟩
abbrev main_v47 : Ref sig .tc := ⟨.hbm, 63, rfl⟩
abbrev main_cst_8 : Ref sig .tc := ⟨.hbm, 64, rfl⟩
abbrev main_v48 : Ref sig .tc := ⟨.hbm, 65, rfl⟩
abbrev main_cst_9 : Ref sig .tc := ⟨.hbm, 66, rfl⟩
abbrev main_v49 : Ref sig .tc := ⟨.hbm, 67, rfl⟩
abbrev main_v50 : Ref sig .tc := ⟨.hbm, 68, rfl⟩
abbrev main_cst_10 : Ref sig .tc := ⟨.hbm, 69, rfl⟩
abbrev main_v51 : Ref sig .tc := ⟨.hbm, 70, rfl⟩
abbrev main_v52 : Ref sig .tc := ⟨.hbm, 71, rfl⟩
abbrev main_v53 : Ref sig .tc := ⟨.hbm, 72, rfl⟩
abbrev main_v54 : Ref sig .tc := ⟨.hbm, 73, rfl⟩
abbrev main_v55 : Ref sig .tc := ⟨.hbm, 74, rfl⟩
abbrev main_v56 : Ref sig .tc := ⟨.hbm, 75, rfl⟩
abbrev main_v57 : Ref sig .tc := ⟨.hbm, 76, rfl⟩
abbrev main_v58 : Ref sig .tc := ⟨.hbm, 77, rfl⟩
abbrev main_v59 : Ref sig .tc := ⟨.hbm, 78, rfl⟩
abbrev main_v60 : Ref sig .tc := ⟨.hbm, 79, rfl⟩
abbrev main_v61 : Ref sig .tc := ⟨.hbm, 80, rfl⟩
abbrev main_v62 : Ref sig .tc := ⟨.hbm, 81, rfl⟩
abbrev main_cst_11 : Ref sig .tc := ⟨.hbm, 82, rfl⟩
abbrev main_v63 : Ref sig .tc := ⟨.hbm, 83, rfl⟩
abbrev main_v64 : Ref sig .tc := ⟨.hbm, 84, rfl⟩
abbrev main_v65 : Ref sig .tc := ⟨.hbm, 85, rfl⟩
abbrev main_cst_12 : Ref sig .tc := ⟨.hbm, 86, rfl⟩
abbrev main_v66 : Ref sig .tc := ⟨.hbm, 87, rfl⟩
abbrev main_cst_13 : Ref sig .tc := ⟨.hbm, 88, rfl⟩
abbrev main_v67 : Ref sig .tc := ⟨.hbm, 89, rfl⟩
abbrev main_v68 : Ref sig .tc := ⟨.hbm, 90, rfl⟩
abbrev main_cst_14 : Ref sig .tc := ⟨.hbm, 91, rfl⟩
abbrev main_v69 : Ref sig .tc := ⟨.hbm, 92, rfl⟩
abbrev main_v70 : Ref sig .tc := ⟨.hbm, 93, rfl⟩
abbrev main_v71 : Ref sig .tc := ⟨.hbm, 94, rfl⟩
abbrev main_v72 : Ref sig .tc := ⟨.hbm, 95, rfl⟩
abbrev main_v73 : Ref sig .tc := ⟨.hbm, 96, rfl⟩
abbrev main_v74 : Ref sig .tc := ⟨.hbm, 97, rfl⟩
abbrev main_v75 : Ref sig .tc := ⟨.hbm, 98, rfl⟩
abbrev main_v76 : Ref sig .tc := ⟨.hbm, 99, rfl⟩
abbrev main_v77 : Ref sig .tc := ⟨.hbm, 100, rfl⟩
abbrev main_v78 : Ref sig .tc := ⟨.hbm, 101, rfl⟩
abbrev main_v79 : Ref sig .tc := ⟨.hbm, 102, rfl⟩
abbrev main_v80 : Ref sig .tc := ⟨.hbm, 103, rfl⟩
abbrev main_v81 : Ref sig .tc := ⟨.hbm, 104, rfl⟩
abbrev main_v82 : Ref sig .tc := ⟨.hbm, 105, rfl⟩
abbrev main_v83 : Ref sig .tc := ⟨.hbm, 106, rfl⟩
abbrev main_v84 : Ref sig .tc := ⟨.hbm, 107, rfl⟩
abbrev main_v85 : Ref sig .tc := ⟨.hbm, 108, rfl⟩
abbrev main_v86 : Ref sig .tc := ⟨.hbm, 109, rfl⟩
abbrev main_v87 : Ref sig .tc := ⟨.hbm, 110, rfl⟩
abbrev main_v88 : Ref sig .tc := ⟨.hbm, 111, rfl⟩
abbrev main_v89 : Ref sig .tc := ⟨.hbm, 112, rfl⟩
abbrev main_v90 : Ref sig .tc := ⟨.hbm, 113, rfl⟩
abbrev main_v91 : Ref sig .tc := ⟨.hbm, 114, rfl⟩
abbrev main_v92 : Ref sig .tc := ⟨.hbm, 115, rfl⟩
abbrev main_v93 : Ref sig .tc := ⟨.hbm, 116, rfl⟩
abbrev main_v94 : Ref sig .tc := ⟨.hbm, 117, rfl⟩
abbrev main_cst_15 : Ref sig .tc := ⟨.hbm, 118, rfl⟩
abbrev main_v95 : Ref sig .tc := ⟨.hbm, 119, rfl⟩
abbrev main_v96 : Ref sig .tc := ⟨.hbm, 120, rfl⟩
abbrev main_v97 : Ref sig .tc := ⟨.hbm, 121, rfl⟩
abbrev main_v98 : Ref sig .tc := ⟨.hbm, 122, rfl⟩
abbrev main_cst_16 : Ref sig .tc := ⟨.hbm, 123, rfl⟩
abbrev main_v99 : Ref sig .tc := ⟨.hbm, 124, rfl⟩
abbrev main_v100 : Ref sig .tc := ⟨.hbm, 125, rfl⟩
abbrev main_v101 : Ref sig .tc := ⟨.hbm, 126, rfl⟩
abbrev main_v102 : Ref sig .tc := ⟨.hbm, 127, rfl⟩
abbrev main_v103 : Ref sig .tc := ⟨.hbm, 128, rfl⟩
abbrev main_v104 : Ref sig .tc := ⟨.hbm, 129, rfl⟩
abbrev main_v105 : Ref sig .tc := ⟨.hbm, 130, rfl⟩
abbrev main_v106 : Ref sig .tc := ⟨.hbm, 131, rfl⟩
abbrev main_v107 : Ref sig .tc := ⟨.hbm, 132, rfl⟩
abbrev main_v108 : Ref sig .tc := ⟨.hbm, 133, rfl⟩
abbrev main_v109 : Ref sig .tc := ⟨.hbm, 134, rfl⟩
abbrev main_v110 : Ref sig .tc := ⟨.hbm, 135, rfl⟩
abbrev main_v111 : Ref sig .tc := ⟨.hbm, 136, rfl⟩
abbrev main_v112 : Ref sig .tc := ⟨.hbm, 137, rfl⟩
abbrev main_v113 : Ref sig .tc := ⟨.hbm, 138, rfl⟩
abbrev main_v114 : Ref sig .tc := ⟨.hbm, 139, rfl⟩
abbrev main_v115 : Ref sig .tc := ⟨.hbm, 140, rfl⟩
abbrev main_v116 : Ref sig .tc := ⟨.hbm, 141, rfl⟩
abbrev main_cst_17 : Ref sig .tc := ⟨.hbm, 142, rfl⟩
abbrev main_v117 : Ref sig .tc := ⟨.hbm, 143, rfl⟩
abbrev main_v118 : Ref sig .tc := ⟨.hbm, 144, rfl⟩
abbrev main_v119 : Ref sig .tc := ⟨.hbm, 145, rfl⟩
abbrev main_v120 : Ref sig .tc := ⟨.hbm, 146, rfl⟩
abbrev main_v121 : Ref sig .tc := ⟨.hbm, 147, rfl⟩
abbrev main_v122 : Ref sig .tc := ⟨.hbm, 148, rfl⟩
abbrev main_cst_18 : Ref sig .tc := ⟨.hbm, 149, rfl⟩
abbrev main_v123 : Ref sig .tc := ⟨.hbm, 150, rfl⟩
abbrev main_v124 : Ref sig .tc := ⟨.hbm, 151, rfl⟩
abbrev main_v125 : Ref sig .tc := ⟨.hbm, 152, rfl⟩
abbrev main_cst_19 : Ref sig .tc := ⟨.hbm, 153, rfl⟩
abbrev main_v126 : Ref sig .tc := ⟨.hbm, 154, rfl⟩
abbrev main_v127 : Ref sig .tc := ⟨.hbm, 155, rfl⟩
abbrev main_v128 : Ref sig .tc := ⟨.hbm, 156, rfl⟩
abbrev main_cst_20 : Ref sig .tc := ⟨.hbm, 157, rfl⟩
abbrev main_v129 : Ref sig .tc := ⟨.hbm, 158, rfl⟩
abbrev main_v130 : Ref sig .tc := ⟨.hbm, 159, rfl⟩
abbrev main_v131 : Ref sig .tc := ⟨.hbm, 160, rfl⟩
abbrev main_v132 : Ref sig .tc := ⟨.hbm, 161, rfl⟩
abbrev main_v133 : Ref sig .tc := ⟨.hbm, 162, rfl⟩
abbrev main_v134 : Ref sig .tc := ⟨.hbm, 163, rfl⟩
abbrev main_v135 : Ref sig .tc := ⟨.hbm, 164, rfl⟩
abbrev main_cst_21 : Ref sig .tc := ⟨.hbm, 165, rfl⟩
abbrev main_v136 : Ref sig .tc := ⟨.hbm, 166, rfl⟩
abbrev main_v137 : Ref sig .tc := ⟨.hbm, 167, rfl⟩
abbrev main_v138 : Ref sig .tc := ⟨.hbm, 168, rfl⟩
abbrev main_cst_22 : Ref sig .tc := ⟨.hbm, 169, rfl⟩
abbrev main_v139 : Ref sig .tc := ⟨.hbm, 170, rfl⟩
abbrev main_v140 : Ref sig .tc := ⟨.hbm, 171, rfl⟩
abbrev main_v141 : Ref sig .tc := ⟨.hbm, 172, rfl⟩
abbrev main_v142 : Ref sig .tc := ⟨.hbm, 173, rfl⟩
abbrev main_cst_23 : Ref sig .tc := ⟨.hbm, 174, rfl⟩
abbrev main_v143 : Ref sig .tc := ⟨.hbm, 175, rfl⟩
abbrev main_v144 : Ref sig .tc := ⟨.hbm, 176, rfl⟩
abbrev main_v145 : Ref sig .tc := ⟨.hbm, 177, rfl⟩
abbrev main_v146 : Ref sig .tc := ⟨.hbm, 178, rfl⟩
abbrev main_v147 : Ref sig .tc := ⟨.hbm, 179, rfl⟩
abbrev main_v148 : Ref sig .tc := ⟨.hbm, 180, rfl⟩
abbrev main_v149 : Ref sig .tc := ⟨.hbm, 181, rfl⟩
abbrev main_cst_24 : Ref sig .tc := ⟨.hbm, 182, rfl⟩
abbrev main_v150 : Ref sig .tc := ⟨.hbm, 183, rfl⟩
abbrev main_v151 : Ref sig .tc := ⟨.hbm, 184, rfl⟩
abbrev main_v152 : Ref sig .tc := ⟨.hbm, 185, rfl⟩
abbrev main_cst_25 : Ref sig .tc := ⟨.hbm, 186, rfl⟩
abbrev main_v153 : Ref sig .tc := ⟨.hbm, 187, rfl⟩
abbrev main_v154 : Ref sig .tc := ⟨.hbm, 188, rfl⟩
abbrev main_v155 : Ref sig .tc := ⟨.hbm, 189, rfl⟩
abbrev main_v156 : Ref sig .tc := ⟨.hbm, 190, rfl⟩
abbrev main_cst_26 : Ref sig .tc := ⟨.hbm, 191, rfl⟩
abbrev main_v157 : Ref sig .tc := ⟨.hbm, 192, rfl⟩
abbrev main_v158 : Ref sig .tc := ⟨.hbm, 193, rfl⟩
abbrev main_v159 : Ref sig .tc := ⟨.hbm, 194, rfl⟩
abbrev main_v160 : Ref sig .tc := ⟨.hbm, 195, rfl⟩
abbrev main_v161 : Ref sig .tc := ⟨.hbm, 196, rfl⟩
abbrev main_v162 : Ref sig .tc := ⟨.hbm, 197, rfl⟩
abbrev main_v163 : Ref sig .tc := ⟨.hbm, 198, rfl⟩
abbrev main_cst_27 : Ref sig .tc := ⟨.hbm, 199, rfl⟩
abbrev main_v164 : Ref sig .tc := ⟨.hbm, 200, rfl⟩
abbrev main_v165 : Ref sig .tc := ⟨.hbm, 201, rfl⟩
abbrev main_v166 : Ref sig .tc := ⟨.hbm, 202, rfl⟩
abbrev main_cst_28 : Ref sig .tc := ⟨.hbm, 203, rfl⟩
abbrev main_v167 : Ref sig .tc := ⟨.hbm, 204, rfl⟩
abbrev main_v168 : Ref sig .tc := ⟨.hbm, 205, rfl⟩
abbrev main_call1_call0_cst : Ref sig .tc := ⟨.hbm, 206, rfl⟩
abbrev main_call1_call0_v0 : Ref sig .tc := ⟨.hbm, 207, rfl⟩
abbrev main_v169 : Ref sig .tc := ⟨.hbm, 208, rfl⟩
abbrev main_v170 : Ref sig .tc := ⟨.hbm, 209, rfl⟩
abbrev main_v171 : Ref sig .tc := ⟨.hbm, 210, rfl⟩
abbrev main_cst_29 : Ref sig .tc := ⟨.hbm, 211, rfl⟩
abbrev main_v172 : Ref sig .tc := ⟨.hbm, 212, rfl⟩

abbrev nD : Nat := 1
abbrev τ : Topo := Topo.v7x

variable {F : FTy → Type} [FloatOps F]
-- ==== Kernel3.lean ====
abbrev S4096x1024 : Shape := ⟨2, ![4096, 1024]⟩
abbrev S4096x4096 : Shape := ⟨2, ![4096, 4096]⟩
abbrev S512x1024 : Shape := ⟨2, ![512, 1024]⟩
abbrev S512x4096 : Shape := ⟨2, ![512, 4096]⟩

abbrev nBuf : Space → Nat
  | .hbm => 4
  | .vmem => 7
  | .smem => 0
  | _ => 0

abbrev bufTy : (tb : Table) → Fin (tcTables nBuf tb) → BufTy
  | .hbm, ⟨0, _⟩ => ⟨S4096x1024, .bf16⟩
  | .hbm, ⟨1, _⟩ => ⟨S4096x1024, .bf16⟩
  | .hbm, ⟨2, _⟩ => ⟨S4096x4096, .bf16⟩
  | .hbm, ⟨3, _⟩ => ⟨S4096x4096, .bf16⟩
  | .local _ .vmem, ⟨0, _⟩ => ⟨S512x1024, .bf16⟩
  | .local _ .vmem, ⟨1, _⟩ => ⟨S512x1024, .bf16⟩
  | .local _ .vmem, ⟨2, _⟩ => ⟨S4096x1024, .bf16⟩
  | .local _ .vmem, ⟨3, _⟩ => ⟨S512x4096, .bf16⟩
  | .local _ .vmem, ⟨4, _⟩ => ⟨S512x4096, .bf16⟩
  | .local _ .vmem, ⟨5, _⟩ => ⟨S512x4096, .bf16⟩
  | .local _ .vmem, ⟨6, _⟩ => ⟨S512x4096, .bf16⟩
  | _, _ => ⟨S4096x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨3, ![8, 1, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S4096x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 2 → Memref sig .tc .vmem S512x4096 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S512x4096 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]
-- ==== Reference3Ideal.lean ====
abbrev S4096x1024 : Shape := ⟨2, ![4096, 1024]⟩
abbrev S4096x4096 : Shape := ⟨2, ![4096, 4096]⟩
abbrev S_ : Shape := ⟨0, ![]⟩

abbrev nBuf : Space → Nat
  | .hbm => 25
  | .vmem => 0
  | .smem => 0
  | _ => 0

abbrev bufTy : (tb : Table) → Fin (tcTables nBuf tb) → BufTy
  | .hbm, ⟨0, _⟩ => ⟨S4096x1024, .bf16⟩
  | .hbm, ⟨1, _⟩ => ⟨S4096x1024, .bf16⟩
  | .hbm, ⟨2, _⟩ => ⟨S4096x4096, .bf16⟩
  | .hbm, ⟨3, _⟩ => ⟨S4096x1024, .f32⟩
  | .hbm, ⟨4, _⟩ => ⟨S4096x4096, .f32⟩
  | .hbm, ⟨5, _⟩ => ⟨S_, .f32⟩
  | .hbm, ⟨6, _⟩ => ⟨S4096x4096, .f32⟩
  | .hbm, ⟨7, _⟩ => ⟨S4096x4096, .f32⟩
  | .hbm, ⟨8, _⟩ => ⟨S_, .f32⟩
  | .hbm, ⟨9, _⟩ => ⟨S4096x4096, .f32⟩
  | .hbm, ⟨10, _⟩ => ⟨S4096x4096, .i1⟩
  | .hbm, ⟨11, _⟩ => ⟨S_, .f32⟩
  | .hbm, ⟨12, _⟩ => ⟨S4096x4096, .f32⟩
  | .hbm, ⟨13, _⟩ => ⟨S4096x4096, .f32⟩
  | .hbm, ⟨14, _⟩ => ⟨S_, .f32⟩
  | .hbm, ⟨15, _⟩ => ⟨S4096x4096, .f32⟩
  | .hbm, ⟨16, _⟩ => ⟨S4096x4096, .f32⟩
  | .hbm, ⟨17, _⟩ => ⟨S4096x1024, .f32⟩
  | .hbm, ⟨18, _⟩ => ⟨S4096x1024, .f32⟩
  | .hbm, ⟨19, _⟩ => ⟨S4096x4096, .f32⟩
  | .hbm, ⟨20, _⟩ => ⟨S4096x4096, .f32⟩
  | .hbm, ⟨21, _⟩ => ⟨S_, .f32⟩
  | .hbm, ⟨22, _⟩ => ⟨S4096x4096, .f32⟩
  | .hbm, ⟨23, _⟩ => ⟨S4096x4096, .f32⟩
  | .hbm, ⟨24, _⟩ => ⟨S4096x4096, .bf16⟩
  | _, _ => ⟨S4096x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_call0_cst : Ref sig .tc := ⟨.hbm, 5, rfl⟩
abbrev main_call0_v0 : Ref sig .tc := ⟨.hbm, 6, rfl⟩
abbrev main_v2 : Ref sig .tc := ⟨.hbm, 7, rfl⟩
abbrev main_cst : Ref sig .tc := ⟨.hbm, 8, rfl⟩
abbrev main_v3 : Ref sig .tc := ⟨.hbm, 9, rfl⟩
abbrev main_v4 : Ref sig .tc := ⟨.hbm, 10, rfl⟩
abbrev main_cst_0 : Ref sig .tc := ⟨.hbm, 11, rfl⟩
abbrev main_v5 : Ref sig .tc := ⟨.hbm, 12, rfl⟩
abbrev main_v6 : Ref sig .tc := ⟨.hbm, 13, rfl⟩
abbrev main_cst_1 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_cst_2 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩

abbrev nD : Nat := 1
abbrev τ : Topo := Topo.v7x

variable {F : FTy → Type} [FloatOps F]
-- ==== Kernel4.lean ====
abbrev S4096x4096 : Shape := ⟨2, ![4096, 4096]⟩
abbrev S4096x1024 : Shape := ⟨2, ![4096, 1024]⟩
abbrev S4096x512 : Shape := ⟨2, ![4096, 512]⟩
abbrev S512x1024 : Shape := ⟨2, ![512, 1024]⟩

abbrev nBuf : Space → Nat
  | .hbm => 3
  | .vmem => 5
  | .smem => 0
  | _ => 0

abbrev bufTy : (tb : Table) → Fin (tcTables nBuf tb) → BufTy
  | .hbm, ⟨0, _⟩ => ⟨S4096x4096, .bf16⟩
  | .hbm, ⟨1, _⟩ => ⟨S4096x1024, .bf16⟩
  | .hbm, ⟨2, _⟩ => ⟨S4096x1024, .f32⟩
  | .local _ .vmem, ⟨0, _⟩ => ⟨S4096x512, .bf16⟩
  | .local _ .vmem, ⟨1, _⟩ => ⟨S4096x512, .bf16⟩
  | .local _ .vmem, ⟨2, _⟩ => ⟨S4096x1024, .bf16⟩
  | .local _ .vmem, ⟨3, _⟩ => ⟨S512x1024, .f32⟩
  | .local _ .vmem, ⟨4, _⟩ => ⟨S512x1024, .f32⟩
  | _, _ => ⟨S4096x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![8, 1, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S4096x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S4096x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference4Ideal.lean ====
abbrev S4096x4096 : Shape := ⟨2, ![4096, 4096]⟩
abbrev S4096x1024 : Shape := ⟨2, ![4096, 1024]⟩
abbrev S_ : Shape := ⟨0, ![]⟩
abbrev S1024x4096 : Shape := ⟨2, ![1024, 4096]⟩

abbrev nBuf : Space → Nat
  | .hbm => 9
  | .vmem => 0
  | .smem => 0
  | _ => 0

abbrev bufTy : (tb : Table) → Fin (tcTables nBuf tb) → BufTy
  | .hbm, ⟨0, _⟩ => ⟨S4096x4096, .bf16⟩
  | .hbm, ⟨1, _⟩ => ⟨S4096x1024, .bf16⟩
  | .hbm, ⟨2, _⟩ => ⟨S4096x4096, .f32⟩
  | .hbm, ⟨3, _⟩ => ⟨S_, .f32⟩
  | .hbm, ⟨4, _⟩ => ⟨S4096x1024, .f32⟩
  | .hbm, ⟨5, _⟩ => ⟨S4096x1024, .f32⟩
  | .hbm, ⟨6, _⟩ => ⟨S4096x1024, .f32⟩
  | .hbm, ⟨7, _⟩ => ⟨S1024x4096, .f32⟩
  | .hbm, ⟨8, _⟩ => ⟨S4096x1024, .f32⟩
  | _, _ => ⟨S4096x4096, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩

abbrev nD : Nat := 1
abbrev τ : Topo := Topo.v7x

variable {F : FTy → Type} [FloatOps F]
-- ==== Kernel5.lean ====
abbrev S4096x1024 : Shape := ⟨2, ![4096, 1024]⟩
abbrev S4096x4096 : Shape := ⟨2, ![4096, 4096]⟩
abbrev S8x1024x512 : Shape := ⟨3, ![8, 1024, 512]⟩
abbrev S4096x512 : Shape := ⟨2, ![4096, 512]⟩
abbrev S1x1024x512 : Shape := ⟨3, ![1, 1024, 512]⟩
abbrev S1024x512 : Shape := ⟨2, ![1024, 512]⟩

abbrev nBuf : Space → Nat
  | .hbm => 3
  | .vmem => 5
  | .smem => 0
  | _ => 0

abbrev bufTy : (tb : Table) → Fin (tcTables nBuf tb) → BufTy
  | .hbm, ⟨0, _⟩ => ⟨S4096x1024, .bf16⟩
  | .hbm, ⟨1, _⟩ => ⟨S4096x4096, .bf16⟩
  | .hbm, ⟨2, _⟩ => ⟨S8x1024x512, .f32⟩
  | .local _ .vmem, ⟨0, _⟩ => ⟨S4096x1024, .bf16⟩
  | .local _ .vmem, ⟨1, _⟩ => ⟨S4096x512, .bf16⟩
  | .local _ .vmem, ⟨2, _⟩ => ⟨S4096x512, .bf16⟩
  | .local _ .vmem, ⟨3, _⟩ => ⟨S1x1024x512, .f32⟩
  | .local _ .vmem, ⟨4, _⟩ => ⟨S1x1024x512, .f32⟩
  | _, _ => ⟨S4096x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![1, 8, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg1.toNat, arg0.toNat, c0_i32.toNat]

abbrev stage0_0 : Fin 1 → Memref sig .tc .vmem S4096x1024 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true, false, true]

abbrev stage0_1 : Fin 2 → Memref sig .tc .vmem S4096x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1x1024x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference5Ideal.lean ====
abbrev S4096x1024 : Shape := ⟨2, ![4096, 1024]⟩
abbrev S4096x4096 : Shape := ⟨2, ![4096, 4096]⟩
abbrev S_ : Shape := ⟨0, ![]⟩
abbrev S8x1024x512 : Shape := ⟨3, ![8, 1024, 512]⟩
abbrev S1024x8x512 : Shape := ⟨3, ![1024, 8, 512]⟩
abbrev S1024x4096 : Shape := ⟨2, ![1024, 4096]⟩

abbrev nBuf : Space → Nat
  | .hbm => 13
  | .vmem => 0
  | .smem => 0
  | _ => 0

abbrev bufTy : (tb : Table) → Fin (tcTables nBuf tb) → BufTy
  | .hbm, ⟨0, _⟩ => ⟨S4096x1024, .bf16⟩
  | .hbm, ⟨1, _⟩ => ⟨S4096x4096, .bf16⟩
  | .hbm, ⟨2, _⟩ => ⟨S4096x1024, .f32⟩
  | .hbm, ⟨3, _⟩ => ⟨S_, .f32⟩
  | .hbm, ⟨4, _⟩ => ⟨S8x1024x512, .f32⟩
  | .hbm, ⟨5, _⟩ => ⟨S1024x8x512, .f32⟩
  | .hbm, ⟨6, _⟩ => ⟨S1024x4096, .f32⟩
  | .hbm, ⟨7, _⟩ => ⟨S4096x4096, .f32⟩
  | .hbm, ⟨8, _⟩ => ⟨S4096x4096, .f32⟩
  | .hbm, ⟨9, _⟩ => ⟨S4096x1024, .f32⟩
  | .hbm, ⟨10, _⟩ => ⟨S1024x4096, .f32⟩
  | .hbm, ⟨11, _⟩ => ⟨S1024x8x512, .f32⟩
  | .hbm, ⟨12, _⟩ => ⟨S8x1024x512, .f32⟩
  | _, _ => ⟨S4096x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩

abbrev nD : Nat := 1
abbrev τ : Topo := Topo.v7x

variable {F : FTy → Type} [FloatOps F]
-- ==== Kernel6.lean ====
abbrev S4096x4096 : Shape := ⟨2, ![4096, 4096]⟩
abbrev S8x1024x512 : Shape := ⟨3, ![8, 1024, 512]⟩
abbrev S4096x1024 : Shape := ⟨2, ![4096, 1024]⟩
abbrev S1x1024 : Shape := ⟨2, ![1, 1024]⟩
abbrev S_ : Shape := ⟨0, ![]⟩
abbrev S4096 : Shape := ⟨1, ![4096]⟩
abbrev S4096x1 : Shape := ⟨2, ![4096, 1]⟩
abbrev S512x4096 : Shape := ⟨2, ![512, 4096]⟩
abbrev S512x1024 : Shape := ⟨2, ![512, 1024]⟩
abbrev S512x1 : Shape := ⟨2, ![512, 1]⟩
abbrev S512x512 : Shape := ⟨2, ![512, 512]⟩
abbrev S1x1024x512 : Shape := ⟨3, ![1, 1024, 512]⟩
abbrev S1024x512 : Shape := ⟨2, ![1024, 512]⟩
abbrev S512 : Shape := ⟨1, ![512]⟩
abbrev S1024 : Shape := ⟨1, ![1024]⟩

abbrev nBuf : Space → Nat
  | .hbm => 49
  | .vmem => 21
  | .smem => 0
  | _ => 0

abbrev bufTy : (tb : Table) → Fin (tcTables nBuf tb) → BufTy
  | .hbm, ⟨0, _⟩ => ⟨S4096x4096, .bf16⟩
  | .hbm, ⟨1, _⟩ => ⟨S8x1024x512, .bf16⟩
  | .hbm, ⟨2, _⟩ => ⟨S4096x1024, .f32⟩
  | .hbm, ⟨3, _⟩ => ⟨S4096x1024, .f32⟩
  | .hbm, ⟨4, _⟩ => ⟨S4096x1024, .f32⟩
  | .hbm, ⟨5, _⟩ => ⟨S1x1024, .f32⟩
  | .hbm, ⟨6, _⟩ => ⟨S1x1024, .f32⟩
  | .hbm, ⟨7, _⟩ => ⟨S4096x1024, .f32⟩
  | .hbm, ⟨8, _⟩ => ⟨S_, .f32⟩
  | .hbm, ⟨9, _⟩ => ⟨S4096, .f32⟩
  | .hbm, ⟨10, _⟩ => ⟨S4096x1, .f32⟩
  | .hbm, ⟨11, _⟩ => ⟨S_, .f32⟩
  | .hbm, ⟨12, _⟩ => ⟨S4096x1, .f32⟩
  | .hbm, ⟨13, _⟩ => ⟨S4096x1, .f32⟩
  | .hbm, ⟨14, _⟩ => ⟨S_, .f32⟩
  | .hbm, ⟨15, _⟩ => ⟨S4096x1, .f32⟩
  | .hbm, ⟨16, _⟩ => ⟨S4096x1, .f32⟩
  | .hbm, ⟨17, _⟩ => ⟨S4096x1, .f32⟩
  | .hbm, ⟨18, _⟩ => ⟨S4096x1024, .f32⟩
  | .hbm, ⟨19, _⟩ => ⟨S4096x1024, .f32⟩
  | .hbm, ⟨20, _⟩ => ⟨S4096x1024, .f32⟩
  | .hbm, ⟨21, _⟩ => ⟨S4096x1024, .f32⟩
  | .hbm, ⟨22, _⟩ => ⟨S4096x1024, .f32⟩
  | .hbm, ⟨23, _⟩ => ⟨S4096x1024, .f32⟩
  | .hbm, ⟨24, _⟩ => ⟨S_, .f32⟩
  | .hbm, ⟨25, _⟩ => ⟨S4096, .f32⟩
  | .hbm, ⟨26, _⟩ => ⟨S4096x1, .f32⟩
  | .hbm, ⟨27, _⟩ => ⟨S_, .f32⟩
  | .hbm, ⟨28, _⟩ => ⟨S4096x1, .f32⟩
  | .hbm, ⟨29, _⟩ => ⟨S4096x1, .f32⟩
  | .hbm, ⟨30, _⟩ => ⟨S_, .f32⟩
  | .hbm, ⟨31, _⟩ => ⟨S4096x1, .f32⟩
  | .hbm, ⟨32, _⟩ => ⟨S4096x1, .f32⟩
  | .hbm, ⟨33, _⟩ => ⟨S4096x1, .f32⟩
  | .hbm, ⟨34, _⟩ => ⟨S4096x1024, .f32⟩
  | .hbm, ⟨35, _⟩ => ⟨S_, .f32⟩
  | .hbm, ⟨36, _⟩ => ⟨S4096, .f32⟩
  | .hbm, ⟨37, _⟩ => ⟨S4096x1, .f32⟩
  | .hbm, ⟨38, _⟩ => ⟨S_, .f32⟩
  | .hbm, ⟨39, _⟩ => ⟨S4096x1, .f32⟩
  | .hbm, ⟨40, _⟩ => ⟨S4096x1, .f32⟩
  | .hbm, ⟨41, _⟩ => ⟨S_, .f32⟩
  | .hbm, ⟨42, _⟩ => ⟨S4096x1, .f32⟩
  | .hbm, ⟨43, _⟩ => ⟨S4096x1, .f32⟩
  | .hbm, ⟨44, _⟩ => ⟨S4096x1, .f32⟩
  | .hbm, ⟨45, _⟩ => ⟨S4096x1024, .f32⟩
  | .hbm, ⟨46, _⟩ => ⟨S1x1024, .f32⟩
  | .hbm, ⟨47, _⟩ => ⟨S4096x1024, .bf16⟩
  | .hbm, ⟨48, _⟩ => ⟨S1x1024, .f32⟩
  | .local _ .vmem, ⟨0, _⟩ => ⟨S512x4096, .bf16⟩
  | .local _ .vmem, ⟨1, _⟩ => ⟨S512x4096, .bf16⟩
  | .local _ .vmem, ⟨2, _⟩ => ⟨S8x1024x512, .bf16⟩
  | .local _ .vmem, ⟨3, _⟩ => ⟨S512x1024, .f32⟩
  | .local _ .vmem, ⟨4, _⟩ => ⟨S512x1024, .f32⟩
  | .local _ .vmem, ⟨5, _⟩ => ⟨S512x1024, .f32⟩
  | .local _ .vmem, ⟨6, _⟩ => ⟨S512x1024, .f32⟩
  | .local _ .vmem, ⟨7, _⟩ => ⟨S512x1024, .f32⟩
  | .local _ .vmem, ⟨8, _⟩ => ⟨S512x1024, .f32⟩
  | .local _ .vmem, ⟨9, _⟩ => ⟨S512x1, .f32⟩
  | .local _ .vmem, ⟨10, _⟩ => ⟨S512x1, .f32⟩
  | .local _ .vmem, ⟨11, _⟩ => ⟨S512x1, .f32⟩
  | .local _ .vmem, ⟨12, _⟩ => ⟨S512x1, .f32⟩
  | .local _ .vmem, ⟨13, _⟩ => ⟨S1x1024, .f32⟩
  | .local _ .vmem, ⟨14, _⟩ => ⟨S1x1024, .f32⟩
  | .local _ .vmem, ⟨15, _⟩ => ⟨S512x1024, .f32⟩
  | .local _ .vmem, ⟨16, _⟩ => ⟨S512x1024, .f32⟩
  | .local _ .vmem, ⟨17, _⟩ => ⟨S1x1024, .f32⟩
  | .local _ .vmem, ⟨18, _⟩ => ⟨S512x1024, .bf16⟩
  | .local _ .vmem, ⟨19, _⟩ => ⟨S512x1024, .bf16⟩
  | .local _ .vmem, ⟨20, _⟩ => ⟨S1x1024, .f32⟩
  | _, _ => ⟨S4096x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | _, _ => false

abbrev semScoped : Fin 0 → Bool
  | ⟨_, h⟩ => absurd h (Nat.not_lt_zero _)

abbrev dmaSemScoped : Fin 21 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | _ => false

abbrev sig : RefSig :=
  ofTc nBuf bufTy 0 21 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_cst : Ref sig .tc := ⟨.hbm, 8, rfl⟩
abbrev main_v1 : Ref sig .tc := ⟨.hbm, 9, rfl⟩
abbrev main_v2 : Ref sig .tc := ⟨.hbm, 10, rfl⟩
abbrev main_cst_0 : Ref sig .tc := ⟨.hbm, 11, rfl⟩
abbrev main_v3 : Ref sig .tc := ⟨.hbm, 12, rfl⟩
abbrev main_v4 : Ref sig .tc := ⟨.hbm, 13, rfl⟩
abbrev main_cst_1 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_cst_2 : Ref sig .tc := ⟨.hbm, 24, rfl⟩
abbrev main_v14 : Ref sig .tc := ⟨.hbm, 25, rfl⟩
abbrev main_v15 : Ref sig .tc := ⟨.hbm, 26, rfl⟩
abbrev main_cst_3 : Ref sig .tc := ⟨.hbm, 27, rfl⟩
abbrev main_v16 : Ref sig .tc := ⟨.hbm, 28, rfl⟩
abbrev main_v17 : Ref sig .tc := ⟨.hbm, 29, rfl⟩
abbrev main_cst_4 : Ref sig .tc := ⟨.hbm, 30, rfl⟩
abbrev main_v18 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_cst_5 : Ref sig .tc := ⟨.hbm, 35, rfl⟩
abbrev main_v22 : Ref sig .tc := ⟨.hbm, 36, rfl⟩
abbrev main_v23 : Ref sig .tc := ⟨.hbm, 37, rfl⟩
abbrev main_cst_6 : Ref sig .tc := ⟨.hbm, 38, rfl⟩
abbrev main_v24 : Ref sig .tc := ⟨.hbm, 39, rfl⟩
abbrev main_v25 : Ref sig .tc := ⟨.hbm, 40, rfl⟩
abbrev main_cst_7 : Ref sig .tc := ⟨.hbm, 41, rfl⟩
abbrev main_v26 : Ref sig .tc := ⟨.hbm, 42, rfl⟩
abbrev main_v27 : Ref sig .tc := ⟨.hbm, 43, rfl⟩
abbrev main_v28 : Ref sig .tc := ⟨.hbm, 44, rfl⟩
abbrev main_v29_0 : Ref sig .tc := ⟨.hbm, 45, rfl⟩
abbrev main_v29_1 : Ref sig .tc := ⟨.hbm, 46, rfl⟩
abbrev main_v29_2 : Ref sig .tc := ⟨.hbm, 47, rfl⟩
abbrev main_v29_3 : Ref sig .tc := ⟨.hbm, 48, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_stg6_1 : Ref sig .tc := ⟨.vmem, 12, rfl⟩
abbrev cc0_stg7_0 : Ref sig .tc := ⟨.vmem, 13, rfl⟩
abbrev cc0_stg8_0 : Ref sig .tc := ⟨.vmem, 14, rfl⟩
abbrev cc0_stg9_0 : Ref sig .tc := ⟨.vmem, 15, rfl⟩
abbrev cc0_stg9_1 : Ref sig .tc := ⟨.vmem, 16, rfl⟩
abbrev cc0_stg10_0 : Ref sig .tc := ⟨.vmem, 17, rfl⟩
abbrev cc0_stg11_0 : Ref sig .tc := ⟨.vmem, 18, rfl⟩
abbrev cc0_stg11_1 : Ref sig .tc := ⟨.vmem, 19, rfl⟩
abbrev cc0_stg12_0 : Ref sig .tc := ⟨.vmem, 20, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11
abbrev cc0_sem6_1 : DmaSem sig := 12
abbrev cc0_sem7_0 : DmaSem sig := 13
abbrev cc0_sem8_0 : DmaSem sig := 14
abbrev cc0_sem9_0 : DmaSem sig := 15
abbrev cc0_sem9_1 : DmaSem sig := 16
abbrev cc0_sem10_0 : DmaSem sig := 17
abbrev cc0_sem11_0 : DmaSem sig := 18
abbrev cc0_sem11_1 : DmaSem sig := 19
abbrev cc0_sem12_0 : DmaSem sig := 20

abbrev nD : Nat := 1
abbrev τ : Topo := Topo.v7x

variable {F : FTy → Type} [FloatOps F]

abbrev grid0 : Pipeline.Grid := ⟨3, ![8, 1, 1], ![false, false, false]⟩

def k0_cond1 (i : grid0.Coords) : BitVec 1 :=
  let arg0 : BitVec 32 := BitVec.ofNat 32 (i 0).val
  let c0_i32 : BitVec 32 := 0#32
  let v85 : BitVec 1 := Scalar.cmpi .eq arg0 c0_i32
  let v86 : BitVec 32 := Scalar.extui v85
  let c0_i32_54 : BitVec 32 := 0#32
  let v87 : BitVec 1 := Scalar.cmpi .ne v86 c0_i32_54
  v87

def k0_cond2 (i : grid0.Coords) : BitVec 1 :=
  let arg0 : BitVec 32 := BitVec.ofNat 32 (i 0).val
  let c0_i32_55 : BitVec 32 := 0#32
  let v88 : BitVec 1 := Scalar.cmpi .sgt arg0 c0_i32_55
  let v89 : BitVec 32 := Scalar.extui v88
  let c0_i32_56 : BitVec 32 := 0#32
  let v90 : BitVec 1 := Scalar.cmpi .ne v89 c0_i32_56
  v90

def k0_cond3 (i : grid0.Coords) : BitVec 1 :=
  let arg0 : BitVec 32 := BitVec.ofNat 32 (i 0).val
  let c0_i32_59 : BitVec 32 := 0#32
  let v93 : BitVec 1 := Scalar.cmpi .eq arg0 c0_i32_59
  let v94 : BitVec 32 := Scalar.extui v93
  let c0_i32_60 : BitVec 32 := 0#32
  let v95 : BitVec 1 := Scalar.cmpi .ne v94 c0_i32_60
  v95

def k0_cond4 (i : grid0.Coords) : BitVec 1 :=
  let arg0 : BitVec 32 := BitVec.ofNat 32 (i 0).val
  let c0_i32_61 : BitVec 32 := 0#32
  let v96 : BitVec 1 := Scalar.cmpi .sgt arg0 c0_i32_61
  let v97 : BitVec 32 := Scalar.extui v96
  let c0_i32_62 : BitVec 32 := 0#32
  let v98 : BitVec 1 := Scalar.cmpi .ne v97 c0_i32_62
  v98

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg2.toNat, arg1.toNat, c0_i32.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_4 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_5 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg1.toNat]

def cc0_transform_8 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg1.toNat]

def cc0_transform_9 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_10 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg1.toNat]

def cc0_transform_11 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_12 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg1.toNat]

abbrev stage0_0 : Fin 2 → Memref sig .tc .vmem S512x4096 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S8x1024x512 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S512x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]

abbrev stage0_4 : Fin 2 → Memref sig .tc .vmem S512x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true, false]

abbrev stage0_5 : Fin 2 → Memref sig .tc .vmem S512x1 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false, false]

abbrev stage0_6 : Fin 2 → Memref sig .tc .vmem S512x1 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, false, false]

abbrev stage0_7 : Fin 1 → Memref sig .tc .vmem S1x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, true, false]

abbrev stage0_8 : Fin 1 → Memref sig .tc .vmem S1x1024 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false, true, false]

abbrev stage0_9 : Fin 2 → Memref sig .tc .vmem S512x1024 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true, false]

abbrev stage0_10 : Fin 1 → Memref sig .tc .vmem S1x1024 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false, true, false]

abbrev stage0_11 : Fin 2 → Memref sig .tc .vmem S512x1024 .bf16 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true, true, false]

abbrev stage0_12 : Fin 1 → Memref sig .tc .vmem S1x1024 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false, true, false]
-- ==== Reference6Ideal.lean ====
abbrev S4096x4096 : Shape := ⟨2, ![4096, 4096]⟩
abbrev S8x1024x512 : Shape := ⟨3, ![8, 1024, 512]⟩
abbrev S4096x1024 : Shape := ⟨2, ![4096, 1024]⟩
abbrev S1x1024 : Shape := ⟨2, ![1, 1024]⟩
abbrev S1024x8x512 : Shape := ⟨3, ![1024, 8, 512]⟩
abbrev S1024x4096 : Shape := ⟨2, ![1024, 4096]⟩
abbrev S_ : Shape := ⟨0, ![]⟩
abbrev S4096 : Shape := ⟨1, ![4096]⟩
abbrev S4096x1 : Shape := ⟨2, ![4096, 1]⟩
abbrev S1024 : Shape := ⟨1, ![1024]⟩

abbrev nBuf : Space → Nat
  | .hbm => 101
  | .vmem => 0
  | .smem => 0
  | _ => 0

abbrev bufTy : (tb : Table) → Fin (tcTables nBuf tb) → BufTy
  | .hbm, ⟨0, _⟩ => ⟨S4096x4096, .bf16⟩
  | .hbm, ⟨1, _⟩ => ⟨S8x1024x512, .bf16⟩
  | .hbm, ⟨2, _⟩ => ⟨S4096x1024, .f32⟩
  | .hbm, ⟨3, _⟩ => ⟨S4096x1024, .f32⟩
  | .hbm, ⟨4, _⟩ => ⟨S4096x1024, .f32⟩
  | .hbm, ⟨5, _⟩ => ⟨S1x1024, .f32⟩
  | .hbm, ⟨6, _⟩ => ⟨S1x1024, .f32⟩
  | .hbm, ⟨7, _⟩ => ⟨S1024x8x512, .bf16⟩
  | .hbm, ⟨8, _⟩ => ⟨S1024x4096, .bf16⟩
  | .hbm, ⟨9, _⟩ => ⟨S1024x4096, .f32⟩
  | .hbm, ⟨10, _⟩ => ⟨S4096x1024, .f32⟩
  | .hbm, ⟨11, _⟩ => ⟨S_, .f32⟩
  | .hbm, ⟨12, _⟩ => ⟨S4096, .f32⟩
  | .hbm, ⟨13, _⟩ => ⟨S4096x1, .f32⟩
  | .hbm, ⟨14, _⟩ => ⟨S_, .f32⟩
  | .hbm, ⟨15, _⟩ => ⟨S4096x1, .f32⟩
  | .hbm, ⟨16, _⟩ => ⟨S4096x1, .f32⟩
  | .hbm, ⟨17, _⟩ => ⟨S_, .f32⟩
  | .hbm, ⟨18, _⟩ => ⟨S4096x1, .f32⟩
  | .hbm, ⟨19, _⟩ => ⟨S4096x1, .f32⟩
  | .hbm, ⟨20, _⟩ => ⟨S4096x1, .f32⟩
  | .hbm, ⟨21, _⟩ => ⟨S4096x1, .f32⟩
  | .hbm, ⟨22, _⟩ => ⟨S_, .f32⟩
  | .hbm, ⟨23, _⟩ => ⟨S4096x1, .f32⟩
  | .hbm, ⟨24, _⟩ => ⟨S4096x1, .f32⟩
  | .hbm, ⟨25, _⟩ => ⟨S4096x1024, .f32⟩
  | .hbm, ⟨26, _⟩ => ⟨S4096x1024, .f32⟩
  | .hbm, ⟨27, _⟩ => ⟨S4096x1024, .f32⟩
  | .hbm, ⟨28, _⟩ => ⟨S4096x1024, .f32⟩
  | .hbm, ⟨29, _⟩ => ⟨S4096x1024, .f32⟩
  | .hbm, ⟨30, _⟩ => ⟨S4096x1024, .f32⟩
  | .hbm, ⟨31, _⟩ => ⟨S_, .f32⟩
  | .hbm, ⟨32, _⟩ => ⟨S4096, .f32⟩
  | .hbm, ⟨33, _⟩ => ⟨S4096x1, .f32⟩
  | .hbm, ⟨34, _⟩ => ⟨S_, .f32⟩
  | .hbm, ⟨35, _⟩ => ⟨S4096x1, .f32⟩
  | .hbm, ⟨36, _⟩ => ⟨S4096x1, .f32⟩
  | .hbm, ⟨37, _⟩ => ⟨S_, .f32⟩
  | .hbm, ⟨38, _⟩ => ⟨S4096x1, .f32⟩
  | .hbm, ⟨39, _⟩ => ⟨S4096x1, .f32⟩
  | .hbm, ⟨40, _⟩ => ⟨S4096x1, .f32⟩
  | .hbm, ⟨41, _⟩ => ⟨S4096x1, .f32⟩
  | .hbm, ⟨42, _⟩ => ⟨S_, .f32⟩
  | .hbm, ⟨43, _⟩ => ⟨S4096x1, .f32⟩
  | .hbm, ⟨44, _⟩ => ⟨S4096x1, .f32⟩
  | .hbm, ⟨45, _⟩ => ⟨S4096x1024, .f32⟩
  | .hbm, ⟨46, _⟩ => ⟨S4096x1024, .f32⟩
  | .hbm, ⟨47, _⟩ => ⟨S4096x1024, .f32⟩
  | .hbm, ⟨48, _⟩ => ⟨S4096x1024, .f32⟩
  | .hbm, ⟨49, _⟩ => ⟨S4096x4096, .f32⟩
  | .hbm, ⟨50, _⟩ => ⟨S4096x4096, .f32⟩
  | .hbm, ⟨51, _⟩ => ⟨S4096x1024, .f32⟩
  | .hbm, ⟨52, _⟩ => ⟨S4096x1024, .f32⟩
  | .hbm, ⟨53, _⟩ => ⟨S_, .f32⟩
  | .hbm, ⟨54, _⟩ => ⟨S1024, .f32⟩
  | .hbm, ⟨55, _⟩ => ⟨S1x1024, .f32⟩
  | .hbm, ⟨56, _⟩ => ⟨S4096x1024, .f32⟩
  | .hbm, ⟨57, _⟩ => ⟨S4096x1024, .f32⟩
  | .hbm, ⟨58, _⟩ => ⟨S4096x1024, .f32⟩
  | .hbm, ⟨59, _⟩ => ⟨S_, .f32⟩
  | .hbm, ⟨60, _⟩ => ⟨S4096, .f32⟩
  | .hbm, ⟨61, _⟩ => ⟨S4096x1, .f32⟩
  | .hbm, ⟨62, _⟩ => ⟨S4096x1024, .f32⟩
  | .hbm, ⟨63, _⟩ => ⟨S4096x1024, .f32⟩
  | .hbm, ⟨64, _⟩ => ⟨S4096x1024, .f32⟩
  | .hbm, ⟨65, _⟩ => ⟨S4096x1, .f32⟩
  | .hbm, ⟨66, _⟩ => ⟨S_, .f32⟩
  | .hbm, ⟨67, _⟩ => ⟨S4096x1, .f32⟩
  | .hbm, ⟨68, _⟩ => ⟨S4096x1, .f32⟩
  | .hbm, ⟨69, _⟩ => ⟨S_, .f32⟩
  | .hbm, ⟨70, _⟩ => ⟨S4096, .f32⟩
  | .hbm, ⟨71, _⟩ => ⟨S4096x1024, .f32⟩
  | .hbm, ⟨72, _⟩ => ⟨S4096x1024, .f32⟩
  | .hbm, ⟨73, _⟩ => ⟨S4096x1024, .f32⟩
  | .hbm, ⟨74, _⟩ => ⟨S4096x1024, .f32⟩
  | .hbm, ⟨75, _⟩ => ⟨S4096x1024, .f32⟩
  | .hbm, ⟨76, _⟩ => ⟨S4096x1024, .f32⟩
  | .hbm, ⟨77, _⟩ => ⟨S4096x1024, .f32⟩
  | .hbm, ⟨78, _⟩ => ⟨S_, .f32⟩
  | .hbm, ⟨79, _⟩ => ⟨S1024, .f32⟩
  | .hbm, ⟨80, _⟩ => ⟨S1x1024, .f32⟩
  | .hbm, ⟨81, _⟩ => ⟨S4096x1024, .f32⟩
  | .hbm, ⟨82, _⟩ => ⟨S4096x1024, .f32⟩
  | .hbm, ⟨83, _⟩ => ⟨S4096x1024, .f32⟩
  | .hbm, ⟨84, _⟩ => ⟨S_, .f32⟩
  | .hbm, ⟨85, _⟩ => ⟨S4096, .f32⟩
  | .hbm, ⟨86, _⟩ => ⟨S4096x1, .f32⟩
  | .hbm, ⟨87, _⟩ => ⟨S4096x1024, .f32⟩
  | .hbm, ⟨88, _⟩ => ⟨S4096x1024, .f32⟩
  | .hbm, ⟨89, _⟩ => ⟨S4096x1, .f32⟩
  | .hbm, ⟨90, _⟩ => ⟨S_, .f32⟩
  | .hbm, ⟨91, _⟩ => ⟨S4096x1, .f32⟩
  | .hbm, ⟨92, _⟩ => ⟨S4096x1, .f32⟩
  | .hbm, ⟨93, _⟩ => ⟨S_, .f32⟩
  | .hbm, ⟨94, _⟩ => ⟨S4096, .f32⟩
  | .hbm, ⟨95, _⟩ => ⟨S4096x1024, .f32⟩
  | .hbm, ⟨96, _⟩ => ⟨S4096x1024, .f32⟩
  | .hbm, ⟨97, _⟩ => ⟨S4096x1024, .f32⟩
  | .hbm, ⟨98, _⟩ => ⟨S4096x1024, .f32⟩
  | .hbm, ⟨99, _⟩ => ⟨S4096x1024, .f32⟩
  | .hbm, ⟨100, _⟩ => ⟨S4096x1024, .bf16⟩
  | _, _ => ⟨S4096x4096, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_cst : Ref sig .tc := ⟨.hbm, 11, rfl⟩
abbrev main_v4 : Ref sig .tc := ⟨.hbm, 12, rfl⟩
abbrev main_v5 : Ref sig .tc := ⟨.hbm, 13, rfl⟩
abbrev main_cst_0 : Ref sig .tc := ⟨.hbm, 14, rfl⟩
abbrev main_v6 : Ref sig .tc := ⟨.hbm, 15, rfl⟩
abbrev main_v7 : Ref sig .tc := ⟨.hbm, 16, rfl⟩
abbrev main_cst_1 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_cst_2 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_cst_3 : Ref sig .tc := ⟨.hbm, 31, rfl⟩
abbrev main_v20 : Ref sig .tc := ⟨.hbm, 32, rfl⟩
abbrev main_v21 : Ref sig .tc := ⟨.hbm, 33, rfl⟩
abbrev main_cst_4 : Ref sig .tc := ⟨.hbm, 34, rfl⟩
abbrev main_v22 : Ref sig .tc := ⟨.hbm, 35, rfl⟩
abbrev main_v23 : Ref sig .tc := ⟨.hbm, 36, rfl⟩
abbrev main_cst_5 : Ref sig .tc := ⟨.hbm, 37, rfl⟩
abbrev main_v24 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_cst_6 : Ref sig .tc := ⟨.hbm, 42, rfl⟩
abbrev main_v28 : Ref sig .tc := ⟨.hbm, 43, rfl⟩
abbrev main_v29 : Ref sig .tc := ⟨.hbm, 44, rfl⟩
abbrev main_v30 : Ref sig .tc := ⟨.hbm, 45, rfl⟩
abbrev main_v31 : Ref sig .tc := ⟨.hbm, 46, rfl⟩
abbrev main_v32 : Ref sig .tc := ⟨.hbm, 47, rfl⟩
abbrev main_v33 : Ref sig .tc := ⟨.hbm, 48, rfl⟩
abbrev main_v34 : Ref sig .tc := ⟨.hbm, 49, rfl⟩
abbrev main_v35 : Ref sig .tc := ⟨.hbm, 50, rfl⟩
abbrev main_v36 : Ref sig .tc := ⟨.hbm, 51, rfl⟩
abbrev main_v37 : Ref sig .tc := ⟨.hbm, 52, rfl⟩
abbrev main_cst_7 : Ref sig .tc := ⟨.hbm, 53, rfl⟩
abbrev main_v38 : Ref sig .tc := ⟨.hbm, 54, rfl⟩
abbrev main_v39 : Ref sig .tc := ⟨.hbm, 55, rfl⟩
abbrev main_v40 : Ref sig .tc := ⟨.hbm, 56, rfl⟩
abbrev main_v41 : Ref sig .tc := ⟨.hbm, 57, rfl⟩
abbrev main_v42 : Ref sig .tc := ⟨.hbm, 58, rfl⟩
abbrev main_cst_8 : Ref sig .tc := ⟨.hbm, 59, rfl⟩
abbrev main_v43 : Ref sig .tc := ⟨.hbm, 60, rfl⟩
abbrev main_v44 : Ref sig .tc := ⟨.hbm, 61, rfl⟩
abbrev main_v45 : Ref sig .tc := ⟨.hbm, 62, rfl⟩
abbrev main_v46 : Ref sig .tc := ⟨.hbm, 63, rfl⟩
abbrev main_v47 : Ref sig .tc := ⟨.hbm, 64, rfl⟩
abbrev main_v48 : Ref sig .tc := ⟨.hbm, 65, rfl⟩
abbrev main_cst_9 : Ref sig .tc := ⟨.hbm, 66, rfl⟩
abbrev main_v49 : Ref sig .tc := ⟨.hbm, 67, rfl⟩
abbrev main_v50 : Ref sig .tc := ⟨.hbm, 68, rfl⟩
abbrev main_cst_10 : Ref sig .tc := ⟨.hbm, 69, rfl⟩
abbrev main_v51 : Ref sig .tc := ⟨.hbm, 70, rfl⟩
abbrev main_v52 : Ref sig .tc := ⟨.hbm, 71, rfl⟩
abbrev main_v53 : Ref sig .tc := ⟨.hbm, 72, rfl⟩
abbrev main_v54 : Ref sig .tc := ⟨.hbm, 73, rfl⟩
abbrev main_v55 : Ref sig .tc := ⟨.hbm, 74, rfl⟩
abbrev main_v56 : Ref sig .tc := ⟨.hbm, 75, rfl⟩
abbrev main_v57 : Ref sig .tc := ⟨.hbm, 76, rfl⟩
abbrev main_v58 : Ref sig .tc := ⟨.hbm, 77, rfl⟩
abbrev main_cst_11 : Ref sig .tc := ⟨.hbm, 78, rfl⟩
abbrev main_v59 : Ref sig .tc := ⟨.hbm, 79, rfl⟩
abbrev main_v60 : Ref sig .tc := ⟨.hbm, 80, rfl⟩
abbrev main_v61 : Ref sig .tc := ⟨.hbm, 81, rfl⟩
abbrev main_v62 : Ref sig .tc := ⟨.hbm, 82, rfl⟩
abbrev main_v63 : Ref sig .tc := ⟨.hbm, 83, rfl⟩
abbrev main_cst_12 : Ref sig .tc := ⟨.hbm, 84, rfl⟩
abbrev main_v64 : Ref sig .tc := ⟨.hbm, 85, rfl⟩
abbrev main_v65 : Ref sig .tc := ⟨.hbm, 86, rfl⟩
abbrev main_v66 : Ref sig .tc := ⟨.hbm, 87, rfl⟩
abbrev main_v67 : Ref sig .tc := ⟨.hbm, 88, rfl⟩
abbrev main_v68 : Ref sig .tc := ⟨.hbm, 89, rfl⟩
abbrev main_cst_13 : Ref sig .tc := ⟨.hbm, 90, rfl⟩
abbrev main_v69 : Ref sig .tc := ⟨.hbm, 91, rfl⟩
abbrev main_v70 : Ref sig .tc := ⟨.hbm, 92, rfl⟩
abbrev main_cst_14 : Ref sig .tc := ⟨.hbm, 93, rfl⟩
abbrev main_v71 : Ref sig .tc := ⟨.hbm, 94, rfl⟩
abbrev main_v72 : Ref sig .tc := ⟨.hbm, 95, rfl⟩
abbrev main_v73 : Ref sig .tc := ⟨.hbm, 96, rfl⟩
abbrev main_v74 : Ref sig .tc := ⟨.hbm, 97, rfl⟩
abbrev main_v75 : Ref sig .tc := ⟨.hbm, 98, rfl⟩
abbrev main_v76 : Ref sig .tc := ⟨.hbm, 99, rfl⟩
abbrev main_v77 : Ref sig .tc := ⟨.hbm, 100, rfl⟩

abbrev nD : Nat := 1
abbrev τ : Topo := Topo.v7x

variable {F : FTy → Type} [FloatOps F]
-- ==== Kernel7.lean ====
abbrev S4096x512 : Shape := ⟨2, ![4096, 512]⟩
abbrev S1536x1024 : Shape := ⟨2, ![1536, 1024]⟩
abbrev S4096x1024 : Shape := ⟨2, ![4096, 1024]⟩
abbrev S1x1024 : Shape := ⟨2, ![1, 1024]⟩
abbrev S_ : Shape := ⟨0, ![]⟩
abbrev S4096 : Shape := ⟨1, ![4096]⟩
abbrev S4096x1 : Shape := ⟨2, ![4096, 1]⟩
abbrev S512x512 : Shape := ⟨2, ![512, 512]⟩
abbrev S512x1024 : Shape := ⟨2, ![512, 1024]⟩
abbrev S512x1 : Shape := ⟨2, ![512, 1]⟩
abbrev S512 : Shape := ⟨1, ![512]⟩
abbrev S1024 : Shape := ⟨1, ![1024]⟩

abbrev nBuf : Space → Nat
  | .hbm => 51
  | .vmem => 25
  | .smem => 0
  | _ => 0

abbrev bufTy : (tb : Table) → Fin (tcTables nBuf tb) → BufTy
  | .hbm, ⟨0, _⟩ => ⟨S4096x512, .f32⟩
  | .hbm, ⟨1, _⟩ => ⟨S4096x512, .f32⟩
  | .hbm, ⟨2, _⟩ => ⟨S4096x512, .f32⟩
  | .hbm, ⟨3, _⟩ => ⟨S1536x1024, .bf16⟩
  | .hbm, ⟨4, _⟩ => ⟨S4096x1024, .f32⟩
  | .hbm, ⟨5, _⟩ => ⟨S4096x1024, .f32⟩
  | .hbm, ⟨6, _⟩ => ⟨S4096x1024, .f32⟩
  | .hbm, ⟨7, _⟩ => ⟨S1x1024, .f32⟩
  | .hbm, ⟨8, _⟩ => ⟨S1x1024, .f32⟩
  | .hbm, ⟨9, _⟩ => ⟨S4096x1024, .f32⟩
  | .hbm, ⟨10, _⟩ => ⟨S_, .f32⟩
  | .hbm, ⟨11, _⟩ => ⟨S4096, .f32⟩
  | .hbm, ⟨12, _⟩ => ⟨S4096x1, .f32⟩
  | .hbm, ⟨13, _⟩ => ⟨S_, .f32⟩
  | .hbm, ⟨14, _⟩ => ⟨S4096x1, .f32⟩
  | .hbm, ⟨15, _⟩ => ⟨S4096x1, .f32⟩
  | .hbm, ⟨16, _⟩ => ⟨S_, .f32⟩
  | .hbm, ⟨17, _⟩ => ⟨S4096x1, .f32⟩
  | .hbm, ⟨18, _⟩ => ⟨S4096x1, .f32⟩
  | .hbm, ⟨19, _⟩ => ⟨S4096x1, .f32⟩
  | .hbm, ⟨20, _⟩ => ⟨S4096x1024, .f32⟩
  | .hbm, ⟨21, _⟩ => ⟨S4096x1024, .f32⟩
  | .hbm, ⟨22, _⟩ => ⟨S4096x1024, .f32⟩
  | .hbm, ⟨23, _⟩ => ⟨S4096x1024, .f32⟩
  | .hbm, ⟨24, _⟩ => ⟨S4096x1024, .f32⟩
  | .hbm, ⟨25, _⟩ => ⟨S4096x1024, .f32⟩
  | .hbm, ⟨26, _⟩ => ⟨S_, .f32⟩
  | .hbm, ⟨27, _⟩ => ⟨S4096, .f32⟩
  | .hbm, ⟨28, _⟩ => ⟨S4096x1, .f32⟩
  | .hbm, ⟨29, _⟩ => ⟨S_, .f32⟩
  | .hbm, ⟨30, _⟩ => ⟨S4096x1, .f32⟩
  | .hbm, ⟨31, _⟩ => ⟨S4096x1, .f32⟩
  | .hbm, ⟨32, _⟩ => ⟨S_, .f32⟩
  | .hbm, ⟨33, _⟩ => ⟨S4096x1, .f32⟩
  | .hbm, ⟨34, _⟩ => ⟨S4096x1, .f32⟩
  | .hbm, ⟨35, _⟩ => ⟨S4096x1, .f32⟩
  | .hbm, ⟨36, _⟩ => ⟨S4096x1024, .f32⟩
  | .hbm, ⟨37, _⟩ => ⟨S_, .f32⟩
  | .hbm, ⟨38, _⟩ => ⟨S4096, .f32⟩
  | .hbm, ⟨39, _⟩ => ⟨S4096x1, .f32⟩
  | .hbm, ⟨40, _⟩ => ⟨S_, .f32⟩
  | .hbm, ⟨41, _⟩ => ⟨S4096x1, .f32⟩
  | .hbm, ⟨42, _⟩ => ⟨S4096x1, .f32⟩
  | .hbm, ⟨43, _⟩ => ⟨S_, .f32⟩
  | .hbm, ⟨44, _⟩ => ⟨S4096x1, .f32⟩
  | .hbm, ⟨45, _⟩ => ⟨S4096x1, .f32⟩
  | .hbm, ⟨46, _⟩ => ⟨S4096x1, .f32⟩
  | .hbm, ⟨47, _⟩ => ⟨S4096x1024, .f32⟩
  | .hbm, ⟨48, _⟩ => ⟨S1x1024, .f32⟩
  | .hbm, ⟨49, _⟩ => ⟨S4096x1024, .bf16⟩
  | .hbm, ⟨50, _⟩ => ⟨S1x1024, .f32⟩
  | .local _ .vmem, ⟨0, _⟩ => ⟨S512x512, .f32⟩
  | .local _ .vmem, ⟨1, _⟩ => ⟨S512x512, .f32⟩
  | .local _ .vmem, ⟨2, _⟩ => ⟨S512x512, .f32⟩
  | .local _ .vmem, ⟨3, _⟩ => ⟨S512x512, .f32⟩
  | .local _ .vmem, ⟨4, _⟩ => ⟨S512x512, .f32⟩
  | .local _ .vmem, ⟨5, _⟩ => ⟨S512x512, .f32⟩
  | .local _ .vmem, ⟨6, _⟩ => ⟨S1536x1024, .bf16⟩
  | .local _ .vmem, ⟨7, _⟩ => ⟨S512x1024, .f32⟩
  | .local _ .vmem, ⟨8, _⟩ => ⟨S512x1024, .f32⟩
  | .local _ .vmem, ⟨9, _⟩ => ⟨S512x1024, .f32⟩
  | .local _ .vmem, ⟨10, _⟩ => ⟨S512x1024, .f32⟩
  | .local _ .vmem, ⟨11, _⟩ => ⟨S512x1024, .f32⟩
  | .local _ .vmem, ⟨12, _⟩ => ⟨S512x1024, .f32⟩
  | .local _ .vmem, ⟨13, _⟩ => ⟨S512x1, .f32⟩
  | .local _ .vmem, ⟨14, _⟩ => ⟨S512x1, .f32⟩
  | .local _ .vmem, ⟨15, _⟩ => ⟨S512x1, .f32⟩
  | .local _ .vmem, ⟨16, _⟩ => ⟨S512x1, .f32⟩
  | .local _ .vmem, ⟨17, _⟩ => ⟨S1x1024, .f32⟩
  | .local _ .vmem, ⟨18, _⟩ => ⟨S1x1024, .f32⟩
  | .local _ .vmem, ⟨19, _⟩ => ⟨S512x1024, .f32⟩
  | .local _ .vmem, ⟨20, _⟩ => ⟨S512x1024, .f32⟩
  | .local _ .vmem, ⟨21, _⟩ => ⟨S1x1024, .f32⟩
  | .local _ .vmem, ⟨22, _⟩ => ⟨S512x1024, .bf16⟩
  | .local _ .vmem, ⟨23, _⟩ => ⟨S512x1024, .bf16⟩
  | .local _ .vmem, ⟨24, _⟩ => ⟨S1x1024, .f32⟩
  | _, _ => ⟨S4096x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | _, _ => false

abbrev semScoped : Fin 0 → Bool
  | ⟨_, h⟩ => absurd h (Nat.not_lt_zero _)

abbrev dmaSemScoped : Fin 25 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | _ => false

abbrev sig : RefSig :=
  ofTc nBuf bufTy 0 25 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_cst : Ref sig .tc := ⟨.hbm, 10, rfl⟩
abbrev main_v1 : Ref sig .tc := ⟨.hbm, 11, rfl⟩
abbrev main_v2 : Ref sig .tc := ⟨.hbm, 12, rfl⟩
abbrev main_cst_0 : Ref sig .tc := ⟨.hbm, 13, rfl⟩
abbrev main_v3 : Ref sig .tc := ⟨.hbm, 14, rfl⟩
abbrev main_v4 : Ref sig .tc := ⟨.hbm, 15, rfl⟩
abbrev main_cst_1 : Ref sig .tc := ⟨.hbm, 16, rfl⟩
abbrev main_v5 : Ref sig .tc := ⟨.hbm, 17, rfl⟩
abbrev main_v6 : Ref sig .tc := ⟨.hbm, 18, rfl⟩
abbrev main_v7 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_cst_2 : Ref sig .tc := ⟨.hbm, 26, rfl⟩
abbrev main_v14 : Ref sig .tc := ⟨.hbm, 27, rfl⟩
abbrev main_v15 : Ref sig .tc := ⟨.hbm, 28, rfl⟩
abbrev main_cst_3 : Ref sig .tc := ⟨.hbm, 29, rfl⟩
abbrev main_v16 : Ref sig .tc := ⟨.hbm, 30, rfl⟩
abbrev main_v17 : Ref sig .tc := ⟨.hbm, 31, rfl⟩
abbrev main_cst_4 : Ref sig .tc := ⟨.hbm, 32, rfl⟩
abbrev main_v18 : Ref sig .tc := ⟨.hbm, 33, rfl⟩
abbrev main_v19 : Ref sig .tc := ⟨.hbm, 34, rfl⟩
abbrev main_v20 : Ref sig .tc := ⟨.hbm, 35, rfl⟩
abbrev main_v21 : Ref sig .tc := ⟨.hbm, 36, rfl⟩
abbrev main_cst_5 : Ref sig .tc := ⟨.hbm, 37, rfl⟩
abbrev main_v22 : Ref sig .tc := ⟨.hbm, 38, rfl⟩
abbrev main_v23 : Ref sig .tc := ⟨.hbm, 39, rfl⟩
abbrev main_cst_6 : Ref sig .tc := ⟨.hbm, 40, rfl⟩
abbrev main_v24 : Ref sig .tc := ⟨.hbm, 41, rfl⟩
abbrev main_v25 : Ref sig .tc := ⟨.hbm, 42, rfl⟩
abbrev main_cst_7 : Ref sig .tc := ⟨.hbm, 43, rfl⟩
abbrev main_v26 : Ref sig .tc := ⟨.hbm, 44, rfl⟩
abbrev main_v27 : Ref sig .tc := ⟨.hbm, 45, rfl⟩
abbrev main_v28 : Ref sig .tc := ⟨.hbm, 46, rfl⟩
abbrev main_v29_0 : Ref sig .tc := ⟨.hbm, 47, rfl⟩
abbrev main_v29_1 : Ref sig .tc := ⟨.hbm, 48, rfl⟩
abbrev main_v29_2 : Ref sig .tc := ⟨.hbm, 49, rfl⟩
abbrev main_v29_3 : Ref sig .tc := ⟨.hbm, 50, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_stg6_1 : Ref sig .tc := ⟨.vmem, 12, rfl⟩
abbrev cc0_stg7_0 : Ref sig .tc := ⟨.vmem, 13, rfl⟩
abbrev cc0_stg7_1 : Ref sig .tc := ⟨.vmem, 14, rfl⟩
abbrev cc0_stg8_0 : Ref sig .tc := ⟨.vmem, 15, rfl⟩
abbrev cc0_stg8_1 : Ref sig .tc := ⟨.vmem, 16, rfl⟩
abbrev cc0_stg9_0 : Ref sig .tc := ⟨.vmem, 17, rfl⟩
abbrev cc0_stg10_0 : Ref sig .tc := ⟨.vmem, 18, rfl⟩
abbrev cc0_stg11_0 : Ref sig .tc := ⟨.vmem, 19, rfl⟩
abbrev cc0_stg11_1 : Ref sig .tc := ⟨.vmem, 20, rfl⟩
abbrev cc0_stg12_0 : Ref sig .tc := ⟨.vmem, 21, rfl⟩
abbrev cc0_stg13_0 : Ref sig .tc := ⟨.vmem, 22, rfl⟩
abbrev cc0_stg13_1 : Ref sig .tc := ⟨.vmem, 23, rfl⟩
abbrev cc0_stg14_0 : Ref sig .tc := ⟨.vmem, 24, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11
abbrev cc0_sem6_1 : DmaSem sig := 12
abbrev cc0_sem7_0 : DmaSem sig := 13
abbrev cc0_sem7_1 : DmaSem sig := 14
abbrev cc0_sem8_0 : DmaSem sig := 15
abbrev cc0_sem8_1 : DmaSem sig := 16
abbrev cc0_sem9_0 : DmaSem sig := 17
abbrev cc0_sem10_0 : DmaSem sig := 18
abbrev cc0_sem11_0 : DmaSem sig := 19
abbrev cc0_sem11_1 : DmaSem sig := 20
abbrev cc0_sem12_0 : DmaSem sig := 21
abbrev cc0_sem13_0 : DmaSem sig := 22
abbrev cc0_sem13_1 : DmaSem sig := 23
abbrev cc0_sem14_0 : DmaSem sig := 24

abbrev nD : Nat := 1
abbrev τ : Topo := Topo.v7x

variable {F : FTy → Type} [FloatOps F]

abbrev grid0 : Pipeline.Grid := ⟨3, ![8, 1, 1], ![false, false, false]⟩

def k0_cond1 (i : grid0.Coords) : BitVec 1 :=
  let arg0 : BitVec 32 := BitVec.ofNat 32 (i 0).val
  let c0_i32 : BitVec 32 := 0#32
  let v60 : BitVec 1 := Scalar.cmpi .eq arg0 c0_i32
  let v61 : BitVec 32 := Scalar.extui v60
  let c0_i32_33 : BitVec 32 := 0#32
  let v62 : BitVec 1 := Scalar.cmpi .ne v61 c0_i32_33
  v62

def k0_cond2 (i : grid0.Coords) : BitVec 1 :=
  let arg0 : BitVec 32 := BitVec.ofNat 32 (i 0).val
  let c0_i32_34 : BitVec 32 := 0#32
  let v63 : BitVec 1 := Scalar.cmpi .sgt arg0 c0_i32_34
  let v64 : BitVec 32 := Scalar.extui v63
  let c0_i32_35 : BitVec 32 := 0#32
  let v65 : BitVec 1 := Scalar.cmpi .ne v64 c0_i32_35
  v65

def k0_cond3 (i : grid0.Coords) : BitVec 1 :=
  let arg0 : BitVec 32 := BitVec.ofNat 32 (i 0).val
  let c0_i32_38 : BitVec 32 := 0#32
  let v68 : BitVec 1 := Scalar.cmpi .eq arg0 c0_i32_38
  let v69 : BitVec 32 := Scalar.extui v68
  let c0_i32_39 : BitVec 32 := 0#32
  let v70 : BitVec 1 := Scalar.cmpi .ne v69 c0_i32_39
  v70

def k0_cond4 (i : grid0.Coords) : BitVec 1 :=
  let arg0 : BitVec 32 := BitVec.ofNat 32 (i 0).val
  let c0_i32_40 : BitVec 32 := 0#32
  let v71 : BitVec 1 := Scalar.cmpi .sgt arg0 c0_i32_40
  let v72 : BitVec 32 := Scalar.extui v71
  let c0_i32_41 : BitVec 32 := 0#32
  let v73 : BitVec 1 := Scalar.cmpi .ne v72 c0_i32_41
  v73

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_4 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_5 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_6 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_7 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg1.toNat]

def cc0_transform_10 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg1.toNat]

def cc0_transform_11 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_12 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg1.toNat]

def cc0_transform_13 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_14 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg1.toNat]

abbrev stage0_0 : Fin 2 → Memref sig .tc .vmem S512x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, false]

abbrev stage0_1 : Fin 2 → Memref sig .tc .vmem S512x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false, false]

abbrev stage0_2 : Fin 2 → Memref sig .tc .vmem S512x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false, false]

abbrev stage0_3 : Fin 1 → Memref sig .tc .vmem S1536x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, true, true]

abbrev stage0_4 : Fin 2 → Memref sig .tc .vmem S512x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true, false]

abbrev stage0_5 : Fin 2 → Memref sig .tc .vmem S512x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true, false]

abbrev stage0_6 : Fin 2 → Memref sig .tc .vmem S512x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true, false]

abbrev stage0_7 : Fin 2 → Memref sig .tc .vmem S512x1 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, false, false]

abbrev stage0_8 : Fin 2 → Memref sig .tc .vmem S512x1 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, false, false]

abbrev stage0_9 : Fin 1 → Memref sig .tc .vmem S1x1024 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false, true, false]

abbrev stage0_10 : Fin 1 → Memref sig .tc .vmem S1x1024 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false, true, false]

abbrev stage0_11 : Fin 2 → Memref sig .tc .vmem S512x1024 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true, true, false]

abbrev stage0_12 : Fin 1 → Memref sig .tc .vmem S1x1024 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false, true, false]

abbrev stage0_13 : Fin 2 → Memref sig .tc .vmem S512x1024 .bf16 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true, true, false]

abbrev stage0_14 : Fin 1 → Memref sig .tc .vmem S1x1024 .f32 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))
abbrev reads0_14 : Fin grid0.rank → Bool := ![false, true, false]
-- ==== Reference7Ideal.lean ====
abbrev S4096x512 : Shape := ⟨2, ![4096, 512]⟩
abbrev S1536x1024 : Shape := ⟨2, ![1536, 1024]⟩
abbrev S4096x1024 : Shape := ⟨2, ![4096, 1024]⟩
abbrev S1x1024 : Shape := ⟨2, ![1, 1024]⟩
abbrev S1024x1536 : Shape := ⟨2, ![1024, 1536]⟩
abbrev S4096x1536 : Shape := ⟨2, ![4096, 1536]⟩
abbrev S_ : Shape := ⟨0, ![]⟩
abbrev S4096 : Shape := ⟨1, ![4096]⟩
abbrev S4096x1 : Shape := ⟨2, ![4096, 1]⟩
abbrev S1024 : Shape := ⟨1, ![1024]⟩

abbrev nBuf : Space → Nat
  | .hbm => 102
  | .vmem => 0
  | .smem => 0
  | _ => 0

abbrev bufTy : (tb : Table) → Fin (tcTables nBuf tb) → BufTy
  | .hbm, ⟨0, _⟩ => ⟨S4096x512, .f32⟩
  | .hbm, ⟨1, _⟩ => ⟨S4096x512, .f32⟩
  | .hbm, ⟨2, _⟩ => ⟨S4096x512, .f32⟩
  | .hbm, ⟨3, _⟩ => ⟨S1536x1024, .bf16⟩
  | .hbm, ⟨4, _⟩ => ⟨S4096x1024, .f32⟩
  | .hbm, ⟨5, _⟩ => ⟨S4096x1024, .f32⟩
  | .hbm, ⟨6, _⟩ => ⟨S4096x1024, .f32⟩
  | .hbm, ⟨7, _⟩ => ⟨S1x1024, .f32⟩
  | .hbm, ⟨8, _⟩ => ⟨S1x1024, .f32⟩
  | .hbm, ⟨9, _⟩ => ⟨S1024x1536, .bf16⟩
  | .hbm, ⟨10, _⟩ => ⟨S1024x1536, .f32⟩
  | .hbm, ⟨11, _⟩ => ⟨S4096x1536, .f32⟩
  | .hbm, ⟨12, _⟩ => ⟨S4096x1024, .f32⟩
  | .hbm, ⟨13, _⟩ => ⟨S_, .f32⟩
  | .hbm, ⟨14, _⟩ => ⟨S4096, .f32⟩
  | .hbm, ⟨15, _⟩ => ⟨S4096x1, .f32⟩
  | .hbm, ⟨16, _⟩ => ⟨S_, .f32⟩
  | .hbm, ⟨17, _⟩ => ⟨S4096x1, .f32⟩
  | .hbm, ⟨18, _⟩ => ⟨S4096x1, .f32⟩
  | .hbm, ⟨19, _⟩ => ⟨S_, .f32⟩
  | .hbm, ⟨20, _⟩ => ⟨S4096x1, .f32⟩
  | .hbm, ⟨21, _⟩ => ⟨S4096x1, .f32⟩
  | .hbm, ⟨22, _⟩ => ⟨S4096x1, .f32⟩
  | .hbm, ⟨23, _⟩ => ⟨S4096x1, .f32⟩
  | .hbm, ⟨24, _⟩ => ⟨S_, .f32⟩
  | .hbm, ⟨25, _⟩ => ⟨S4096x1, .f32⟩
  | .hbm, ⟨26, _⟩ => ⟨S4096x1, .f32⟩
  | .hbm, ⟨27, _⟩ => ⟨S4096x1024, .f32⟩
  | .hbm, ⟨28, _⟩ => ⟨S4096x1024, .f32⟩
  | .hbm, ⟨29, _⟩ => ⟨S4096x1024, .f32⟩
  | .hbm, ⟨30, _⟩ => ⟨S4096x1024, .f32⟩
  | .hbm, ⟨31, _⟩ => ⟨S4096x1024, .f32⟩
  | .hbm, ⟨32, _⟩ => ⟨S4096x1024, .f32⟩
  | .hbm, ⟨33, _⟩ => ⟨S_, .f32⟩
  | .hbm, ⟨34, _⟩ => ⟨S4096, .f32⟩
  | .hbm, ⟨35, _⟩ => ⟨S4096x1, .f32⟩
  | .hbm, ⟨36, _⟩ => ⟨S_, .f32⟩
  | .hbm, ⟨37, _⟩ => ⟨S4096x1, .f32⟩
  | .hbm, ⟨38, _⟩ => ⟨S4096x1, .f32⟩
  | .hbm, ⟨39, _⟩ => ⟨S_, .f32⟩
  | .hbm, ⟨40, _⟩ => ⟨S4096x1, .f32⟩
  | .hbm, ⟨41, _⟩ => ⟨S4096x1, .f32⟩
  | .hbm, ⟨42, _⟩ => ⟨S4096x1, .f32⟩
  | .hbm, ⟨43, _⟩ => ⟨S4096x1, .f32⟩
  | .hbm, ⟨44, _⟩ => ⟨S_, .f32⟩
  | .hbm, ⟨45, _⟩ => ⟨S4096x1, .f32⟩
  | .hbm, ⟨46, _⟩ => ⟨S4096x1, .f32⟩
  | .hbm, ⟨47, _⟩ => ⟨S4096x1024, .f32⟩
  | .hbm, ⟨48, _⟩ => ⟨S4096x1024, .f32⟩
  | .hbm, ⟨49, _⟩ => ⟨S4096x1024, .f32⟩
  | .hbm, ⟨50, _⟩ => ⟨S4096x1024, .f32⟩
  | .hbm, ⟨51, _⟩ => ⟨S4096x1536, .f32⟩
  | .hbm, ⟨52, _⟩ => ⟨S4096x1024, .f32⟩
  | .hbm, ⟨53, _⟩ => ⟨S4096x1024, .f32⟩
  | .hbm, ⟨54, _⟩ => ⟨S_, .f32⟩
  | .hbm, ⟨55, _⟩ => ⟨S1024, .f32⟩
  | .hbm, ⟨56, _⟩ => ⟨S1x1024, .f32⟩
  | .hbm, ⟨57, _⟩ => ⟨S4096x1024, .f32⟩
  | .hbm, ⟨58, _⟩ => ⟨S4096x1024, .f32⟩
  | .hbm, ⟨59, _⟩ => ⟨S4096x1024, .f32⟩
  | .hbm, ⟨60, _⟩ => ⟨S_, .f32⟩
  | .hbm, ⟨61, _⟩ => ⟨S4096, .f32⟩
  | .hbm, ⟨62, _⟩ => ⟨S4096x1, .f32⟩
  | .hbm, ⟨63, _⟩ => ⟨S4096x1024, .f32⟩
  | .hbm, ⟨64, _⟩ => ⟨S4096x1024, .f32⟩
  | .hbm, ⟨65, _⟩ => ⟨S4096x1024, .f32⟩
  | .hbm, ⟨66, _⟩ => ⟨S4096x1, .f32⟩
  | .hbm, ⟨67, _⟩ => ⟨S_, .f32⟩
  | .hbm, ⟨68, _⟩ => ⟨S4096x1, .f32⟩
  | .hbm, ⟨69, _⟩ => ⟨S4096x1, .f32⟩
  | .hbm, ⟨70, _⟩ => ⟨S_, .f32⟩
  | .hbm, ⟨71, _⟩ => ⟨S4096, .f32⟩
  | .hbm, ⟨72, _⟩ => ⟨S4096x1024, .f32⟩
  | .hbm, ⟨73, _⟩ => ⟨S4096x1024, .f32⟩
  | .hbm, ⟨74, _⟩ => ⟨S4096x1024, .f32⟩
  | .hbm, ⟨75, _⟩ => ⟨S4096x1024, .f32⟩
  | .hbm, ⟨76, _⟩ => ⟨S4096x1024, .f32⟩
  | .hbm, ⟨77, _⟩ => ⟨S4096x1024, .f32⟩
  | .hbm, ⟨78, _⟩ => ⟨S4096x1024, .f32⟩
  | .hbm, ⟨79, _⟩ => ⟨S_, .f32⟩
  | .hbm, ⟨80, _⟩ => ⟨S1024, .f32⟩
  | .hbm, ⟨81, _⟩ => ⟨S1x1024, .f32⟩
  | .hbm, ⟨82, _⟩ => ⟨S4096x1024, .f32⟩
  | .hbm, ⟨83, _⟩ => ⟨S4096x1024, .f32⟩
  | .hbm, ⟨84, _⟩ => ⟨S4096x1024, .f32⟩
  | .hbm, ⟨85, _⟩ => ⟨S_, .f32⟩
  | .hbm, ⟨86, _⟩ => ⟨S4096, .f32⟩
  | .hbm, ⟨87, _⟩ => ⟨S4096x1, .f32⟩
  | .hbm, ⟨88, _⟩ => ⟨S4096x1024, .f32⟩
  | .hbm, ⟨89, _⟩ => ⟨S4096x1024, .f32⟩
  | .hbm, ⟨90, _⟩ => ⟨S4096x1, .f32⟩
  | .hbm, ⟨91, _⟩ => ⟨S_, .f32⟩
  | .hbm, ⟨92, _⟩ => ⟨S4096x1, .f32⟩
  | .hbm, ⟨93, _⟩ => ⟨S4096x1, .f32⟩
  | .hbm, ⟨94, _⟩ => ⟨S_, .f32⟩
  | .hbm, ⟨95, _⟩ => ⟨S4096, .f32⟩
  | .hbm, ⟨96, _⟩ => ⟨S4096x1024, .f32⟩
  | .hbm, ⟨97, _⟩ => ⟨S4096x1024, .f32⟩
  | .hbm, ⟨98, _⟩ => ⟨S4096x1024, .f32⟩
  | .hbm, ⟨99, _⟩ => ⟨S4096x1024, .f32⟩
  | .hbm, ⟨100, _⟩ => ⟨S4096x1024, .f32⟩
  | .hbm, ⟨101, _⟩ => ⟨S4096x1024, .bf16⟩
  | _, _ => ⟨S4096x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_cst : Ref sig .tc := ⟨.hbm, 13, rfl⟩
abbrev main_v4 : Ref sig .tc := ⟨.hbm, 14, rfl⟩
abbrev main_v5 : Ref sig .tc := ⟨.hbm, 15, rfl⟩
abbrev main_cst_0 : Ref sig .tc := ⟨.hbm, 16, rfl⟩
abbrev main_v6 : Ref sig .tc := ⟨.hbm, 17, rfl⟩
abbrev main_v7 : Ref sig .tc := ⟨.hbm, 18, rfl⟩
abbrev main_cst_1 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩
abbrev main_cst_2 : Ref sig .tc := ⟨.hbm, 24, rfl⟩
abbrev main_v12 : Ref sig .tc := ⟨.hbm, 25, rfl⟩
abbrev main_v13 : Ref sig .tc := ⟨.hbm, 26, rfl⟩
abbrev main_v14 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_v18 : Ref sig .tc := ⟨.hbm, 31, rfl⟩
abbrev main_v19 : Ref sig .tc := ⟨.hbm, 32, rfl⟩
abbrev main_cst_3 : Ref sig .tc := ⟨.hbm, 33, rfl⟩
abbrev main_v20 : Ref sig .tc := ⟨.hbm, 34, rfl⟩
abbrev main_v21 : Ref sig .tc := ⟨.hbm, 35, rfl⟩
abbrev main_cst_4 : Ref sig .tc := ⟨.hbm, 36, rfl⟩
abbrev main_v22 : Ref sig .tc := ⟨.hbm, 37, rfl⟩
abbrev main_v23 : Ref sig .tc := ⟨.hbm, 38, rfl⟩
abbrev main_cst_5 : Ref sig .tc := ⟨.hbm, 39, rfl⟩
abbrev main_v24 : Ref sig .tc := ⟨.hbm, 40, rfl⟩
abbrev main_v25 : Ref sig .tc := ⟨.hbm, 41, rfl⟩
abbrev main_v26 : Ref sig .tc := ⟨.hbm, 42, rfl⟩
abbrev main_v27 : Ref sig .tc := ⟨.hbm, 43, rfl⟩
abbrev main_cst_6 : Ref sig .tc := ⟨.hbm, 44, rfl⟩
abbrev main_v28 : Ref sig .tc := ⟨.hbm, 45, rfl⟩
abbrev main_v29 : Ref sig .tc := ⟨.hbm, 46, rfl⟩
abbrev main_v30 : Ref sig .tc := ⟨.hbm, 47, rfl⟩
abbrev main_v31 : Ref sig .tc := ⟨.hbm, 48, rfl⟩
abbrev main_v32 : Ref sig .tc := ⟨.hbm, 49, rfl⟩
abbrev main_v33 : Ref sig .tc := ⟨.hbm, 50, rfl⟩
abbrev main_v34 : Ref sig .tc := ⟨.hbm, 51, rfl⟩
abbrev main_v35 : Ref sig .tc := ⟨.hbm, 52, rfl⟩
abbrev main_v36 : Ref sig .tc := ⟨.hbm, 53, rfl⟩
abbrev main_cst_7 : Ref sig .tc := ⟨.hbm, 54, rfl⟩
abbrev main_v37 : Ref sig .tc := ⟨.hbm, 55, rfl⟩
abbrev main_v38 : Ref sig .tc := ⟨.hbm, 56, rfl⟩
abbrev main_v39 : Ref sig .tc := ⟨.hbm, 57, rfl⟩
abbrev main_v40 : Ref sig .tc := ⟨.hbm, 58, rfl⟩
abbrev main_v41 : Ref sig .tc := ⟨.hbm, 59, rfl⟩
abbrev main_cst_8 : Ref sig .tc := ⟨.hbm, 60, rfl⟩
abbrev main_v42 : Ref sig .tc := ⟨.hbm, 61, rfl⟩
abbrev main_v43 : Ref sig .tc := ⟨.hbm, 62, rfl⟩
abbrev main_v44 : Ref sig .tc := ⟨.hbm, 63, rfl⟩
abbrev main_v45 : Ref sig .tc := ⟨.hbm, 64, rfl⟩
abbrev main_v46 : Ref sig .tc := ⟨.hbm, 65, rfl⟩
abbrev main_v47 : Ref sig .tc := ⟨.hbm, 66, rfl⟩
abbrev main_cst_9 : Ref sig .tc := ⟨.hbm, 67, rfl⟩
abbrev main_v48 : Ref sig .tc := ⟨.hbm, 68, rfl⟩
abbrev main_v49 : Ref sig .tc := ⟨.hbm, 69, rfl⟩
abbrev main_cst_10 : Ref sig .tc := ⟨.hbm, 70, rfl⟩
abbrev main_v50 : Ref sig .tc := ⟨.hbm, 71, rfl⟩
abbrev main_v51 : Ref sig .tc := ⟨.hbm, 72, rfl⟩
abbrev main_v52 : Ref sig .tc := ⟨.hbm, 73, rfl⟩
abbrev main_v53 : Ref sig .tc := ⟨.hbm, 74, rfl⟩
abbrev main_v54 : Ref sig .tc := ⟨.hbm, 75, rfl⟩
abbrev main_v55 : Ref sig .tc := ⟨.hbm, 76, rfl⟩
abbrev main_v56 : Ref sig .tc := ⟨.hbm, 77, rfl⟩
abbrev main_v57 : Ref sig .tc := ⟨.hbm, 78, rfl⟩
abbrev main_cst_11 : Ref sig .tc := ⟨.hbm, 79, rfl⟩
abbrev main_v58 : Ref sig .tc := ⟨.hbm, 80, rfl⟩
abbrev main_v59 : Ref sig .tc := ⟨.hbm, 81, rfl⟩
abbrev main_v60 : Ref sig .tc := ⟨.hbm, 82, rfl⟩
abbrev main_v61 : Ref sig .tc := ⟨.hbm, 83, rfl⟩
abbrev main_v62 : Ref sig .tc := ⟨.hbm, 84, rfl⟩
abbrev main_cst_12 : Ref sig .tc := ⟨.hbm, 85, rfl⟩
abbrev main_v63 : Ref sig .tc := ⟨.hbm, 86, rfl⟩
abbrev main_v64 : Ref sig .tc := ⟨.hbm, 87, rfl⟩
abbrev main_v65 : Ref sig .tc := ⟨.hbm, 88, rfl⟩
abbrev main_v66 : Ref sig .tc := ⟨.hbm, 89, rfl⟩
abbrev main_v67 : Ref sig .tc := ⟨.hbm, 90, rfl⟩
abbrev main_cst_13 : Ref sig .tc := ⟨.hbm, 91, rfl⟩
abbrev main_v68 : Ref sig .tc := ⟨.hbm, 92, rfl⟩
abbrev main_v69 : Ref sig .tc := ⟨.hbm, 93, rfl⟩
abbrev main_cst_14 : Ref sig .tc := ⟨.hbm, 94, rfl⟩
abbrev main_v70 : Ref sig .tc := ⟨.hbm, 95, rfl⟩
abbrev main_v71 : Ref sig .tc := ⟨.hbm, 96, rfl⟩
abbrev main_v72 : Ref sig .tc := ⟨.hbm, 97, rfl⟩
abbrev main_v73 : Ref sig .tc := ⟨.hbm, 98, rfl⟩
abbrev main_v74 : Ref sig .tc := ⟨.hbm, 99, rfl⟩
abbrev main_v75 : Ref sig .tc := ⟨.hbm, 100, rfl⟩
abbrev main_v76 : Ref sig .tc := ⟨.hbm, 101, rfl⟩

abbrev nD : Nat := 1
abbrev τ : Topo := Topo.v7x

variable {F : FTy → Type} [FloatOps F]
-- ==== Kernel8.lean ====
abbrev S4096x512 : Shape := ⟨2, ![4096, 512]⟩
abbrev S4096x1024 : Shape := ⟨2, ![4096, 1024]⟩
abbrev S1536x1024 : Shape := ⟨2, ![1536, 1024]⟩
abbrev S1024x512 : Shape := ⟨2, ![1024, 512]⟩
abbrev S1024x1024 : Shape := ⟨2, ![1024, 1024]⟩
abbrev S512x1024 : Shape := ⟨2, ![512, 1024]⟩

abbrev nBuf : Space → Nat
  | .hbm => 5
  | .vmem => 10
  | .smem => 0
  | _ => 0

abbrev bufTy : (tb : Table) → Fin (tcTables nBuf tb) → BufTy
  | .hbm, ⟨0, _⟩ => ⟨S4096x512, .f32⟩
  | .hbm, ⟨1, _⟩ => ⟨S4096x512, .f32⟩
  | .hbm, ⟨2, _⟩ => ⟨S4096x512, .f32⟩
  | .hbm, ⟨3, _⟩ => ⟨S4096x1024, .bf16⟩
  | .hbm, ⟨4, _⟩ => ⟨S1536x1024, .f32⟩
  | .local _ .vmem, ⟨0, _⟩ => ⟨S1024x512, .f32⟩
  | .local _ .vmem, ⟨1, _⟩ => ⟨S1024x512, .f32⟩
  | .local _ .vmem, ⟨2, _⟩ => ⟨S1024x512, .f32⟩
  | .local _ .vmem, ⟨3, _⟩ => ⟨S1024x512, .f32⟩
  | .local _ .vmem, ⟨4, _⟩ => ⟨S1024x512, .f32⟩
  | .local _ .vmem, ⟨5, _⟩ => ⟨S1024x512, .f32⟩
  | .local _ .vmem, ⟨6, _⟩ => ⟨S1024x1024, .bf16⟩
  | .local _ .vmem, ⟨7, _⟩ => ⟨S1024x1024, .bf16⟩
  | .local _ .vmem, ⟨8, _⟩ => ⟨S1536x1024, .f32⟩
  | .local _ .vmem, ⟨9, _⟩ => ⟨S1536x1024, .f32⟩
  | _, _ => ⟨S4096x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_scratch0 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8

abbrev nD : Nat := 1
abbrev τ : Topo := Topo.v7x

variable {F : FTy → Type} [FloatOps F]

abbrev grid0 : Pipeline.Grid := ⟨3, ![1, 1, 4], ![false, false, false]⟩

def k0_cond2 (i : grid0.Coords) : BitVec 1 :=
  let arg2 : BitVec 32 := BitVec.ofNat 32 (i 2).val
  let c3_i32 : BitVec 32 := 3#32
  let v30 : BitVec 1 := Scalar.cmpi .eq arg2 c3_i32
  let v31 : BitVec 32 := Scalar.extui v30
  let c0_i32_24 : BitVec 32 := 0#32
  let v32 : BitVec 1 := Scalar.cmpi .ne v31 c0_i32_24
  v32

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg2.toNat, c0_i32.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg2.toNat, c0_i32.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg2.toNat, c0_i32.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_4 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, false, true]

abbrev stage0_1 : Fin 2 → Memref sig .tc .vmem S1024x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, false, true]

abbrev stage0_2 : Fin 2 → Memref sig .tc .vmem S1024x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, false, true]

abbrev stage0_3 : Fin 2 → Memref sig .tc .vmem S1024x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true, true]

abbrev stage0_4 : Fin 1 → Memref sig .tc .vmem S1536x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true, true, false]
-- ==== Reference8Ideal.lean ====
abbrev S4096x512 : Shape := ⟨2, ![4096, 512]⟩
abbrev S4096x1024 : Shape := ⟨2, ![4096, 1024]⟩
abbrev S4096x1536 : Shape := ⟨2, ![4096, 1536]⟩
abbrev S_ : Shape := ⟨0, ![]⟩
abbrev S1536x1024 : Shape := ⟨2, ![1536, 1024]⟩
abbrev S1024x1536 : Shape := ⟨2, ![1024, 1536]⟩

abbrev nBuf : Space → Nat
  | .hbm => 13
  | .vmem => 0
  | .smem => 0
  | _ => 0

abbrev bufTy : (tb : Table) → Fin (tcTables nBuf tb) → BufTy
  | .hbm, ⟨0, _⟩ => ⟨S4096x512, .f32⟩
  | .hbm, ⟨1, _⟩ => ⟨S4096x512, .f32⟩
  | .hbm, ⟨2, _⟩ => ⟨S4096x512, .f32⟩
  | .hbm, ⟨3, _⟩ => ⟨S4096x1024, .bf16⟩
  | .hbm, ⟨4, _⟩ => ⟨S4096x1024, .f32⟩
  | .hbm, ⟨5, _⟩ => ⟨S4096x1536, .f32⟩
  | .hbm, ⟨6, _⟩ => ⟨S_, .f32⟩
  | .hbm, ⟨7, _⟩ => ⟨S1536x1024, .f32⟩
  | .hbm, ⟨8, _⟩ => ⟨S1024x1536, .f32⟩
  | .hbm, ⟨9, _⟩ => ⟨S4096x1536, .f32⟩
  | .hbm, ⟨10, _⟩ => ⟨S1536x1024, .f32⟩
  | .hbm, ⟨11, _⟩ => ⟨S1024x1536, .f32⟩
  | .hbm, ⟨12, _⟩ => ⟨S1536x1024, .f32⟩
  | _, _ => ⟨S4096x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_cst : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩

abbrev nD : Nat := 1
abbrev τ : Topo := Topo.v7x

variable {F : FTy → Type} [FloatOps F]
-- ==== Kernel9.lean ====
abbrev S4096x512 : Shape := ⟨2, ![4096, 512]⟩
abbrev S4096x1024 : Shape := ⟨2, ![4096, 1024]⟩
abbrev S1024x1024 : Shape := ⟨2, ![1024, 1024]⟩
abbrev S1024x512 : Shape := ⟨2, ![1024, 512]⟩
abbrev S512x1024 : Shape := ⟨2, ![512, 1024]⟩

abbrev nBuf : Space → Nat
  | .hbm => 4
  | .vmem => 8
  | .smem => 0
  | _ => 0

abbrev bufTy : (tb : Table) → Fin (tcTables nBuf tb) → BufTy
  | .hbm, ⟨0, _⟩ => ⟨S4096x512, .bf16⟩
  | .hbm, ⟨1, _⟩ => ⟨S4096x512, .bf16⟩
  | .hbm, ⟨2, _⟩ => ⟨S4096x1024, .bf16⟩
  | .hbm, ⟨3, _⟩ => ⟨S1024x1024, .f32⟩
  | .local _ .vmem, ⟨0, _⟩ => ⟨S1024x512, .bf16⟩
  | .local _ .vmem, ⟨1, _⟩ => ⟨S1024x512, .bf16⟩
  | .local _ .vmem, ⟨2, _⟩ => ⟨S1024x512, .bf16⟩
  | .local _ .vmem, ⟨3, _⟩ => ⟨S1024x512, .bf16⟩
  | .local _ .vmem, ⟨4, _⟩ => ⟨S1024x1024, .bf16⟩
  | .local _ .vmem, ⟨5, _⟩ => ⟨S1024x1024, .bf16⟩
  | .local _ .vmem, ⟨6, _⟩ => ⟨S1024x1024, .f32⟩
  | .local _ .vmem, ⟨7, _⟩ => ⟨S1024x1024, .f32⟩
  | _, _ => ⟨S4096x512, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_scratch0 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6

abbrev nD : Nat := 1
abbrev τ : Topo := Topo.v7x

variable {F : FTy → Type} [FloatOps F]

abbrev grid0 : Pipeline.Grid := ⟨3, ![1, 1, 4], ![false, false, false]⟩

def k0_cond2 (i : grid0.Coords) : BitVec 1 :=
  let arg2 : BitVec 32 := BitVec.ofNat 32 (i 2).val
  let c3_i32 : BitVec 32 := 3#32
  let v19 : BitVec 1 := Scalar.cmpi .eq arg2 c3_i32
  let v20 : BitVec 32 := Scalar.extui v19
  let c0_i32_16 : BitVec 32 := 0#32
  let v21 : BitVec 1 := Scalar.cmpi .ne v20 c0_i32_16
  v21

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg2.toNat, c0_i32.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg2.toNat, c0_i32.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, false, true]

abbrev stage0_1 : Fin 2 → Memref sig .tc .vmem S1024x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, false, true]

abbrev stage0_2 : Fin 2 → Memref sig .tc .vmem S1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true, true]

abbrev stage0_3 : Fin 1 → Memref sig .tc .vmem S1024x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true, true, false]
-- ==== Reference9Ideal.lean ====
abbrev S4096x512 : Shape := ⟨2, ![4096, 512]⟩
abbrev S4096x1024 : Shape := ⟨2, ![4096, 1024]⟩
abbrev S_ : Shape := ⟨0, ![]⟩
abbrev S1024x1024 : Shape := ⟨2, ![1024, 1024]⟩

abbrev nBuf : Space → Nat
  | .hbm => 11
  | .vmem => 0
  | .smem => 0
  | _ => 0

abbrev bufTy : (tb : Table) → Fin (tcTables nBuf tb) → BufTy
  | .hbm, ⟨0, _⟩ => ⟨S4096x512, .bf16⟩
  | .hbm, ⟨1, _⟩ => ⟨S4096x512, .bf16⟩
  | .hbm, ⟨2, _⟩ => ⟨S4096x1024, .bf16⟩
  | .hbm, ⟨3, _⟩ => ⟨S4096x1024, .bf16⟩
  | .hbm, ⟨4, _⟩ => ⟨S4096x1024, .f32⟩
  | .hbm, ⟨5, _⟩ => ⟨S_, .f32⟩
  | .hbm, ⟨6, _⟩ => ⟨S1024x1024, .f32⟩
  | .hbm, ⟨7, _⟩ => ⟨S4096x1024, .f32⟩
  | .hbm, ⟨8, _⟩ => ⟨S4096x1024, .f32⟩
  | .hbm, ⟨9, _⟩ => ⟨S1024x1024, .f32⟩
  | .hbm, ⟨10, _⟩ => ⟨S1024x1024, .f32⟩
  | _, _ => ⟨S4096x512, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_cst : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩

abbrev nD : Nat := 1
abbrev τ : Topo := Topo.v7x

variable {F : FTy → Type} [FloatOps F]
-- ==== Kernel10.lean ====
abbrev S4096x512 : Shape := ⟨2, ![4096, 512]⟩
abbrev S4096x128 : Shape := ⟨2, ![4096, 128]⟩
abbrev S2056x1024 : Shape := ⟨2, ![2056, 1024]⟩
abbrev S4096x1024 : Shape := ⟨2, ![4096, 1024]⟩
abbrev S1x1024 : Shape := ⟨2, ![1, 1024]⟩
abbrev S_ : Shape := ⟨0, ![]⟩
abbrev S2176x1024 : Shape := ⟨2, ![2176, 1024]⟩
abbrev S4096 : Shape := ⟨1, ![4096]⟩
abbrev S4096x1 : Shape := ⟨2, ![4096, 1]⟩
abbrev S512x512 : Shape := ⟨2, ![512, 512]⟩
abbrev S512x128 : Shape := ⟨2, ![512, 128]⟩
abbrev S512x1024 : Shape := ⟨2, ![512, 1024]⟩
abbrev S512x1 : Shape := ⟨2, ![512, 1]⟩
abbrev S128x1024 : Shape := ⟨2, ![128, 1024]⟩
abbrev S512 : Shape := ⟨1, ![512]⟩
abbrev S1024 : Shape := ⟨1, ![1024]⟩

abbrev nBuf : Space → Nat
  | .hbm => 25
  | .vmem => 21
  | .smem => 0
  | _ => 0

abbrev bufTy : (tb : Table) → Fin (tcTables nBuf tb) → BufTy
  | .hbm, ⟨0, _⟩ => ⟨S4096x512, .f32⟩
  | .hbm, ⟨1, _⟩ => ⟨S4096x512, .f32⟩
  | .hbm, ⟨2, _⟩ => ⟨S4096x512, .f32⟩
  | .hbm, ⟨3, _⟩ => ⟨S4096x512, .f32⟩
  | .hbm, ⟨4, _⟩ => ⟨S4096x128, .f32⟩
  | .hbm, ⟨5, _⟩ => ⟨S2056x1024, .bf16⟩
  | .hbm, ⟨6, _⟩ => ⟨S4096x1024, .f32⟩
  | .hbm, ⟨7, _⟩ => ⟨S4096x1024, .f32⟩
  | .hbm, ⟨8, _⟩ => ⟨S1x1024, .f32⟩
  | .hbm, ⟨9, _⟩ => ⟨S_, .i32⟩
  | .hbm, ⟨10, _⟩ => ⟨S_, .bf16⟩
  | .hbm, ⟨11, _⟩ => ⟨S2176x1024, .bf16⟩
  | .hbm, ⟨12, _⟩ => ⟨S4096x1024, .f32⟩
  | .hbm, ⟨13, _⟩ => ⟨S_, .f32⟩
  | .hbm, ⟨14, _⟩ => ⟨S4096, .f32⟩
  | .hbm, ⟨15, _⟩ => ⟨S4096x1, .f32⟩
  | .hbm, ⟨16, _⟩ => ⟨S_, .f32⟩
  | .hbm, ⟨17, _⟩ => ⟨S4096x1, .f32⟩
  | .hbm, ⟨18, _⟩ => ⟨S4096x1, .f32⟩
  | .hbm, ⟨19, _⟩ => ⟨S_, .f32⟩
  | .hbm, ⟨20, _⟩ => ⟨S4096x1, .f32⟩
  | .hbm, ⟨21, _⟩ => ⟨S4096x1, .f32⟩
  | .hbm, ⟨22, _⟩ => ⟨S4096x1, .f32⟩
  | .hbm, ⟨23, _⟩ => ⟨S4096x1024, .f32⟩
  | .hbm, ⟨24, _⟩ => ⟨S1x1024, .f32⟩
  | .local _ .vmem, ⟨0, _⟩ => ⟨S512x512, .f32⟩
  | .local _ .vmem, ⟨1, _⟩ => ⟨S512x512, .f32⟩
  | .local _ .vmem, ⟨2, _⟩ => ⟨S512x512, .f32⟩
  | .local _ .vmem, ⟨3, _⟩ => ⟨S512x512, .f32⟩
  | .local _ .vmem, ⟨4, _⟩ => ⟨S512x512, .f32⟩
  | .local _ .vmem, ⟨5, _⟩ => ⟨S512x512, .f32⟩
  | .local _ .vmem, ⟨6, _⟩ => ⟨S512x512, .f32⟩
  | .local _ .vmem, ⟨7, _⟩ => ⟨S512x512, .f32⟩
  | .local _ .vmem, ⟨8, _⟩ => ⟨S512x128, .f32⟩
  | .local _ .vmem, ⟨9, _⟩ => ⟨S512x128, .f32⟩
  | .local _ .vmem, ⟨10, _⟩ => ⟨S2176x1024, .bf16⟩
  | .local _ .vmem, ⟨11, _⟩ => ⟨S512x1024, .f32⟩
  | .local _ .vmem, ⟨12, _⟩ => ⟨S512x1024, .f32⟩
  | .local _ .vmem, ⟨13, _⟩ => ⟨S512x1024, .f32⟩
  | .local _ .vmem, ⟨14, _⟩ => ⟨S512x1024, .f32⟩
  | .local _ .vmem, ⟨15, _⟩ => ⟨S512x1, .f32⟩
  | .local _ .vmem, ⟨16, _⟩ => ⟨S512x1, .f32⟩
  | .local _ .vmem, ⟨17, _⟩ => ⟨S1x1024, .f32⟩
  | .local _ .vmem, ⟨18, _⟩ => ⟨S512x1024, .f32⟩
  | .local _ .vmem, ⟨19, _⟩ => ⟨S512x1024, .f32⟩
  | .local _ .vmem, ⟨20, _⟩ => ⟨S1x1024, .f32⟩
  | _, _ => ⟨S4096x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | _, _ => false

abbrev semScoped : Fin 0 → Bool
  | ⟨_, h⟩ => absurd h (Nat.not_lt_zero _)

abbrev dmaSemScoped : Fin 21 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | _ => false

abbrev sig : RefSig :=
  ofTc nBuf bufTy 0 21 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_c : Ref sig .tc := ⟨.hbm, 9, rfl⟩
abbrev main_call0_v0 : Ref sig .tc := ⟨.hbm, 10, rfl⟩
abbrev main_v0 : Ref sig .tc := ⟨.hbm, 11, rfl⟩
abbrev main_v1 : Ref sig .tc := ⟨.hbm, 12, rfl⟩
abbrev main_cst : Ref sig .tc := ⟨.hbm, 13, rfl⟩
abbrev main_v2 : Ref sig .tc := ⟨.hbm, 14, rfl⟩
abbrev main_v3 : Ref sig .tc := ⟨.hbm, 15, rfl⟩
abbrev main_cst_0 : Ref sig .tc := ⟨.hbm, 16, rfl⟩
abbrev main_v4 : Ref sig .tc := ⟨.hbm, 17, rfl⟩
abbrev main_v5 : Ref sig .tc := ⟨.hbm, 18, rfl⟩
abbrev main_cst_1 : Ref sig .tc := ⟨.hbm, 19, rfl⟩
abbrev main_v6 : Ref sig .tc := ⟨.hbm, 20, rfl⟩
abbrev main_v7 : Ref sig .tc := ⟨.hbm, 21, rfl⟩
abbrev main_v8 : Ref sig .tc := ⟨.hbm, 22, rfl⟩
abbrev main_v9_0 : Ref sig .tc := ⟨.hbm, 23, rfl⟩
abbrev main_v9_1 : Ref sig .tc := ⟨.hbm, 24, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg6_0 : Ref sig .tc := ⟨.vmem, 11, rfl⟩
abbrev cc0_stg6_1 : Ref sig .tc := ⟨.vmem, 12, rfl⟩
abbrev cc0_stg7_0 : Ref sig .tc := ⟨.vmem, 13, rfl⟩
abbrev cc0_stg7_1 : Ref sig .tc := ⟨.vmem, 14, rfl⟩
abbrev cc0_stg8_0 : Ref sig .tc := ⟨.vmem, 15, rfl⟩
abbrev cc0_stg8_1 : Ref sig .tc := ⟨.vmem, 16, rfl⟩
abbrev cc0_stg9_0 : Ref sig .tc := ⟨.vmem, 17, rfl⟩
abbrev cc0_stg10_0 : Ref sig .tc := ⟨.vmem, 18, rfl⟩
abbrev cc0_stg10_1 : Ref sig .tc := ⟨.vmem, 19, rfl⟩
abbrev cc0_stg11_0 : Ref sig .tc := ⟨.vmem, 20, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem6_0 : DmaSem sig := 11
abbrev cc0_sem6_1 : DmaSem sig := 12
abbrev cc0_sem7_0 : DmaSem sig := 13
abbrev cc0_sem7_1 : DmaSem sig := 14
abbrev cc0_sem8_0 : DmaSem sig := 15
abbrev cc0_sem8_1 : DmaSem sig := 16
abbrev cc0_sem9_0 : DmaSem sig := 17
abbrev cc0_sem10_0 : DmaSem sig := 18
abbrev cc0_sem10_1 : DmaSem sig := 19
abbrev cc0_sem11_0 : DmaSem sig := 20

abbrev nD : Nat := 1
abbrev τ : Topo := Topo.v7x

variable {F : FTy → Type} [FloatOps F]

abbrev grid0 : Pipeline.Grid := ⟨3, ![8, 1, 1], ![false, false, false]⟩

def k0_cond1 (i : grid0.Coords) : BitVec 1 :=
  let arg0 : BitVec 32 := BitVec.ofNat 32 (i 0).val
  let c0_i32 : BitVec 32 := 0#32
  let v53 : BitVec 1 := Scalar.cmpi .eq arg0 c0_i32
  let v54 : BitVec 32 := Scalar.extui v53
  let c0_i32_32 : BitVec 32 := 0#32
  let v55 : BitVec 1 := Scalar.cmpi .ne v54 c0_i32_32
  v55

def k0_cond2 (i : grid0.Coords) : BitVec 1 :=
  let arg0 : BitVec 32 := BitVec.ofNat 32 (i 0).val
  let c0_i32_33 : BitVec 32 := 0#32
  let v56 : BitVec 1 := Scalar.cmpi .sgt arg0 c0_i32_33
  let v57 : BitVec 32 := Scalar.extui v56
  let c0_i32_34 : BitVec 32 := 0#32
  let v58 : BitVec 1 := Scalar.cmpi .ne v57 c0_i32_34
  v58

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_6 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_7 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_8 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg1.toNat]

def cc0_transform_10 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_11 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg1.toNat]

abbrev stage0_0 : Fin 2 → Memref sig .tc .vmem S512x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, false]

abbrev stage0_1 : Fin 2 → Memref sig .tc .vmem S512x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false, false]

abbrev stage0_2 : Fin 2 → Memref sig .tc .vmem S512x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false, false]

abbrev stage0_3 : Fin 2 → Memref sig .tc .vmem S512x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false, false]

abbrev stage0_4 : Fin 2 → Memref sig .tc .vmem S512x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false, false]

abbrev stage0_5 : Fin 1 → Memref sig .tc .vmem S2176x1024 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, true, true]

abbrev stage0_6 : Fin 2 → Memref sig .tc .vmem S512x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true, false]

abbrev stage0_7 : Fin 2 → Memref sig .tc .vmem S512x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true, false]

abbrev stage0_8 : Fin 2 → Memref sig .tc .vmem S512x1 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, false, false]

abbrev stage0_9 : Fin 1 → Memref sig .tc .vmem S1x1024 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false, true, false]

abbrev stage0_10 : Fin 2 → Memref sig .tc .vmem S512x1024 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, true, false]

abbrev stage0_11 : Fin 1 → Memref sig .tc .vmem S1x1024 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false, true, false]
-- ==== Reference10Ideal.lean ====
abbrev S4096x512 : Shape := ⟨2, ![4096, 512]⟩
abbrev S4096x128 : Shape := ⟨2, ![4096, 128]⟩
abbrev S2056x1024 : Shape := ⟨2, ![2056, 1024]⟩
abbrev S4096x1024 : Shape := ⟨2, ![4096, 1024]⟩
abbrev S1x1024 : Shape := ⟨2, ![1, 1024]⟩
abbrev S1024x2056 : Shape := ⟨2, ![1024, 2056]⟩
abbrev S4096x8 : Shape := ⟨2, ![4096, 8]⟩
abbrev S4096x2056 : Shape := ⟨2, ![4096, 2056]⟩
abbrev S_ : Shape := ⟨0, ![]⟩
abbrev S4096 : Shape := ⟨1, ![4096]⟩
abbrev S4096x1 : Shape := ⟨2, ![4096, 1]⟩
abbrev S1024 : Shape := ⟨1, ![1024]⟩

abbrev nBuf : Space → Nat
  | .hbm => 58
  | .vmem => 0
  | .smem => 0
  | _ => 0

abbrev bufTy : (tb : Table) → Fin (tcTables nBuf tb) → BufTy
  | .hbm, ⟨0, _⟩ => ⟨S4096x512, .f32⟩
  | .hbm, ⟨1, _⟩ => ⟨S4096x512, .f32⟩
  | .hbm, ⟨2, _⟩ => ⟨S4096x512, .f32⟩
  | .hbm, ⟨3, _⟩ => ⟨S4096x512, .f32⟩
  | .hbm, ⟨4, _⟩ => ⟨S4096x128, .f32⟩
  | .hbm, ⟨5, _⟩ => ⟨S2056x1024, .bf16⟩
  | .hbm, ⟨6, _⟩ => ⟨S4096x1024, .f32⟩
  | .hbm, ⟨7, _⟩ => ⟨S4096x1024, .f32⟩
  | .hbm, ⟨8, _⟩ => ⟨S1x1024, .f32⟩
  | .hbm, ⟨9, _⟩ => ⟨S1024x2056, .bf16⟩
  | .hbm, ⟨10, _⟩ => ⟨S1024x2056, .f32⟩
  | .hbm, ⟨11, _⟩ => ⟨S4096x8, .f32⟩
  | .hbm, ⟨12, _⟩ => ⟨S4096x2056, .f32⟩
  | .hbm, ⟨13, _⟩ => ⟨S4096x1024, .f32⟩
  | .hbm, ⟨14, _⟩ => ⟨S_, .f32⟩
  | .hbm, ⟨15, _⟩ => ⟨S4096, .f32⟩
  | .hbm, ⟨16, _⟩ => ⟨S4096x1, .f32⟩
  | .hbm, ⟨17, _⟩ => ⟨S_, .f32⟩
  | .hbm, ⟨18, _⟩ => ⟨S4096x1, .f32⟩
  | .hbm, ⟨19, _⟩ => ⟨S4096x1, .f32⟩
  | .hbm, ⟨20, _⟩ => ⟨S_, .f32⟩
  | .hbm, ⟨21, _⟩ => ⟨S4096x1, .f32⟩
  | .hbm, ⟨22, _⟩ => ⟨S4096x1, .f32⟩
  | .hbm, ⟨23, _⟩ => ⟨S4096x1, .f32⟩
  | .hbm, ⟨24, _⟩ => ⟨S4096x1, .f32⟩
  | .hbm, ⟨25, _⟩ => ⟨S_, .f32⟩
  | .hbm, ⟨26, _⟩ => ⟨S4096x1, .f32⟩
  | .hbm, ⟨27, _⟩ => ⟨S4096x1, .f32⟩
  | .hbm, ⟨28, _⟩ => ⟨S4096x1024, .f32⟩
  | .hbm, ⟨29, _⟩ => ⟨S4096x1024, .f32⟩
  | .hbm, ⟨30, _⟩ => ⟨S4096x1024, .f32⟩
  | .hbm, ⟨31, _⟩ => ⟨S4096x1024, .f32⟩
  | .hbm, ⟨32, _⟩ => ⟨S4096x2056, .f32⟩
  | .hbm, ⟨33, _⟩ => ⟨S4096x1024, .f32⟩
  | .hbm, ⟨34, _⟩ => ⟨S4096x1024, .f32⟩
  | .hbm, ⟨35, _⟩ => ⟨S_, .f32⟩
  | .hbm, ⟨36, _⟩ => ⟨S1024, .f32⟩
  | .hbm, ⟨37, _⟩ => ⟨S1x1024, .f32⟩
  | .hbm, ⟨38, _⟩ => ⟨S4096x1024, .f32⟩
  | .hbm, ⟨39, _⟩ => ⟨S4096x1024, .f32⟩
  | .hbm, ⟨40, _⟩ => ⟨S4096x1024, .f32⟩
  | .hbm, ⟨41, _⟩ => ⟨S_, .f32⟩
  | .hbm, ⟨42, _⟩ => ⟨S4096, .f32⟩
  | .hbm, ⟨43, _⟩ => ⟨S4096x1, .f32⟩
  | .hbm, ⟨44, _⟩ => ⟨S4096x1024, .f32⟩
  | .hbm, ⟨45, _⟩ => ⟨S4096x1024, .f32⟩
  | .hbm, ⟨46, _⟩ => ⟨S4096x1024, .f32⟩
  | .hbm, ⟨47, _⟩ => ⟨S4096x1, .f32⟩
  | .hbm, ⟨48, _⟩ => ⟨S_, .f32⟩
  | .hbm, ⟨49, _⟩ => ⟨S4096x1, .f32⟩
  | .hbm, ⟨50, _⟩ => ⟨S4096x1, .f32⟩
  | .hbm, ⟨51, _⟩ => ⟨S_, .f32⟩
  | .hbm, ⟨52, _⟩ => ⟨S4096, .f32⟩
  | .hbm, ⟨53, _⟩ => ⟨S4096x1024, .f32⟩
  | .hbm, ⟨54, _⟩ => ⟨S4096x1024, .f32⟩
  | .hbm, ⟨55, _⟩ => ⟨S4096x1024, .f32⟩
  | .hbm, ⟨56, _⟩ => ⟨S4096x1024, .f32⟩
  | .hbm, ⟨57, _⟩ => ⟨S4096x1024, .f32⟩
  | _, _ => ⟨S4096x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_cst : Ref sig .tc := ⟨.hbm, 14, rfl⟩
abbrev main_v5 : Ref sig .tc := ⟨.hbm, 15, rfl⟩
abbrev main_v6 : Ref sig .tc := ⟨.hbm, 16, rfl⟩
abbrev main_cst_0 : Ref sig .tc := ⟨.hbm, 17, rfl⟩
abbrev main_v7 : Ref sig .tc := ⟨.hbm, 18, rfl⟩
abbrev main_v8 : Ref sig .tc := ⟨.hbm, 19, rfl⟩
abbrev main_cst_1 : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev main_cst_2 : Ref sig .tc := ⟨.hbm, 25, rfl⟩
abbrev main_v13 : Ref sig .tc := ⟨.hbm, 26, rfl⟩
abbrev main_v14 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_v18 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_cst_3 : Ref sig .tc := ⟨.hbm, 35, rfl⟩
abbrev main_v22 : Ref sig .tc := ⟨.hbm, 36, rfl⟩
abbrev main_v23 : Ref sig .tc := ⟨.hbm, 37, rfl⟩
abbrev main_v24 : Ref sig .tc := ⟨.hbm, 38, rfl⟩
abbrev main_v25 : Ref sig .tc := ⟨.hbm, 39, rfl⟩
abbrev main_v26 : Ref sig .tc := ⟨.hbm, 40, rfl⟩
abbrev main_cst_4 : Ref sig .tc := ⟨.hbm, 41, rfl⟩
abbrev main_v27 : Ref sig .tc := ⟨.hbm, 42, rfl⟩
abbrev main_v28 : Ref sig .tc := ⟨.hbm, 43, rfl⟩
abbrev main_v29 : Ref sig .tc := ⟨.hbm, 44, rfl⟩
abbrev main_v30 : Ref sig .tc := ⟨.hbm, 45, rfl⟩
abbrev main_v31 : Ref sig .tc := ⟨.hbm, 46, rfl⟩
abbrev main_v32 : Ref sig .tc := ⟨.hbm, 47, rfl⟩
abbrev main_cst_5 : Ref sig .tc := ⟨.hbm, 48, rfl⟩
abbrev main_v33 : Ref sig .tc := ⟨.hbm, 49, rfl⟩
abbrev main_v34 : Ref sig .tc := ⟨.hbm, 50, rfl⟩
abbrev main_cst_6 : Ref sig .tc := ⟨.hbm, 51, rfl⟩
abbrev main_v35 : Ref sig .tc := ⟨.hbm, 52, rfl⟩
abbrev main_v36 : Ref sig .tc := ⟨.hbm, 53, rfl⟩
abbrev main_v37 : Ref sig .tc := ⟨.hbm, 54, rfl⟩
abbrev main_v38 : Ref sig .tc := ⟨.hbm, 55, rfl⟩
abbrev main_v39 : Ref sig .tc := ⟨.hbm, 56, rfl⟩
abbrev main_v40 : Ref sig .tc := ⟨.hbm, 57, rfl⟩

abbrev nD : Nat := 1
abbrev τ : Topo := Topo.v7x

variable {F : FTy → Type} [FloatOps F]
-- ==== Kernel11.lean ====
abbrev S4096x512 : Shape := ⟨2, ![4096, 512]⟩
abbrev S4096x128 : Shape := ⟨2, ![4096, 128]⟩
abbrev S4096x1024 : Shape := ⟨2, ![4096, 1024]⟩
abbrev S2176x1024 : Shape := ⟨2, ![2176, 1024]⟩
abbrev S1024x512 : Shape := ⟨2, ![1024, 512]⟩
abbrev S1024x128 : Shape := ⟨2, ![1024, 128]⟩
abbrev S1024x1024 : Shape := ⟨2, ![1024, 1024]⟩
abbrev S512x1024 : Shape := ⟨2, ![512, 1024]⟩
abbrev S128x1024 : Shape := ⟨2, ![128, 1024]⟩

abbrev nBuf : Space → Nat
  | .hbm => 7
  | .vmem => 14
  | .smem => 0
  | _ => 0

abbrev bufTy : (tb : Table) → Fin (tcTables nBuf tb) → BufTy
  | .hbm, ⟨0, _⟩ => ⟨S4096x512, .f32⟩
  | .hbm, ⟨1, _⟩ => ⟨S4096x512, .f32⟩
  | .hbm, ⟨2, _⟩ => ⟨S4096x512, .f32⟩
  | .hbm, ⟨3, _⟩ => ⟨S4096x512, .f32⟩
  | .hbm, ⟨4, _⟩ => ⟨S4096x128, .f32⟩
  | .hbm, ⟨5, _⟩ => ⟨S4096x1024, .bf16⟩
  | .hbm, ⟨6, _⟩ => ⟨S2176x1024, .bf16⟩
  | .local _ .vmem, ⟨0, _⟩ => ⟨S1024x512, .f32⟩
  | .local _ .vmem, ⟨1, _⟩ => ⟨S1024x512, .f32⟩
  | .local _ .vmem, ⟨2, _⟩ => ⟨S1024x512, .f32⟩
  | .local _ .vmem, ⟨3, _⟩ => ⟨S1024x512, .f32⟩
  | .local _ .vmem, ⟨4, _⟩ => ⟨S1024x512, .f32⟩
  | .local _ .vmem, ⟨5, _⟩ => ⟨S1024x512, .f32⟩
  | .local _ .vmem, ⟨6, _⟩ => ⟨S1024x512, .f32⟩
  | .local _ .vmem, ⟨7, _⟩ => ⟨S1024x512, .f32⟩
  | .local _ .vmem, ⟨8, _⟩ => ⟨S1024x128, .f32⟩
  | .local _ .vmem, ⟨9, _⟩ => ⟨S1024x128, .f32⟩
  | .local _ .vmem, ⟨10, _⟩ => ⟨S1024x1024, .bf16⟩
  | .local _ .vmem, ⟨11, _⟩ => ⟨S1024x1024, .bf16⟩
  | .local _ .vmem, ⟨12, _⟩ => ⟨S2176x1024, .bf16⟩
  | .local _ .vmem, ⟨13, _⟩ => ⟨S2176x1024, .f32⟩
  | _, _ => ⟨S4096x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_scratch0 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12

abbrev nD : Nat := 1
abbrev τ : Topo := Topo.v7x

variable {F : FTy → Type} [FloatOps F]

abbrev grid0 : Pipeline.Grid := ⟨3, ![1, 1, 4], ![false, false, false]⟩

def k0_cond2 (i : grid0.Coords) : BitVec 1 :=
  let arg2 : BitVec 32 := BitVec.ofNat 32 (i 2).val
  let c3_i32 : BitVec 32 := 3#32
  let v48 : BitVec 1 := Scalar.cmpi .eq arg2 c3_i32
  let v49 : BitVec 32 := Scalar.extui v48
  let c0_i32_40 : BitVec 32 := 0#32
  let v50 : BitVec 1 := Scalar.cmpi .ne v49 c0_i32_40
  v50

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg2.toNat, c0_i32.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg2.toNat, c0_i32.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg2.toNat, c0_i32.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg2.toNat, c0_i32.toNat]

def cc0_transform_4 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg2.toNat, c0_i32.toNat]

def cc0_transform_5 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_6 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, false, true]

abbrev stage0_1 : Fin 2 → Memref sig .tc .vmem S1024x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, false, true]

abbrev stage0_2 : Fin 2 → Memref sig .tc .vmem S1024x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, false, true]

abbrev stage0_3 : Fin 2 → Memref sig .tc .vmem S1024x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, false, true]

abbrev stage0_4 : Fin 2 → Memref sig .tc .vmem S1024x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![false, false, true]

abbrev stage0_5 : Fin 2 → Memref sig .tc .vmem S1024x1024 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![false, true, true]

abbrev stage0_6 : Fin 1 → Memref sig .tc .vmem S2176x1024 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true, true, false]
-- ==== Reference11Ideal.lean ====
abbrev S4096x512 : Shape := ⟨2, ![4096, 512]⟩
abbrev S4096x128 : Shape := ⟨2, ![4096, 128]⟩
abbrev S4096x1024 : Shape := ⟨2, ![4096, 1024]⟩
abbrev S4096x2176 : Shape := ⟨2, ![4096, 2176]⟩
abbrev S_ : Shape := ⟨0, ![]⟩
abbrev S2176x1024 : Shape := ⟨2, ![2176, 1024]⟩
abbrev S1024x2176 : Shape := ⟨2, ![1024, 2176]⟩

abbrev nBuf : Space → Nat
  | .hbm => 16
  | .vmem => 0
  | .smem => 0
  | _ => 0

abbrev bufTy : (tb : Table) → Fin (tcTables nBuf tb) → BufTy
  | .hbm, ⟨0, _⟩ => ⟨S4096x512, .f32⟩
  | .hbm, ⟨1, _⟩ => ⟨S4096x512, .f32⟩
  | .hbm, ⟨2, _⟩ => ⟨S4096x512, .f32⟩
  | .hbm, ⟨3, _⟩ => ⟨S4096x512, .f32⟩
  | .hbm, ⟨4, _⟩ => ⟨S4096x128, .f32⟩
  | .hbm, ⟨5, _⟩ => ⟨S4096x1024, .bf16⟩
  | .hbm, ⟨6, _⟩ => ⟨S4096x1024, .f32⟩
  | .hbm, ⟨7, _⟩ => ⟨S4096x2176, .f32⟩
  | .hbm, ⟨8, _⟩ => ⟨S_, .f32⟩
  | .hbm, ⟨9, _⟩ => ⟨S2176x1024, .f32⟩
  | .hbm, ⟨10, _⟩ => ⟨S1024x2176, .f32⟩
  | .hbm, ⟨11, _⟩ => ⟨S4096x2176, .f32⟩
  | .hbm, ⟨12, _⟩ => ⟨S2176x1024, .f32⟩
  | .hbm, ⟨13, _⟩ => ⟨S1024x2176, .f32⟩
  | .hbm, ⟨14, _⟩ => ⟨S2176x1024, .f32⟩
  | .hbm, ⟨15, _⟩ => ⟨S2176x1024, .bf16⟩
  | _, _ => ⟨S4096x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_cst : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩

abbrev nD : Nat := 1
abbrev τ : Topo := Topo.v7x

variable {F : FTy → Type} [FloatOps F]
-- ==== Kernel12.lean ====
abbrev S4096x1024 : Shape := ⟨2, ![4096, 1024]⟩
abbrev S1024x1024 : Shape := ⟨2, ![1024, 1024]⟩
abbrev S512x1024 : Shape := ⟨2, ![512, 1024]⟩
abbrev S4096x512 : Shape := ⟨2, ![4096, 512]⟩
abbrev S1024x512 : Shape := ⟨2, ![1024, 512]⟩

abbrev nBuf : Space → Nat
  | .hbm => 4
  | .vmem => 5
  | .smem => 0
  | _ => 0

abbrev bufTy : (tb : Table) → Fin (tcTables nBuf tb) → BufTy
  | .hbm, ⟨0, _⟩ => ⟨S4096x1024, .bf16⟩
  | .hbm, ⟨1, _⟩ => ⟨S1024x1024, .bf16⟩
  | .hbm, ⟨2, _⟩ => ⟨S512x1024, .bf16⟩
  | .hbm, ⟨3, _⟩ => ⟨S4096x512, .f32⟩
  | .local _ .vmem, ⟨0, _⟩ => ⟨S1024x1024, .bf16⟩
  | .local _ .vmem, ⟨1, _⟩ => ⟨S1024x1024, .bf16⟩
  | .local _ .vmem, ⟨2, _⟩ => ⟨S512x1024, .bf16⟩
  | .local _ .vmem, ⟨3, _⟩ => ⟨S1024x512, .f32⟩
  | .local _ .vmem, ⟨4, _⟩ => ⟨S1024x512, .f32⟩
  | _, _ => ⟨S4096x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![4, 1, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S512x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 2 → Memref sig .tc .vmem S1024x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference12Ideal.lean ====
abbrev S4096x1024 : Shape := ⟨2, ![4096, 1024]⟩
abbrev S1024x1024 : Shape := ⟨2, ![1024, 1024]⟩
abbrev S512x1024 : Shape := ⟨2, ![512, 1024]⟩
abbrev S_ : Shape := ⟨0, ![]⟩
abbrev S4096x512 : Shape := ⟨2, ![4096, 512]⟩

abbrev nBuf : Space → Nat
  | .hbm => 9
  | .vmem => 0
  | .smem => 0
  | _ => 0

abbrev bufTy : (tb : Table) → Fin (tcTables nBuf tb) → BufTy
  | .hbm, ⟨0, _⟩ => ⟨S4096x1024, .bf16⟩
  | .hbm, ⟨1, _⟩ => ⟨S1024x1024, .bf16⟩
  | .hbm, ⟨2, _⟩ => ⟨S512x1024, .bf16⟩
  | .hbm, ⟨3, _⟩ => ⟨S512x1024, .f32⟩
  | .hbm, ⟨4, _⟩ => ⟨S_, .f32⟩
  | .hbm, ⟨5, _⟩ => ⟨S4096x512, .f32⟩
  | .hbm, ⟨6, _⟩ => ⟨S4096x1024, .f32⟩
  | .hbm, ⟨7, _⟩ => ⟨S4096x1024, .f32⟩
  | .hbm, ⟨8, _⟩ => ⟨S4096x512, .f32⟩
  | _, _ => ⟨S4096x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_cst : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩

abbrev nD : Nat := 1
abbrev τ : Topo := Topo.v7x

variable {F : FTy → Type} [FloatOps F]
-- ==== Kernel13.lean ====
abbrev S4096x1024 : Shape := ⟨2, ![4096, 1024]⟩
abbrev S8x1024x512 : Shape := ⟨3, ![8, 1024, 512]⟩
abbrev S4096x4096 : Shape := ⟨2, ![4096, 4096]⟩
abbrev S512x1024 : Shape := ⟨2, ![512, 1024]⟩
abbrev S512x4096 : Shape := ⟨2, ![512, 4096]⟩
abbrev S1x1024x512 : Shape := ⟨3, ![1, 1024, 512]⟩
abbrev S1024x512 : Shape := ⟨2, ![1024, 512]⟩
abbrev S512x512 : Shape := ⟨2, ![512, 512]⟩

abbrev nBuf : Space → Nat
  | .hbm => 4
  | .vmem => 7
  | .smem => 0
  | _ => 0

abbrev bufTy : (tb : Table) → Fin (tcTables nBuf tb) → BufTy
  | .hbm, ⟨0, _⟩ => ⟨S4096x1024, .bf16⟩
  | .hbm, ⟨1, _⟩ => ⟨S8x1024x512, .bf16⟩
  | .hbm, ⟨2, _⟩ => ⟨S4096x4096, .bf16⟩
  | .hbm, ⟨3, _⟩ => ⟨S4096x4096, .bf16⟩
  | .local _ .vmem, ⟨0, _⟩ => ⟨S512x1024, .bf16⟩
  | .local _ .vmem, ⟨1, _⟩ => ⟨S512x1024, .bf16⟩
  | .local _ .vmem, ⟨2, _⟩ => ⟨S8x1024x512, .bf16⟩
  | .local _ .vmem, ⟨3, _⟩ => ⟨S512x4096, .bf16⟩
  | .local _ .vmem, ⟨4, _⟩ => ⟨S512x4096, .bf16⟩
  | .local _ .vmem, ⟨5, _⟩ => ⟨S512x4096, .bf16⟩
  | .local _ .vmem, ⟨6, _⟩ => ⟨S512x4096, .bf16⟩
  | _, _ => ⟨S4096x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0_0 : Ref sig .tc := ⟨.hbm, 2, rfl⟩
abbrev main_v0_1 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨3, ![8, 1, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg1.toNat, arg2.toNat, c0_i32.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S8x1024x512 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 2 → Memref sig .tc .vmem S512x4096 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S512x4096 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]
-- ==== Reference13Ideal.lean ====
abbrev S4096x1024 : Shape := ⟨2, ![4096, 1024]⟩
abbrev S8x1024x512 : Shape := ⟨3, ![8, 1024, 512]⟩
abbrev S1024x8x512 : Shape := ⟨3, ![1024, 8, 512]⟩
abbrev S1024x4096 : Shape := ⟨2, ![1024, 4096]⟩
abbrev S4096x4096 : Shape := ⟨2, ![4096, 4096]⟩
abbrev S_ : Shape := ⟨0, ![]⟩

abbrev nBuf : Space → Nat
  | .hbm => 13
  | .vmem => 0
  | .smem => 0
  | _ => 0

abbrev bufTy : (tb : Table) → Fin (tcTables nBuf tb) → BufTy
  | .hbm, ⟨0, _⟩ => ⟨S4096x1024, .bf16⟩
  | .hbm, ⟨1, _⟩ => ⟨S8x1024x512, .bf16⟩
  | .hbm, ⟨2, _⟩ => ⟨S1024x8x512, .bf16⟩
  | .hbm, ⟨3, _⟩ => ⟨S1024x4096, .bf16⟩
  | .hbm, ⟨4, _⟩ => ⟨S1024x4096, .f32⟩
  | .hbm, ⟨5, _⟩ => ⟨S4096x1024, .f32⟩
  | .hbm, ⟨6, _⟩ => ⟨S4096x4096, .f32⟩
  | .hbm, ⟨7, _⟩ => ⟨S4096x4096, .bf16⟩
  | .hbm, ⟨8, _⟩ => ⟨S_, .f32⟩
  | .hbm, ⟨9, _⟩ => ⟨S4096x4096, .f32⟩
  | .hbm, ⟨10, _⟩ => ⟨S4096x4096, .f32⟩
  | .hbm, ⟨11, _⟩ => ⟨S4096x4096, .f32⟩
  | .hbm, ⟨12, _⟩ => ⟨S4096x4096, .bf16⟩
  | _, _ => ⟨S4096x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_call0_cst : Ref sig .tc := ⟨.hbm, 8, rfl⟩
abbrev main_call0_v0 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩

abbrev nD : Nat := 1
abbrev τ : Topo := Topo.v7x

variable {F : FTy → Type} [FloatOps F]
-- ==== Kernel14.lean ====
abbrev S4096x4096 : Shape := ⟨2, ![4096, 4096]⟩
abbrev S4096x1024 : Shape := ⟨2, ![4096, 1024]⟩
abbrev S1x1024 : Shape := ⟨2, ![1, 1024]⟩
abbrev S4096x1 : Shape := ⟨2, ![4096, 1]⟩
abbrev S512x4096 : Shape := ⟨2, ![512, 4096]⟩
abbrev S512x1024 : Shape := ⟨2, ![512, 1024]⟩
abbrev S512x1 : Shape := ⟨2, ![512, 1]⟩
abbrev S512 : Shape := ⟨1, ![512]⟩

abbrev nBuf : Space → Nat
  | .hbm => 10
  | .vmem => 17
  | .smem => 0
  | _ => 0

abbrev bufTy : (tb : Table) → Fin (tcTables nBuf tb) → BufTy
  | .hbm, ⟨0, _⟩ => ⟨S4096x4096, .bf16⟩
  | .hbm, ⟨1, _⟩ => ⟨S4096x1024, .bf16⟩
  | .hbm, ⟨2, _⟩ => ⟨S4096x1024, .f32⟩
  | .hbm, ⟨3, _⟩ => ⟨S1x1024, .f32⟩
  | .hbm, ⟨4, _⟩ => ⟨S1x1024, .f32⟩
  | .hbm, ⟨5, _⟩ => ⟨S4096x1024, .f32⟩
  | .hbm, ⟨6, _⟩ => ⟨S4096x1, .f32⟩
  | .hbm, ⟨7, _⟩ => ⟨S4096x1024, .bf16⟩
  | .hbm, ⟨8, _⟩ => ⟨S4096x1, .f32⟩
  | .hbm, ⟨9, _⟩ => ⟨S4096x1024, .f32⟩
  | .local _ .vmem, ⟨0, _⟩ => ⟨S512x4096, .bf16⟩
  | .local _ .vmem, ⟨1, _⟩ => ⟨S512x4096, .bf16⟩
  | .local _ .vmem, ⟨2, _⟩ => ⟨S4096x1024, .bf16⟩
  | .local _ .vmem, ⟨3, _⟩ => ⟨S512x1024, .f32⟩
  | .local _ .vmem, ⟨4, _⟩ => ⟨S512x1024, .f32⟩
  | .local _ .vmem, ⟨5, _⟩ => ⟨S1x1024, .f32⟩
  | .local _ .vmem, ⟨6, _⟩ => ⟨S1x1024, .f32⟩
  | .local _ .vmem, ⟨7, _⟩ => ⟨S512x1024, .f32⟩
  | .local _ .vmem, ⟨8, _⟩ => ⟨S512x1024, .f32⟩
  | .local _ .vmem, ⟨9, _⟩ => ⟨S512x1, .f32⟩
  | .local _ .vmem, ⟨10, _⟩ => ⟨S512x1, .f32⟩
  | .local _ .vmem, ⟨11, _⟩ => ⟨S512x1024, .bf16⟩
  | .local _ .vmem, ⟨12, _⟩ => ⟨S512x1024, .bf16⟩
  | .local _ .vmem, ⟨13, _⟩ => ⟨S512x1, .f32⟩
  | .local _ .vmem, ⟨14, _⟩ => ⟨S512x1, .f32⟩
  | .local _ .vmem, ⟨15, _⟩ => ⟨S512x1024, .f32⟩
  | .local _ .vmem, ⟨16, _⟩ => ⟨S512x1024, .f32⟩
  | _, _ => ⟨S4096x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | _, _ => false

abbrev semScoped : Fin 0 → Bool
  | ⟨_, h⟩ => absurd h (Nat.not_lt_zero _)

abbrev dmaSemScoped : Fin 17 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | _ => false

abbrev sig : RefSig :=
  ofTc nBuf bufTy 0 17 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0_0 : Ref sig .tc := ⟨.hbm, 5, rfl⟩
abbrev main_v0_1 : Ref sig .tc := ⟨.hbm, 6, rfl⟩
abbrev main_v0_2 : Ref sig .tc := ⟨.hbm, 7, rfl⟩
abbrev main_v0_3 : Ref sig .tc := ⟨.hbm, 8, rfl⟩
abbrev main_v0_4 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg5_1 : Ref sig .tc := ⟨.vmem, 8, rfl⟩
abbrev cc0_stg6_0 : Ref sig .tc := ⟨.vmem, 9, rfl⟩
abbrev cc0_stg6_1 : Ref sig .tc := ⟨.vmem, 10, rfl⟩
abbrev cc0_stg7_0 : Ref sig .tc := ⟨.vmem, 11, rfl⟩
abbrev cc0_stg7_1 : Ref sig .tc := ⟨.vmem, 12, rfl⟩
abbrev cc0_stg8_0 : Ref sig .tc := ⟨.vmem, 13, rfl⟩
abbrev cc0_stg8_1 : Ref sig .tc := ⟨.vmem, 14, rfl⟩
abbrev cc0_stg9_0 : Ref sig .tc := ⟨.vmem, 15, rfl⟩
abbrev cc0_stg9_1 : Ref sig .tc := ⟨.vmem, 16, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem4_0 : DmaSem sig := 6
abbrev cc0_sem5_0 : DmaSem sig := 7
abbrev cc0_sem5_1 : DmaSem sig := 8
abbrev cc0_sem6_0 : DmaSem sig := 9
abbrev cc0_sem6_1 : DmaSem sig := 10
abbrev cc0_sem7_0 : DmaSem sig := 11
abbrev cc0_sem7_1 : DmaSem sig := 12
abbrev cc0_sem8_0 : DmaSem sig := 13
abbrev cc0_sem8_1 : DmaSem sig := 14
abbrev cc0_sem9_0 : DmaSem sig := 15
abbrev cc0_sem9_1 : DmaSem sig := 16

abbrev nD : Nat := 1
abbrev τ : Topo := Topo.v7x

variable {F : FTy → Type} [FloatOps F]

abbrev grid0 : Pipeline.Grid := ⟨3, ![8, 1, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg1.toNat]

def cc0_transform_4 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg1.toNat]

def cc0_transform_5 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_6 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_8 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S512x4096 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S4096x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, true, false]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, true, false]

abbrev stage0_5 : Fin 2 → Memref sig .tc .vmem S512x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true, false]

abbrev stage0_6 : Fin 2 → Memref sig .tc .vmem S512x1 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, false, false]

abbrev stage0_7 : Fin 2 → Memref sig .tc .vmem S512x1024 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true, false]

abbrev stage0_8 : Fin 2 → Memref sig .tc .vmem S512x1 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, false, false]

abbrev stage0_9 : Fin 2 → Memref sig .tc .vmem S512x1024 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true, false]
-- ==== Reference14Ideal.lean ====
abbrev S4096x4096 : Shape := ⟨2, ![4096, 4096]⟩
abbrev S4096x1024 : Shape := ⟨2, ![4096, 1024]⟩
abbrev S1x1024 : Shape := ⟨2, ![1, 1024]⟩
abbrev S_ : Shape := ⟨0, ![]⟩
abbrev S4096 : Shape := ⟨1, ![4096]⟩
abbrev S4096x1 : Shape := ⟨2, ![4096, 1]⟩

abbrev nBuf : Space → Nat
  | .hbm => 62
  | .vmem => 0
  | .smem => 0
  | _ => 0

abbrev bufTy : (tb : Table) → Fin (tcTables nBuf tb) → BufTy
  | .hbm, ⟨0, _⟩ => ⟨S4096x4096, .bf16⟩
  | .hbm, ⟨1, _⟩ => ⟨S4096x1024, .bf16⟩
  | .hbm, ⟨2, _⟩ => ⟨S4096x1024, .f32⟩
  | .hbm, ⟨3, _⟩ => ⟨S1x1024, .f32⟩
  | .hbm, ⟨4, _⟩ => ⟨S1x1024, .f32⟩
  | .hbm, ⟨5, _⟩ => ⟨S4096x4096, .f32⟩
  | .hbm, ⟨6, _⟩ => ⟨S4096x1024, .f32⟩
  | .hbm, ⟨7, _⟩ => ⟨S4096x1024, .f32⟩
  | .hbm, ⟨8, _⟩ => ⟨S4096x1024, .f32⟩
  | .hbm, ⟨9, _⟩ => ⟨S_, .f32⟩
  | .hbm, ⟨10, _⟩ => ⟨S4096, .f32⟩
  | .hbm, ⟨11, _⟩ => ⟨S4096x1, .f32⟩
  | .hbm, ⟨12, _⟩ => ⟨S_, .f32⟩
  | .hbm, ⟨13, _⟩ => ⟨S4096x1, .f32⟩
  | .hbm, ⟨14, _⟩ => ⟨S4096x1, .f32⟩
  | .hbm, ⟨15, _⟩ => ⟨S_, .f32⟩
  | .hbm, ⟨16, _⟩ => ⟨S4096x1, .f32⟩
  | .hbm, ⟨17, _⟩ => ⟨S4096x1, .f32⟩
  | .hbm, ⟨18, _⟩ => ⟨S4096x1, .f32⟩
  | .hbm, ⟨19, _⟩ => ⟨S4096x1024, .f32⟩
  | .hbm, ⟨20, _⟩ => ⟨S4096x1024, .f32⟩
  | .hbm, ⟨21, _⟩ => ⟨S4096x1024, .f32⟩
  | .hbm, ⟨22, _⟩ => ⟨S4096x1024, .f32⟩
  | .hbm, ⟨23, _⟩ => ⟨S4096x1024, .f32⟩
  | .hbm, ⟨24, _⟩ => ⟨S4096x1024, .f32⟩
  | .hbm, ⟨25, _⟩ => ⟨S_, .f32⟩
  | .hbm, ⟨26, _⟩ => ⟨S4096, .f32⟩
  | .hbm, ⟨27, _⟩ => ⟨S4096x1, .f32⟩
  | .hbm, ⟨28, _⟩ => ⟨S_, .f32⟩
  | .hbm, ⟨29, _⟩ => ⟨S4096x1, .f32⟩
  | .hbm, ⟨30, _⟩ => ⟨S4096x1, .f32⟩
  | .hbm, ⟨31, _⟩ => ⟨S_, .f32⟩
  | .hbm, ⟨32, _⟩ => ⟨S4096x1, .f32⟩
  | .hbm, ⟨33, _⟩ => ⟨S4096x1, .f32⟩
  | .hbm, ⟨34, _⟩ => ⟨S4096x1, .f32⟩
  | .hbm, ⟨35, _⟩ => ⟨S4096x1024, .f32⟩
  | .hbm, ⟨36, _⟩ => ⟨S_, .f32⟩
  | .hbm, ⟨37, _⟩ => ⟨S4096, .f32⟩
  | .hbm, ⟨38, _⟩ => ⟨S4096x1, .f32⟩
  | .hbm, ⟨39, _⟩ => ⟨S_, .f32⟩
  | .hbm, ⟨40, _⟩ => ⟨S4096x1, .f32⟩
  | .hbm, ⟨41, _⟩ => ⟨S4096x1, .f32⟩
  | .hbm, ⟨42, _⟩ => ⟨S_, .f32⟩
  | .hbm, ⟨43, _⟩ => ⟨S4096x1, .f32⟩
  | .hbm, ⟨44, _⟩ => ⟨S4096x1, .f32⟩
  | .hbm, ⟨45, _⟩ => ⟨S4096x1, .f32⟩
  | .hbm, ⟨46, _⟩ => ⟨S4096x1024, .f32⟩
  | .hbm, ⟨47, _⟩ => ⟨S4096x1024, .f32⟩
  | .hbm, ⟨48, _⟩ => ⟨S4096x1024, .f32⟩
  | .hbm, ⟨49, _⟩ => ⟨S4096x1024, .f32⟩
  | .hbm, ⟨50, _⟩ => ⟨S4096x1024, .bf16⟩
  | .hbm, ⟨51, _⟩ => ⟨S4096x1024, .f32⟩
  | .hbm, ⟨52, _⟩ => ⟨S_, .f32⟩
  | .hbm, ⟨53, _⟩ => ⟨S4096, .f32⟩
  | .hbm, ⟨54, _⟩ => ⟨S4096x1, .f32⟩
  | .hbm, ⟨55, _⟩ => ⟨S_, .f32⟩
  | .hbm, ⟨56, _⟩ => ⟨S4096x1, .f32⟩
  | .hbm, ⟨57, _⟩ => ⟨S4096x1, .f32⟩
  | .hbm, ⟨58, _⟩ => ⟨S_, .f32⟩
  | .hbm, ⟨59, _⟩ => ⟨S4096x1, .f32⟩
  | .hbm, ⟨60, _⟩ => ⟨S4096x1, .f32⟩
  | .hbm, ⟨61, _⟩ => ⟨S4096x1, .f32⟩
  | _, _ => ⟨S4096x4096, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_cst : Ref sig .tc := ⟨.hbm, 9, rfl⟩
abbrev main_v4 : Ref sig .tc := ⟨.hbm, 10, rfl⟩
abbrev main_v5 : Ref sig .tc := ⟨.hbm, 11, rfl⟩
abbrev main_cst_0 : Ref sig .tc := ⟨.hbm, 12, rfl⟩
abbrev main_v6 : Ref sig .tc := ⟨.hbm, 13, rfl⟩
abbrev main_v7 : Ref sig .tc := ⟨.hbm, 14, rfl⟩
abbrev main_cst_1 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_cst_2 : Ref sig .tc := ⟨.hbm, 25, rfl⟩
abbrev main_v17 : Ref sig .tc := ⟨.hbm, 26, rfl⟩
abbrev main_v18 : Ref sig .tc := ⟨.hbm, 27, rfl⟩
abbrev main_cst_3 : Ref sig .tc := ⟨.hbm, 28, rfl⟩
abbrev main_v19 : Ref sig .tc := ⟨.hbm, 29, rfl⟩
abbrev main_v20 : Ref sig .tc := ⟨.hbm, 30, rfl⟩
abbrev main_cst_4 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_cst_5 : Ref sig .tc := ⟨.hbm, 36, rfl⟩
abbrev main_v25 : Ref sig .tc := ⟨.hbm, 37, rfl⟩
abbrev main_v26 : Ref sig .tc := ⟨.hbm, 38, rfl⟩
abbrev main_cst_6 : Ref sig .tc := ⟨.hbm, 39, rfl⟩
abbrev main_v27 : Ref sig .tc := ⟨.hbm, 40, rfl⟩
abbrev main_v28 : Ref sig .tc := ⟨.hbm, 41, rfl⟩
abbrev main_cst_7 : Ref sig .tc := ⟨.hbm, 42, rfl⟩
abbrev main_v29 : Ref sig .tc := ⟨.hbm, 43, rfl⟩
abbrev main_v30 : Ref sig .tc := ⟨.hbm, 44, rfl⟩
abbrev main_v31 : Ref sig .tc := ⟨.hbm, 45, rfl⟩
abbrev main_v32 : Ref sig .tc := ⟨.hbm, 46, rfl⟩
abbrev main_v33 : Ref sig .tc := ⟨.hbm, 47, rfl⟩
abbrev main_v34 : Ref sig .tc := ⟨.hbm, 48, rfl⟩
abbrev main_v35 : Ref sig .tc := ⟨.hbm, 49, rfl⟩
abbrev main_v36 : Ref sig .tc := ⟨.hbm, 50, rfl⟩
abbrev main_v37 : Ref sig .tc := ⟨.hbm, 51, rfl⟩
abbrev main_cst_8 : Ref sig .tc := ⟨.hbm, 52, rfl⟩
abbrev main_v38 : Ref sig .tc := ⟨.hbm, 53, rfl⟩
abbrev main_v39 : Ref sig .tc := ⟨.hbm, 54, rfl⟩
abbrev main_cst_9 : Ref sig .tc := ⟨.hbm, 55, rfl⟩
abbrev main_v40 : Ref sig .tc := ⟨.hbm, 56, rfl⟩
abbrev main_v41 : Ref sig .tc := ⟨.hbm, 57, rfl⟩
abbrev main_cst_10 : Ref sig .tc := ⟨.hbm, 58, rfl⟩
abbrev main_v42 : Ref sig .tc := ⟨.hbm, 59, rfl⟩
abbrev main_v43 : Ref sig .tc := ⟨.hbm, 60, rfl⟩
abbrev main_v44 : Ref sig .tc := ⟨.hbm, 61, rfl⟩

abbrev nD : Nat := 1
abbrev τ : Topo := Topo.v7x

variable {F : FTy → Type} [FloatOps F]
-- ==== Kernel15.lean ====
abbrev S4096x4096 : Shape := ⟨2, ![4096, 4096]⟩
abbrev S4096x1024 : Shape := ⟨2, ![4096, 1024]⟩
abbrev S1x1024 : Shape := ⟨2, ![1, 1024]⟩
abbrev S512x4096 : Shape := ⟨2, ![512, 4096]⟩
abbrev S512x1024 : Shape := ⟨2, ![512, 1024]⟩
abbrev S512 : Shape := ⟨1, ![512]⟩
abbrev S512x1 : Shape := ⟨2, ![512, 1]⟩
abbrev S1x512x1024 : Shape := ⟨3, ![1, 512, 1024]⟩
abbrev S1 : Shape := ⟨1, ![1]⟩
abbrev S1x1x1 : Shape := ⟨3, ![1, 1, 1]⟩
abbrev S1x1 : Shape := ⟨2, ![1, 1]⟩
abbrev S1024 : Shape := ⟨1, ![1024]⟩

abbrev nBuf : Space → Nat
  | .hbm => 9
  | .vmem => 14
  | .smem => 0
  | _ => 0

abbrev bufTy : (tb : Table) → Fin (tcTables nBuf tb) → BufTy
  | .hbm, ⟨0, _⟩ => ⟨S4096x4096, .bf16⟩
  | .hbm, ⟨1, _⟩ => ⟨S4096x1024, .bf16⟩
  | .hbm, ⟨2, _⟩ => ⟨S4096x1024, .f32⟩
  | .hbm, ⟨3, _⟩ => ⟨S4096x1024, .f32⟩
  | .hbm, ⟨4, _⟩ => ⟨S1x1024, .f32⟩
  | .hbm, ⟨5, _⟩ => ⟨S4096x1024, .f32⟩
  | .hbm, ⟨6, _⟩ => ⟨S4096x1024, .bf16⟩
  | .hbm, ⟨7, _⟩ => ⟨S1x1024, .f32⟩
  | .hbm, ⟨8, _⟩ => ⟨S1x1024, .f32⟩
  | .local _ .vmem, ⟨0, _⟩ => ⟨S512x4096, .bf16⟩
  | .local _ .vmem, ⟨1, _⟩ => ⟨S512x4096, .bf16⟩
  | .local _ .vmem, ⟨2, _⟩ => ⟨S4096x1024, .bf16⟩
  | .local _ .vmem, ⟨3, _⟩ => ⟨S512x1024, .f32⟩
  | .local _ .vmem, ⟨4, _⟩ => ⟨S512x1024, .f32⟩
  | .local _ .vmem, ⟨5, _⟩ => ⟨S512x1024, .f32⟩
  | .local _ .vmem, ⟨6, _⟩ => ⟨S512x1024, .f32⟩
  | .local _ .vmem, ⟨7, _⟩ => ⟨S1x1024, .f32⟩
  | .local _ .vmem, ⟨8, _⟩ => ⟨S512x1024, .f32⟩
  | .local _ .vmem, ⟨9, _⟩ => ⟨S512x1024, .f32⟩
  | .local _ .vmem, ⟨10, _⟩ => ⟨S512x1024, .bf16⟩
  | .local _ .vmem, ⟨11, _⟩ => ⟨S512x1024, .bf16⟩
  | .local _ .vmem, ⟨12, _⟩ => ⟨S1x1024, .f32⟩
  | .local _ .vmem, ⟨13, _⟩ => ⟨S1x1024, .f32⟩
  | _, _ => ⟨S4096x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0_0 : Ref sig .tc := ⟨.hbm, 5, rfl⟩
abbrev main_v0_1 : Ref sig .tc := ⟨.hbm, 6, rfl⟩
abbrev main_v0_2 : Ref sig .tc := ⟨.hbm, 7, rfl⟩
abbrev main_v0_3 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_stg8_0 : Ref sig .tc := ⟨.vmem, 13, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem5_0 : DmaSem sig := 8
abbrev cc0_sem5_1 : DmaSem sig := 9
abbrev cc0_sem6_0 : DmaSem sig := 10
abbrev cc0_sem6_1 : DmaSem sig := 11
abbrev cc0_sem7_0 : DmaSem sig := 12
abbrev cc0_sem8_0 : DmaSem sig := 13

abbrev nD : Nat := 1
abbrev τ : Topo := Topo.v7x

variable {F : FTy → Type} [FloatOps F]

abbrev grid0 : Pipeline.Grid := ⟨3, ![8, 1, 1], ![false, false, false]⟩

def k0_cond1 (i : grid0.Coords) : BitVec 1 :=
  let arg0 : BitVec 32 := BitVec.ofNat 32 (i 0).val
  let c0_i32 : BitVec 32 := 0#32
  let v50 : BitVec 1 := Scalar.cmpi .eq arg0 c0_i32
  let v51 : BitVec 32 := Scalar.extui v50
  let c0_i32_21 : BitVec 32 := 0#32
  let v52 : BitVec 1 := Scalar.cmpi .ne v51 c0_i32_21
  v52

def k0_cond2 (i : grid0.Coords) : BitVec 1 :=
  let arg0 : BitVec 32 := BitVec.ofNat 32 (i 0).val
  let c0_i32_22 : BitVec 32 := 0#32
  let v53 : BitVec 1 := Scalar.cmpi .sgt arg0 c0_i32_22
  let v54 : BitVec 32 := Scalar.extui v53
  let c0_i32_23 : BitVec 32 := 0#32
  let v55 : BitVec 1 := Scalar.cmpi .ne v54 c0_i32_23
  v55

def k0_cond3 (i : grid0.Coords) : BitVec 1 :=
  let arg0 : BitVec 32 := BitVec.ofNat 32 (i 0).val
  let c0_i32_24 : BitVec 32 := 0#32
  let v56 : BitVec 1 := Scalar.cmpi .eq arg0 c0_i32_24
  let v57 : BitVec 32 := Scalar.extui v56
  let c0_i32_25 : BitVec 32 := 0#32
  let v58 : BitVec 1 := Scalar.cmpi .ne v57 c0_i32_25
  v58

def k0_cond4 (i : grid0.Coords) : BitVec 1 :=
  let arg0 : BitVec 32 := BitVec.ofNat 32 (i 0).val
  let c0_i32_26 : BitVec 32 := 0#32
  let v59 : BitVec 1 := Scalar.cmpi .sgt arg0 c0_i32_26
  let v60 : BitVec 32 := Scalar.extui v59
  let c0_i32_27 : BitVec 32 := 0#32
  let v61 : BitVec 1 := Scalar.cmpi .ne v60 c0_i32_27
  v61

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_4 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg1.toNat]

def cc0_transform_5 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_6 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_7 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg1.toNat]

def cc0_transform_8 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg1.toNat]

abbrev stage0_0 : Fin 2 → Memref sig .tc .vmem S512x4096 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S4096x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S512x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, true, false]

abbrev stage0_5 : Fin 2 → Memref sig .tc .vmem S512x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true, false]

abbrev stage0_6 : Fin 2 → Memref sig .tc .vmem S512x1024 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true, false]

abbrev stage0_7 : Fin 1 → Memref sig .tc .vmem S1x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, true, false]

abbrev stage0_8 : Fin 1 → Memref sig .tc .vmem S1x1024 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false, true, false]
-- ==== Reference15Ideal.lean ====
abbrev S4096x4096 : Shape := ⟨2, ![4096, 4096]⟩
abbrev S4096x1024 : Shape := ⟨2, ![4096, 1024]⟩
abbrev S1x1024 : Shape := ⟨2, ![1, 1024]⟩
abbrev S_ : Shape := ⟨0, ![]⟩
abbrev S4096 : Shape := ⟨1, ![4096]⟩
abbrev S4096x1 : Shape := ⟨2, ![4096, 1]⟩
abbrev S1024 : Shape := ⟨1, ![1024]⟩

abbrev nBuf : Space → Nat
  | .hbm => 96
  | .vmem => 0
  | .smem => 0
  | _ => 0

abbrev bufTy : (tb : Table) → Fin (tcTables nBuf tb) → BufTy
  | .hbm, ⟨0, _⟩ => ⟨S4096x4096, .bf16⟩
  | .hbm, ⟨1, _⟩ => ⟨S4096x1024, .bf16⟩
  | .hbm, ⟨2, _⟩ => ⟨S4096x1024, .f32⟩
  | .hbm, ⟨3, _⟩ => ⟨S4096x1024, .f32⟩
  | .hbm, ⟨4, _⟩ => ⟨S1x1024, .f32⟩
  | .hbm, ⟨5, _⟩ => ⟨S4096x4096, .f32⟩
  | .hbm, ⟨6, _⟩ => ⟨S4096x1024, .f32⟩
  | .hbm, ⟨7, _⟩ => ⟨S4096x1024, .f32⟩
  | .hbm, ⟨8, _⟩ => ⟨S4096x1024, .f32⟩
  | .hbm, ⟨9, _⟩ => ⟨S_, .f32⟩
  | .hbm, ⟨10, _⟩ => ⟨S4096, .f32⟩
  | .hbm, ⟨11, _⟩ => ⟨S4096x1, .f32⟩
  | .hbm, ⟨12, _⟩ => ⟨S_, .f32⟩
  | .hbm, ⟨13, _⟩ => ⟨S4096x1, .f32⟩
  | .hbm, ⟨14, _⟩ => ⟨S4096x1, .f32⟩
  | .hbm, ⟨15, _⟩ => ⟨S_, .f32⟩
  | .hbm, ⟨16, _⟩ => ⟨S4096x1, .f32⟩
  | .hbm, ⟨17, _⟩ => ⟨S4096x1, .f32⟩
  | .hbm, ⟨18, _⟩ => ⟨S4096x1, .f32⟩
  | .hbm, ⟨19, _⟩ => ⟨S4096x1, .f32⟩
  | .hbm, ⟨20, _⟩ => ⟨S_, .f32⟩
  | .hbm, ⟨21, _⟩ => ⟨S4096x1, .f32⟩
  | .hbm, ⟨22, _⟩ => ⟨S4096x1, .f32⟩
  | .hbm, ⟨23, _⟩ => ⟨S4096x1024, .f32⟩
  | .hbm, ⟨24, _⟩ => ⟨S4096x1024, .f32⟩
  | .hbm, ⟨25, _⟩ => ⟨S4096x1024, .f32⟩
  | .hbm, ⟨26, _⟩ => ⟨S4096x1024, .f32⟩
  | .hbm, ⟨27, _⟩ => ⟨S4096x1024, .f32⟩
  | .hbm, ⟨28, _⟩ => ⟨S4096x1024, .f32⟩
  | .hbm, ⟨29, _⟩ => ⟨S4096x1024, .f32⟩
  | .hbm, ⟨30, _⟩ => ⟨S_, .f32⟩
  | .hbm, ⟨31, _⟩ => ⟨S4096x1024, .f32⟩
  | .hbm, ⟨32, _⟩ => ⟨S4096x1024, .f32⟩
  | .hbm, ⟨33, _⟩ => ⟨S_, .f32⟩
  | .hbm, ⟨34, _⟩ => ⟨S4096, .f32⟩
  | .hbm, ⟨35, _⟩ => ⟨S_, .f32⟩
  | .hbm, ⟨36, _⟩ => ⟨S4096, .f32⟩
  | .hbm, ⟨37, _⟩ => ⟨S4096, .f32⟩
  | .hbm, ⟨38, _⟩ => ⟨S_, .f32⟩
  | .hbm, ⟨39, _⟩ => ⟨S_, .f32⟩
  | .hbm, ⟨40, _⟩ => ⟨S_, .f32⟩
  | .hbm, ⟨41, _⟩ => ⟨S_, .f32⟩
  | .hbm, ⟨42, _⟩ => ⟨S_, .f32⟩
  | .hbm, ⟨43, _⟩ => ⟨S_, .f32⟩
  | .hbm, ⟨44, _⟩ => ⟨S_, .f32⟩
  | .hbm, ⟨45, _⟩ => ⟨S4096, .f32⟩
  | .hbm, ⟨46, _⟩ => ⟨S_, .f32⟩
  | .hbm, ⟨47, _⟩ => ⟨S4096, .f32⟩
  | .hbm, ⟨48, _⟩ => ⟨S4096, .f32⟩
  | .hbm, ⟨49, _⟩ => ⟨S4096x1024, .f32⟩
  | .hbm, ⟨50, _⟩ => ⟨S4096x1024, .f32⟩
  | .hbm, ⟨51, _⟩ => ⟨S4096x1024, .f32⟩
  | .hbm, ⟨52, _⟩ => ⟨S_, .f32⟩
  | .hbm, ⟨53, _⟩ => ⟨S1024, .f32⟩
  | .hbm, ⟨54, _⟩ => ⟨S1x1024, .f32⟩
  | .hbm, ⟨55, _⟩ => ⟨S4096x1024, .f32⟩
  | .hbm, ⟨56, _⟩ => ⟨S4096x1024, .f32⟩
  | .hbm, ⟨57, _⟩ => ⟨S4096x1024, .f32⟩
  | .hbm, ⟨58, _⟩ => ⟨S_, .f32⟩
  | .hbm, ⟨59, _⟩ => ⟨S4096, .f32⟩
  | .hbm, ⟨60, _⟩ => ⟨S4096x1, .f32⟩
  | .hbm, ⟨61, _⟩ => ⟨S4096x1024, .f32⟩
  | .hbm, ⟨62, _⟩ => ⟨S4096x1024, .f32⟩
  | .hbm, ⟨63, _⟩ => ⟨S4096x1, .f32⟩
  | .hbm, ⟨64, _⟩ => ⟨S_, .f32⟩
  | .hbm, ⟨65, _⟩ => ⟨S4096x1, .f32⟩
  | .hbm, ⟨66, _⟩ => ⟨S4096x1, .f32⟩
  | .hbm, ⟨67, _⟩ => ⟨S_, .f32⟩
  | .hbm, ⟨68, _⟩ => ⟨S4096, .f32⟩
  | .hbm, ⟨69, _⟩ => ⟨S4096x1024, .f32⟩
  | .hbm, ⟨70, _⟩ => ⟨S4096x1024, .f32⟩
  | .hbm, ⟨71, _⟩ => ⟨S4096x1024, .f32⟩
  | .hbm, ⟨72, _⟩ => ⟨S4096x1024, .f32⟩
  | .hbm, ⟨73, _⟩ => ⟨S4096x1024, .f32⟩
  | .hbm, ⟨74, _⟩ => ⟨S4096x1024, .f32⟩
  | .hbm, ⟨75, _⟩ => ⟨S_, .f32⟩
  | .hbm, ⟨76, _⟩ => ⟨S4096, .f32⟩
  | .hbm, ⟨77, _⟩ => ⟨S4096x1, .f32⟩
  | .hbm, ⟨78, _⟩ => ⟨S_, .f32⟩
  | .hbm, ⟨79, _⟩ => ⟨S4096x1, .f32⟩
  | .hbm, ⟨80, _⟩ => ⟨S4096x1, .f32⟩
  | .hbm, ⟨81, _⟩ => ⟨S_, .f32⟩
  | .hbm, ⟨82, _⟩ => ⟨S4096x1, .f32⟩
  | .hbm, ⟨83, _⟩ => ⟨S4096x1, .f32⟩
  | .hbm, ⟨84, _⟩ => ⟨S4096x1, .f32⟩
  | .hbm, ⟨85, _⟩ => ⟨S4096x1024, .f32⟩
  | .hbm, ⟨86, _⟩ => ⟨S4096x1024, .f32⟩
  | .hbm, ⟨87, _⟩ => ⟨S4096x1024, .f32⟩
  | .hbm, ⟨88, _⟩ => ⟨S4096x1024, .f32⟩
  | .hbm, ⟨89, _⟩ => ⟨S4096x1024, .f32⟩
  | .hbm, ⟨90, _⟩ => ⟨S4096x1024, .f32⟩
  | .hbm, ⟨91, _⟩ => ⟨S4096x1024, .f32⟩
  | .hbm, ⟨92, _⟩ => ⟨S4096x1024, .bf16⟩
  | .hbm, ⟨93, _⟩ => ⟨S_, .f32⟩
  | .hbm, ⟨94, _⟩ => ⟨S_, .f32⟩
  | .hbm, ⟨95, _⟩ => ⟨S1x1024, .f32⟩
  | _, _ => ⟨S4096x4096, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_cst : Ref sig .tc := ⟨.hbm, 9, rfl⟩
abbrev main_v4 : Ref sig .tc := ⟨.hbm, 10, rfl⟩
abbrev main_v5 : Ref sig .tc := ⟨.hbm, 11, rfl⟩
abbrev main_cst_0 : Ref sig .tc := ⟨.hbm, 12, rfl⟩
abbrev main_v6 : Ref sig .tc := ⟨.hbm, 13, rfl⟩
abbrev main_v7 : Ref sig .tc := ⟨.hbm, 14, rfl⟩
abbrev main_cst_1 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_cst_2 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_cst_3 : Ref sig .tc := ⟨.hbm, 30, rfl⟩
abbrev main_v21 : Ref sig .tc := ⟨.hbm, 31, rfl⟩
abbrev main_v22 : Ref sig .tc := ⟨.hbm, 32, rfl⟩
abbrev main_cst_4 : Ref sig .tc := ⟨.hbm, 33, rfl⟩
abbrev main_v23 : Ref sig .tc := ⟨.hbm, 34, rfl⟩
abbrev main_cst_5 : Ref sig .tc := ⟨.hbm, 35, rfl⟩
abbrev main_v24 : Ref sig .tc := ⟨.hbm, 36, rfl⟩
abbrev main_v25 : Ref sig .tc := ⟨.hbm, 37, rfl⟩
abbrev main_cst_6 : Ref sig .tc := ⟨.hbm, 38, rfl⟩
abbrev main_v26 : Ref sig .tc := ⟨.hbm, 39, rfl⟩
abbrev main_cst_7 : Ref sig .tc := ⟨.hbm, 40, rfl⟩
abbrev main_v27 : Ref sig .tc := ⟨.hbm, 41, rfl⟩
abbrev main_cst_8 : Ref sig .tc := ⟨.hbm, 42, rfl⟩
abbrev main_cst_9 : Ref sig .tc := ⟨.hbm, 43, rfl⟩
abbrev main_v28 : Ref sig .tc := ⟨.hbm, 44, rfl⟩
abbrev main_v29 : Ref sig .tc := ⟨.hbm, 45, rfl⟩
abbrev main_cst_10 : Ref sig .tc := ⟨.hbm, 46, rfl⟩
abbrev main_v30 : Ref sig .tc := ⟨.hbm, 47, rfl⟩
abbrev main_v31 : Ref sig .tc := ⟨.hbm, 48, rfl⟩
abbrev main_v32 : Ref sig .tc := ⟨.hbm, 49, rfl⟩
abbrev main_v33 : Ref sig .tc := ⟨.hbm, 50, rfl⟩
abbrev main_v34 : Ref sig .tc := ⟨.hbm, 51, rfl⟩
abbrev main_cst_11 : Ref sig .tc := ⟨.hbm, 52, rfl⟩
abbrev main_v35 : Ref sig .tc := ⟨.hbm, 53, rfl⟩
abbrev main_v36 : Ref sig .tc := ⟨.hbm, 54, rfl⟩
abbrev main_v37 : Ref sig .tc := ⟨.hbm, 55, rfl⟩
abbrev main_v38 : Ref sig .tc := ⟨.hbm, 56, rfl⟩
abbrev main_v39 : Ref sig .tc := ⟨.hbm, 57, rfl⟩
abbrev main_cst_12 : Ref sig .tc := ⟨.hbm, 58, rfl⟩
abbrev main_v40 : Ref sig .tc := ⟨.hbm, 59, rfl⟩
abbrev main_v41 : Ref sig .tc := ⟨.hbm, 60, rfl⟩
abbrev main_v42 : Ref sig .tc := ⟨.hbm, 61, rfl⟩
abbrev main_v43 : Ref sig .tc := ⟨.hbm, 62, rfl⟩
abbrev main_v44 : Ref sig .tc := ⟨.hbm, 63, rfl⟩
abbrev main_cst_13 : Ref sig .tc := ⟨.hbm, 64, rfl⟩
abbrev main_v45 : Ref sig .tc := ⟨.hbm, 65, rfl⟩
abbrev main_v46 : Ref sig .tc := ⟨.hbm, 66, rfl⟩
abbrev main_cst_14 : Ref sig .tc := ⟨.hbm, 67, rfl⟩
abbrev main_v47 : Ref sig .tc := ⟨.hbm, 68, rfl⟩
abbrev main_v48 : Ref sig .tc := ⟨.hbm, 69, rfl⟩
abbrev main_v49 : Ref sig .tc := ⟨.hbm, 70, rfl⟩
abbrev main_v50 : Ref sig .tc := ⟨.hbm, 71, rfl⟩
abbrev main_v51 : Ref sig .tc := ⟨.hbm, 72, rfl⟩
abbrev main_v52 : Ref sig .tc := ⟨.hbm, 73, rfl⟩
abbrev main_v53 : Ref sig .tc := ⟨.hbm, 74, rfl⟩
abbrev main_cst_15 : Ref sig .tc := ⟨.hbm, 75, rfl⟩
abbrev main_v54 : Ref sig .tc := ⟨.hbm, 76, rfl⟩
abbrev main_v55 : Ref sig .tc := ⟨.hbm, 77, rfl⟩
abbrev main_cst_16 : Ref sig .tc := ⟨.hbm, 78, rfl⟩
abbrev main_v56 : Ref sig .tc := ⟨.hbm, 79, rfl⟩
abbrev main_v57 : Ref sig .tc := ⟨.hbm, 80, rfl⟩
abbrev main_cst_17 : Ref sig .tc := ⟨.hbm, 81, rfl⟩
abbrev main_v58 : Ref sig .tc := ⟨.hbm, 82, rfl⟩
abbrev main_v59 : Ref sig .tc := ⟨.hbm, 83, rfl⟩
abbrev main_v60 : Ref sig .tc := ⟨.hbm, 84, rfl⟩
abbrev main_v61 : Ref sig .tc := ⟨.hbm, 85, rfl⟩
abbrev main_v62 : Ref sig .tc := ⟨.hbm, 86, rfl⟩
abbrev main_v63 : Ref sig .tc := ⟨.hbm, 87, rfl⟩
abbrev main_v64 : Ref sig .tc := ⟨.hbm, 88, rfl⟩
abbrev main_v65 : Ref sig .tc := ⟨.hbm, 89, rfl⟩
abbrev main_v66 : Ref sig .tc := ⟨.hbm, 90, rfl⟩
abbrev main_v67 : Ref sig .tc := ⟨.hbm, 91, rfl⟩
abbrev main_v68 : Ref sig .tc := ⟨.hbm, 92, rfl⟩
abbrev main_cst_18 : Ref sig .tc := ⟨.hbm, 93, rfl⟩
abbrev main_v69 : Ref sig .tc := ⟨.hbm, 94, rfl⟩
abbrev main_v70 : Ref sig .tc := ⟨.hbm, 95, rfl⟩

abbrev nD : Nat := 1
abbrev τ : Topo := Topo.v7x

variable {F : FTy → Type} [FloatOps F]
-- ==== Kernel16.lean ====
abbrev S4096x1024 : Shape := ⟨2, ![4096, 1024]⟩
abbrev S1536x1024 : Shape := ⟨2, ![1536, 1024]⟩
abbrev S4096x1536 : Shape := ⟨2, ![4096, 1536]⟩
abbrev S1024x1024 : Shape := ⟨2, ![1024, 1024]⟩
abbrev S1024x1536 : Shape := ⟨2, ![1024, 1536]⟩

abbrev nBuf : Space → Nat
  | .hbm => 3
  | .vmem => 5
  | .smem => 0
  | _ => 0

abbrev bufTy : (tb : Table) → Fin (tcTables nBuf tb) → BufTy
  | .hbm, ⟨0, _⟩ => ⟨S4096x1024, .bf16⟩
  | .hbm, ⟨1, _⟩ => ⟨S1536x1024, .bf16⟩
  | .hbm, ⟨2, _⟩ => ⟨S4096x1536, .f32⟩
  | .local _ .vmem, ⟨0, _⟩ => ⟨S1024x1024, .bf16⟩
  | .local _ .vmem, ⟨1, _⟩ => ⟨S1024x1024, .bf16⟩
  | .local _ .vmem, ⟨2, _⟩ => ⟨S1536x1024, .bf16⟩
  | .local _ .vmem, ⟨3, _⟩ => ⟨S1024x1536, .f32⟩
  | .local _ .vmem, ⟨4, _⟩ => ⟨S1024x1536, .f32⟩
  | _, _ => ⟨S4096x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![4, 1, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S1536x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 2 → Memref sig .tc .vmem S1024x1536 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference16Ideal.lean ====
abbrev S4096x1024 : Shape := ⟨2, ![4096, 1024]⟩
abbrev S1536x1024 : Shape := ⟨2, ![1536, 1024]⟩
abbrev S1024x1536 : Shape := ⟨2, ![1024, 1536]⟩
abbrev S4096x1536 : Shape := ⟨2, ![4096, 1536]⟩

abbrev nBuf : Space → Nat
  | .hbm => 6
  | .vmem => 0
  | .smem => 0
  | _ => 0

abbrev bufTy : (tb : Table) → Fin (tcTables nBuf tb) → BufTy
  | .hbm, ⟨0, _⟩ => ⟨S4096x1024, .bf16⟩
  | .hbm, ⟨1, _⟩ => ⟨S1536x1024, .bf16⟩
  | .hbm, ⟨2, _⟩ => ⟨S4096x1024, .f32⟩
  | .hbm, ⟨3, _⟩ => ⟨S1024x1536, .bf16⟩
  | .hbm, ⟨4, _⟩ => ⟨S1024x1536, .f32⟩
  | .hbm, ⟨5, _⟩ => ⟨S4096x1536, .f32⟩
  | _, _ => ⟨S4096x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩

abbrev nD : Nat := 1
abbrev τ : Topo := Topo.v7x

variable {F : FTy → Type} [FloatOps F]
-- ==== Kernel17.lean ====
abbrev S4096x1024 : Shape := ⟨2, ![4096, 1024]⟩
abbrev S2056x1024 : Shape := ⟨2, ![2056, 1024]⟩
abbrev S_ : Shape := ⟨0, ![]⟩
abbrev S2176x1024 : Shape := ⟨2, ![2176, 1024]⟩
abbrev S4096x2176 : Shape := ⟨2, ![4096, 2176]⟩
abbrev S512x1024 : Shape := ⟨2, ![512, 1024]⟩
abbrev S512x2176 : Shape := ⟨2, ![512, 2176]⟩

abbrev nBuf : Space → Nat
  | .hbm => 6
  | .vmem => 5
  | .smem => 0
  | _ => 0

abbrev bufTy : (tb : Table) → Fin (tcTables nBuf tb) → BufTy
  | .hbm, ⟨0, _⟩ => ⟨S4096x1024, .bf16⟩
  | .hbm, ⟨1, _⟩ => ⟨S2056x1024, .bf16⟩
  | .hbm, ⟨2, _⟩ => ⟨S_, .i32⟩
  | .hbm, ⟨3, _⟩ => ⟨S_, .bf16⟩
  | .hbm, ⟨4, _⟩ => ⟨S2176x1024, .bf16⟩
  | .hbm, ⟨5, _⟩ => ⟨S4096x2176, .f32⟩
  | .local _ .vmem, ⟨0, _⟩ => ⟨S512x1024, .bf16⟩
  | .local _ .vmem, ⟨1, _⟩ => ⟨S512x1024, .bf16⟩
  | .local _ .vmem, ⟨2, _⟩ => ⟨S2176x1024, .bf16⟩
  | .local _ .vmem, ⟨3, _⟩ => ⟨S512x2176, .f32⟩
  | .local _ .vmem, ⟨4, _⟩ => ⟨S512x2176, .f32⟩
  | _, _ => ⟨S4096x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_c : Ref sig .tc := ⟨.hbm, 2, rfl⟩
abbrev main_call0_v0 : Ref sig .tc := ⟨.hbm, 3, rfl⟩
abbrev main_v0 : Ref sig .tc := ⟨.hbm, 4, rfl⟩
abbrev main_v1 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![8, 1, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S2176x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 2 → Memref sig .tc .vmem S512x2176 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference17Ideal.lean ====
abbrev S4096x1024 : Shape := ⟨2, ![4096, 1024]⟩
abbrev S2056x1024 : Shape := ⟨2, ![2056, 1024]⟩
abbrev S1024x2056 : Shape := ⟨2, ![1024, 2056]⟩
abbrev S4096x2056 : Shape := ⟨2, ![4096, 2056]⟩
abbrev S_ : Shape := ⟨0, ![]⟩
abbrev S4096x2176 : Shape := ⟨2, ![4096, 2176]⟩

abbrev nBuf : Space → Nat
  | .hbm => 9
  | .vmem => 0
  | .smem => 0
  | _ => 0

abbrev bufTy : (tb : Table) → Fin (tcTables nBuf tb) → BufTy
  | .hbm, ⟨0, _⟩ => ⟨S4096x1024, .bf16⟩
  | .hbm, ⟨1, _⟩ => ⟨S2056x1024, .bf16⟩
  | .hbm, ⟨2, _⟩ => ⟨S4096x1024, .f32⟩
  | .hbm, ⟨3, _⟩ => ⟨S1024x2056, .bf16⟩
  | .hbm, ⟨4, _⟩ => ⟨S1024x2056, .f32⟩
  | .hbm, ⟨5, _⟩ => ⟨S4096x2056, .f32⟩
  | .hbm, ⟨6, _⟩ => ⟨S_, .i32⟩
  | .hbm, ⟨7, _⟩ => ⟨S_, .f32⟩
  | .hbm, ⟨8, _⟩ => ⟨S4096x2176, .f32⟩
  | _, _ => ⟨S4096x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_c : Ref sig .tc := ⟨.hbm, 6, rfl⟩
abbrev main_call0_v0 : Ref sig .tc := ⟨.hbm, 7, rfl⟩
abbrev main_v4 : Ref sig .tc := ⟨.hbm, 8, rfl⟩

abbrev nD : Nat := 1
abbrev τ : Topo := Topo.v7x

variable {F : FTy → Type} [FloatOps F]
-- ==== Kernel18.lean ====
abbrev S4096x512 : Shape := ⟨2, ![4096, 512]⟩
abbrev S1024x1024 : Shape := ⟨2, ![1024, 1024]⟩
abbrev S4096x1024 : Shape := ⟨2, ![4096, 1024]⟩
abbrev S1x1024 : Shape := ⟨2, ![1, 1024]⟩
abbrev S4096x1 : Shape := ⟨2, ![4096, 1]⟩
abbrev S512x512 : Shape := ⟨2, ![512, 512]⟩
abbrev S512x1024 : Shape := ⟨2, ![512, 1024]⟩
abbrev S512x1 : Shape := ⟨2, ![512, 1]⟩
abbrev S512 : Shape := ⟨1, ![512]⟩

abbrev nBuf : Space → Nat
  | .hbm => 11
  | .vmem => 19
  | .smem => 0
  | _ => 0

abbrev bufTy : (tb : Table) → Fin (tcTables nBuf tb) → BufTy
  | .hbm, ⟨0, _⟩ => ⟨S4096x512, .bf16⟩
  | .hbm, ⟨1, _⟩ => ⟨S4096x512, .bf16⟩
  | .hbm, ⟨2, _⟩ => ⟨S1024x1024, .bf16⟩
  | .hbm, ⟨3, _⟩ => ⟨S4096x1024, .f32⟩
  | .hbm, ⟨4, _⟩ => ⟨S1x1024, .f32⟩
  | .hbm, ⟨5, _⟩ => ⟨S1x1024, .f32⟩
  | .hbm, ⟨6, _⟩ => ⟨S4096x1024, .f32⟩
  | .hbm, ⟨7, _⟩ => ⟨S4096x1, .f32⟩
  | .hbm, ⟨8, _⟩ => ⟨S4096x1024, .bf16⟩
  | .hbm, ⟨9, _⟩ => ⟨S4096x1, .f32⟩
  | .hbm, ⟨10, _⟩ => ⟨S4096x1024, .f32⟩
  | .local _ .vmem, ⟨0, _⟩ => ⟨S512x512, .bf16⟩
  | .local _ .vmem, ⟨1, _⟩ => ⟨S512x512, .bf16⟩
  | .local _ .vmem, ⟨2, _⟩ => ⟨S512x512, .bf16⟩
  | .local _ .vmem, ⟨3, _⟩ => ⟨S512x512, .bf16⟩
  | .local _ .vmem, ⟨4, _⟩ => ⟨S1024x1024, .bf16⟩
  | .local _ .vmem, ⟨5, _⟩ => ⟨S512x1024, .f32⟩
  | .local _ .vmem, ⟨6, _⟩ => ⟨S512x1024, .f32⟩
  | .local _ .vmem, ⟨7, _⟩ => ⟨S1x1024, .f32⟩
  | .local _ .vmem, ⟨8, _⟩ => ⟨S1x1024, .f32⟩
  | .local _ .vmem, ⟨9, _⟩ => ⟨S512x1024, .f32⟩
  | .local _ .vmem, ⟨10, _⟩ => ⟨S512x1024, .f32⟩
  | .local _ .vmem, ⟨11, _⟩ => ⟨S512x1, .f32⟩
  | .local _ .vmem, ⟨12, _⟩ => ⟨S512x1, .f32⟩
  | .local _ .vmem, ⟨13, _⟩ => ⟨S512x1024, .bf16⟩
  | .local _ .vmem, ⟨14, _⟩ => ⟨S512x1024, .bf16⟩
  | .local _ .vmem, ⟨15, _⟩ => ⟨S512x1, .f32⟩
  | .local _ .vmem, ⟨16, _⟩ => ⟨S512x1, .f32⟩
  | .local _ .vmem, ⟨17, _⟩ => ⟨S512x1024, .f32⟩
  | .local _ .vmem, ⟨18, _⟩ => ⟨S512x1024, .f32⟩
  | _, _ => ⟨S4096x512, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | _, _ => false

abbrev semScoped : Fin 0 → Bool
  | ⟨_, h⟩ => absurd h (Nat.not_lt_zero _)

abbrev dmaSemScoped : Fin 19 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | _ => false

abbrev sig : RefSig :=
  ofTc nBuf bufTy 0 19 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0_0 : Ref sig .tc := ⟨.hbm, 6, rfl⟩
abbrev main_v0_1 : Ref sig .tc := ⟨.hbm, 7, rfl⟩
abbrev main_v0_2 : Ref sig .tc := ⟨.hbm, 8, rfl⟩
abbrev main_v0_3 : Ref sig .tc := ⟨.hbm, 9, rfl⟩
abbrev main_v0_4 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg6_1 : Ref sig .tc := ⟨.vmem, 10, rfl⟩
abbrev cc0_stg7_0 : Ref sig .tc := ⟨.vmem, 11, rfl⟩
abbrev cc0_stg7_1 : Ref sig .tc := ⟨.vmem, 12, rfl⟩
abbrev cc0_stg8_0 : Ref sig .tc := ⟨.vmem, 13, rfl⟩
abbrev cc0_stg8_1 : Ref sig .tc := ⟨.vmem, 14, rfl⟩
abbrev cc0_stg9_0 : Ref sig .tc := ⟨.vmem, 15, rfl⟩
abbrev cc0_stg9_1 : Ref sig .tc := ⟨.vmem, 16, rfl⟩
abbrev cc0_stg10_0 : Ref sig .tc := ⟨.vmem, 17, rfl⟩
abbrev cc0_stg10_1 : Ref sig .tc := ⟨.vmem, 18, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6
abbrev cc0_sem4_0 : DmaSem sig := 7
abbrev cc0_sem5_0 : DmaSem sig := 8
abbrev cc0_sem6_0 : DmaSem sig := 9
abbrev cc0_sem6_1 : DmaSem sig := 10
abbrev cc0_sem7_0 : DmaSem sig := 11
abbrev cc0_sem7_1 : DmaSem sig := 12
abbrev cc0_sem8_0 : DmaSem sig := 13
abbrev cc0_sem8_1 : DmaSem sig := 14
abbrev cc0_sem9_0 : DmaSem sig := 15
abbrev cc0_sem9_1 : DmaSem sig := 16
abbrev cc0_sem10_0 : DmaSem sig := 17
abbrev cc0_sem10_1 : DmaSem sig := 18

abbrev nD : Nat := 1
abbrev τ : Topo := Topo.v7x

variable {F : FTy → Type} [FloatOps F]

abbrev grid0 : Pipeline.Grid := ⟨3, ![8, 1, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_4 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg1.toNat]

def cc0_transform_5 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg1.toNat]

def cc0_transform_6 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_7 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_9 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S512x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, false]

abbrev stage0_1 : Fin 2 → Memref sig .tc .vmem S512x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false, false]

abbrev stage0_2 : Fin 1 → Memref sig .tc .vmem S1024x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, true, true]

abbrev stage0_3 : Fin 2 → Memref sig .tc .vmem S512x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, true, false]

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, true, false]

abbrev stage0_6 : Fin 2 → Memref sig .tc .vmem S512x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true, false]

abbrev stage0_7 : Fin 2 → Memref sig .tc .vmem S512x1 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, false, false]

abbrev stage0_8 : Fin 2 → Memref sig .tc .vmem S512x1024 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true, false]

abbrev stage0_9 : Fin 2 → Memref sig .tc .vmem S512x1 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, false, false]

abbrev stage0_10 : Fin 2 → Memref sig .tc .vmem S512x1024 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, true, false]
-- ==== Reference18Ideal.lean ====
abbrev S4096x512 : Shape := ⟨2, ![4096, 512]⟩
abbrev S1024x1024 : Shape := ⟨2, ![1024, 1024]⟩
abbrev S4096x1024 : Shape := ⟨2, ![4096, 1024]⟩
abbrev S1x1024 : Shape := ⟨2, ![1, 1024]⟩
abbrev S_ : Shape := ⟨0, ![]⟩
abbrev S4096 : Shape := ⟨1, ![4096]⟩
abbrev S4096x1 : Shape := ⟨2, ![4096, 1]⟩

abbrev nBuf : Space → Nat
  | .hbm => 64
  | .vmem => 0
  | .smem => 0
  | _ => 0

abbrev bufTy : (tb : Table) → Fin (tcTables nBuf tb) → BufTy
  | .hbm, ⟨0, _⟩ => ⟨S4096x512, .bf16⟩
  | .hbm, ⟨1, _⟩ => ⟨S4096x512, .bf16⟩
  | .hbm, ⟨2, _⟩ => ⟨S1024x1024, .bf16⟩
  | .hbm, ⟨3, _⟩ => ⟨S4096x1024, .f32⟩
  | .hbm, ⟨4, _⟩ => ⟨S1x1024, .f32⟩
  | .hbm, ⟨5, _⟩ => ⟨S1x1024, .f32⟩
  | .hbm, ⟨6, _⟩ => ⟨S4096x1024, .bf16⟩
  | .hbm, ⟨7, _⟩ => ⟨S4096x1024, .f32⟩
  | .hbm, ⟨8, _⟩ => ⟨S1024x1024, .f32⟩
  | .hbm, ⟨9, _⟩ => ⟨S4096x1024, .f32⟩
  | .hbm, ⟨10, _⟩ => ⟨S4096x1024, .f32⟩
  | .hbm, ⟨11, _⟩ => ⟨S_, .f32⟩
  | .hbm, ⟨12, _⟩ => ⟨S4096, .f32⟩
  | .hbm, ⟨13, _⟩ => ⟨S4096x1, .f32⟩
  | .hbm, ⟨14, _⟩ => ⟨S_, .f32⟩
  | .hbm, ⟨15, _⟩ => ⟨S4096x1, .f32⟩
  | .hbm, ⟨16, _⟩ => ⟨S4096x1, .f32⟩
  | .hbm, ⟨17, _⟩ => ⟨S_, .f32⟩
  | .hbm, ⟨18, _⟩ => ⟨S4096x1, .f32⟩
  | .hbm, ⟨19, _⟩ => ⟨S4096x1, .f32⟩
  | .hbm, ⟨20, _⟩ => ⟨S4096x1, .f32⟩
  | .hbm, ⟨21, _⟩ => ⟨S4096x1024, .f32⟩
  | .hbm, ⟨22, _⟩ => ⟨S4096x1024, .f32⟩
  | .hbm, ⟨23, _⟩ => ⟨S4096x1024, .f32⟩
  | .hbm, ⟨24, _⟩ => ⟨S4096x1024, .f32⟩
  | .hbm, ⟨25, _⟩ => ⟨S4096x1024, .f32⟩
  | .hbm, ⟨26, _⟩ => ⟨S4096x1024, .f32⟩
  | .hbm, ⟨27, _⟩ => ⟨S_, .f32⟩
  | .hbm, ⟨28, _⟩ => ⟨S4096, .f32⟩
  | .hbm, ⟨29, _⟩ => ⟨S4096x1, .f32⟩
  | .hbm, ⟨30, _⟩ => ⟨S_, .f32⟩
  | .hbm, ⟨31, _⟩ => ⟨S4096x1, .f32⟩
  | .hbm, ⟨32, _⟩ => ⟨S4096x1, .f32⟩
  | .hbm, ⟨33, _⟩ => ⟨S_, .f32⟩
  | .hbm, ⟨34, _⟩ => ⟨S4096x1, .f32⟩
  | .hbm, ⟨35, _⟩ => ⟨S4096x1, .f32⟩
  | .hbm, ⟨36, _⟩ => ⟨S4096x1, .f32⟩
  | .hbm, ⟨37, _⟩ => ⟨S4096x1024, .f32⟩
  | .hbm, ⟨38, _⟩ => ⟨S_, .f32⟩
  | .hbm, ⟨39, _⟩ => ⟨S4096, .f32⟩
  | .hbm, ⟨40, _⟩ => ⟨S4096x1, .f32⟩
  | .hbm, ⟨41, _⟩ => ⟨S_, .f32⟩
  | .hbm, ⟨42, _⟩ => ⟨S4096x1, .f32⟩
  | .hbm, ⟨43, _⟩ => ⟨S4096x1, .f32⟩
  | .hbm, ⟨44, _⟩ => ⟨S_, .f32⟩
  | .hbm, ⟨45, _⟩ => ⟨S4096x1, .f32⟩
  | .hbm, ⟨46, _⟩ => ⟨S4096x1, .f32⟩
  | .hbm, ⟨47, _⟩ => ⟨S4096x1, .f32⟩
  | .hbm, ⟨48, _⟩ => ⟨S4096x1024, .f32⟩
  | .hbm, ⟨49, _⟩ => ⟨S4096x1024, .f32⟩
  | .hbm, ⟨50, _⟩ => ⟨S4096x1024, .f32⟩
  | .hbm, ⟨51, _⟩ => ⟨S4096x1024, .f32⟩
  | .hbm, ⟨52, _⟩ => ⟨S4096x1024, .bf16⟩
  | .hbm, ⟨53, _⟩ => ⟨S4096x1024, .f32⟩
  | .hbm, ⟨54, _⟩ => ⟨S_, .f32⟩
  | .hbm, ⟨55, _⟩ => ⟨S4096, .f32⟩
  | .hbm, ⟨56, _⟩ => ⟨S4096x1, .f32⟩
  | .hbm, ⟨57, _⟩ => ⟨S_, .f32⟩
  | .hbm, ⟨58, _⟩ => ⟨S4096x1, .f32⟩
  | .hbm, ⟨59, _⟩ => ⟨S4096x1, .f32⟩
  | .hbm, ⟨60, _⟩ => ⟨S_, .f32⟩
  | .hbm, ⟨61, _⟩ => ⟨S4096x1, .f32⟩
  | .hbm, ⟨62, _⟩ => ⟨S4096x1, .f32⟩
  | .hbm, ⟨63, _⟩ => ⟨S4096x1, .f32⟩
  | _, _ => ⟨S4096x512, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst : Ref sig .tc := ⟨.hbm, 11, rfl⟩
abbrev main_v5 : Ref sig .tc := ⟨.hbm, 12, rfl⟩
abbrev main_v6 : Ref sig .tc := ⟨.hbm, 13, rfl⟩
abbrev main_cst_0 : Ref sig .tc := ⟨.hbm, 14, rfl⟩
abbrev main_v7 : Ref sig .tc := ⟨.hbm, 15, rfl⟩
abbrev main_v8 : Ref sig .tc := ⟨.hbm, 16, rfl⟩
abbrev main_cst_1 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_cst_2 : Ref sig .tc := ⟨.hbm, 27, rfl⟩
abbrev main_v18 : Ref sig .tc := ⟨.hbm, 28, rfl⟩
abbrev main_v19 : Ref sig .tc := ⟨.hbm, 29, rfl⟩
abbrev main_cst_3 : Ref sig .tc := ⟨.hbm, 30, rfl⟩
abbrev main_v20 : Ref sig .tc := ⟨.hbm, 31, rfl⟩
abbrev main_v21 : Ref sig .tc := ⟨.hbm, 32, rfl⟩
abbrev main_cst_4 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_cst_5 : Ref sig .tc := ⟨.hbm, 38, rfl⟩
abbrev main_v26 : Ref sig .tc := ⟨.hbm, 39, rfl⟩
abbrev main_v27 : Ref sig .tc := ⟨.hbm, 40, rfl⟩
abbrev main_cst_6 : Ref sig .tc := ⟨.hbm, 41, rfl⟩
abbrev main_v28 : Ref sig .tc := ⟨.hbm, 42, rfl⟩
abbrev main_v29 : Ref sig .tc := ⟨.hbm, 43, rfl⟩
abbrev main_cst_7 : Ref sig .tc := ⟨.hbm, 44, rfl⟩
abbrev main_v30 : Ref sig .tc := ⟨.hbm, 45, rfl⟩
abbrev main_v31 : Ref sig .tc := ⟨.hbm, 46, rfl⟩
abbrev main_v32 : Ref sig .tc := ⟨.hbm, 47, rfl⟩
abbrev main_v33 : Ref sig .tc := ⟨.hbm, 48, rfl⟩
abbrev main_v34 : Ref sig .tc := ⟨.hbm, 49, rfl⟩
abbrev main_v35 : Ref sig .tc := ⟨.hbm, 50, rfl⟩
abbrev main_v36 : Ref sig .tc := ⟨.hbm, 51, rfl⟩
abbrev main_v37 : Ref sig .tc := ⟨.hbm, 52, rfl⟩
abbrev main_v38 : Ref sig .tc := ⟨.hbm, 53, rfl⟩
abbrev main_cst_8 : Ref sig .tc := ⟨.hbm, 54, rfl⟩
abbrev main_v39 : Ref sig .tc := ⟨.hbm, 55, rfl⟩
abbrev main_v40 : Ref sig .tc := ⟨.hbm, 56, rfl⟩
abbrev main_cst_9 : Ref sig .tc := ⟨.hbm, 57, rfl⟩
abbrev main_v41 : Ref sig .tc := ⟨.hbm, 58, rfl⟩
abbrev main_v42 : Ref sig .tc := ⟨.hbm, 59, rfl⟩
abbrev main_cst_10 : Ref sig .tc := ⟨.hbm, 60, rfl⟩
abbrev main_v43 : Ref sig .tc := ⟨.hbm, 61, rfl⟩
abbrev main_v44 : Ref sig .tc := ⟨.hbm, 62, rfl⟩
abbrev main_v45 : Ref sig .tc := ⟨.hbm, 63, rfl⟩

abbrev nD : Nat := 1
abbrev τ : Topo := Topo.v7x

variable {F : FTy → Type} [FloatOps F]
-- ==== Kernel19.lean ====
abbrev S4096x1536 : Shape := ⟨2, ![4096, 1536]⟩
abbrev S1x512 : Shape := ⟨2, ![1, 512]⟩
abbrev S4x128x128 : Shape := ⟨3, ![4, 128, 128]⟩
abbrev S4x128 : Shape := ⟨2, ![4, 128]⟩
abbrev S128x4 : Shape := ⟨2, ![128, 4]⟩
abbrev S4096x512 : Shape := ⟨2, ![4096, 512]⟩
abbrev S512x512 : Shape := ⟨2, ![512, 512]⟩
abbrev S512 : Shape := ⟨1, ![512]⟩
abbrev S512x1 : Shape := ⟨2, ![512, 1]⟩
abbrev S128x128 : Shape := ⟨2, ![128, 128]⟩
abbrev S1x128x128 : Shape := ⟨3, ![1, 128, 128]⟩
abbrev S128x1 : Shape := ⟨2, ![128, 1]⟩

abbrev nBuf : Space → Nat
  | .hbm => 7
  | .vmem => 10
  | .smem => 0
  | _ => 0

abbrev bufTy : (tb : Table) → Fin (tcTables nBuf tb) → BufTy
  | .hbm, ⟨0, _⟩ => ⟨S4096x1536, .f32⟩
  | .hbm, ⟨1, _⟩ => ⟨S1x512, .f32⟩
  | .hbm, ⟨2, _⟩ => ⟨S1x512, .f32⟩
  | .hbm, ⟨3, _⟩ => ⟨S4x128x128, .f32⟩
  | .hbm, ⟨4, _⟩ => ⟨S4x128, .f32⟩
  | .hbm, ⟨5, _⟩ => ⟨S128x4, .f32⟩
  | .hbm, ⟨6, _⟩ => ⟨S4096x512, .bf16⟩
  | .local _ .vmem, ⟨0, _⟩ => ⟨S512x512, .f32⟩
  | .local _ .vmem, ⟨1, _⟩ => ⟨S512x512, .f32⟩
  | .local _ .vmem, ⟨2, _⟩ => ⟨S512x512, .f32⟩
  | .local _ .vmem, ⟨3, _⟩ => ⟨S512x512, .f32⟩
  | .local _ .vmem, ⟨4, _⟩ => ⟨S1x512, .f32⟩
  | .local _ .vmem, ⟨5, _⟩ => ⟨S1x512, .f32⟩
  | .local _ .vmem, ⟨6, _⟩ => ⟨S4x128x128, .f32⟩
  | .local _ .vmem, ⟨7, _⟩ => ⟨S128x4, .f32⟩
  | .local _ .vmem, ⟨8, _⟩ => ⟨S512x512, .bf16⟩
  | .local _ .vmem, ⟨9, _⟩ => ⟨S512x512, .bf16⟩
  | _, _ => ⟨S4096x1536, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg6_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem6_1 : DmaSem sig := 9

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c1_i32 : BitVec 32 := 1#32
  let c0_i32 : BitVec 32 := 0#32
  ![arg0.toNat, c1_i32.toNat]

def cc0_transform_1 (i : grid0.Coords) : Fin 2 → Nat :=
  let arg0 : BitVec 32 := BitVec.ofNat 32 (i 0).val
  let c2_i32 : BitVec 32 := 2#32
  let c0_i32 : BitVec 32 := 0#32
  ![arg0.toNat, c2_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x512 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x512 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S4x128x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S128x4 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S512x512 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== Kernel19Ideal.lean ====
variable {F : FTy → Type} [FloatOps F] [Named F]
def κ : String → Option EReal := fun
  | "gelu_cubic" => some ((8943 / 200000 : ℝ) : EReal)
  | _ => none
-- ==== Reference19Ideal.lean ====
abbrev S4096x1536 : Shape := ⟨2, ![4096, 1536]⟩
abbrev S1x512 : Shape := ⟨2, ![1, 512]⟩
abbrev S4x128x128 : Shape := ⟨3, ![4, 128, 128]⟩
abbrev S4x128 : Shape := ⟨2, ![4, 128]⟩
abbrev S4096x512 : Shape := ⟨2, ![4096, 512]⟩
abbrev S1x4096x512 : Shape := ⟨3, ![1, 4096, 512]⟩
abbrev S_ : Shape := ⟨0, ![]⟩
abbrev S1x4096 : Shape := ⟨2, ![1, 4096]⟩
abbrev S1x4096x1 : Shape := ⟨3, ![1, 4096, 1]⟩
abbrev S1x1x512 : Shape := ⟨3, ![1, 1, 512]⟩
abbrev S1x32x128x4x128 : Shape := ⟨5, ![1, 32, 128, 4, 128]⟩
abbrev S128x128 : Shape := ⟨2, ![128, 128]⟩
abbrev S1x128x128 : Shape := ⟨3, ![1, 128, 128]⟩
abbrev S4x1x32x128x128 : Shape := ⟨5, ![4, 1, 32, 128, 128]⟩
abbrev S128x4 : Shape := ⟨2, ![128, 4]⟩
abbrev S1x1x128x4x1 : Shape := ⟨5, ![1, 1, 128, 4, 1]⟩

abbrev nBuf : Space → Nat
  | .hbm => 101
  | .vmem => 0
  | .smem => 0
  | _ => 0

abbrev bufTy : (tb : Table) → Fin (tcTables nBuf tb) → BufTy
  | .hbm, ⟨0, _⟩ => ⟨S4096x1536, .f32⟩
  | .hbm, ⟨1, _⟩ => ⟨S1x512, .f32⟩
  | .hbm, ⟨2, _⟩ => ⟨S1x512, .f32⟩
  | .hbm, ⟨3, _⟩ => ⟨S4x128x128, .f32⟩
  | .hbm, ⟨4, _⟩ => ⟨S4x128, .f32⟩
  | .hbm, ⟨5, _⟩ => ⟨S4096x512, .f32⟩
  | .hbm, ⟨6, _⟩ => ⟨S1x4096x512, .f32⟩
  | .hbm, ⟨7, _⟩ => ⟨S4096x512, .f32⟩
  | .hbm, ⟨8, _⟩ => ⟨S1x4096x512, .f32⟩
  | .hbm, ⟨9, _⟩ => ⟨S_, .f32⟩
  | .hbm, ⟨10, _⟩ => ⟨S_, .f32⟩
  | .hbm, ⟨11, _⟩ => ⟨S_, .f32⟩
  | .hbm, ⟨12, _⟩ => ⟨S1x4096x512, .f32⟩
  | .hbm, ⟨13, _⟩ => ⟨S1x4096x512, .f32⟩
  | .hbm, ⟨14, _⟩ => ⟨S1x4096x512, .f32⟩
  | .hbm, ⟨15, _⟩ => ⟨S1x4096x512, .f32⟩
  | .hbm, ⟨16, _⟩ => ⟨S1x4096x512, .f32⟩
  | .hbm, ⟨17, _⟩ => ⟨S_, .f32⟩
  | .hbm, ⟨18, _⟩ => ⟨S1x4096x512, .f32⟩
  | .hbm, ⟨19, _⟩ => ⟨S1x4096x512, .f32⟩
  | .hbm, ⟨20, _⟩ => ⟨S1x4096x512, .f32⟩
  | .hbm, ⟨21, _⟩ => ⟨S_, .f32⟩
  | .hbm, ⟨22, _⟩ => ⟨S1x4096x512, .f32⟩
  | .hbm, ⟨23, _⟩ => ⟨S1x4096x512, .f32⟩
  | .hbm, ⟨24, _⟩ => ⟨S_, .f32⟩
  | .hbm, ⟨25, _⟩ => ⟨S1x4096x512, .f32⟩
  | .hbm, ⟨26, _⟩ => ⟨S1x4096x512, .f32⟩
  | .hbm, ⟨27, _⟩ => ⟨S1x4096x512, .f32⟩
  | .hbm, ⟨28, _⟩ => ⟨S_, .f32⟩
  | .hbm, ⟨29, _⟩ => ⟨S_, .f32⟩
  | .hbm, ⟨30, _⟩ => ⟨S_, .f32⟩
  | .hbm, ⟨31, _⟩ => ⟨S1x4096x512, .f32⟩
  | .hbm, ⟨32, _⟩ => ⟨S1x4096x512, .f32⟩
  | .hbm, ⟨33, _⟩ => ⟨S1x4096x512, .f32⟩
  | .hbm, ⟨34, _⟩ => ⟨S1x4096x512, .f32⟩
  | .hbm, ⟨35, _⟩ => ⟨S1x4096x512, .f32⟩
  | .hbm, ⟨36, _⟩ => ⟨S_, .f32⟩
  | .hbm, ⟨37, _⟩ => ⟨S1x4096x512, .f32⟩
  | .hbm, ⟨38, _⟩ => ⟨S1x4096x512, .f32⟩
  | .hbm, ⟨39, _⟩ => ⟨S1x4096x512, .f32⟩
  | .hbm, ⟨40, _⟩ => ⟨S_, .f32⟩
  | .hbm, ⟨41, _⟩ => ⟨S1x4096x512, .f32⟩
  | .hbm, ⟨42, _⟩ => ⟨S1x4096x512, .f32⟩
  | .hbm, ⟨43, _⟩ => ⟨S_, .f32⟩
  | .hbm, ⟨44, _⟩ => ⟨S1x4096x512, .f32⟩
  | .hbm, ⟨45, _⟩ => ⟨S1x4096x512, .f32⟩
  | .hbm, ⟨46, _⟩ => ⟨S1x4096x512, .f32⟩
  | .hbm, ⟨47, _⟩ => ⟨S_, .f32⟩
  | .hbm, ⟨48, _⟩ => ⟨S1x4096, .f32⟩
  | .hbm, ⟨49, _⟩ => ⟨S1x4096x1, .f32⟩
  | .hbm, ⟨50, _⟩ => ⟨S_, .f32⟩
  | .hbm, ⟨51, _⟩ => ⟨S1x4096x1, .f32⟩
  | .hbm, ⟨52, _⟩ => ⟨S1x4096x1, .f32⟩
  | .hbm, ⟨53, _⟩ => ⟨S1x4096x512, .f32⟩
  | .hbm, ⟨54, _⟩ => ⟨S1x4096x512, .f32⟩
  | .hbm, ⟨55, _⟩ => ⟨S1x4096x512, .f32⟩
  | .hbm, ⟨56, _⟩ => ⟨S_, .f32⟩
  | .hbm, ⟨57, _⟩ => ⟨S1x4096, .f32⟩
  | .hbm, ⟨58, _⟩ => ⟨S1x4096x1, .f32⟩
  | .hbm, ⟨59, _⟩ => ⟨S_, .f32⟩
  | .hbm, ⟨60, _⟩ => ⟨S1x4096x1, .f32⟩
  | .hbm, ⟨61, _⟩ => ⟨S1x4096x1, .f32⟩
  | .hbm, ⟨62, _⟩ => ⟨S_, .f32⟩
  | .hbm, ⟨63, _⟩ => ⟨S1x4096x1, .f32⟩
  | .hbm, ⟨64, _⟩ => ⟨S1x4096x1, .f32⟩
  | .hbm, ⟨65, _⟩ => ⟨S1x4096x1, .f32⟩
  | .hbm, ⟨66, _⟩ => ⟨S1x4096x512, .f32⟩
  | .hbm, ⟨67, _⟩ => ⟨S1x4096x512, .f32⟩
  | .hbm, ⟨68, _⟩ => ⟨S1x1x512, .f32⟩
  | .hbm, ⟨69, _⟩ => ⟨S1x4096x512, .f32⟩
  | .hbm, ⟨70, _⟩ => ⟨S1x4096x512, .f32⟩
  | .hbm, ⟨71, _⟩ => ⟨S1x1x512, .f32⟩
  | .hbm, ⟨72, _⟩ => ⟨S1x4096x512, .f32⟩
  | .hbm, ⟨73, _⟩ => ⟨S1x4096x512, .f32⟩
  | .hbm, ⟨74, _⟩ => ⟨S1x32x128x4x128, .f32⟩
  | .hbm, ⟨75, _⟩ => ⟨S_, .i1⟩
  | .hbm, ⟨76, _⟩ => ⟨S128x128, .i1⟩
  | .hbm, ⟨77, _⟩ => ⟨S128x128, .i32⟩
  | .hbm, ⟨78, _⟩ => ⟨S_, .i32⟩
  | .hbm, ⟨79, _⟩ => ⟨S128x128, .i32⟩
  | .hbm, ⟨80, _⟩ => ⟨S128x128, .i32⟩
  | .hbm, ⟨81, _⟩ => ⟨S128x128, .i32⟩
  | .hbm, ⟨82, _⟩ => ⟨S128x128, .i1⟩
  | .hbm, ⟨83, _⟩ => ⟨S_, .i1⟩
  | .hbm, ⟨84, _⟩ => ⟨S128x128, .i1⟩
  | .hbm, ⟨85, _⟩ => ⟨S128x128, .i1⟩
  | .hbm, ⟨86, _⟩ => ⟨S1x128x128, .i1⟩
  | .hbm, ⟨87, _⟩ => ⟨S_, .f32⟩
  | .hbm, ⟨88, _⟩ => ⟨S4x128x128, .f32⟩
  | .hbm, ⟨89, _⟩ => ⟨S4x128x128, .i1⟩
  | .hbm, ⟨90, _⟩ => ⟨S4x128x128, .f32⟩
  | .hbm, ⟨91, _⟩ => ⟨S4x1x32x128x128, .f32⟩
  | .hbm, ⟨92, _⟩ => ⟨S1x32x128x4x128, .f32⟩
  | .hbm, ⟨93, _⟩ => ⟨S128x4, .f32⟩
  | .hbm, ⟨94, _⟩ => ⟨S1x1x128x4x1, .f32⟩
  | .hbm, ⟨95, _⟩ => ⟨S1x32x128x4x128, .f32⟩
  | .hbm, ⟨96, _⟩ => ⟨S1x32x128x4x128, .f32⟩
  | .hbm, ⟨97, _⟩ => ⟨S1x4096x512, .f32⟩
  | .hbm, ⟨98, _⟩ => ⟨S1x4096x512, .f32⟩
  | .hbm, ⟨99, _⟩ => ⟨S4096x512, .f32⟩
  | .hbm, ⟨100, _⟩ => ⟨S4096x512, .bf16⟩
  | _, _ => ⟨S4096x1536, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_cst : Ref sig .tc := ⟨.hbm, 9, rfl⟩
abbrev main_cst_0 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_cst_1 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_cst_2 : Ref sig .tc := ⟨.hbm, 21, rfl⟩
abbrev main_v13 : Ref sig .tc := ⟨.hbm, 22, rfl⟩
abbrev main_v14 : Ref sig .tc := ⟨.hbm, 23, rfl⟩
abbrev main_cst_3 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_cst_4 : Ref sig .tc := ⟨.hbm, 28, rfl⟩
abbrev main_cst_5 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_cst_6 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_cst_7 : Ref sig .tc := ⟨.hbm, 40, rfl⟩
abbrev main_v27 : Ref sig .tc := ⟨.hbm, 41, rfl⟩
abbrev main_v28 : Ref sig .tc := ⟨.hbm, 42, rfl⟩
abbrev main_cst_8 : Ref sig .tc := ⟨.hbm, 43, rfl⟩
abbrev main_v29 : Ref sig .tc := ⟨.hbm, 44, rfl⟩
abbrev main_v30 : Ref sig .tc := ⟨.hbm, 45, rfl⟩
abbrev main_v31 : Ref sig .tc := ⟨.hbm, 46, rfl⟩
abbrev main_cst_9 : Ref sig .tc := ⟨.hbm, 47, rfl⟩
abbrev main_v32 : Ref sig .tc := ⟨.hbm, 48, rfl⟩
abbrev main_v33 : Ref sig .tc := ⟨.hbm, 49, rfl⟩
abbrev main_cst_10 : Ref sig .tc := ⟨.hbm, 50, rfl⟩
abbrev main_v34 : Ref sig .tc := ⟨.hbm, 51, rfl⟩
abbrev main_v35 : Ref sig .tc := ⟨.hbm, 52, rfl⟩
abbrev main_v36 : Ref sig .tc := ⟨.hbm, 53, rfl⟩
abbrev main_v37 : Ref sig .tc := ⟨.hbm, 54, rfl⟩
abbrev main_v38 : Ref sig .tc := ⟨.hbm, 55, rfl⟩
abbrev main_cst_11 : Ref sig .tc := ⟨.hbm, 56, rfl⟩
abbrev main_v39 : Ref sig .tc := ⟨.hbm, 57, rfl⟩
abbrev main_v40 : Ref sig .tc := ⟨.hbm, 58, rfl⟩
abbrev main_cst_12 : Ref sig .tc := ⟨.hbm, 59, rfl⟩
abbrev main_v41 : Ref sig .tc := ⟨.hbm, 60, rfl⟩
abbrev main_v42 : Ref sig .tc := ⟨.hbm, 61, rfl⟩
abbrev main_cst_13 : Ref sig .tc := ⟨.hbm, 62, rfl⟩
abbrev main_v43 : Ref sig .tc := ⟨.hbm, 63, rfl⟩
abbrev main_v44 : Ref sig .tc := ⟨.hbm, 64, rfl⟩
abbrev main_v45 : Ref sig .tc := ⟨.hbm, 65, rfl⟩
abbrev main_v46 : Ref sig .tc := ⟨.hbm, 66, rfl⟩
abbrev main_v47 : Ref sig .tc := ⟨.hbm, 67, rfl⟩
abbrev main_v48 : Ref sig .tc := ⟨.hbm, 68, rfl⟩
abbrev main_v49 : Ref sig .tc := ⟨.hbm, 69, rfl⟩
abbrev main_v50 : Ref sig .tc := ⟨.hbm, 70, rfl⟩
abbrev main_v51 : Ref sig .tc := ⟨.hbm, 71, rfl⟩
abbrev main_v52 : Ref sig .tc := ⟨.hbm, 72, rfl⟩
abbrev main_v53 : Ref sig .tc := ⟨.hbm, 73, rfl⟩
abbrev main_v54 : Ref sig .tc := ⟨.hbm, 74, rfl⟩
abbrev main_c : Ref sig .tc := ⟨.hbm, 75, rfl⟩
abbrev main_v55 : Ref sig .tc := ⟨.hbm, 76, rfl⟩
abbrev main_call0_v0 : Ref sig .tc := ⟨.hbm, 77, rfl⟩
abbrev main_call0_c : Ref sig .tc := ⟨.hbm, 78, rfl⟩
abbrev main_call0_v1 : Ref sig .tc := ⟨.hbm, 79, rfl⟩
abbrev main_call0_v2 : Ref sig .tc := ⟨.hbm, 80, rfl⟩
abbrev main_call0_v3 : Ref sig .tc := ⟨.hbm, 81, rfl⟩
abbrev main_call0_v4 : Ref sig .tc := ⟨.hbm, 82, rfl⟩
abbrev main_call0_c_0 : Ref sig .tc := ⟨.hbm, 83, rfl⟩
abbrev main_call0_v5 : Ref sig .tc := ⟨.hbm, 84, rfl⟩
abbrev main_v56 : Ref sig .tc := ⟨.hbm, 85, rfl⟩
abbrev main_v57 : Ref sig .tc := ⟨.hbm, 86, rfl⟩
abbrev main_cst_14 : Ref sig .tc := ⟨.hbm, 87, rfl⟩
abbrev main_v58 : Ref sig .tc := ⟨.hbm, 88, rfl⟩
abbrev main_call1_v0 : Ref sig .tc := ⟨.hbm, 89, rfl⟩
abbrev main_v59 : Ref sig .tc := ⟨.hbm, 90, rfl⟩
abbrev main_v60 : Ref sig .tc := ⟨.hbm, 91, rfl⟩
abbrev main_v61 : Ref sig .tc := ⟨.hbm, 92, rfl⟩
abbrev main_v62 : Ref sig .tc := ⟨.hbm, 93, rfl⟩
abbrev main_v63 : Ref sig .tc := ⟨.hbm, 94, rfl⟩
abbrev main_v64 : Ref sig .tc := ⟨.hbm, 95, rfl⟩
abbrev main_v65 : Ref sig .tc := ⟨.hbm, 96, rfl⟩
abbrev main_v66 : Ref sig .tc := ⟨.hbm, 97, rfl⟩
abbrev main_v67 : Ref sig .tc := ⟨.hbm, 98, rfl⟩
abbrev main_v68 : Ref sig .tc := ⟨.hbm, 99, rfl⟩
abbrev main_v69 : Ref sig .tc := ⟨.hbm, 100, rfl⟩

abbrev nD : Nat := 1
abbrev τ : Topo := Topo.v7x

variable {F : FTy → Type} [FloatOps F]
-- ==== Kernel20.lean ====
abbrev S4096x1536 : Shape := ⟨2, ![4096, 1536]⟩
abbrev S4x128x128 : Shape := ⟨3, ![4, 128, 128]⟩
abbrev S1x512 : Shape := ⟨2, ![1, 512]⟩
abbrev S4096x512 : Shape := ⟨2, ![4096, 512]⟩
abbrev S4096x128 : Shape := ⟨2, ![4096, 128]⟩
abbrev S1x128x128 : Shape := ⟨3, ![1, 128, 128]⟩
abbrev S1x128 : Shape := ⟨2, ![1, 128]⟩
abbrev S128x128 : Shape := ⟨2, ![128, 128]⟩

abbrev nBuf : Space → Nat
  | .hbm => 5
  | .vmem => 10
  | .smem => 0
  | _ => 0

abbrev bufTy : (tb : Table) → Fin (tcTables nBuf tb) → BufTy
  | .hbm, ⟨0, _⟩ => ⟨S4096x1536, .f32⟩
  | .hbm, ⟨1, _⟩ => ⟨S4x128x128, .f32⟩
  | .hbm, ⟨2, _⟩ => ⟨S1x512, .f32⟩
  | .hbm, ⟨3, _⟩ => ⟨S4096x512, .bf16⟩
  | .hbm, ⟨4, _⟩ => ⟨S4096x512, .bf16⟩
  | .local _ .vmem, ⟨0, _⟩ => ⟨S4096x128, .f32⟩
  | .local _ .vmem, ⟨1, _⟩ => ⟨S4096x128, .f32⟩
  | .local _ .vmem, ⟨2, _⟩ => ⟨S1x128x128, .f32⟩
  | .local _ .vmem, ⟨3, _⟩ => ⟨S1x128x128, .f32⟩
  | .local _ .vmem, ⟨4, _⟩ => ⟨S1x128, .f32⟩
  | .local _ .vmem, ⟨5, _⟩ => ⟨S1x128, .f32⟩
  | .local _ .vmem, ⟨6, _⟩ => ⟨S4096x128, .bf16⟩
  | .local _ .vmem, ⟨7, _⟩ => ⟨S4096x128, .bf16⟩
  | .local _ .vmem, ⟨8, _⟩ => ⟨S4096x128, .bf16⟩
  | .local _ .vmem, ⟨9, _⟩ => ⟨S4096x128, .bf16⟩
  | _, _ => ⟨S4096x1536, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0_0 : Ref sig .tc := ⟨.hbm, 3, rfl⟩
abbrev main_v0_1 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨1, ![4], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 2 → Memref sig .tc .vmem S4096x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x128x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S4096x128 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S4096x128 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]
-- ==== Reference20Ideal.lean ====
abbrev S4096x1536 : Shape := ⟨2, ![4096, 1536]⟩
abbrev S4x128x128 : Shape := ⟨3, ![4, 128, 128]⟩
abbrev S1x512 : Shape := ⟨2, ![1, 512]⟩
abbrev S4096x512 : Shape := ⟨2, ![4096, 512]⟩
abbrev S1x4096x512 : Shape := ⟨3, ![1, 4096, 512]⟩
abbrev S1x4096x4x128 : Shape := ⟨4, ![1, 4096, 4, 128]⟩
abbrev S_ : Shape := ⟨0, ![]⟩
abbrev S4096 : Shape := ⟨1, ![4096]⟩
abbrev S1x4096x1x128 : Shape := ⟨4, ![1, 4096, 1, 128]⟩
abbrev S1x4096x128 : Shape := ⟨3, ![1, 4096, 128]⟩
abbrev S1x2x128 : Shape := ⟨3, ![1, 2, 128]⟩
abbrev S1x4094x128 : Shape := ⟨3, ![1, 4094, 128]⟩
abbrev S1x4096x1 : Shape := ⟨3, ![1, 4096, 1]⟩
abbrev S1x4x128 : Shape := ⟨3, ![1, 4, 128]⟩
abbrev S1x4092x128 : Shape := ⟨3, ![1, 4092, 128]⟩
abbrev S1x8x128 : Shape := ⟨3, ![1, 8, 128]⟩
abbrev S1x4088x128 : Shape := ⟨3, ![1, 4088, 128]⟩
abbrev S1x16x128 : Shape := ⟨3, ![1, 16, 128]⟩
abbrev S1x4080x128 : Shape := ⟨3, ![1, 4080, 128]⟩
abbrev S4x128x1x4096 : Shape := ⟨4, ![4, 128, 1, 4096]⟩
abbrev S1x1x512 : Shape := ⟨3, ![1, 1, 512]⟩
abbrev S4096x4x128 : Shape := ⟨3, ![4096, 4, 128]⟩

abbrev nBuf : Space → Nat
  | .hbm => 196
  | .vmem => 0
  | .smem => 0
  | _ => 0

abbrev hbmTy0_0 (i : Nat) : BufTy := match i % 128 with
  | 0 => ⟨S4096x1536, .f32⟩
  | 1 => ⟨S4x128x128, .f32⟩
  | 2 => ⟨S1x512, .f32⟩
  | 3 => ⟨S4096x512, .f32⟩
  | 4 => ⟨S1x4096x512, .f32⟩
  | 5 => ⟨S1x4096x4x128, .f32⟩
  | 6 => ⟨S_, .f32⟩
  | 7 => ⟨S_, .f32⟩
  | 8 => ⟨S1x4096x4x128, .f32⟩
  | 9 => ⟨S4096, .f32⟩
  | 10 => ⟨S1x4096x1x128, .f32⟩
  | 11 => ⟨S1x4096x128, .f32⟩
  | 12 => ⟨S1x2x128, .f32⟩
  | 13 => ⟨S_, .f32⟩
  | 14 => ⟨S1x2x128, .f32⟩
  | 15 => ⟨S1x4094x128, .f32⟩
  | 16 => ⟨S1x4096x128, .f32⟩
  | 17 => ⟨S_, .f32⟩
  | 18 => ⟨S4096, .f32⟩
  | 19 => ⟨S4096, .f32⟩
  | 20 => ⟨S_, .f32⟩
  | 21 => ⟨S4096, .f32⟩
  | 22 => ⟨S4096, .f32⟩
  | 23 => ⟨S1x4096x1, .f32⟩
  | 24 => ⟨S1x4096x128, .f32⟩
  | 25 => ⟨S1x4096x128, .f32⟩
  | 26 => ⟨S1x4096x128, .f32⟩
  | 27 => ⟨S1x4096x1x128, .f32⟩
  | 28 => ⟨S1x4096x128, .f32⟩
  | 29 => ⟨S1x4096x128, .f32⟩
  | 30 => ⟨S1x4096x1x128, .f32⟩
  | 31 => ⟨S1x4096x128, .f32⟩
  | 32 => ⟨S1x4x128, .f32⟩
  | 33 => ⟨S_, .f32⟩
  | 34 => ⟨S1x4x128, .f32⟩
  | 35 => ⟨S1x4092x128, .f32⟩
  | 36 => ⟨S1x4096x128, .f32⟩
  | 37 => ⟨S_, .f32⟩
  | 38 => ⟨S4096, .f32⟩
  | 39 => ⟨S4096, .f32⟩
  | 40 => ⟨S_, .f32⟩
  | 41 => ⟨S4096, .f32⟩
  | 42 => ⟨S4096, .f32⟩
  | 43 => ⟨S1x4096x1, .f32⟩
  | 44 => ⟨S1x4096x128, .f32⟩
  | 45 => ⟨S1x4096x128, .f32⟩
  | 46 => ⟨S1x4096x128, .f32⟩
  | 47 => ⟨S1x4096x1x128, .f32⟩
  | 48 => ⟨S1x4096x128, .f32⟩
  | 49 => ⟨S1x4096x128, .f32⟩
  | 50 => ⟨S1x4096x1x128, .f32⟩
  | 51 => ⟨S1x4096x128, .f32⟩
  | 52 => ⟨S1x8x128, .f32⟩
  | 53 => ⟨S_, .f32⟩
  | 54 => ⟨S1x8x128, .f32⟩
  | 55 => ⟨S1x4088x128, .f32⟩
  | 56 => ⟨S1x4096x128, .f32⟩
  | 57 => ⟨S_, .f32⟩
  | 58 => ⟨S4096, .f32⟩
  | 59 => ⟨S4096, .f32⟩
  | 60 => ⟨S_, .f32⟩
  | 61 => ⟨S4096, .f32⟩
  | 62 => ⟨S4096, .f32⟩
  | 63 => ⟨S1x4096x1, .f32⟩
  | 64 => ⟨S1x4096x128, .f32⟩
  | 65 => ⟨S1x4096x128, .f32⟩
  | 66 => ⟨S1x4096x128, .f32⟩
  | 67 => ⟨S1x4096x1x128, .f32⟩
  | 68 => ⟨S1x4096x128, .f32⟩
  | 69 => ⟨S1x4096x128, .f32⟩
  | 70 => ⟨S1x4096x1x128, .f32⟩
  | 71 => ⟨S1x4096x128, .f32⟩
  | 72 => ⟨S1x16x128, .f32⟩
  | 73 => ⟨S_, .f32⟩
  | 74 => ⟨S1x16x128, .f32⟩
  | 75 => ⟨S1x4080x128, .f32⟩
  | 76 => ⟨S1x4096x128, .f32⟩
  | 77 => ⟨S_, .f32⟩
  | 78 => ⟨S4096, .f32⟩
  | 79 => ⟨S4096, .f32⟩
  | 80 => ⟨S_, .f32⟩
  | 81 => ⟨S4096, .f32⟩
  | 82 => ⟨S4096, .f32⟩
  | 83 => ⟨S1x4096x1, .f32⟩
  | 84 => ⟨S1x4096x128, .f32⟩
  | 85 => ⟨S1x4096x128, .f32⟩
  | 86 => ⟨S1x4096x128, .f32⟩
  | 87 => ⟨S1x4096x1x128, .f32⟩
  | 88 => ⟨S1x4096x128, .f32⟩
  | 89 => ⟨S1x4096x128, .f32⟩
  | 90 => ⟨S1x4096x1x128, .f32⟩
  | 91 => ⟨S1x4096x1x128, .f32⟩
  | 92 => ⟨S1x4096x1x128, .f32⟩
  | 93 => ⟨S1x4096x1x128, .f32⟩
  | 94 => ⟨S1x4096x4x128, .f32⟩
  | 95 => ⟨S4x128x1x4096, .f32⟩
  | 96 => ⟨S1x4096x4x128, .f32⟩
  | 97 => ⟨S1x4096x512, .f32⟩
  | 98 => ⟨S1x1x512, .f32⟩
  | 99 => ⟨S1x4096x512, .f32⟩
  | 100 => ⟨S1x4096x512, .f32⟩
  | 101 => ⟨S4096x512, .f32⟩
  | 102 => ⟨S4096x512, .bf16⟩
  | 103 => ⟨S1x4096x4x128, .f32⟩
  | 104 => ⟨S_, .f32⟩
  | 105 => ⟨S_, .f32⟩
  | 106 => ⟨S1x4096x4x128, .f32⟩
  | 107 => ⟨S4096, .f32⟩
  | 108 => ⟨S1x4096x1x128, .f32⟩
  | 109 => ⟨S1x4096x128, .f32⟩
  | 110 => ⟨S1x2x128, .f32⟩
  | 111 => ⟨S_, .f32⟩
  | 112 => ⟨S1x2x128, .f32⟩
  | 113 => ⟨S1x4094x128, .f32⟩
  | 114 => ⟨S1x4096x128, .f32⟩
  | 115 => ⟨S_, .f32⟩
  | 116 => ⟨S4096, .f32⟩
  | 117 => ⟨S4096, .f32⟩
  | 118 => ⟨S_, .f32⟩
  | 119 => ⟨S4096, .f32⟩
  | 120 => ⟨S4096, .f32⟩
  | 121 => ⟨S1x4096x1, .f32⟩
  | 122 => ⟨S1x4096x128, .f32⟩
  | 123 => ⟨S1x4096x128, .f32⟩
  | 124 => ⟨S1x4096x128, .f32⟩
  | 125 => ⟨S1x4096x1x128, .f32⟩
  | 126 => ⟨S1x4096x128, .f32⟩
  | 127 => ⟨S1x4096x128, .f32⟩
  | _ => ⟨S4096x1536, .f32⟩

abbrev hbmTy0_1 (i : Nat) : BufTy := match i % 128 with
  | 0 => ⟨S1x4096x1x128, .f32⟩
  | 1 => ⟨S1x4096x128, .f32⟩
  | 2 => ⟨S1x4x128, .f32⟩
  | 3 => ⟨S_, .f32⟩
  | 4 => ⟨S1x4x128, .f32⟩
  | 5 => ⟨S1x4092x128, .f32⟩
  | 6 => ⟨S1x4096x128, .f32⟩
  | 7 => ⟨S_, .f32⟩
  | 8 => ⟨S4096, .f32⟩
  | 9 => ⟨S4096, .f32⟩
  | 10 => ⟨S_, .f32⟩
  | 11 => ⟨S4096, .f32⟩
  | 12 => ⟨S4096, .f32⟩
  | 13 => ⟨S1x4096x1, .f32⟩
  | 14 => ⟨S1x4096x128, .f32⟩
  | 15 => ⟨S1x4096x128, .f32⟩
  | 16 => ⟨S1x4096x128, .f32⟩
  | 17 => ⟨S1x4096x1x128, .f32⟩
  | 18 => ⟨S1x4096x128, .f32⟩
  | 19 => ⟨S1x4096x128, .f32⟩
  | 20 => ⟨S1x4096x1x128, .f32⟩
  | 21 => ⟨S1x4096x128, .f32⟩
  | 22 => ⟨S1x8x128, .f32⟩
  | 23 => ⟨S_, .f32⟩
  | 24 => ⟨S1x8x128, .f32⟩
  | 25 => ⟨S1x4088x128, .f32⟩
  | 26 => ⟨S1x4096x128, .f32⟩
  | 27 => ⟨S_, .f32⟩
  | 28 => ⟨S4096, .f32⟩
  | 29 => ⟨S4096, .f32⟩
  | 30 => ⟨S_, .f32⟩
  | 31 => ⟨S4096, .f32⟩
  | 32 => ⟨S4096, .f32⟩
  | 33 => ⟨S1x4096x1, .f32⟩
  | 34 => ⟨S1x4096x128, .f32⟩
  | 35 => ⟨S1x4096x128, .f32⟩
  | 36 => ⟨S1x4096x128, .f32⟩
  | 37 => ⟨S1x4096x1x128, .f32⟩
  | 38 => ⟨S1x4096x128, .f32⟩
  | 39 => ⟨S1x4096x128, .f32⟩
  | 40 => ⟨S1x4096x1x128, .f32⟩
  | 41 => ⟨S1x4096x128, .f32⟩
  | 42 => ⟨S1x16x128, .f32⟩
  | 43 => ⟨S_, .f32⟩
  | 44 => ⟨S1x16x128, .f32⟩
  | 45 => ⟨S1x4080x128, .f32⟩
  | 46 => ⟨S1x4096x128, .f32⟩
  | 47 => ⟨S_, .f32⟩
  | 48 => ⟨S4096, .f32⟩
  | 49 => ⟨S4096, .f32⟩
  | 50 => ⟨S_, .f32⟩
  | 51 => ⟨S4096, .f32⟩
  | 52 => ⟨S4096, .f32⟩
  | 53 => ⟨S1x4096x1, .f32⟩
  | 54 => ⟨S1x4096x128, .f32⟩
  | 55 => ⟨S1x4096x128, .f32⟩
  | 56 => ⟨S1x4096x128, .f32⟩
  | 57 => ⟨S1x4096x1x128, .f32⟩
  | 58 => ⟨S1x4096x128, .f32⟩
  | 59 => ⟨S1x4096x128, .f32⟩
  | 60 => ⟨S1x4096x1x128, .f32⟩
  | 61 => ⟨S1x4096x1x128, .f32⟩
  | 62 => ⟨S1x4096x1x128, .f32⟩
  | 63 => ⟨S1x4096x1x128, .f32⟩
  | 64 => ⟨S1x4096x4x128, .f32⟩
  | 65 => ⟨S4096x4x128, .f32⟩
  | 66 => ⟨S4096x512, .f32⟩
  | 67 => ⟨S4096x512, .bf16⟩
  | _ => ⟨S4096x1536, .f32⟩

abbrev hbmTy (i : Nat) : BufTy := match i / 128 with
  | 0 => hbmTy0_0 i
  | 1 => hbmTy0_1 i
  | _ => ⟨S4096x1536, .f32⟩

abbrev bufTy : (tb : Table) → Fin (tcTables nBuf tb) → BufTy
  | .hbm, ⟨i, _⟩ => hbmTy i
  | _, _ => ⟨S4096x1536, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_call0_call0_cst : Ref sig .tc := ⟨.hbm, 6, rfl⟩
abbrev main_call0_call0_v0 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_cst : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_cst_0 : Ref sig .tc := ⟨.hbm, 17, rfl⟩
abbrev main_v11 : Ref sig .tc := ⟨.hbm, 18, rfl⟩
abbrev main_v12 : Ref sig .tc := ⟨.hbm, 19, rfl⟩
abbrev main_cst_1 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_v23 : Ref sig .tc := ⟨.hbm, 31, rfl⟩
abbrev main_v24 : Ref sig .tc := ⟨.hbm, 32, rfl⟩
abbrev main_cst_2 : Ref sig .tc := ⟨.hbm, 33, rfl⟩
abbrev main_v25 : Ref sig .tc := ⟨.hbm, 34, rfl⟩
abbrev main_v26 : Ref sig .tc := ⟨.hbm, 35, rfl⟩
abbrev main_v27 : Ref sig .tc := ⟨.hbm, 36, rfl⟩
abbrev main_cst_3 : Ref sig .tc := ⟨.hbm, 37, rfl⟩
abbrev main_v28 : Ref sig .tc := ⟨.hbm, 38, rfl⟩
abbrev main_v29 : Ref sig .tc := ⟨.hbm, 39, rfl⟩
abbrev main_cst_4 : Ref sig .tc := ⟨.hbm, 40, rfl⟩
abbrev main_v30 : Ref sig .tc := ⟨.hbm, 41, rfl⟩
abbrev main_v31 : Ref sig .tc := ⟨.hbm, 42, rfl⟩
abbrev main_v32 : Ref sig .tc := ⟨.hbm, 43, rfl⟩
abbrev main_v33 : Ref sig .tc := ⟨.hbm, 44, rfl⟩
abbrev main_v34 : Ref sig .tc := ⟨.hbm, 45, rfl⟩
abbrev main_v35 : Ref sig .tc := ⟨.hbm, 46, rfl⟩
abbrev main_v36 : Ref sig .tc := ⟨.hbm, 47, rfl⟩
abbrev main_v37 : Ref sig .tc := ⟨.hbm, 48, rfl⟩
abbrev main_v38 : Ref sig .tc := ⟨.hbm, 49, rfl⟩
abbrev main_v39 : Ref sig .tc := ⟨.hbm, 50, rfl⟩
abbrev main_v40 : Ref sig .tc := ⟨.hbm, 51, rfl⟩
abbrev main_v41 : Ref sig .tc := ⟨.hbm, 52, rfl⟩
abbrev main_cst_5 : Ref sig .tc := ⟨.hbm, 53, rfl⟩
abbrev main_v42 : Ref sig .tc := ⟨.hbm, 54, rfl⟩
abbrev main_v43 : Ref sig .tc := ⟨.hbm, 55, rfl⟩
abbrev main_v44 : Ref sig .tc := ⟨.hbm, 56, rfl⟩
abbrev main_cst_6 : Ref sig .tc := ⟨.hbm, 57, rfl⟩
abbrev main_v45 : Ref sig .tc := ⟨.hbm, 58, rfl⟩
abbrev main_v46 : Ref sig .tc := ⟨.hbm, 59, rfl⟩
abbrev main_cst_7 : Ref sig .tc := ⟨.hbm, 60, rfl⟩
abbrev main_v47 : Ref sig .tc := ⟨.hbm, 61, rfl⟩
abbrev main_v48 : Ref sig .tc := ⟨.hbm, 62, rfl⟩
abbrev main_v49 : Ref sig .tc := ⟨.hbm, 63, rfl⟩
abbrev main_v50 : Ref sig .tc := ⟨.hbm, 64, rfl⟩
abbrev main_v51 : Ref sig .tc := ⟨.hbm, 65, rfl⟩
abbrev main_v52 : Ref sig .tc := ⟨.hbm, 66, rfl⟩
abbrev main_v53 : Ref sig .tc := ⟨.hbm, 67, rfl⟩
abbrev main_v54 : Ref sig .tc := ⟨.hbm, 68, rfl⟩
abbrev main_v55 : Ref sig .tc := ⟨.hbm, 69, rfl⟩
abbrev main_v56 : Ref sig .tc := ⟨.hbm, 70, rfl⟩
abbrev main_v57 : Ref sig .tc := ⟨.hbm, 71, rfl⟩
abbrev main_v58 : Ref sig .tc := ⟨.hbm, 72, rfl⟩
abbrev main_cst_8 : Ref sig .tc := ⟨.hbm, 73, rfl⟩
abbrev main_v59 : Ref sig .tc := ⟨.hbm, 74, rfl⟩
abbrev main_v60 : Ref sig .tc := ⟨.hbm, 75, rfl⟩
abbrev main_v61 : Ref sig .tc := ⟨.hbm, 76, rfl⟩
abbrev main_cst_9 : Ref sig .tc := ⟨.hbm, 77, rfl⟩
abbrev main_v62 : Ref sig .tc := ⟨.hbm, 78, rfl⟩
abbrev main_v63 : Ref sig .tc := ⟨.hbm, 79, rfl⟩
abbrev main_cst_10 : Ref sig .tc := ⟨.hbm, 80, rfl⟩
abbrev main_v64 : Ref sig .tc := ⟨.hbm, 81, rfl⟩
abbrev main_v65 : Ref sig .tc := ⟨.hbm, 82, rfl⟩
abbrev main_v66 : Ref sig .tc := ⟨.hbm, 83, rfl⟩
abbrev main_v67 : Ref sig .tc := ⟨.hbm, 84, rfl⟩
abbrev main_v68 : Ref sig .tc := ⟨.hbm, 85, rfl⟩
abbrev main_v69 : Ref sig .tc := ⟨.hbm, 86, rfl⟩
abbrev main_v70 : Ref sig .tc := ⟨.hbm, 87, rfl⟩
abbrev main_v71 : Ref sig .tc := ⟨.hbm, 88, rfl⟩
abbrev main_v72 : Ref sig .tc := ⟨.hbm, 89, rfl⟩
abbrev main_v73 : Ref sig .tc := ⟨.hbm, 90, rfl⟩
abbrev main_v74 : Ref sig .tc := ⟨.hbm, 91, rfl⟩
abbrev main_v75 : Ref sig .tc := ⟨.hbm, 92, rfl⟩
abbrev main_v76 : Ref sig .tc := ⟨.hbm, 93, rfl⟩
abbrev main_v77 : Ref sig .tc := ⟨.hbm, 94, rfl⟩
abbrev main_v78 : Ref sig .tc := ⟨.hbm, 95, rfl⟩
abbrev main_v79 : Ref sig .tc := ⟨.hbm, 96, rfl⟩
abbrev main_v80 : Ref sig .tc := ⟨.hbm, 97, rfl⟩
abbrev main_v81 : Ref sig .tc := ⟨.hbm, 98, rfl⟩
abbrev main_v82 : Ref sig .tc := ⟨.hbm, 99, rfl⟩
abbrev main_v83 : Ref sig .tc := ⟨.hbm, 100, rfl⟩
abbrev main_v84 : Ref sig .tc := ⟨.hbm, 101, rfl⟩
abbrev main_v85 : Ref sig .tc := ⟨.hbm, 102, rfl⟩
abbrev main_v86 : Ref sig .tc := ⟨.hbm, 103, rfl⟩
abbrev main_call1_call0_cst : Ref sig .tc := ⟨.hbm, 104, rfl⟩
abbrev main_call1_call0_v0 : Ref sig .tc := ⟨.hbm, 105, rfl⟩
abbrev main_v87 : Ref sig .tc := ⟨.hbm, 106, rfl⟩
abbrev main_v88 : Ref sig .tc := ⟨.hbm, 107, rfl⟩
abbrev main_v89 : Ref sig .tc := ⟨.hbm, 108, rfl⟩
abbrev main_v90 : Ref sig .tc := ⟨.hbm, 109, rfl⟩
abbrev main_v91 : Ref sig .tc := ⟨.hbm, 110, rfl⟩
abbrev main_cst_11 : Ref sig .tc := ⟨.hbm, 111, rfl⟩
abbrev main_v92 : Ref sig .tc := ⟨.hbm, 112, rfl⟩
abbrev main_v93 : Ref sig .tc := ⟨.hbm, 113, rfl⟩
abbrev main_v94 : Ref sig .tc := ⟨.hbm, 114, rfl⟩
abbrev main_cst_12 : Ref sig .tc := ⟨.hbm, 115, rfl⟩
abbrev main_v95 : Ref sig .tc := ⟨.hbm, 116, rfl⟩
abbrev main_v96 : Ref sig .tc := ⟨.hbm, 117, rfl⟩
abbrev main_cst_13 : Ref sig .tc := ⟨.hbm, 118, rfl⟩
abbrev main_v97 : Ref sig .tc := ⟨.hbm, 119, rfl⟩
abbrev main_v98 : Ref sig .tc := ⟨.hbm, 120, rfl⟩
abbrev main_v99 : Ref sig .tc := ⟨.hbm, 121, rfl⟩
abbrev main_v100 : Ref sig .tc := ⟨.hbm, 122, rfl⟩
abbrev main_v101 : Ref sig .tc := ⟨.hbm, 123, rfl⟩
abbrev main_v102 : Ref sig .tc := ⟨.hbm, 124, rfl⟩
abbrev main_v103 : Ref sig .tc := ⟨.hbm, 125, rfl⟩
abbrev main_v104 : Ref sig .tc := ⟨.hbm, 126, rfl⟩
abbrev main_v105 : Ref sig .tc := ⟨.hbm, 127, rfl⟩
abbrev main_v106 : Ref sig .tc := ⟨.hbm, 128, rfl⟩
abbrev main_v107 : Ref sig .tc := ⟨.hbm, 129, rfl⟩
abbrev main_v108 : Ref sig .tc := ⟨.hbm, 130, rfl⟩
abbrev main_cst_14 : Ref sig .tc := ⟨.hbm, 131, rfl⟩
abbrev main_v109 : Ref sig .tc := ⟨.hbm, 132, rfl⟩
abbrev main_v110 : Ref sig .tc := ⟨.hbm, 133, rfl⟩
abbrev main_v111 : Ref sig .tc := ⟨.hbm, 134, rfl⟩
abbrev main_cst_15 : Ref sig .tc := ⟨.hbm, 135, rfl⟩
abbrev main_v112 : Ref sig .tc := ⟨.hbm, 136, rfl⟩
abbrev main_v113 : Ref sig .tc := ⟨.hbm, 137, rfl⟩
abbrev main_cst_16 : Ref sig .tc := ⟨.hbm, 138, rfl⟩
abbrev main_v114 : Ref sig .tc := ⟨.hbm, 139, rfl⟩
abbrev main_v115 : Ref sig .tc := ⟨.hbm, 140, rfl⟩
abbrev main_v116 : Ref sig .tc := ⟨.hbm, 141, rfl⟩
abbrev main_v117 : Ref sig .tc := ⟨.hbm, 142, rfl⟩
abbrev main_v118 : Ref sig .tc := ⟨.hbm, 143, rfl⟩
abbrev main_v119 : Ref sig .tc := ⟨.hbm, 144, rfl⟩
abbrev main_v120 : Ref sig .tc := ⟨.hbm, 145, rfl⟩
abbrev main_v121 : Ref sig .tc := ⟨.hbm, 146, rfl⟩
abbrev main_v122 : Ref sig .tc := ⟨.hbm, 147, rfl⟩
abbrev main_v123 : Ref sig .tc := ⟨.hbm, 148, rfl⟩
abbrev main_v124 : Ref sig .tc := ⟨.hbm, 149, rfl⟩
abbrev main_v125 : Ref sig .tc := ⟨.hbm, 150, rfl⟩
abbrev main_cst_17 : Ref sig .tc := ⟨.hbm, 151, rfl⟩
abbrev main_v126 : Ref sig .tc := ⟨.hbm, 152, rfl⟩
abbrev main_v127 : Ref sig .tc := ⟨.hbm, 153, rfl⟩
abbrev main_v128 : Ref sig .tc := ⟨.hbm, 154, rfl⟩
abbrev main_cst_18 : Ref sig .tc := ⟨.hbm, 155, rfl⟩
abbrev main_v129 : Ref sig .tc := ⟨.hbm, 156, rfl⟩
abbrev main_v130 : Ref sig .tc := ⟨.hbm, 157, rfl⟩
abbrev main_cst_19 : Ref sig .tc := ⟨.hbm, 158, rfl⟩
abbrev main_v131 : Ref sig .tc := ⟨.hbm, 159, rfl⟩
abbrev main_v132 : Ref sig .tc := ⟨.hbm, 160, rfl⟩
abbrev main_v133 : Ref sig .tc := ⟨.hbm, 161, rfl⟩
abbrev main_v134 : Ref sig .tc := ⟨.hbm, 162, rfl⟩
abbrev main_v135 : Ref sig .tc := ⟨.hbm, 163, rfl⟩
abbrev main_v136 : Ref sig .tc := ⟨.hbm, 164, rfl⟩
abbrev main_v137 : Ref sig .tc := ⟨.hbm, 165, rfl⟩
abbrev main_v138 : Ref sig .tc := ⟨.hbm, 166, rfl⟩
abbrev main_v139 : Ref sig .tc := ⟨.hbm, 167, rfl⟩
abbrev main_v140 : Ref sig .tc := ⟨.hbm, 168, rfl⟩
abbrev main_v141 : Ref sig .tc := ⟨.hbm, 169, rfl⟩
abbrev main_v142 : Ref sig .tc := ⟨.hbm, 170, rfl⟩
abbrev main_cst_20 : Ref sig .tc := ⟨.hbm, 171, rfl⟩
abbrev main_v143 : Ref sig .tc := ⟨.hbm, 172, rfl⟩
abbrev main_v144 : Ref sig .tc := ⟨.hbm, 173, rfl⟩
abbrev main_v145 : Ref sig .tc := ⟨.hbm, 174, rfl⟩
abbrev main_cst_21 : Ref sig .tc := ⟨.hbm, 175, rfl⟩
abbrev main_v146 : Ref sig .tc := ⟨.hbm, 176, rfl⟩
abbrev main_v147 : Ref sig .tc := ⟨.hbm, 177, rfl⟩
abbrev main_cst_22 : Ref sig .tc := ⟨.hbm, 178, rfl⟩
abbrev main_v148 : Ref sig .tc := ⟨.hbm, 179, rfl⟩
abbrev main_v149 : Ref sig .tc := ⟨.hbm, 180, rfl⟩
abbrev main_v150 : Ref sig .tc := ⟨.hbm, 181, rfl⟩
abbrev main_v151 : Ref sig .tc := ⟨.hbm, 182, rfl⟩
abbrev main_v152 : Ref sig .tc := ⟨.hbm, 183, rfl⟩
abbrev main_v153 : Ref sig .tc := ⟨.hbm, 184, rfl⟩
abbrev main_v154 : Ref sig .tc := ⟨.hbm, 185, rfl⟩
abbrev main_v155 : Ref sig .tc := ⟨.hbm, 186, rfl⟩
abbrev main_v156 : Ref sig .tc := ⟨.hbm, 187, rfl⟩
abbrev main_v157 : Ref sig .tc := ⟨.hbm, 188, rfl⟩
abbrev main_v158 : Ref sig .tc := ⟨.hbm, 189, rfl⟩
abbrev main_v159 : Ref sig .tc := ⟨.hbm, 190, rfl⟩
abbrev main_v160 : Ref sig .tc := ⟨.hbm, 191, rfl⟩
abbrev main_v161 : Ref sig .tc := ⟨.hbm, 192, rfl⟩
abbrev main_v162 : Ref sig .tc := ⟨.hbm, 193, rfl⟩
abbrev main_v163 : Ref sig .tc := ⟨.hbm, 194, rfl⟩
abbrev main_v164 : Ref sig .tc := ⟨.hbm, 195, rfl⟩

abbrev nD : Nat := 1
abbrev τ : Topo := Topo.v7x

variable {F : FTy → Type} [FloatOps F]
-- ==== Kernel21.lean ====
abbrev S4096x512 : Shape := ⟨2, ![4096, 512]⟩
abbrev S512x512 : Shape := ⟨2, ![512, 512]⟩
abbrev S1024x512 : Shape := ⟨2, ![1024, 512]⟩

abbrev nBuf : Space → Nat
  | .hbm => 3
  | .vmem => 5
  | .smem => 0
  | _ => 0

abbrev bufTy : (tb : Table) → Fin (tcTables nBuf tb) → BufTy
  | .hbm, ⟨0, _⟩ => ⟨S4096x512, .f32⟩
  | .hbm, ⟨1, _⟩ => ⟨S512x512, .bf16⟩
  | .hbm, ⟨2, _⟩ => ⟨S4096x512, .bf16⟩
  | .local _ .vmem, ⟨0, _⟩ => ⟨S1024x512, .f32⟩
  | .local _ .vmem, ⟨1, _⟩ => ⟨S1024x512, .f32⟩
  | .local _ .vmem, ⟨2, _⟩ => ⟨S512x512, .bf16⟩
  | .local _ .vmem, ⟨3, _⟩ => ⟨S1024x512, .bf16⟩
  | .local _ .vmem, ⟨4, _⟩ => ⟨S1024x512, .bf16⟩
  | _, _ => ⟨S4096x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨1, ![4], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1024x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S512x512 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S1024x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]
-- ==== Kernel21Ideal.lean ====
variable {F : FTy → Type} [FloatOps F] [Named F]
def κ : String → Option EReal := fun
  | "gelu_cubic" => some ((8943 / 200000 : ℝ) : EReal)
  | _ => none
-- ==== Reference21Ideal.lean ====
abbrev S4096x512 : Shape := ⟨2, ![4096, 512]⟩
abbrev S512x512 : Shape := ⟨2, ![512, 512]⟩
abbrev S_ : Shape := ⟨0, ![]⟩

abbrev nBuf : Space → Nat
  | .hbm => 33
  | .vmem => 0
  | .smem => 0
  | _ => 0

abbrev bufTy : (tb : Table) → Fin (tcTables nBuf tb) → BufTy
  | .hbm, ⟨0, _⟩ => ⟨S4096x512, .f32⟩
  | .hbm, ⟨1, _⟩ => ⟨S512x512, .bf16⟩
  | .hbm, ⟨2, _⟩ => ⟨S_, .f32⟩
  | .hbm, ⟨3, _⟩ => ⟨S_, .f32⟩
  | .hbm, ⟨4, _⟩ => ⟨S_, .f32⟩
  | .hbm, ⟨5, _⟩ => ⟨S4096x512, .f32⟩
  | .hbm, ⟨6, _⟩ => ⟨S4096x512, .f32⟩
  | .hbm, ⟨7, _⟩ => ⟨S4096x512, .f32⟩
  | .hbm, ⟨8, _⟩ => ⟨S4096x512, .f32⟩
  | .hbm, ⟨9, _⟩ => ⟨S4096x512, .f32⟩
  | .hbm, ⟨10, _⟩ => ⟨S_, .f32⟩
  | .hbm, ⟨11, _⟩ => ⟨S4096x512, .f32⟩
  | .hbm, ⟨12, _⟩ => ⟨S4096x512, .f32⟩
  | .hbm, ⟨13, _⟩ => ⟨S4096x512, .f32⟩
  | .hbm, ⟨14, _⟩ => ⟨S_, .f32⟩
  | .hbm, ⟨15, _⟩ => ⟨S4096x512, .f32⟩
  | .hbm, ⟨16, _⟩ => ⟨S4096x512, .f32⟩
  | .hbm, ⟨17, _⟩ => ⟨S_, .f32⟩
  | .hbm, ⟨18, _⟩ => ⟨S4096x512, .f32⟩
  | .hbm, ⟨19, _⟩ => ⟨S4096x512, .f32⟩
  | .hbm, ⟨20, _⟩ => ⟨S4096x512, .f32⟩
  | .hbm, ⟨21, _⟩ => ⟨S512x512, .f32⟩
  | .hbm, ⟨22, _⟩ => ⟨S4096x512, .f32⟩
  | .hbm, ⟨23, _⟩ => ⟨S4096x512, .f32⟩
  | .hbm, ⟨24, _⟩ => ⟨S4096x512, .f32⟩
  | .hbm, ⟨25, _⟩ => ⟨S_, .f32⟩
  | .hbm, ⟨26, _⟩ => ⟨S4096x512, .f32⟩
  | .hbm, ⟨27, _⟩ => ⟨S4096x512, .f32⟩
  | .hbm, ⟨28, _⟩ => ⟨S_, .f32⟩
  | .hbm, ⟨29, _⟩ => ⟨S4096x512, .f32⟩
  | .hbm, ⟨30, _⟩ => ⟨S4096x512, .f32⟩
  | .hbm, ⟨31, _⟩ => ⟨S4096x512, .f32⟩
  | .hbm, ⟨32, _⟩ => ⟨S4096x512, .bf16⟩
  | _, _ => ⟨S4096x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_cst_0 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_cst_1 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_cst_2 : Ref sig .tc := ⟨.hbm, 14, rfl⟩
abbrev main_v9 : Ref sig .tc := ⟨.hbm, 15, rfl⟩
abbrev main_v10 : Ref sig .tc := ⟨.hbm, 16, rfl⟩
abbrev main_cst_3 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_cst_4 : Ref sig .tc := ⟨.hbm, 25, rfl⟩
abbrev main_v18 : Ref sig .tc := ⟨.hbm, 26, rfl⟩
abbrev main_v19 : Ref sig .tc := ⟨.hbm, 27, rfl⟩
abbrev main_cst_5 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩

abbrev nD : Nat := 1
abbrev τ : Topo := Topo.v7x

variable {F : FTy → Type} [FloatOps F]
-- ==== Kernel22.lean ====
abbrev S4096x1024 : Shape := ⟨2, ![4096, 1024]⟩
abbrev S1x1024 : Shape := ⟨2, ![1, 1024]⟩
abbrev S4096x1 : Shape := ⟨2, ![4096, 1]⟩
abbrev S512x1024 : Shape := ⟨2, ![512, 1024]⟩
abbrev S512x1 : Shape := ⟨2, ![512, 1]⟩
abbrev S512 : Shape := ⟨1, ![512]⟩

abbrev nBuf : Space → Nat
  | .hbm => 4
  | .vmem => 7
  | .smem => 0
  | _ => 0

abbrev bufTy : (tb : Table) → Fin (tcTables nBuf tb) → BufTy
  | .hbm, ⟨0, _⟩ => ⟨S4096x1024, .f32⟩
  | .hbm, ⟨1, _⟩ => ⟨S1x1024, .f32⟩
  | .hbm, ⟨2, _⟩ => ⟨S4096x1024, .bf16⟩
  | .hbm, ⟨3, _⟩ => ⟨S4096x1, .f32⟩
  | .local _ .vmem, ⟨0, _⟩ => ⟨S512x1024, .f32⟩
  | .local _ .vmem, ⟨1, _⟩ => ⟨S512x1024, .f32⟩
  | .local _ .vmem, ⟨2, _⟩ => ⟨S1x1024, .f32⟩
  | .local _ .vmem, ⟨3, _⟩ => ⟨S512x1024, .bf16⟩
  | .local _ .vmem, ⟨4, _⟩ => ⟨S512x1024, .bf16⟩
  | .local _ .vmem, ⟨5, _⟩ => ⟨S512x1, .f32⟩
  | .local _ .vmem, ⟨6, _⟩ => ⟨S512x1, .f32⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0_0 : Ref sig .tc := ⟨.hbm, 2, rfl⟩
abbrev main_v0_1 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x1 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]
-- ==== Reference22Ideal.lean ====
abbrev S4096x1024 : Shape := ⟨2, ![4096, 1024]⟩
abbrev S1x1024 : Shape := ⟨2, ![1, 1024]⟩
abbrev S_ : Shape := ⟨0, ![]⟩
abbrev S4096 : Shape := ⟨1, ![4096]⟩
abbrev S4096x1 : Shape := ⟨2, ![4096, 1]⟩

abbrev nBuf : Space → Nat
  | .hbm => 29
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S1x1024, .f32⟩
  | .hbm, ⟨2, _⟩ => ⟨S4096x1024, .f32⟩
  | .hbm, ⟨3, _⟩ => ⟨S_, .f32⟩
  | .hbm, ⟨4, _⟩ => ⟨S4096, .f32⟩
  | .hbm, ⟨5, _⟩ => ⟨S4096x1, .f32⟩
  | .hbm, ⟨6, _⟩ => ⟨S_, .f32⟩
  | .hbm, ⟨7, _⟩ => ⟨S4096x1, .f32⟩
  | .hbm, ⟨8, _⟩ => ⟨S4096x1, .f32⟩
  | .hbm, ⟨9, _⟩ => ⟨S_, .f32⟩
  | .hbm, ⟨10, _⟩ => ⟨S4096x1, .f32⟩
  | .hbm, ⟨11, _⟩ => ⟨S4096x1, .f32⟩
  | .hbm, ⟨12, _⟩ => ⟨S4096x1, .f32⟩
  | .hbm, ⟨13, _⟩ => ⟨S4096x1024, .f32⟩
  | .hbm, ⟨14, _⟩ => ⟨S4096x1024, .f32⟩
  | .hbm, ⟨15, _⟩ => ⟨S4096x1024, .f32⟩
  | .hbm, ⟨16, _⟩ => ⟨S4096x1024, .f32⟩
  | .hbm, ⟨17, _⟩ => ⟨S4096x1024, .bf16⟩
  | .hbm, ⟨18, _⟩ => ⟨S4096x1024, .f32⟩
  | .hbm, ⟨19, _⟩ => ⟨S_, .f32⟩
  | .hbm, ⟨20, _⟩ => ⟨S4096, .f32⟩
  | .hbm, ⟨21, _⟩ => ⟨S4096x1, .f32⟩
  | .hbm, ⟨22, _⟩ => ⟨S_, .f32⟩
  | .hbm, ⟨23, _⟩ => ⟨S4096x1, .f32⟩
  | .hbm, ⟨24, _⟩ => ⟨S4096x1, .f32⟩
  | .hbm, ⟨25, _⟩ => ⟨S_, .f32⟩
  | .hbm, ⟨26, _⟩ => ⟨S4096x1, .f32⟩
  | .hbm, ⟨27, _⟩ => ⟨S4096x1, .f32⟩
  | .hbm, ⟨28, _⟩ => ⟨S4096x1, .f32⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_cst_0 : Ref sig .tc := ⟨.hbm, 6, rfl⟩
abbrev main_v3 : Ref sig .tc := ⟨.hbm, 7, rfl⟩
abbrev main_v4 : Ref sig .tc := ⟨.hbm, 8, rfl⟩
abbrev main_cst_1 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_cst_2 : Ref sig .tc := ⟨.hbm, 19, rfl⟩
abbrev main_v14 : Ref sig .tc := ⟨.hbm, 20, rfl⟩
abbrev main_v15 : Ref sig .tc := ⟨.hbm, 21, rfl⟩
abbrev main_cst_3 : Ref sig .tc := ⟨.hbm, 22, rfl⟩
abbrev main_v16 : Ref sig .tc := ⟨.hbm, 23, rfl⟩
abbrev main_v17 : Ref sig .tc := ⟨.hbm, 24, rfl⟩
abbrev main_cst_4 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩

abbrev nD : Nat := 1
abbrev τ : Topo := Topo.v7x

variable {F : FTy → Type} [FloatOps F]
-- ==== Kernel23.lean ====
abbrev S4096x512 : Shape := ⟨2, ![4096, 512]⟩
abbrev S1024x1024 : Shape := ⟨2, ![1024, 1024]⟩
abbrev S4096x1024 : Shape := ⟨2, ![4096, 1024]⟩
abbrev S1x1024 : Shape := ⟨2, ![1, 1024]⟩
abbrev S4096x1 : Shape := ⟨2, ![4096, 1]⟩
abbrev S512x512 : Shape := ⟨2, ![512, 512]⟩
abbrev S512x1024 : Shape := ⟨2, ![512, 1024]⟩
abbrev S512x1 : Shape := ⟨2, ![512, 1]⟩
abbrev S512 : Shape := ⟨1, ![512]⟩

abbrev nBuf : Space → Nat
  | .hbm => 11
  | .vmem => 19
  | .smem => 0
  | _ => 0

abbrev bufTy : (tb : Table) → Fin (tcTables nBuf tb) → BufTy
  | .hbm, ⟨0, _⟩ => ⟨S4096x512, .bf16⟩
  | .hbm, ⟨1, _⟩ => ⟨S4096x512, .f32⟩
  | .hbm, ⟨2, _⟩ => ⟨S1024x1024, .bf16⟩
  | .hbm, ⟨3, _⟩ => ⟨S4096x1024, .f32⟩
  | .hbm, ⟨4, _⟩ => ⟨S1x1024, .f32⟩
  | .hbm, ⟨5, _⟩ => ⟨S1x1024, .f32⟩
  | .hbm, ⟨6, _⟩ => ⟨S4096x1024, .f32⟩
  | .hbm, ⟨7, _⟩ => ⟨S4096x1, .f32⟩
  | .hbm, ⟨8, _⟩ => ⟨S4096x1024, .bf16⟩
  | .hbm, ⟨9, _⟩ => ⟨S4096x1, .f32⟩
  | .hbm, ⟨10, _⟩ => ⟨S4096x1024, .f32⟩
  | .local _ .vmem, ⟨0, _⟩ => ⟨S512x512, .bf16⟩
  | .local _ .vmem, ⟨1, _⟩ => ⟨S512x512, .bf16⟩
  | .local _ .vmem, ⟨2, _⟩ => ⟨S512x512, .f32⟩
  | .local _ .vmem, ⟨3, _⟩ => ⟨S512x512, .f32⟩
  | .local _ .vmem, ⟨4, _⟩ => ⟨S1024x1024, .bf16⟩
  | .local _ .vmem, ⟨5, _⟩ => ⟨S512x1024, .f32⟩
  | .local _ .vmem, ⟨6, _⟩ => ⟨S512x1024, .f32⟩
  | .local _ .vmem, ⟨7, _⟩ => ⟨S1x1024, .f32⟩
  | .local _ .vmem, ⟨8, _⟩ => ⟨S1x1024, .f32⟩
  | .local _ .vmem, ⟨9, _⟩ => ⟨S512x1024, .f32⟩
  | .local _ .vmem, ⟨10, _⟩ => ⟨S512x1024, .f32⟩
  | .local _ .vmem, ⟨11, _⟩ => ⟨S512x1, .f32⟩
  | .local _ .vmem, ⟨12, _⟩ => ⟨S512x1, .f32⟩
  | .local _ .vmem, ⟨13, _⟩ => ⟨S512x1024, .bf16⟩
  | .local _ .vmem, ⟨14, _⟩ => ⟨S512x1024, .bf16⟩
  | .local _ .vmem, ⟨15, _⟩ => ⟨S512x1, .f32⟩
  | .local _ .vmem, ⟨16, _⟩ => ⟨S512x1, .f32⟩
  | .local _ .vmem, ⟨17, _⟩ => ⟨S512x1024, .f32⟩
  | .local _ .vmem, ⟨18, _⟩ => ⟨S512x1024, .f32⟩
  | _, _ => ⟨S4096x512, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | _, _ => false

abbrev semScoped : Fin 0 → Bool
  | ⟨_, h⟩ => absurd h (Nat.not_lt_zero _)

abbrev dmaSemScoped : Fin 19 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | _ => false

abbrev sig : RefSig :=
  ofTc nBuf bufTy 0 19 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0_0 : Ref sig .tc := ⟨.hbm, 6, rfl⟩
abbrev main_v0_1 : Ref sig .tc := ⟨.hbm, 7, rfl⟩
abbrev main_v0_2 : Ref sig .tc := ⟨.hbm, 8, rfl⟩
abbrev main_v0_3 : Ref sig .tc := ⟨.hbm, 9, rfl⟩
abbrev main_v0_4 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg6_1 : Ref sig .tc := ⟨.vmem, 10, rfl⟩
abbrev cc0_stg7_0 : Ref sig .tc := ⟨.vmem, 11, rfl⟩
abbrev cc0_stg7_1 : Ref sig .tc := ⟨.vmem, 12, rfl⟩
abbrev cc0_stg8_0 : Ref sig .tc := ⟨.vmem, 13, rfl⟩
abbrev cc0_stg8_1 : Ref sig .tc := ⟨.vmem, 14, rfl⟩
abbrev cc0_stg9_0 : Ref sig .tc := ⟨.vmem, 15, rfl⟩
abbrev cc0_stg9_1 : Ref sig .tc := ⟨.vmem, 16, rfl⟩
abbrev cc0_stg10_0 : Ref sig .tc := ⟨.vmem, 17, rfl⟩
abbrev cc0_stg10_1 : Ref sig .tc := ⟨.vmem, 18, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6
abbrev cc0_sem4_0 : DmaSem sig := 7
abbrev cc0_sem5_0 : DmaSem sig := 8
abbrev cc0_sem6_0 : DmaSem sig := 9
abbrev cc0_sem6_1 : DmaSem sig := 10
abbrev cc0_sem7_0 : DmaSem sig := 11
abbrev cc0_sem7_1 : DmaSem sig := 12
abbrev cc0_sem8_0 : DmaSem sig := 13
abbrev cc0_sem8_1 : DmaSem sig := 14
abbrev cc0_sem9_0 : DmaSem sig := 15
abbrev cc0_sem9_1 : DmaSem sig := 16
abbrev cc0_sem10_0 : DmaSem sig := 17
abbrev cc0_sem10_1 : DmaSem sig := 18

abbrev nD : Nat := 1
abbrev τ : Topo := Topo.v7x

variable {F : FTy → Type} [FloatOps F]

abbrev grid0 : Pipeline.Grid := ⟨3, ![8, 1, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_4 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg1.toNat]

def cc0_transform_5 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg1.toNat]

def cc0_transform_6 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_7 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_9 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S512x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, false]

abbrev stage0_1 : Fin 2 → Memref sig .tc .vmem S512x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false, false]

abbrev stage0_2 : Fin 1 → Memref sig .tc .vmem S1024x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, true, true]

abbrev stage0_3 : Fin 2 → Memref sig .tc .vmem S512x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, true, false]

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, true, false]

abbrev stage0_6 : Fin 2 → Memref sig .tc .vmem S512x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true, false]

abbrev stage0_7 : Fin 2 → Memref sig .tc .vmem S512x1 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, false, false]

abbrev stage0_8 : Fin 2 → Memref sig .tc .vmem S512x1024 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true, false]

abbrev stage0_9 : Fin 2 → Memref sig .tc .vmem S512x1 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, false, false]

abbrev stage0_10 : Fin 2 → Memref sig .tc .vmem S512x1024 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, true, false]
-- ==== Reference23Ideal.lean ====
abbrev S4096x512 : Shape := ⟨2, ![4096, 512]⟩
abbrev S1024x1024 : Shape := ⟨2, ![1024, 1024]⟩
abbrev S4096x1024 : Shape := ⟨2, ![4096, 1024]⟩
abbrev S1x1024 : Shape := ⟨2, ![1, 1024]⟩
abbrev S_ : Shape := ⟨0, ![]⟩
abbrev S4096 : Shape := ⟨1, ![4096]⟩
abbrev S4096x1 : Shape := ⟨2, ![4096, 1]⟩

abbrev nBuf : Space → Nat
  | .hbm => 64
  | .vmem => 0
  | .smem => 0
  | _ => 0

abbrev bufTy : (tb : Table) → Fin (tcTables nBuf tb) → BufTy
  | .hbm, ⟨0, _⟩ => ⟨S4096x512, .bf16⟩
  | .hbm, ⟨1, _⟩ => ⟨S4096x512, .f32⟩
  | .hbm, ⟨2, _⟩ => ⟨S1024x1024, .bf16⟩
  | .hbm, ⟨3, _⟩ => ⟨S4096x1024, .f32⟩
  | .hbm, ⟨4, _⟩ => ⟨S1x1024, .f32⟩
  | .hbm, ⟨5, _⟩ => ⟨S1x1024, .f32⟩
  | .hbm, ⟨6, _⟩ => ⟨S4096x512, .f32⟩
  | .hbm, ⟨7, _⟩ => ⟨S4096x1024, .f32⟩
  | .hbm, ⟨8, _⟩ => ⟨S1024x1024, .f32⟩
  | .hbm, ⟨9, _⟩ => ⟨S4096x1024, .f32⟩
  | .hbm, ⟨10, _⟩ => ⟨S4096x1024, .f32⟩
  | .hbm, ⟨11, _⟩ => ⟨S_, .f32⟩
  | .hbm, ⟨12, _⟩ => ⟨S4096, .f32⟩
  | .hbm, ⟨13, _⟩ => ⟨S4096x1, .f32⟩
  | .hbm, ⟨14, _⟩ => ⟨S_, .f32⟩
  | .hbm, ⟨15, _⟩ => ⟨S4096x1, .f32⟩
  | .hbm, ⟨16, _⟩ => ⟨S4096x1, .f32⟩
  | .hbm, ⟨17, _⟩ => ⟨S_, .f32⟩
  | .hbm, ⟨18, _⟩ => ⟨S4096x1, .f32⟩
  | .hbm, ⟨19, _⟩ => ⟨S4096x1, .f32⟩
  | .hbm, ⟨20, _⟩ => ⟨S4096x1, .f32⟩
  | .hbm, ⟨21, _⟩ => ⟨S4096x1024, .f32⟩
  | .hbm, ⟨22, _⟩ => ⟨S4096x1024, .f32⟩
  | .hbm, ⟨23, _⟩ => ⟨S4096x1024, .f32⟩
  | .hbm, ⟨24, _⟩ => ⟨S4096x1024, .f32⟩
  | .hbm, ⟨25, _⟩ => ⟨S4096x1024, .f32⟩
  | .hbm, ⟨26, _⟩ => ⟨S4096x1024, .f32⟩
  | .hbm, ⟨27, _⟩ => ⟨S_, .f32⟩
  | .hbm, ⟨28, _⟩ => ⟨S4096, .f32⟩
  | .hbm, ⟨29, _⟩ => ⟨S4096x1, .f32⟩
  | .hbm, ⟨30, _⟩ => ⟨S_, .f32⟩
  | .hbm, ⟨31, _⟩ => ⟨S4096x1, .f32⟩
  | .hbm, ⟨32, _⟩ => ⟨S4096x1, .f32⟩
  | .hbm, ⟨33, _⟩ => ⟨S_, .f32⟩
  | .hbm, ⟨34, _⟩ => ⟨S4096x1, .f32⟩
  | .hbm, ⟨35, _⟩ => ⟨S4096x1, .f32⟩
  | .hbm, ⟨36, _⟩ => ⟨S4096x1, .f32⟩
  | .hbm, ⟨37, _⟩ => ⟨S4096x1024, .f32⟩
  | .hbm, ⟨38, _⟩ => ⟨S_, .f32⟩
  | .hbm, ⟨39, _⟩ => ⟨S4096, .f32⟩
  | .hbm, ⟨40, _⟩ => ⟨S4096x1, .f32⟩
  | .hbm, ⟨41, _⟩ => ⟨S_, .f32⟩
  | .hbm, ⟨42, _⟩ => ⟨S4096x1, .f32⟩
  | .hbm, ⟨43, _⟩ => ⟨S4096x1, .f32⟩
  | .hbm, ⟨44, _⟩ => ⟨S_, .f32⟩
  | .hbm, ⟨45, _⟩ => ⟨S4096x1, .f32⟩
  | .hbm, ⟨46, _⟩ => ⟨S4096x1, .f32⟩
  | .hbm, ⟨47, _⟩ => ⟨S4096x1, .f32⟩
  | .hbm, ⟨48, _⟩ => ⟨S4096x1024, .f32⟩
  | .hbm, ⟨49, _⟩ => ⟨S4096x1024, .f32⟩
  | .hbm, ⟨50, _⟩ => ⟨S4096x1024, .f32⟩
  | .hbm, ⟨51, _⟩ => ⟨S4096x1024, .f32⟩
  | .hbm, ⟨52, _⟩ => ⟨S4096x1024, .bf16⟩
  | .hbm, ⟨53, _⟩ => ⟨S4096x1024, .f32⟩
  | .hbm, ⟨54, _⟩ => ⟨S_, .f32⟩
  | .hbm, ⟨55, _⟩ => ⟨S4096, .f32⟩
  | .hbm, ⟨56, _⟩ => ⟨S4096x1, .f32⟩
  | .hbm, ⟨57, _⟩ => ⟨S_, .f32⟩
  | .hbm, ⟨58, _⟩ => ⟨S4096x1, .f32⟩
  | .hbm, ⟨59, _⟩ => ⟨S4096x1, .f32⟩
  | .hbm, ⟨60, _⟩ => ⟨S_, .f32⟩
  | .hbm, ⟨61, _⟩ => ⟨S4096x1, .f32⟩
  | .hbm, ⟨62, _⟩ => ⟨S4096x1, .f32⟩
  | .hbm, ⟨63, _⟩ => ⟨S4096x1, .f32⟩
  | _, _ => ⟨S4096x512, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst : Ref sig .tc := ⟨.hbm, 11, rfl⟩
abbrev main_v5 : Ref sig .tc := ⟨.hbm, 12, rfl⟩
abbrev main_v6 : Ref sig .tc := ⟨.hbm, 13, rfl⟩
abbrev main_cst_0 : Ref sig .tc := ⟨.hbm, 14, rfl⟩
abbrev main_v7 : Ref sig .tc := ⟨.hbm, 15, rfl⟩
abbrev main_v8 : Ref sig .tc := ⟨.hbm, 16, rfl⟩
abbrev main_cst_1 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_cst_2 : Ref sig .tc := ⟨.hbm, 27, rfl⟩
abbrev main_v18 : Ref sig .tc := ⟨.hbm, 28, rfl⟩
abbrev main_v19 : Ref sig .tc := ⟨.hbm, 29, rfl⟩
abbrev main_cst_3 : Ref sig .tc := ⟨.hbm, 30, rfl⟩
abbrev main_v20 : Ref sig .tc := ⟨.hbm, 31, rfl⟩
abbrev main_v21 : Ref sig .tc := ⟨.hbm, 32, rfl⟩
abbrev main_cst_4 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_cst_5 : Ref sig .tc := ⟨.hbm, 38, rfl⟩
abbrev main_v26 : Ref sig .tc := ⟨.hbm, 39, rfl⟩
abbrev main_v27 : Ref sig .tc := ⟨.hbm, 40, rfl⟩
abbrev main_cst_6 : Ref sig .tc := ⟨.hbm, 41, rfl⟩
abbrev main_v28 : Ref sig .tc := ⟨.hbm, 42, rfl⟩
abbrev main_v29 : Ref sig .tc := ⟨.hbm, 43, rfl⟩
abbrev main_cst_7 : Ref sig .tc := ⟨.hbm, 44, rfl⟩
abbrev main_v30 : Ref sig .tc := ⟨.hbm, 45, rfl⟩
abbrev main_v31 : Ref sig .tc := ⟨.hbm, 46, rfl⟩
abbrev main_v32 : Ref sig .tc := ⟨.hbm, 47, rfl⟩
abbrev main_v33 : Ref sig .tc := ⟨.hbm, 48, rfl⟩
abbrev main_v34 : Ref sig .tc := ⟨.hbm, 49, rfl⟩
abbrev main_v35 : Ref sig .tc := ⟨.hbm, 50, rfl⟩
abbrev main_v36 : Ref sig .tc := ⟨.hbm, 51, rfl⟩
abbrev main_v37 : Ref sig .tc := ⟨.hbm, 52, rfl⟩
abbrev main_v38 : Ref sig .tc := ⟨.hbm, 53, rfl⟩
abbrev main_cst_8 : Ref sig .tc := ⟨.hbm, 54, rfl⟩
abbrev main_v39 : Ref sig .tc := ⟨.hbm, 55, rfl⟩
abbrev main_v40 : Ref sig .tc := ⟨.hbm, 56, rfl⟩
abbrev main_cst_9 : Ref sig .tc := ⟨.hbm, 57, rfl⟩
abbrev main_v41 : Ref sig .tc := ⟨.hbm, 58, rfl⟩
abbrev main_v42 : Ref sig .tc := ⟨.hbm, 59, rfl⟩
abbrev main_cst_10 : Ref sig .tc := ⟨.hbm, 60, rfl⟩
abbrev main_v43 : Ref sig .tc := ⟨.hbm, 61, rfl⟩
abbrev main_v44 : Ref sig .tc := ⟨.hbm, 62, rfl⟩
abbrev main_v45 : Ref sig .tc := ⟨.hbm, 63, rfl⟩

abbrev nD : Nat := 1
abbrev τ : Topo := Topo.v7x

variable {F : FTy → Type} [FloatOps F]
-- ==== Kernel24.lean ====
abbrev S4096x512 : Shape := ⟨2, ![4096, 512]⟩
abbrev S4096x1024 : Shape := ⟨2, ![4096, 1024]⟩
abbrev S1024x1024 : Shape := ⟨2, ![1024, 1024]⟩
abbrev S1024x512 : Shape := ⟨2, ![1024, 512]⟩
abbrev S512x1024 : Shape := ⟨2, ![512, 1024]⟩

abbrev nBuf : Space → Nat
  | .hbm => 4
  | .vmem => 8
  | .smem => 0
  | _ => 0

abbrev bufTy : (tb : Table) → Fin (tcTables nBuf tb) → BufTy
  | .hbm, ⟨0, _⟩ => ⟨S4096x512, .bf16⟩
  | .hbm, ⟨1, _⟩ => ⟨S4096x512, .f32⟩
  | .hbm, ⟨2, _⟩ => ⟨S4096x1024, .bf16⟩
  | .hbm, ⟨3, _⟩ => ⟨S1024x1024, .f32⟩
  | .local _ .vmem, ⟨0, _⟩ => ⟨S1024x512, .bf16⟩
  | .local _ .vmem, ⟨1, _⟩ => ⟨S1024x512, .bf16⟩
  | .local _ .vmem, ⟨2, _⟩ => ⟨S1024x512, .f32⟩
  | .local _ .vmem, ⟨3, _⟩ => ⟨S1024x512, .f32⟩
  | .local _ .vmem, ⟨4, _⟩ => ⟨S1024x1024, .bf16⟩
  | .local _ .vmem, ⟨5, _⟩ => ⟨S1024x1024, .bf16⟩
  | .local _ .vmem, ⟨6, _⟩ => ⟨S1024x1024, .f32⟩
  | .local _ .vmem, ⟨7, _⟩ => ⟨S1024x1024, .f32⟩
  | _, _ => ⟨S4096x512, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_scratch0 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6

abbrev nD : Nat := 1
abbrev τ : Topo := Topo.v7x

variable {F : FTy → Type} [FloatOps F]

abbrev grid0 : Pipeline.Grid := ⟨3, ![1, 1, 4], ![false, false, false]⟩

def k0_cond2 (i : grid0.Coords) : BitVec 1 :=
  let arg2 : BitVec 32 := BitVec.ofNat 32 (i 2).val
  let c3_i32 : BitVec 32 := 3#32
  let v20 : BitVec 1 := Scalar.cmpi .eq arg2 c3_i32
  let v21 : BitVec 32 := Scalar.extui v20
  let c0_i32_16 : BitVec 32 := 0#32
  let v22 : BitVec 1 := Scalar.cmpi .ne v21 c0_i32_16
  v22

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg2.toNat, c0_i32.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg2.toNat, c0_i32.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, false, true]

abbrev stage0_1 : Fin 2 → Memref sig .tc .vmem S1024x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, false, true]

abbrev stage0_2 : Fin 2 → Memref sig .tc .vmem S1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true, true]

abbrev stage0_3 : Fin 1 → Memref sig .tc .vmem S1024x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true, true, false]
-- ==== Reference24Ideal.lean ====
abbrev S4096x512 : Shape := ⟨2, ![4096, 512]⟩
abbrev S4096x1024 : Shape := ⟨2, ![4096, 1024]⟩
abbrev S_ : Shape := ⟨0, ![]⟩
abbrev S1024x1024 : Shape := ⟨2, ![1024, 1024]⟩

abbrev nBuf : Space → Nat
  | .hbm => 11
  | .vmem => 0
  | .smem => 0
  | _ => 0

abbrev bufTy : (tb : Table) → Fin (tcTables nBuf tb) → BufTy
  | .hbm, ⟨0, _⟩ => ⟨S4096x512, .bf16⟩
  | .hbm, ⟨1, _⟩ => ⟨S4096x512, .f32⟩
  | .hbm, ⟨2, _⟩ => ⟨S4096x1024, .bf16⟩
  | .hbm, ⟨3, _⟩ => ⟨S4096x512, .f32⟩
  | .hbm, ⟨4, _⟩ => ⟨S4096x1024, .f32⟩
  | .hbm, ⟨5, _⟩ => ⟨S_, .f32⟩
  | .hbm, ⟨6, _⟩ => ⟨S1024x1024, .f32⟩
  | .hbm, ⟨7, _⟩ => ⟨S4096x1024, .f32⟩
  | .hbm, ⟨8, _⟩ => ⟨S4096x1024, .f32⟩
  | .hbm, ⟨9, _⟩ => ⟨S1024x1024, .f32⟩
  | .hbm, ⟨10, _⟩ => ⟨S1024x1024, .f32⟩
  | _, _ => ⟨S4096x512, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_cst : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩

abbrev nD : Nat := 1
abbrev τ : Topo := Topo.v7x

variable {F : FTy → Type} [FloatOps F]
-- ==== Proof.PoolHost.lean ====
/-
  THE POOLED WINDOWS the kernel's host lines compute are the ones the reference computes.
-/
module

public import proofs.«01_k».proof.Proof.Gen.Kernel2Ideal.Value
public import proofs.«01_k».proof.Proof.Gen.Reference2Ideal.Run
public import Idealize.ShloMosaic.Lib.Claim
public import Idealize.ShloMosaic.Lib.StableHlo.RunRead
public import Idealize.ShloMosaic.Lib.Pointwise

@[expose] public section

set_option maxRecDepth 16384

noncomputable section

namespace Cert.Pool

open Idealize.ShloMosaic Idealize.ShloMosaic.TcCoe Idealize.SL.Sem Idealize.ShloMosaic.StableHlo

theorem concat2_congr {α : Type} {T S₁ S₂ : Shape} {a : Fin T.rank} {x x' : S₁.Idx → α} {y y' : S₂.Idx → α}
    {h : Shape.Concatenates [S₁, S₂] T a} (hx : x = x') (hy : y = y') :
    concatenate T a [⟨S₁, x⟩, ⟨S₂, y⟩] h = concatenate T a [⟨S₁, x'⟩, ⟨S₂, y'⟩] h := by
  subst hx hy; rfl

theorem concat4_congr {α : Type} {T S : Shape} {a : Fin T.rank} {x x' y y' z z' w w' : S.Idx → α}
    {h : Shape.Concatenates [S, S, S, S] T a} (hx : x = x') (hy : y = y') (hz : z = z') (hw : w = w') :
    concatenate T a [⟨S, x⟩, ⟨S, y⟩, ⟨S, z⟩, ⟨S, w⟩] h = concatenate T a [⟨S, x'⟩, ⟨S, y'⟩, ⟨S, z'⟩, ⟨S, w'⟩] h := by
  subst hx hy hz hw; rfl

theorem cast_congr {T S U : Shape} {h : S.ShapeCasts T} {h' : T.ShapeCasts U} {hb : FTy.bits .bf16 < FTy.bits .f32} {x x' : S.Idx → EReal} (hx : x = x') :
    truncf (F := Ideal) (φ := .f32) .bf16 (fun i => shapeCast U (fun i => shapeCast T x h i) h' i) hb = shapeCast U (shapeCast T x' h) h' := by
  subst hx; rfl

set_option maxHeartbeats 2000000 in
/-- The array of pooled windows the region finds: the reference's, its groups laid side by side. -/
theorem pooled (m : (ℓ : Loc Cert.Kernel2Ideal.nD Cert.Kernel2Ideal.τ Cert.Kernel2Ideal.sig) → Buf (Elt Ideal) ℓ) (c : Dev Cert.Kernel2Ideal.nD)
    (V0 : Valuation Cert.Reference2Ideal.τ Cert.Reference2Ideal.sig (Elt Ideal))
    (h2 : V0 (Proc.devRef .tc Cert.Reference2Ideal.main_arg2) = m ((c.tc : Thread Cert.Kernel2Ideal.nD Cert.Kernel2Ideal.τ).loc Cert.Kernel2Ideal.main_arg2)) :
    Cert.Kernel2Ideal.Gen.V m c Cert.Kernel2Ideal.main_v79
      = shapeCast Cert.Kernel2Ideal.S4096x512 (shapeCast Cert.Kernel2Ideal.S4096x4x128 (Cert.Reference2Ideal.Value.res_main_v82 V0)
          Cert.Kernel2Ideal.Gen.shapeCasts_S1x4096x4x128_S4096x4x128) Cert.Kernel2Ideal.Gen.shapeCasts_S4096x4x128_S4096x512 := by
  unfold Cert.Kernel2Ideal.Gen.V
  after_reads_simp
  simp only [Matrix.cons_val_zero, Matrix.cons_val_one, Matrix.cons_val]
  refine cast_congr ?_
  unfold Cert.Reference2Ideal.Value.res_main_v82
  refine concat4_congr ?_ ?_ ?_ ?_
  all_goals
    after_reads_simp
    refine congrArg (broadcastInDim _ _ _) (congrArg₂ subf (congrArg₂ Host.divf (congrArg₂ subf ?_ (concat2_congr ?_ ?_)) ?_) ?_)
  all_goals
    (try after_reads_simp)
    (try simp only [TRef.toBuf, TRef.ofBuf, cast_eq])
    (try simp only [Cert.Reference2Ideal.Value.res_main_v7, Cert.Reference2Ideal.Value.res_main_v25,
      Cert.Reference2Ideal.Value.res_main_v43, Cert.Reference2Ideal.Value.res_main_v61, Cert.Reference2Ideal.Value.res_main_v4,
      Cert.Reference2Ideal.Value.res_main_v3, h2])
    try rfl

end Cert.Pool

end
-- ==== Proof.PoolSpec.lean ====
/-
  THE POOL MIXER'S GRADIENT, as formulas over the extended reals. `ct` is the gradient of the mixer's output, `gl` the
  scaled gradient, `gp` the gradient at the pooled windows, and `gx`, `gw`, `gs` the gradients at the mixer's input, its
  weights and its scale. The input's gradient is a sum of `gp` over the rows of a window, each over its row's count.
-/
module

public import Idealize.ShloMosaic.Lib.Pointwise

@[expose] public section

noncomputable section

namespace Cert.Pool

open Idealize.ShloMosaic

/-- Lane `e` of group `g` in the full width. -/
def lane (g : Fin 4) (e : Fin 128) : Fin 512 := ⟨g.val * 128 + e.val, by omega⟩

/-- The arrays the gradient reads: the cotangent, the output weight's rows, the pooled windows, the weights, the scale. -/
structure Arrays where
  /-- The cotangent of the layer's output. -/
  G : Fin 4096 → Fin 1024 → EReal
  /-- The output weight's rows. -/
  W : Fin 512 → Fin 1024 → EReal
  /-- The pooled windows. -/
  PL : Fin 4096 → Fin 512 → EReal
  /-- The groups' weights. -/
  PW : Fin 4 → Fin 128 → Fin 128 → EReal
  /-- The scale. -/
  S : Fin 512 → EReal

variable (A : Arrays)

/-- The gradient of the mixer's output. -/
def ct (t : Fin 4096) (c : Fin 512) : EReal := ∑ k : Fin 1024, A.G t k * A.W c k

/-- The scaled gradient. -/
def gl (t : Fin 4096) (c : Fin 512) : EReal := ct A t c * A.S c

/-- The gradient at the pooled windows. -/
def gp (g : Fin 4) (t : Fin 4096) (d : Fin 128) : EReal := ∑ e : Fin 128, gl A t (lane g e) * A.PW g d e

/-- The gradient at the weights. -/
def gw (g : Fin 4) (d e : Fin 128) : EReal := ∑ t : Fin 4096, A.PL t (lane g d) * gl A t (lane g e)

/-- The gradient at the scale. -/
def gs (g : Fin 4) (e : Fin 128) : EReal :=
  ∑ t : Fin 4096, ct A t (lane g e) * ∑ d : Fin 128, A.PL t (lane g d) * A.PW g d e

/-- How many rows the window ending at row `t` of group `g` averages. -/
def cnt (g : Fin 4) (t : Nat) : ℝ := min ((t : ℝ) + 1) (2 ^ (g.val + 1))

/-- The gradient at the pooled windows over its row's count; zero past the last row. -/
def q (g : Fin 4) (d : Fin 128) (t : Nat) : EReal :=
  if h : t < 4096 then gp A g ⟨t, h⟩ d * ((1 / cnt g t : ℝ) : EReal) else 0

/-- The sum of `f` over `w` rows from row `t`. -/
def win {M : Type} [AddCommMonoid M] (f : Nat → M) (w t : Nat) : M := ∑ j ∈ Finset.range w, f (t + j)

/-- The gradient at the mixer's input. -/
def gx (g : Fin 4) (t : Fin 4096) (d : Fin 128) : EReal := win (q A g d) (2 ^ (g.val + 1)) t.val - gp A g t d

/-- A window twice as long is two windows. -/
theorem win_double {M : Type} [AddCommMonoid M] (f : Nat → M) (w t : Nat) : win f (2 * w) t = win f w t + win f w (t + w) := by
  unfold win
  rw [two_mul, Finset.sum_range_add]
  simp only [Nat.add_assoc]

/-- A window past the last row sums to zero. -/
theorem win_past {M : Type} [AddCommMonoid M] {f : Nat → M} {n : Nat} (hf : ∀ t, n ≤ t → f t = 0) {w t : Nat} (ht : n ≤ t) : win f w t = 0 :=
  Finset.sum_eq_zero fun j _ => hf _ (by omega)

theorem q_past (g : Fin 4) (d : Fin 128) (t : Nat) (ht : 4096 ≤ t) : q A g d t = 0 := dif_neg (by omega)

theorem cnt_pos (g : Fin 4) (t : Nat) : 0 < cnt g t := lt_min (by positivity) (by positivity)

end Cert.Pool

end
-- ==== Proof.PoolPay.lean ====
/-
  THE POOL GRADIENT'S PAYLOADS AT AN INDEX. What each store of the pool kernel's body is worth at one element, as
  extended-real arithmetic over the elements of the blocks read: the column gradient `ct`, the pooled product's
  gradient `gp`, and the three results.
-/
module

public import Idealize.ShloMosaic.Lib.Pointwise
public import proofs.«01_k».proof.Proof.Gen.Kernel2Ideal.Skeleton
public import proofs.«01_k».proof.Proof.PoolSpec

@[expose] public section

set_option maxRecDepth 16384

noncomputable section

namespace Cert.Pool

open Cert.Kernel2Ideal Cert.Kernel2Ideal.Gen Idealize.ShloMosaic

/-- The gradient of the mixer's output at row `t`, lane `e` of one group: the cotangent's row against the weight's row. -/
theorem ct_apply (x0 : Vec Ideal S4096x1024 .bf16) (x1 : Vec Ideal S128x1024 .bf16) (t : Fin 4096) (e : Fin 128) :
    k0_pay2 x0 x1 (ix2 t e) = ∑ k : Fin 1024, x0 (ix2 t k) * x1 (ix2 e k) := by
  pointwise [k0_pay2, dot_S4096x1024_S128x1024_S4096x128_1_1_0_0_n_n]

/-- The scaled gradient. -/
theorem gl_apply (x0 : Vec Ideal S4096x1024 .bf16) (x1 : Vec Ideal S128x1024 .bf16) (x4 : Vec Ideal S1x128 .f32) (t : Fin 4096) (e : Fin 128) :
    k0_pay6 x0 x1 x4 (ix2 t e) = k0_pay2 x0 x1 (ix2 t e) * x4 (ix2 0 e) := by
  pointwise [k0_pay6]

/-- The gradient at the pooled windows. -/
theorem gp_apply (x0 : Vec Ideal S4096x1024 .bf16) (x1 : Vec Ideal S128x1024 .bf16) (x3 : Vec Ideal S1x128x128 .f32) (x4 : Vec Ideal S1x128 .f32) (t : Fin 4096) (d : Fin 128) :
    k0_pay8 x0 x1 x3 x4 (ix2 t d) = ∑ e : Fin 128, k0_pay6 x0 x1 x4 (ix2 t e) * x3 (ix3 0 d e) := by
  pointwise [k0_pay8, k0_pay4, dot_S4096x128_S128x128_S4096x128_1_1_0_0_n_n]

/-- The gradient at the group's weight. -/
theorem gw_apply (x0 : Vec Ideal S4096x1024 .bf16) (x1 : Vec Ideal S128x1024 .bf16) (x2 : Vec Ideal S4096x128 .bf16) (x4 : Vec Ideal S1x128 .f32) (d e : Fin 128) :
    k0_pay7 x0 x1 x2 x4 (ix3 0 d e) = ∑ t : Fin 4096, x2 (ix2 t d) * k0_pay6 x0 x1 x4 (ix2 t e) := by
  pointwise [k0_pay7, k0_pay3, dot_S4096x128_S4096x128_S128x128_0_0_1_1_n_n]

/-- The gradient at the group's scale. -/
theorem gs_apply (x0 : Vec Ideal S4096x1024 .bf16) (x1 : Vec Ideal S128x1024 .bf16) (x2 : Vec Ideal S4096x128 .bf16) (x3 : Vec Ideal S1x128x128 .f32) (e : Fin 128) :
    k0_pay5 x0 x1 x2 x3 (ix2 0 e) = ∑ t : Fin 4096, k0_pay2 x0 x1 (ix2 t e) * ∑ d : Fin 128, x2 (ix2 t d) * x3 (ix3 0 d e) := by
  pointwise [k0_pay5, k0_pay3, k0_pay4, dot_S4096x128_S128x128_S4096x128_1_0_0_1_n_n]

/-- The gradient at the pooled windows over its row's count. -/
theorem q_apply (i : grid0.Coords) (x0 : Vec Ideal S4096x1024 .bf16) (x1 : Vec Ideal S128x1024 .bf16) (x3 : Vec Ideal S1x128x128 .f32) (x4 : Vec Ideal S1x128 .f32) (t : Fin 4096) (d : Fin 128) :
    k0_pay9 i x0 x1 x3 x4 (ix2 t d) = k0_pay8 x0 x1 x3 x4 (ix2 t d)
      * Ideal.div 1 (min (FloatOps.sitofp (F := Ideal) FTy.f32 (BitVec.ofNat 32 t.val) + 1)
          (((Scalar.shli 2#32 (BitVec.ofNat 32 (i 0).val)).toInt : ℝ) : EReal)) := by
  pointwise [k0_pay9]

/-- A small number's word, read as an integer. -/
theorem toInt_small (x : Nat) (h : x < 2 ^ 31) : (BitVec.ofNat 32 x).toInt = x := by
  have e : (BitVec.ofNat 32 x).toNat = x := by rw [BitVec.toNat_ofNat]; exact Nat.mod_eq_of_lt (by omega)
  rw [BitVec.toInt_eq_toNat_of_lt (by omega), e]

/-- One doubling of a window sum: rows `4096 - n` further down, nothing where they would pass the last row. -/
def step (n : BitVec 32) (v : FVec Ideal S4096x128 .f32) : FVec Ideal S4096x128 .f32 :=
  addf v (select (cmpi .slt (iota .tc S4096x128 32 [0] iota_S4096x128_d0_w32) (broadcast S4096x128 n))
      (dynamicRotate 0 n none v rotates_S4096x128_d0) (broadcast S4096x128 (Scalar.ofBits (F := Ideal) .f32 0x00000000#32)))

/-- A doubling makes of windows of `w` rows the windows of `2 w` rows. -/
theorem step_apply (w : Nat) (hw : w < 4096) (hw0 : 0 < w) (v : FVec Ideal S4096x128 .f32) (f : Fin 128 → Nat → EReal)
    (hf : ∀ d t, 4096 ≤ t → f d t = 0) (hv : ∀ (t : Fin 4096) (d : Fin 128), v (ix2 t d) = win (f d) w t.val)
    (t : Fin 4096) (d : Fin 128) : step (BitVec.ofNat 32 (4096 - w)) v (ix2 t d) = win (f d) (2 * w) t.val := by
  unfold step
  pointwise
  have hn : (BitVec.ofNat 32 (4096 - w)).toNat = 4096 - w := by
    rw [BitVec.toNat_ofNat]; exact Nat.mod_eq_of_lt (by omega)
  have hc : IntOp.cmpi .slt (BitVec.ofNat 32 t.val) (BitVec.ofNat 32 (4096 - w)) = if t.val + w < 4096 then 1#1 else 0#1 := by
    have h1 : (BitVec.ofNat 32 t.val).toInt = t.val := toInt_small _ (by omega)
    have h2 : (BitVec.ofNat 32 (4096 - w)).toInt = ((4096 - w : Nat) : Int) := toInt_small _ (by omega)
    generalize BitVec.ofNat 32 (4096 - w) = n at h2 ⊢
    rw [Nat.cast_sub (by omega)] at h2
    by_cases h : t.val + w < 4096
    · rw [if_pos h]; simp only [IntOp.cmpi, BitVec.slt, h1, h2]; exact congrArg BitVec.ofBool (decide_eq_true (by omega))
    · rw [if_neg h]; simp only [IntOp.cmpi, BitVec.slt, h1, h2]; exact congrArg BitVec.ofBool (decide_eq_false (by omega))
  rw [hc, win_double, hv]
  congr 1
  by_cases h : t.val + w < 4096
  · rw [if_pos h]
    have e : (⟨(t.val + 4096 - (BitVec.ofNat 32 (4096 - w)).toNat % 4096) % 4096, Nat.mod_lt _ (by decide)⟩ : Fin 4096) = ⟨t.val + w, h⟩ :=
      Fin.ext (by show _ % 4096 = t.val + w; rw [hn]; omega)
    simp only [Scalar.select]
    rw [e]
    simpa using hv ⟨t.val + w, h⟩ d
  · rw [if_neg h, win_past (hf d) (by omega)]
    simp [Scalar.select]

/-- The input's gradient as the body computes it: the window sum of the point's group less the gradient at the pooled
    windows. -/
theorem pay1_eq (a : BitVec 32) (g q : FVec Ideal S4096x128 .f32) :
    k0_pay1 a (iota .tc S4096x128 32 [0] iota_S4096x128_d0_w32) g q
      = subf (Scalar.select (Scalar.cmpi .eq a 3#32) (step 4088#32 (step 4092#32 (step 4094#32 (step 4095#32 q))))
          (Scalar.select (Scalar.cmpi .eq a 2#32) (step 4092#32 (step 4094#32 (step 4095#32 q)))
            (Scalar.select (Scalar.cmpi .eq a 1#32) (step 4094#32 (step 4095#32 q))
              (Scalar.select (Scalar.cmpi .eq a 0#32) (step 4095#32 q)
                (broadcast S4096x128 (Scalar.ofBits (F := Ideal) .f32 0x00000000#32)))))) g := rfl

/-- At group `k` that is the window of `2 ^ (k + 1)` rows. -/
theorem gx_apply (k : Fin 4) (g v : FVec Ideal S4096x128 .f32) (f : Fin 128 → Nat → EReal)
    (hf : ∀ d t, 4096 ≤ t → f d t = 0) (hv : ∀ (t : Fin 4096) (d : Fin 128), v (ix2 t d) = f d t.val)
    (t : Fin 4096) (d : Fin 128) :
    k0_pay1 (BitVec.ofNat 32 k.val) (iota .tc S4096x128 32 [0] iota_S4096x128_d0_w32) g v (ix2 t d)
      = win (f d) (2 ^ (k.val + 1)) t.val - g (ix2 t d) := by
  have h1 := step_apply 1 (by decide) (by decide) v f hf (fun t d => by rw [hv]; simp [win])
  have h2 := step_apply 2 (by decide) (by decide) _ f hf h1
  have h3 := step_apply 4 (by decide) (by decide) _ f hf h2
  have h4 := step_apply 8 (by decide) (by decide) _ f hf h3
  rw [pay1_eq]
  show _ - g (ix2 t d) = _
  congr 1
  fin_cases k
  · exact h1 t d
  · exact h2 t d
  · exact h3 t d
  · exact h4 t d

/-- The row's count, as the body computes it: the group's window cut off at the first row. -/
theorem cnt_eq (k : Fin 4) (t : Fin 4096) :
    min (FloatOps.sitofp (F := Ideal) FTy.f32 (BitVec.ofNat 32 t.val) + 1)
          (((Scalar.shli 2#32 (BitVec.ofNat 32 k.val)).toInt : ℝ) : EReal) = ((cnt k t.val : ℝ) : EReal) := by
  have h1 : (BitVec.ofNat 32 t.val).toInt = t.val := toInt_small _ (by omega)
  have h2 : (Scalar.shli 2#32 (BitVec.ofNat 32 k.val)).toInt = 2 ^ (k.val + 1) := by
    revert k; decide
  rw [h2, show FloatOps.sitofp (F := Ideal) FTy.f32 (BitVec.ofNat 32 t.val) = (((BitVec.ofNat 32 t.val).toInt : ℝ) : EReal) from rfl, h1]
  unfold cnt
  rw [EReal.coe_strictMono.monotone.map_min]
  push_cast
  rfl

end Cert.Pool

end
-- ==== Proof.PoolPoint.lean ====
/-
  THE POOL KERNEL AT ONE GRID POINT. The blocks a grid point reads are one group's parts of the arrays the region finds,
  so what it stores is that group's `gx`, `gw` and `gs` of those arrays.
-/
module

public import proofs.«01_k».proof.Proof.Gen.Kernel2Ideal.Value
public import proofs.«01_k».proof.Proof.PoolPay
public import Idealize.ShloMosaic.Lib.Pipeline.ValueKit

@[expose] public section

set_option maxRecDepth 16384

noncomputable section

namespace Cert.Pool

open Cert.Kernel2Ideal Cert.Kernel2Ideal.Gen Idealize.ShloMosaic Idealize.ShloMosaic.TcCoe Idealize.SL.Sem

variable (m : (ℓ : Loc nD τ sig) → Buf (Elt Ideal) ℓ)

/-- The arrays the region reads. -/
def arrays (c : Dev nD) : Arrays where
  G := fun t k => V m c main_arg0 (ix2 t k)
  W := fun e k => V m c main_arg1 (ix2 ⟨e.val, by omega⟩ k)
  PL := fun t d => V m c main_v79 (ix2 t d)
  PW := fun g d e => V m c main_arg3 (ix3 g d e)
  S := fun e => V m c main_arg4 (ix2 0 e)

/-- The blocks' indices at each grid point. -/
theorem idx : ∀ t, win0_0.index t = ![0, 0] ∧ win0_1.index t = ![(grid0.coords t 0).val, 0]
    ∧ win0_2.index t = ![0, (grid0.coords t 0).val] ∧ win0_3.index t = ![(grid0.coords t 0).val, 0, 0]
    ∧ win0_4.index t = ![0, (grid0.coords t 0).val] ∧ win0_5.index t = ![0, (grid0.coords t 0).val]
    ∧ win0_6.index t = ![(grid0.coords t 0).val, 0, 0] ∧ win0_7.index t = ![0, (grid0.coords t 0).val] := by
  decide +kernel

/-- The group a grid point computes. -/
def grp (t : Fin cfg0.N) : Fin 4 := grid0.coords t 0

theorem iblk0 (c : Dev nD) (t : Fin cfg0.N) (r : Fin 4096) (k : Fin 1024) :
    iblk m c 0 t (ix2 r k) = (arrays m c).G r k := by
  unfold arrays
  blk_ext [iblk, (idx t).1]

theorem iblk1 (c : Dev nD) (t : Fin cfg0.N) (e : Fin 128) (k : Fin 1024) :
    iblk m c 1 t (ix2 e k) = (arrays m c).W (lane (grp t) e) k := by
  unfold arrays lane grp
  blk_ext [iblk, (idx t).2.1]

theorem iblk2 (c : Dev nD) (t : Fin cfg0.N) (r : Fin 4096) (d : Fin 128) :
    iblk m c 2 t (ix2 r d) = (arrays m c).PL r (lane (grp t) d) := by
  unfold arrays lane grp
  blk_ext [iblk, (idx t).2.2.1]

theorem iblk3 (c : Dev nD) (t : Fin cfg0.N) (d e : Fin 128) :
    iblk m c 3 t (ix3 0 d e) = (arrays m c).PW (grp t) d e := by
  unfold arrays grp
  blk_ext [iblk, (idx t).2.2.2.1]

theorem iblk4 (c : Dev nD) (t : Fin cfg0.N) (e : Fin 128) :
    iblk m c 4 t (ix2 0 e) = (arrays m c).S (lane (grp t) e) := by
  unfold arrays lane grp
  blk_ext [iblk, (idx t).2.2.2.2.1]

/-! What a grid point's payloads are worth over the arrays. -/

theorem ct_at (c : Dev nD) (t : Fin cfg0.N) (r : Fin 4096) (e : Fin 128) :
    k0_pay2 (iblk m c 0 t) (iblk m c 1 t) (ix2 r e) = ct (arrays m c) r (lane (grp t) e) := by
  rw [ct_apply]
  exact Finset.sum_congr rfl fun k _ => by rw [iblk0, iblk1]

theorem gl_at (c : Dev nD) (t : Fin cfg0.N) (r : Fin 4096) (e : Fin 128) :
    k0_pay6 (iblk m c 0 t) (iblk m c 1 t) (iblk m c 4 t) (ix2 r e) = gl (arrays m c) r (lane (grp t) e) := by
  rw [gl_apply, ct_at, iblk4, gl]

theorem gp_at (c : Dev nD) (t : Fin cfg0.N) (r : Fin 4096) (d : Fin 128) :
    k0_pay8 (iblk m c 0 t) (iblk m c 1 t) (iblk m c 3 t) (iblk m c 4 t) (ix2 r d) = gp (arrays m c) (grp t) r d := by
  rw [gp_apply]
  exact Finset.sum_congr rfl fun e _ => by rw [gl_at, iblk3]

theorem q_at (c : Dev nD) (t : Fin cfg0.N) (r : Fin 4096) (d : Fin 128) :
    k0_pay9 (grid0.coords t) (iblk m c 0 t) (iblk m c 1 t) (iblk m c 3 t) (iblk m c 4 t) (ix2 r d) = q (arrays m c) (grp t) d r.val := by
  rw [q_apply, gp_at, q, dif_pos r.isLt]
  erw [cnt_eq (grp t) r]
  rw [Ideal.div_coe (cnt_pos _ _).ne', one_mul]

theorem gx_at (c : Dev nD) (t : Fin cfg0.N) (r : Fin 4096) (d : Fin 128) :
    k0_pay1 (BitVec.ofNat 32 (grid0.coords t 0).val) (iota .tc S4096x128 32 [0] iota_S4096x128_d0_w32)
      (k0_pay8 (iblk m c 0 t) (iblk m c 1 t) (iblk m c 3 t) (iblk m c 4 t))
      (k0_pay9 (grid0.coords t) (iblk m c 0 t) (iblk m c 1 t) (iblk m c 3 t) (iblk m c 4 t)) (ix2 r d) = gx (arrays m c) (grp t) r d :=
  (gx_apply (grp t) _ _ (q (arrays m c) (grp t)) (fun d t h => q_past _ _ d t h) (fun r d => q_at m c t r d) r d).trans
    (by rw [gp_at, gx])

theorem gw_at (c : Dev nD) (t : Fin cfg0.N) (d e : Fin 128) :
    k0_pay7 (iblk m c 0 t) (iblk m c 1 t) (iblk m c 2 t) (iblk m c 4 t) (ix3 0 d e) = gw (arrays m c) (grp t) d e := by
  rw [gw_apply]
  exact Finset.sum_congr rfl fun r _ => by rw [gl_at, iblk2]

theorem gs_at (c : Dev nD) (t : Fin cfg0.N) (e : Fin 128) :
    k0_pay5 (iblk m c 0 t) (iblk m c 1 t) (iblk m c 2 t) (iblk m c 3 t) (ix2 0 e) = gs (arrays m c) (grp t) e := by
  rw [gs_apply, gs]
  exact Finset.sum_congr rfl fun r _ => congrArg₂ (· * ·) (ct_at m c t r e)
    (Finset.sum_congr rfl fun d _ => congrArg₂ (· * ·) (iblk2 m c t r d) (iblk3 m c t d e))

end Cert.Pool

end
-- ==== Proof.PoolKernel.lean ====
/-
  THE POOL KERNEL'S RESULT ARRAYS. Every grid point writes one group's block of each result; the blocks tile the arrays,
  so after the run each array holds `gx`, `gw` or `gs` of the arrays the region finds.
-/
module

public import proofs.«01_k».proof.Proof.Gen.Kernel2Ideal.Value
public import proofs.«01_k».proof.Proof.PoolPoint
public import Idealize.ShloMosaic.Lib.Pipeline.ValueKit

@[expose] public section

set_option maxRecDepth 16384

noncomputable section

namespace Cert.Pool

open Cert.Kernel2Ideal Cert.Kernel2Ideal.Gen Idealize.ShloMosaic Idealize.ShloMosaic.TcCoe Idealize.SL.Sem

variable (m : (ℓ : Loc nD τ sig) → Buf (Elt Ideal) ℓ)

/-! The arrays after the run. -/

/-- A lane's group, and its place in the group. -/
def grpOf (l : Fin 512) : Fin 4 := ⟨l.val / 128, by omega⟩
/-- A lane's place in its group. -/
def inGrp (l : Fin 512) : Fin 128 := ⟨l.val % 128, by omega⟩

theorem grpOf_lane (g : Fin 4) (e : Fin 128) : grpOf (lane g e) = g := Fin.ext (by simp only [grpOf, lane]; omega)
theorem inGrp_lane (g : Fin 4) (e : Fin 128) : inGrp (lane g e) = e := Fin.ext (by simp only [inGrp, lane]; omega)

theorem gx_lane (A : Arrays) (g : Fin 4) (t : Fin 4096) (d : Fin 128) : gx A g t d = gx A (grpOf (lane g d)) t (inGrp (lane g d)) := by
  rw [grpOf_lane, inGrp_lane]
theorem gs_lane (A : Arrays) (g : Fin 4) (d : Fin 128) : gs A g d = gs A (grpOf (lane g d)) (inGrp (lane g d)) := by
  rw [grpOf_lane, inGrp_lane]

/-- The input's gradient. -/
theorem arr5 (c : Dev nD) : (dats m 0 c).arrAt 5 cfg0.N = fun j : S4096x512.Idx => gx (arrays m c) (grpOf (j 1)) (j 0) (inGrp (j 1)) := by
  refine (dats m 0 c).arrAt_eq_of_covers 5 _ (by decide +kernel) fun t hf y => ?_
  blk_simp
  rw [after0_5]
  frame_out
  have e : ((View.whole main_v80_0).slice (win0_5.rect t)).emb y = (ix2 (n0 := 4096) (n1 := 512) (y 0) (lane (grp t) (y 1)) : S4096x512.Idx) := by
    unfold lane grp
    blk_ext [(idx t).2.2.2.2.2.1]
  have e' : y = (ix2 (n0 := 4096) (n1 := 128) (y 0) (y 1)) := by blk_ext
  rw [e]
  exact (congrArg _ e').trans ((gx_at m c t (y 0) (y 1)).trans (gx_lane _ _ _ _))

/-- The weights' gradient. -/
theorem arr6 (c : Dev nD) : (dats m 0 c).arrAt 6 cfg0.N = fun j : S4x128x128.Idx => gw (arrays m c) (j 0) (j 1) (j 2) := by
  refine (dats m 0 c).arrAt_eq_of_covers 6 _ (by decide +kernel) fun t hf y => ?_
  blk_simp
  rw [after0_6]
  frame_out
  have e : ((View.whole main_v80_1).slice (win0_6.rect t)).emb y = (ix3 (n0 := 4) (n1 := 128) (n2 := 128) (grp t) (y 1) (y 2) : S4x128x128.Idx) := by
    unfold grp
    blk_ext [(idx t).2.2.2.2.2.2.1]
  have e' : y = (ix3 (n0 := 1) (n1 := 128) (n2 := 128) 0 (y 1) (y 2)) := by blk_ext
  rw [e]
  exact (congrArg _ e').trans ((gw_at m c t (y 1) (y 2)).trans rfl)

/-- The scale's gradient. -/
theorem arr7 (c : Dev nD) : (dats m 0 c).arrAt 7 cfg0.N = fun j : S1x512.Idx => gs (arrays m c) (grpOf (j 1)) (inGrp (j 1)) := by
  refine (dats m 0 c).arrAt_eq_of_covers 7 _ (by decide +kernel) fun t hf y => ?_
  blk_simp
  rw [after0_7]
  frame_out
  have e : ((View.whole main_v80_2).slice (win0_7.rect t)).emb y = (ix2 (n0 := 1) (n1 := 512) 0 (lane (grp t) (y 1)) : S1x512.Idx) := by
    unfold lane grp
    blk_ext [(idx t).2.2.2.2.2.2.2]
  have e' : y = (ix2 (n0 := 1) (n1 := 128) 0 (y 1)) := by blk_ext
  rw [e]
  exact (congrArg _ e').trans ((gs_at m c t (y 1)).trans (gs_lane _ _ _))

end Cert.Pool

end
-- ==== Proof.PoolRef.lean ====
/-
  THE POOL REFERENCE AT AN INDEX: its gradients are the formulas of PoolSpec at its own arrays.
-/
module

public import proofs.«01_k».proof.Proof.Gen.Reference2Ideal.Run
public import Idealize.ShloMosaic.Lib.Pointwise
public import proofs.«01_k».proof.Proof.PoolSpec

@[expose] public section

set_option maxRecDepth 16384

noncomputable section

namespace Cert.PoolRef

open Cert.Pool Cert.Reference2Ideal Cert.Reference2Ideal.Gen Cert.Reference2Ideal.Value Idealize.ShloMosaic Idealize.ShloMosaic.TcCoe Idealize.SL.Sem Idealize.ShloMosaic.StableHlo

variable (V0 : Valuation τ sig (Elt Ideal))

/-- The arrays the reference reads. -/
def refArrays : Arrays where
  G := fun t k => (V0 (Proc.devRef .tc main_arg0) : S4096x1024.Idx → EReal) (ix2 t k)
  W := fun e k => (V0 (Proc.devRef .tc main_arg1) : S1024x1024.Idx → EReal) (ix2 ⟨e.val, by omega⟩ k)
  PL := fun t l => (res_main_v82 V0 : S1x4096x4x128.Idx → EReal) (ix4 0 t ⟨l.val / 128, by omega⟩ ⟨l.val % 128, by omega⟩)
  PW := fun g d e => (V0 (Proc.devRef .tc main_arg3) : S4x128x128.Idx → EReal) (ix3 g d e)
  S := fun e => (V0 (Proc.devRef .tc main_arg4) : S1x512.Idx → EReal) (ix2 0 e)

theorem v93_apply (t : Fin 4096) (l : Fin 512) : (res_main_v93 V0 : S1x4096x512.Idx → EReal) (ix3 0 t l) = ct (refArrays V0) t l := by
  pointwise [res_main_v93, res_main_v1, dot_S4096x1024_S512x1024_S4096x512_1_1_0_0_n_n, ct, refArrays]
  done

theorem v102_apply (t : Fin 4096) (g : Fin 4) (e : Fin 128) : (res_main_v102 V0 : S4x128x1x4096.Idx → EReal) (ix4 g e 0 t) = gl (refArrays V0) t (lane g e) := by
  pointwise [res_main_v102, res_main_v86]
  exact congrArg₂ (· * ·) (v93_apply V0 t (lane g e)) rfl

theorem v104_apply (t : Fin 4096) (g : Fin 4) (d : Fin 128) : (res_main_v104 V0 : S1x4096x4x128.Idx → EReal) (ix4 0 t g d) = gp (refArrays V0) g t d := by
  pointwise [res_main_v104, dot_S4x128x1x4096_S4x128x128_S4x1x4096x128_1_2_23_1_0_0, v102_apply V0]
  rfl

theorem PL_apply (t : Fin 4096) (g : Fin 4) (d : Fin 128) : (refArrays V0).PL t (lane g d) = (res_main_v82 V0 : S1x4096x4x128.Idx → EReal) (ix4 0 t g d) := by
  show (res_main_v82 V0 : S1x4096x4x128.Idx → EReal) (ix4 0 t _ _) = _
  have h1 : (⟨(lane g d).val / 128, by omega⟩ : Fin 4) = g := Fin.ext (by simp only [lane]; omega)
  have h2 : (⟨(lane g d).val % 128, by omega⟩ : Fin 128) = d := Fin.ext (by simp only [lane]; omega)
  rw [h1, h2]

/-- The gradient at the weights, as the reference computes it. -/
def gwOf : FVec Ideal S4x128x128 .f32 := transpose S4x128x128 [0, 2, 1] (Host.dotGeneral (φ₁ := .f32) (φ₂ := .f32) dot_S4x128x1x4096_S1x4096x4x128_S4x128x128_23_01_1_3_0_2 none (res_main_v102 V0) (res_main_v82 V0)) transposes_S4x128x128_S4x128x128_0_2_1

theorem gw_ref (g : Fin 4) (d e : Fin 128) : gwOf V0 (ix3 g d e) = gw (refArrays V0) g d e := by
  pointwise [gwOf, dot_S4x128x1x4096_S1x4096x4x128_S4x128x128_23_01_1_3_0_2]
  refine (Fin.sum_univ_one _).trans (Finset.sum_congr rfl fun t _ => ?_)
  rw [PL_apply, mul_comm]
  exact congrArg₂ (· * ·) rfl (v102_apply V0 t g e)

theorem v85_apply (t : Fin 4096) (g : Fin 4) (e : Fin 128) : (res_main_v85 V0 : FVec Ideal S1x4096x512 .f32) (ix3 0 t (lane g e)) = ∑ d : Fin 128, (refArrays V0).PL t (lane g d) * (refArrays V0).PW g d e := by
  pointwise [res_main_v85, dot_S4x128x128_S1x4096x4x128_S4x128x1x4096_1_3_2_01_0_2]
  have h1 : (lane g e).val / 128 = g.val := by simp only [lane]; omega
  have h2 : (lane g e).val % 128 = e.val := by simp only [lane]; omega
  refine Finset.sum_congr (M := EReal) rfl fun d _ => ?_
  rw [PL_apply, mul_comm]
  simp only [h1, h2]
  rfl

/-- A sum over the two unit axes of a `[1, 1, n]` array is its only row. -/
theorem unit_axes (h : S1x1x512.ReducesTo [0, 1] S512) (v : S1x1x512.Idx → EReal) (l : Fin 512) : Ideal.hostReduceAdd h v 0 (ix1 l) = v (ix3 0 0 l) := by
  unfold Ideal.hostReduceAdd
  rw [zero_add]
  refine Finset.sum_eq_single_of_mem (ix3 0 0 l) ?_ fun i hi hne => ?_
  · exact Finset.mem_filter.mpr ⟨Finset.mem_univ _, by funext a; apply Fin.ext; match a with | ⟨0, _⟩ => rfl⟩
  · refine absurd ?_ hne
    have e := (Finset.mem_filter.mp hi).2
    have e2 := congrArg Fin.val (congrFun e 0)
    funext a; apply Fin.ext
    match a with
    | ⟨0, _⟩ => have := (i 0).isLt; change (i 0).val < 1 at this; show (i 0).val = 0; omega
    | ⟨1, _⟩ => have := (i 1).isLt; change (i 1).val < 1 at this; show (i 1).val = 0; omega
    | ⟨2, _⟩ => exact e2

/-- The gradient at the scale, as the reference computes it. -/
def gsOf : FVec Ideal S1x512 .f32 := broadcastInDim S1x512 ![1] bcast_S512_S1x512_1 (Host.reduceAdd (shapeCast _ (Host.reduceAdd (mulf (res_main_v85 V0) (res_main_v93 V0)) (constant S_ .f32 0x00000000#32) reducesTo_S1x4096x512_S1x512_d1 h_S_) shapeCasts_S1x512_S1x1x512) (constant S_ .f32 0x00000000#32) reducesTo_S1x1x512_S512_d0_1 h_S_)

theorem gs_ref (g : Fin 4) (e : Fin 128) : gsOf V0 (ix2 0 (lane g e)) = gs (refArrays V0) g e := by
  pointwise [gsOf]
  refine (unit_axes _ _ (lane g e)).trans ?_
  pointwise
  refine Finset.sum_congr rfl fun t _ => ?_
  exact (mul_comm _ _).trans (congrArg₂ (· * ·) (v93_apply V0 t (lane g e)) (v85_apply V0 t g e))

/-- A window sum is a sum over the window's indices. -/
theorem window_sum {s t : Shape} (window strides lo hi : Fin s.rank → Nat) (h : s.ReduceWindows window strides lo hi t) (x : s.Idx → EReal) (j : t.Idx) :
    Ideal.hostReduceWindowAdd window strides lo hi h x 0 j = ∑ k : (⟨s.rank, window⟩ : Shape).Idx,
      if hin : ∀ a, lo a ≤ (j (a.cast h.1.symm)).val * strides a + (k a).val ∧ (j (a.cast h.1.symm)).val * strides a + (k a).val - lo a < s.size a then x (fun a => ⟨(j (a.cast h.1.symm)).val * strides a + (k a).val - lo a, (hin a).2⟩) else 0 := by
  unfold Ideal.hostReduceWindowAdd Host.reduceWindow
  rw [sum_idx_eq_foldl]
  dsimp only
  congr 1
  funext r n
  refine congrArg (r + ·) ?_
  split
  · rfl
  · rfl

/-- A float running sum from each row to the last. -/
theorem suffix_sum {n m p r : Nat} (x : (⟨4, ![1, n, p, r]⟩ : Shape).Idx → EReal) (h : (⟨4, ![1, n, p, r]⟩ : Shape).ReduceWindows ![1, n, 1, 1] ![1, 1, 1, 1] ![0, 0, 0, 0] ![0, m, 0, 0] ⟨4, ![1, n, p, r]⟩) (t : Fin n) (g : Fin p) (d : Fin r) :
    Ideal.hostReduceWindowAdd ![1, n, 1, 1] ![1, 1, 1, 1] ![0, 0, 0, 0] ![0, m, 0, 0] h x 0 (ix4 0 t g d) = ∑ s : Fin n, if hs : t.val + s.val < n then x (ix4 0 ⟨t.val + s.val, hs⟩ g d) else 0 := by
  rw [window_sum]
  refine (sum_idx4 (n0 := 1) (n1 := n) (n2 := 1) (n3 := 1) _).trans ?_
  refine (Fin.sum_univ_one _).trans (Finset.sum_congr rfl fun s _ => (Fin.sum_univ_one _).trans ((Fin.sum_univ_one _).trans ?_))
  by_cases hs : t.val + s.val < n
  · rw [dif_pos hs, dif_pos]
    · refine congrArg x (funext fun a => Fin.ext ?_)
      match a with
      | ⟨0, _⟩ => rfl
      | ⟨1, _⟩ => show t.val * 1 + s.val - 0 = t.val + s.val; omega
      | ⟨2, _⟩ => show g.val * 1 + 0 - 0 = g.val; omega
      | ⟨3, _⟩ => show d.val * 1 + 0 - 0 = d.val; omega
    · intro a
      have := g.isLt
      have := d.isLt
      match a with
      | ⟨0, _⟩ => exact ⟨Nat.zero_le _, Nat.one_pos⟩
      | ⟨1, _⟩ => exact ⟨Nat.zero_le _, by show t.val * 1 + s.val - 0 < n; omega⟩
      | ⟨2, _⟩ => exact ⟨Nat.zero_le _, by show g.val * 1 + 0 - 0 < p; omega⟩
      | ⟨3, _⟩ => exact ⟨Nat.zero_le _, by show d.val * 1 + 0 - 0 < r; omega⟩
  · rw [dif_neg hs, dif_neg]
    intro hin
    have := (hin ⟨1, (by decide : 1 < 4)⟩).2
    change t.val * 1 + s.val - 0 < n at this
    omega

/-- Each row's share of the running sums. -/
def itemOf : FVec Ideal S1x4096x4x128 .f32 := addf (addf (addf (pad S1x4096x4x128 ![0, 0, 3, 0] ![0, 0, 0, 0] ![0, 0, 0, 0] (broadcastInDim S1x4096x1x128 ![0, 1, 3] bcast_S1x4096x128_S1x4096x1x128_0_1_3 (addf (res_main_v119 V0) (pad S1x4096x128 ![0, 0, 0] ![0, 16, 0] ![0, 0, 0] (extractStridedSlice S1x4080x128 ![0, 16, 0] (res_main_v120 V0) slices_S1x4096x128_S1x4080x128_0_16_0) (constant S_ .f32 0x00000000#32) pads_S1x4080x128_S1x4096x128_000_0160_000 h_S_))) (constant S_ .f32 0x00000000#32) pads_S1x4096x1x128_S1x4096x4x128_000_000_300_000 h_S_) (pad S1x4096x4x128 ![0, 0, 2, 0] ![0, 0, 1, 0] ![0, 0, 0, 0] (broadcastInDim S1x4096x1x128 ![0, 1, 3] bcast_S1x4096x128_S1x4096x1x128_0_1_3 (addf (res_main_v132 V0) (pad S1x4096x128 ![0, 0, 0] ![0, 8, 0] ![0, 0, 0] (extractStridedSlice S1x4088x128 ![0, 8, 0] (res_main_v133 V0) slices_S1x4096x128_S1x4088x128_0_8_0) (constant S_ .f32 0x00000000#32) pads_S1x4088x128_S1x4096x128_000_080_000 h_S_))) (constant S_ .f32 0x00000000#32) pads_S1x4096x1x128_S1x4096x4x128_000_000_210_000 h_S_)) (pad S1x4096x4x128 ![0, 0, 1, 0] ![0, 0, 2, 0] ![0, 0, 0, 0] (broadcastInDim S1x4096x1x128 ![0, 1, 3] bcast_S1x4096x128_S1x4096x1x128_0_1_3 (addf (res_main_v146 V0) (pad S1x4096x128 ![0, 0, 0] ![0, 4, 0] ![0, 0, 0] (extractStridedSlice S1x4092x128 ![0, 4, 0] (res_main_v147 V0) slices_S1x4096x128_S1x4092x128_0_4_0) (constant S_ .f32 0x00000000#32) pads_S1x4092x128_S1x4096x128_000_040_000 h_S_))) (constant S_ .f32 0x00000000#32) pads_S1x4096x1x128_S1x4096x4x128_000_000_120_000 h_S_)) (pad S1x4096x4x128 ![0, 0, 0, 0] ![0, 0, 3, 0] ![0, 0, 0, 0] (broadcastInDim S1x4096x1x128 ![0, 1, 3] bcast_S1x4096x128_S1x4096x1x128_0_1_3 (addf (res_main_v160 V0) (pad S1x4096x128 ![0, 0, 0] ![0, 2, 0] ![0, 0, 0] (extractStridedSlice S1x4094x128 ![0, 2, 0] (res_main_v161 V0) slices_S1x4096x128_S1x4094x128_0_2_0) (constant S_ .f32 0x00000000#32) pads_S1x4094x128_S1x4096x128_000_020_000 h_S_))) (constant S_ .f32 0x00000000#32) pads_S1x4096x1x128_S1x4096x4x128_000_000_030_000 h_S_)

/-- The running sums from each row to the last. -/
def winOf : FVec Ideal S1x4096x4x128 .f32 := Host.reduceWindowAdd ![1, 4096, 1, 1] ![1, 1, 1, 1] ![0, 0, 0, 0] ![0, 4095, 0, 0] (itemOf V0) (broadcastInDim S_ ![] bcast_S_S_ (constant S_ .f32 0x00000000#32)) reduceWindows_S1x4096x4x128_S1x4096x4x128_w1s1p0_0_w4096s1p0_4095_w1s1p0_0_w1s1p0_0 h_S_

/-- What each group loses. -/
def negsOf : FVec Ideal S1x4096x4x128 .f32 := addf (addf (addf (pad S1x4096x4x128 ![0, 0, 3, 0] ![0, 0, 0, 0] ![0, 0, 0, 0] (broadcastInDim S1x4096x1x128 ![0, 1, 3] bcast_S1x4096x128_S1x4096x1x128_0_1_3 (Host.negf (res_main_v114 V0))) (constant S_ .f32 0x00000000#32) pads_S1x4096x1x128_S1x4096x4x128_000_000_300_000 h_S_) (pad S1x4096x4x128 ![0, 0, 2, 0] ![0, 0, 1, 0] ![0, 0, 0, 0] (broadcastInDim S1x4096x1x128 ![0, 1, 3] bcast_S1x4096x128_S1x4096x1x128_0_1_3 (Host.negf (res_main_v112 V0))) (constant S_ .f32 0x00000000#32) pads_S1x4096x1x128_S1x4096x4x128_000_000_210_000 h_S_)) (pad S1x4096x4x128 ![0, 0, 1, 0] ![0, 0, 2, 0] ![0, 0, 0, 0] (broadcastInDim S1x4096x1x128 ![0, 1, 3] bcast_S1x4096x128_S1x4096x1x128_0_1_3 (Host.negf (res_main_v110 V0))) (constant S_ .f32 0x00000000#32) pads_S1x4096x1x128_S1x4096x4x128_000_000_120_000 h_S_)) (pad S1x4096x4x128 ![0, 0, 0, 0] ![0, 0, 3, 0] ![0, 0, 0, 0] (broadcastInDim S1x4096x1x128 ![0, 1, 3] bcast_S1x4096x128_S1x4096x1x128_0_1_3 (Host.negf (res_main_v108 V0))) (constant S_ .f32 0x00000000#32) pads_S1x4096x1x128_S1x4096x4x128_000_000_030_000 h_S_)

/-- The gradient at the input, as the reference computes it. -/
def gxOf : FVec Ideal S4096x512 .f32 := Host.reduceAdd (shapeCast _ (addf (negsOf V0) (winOf V0)) shapeCasts_S1x4096x4x128_S1x4096x512) (constant S_ .f32 0x00000000#32) reducesTo_S1x4096x512_S4096x512_d0 h_S_

theorem winOf_apply (t : Fin 4096) (g : Fin 4) (d : Fin 128) : winOf V0 (ix4 0 t g d) = ∑ s : Fin 4096, if hs : t.val + s.val < 4096 then itemOf V0 (ix4 0 ⟨t.val + s.val, hs⟩ g d) else 0 := by
  refine Eq.trans ?_ (suffix_sum (itemOf V0) reduceWindows_S1x4096x4x128_S1x4096x4x128_w1s1p0_0_w4096s1p0_4095_w1s1p0_0_w1s1p0_0 t g d)
  unfold winOf
  simp only [Host.reduceWindowAdd, Ideal.hostReduceWindowAdd_def]
  refine congrArg (fun z => Ideal.hostReduceWindowAdd _ _ _ _ _ (itemOf V0) z (ix4 0 t g d)) ?_
  exact Ideal.ofBits_zero_f32

theorem negsOf_apply (t : Fin 4096) (g : Fin 4) (d : Fin 128) : negsOf V0 (ix4 0 t g d) = -gp (refArrays V0) g t d := by
  match g with
  | 0 => pointwise [negsOf, res_main_v114, res_main_v112, res_main_v110, res_main_v108, v104_apply V0]
  | 1 => pointwise [negsOf, res_main_v114, res_main_v112, res_main_v110, res_main_v108, v104_apply V0]
  | 2 => pointwise [negsOf, res_main_v114, res_main_v112, res_main_v110, res_main_v108, v104_apply V0]
  | 3 => pointwise [negsOf, res_main_v114, res_main_v112, res_main_v110, res_main_v108, v104_apply V0]

theorem toInt_small (n : Nat) (h : n < 2 ^ 31) : (BitVec.ofNat 32 n).toInt = n := by
  rw [BitVec.toInt_eq_toNat_of_lt] <;> rw [BitVec.toNat_ofNat, Nat.mod_eq_of_lt (by omega)]
  omega

/-- A row's count: the rows of its window, cut off at the first row. -/
theorem cnt_eq (g : Fin 4) (t : Fin 4096) (w : EReal) (hw : w = ((2 ^ (g.val + 1) : ℝ) : EReal)) :
    min (FloatOps.sitofp (F := Ideal) FTy.f32 (BitVec.ofNat 32 t.val) + 1) w = ((cnt g t.val : ℝ) : EReal) := by
  have h1 : (BitVec.ofNat 32 t.val).toInt = t.val := toInt_small _ (by omega)
  rw [hw, show FloatOps.sitofp (F := Ideal) FTy.f32 (BitVec.ofNat 32 t.val) = (((BitVec.ofNat 32 t.val).toInt : ℝ) : EReal) from rfl, h1]
  unfold cnt
  rw [EReal.coe_strictMono.monotone.map_min]
  push_cast
  rfl

theorem v17_apply (t : Fin 4096) : (res_main_v17 V0 : FVec Ideal S1x4096x1 .f32) (ix3 0 t 0) = ((cnt 0 t.val : ℝ) : EReal) := by
  pointwise [res_main_v17, res_main_v5]
  exact cnt_eq 0 t _ (by simp [Ideal.ofBits, Ideal.ieee, -EReal.coe_mul, -EReal.coe_pow]; norm_num)

theorem v35_apply (t : Fin 4096) : (res_main_v35 V0 : FVec Ideal S1x4096x1 .f32) (ix3 0 t 0) = ((cnt 1 t.val : ℝ) : EReal) := by
  pointwise [res_main_v35, res_main_v5]
  exact cnt_eq 1 t _ (by simp [Ideal.ofBits, Ideal.ieee, -EReal.coe_mul, -EReal.coe_pow]; norm_num)

theorem v53_apply (t : Fin 4096) : (res_main_v53 V0 : FVec Ideal S1x4096x1 .f32) (ix3 0 t 0) = ((cnt 2 t.val : ℝ) : EReal) := by
  pointwise [res_main_v53, res_main_v5]
  exact cnt_eq 2 t _ (by simp [Ideal.ofBits, Ideal.ieee, -EReal.coe_mul, -EReal.coe_pow]; norm_num)

theorem v71_apply (t : Fin 4096) : (res_main_v71 V0 : FVec Ideal S1x4096x1 .f32) (ix3 0 t 0) = ((cnt 3 t.val : ℝ) : EReal) := by
  pointwise [res_main_v71, res_main_v5]
  exact cnt_eq 3 t _ (by simp [Ideal.ofBits, Ideal.ieee, -EReal.coe_mul, -EReal.coe_pow]; norm_num)

theorem q_div (A : Arrays) (g : Fin 4) (t : Fin 4096) (d : Fin 128) : Ideal.div (gp A g t d) ((cnt g t.val : ℝ) : EReal) = q A g d t.val := by
  rw [Ideal.div_coe (cnt_pos g t.val).ne']
  unfold q
  rw [dif_pos t.isLt]

/-- The later row's share, none past the last row. -/
theorem later (A : Arrays) (g : Fin 4) (w n : Nat) (hn : n + w = 4096) (t : Fin 4096) (d : Fin 128) (c : Fin 4096 → EReal) (hc : ∀ s : Fin 4096, c s = ((cnt g s.val : ℝ) : EReal)) (p : ∀ _ : t.val < n, w + t.val < 4096) :
    (if h : t.val < n then -Ideal.div (gp A g ⟨w + t.val, p h⟩ d) (c ⟨w + t.val, p h⟩) else 0) = -q A g d (t.val + w) := by
  split
  · next h => rw [hc, q_div]; exact congrArg (fun n => -q A g d n) (Nat.add_comm w t.val)
  · next h => rw [q_past _ _ _ _ (by omega), neg_zero]

theorem itemOf_apply (t : Fin 4096) (g : Fin 4) (d : Fin 128) : itemOf V0 (ix4 0 t g d) = q (refArrays V0) g d t.val + -q (refArrays V0) g d (t.val + 2 ^ (g.val + 1)) := by
  match g with
  | 0 =>
    pointwise [itemOf, res_main_v160, res_main_v161, res_main_v108, v104_apply V0]
    exact congrArg₂ (· + ·) (by rw [v17_apply, q_div]) (later (refArrays V0) 0 2 4094 rfl t d _ (v17_apply V0) _)
  | 1 =>
    pointwise [itemOf, res_main_v146, res_main_v147, res_main_v110, v104_apply V0]
    exact congrArg₂ (· + ·) (by rw [v35_apply, q_div]) (later (refArrays V0) 1 4 4092 rfl t d _ (v35_apply V0) _)
  | 2 =>
    pointwise [itemOf, res_main_v132, res_main_v133, res_main_v112, v104_apply V0]
    exact congrArg₂ (· + ·) (by rw [v53_apply, q_div]) (later (refArrays V0) 2 8 4088 rfl t d _ (v53_apply V0) _)
  | 3 =>
    pointwise [itemOf, res_main_v119, res_main_v120, res_main_v114, v104_apply V0]
    exact congrArg₂ (· + ·) (by rw [v71_apply, q_div]) (later (refArrays V0) 3 16 4080 rfl t d _ (v71_apply V0) _)

theorem gxOf_apply (t : Fin 4096) (g : Fin 4) (d : Fin 128) : gxOf V0 (ix2 t (lane g d)) = negsOf V0 (ix4 0 t g d) + winOf V0 (ix4 0 t g d) := by
  pointwise [gxOf]
  have h1 : (lane g d).val / 128 = g.val := by simp only [lane]; omega
  have h2 : (lane g d).val % 128 = d.val := by simp only [lane]; omega
  refine (Fin.sum_univ_one _).trans ?_
  simp only [h1, h2]

end Cert.PoolRef

end
-- ==== Proof.Reals.lean ====
/-
  REAL VALUES: an extended real that is a real number, and what keeps that.
-/
module

public import Idealize.ShloMosaic.Lib.Pointwise

@[expose] public section

noncomputable section

namespace Cert.Reals

open Idealize.ShloMosaic

/-- `x` is a real number. -/
def IsReal (x : EReal) : Prop := ∃ r : ℝ, x = (r : EReal)

theorem isReal_coe (r : ℝ) : IsReal (r : EReal) := ⟨r, rfl⟩

theorem isReal_zero : IsReal 0 := ⟨0, rfl⟩

theorem IsReal.add {x y : EReal} (hx : IsReal x) (hy : IsReal y) : IsReal (x + y) := by
  obtain ⟨a, rfl⟩ := hx
  obtain ⟨b, rfl⟩ := hy
  exact ⟨a + b, (EReal.coe_add a b).symm⟩

theorem IsReal.mul {x y : EReal} (hx : IsReal x) (hy : IsReal y) : IsReal (x * y) := by
  obtain ⟨a, rfl⟩ := hx
  obtain ⟨b, rfl⟩ := hy
  exact ⟨a * b, (EReal.coe_mul a b).symm⟩

/-- A sum of reals in the extended reals is their real sum. -/
theorem coe_sum {ι : Type} (s : Finset ι) (g : ι → ℝ) : ((∑ i ∈ s, g i : ℝ) : EReal) = ∑ i ∈ s, (g i : EReal) := by
  classical
  induction s using Finset.induction_on with
  | empty => rfl
  | insert a s ha ih => rw [Finset.sum_insert ha, Finset.sum_insert ha, EReal.coe_add, ih]

theorem isReal_sum {ι : Type} (s : Finset ι) {f : ι → EReal} (hf : ∀ i, IsReal (f i)) : IsReal (∑ i ∈ s, f i) := by
  choose g hg using hf
  exact ⟨∑ i ∈ s, g i, (Finset.sum_congr rfl fun i _ => hg i).trans (coe_sum s g).symm⟩

/-- A number below infinity in absolute value is real. -/
theorem isReal_of_lt {x : EReal} (h : Ideal.cmp .olt (max x (-x)) (Ideal.ofBits .f32 0x7F800000#32) = 1#1) : IsReal x := by
  induction x with
  | bot => simp [Ideal.cmp, Ideal.ofBits, Ideal.ieee] at h
  | top => simp [Ideal.cmp, Ideal.ofBits, Ideal.ieee] at h
  | coe r => exact ⟨r, rfl⟩

end Cert.Reals

end
-- ==== Proof.PoolEq.lean ====
/-
  THE POOL'S SHIFTED SUMS: the reference's running sum of what a row brings in and its window's end takes out is the
  kernel's sum over one window.
-/
module

public import proofs.«01_k».proof.Proof.PoolSpec
public import proofs.«01_k».proof.Proof.Reals

@[expose] public section

noncomputable section

namespace Cert.Pool

open Idealize.ShloMosaic Cert.Reals

/-- Over the reals, the running sum from `t` of `f s - f (s + w)` is the window's sum, where `f` ends at `n`. -/
theorem win_telescope (f : Nat → ℝ) (n w t : Nat) (hf : ∀ s, n ≤ s → f s = 0) : ∑ s ∈ Finset.range n, (f (t + s) - f (t + s + w)) = win f w t := by
  have h1 := Finset.sum_range_add (fun s => f (t + s)) n w
  have h2 := Finset.sum_range_add (fun s => f (t + s)) w n
  rw [Nat.add_comm w n, h1, Finset.sum_eq_zero (s := Finset.range w) fun j _ => hf _ (by omega), add_zero] at h2
  rw [Finset.sum_sub_distrib, h2]
  unfold win
  rw [add_sub_assoc, sub_eq_zero.mpr, add_zero]
  exact Finset.sum_congr rfl fun s _ => congrArg f (by omega)

variable (A : Arrays)

theorem gp_real (hG : ∀ t k, IsReal (A.G t k)) (hW : ∀ e k, IsReal (A.W e k)) (hP : ∀ g d e, IsReal (A.PW g d e)) (hS : ∀ e, IsReal (A.S e)) (g : Fin 4) (t : Fin 4096) (d : Fin 128) : IsReal (gp A g t d) :=
  isReal_sum _ fun e => ((isReal_sum _ fun k => (hG t k).mul (hW _ k)).mul (hS _)).mul (hP g d e)

theorem q_real (hg : ∀ g t d, IsReal (gp A g t d)) (g : Fin 4) (d : Fin 128) (t : Nat) : IsReal (q A g d t) := by
  unfold q
  split
  · exact (hg _ _ _).mul (isReal_coe _)
  · exact isReal_zero

/-- The reference's running sum is the kernel's window. -/
theorem win_eq (hg : ∀ g t d, IsReal (gp A g t d)) (g : Fin 4) (t : Fin 4096) (d : Fin 128) (w : Nat) :
    (∑ s : Fin 4096, if t.val + s.val < 4096 then q A g d (t.val + s.val) + -q A g d (t.val + s.val + w) else 0) = win (q A g d) w t.val := by
  choose r hr using q_real A hg g d
  have h0 : ∀ s, 4096 ≤ s → r s = 0 := fun s hs => EReal.coe_injective ((hr s).symm.trans (q_past A g d s hs))
  have e : ∀ s : Fin 4096, (if t.val + s.val < 4096 then q A g d (t.val + s.val) + -q A g d (t.val + s.val + w) else 0) = (fun n : Nat => ((r (t.val + n) - r (t.val + n + w) : ℝ) : EReal)) s.val := fun s => by
    split
    · rw [hr, hr]; push_cast; exact (sub_eq_add_neg _ _).symm
    · show 0 = ((r (t.val + s.val) - r (t.val + s.val + w) : ℝ) : EReal)
      rw [h0 _ (by omega), h0 _ (by omega), sub_zero]; rfl
  rw [Finset.sum_congr rfl fun s _ => e s, Fin.sum_univ_eq_sum_range (fun n : Nat => ((r (t.val + n) - r (t.val + n + w) : ℝ) : EReal)) 4096]
  unfold win
  rw [Finset.sum_congr rfl fun j _ => hr (t.val + j)]
  have key := win_telescope r 4096 w t.val h0
  have := congrArg (fun x : ℝ => (x : EReal)) key
  unfold win at this
  rw [coe_sum, coe_sum] at this
  exact this

end Cert.Pool

end
-- ==== Proof.PoolClaim.lean ====
/-
  THE POOL CLAIM: over the extended reals the kernel's three gradients are the reference's, on arguments of real numbers.
-/
module

public import proofs.«01_k».proof.Defs
public import proofs.«01_k».proof.Proof.Gen.Pre_finite2
public import proofs.«01_k».proof.Proof.Gen.Kernel2Ideal
public import proofs.«01_k».proof.Proof.Gen.Reference2Ideal
public import proofs.«01_k».proof.Proof.PoolHost
public import proofs.«01_k».proof.Proof.PoolKernel
public import proofs.«01_k».proof.Proof.PoolRef
public import proofs.«01_k».proof.Proof.PoolEq

@[expose] public section

set_option maxRecDepth 16384

noncomputable section

namespace Cert.Pool

open Idealize.ShloMosaic Idealize.ShloMosaic.TcCoe Idealize.SL.Sem Idealize.ShloMosaic.StableHlo Cert.Reals Cert.PoolRef

/-- Arguments that meet the precondition are real numbers. -/
theorem real_of_pre {a0 : FVec Ideal Cert.Pre_finite2.S4096x1024 .bf16} {a1 : FVec Ideal Cert.Pre_finite2.S1024x1024 .bf16} {a2 : FVec Ideal Cert.Pre_finite2.S4096x512 .f32} {a3 : FVec Ideal Cert.Pre_finite2.S4x128x128 .f32} {a4 : FVec Ideal Cert.Pre_finite2.S1x512 .f32}
    (h0 : (Cert.Pre_finite2.fn a0 a1 a2 a3 a4).1 = fun _ => 1#1) (h1 : (Cert.Pre_finite2.fn a0 a1 a2 a3 a4).2.1 = fun _ => 1#1)
    (h3 : (Cert.Pre_finite2.fn a0 a1 a2 a3 a4).2.2.2.1 = fun _ => 1#1) (h4 : (Cert.Pre_finite2.fn a0 a1 a2 a3 a4).2.2.2.2 = fun _ => 1#1) :
    (∀ i, IsReal (a0 i)) ∧ (∀ i, IsReal (a1 i)) ∧ (∀ i, IsReal (a3 i)) ∧ ∀ i, IsReal (a4 i) :=
  ⟨fun i => isReal_of_lt (congrFun h0 i), fun i => isReal_of_lt (congrFun h1 i), fun i => isReal_of_lt (congrFun h3 i), fun i => isReal_of_lt (congrFun h4 i)⟩

variable (m : (ℓ : Loc Cert.Kernel2Ideal.nD Cert.Kernel2Ideal.τ Cert.Kernel2Ideal.sig) → Buf (Elt Ideal) ℓ) (c : Dev Cert.Kernel2Ideal.nD)
  (V0 : Valuation Cert.Reference2Ideal.τ Cert.Reference2Ideal.sig (Elt Ideal))

/-- The two programs read the same arrays. -/
theorem arrays_eq
    (h0 : V0 (Proc.devRef .tc Cert.Reference2Ideal.main_arg0) = m ((c.tc : Thread Cert.Kernel2Ideal.nD Cert.Kernel2Ideal.τ).loc Cert.Kernel2Ideal.main_arg0))
    (h1 : V0 (Proc.devRef .tc Cert.Reference2Ideal.main_arg1) = m ((c.tc : Thread Cert.Kernel2Ideal.nD Cert.Kernel2Ideal.τ).loc Cert.Kernel2Ideal.main_arg1))
    (h2 : V0 (Proc.devRef .tc Cert.Reference2Ideal.main_arg2) = m ((c.tc : Thread Cert.Kernel2Ideal.nD Cert.Kernel2Ideal.τ).loc Cert.Kernel2Ideal.main_arg2))
    (h3 : V0 (Proc.devRef .tc Cert.Reference2Ideal.main_arg3) = m ((c.tc : Thread Cert.Kernel2Ideal.nD Cert.Kernel2Ideal.τ).loc Cert.Kernel2Ideal.main_arg3))
    (h4 : V0 (Proc.devRef .tc Cert.Reference2Ideal.main_arg4) = m ((c.tc : Thread Cert.Kernel2Ideal.nD Cert.Kernel2Ideal.τ).loc Cert.Kernel2Ideal.main_arg4)) :
    refArrays V0 = arrays m c := by
  unfold refArrays arrays
  rw [h0, h1, h3, h4, pooled m c V0 h2, Cert.Kernel2Ideal.Gen.V_main_arg0, Cert.Kernel2Ideal.Gen.V_main_arg1, Cert.Kernel2Ideal.Gen.V_main_arg3, Cert.Kernel2Ideal.Gen.V_main_arg4]
  congr 1
  funext t l
  pointwise

theorem lane_grpOf (l : Fin 512) : lane (grpOf l) (inGrp l) = l := Fin.ext (by simp only [lane, grpOf, inGrp]; omega)

theorem gx_at_lane (A : Arrays) (l : Fin 512) (t : Fin 4096) (R : Fin 4096 → Fin 512 → EReal) (h : ∀ t g d, R t (lane g d) = gx A g t d) : R t l = gx A (grpOf l) t (inGrp l) := by
  rw [← h, lane_grpOf]

theorem gs_at_lane (A : Arrays) (l : Fin 512) (R : Fin 512 → EReal) (h : ∀ g d, R (lane g d) = gs A g d) : R l = gs A (grpOf l) (inGrp l) := by
  rw [← h, lane_grpOf]

theorem gx_ref (hg : ∀ g t d, IsReal (gp (refArrays V0) g t d)) (t : Fin 4096) (g : Fin 4) (d : Fin 128) : gxOf V0 (ix2 t (lane g d)) = gx (refArrays V0) g t d := by
  rw [gxOf_apply, negsOf_apply, winOf_apply, add_comm]
  unfold gx
  rw [← win_eq (refArrays V0) hg g t d (2 ^ (g.val + 1)), sub_eq_add_neg]
  refine congrArg (· + _) (Finset.sum_congr rfl fun s _ => ?_)
  split
  · exact itemOf_apply V0 _ g d
  · rfl

theorem gp_arrays
    (r0 : ∀ i : Cert.Kernel2Ideal.S4096x1024.Idx, IsReal ((m ((c.tc : Thread Cert.Kernel2Ideal.nD Cert.Kernel2Ideal.τ).loc Cert.Kernel2Ideal.main_arg0) : Cert.Kernel2Ideal.S4096x1024.Idx → EReal) i))
    (r1 : ∀ i : Cert.Kernel2Ideal.S1024x1024.Idx, IsReal ((m ((c.tc : Thread Cert.Kernel2Ideal.nD Cert.Kernel2Ideal.τ).loc Cert.Kernel2Ideal.main_arg1) : Cert.Kernel2Ideal.S1024x1024.Idx → EReal) i))
    (r3 : ∀ i : Cert.Kernel2Ideal.S4x128x128.Idx, IsReal ((m ((c.tc : Thread Cert.Kernel2Ideal.nD Cert.Kernel2Ideal.τ).loc Cert.Kernel2Ideal.main_arg3) : Cert.Kernel2Ideal.S4x128x128.Idx → EReal) i))
    (r4 : ∀ i : Cert.Kernel2Ideal.S1x512.Idx, IsReal ((m ((c.tc : Thread Cert.Kernel2Ideal.nD Cert.Kernel2Ideal.τ).loc Cert.Kernel2Ideal.main_arg4) : Cert.Kernel2Ideal.S1x512.Idx → EReal) i))
    (g : Fin 4) (t : Fin 4096) (d : Fin 128) : IsReal (gp (arrays m c) g t d) := by
  unfold arrays
  rw [Cert.Kernel2Ideal.Gen.V_main_arg0, Cert.Kernel2Ideal.Gen.V_main_arg1, Cert.Kernel2Ideal.Gen.V_main_arg3, Cert.Kernel2Ideal.Gen.V_main_arg4]
  exact gp_real _ (fun t k => r0 _) (fun e k => r1 _) (fun g d e => r3 _) (fun e => r4 _) g t d

theorem gxOf_eq (hA : refArrays V0 = arrays m c) (hg : ∀ g t d, IsReal (gp (refArrays V0) g t d)) :
    gxOf V0 = fun j : Cert.Kernel2Ideal.S4096x512.Idx => gx (arrays m c) (grpOf (j 1)) (j 0) (inGrp (j 1)) := by
  funext j
  rw [← hA]
  exact (congrArg (gxOf V0) (eq_ix2 j)).trans (gx_at_lane (refArrays V0) (j 1) (j 0) (fun t l => gxOf V0 (ix2 t l)) fun t g d => gx_ref V0 hg t g d)

theorem gwOf_eq (hA : refArrays V0 = arrays m c) : gwOf V0 = fun j : Cert.Kernel2Ideal.S4x128x128.Idx => gw (arrays m c) (j 0) (j 1) (j 2) := by
  funext j
  rw [← hA]
  exact (congrArg (gwOf V0) (eq_ix3 j)).trans (gw_ref V0 (j 0) (j 1) (j 2))

theorem gsOf_eq (hA : refArrays V0 = arrays m c) : gsOf V0 = fun j : Cert.Kernel2Ideal.S1x512.Idx => gs (arrays m c) (grpOf (j 1)) (inGrp (j 1)) := by
  funext j
  rw [← hA]
  have hj : @Eq (Fin 1) (j 0) 0 := Subsingleton.elim (α := Fin 1) _ _
  exact ((congrArg (gsOf V0) (eq_ix2 j)).trans (congrArg (fun z : Fin 1 => gsOf V0 (ix2 z (j 1))) hj)).trans
    (gs_at_lane (refArrays V0) (j 1) (fun l => gsOf V0 (ix2 0 l)) fun g d => gs_ref V0 g d)

theorem algebraic : Cert.algebraic_Kernel2Ideal_Reference2Ideal_pre_finite2 := by
  intro m ρ m' ρ' hpre hagree
  have hA : ∀ c, refArrays (launchContents m' c) = arrays m c := fun c => arrays_eq m c _ (hagree c).1 (hagree c).2.1 (hagree c).2.2.1 (hagree c).2.2.2.1 (hagree c).2.2.2.2
  have hg : ∀ c g t d, IsReal (gp (refArrays (launchContents m' c)) g t d) := fun c => by
    rw [hA]
    obtain ⟨r0, r1, r3, r4⟩ := real_of_pre (hpre c).1 (hpre c).2.1 (hpre c).2.2.2.1 (hpre c).2.2.2.2
    exact gp_arrays m c r0 r1 r3 r4
  refine ⟨fun c j => gx (arrays m c) (grpOf (j 1)) (j 0) (inGrp (j 1)), fun c j => gw (arrays m c) (j 0) (j 1) (j 2), fun c j => gs (arrays m c) (grpOf (j 1)) (inGrp (j 1)), (θ_run _ _ _).mono (fun r h c => ?_) (Cert.Kernel2Ideal.Value.run_blocks m ρ), (θ_run _ _ _).mono (fun r h c => ?_) (Cert.Reference2Ideal.Value.run m' ρ')⟩
  · exact ⟨(h c).1.trans (arr5 m c), (h c).2.1.trans (arr6 m c), (h c).2.2.1.trans (arr7 m c), (h c).2.2.2⟩
  · refine ⟨(h c).1.trans ?_, (h c).2.1.trans ?_, (h c).2.2.1.trans ?_, (h c).2.2.2⟩
    · exact gxOf_eq m c _ (hA c) (hg c)
    · exact gwOf_eq m c _ (hA c)
    · exact gsOf_eq m c _ (hA c)

end Cert.Pool

end
-- ==== Proof.SguSpec.lean ====
/- The gradient of the gated mixer (`gelu(u) * mix(layer_norm(gelu(v)))` and the product behind it) as plain real
   functions of the arrays. Rows are numbered 0 … 4095 and lanes 0 … 511; rows go in chunks of 128, lanes in groups
   of 128. Everything is indexed by naturals, so that a block of rows is the same functions at a shifted row. -/
module

public import Idealize.ShloMosaic.PureOps.Ideal
public import proofs.«01_k».proof.Proof.Reals

@[expose] public section

noncomputable section

namespace Cert.Sgu

open Idealize.ShloMosaic

/-- The arguments as real functions: the incoming gradient, the rows of the output projection that the mixer's lanes
    meet, the two halves of the projected input, the norm's scale and shift, the mixing matrices and their biases. -/
structure In where
  gyo : ℕ → ℕ → ℝ
  wo : ℕ → ℕ → ℝ
  u : ℕ → ℕ → ℝ
  v : ℕ → ℕ → ℝ
  g : ℕ → ℝ
  b : ℕ → ℝ
  ws : ℕ → ℕ → ℕ → ℝ
  bs : ℕ → ℕ → ℝ

/-- √(2/π) as its float word denotes it. -/
def c0 : ℝ := 6693141 / 8388608

/-- The norm's epsilon as its float word denotes it. -/
def epsR : ℝ := 8796093 / 8796093022208

/-- Gelu's cubic coefficient, 0.044715. -/
def cub : ℝ := 8943 / 200000

/-- The hyperbolic tangent inside gelu. -/
def th (x : ℝ) : ℝ := Real.tanh (c0 * (x + cub * x * x * x))

/-- Gelu in its tanh form. -/
def gelu (x : ℝ) : ℝ := 1 / 2 * x * (1 + th x)

/-- The derivative of gelu. -/
def dgelu (x : ℝ) : ℝ :=
  1 / 2 * (1 + th x) + 1 / 2 * x * (1 - th x * th x) * (c0 * (1 + 3 * cub * x * x))

namespace In

variable (I : In)

/-- The gradient at the mixer's output: row `r` of the incoming gradient against the projection's row `l`. -/
def gy (r l : ℕ) : ℝ := ∑ k : Fin 1024, I.gyo r k * I.wo l k

/-- Mean over the lanes of gelu of the second half. -/
def mean (r : ℕ) : ℝ := (∑ l : Fin 512, gelu (I.v r l)) * (1 / 512)

/-- The centred row. -/
def xc (r l : ℕ) : ℝ := gelu (I.v r l) - I.mean r

/-- Variance of a row. -/
def var (r : ℕ) : ℝ := (∑ l : Fin 512, I.xc r l * I.xc r l) * (1 / 512)

/-- Reciprocal standard deviation of a row. -/
def rs (r : ℕ) : ℝ := (Real.sqrt (I.var r + epsR))⁻¹

/-- The normalised row. -/
def xh (r l : ℕ) : ℝ := I.xc r l * I.rs r

/-- The layer norm's output. -/
def vln (r l : ℕ) : ℝ := I.xh r l * I.g l + I.b l

/-- The mixing matrix of group `g`, lower triangle. -/
def tri (g i j : ℕ) : ℝ := if j ≤ i then I.ws g i j else 0

/-- The mixed value: within the chunk of row `r`, the triangle of the lane's group against the layer norm's output. -/
def mixed (r l : ℕ) : ℝ :=
  (∑ j : Fin 128, I.tri (l / 128) (r % 128) j * I.vln (r / 128 * 128 + j) l) + I.bs (l / 128) (r % 128)

/-- The gradient at the mixed value. -/
def gmix (r l : ℕ) : ℝ := I.gy r l * gelu (I.u r l)

/-- The gradient at the first half. -/
def gu (r l : ℕ) : ℝ := I.gy r l * I.mixed r l * dgelu (I.u r l)

/-- The contribution of chunk `n` to the mixing matrix's gradient. -/
def gwChunk (n g i j : ℕ) : ℝ :=
  ∑ e : Fin 128, I.gmix (n * 128 + i) (g * 128 + e) * I.vln (n * 128 + j) (g * 128 + e)

/-- The mixing matrix's gradient. -/
def gw (g i j : ℕ) : ℝ := if j ≤ i then ∑ n : Fin 32, I.gwChunk n g i j else 0

/-- The contribution of chunk `n` to the mixing bias's gradient. -/
def gbsChunk (n g i : ℕ) : ℝ := ∑ e : Fin 128, I.gmix (n * 128 + i) (g * 128 + e)

/-- The mixing bias's gradient. -/
def gbs (g i : ℕ) : ℝ := ∑ n : Fin 32, I.gbsChunk n g i

/-- The gradient at the layer norm's output: the triangle transposed against the gradient at the mixed value. -/
def gvln (r l : ℕ) : ℝ :=
  ∑ i : Fin 128, I.tri (l / 128) i (r % 128) * I.gmix (r / 128 * 128 + i) l

/-- The gradient of the norm's scale. -/
def gg (l : ℕ) : ℝ := ∑ r : Fin 4096, I.gvln r l * I.xh r l

/-- The gradient of the norm's shift. -/
def gb (l : ℕ) : ℝ := ∑ r : Fin 4096, I.gvln r l

/-- The gradient at the normalised row. -/
def gxh (r l : ℕ) : ℝ := I.gvln r l * I.g l

/-- Mean of the gradient at the normalised row. -/
def m1 (r : ℕ) : ℝ := (∑ l : Fin 512, I.gxh r l) * (1 / 512)

/-- Mean of that gradient against the normalised row. -/
def m2 (r : ℕ) : ℝ := (∑ l : Fin 512, I.gxh r l * I.xh r l) * (1 / 512)

/-- The gradient at gelu of the second half. -/
def ggv (r l : ℕ) : ℝ := I.rs r * (I.gxh r l - I.m1 r - I.xh r l * I.m2 r)

/-- The gradient at the second half. -/
def gv (r l : ℕ) : ℝ := I.ggv r l * dgelu (I.v r l)

theorem var_nonneg (r : ℕ) : 0 ≤ I.var r :=
  mul_nonneg (Finset.sum_nonneg fun _ _ => mul_self_nonneg _) (by norm_num)

theorem var_pos (r : ℕ) : 0 < I.var r + epsR := add_pos_of_nonneg_of_pos (I.var_nonneg r) (by norm_num [epsR])

end In

/-! ## The programs' constants -/

theorem ofBits_c0 : Ideal.ofBits .f32 0x3F4C422A#32 = ((c0 : ℝ) : EReal) := by
  simp [Ideal.ofBits, Ideal.ieee, c0, -EReal.coe_mul, -EReal.coe_pow]; norm_num

theorem ofBits_half : Ideal.ofBits .f32 0x3F000000#32 = ((1 / 2 : ℝ) : EReal) := by
  simp [Ideal.ofBits, Ideal.ieee, -EReal.coe_mul, -EReal.coe_pow]; norm_num

theorem ofBits_one : Ideal.ofBits .f32 0x3F800000#32 = ((1 : ℝ) : EReal) := by
  simp [Ideal.ofBits, Ideal.ieee, -EReal.coe_mul, -EReal.coe_pow]; norm_num

theorem ofBits_512 : Ideal.ofBits .f32 0x44000000#32 = ((512 : ℝ) : EReal) := by
  simp [Ideal.ofBits, Ideal.ieee, -EReal.coe_mul, -EReal.coe_pow]; norm_num

theorem ofBits_eps : Ideal.ofBits .f32 0x358637BD#32 = ((epsR : ℝ) : EReal) := by
  simp [Ideal.ofBits, Ideal.ieee, epsR, -EReal.coe_mul, -EReal.coe_pow]; norm_num

/-- The reciprocal root of a positive real. -/
theorem rsqrt_pos {x : ℝ} (h : 0 < x) : Ideal.rsqrt (x : EReal) = (((Real.sqrt x)⁻¹ : ℝ) : EReal) := by
  rw [Ideal.rsqrt_coe, if_neg (not_lt.mpr h.le), if_neg h.ne']

/-- A quotient by the real 512. -/
theorem div_512 (x : ℝ) : Ideal.div (x : EReal) ((512 : ℝ) : EReal) = ((x * (1 / 512) : ℝ) : EReal) := by
  rw [Ideal.div_coe (by norm_num), ← EReal.coe_mul]

end Cert.Sgu

end
-- ==== Proof.SguPay.lean ====
/- The kernel's payloads read at an index, over blocks that hold real numbers: the stages up to the layer norm. -/
module

public import proofs.«01_k».proof.Proof.Gen.KernelIdeal.Value
public import Idealize.ShloMosaic.Lib.Pointwise
public import Idealize.ShloMosaic.PureOps.IdealRules
public import proofs.«01_k».proof.Proof.SguSpec

@[expose] public section

set_option maxRecDepth 16384

noncomputable section

namespace Cert.Sgu

open Idealize.ShloMosaic Idealize.ShloMosaic.TcCoe Idealize.SL.Sem Idealize.ShloMosaic.StableHlo
open Cert.KernelIdeal Cert.KernelIdeal.Gen

/-- The kernel's literal in gelu: the cubic coefficient. -/
theorem named_c : Named.named (F := Ideal) Cert.KernelIdeal.κ "gelu_cubic" (φ := .f32) 0x3D372713#32 = ((cub : ℝ) : EReal) :=
  IdealRules.named_const.ideal_named_scalar _ _ _ _ rfl

/-- The kernel's literal in the derivative of gelu: three times the cubic coefficient. -/
theorem named_c3 : Named.named (F := Ideal) Cert.KernelIdeal.κ "gelu_cubic3" (φ := .f32) 0x3E095D4F#32 = ((3 * cub : ℝ) : EReal) :=
  (IdealRules.named_const.ideal_named_scalar _ _ _ _ rfl).trans (congrArg _ (by norm_num [cub]))

theorem toInt_small (x : Nat) (h : x < 2 ^ 31) : (BitVec.ofNat 32 x).toInt = x := by
  have e : (BitVec.ofNat 32 x).toNat = x := by rw [BitVec.toNat_ofNat]; exact Nat.mod_eq_of_lt (by omega)
  rw [BitVec.toInt_eq_toNat_of_lt (by omega), e]

/-- A choice by comparing two small indices. -/
theorem select_sge {α : Type} (i j : Fin 128) (x y : α) :
    Scalar.select (IntOp.cmpi CmpIPredicate.sge (BitVec.ofNat 32 i.val) (BitVec.ofNat 32 j.val)) x y
      = if j.val ≤ i.val then x else y := by
  have h1 := toInt_small i.val (by omega)
  have h2 := toInt_small j.val (by omega)
  by_cases h : j.val ≤ i.val
  · simp [IntOp.cmpi, BitVec.sle, h1, h2, h, Scalar.select]
  · simp [IntOp.cmpi, BitVec.sle, h1, h2, h, Scalar.select]

variable (I : In) (r0 : ℕ) (e : Ideal .f32) (he : e = ((epsR : ℝ) : EReal))
include he

omit he in
theorem pay6_apply (x0 : FVec Ideal S512x1024 .bf16) (x1 : FVec Ideal S512x1024 .bf16)
    (h0 : ∀ y k, x0 (ix2 y k) = ((I.gyo (r0 + y.val) k.val : ℝ) : EReal))
    (h1 : ∀ l k, x1 (ix2 l k) = ((I.wo l.val k.val : ℝ) : EReal)) (y l : Fin 512) :
    k0_pay6 (F := Ideal) x0 x1 (ix2 y l) = ((I.gy (r0 + y.val) l.val : ℝ) : EReal) := by
  pointwise [k0_pay6]
  simp only [h0, h1, ← EReal.coe_mul, ← Reals.coe_sum]
  rfl

omit he in
theorem pay7_apply (x3 : FVec Ideal S512x512 .f32)
    (h3 : ∀ y l, x3 (ix2 y l) = ((I.v (r0 + y.val) l.val : ℝ) : EReal)) (y l : Fin 512) :
    k0_pay7 (F := Ideal) x3 (ix2 y l) = ((I.xc (r0 + y.val) l.val : ℝ) : EReal) := by
  pointwise [k0_pay7]
  simp only [h3, named_c, ofBits_c0, ofBits_half, ofBits_512, ← EReal.coe_one, ← EReal.coe_mul, ← EReal.coe_add,
    ← EReal.coe_sub, Ideal.tanh_coe, ← Reals.coe_sum, div_512]
  rfl

omit he in
theorem pay8_apply (x3 : FVec Ideal S512x512 .f32)
    (h3 : ∀ y l, x3 (ix2 y l) = ((I.v (r0 + y.val) l.val : ℝ) : EReal)) (y : Fin 512) (z : Fin 1) :
    k0_pay8 (F := Ideal) x3 (ix2 y z) = ((I.var (r0 + y.val) : ℝ) : EReal) := by
  pointwise [k0_pay8]
  simp only [pay7_apply I r0 x3 h3, ofBits_512, ← EReal.coe_mul, ← Reals.coe_sum, div_512]
  rfl

theorem pay9_apply (v33 : FVec Ideal S512x1 .f32)
    (h : ∀ y z, v33 (ix2 y z) = ((I.var (r0 + y.val) : ℝ) : EReal)) (y : Fin 512) (z : Fin 1) :
    k0_pay9 (F := Ideal) v33 e (ix2 y z) = ((I.rs (r0 + y.val) : ℝ) : EReal) := by
  pointwise [k0_pay9]
  simp only [h, he, ← EReal.coe_add, rsqrt_pos (I.var_pos _)]
  rfl

theorem pay10_apply (v28 : FVec Ideal S512x512 .f32) (v33 : FVec Ideal S512x1 .f32)
    (h28 : ∀ y l, v28 (ix2 y l) = ((I.xc (r0 + y.val) l.val : ℝ) : EReal))
    (h : ∀ y z, v33 (ix2 y z) = ((I.var (r0 + y.val) : ℝ) : EReal)) (y l : Fin 512) :
    k0_pay10 (F := Ideal) v28 v33 e (ix2 y l)
      = ((I.xh (r0 + y.val) l.val : ℝ) : EReal) := by
  pointwise [k0_pay10]
  simp only [h28, pay9_apply I r0 e he v33 h, ← EReal.coe_mul]
  rfl

omit he in
theorem pay11_apply (x2 v7 : FVec Ideal S512x512 .f32)
    (h2 : ∀ y l, x2 (ix2 y l) = ((I.u (r0 + y.val) l.val : ℝ) : EReal))
    (h7 : ∀ y l, v7 (ix2 y l) = ((I.gy (r0 + y.val) l.val : ℝ) : EReal)) (y l : Fin 512) :
    k0_pay11 (F := Ideal) x2 v7 (ix2 y l) = ((I.gmix (r0 + y.val) l.val : ℝ) : EReal) := by
  pointwise [k0_pay11]
  simp only [h2, h7, named_c, ofBits_c0, ofBits_half, ← EReal.coe_one, ← EReal.coe_mul, ← EReal.coe_add,
    Ideal.tanh_coe]
  rfl

omit he in
theorem pay13_apply (x2 v7 : FVec Ideal S512x512 .f32)
    (h2 : ∀ y l, x2 (ix2 y l) = ((I.u (r0 + y.val) l.val : ℝ) : EReal))
    (h7 : ∀ y l, v7 (ix2 y l) = ((I.gy (r0 + y.val) l.val : ℝ) : EReal)) (y l : Fin 512) :
    k0_pay13 (F := Ideal) x2 v7 (ix2 y l) = ((I.gmix (r0 + y.val) l.val : ℝ) : EReal) := by
  pointwise [k0_pay13]
  exact pay11_apply I r0 x2 v7 h2 h7 y l

theorem pay12_apply (x4 x5 : FVec Ideal S1x512 .f32) (v28 : FVec Ideal S512x512 .f32) (v33 : FVec Ideal S512x1 .f32)
    (h4 : ∀ z l, x4 (ix2 z l) = ((I.g l.val : ℝ) : EReal)) (h5 : ∀ z l, x5 (ix2 z l) = ((I.b l.val : ℝ) : EReal))
    (h28 : ∀ y l, v28 (ix2 y l) = ((I.xc (r0 + y.val) l.val : ℝ) : EReal))
    (h : ∀ y z, v33 (ix2 y z) = ((I.var (r0 + y.val) : ℝ) : EReal)) (y l : Fin 512) :
    k0_pay12 (F := Ideal) x4 x5 v28 v33 e (ix2 y l)
      = ((I.vln (r0 + y.val) l.val : ℝ) : EReal) := by
  pointwise [k0_pay12]
  simp only [pay10_apply I r0 e he v28 v33 h28 h, h4, h5, ← EReal.coe_mul, ← EReal.coe_add]
  rfl

omit he in
/-- The lower triangle of a mixing matrix. -/
theorem tri_apply (g : ℕ) (w : FVec Ideal S1x128x128 .f32)
    (h : ∀ z i j, w (ix3 z i j) = ((I.ws g i.val j.val : ℝ) : EReal)) (i j : Fin 128) :
    k0_pay14 (F := Ideal) w (ix2 i j) = ((I.tri g i.val j.val : ℝ) : EReal) := by
  pointwise [k0_pay14]
  rw [select_sge, h]
  show _ = (((if j.val ≤ i.val then I.ws g i.val j.val else 0) : ℝ) : EReal)
  split <;> rfl

end Cert.Sgu

end
-- ==== Proof.SguTile.lean ====
/- What the kernel computes for one group of lanes and one chunk of rows, on tiles of 128 by 128, read at an index
   over tiles that hold real numbers. -/
module

public import proofs.«01_k».proof.Proof.SguPay

@[expose] public section

set_option maxRecDepth 16384

noncomputable section

namespace Cert.Sgu

open Idealize.ShloMosaic Idealize.ShloMosaic.TcCoe Idealize.SL.Sem Idealize.ShloMosaic.StableHlo
open Cert.KernelIdeal Cert.KernelIdeal.Gen

/-- A tile filled with one number. -/
def full (w : BitVec 32) : FVec Ideal S128x128 .f32 := broadcast S128x128 (Scalar.ofBits (F := Ideal) .f32 w)

/-- The tanh inside gelu, on a tile. -/
def thTile (x : FVec Ideal S128x128 .f32) : FVec Ideal S128x128 .f32 :=
  tanh (mulf (full 0x3F4C422A#32) (addf x (mulf (mulf (mulf (broadcast S128x128
    (Named.named (F := Ideal) κ "gelu_cubic" (φ := .f32) 0x3D372713#32)) x) x) x)))

/-- The derivative of gelu, on a tile. -/
def dgeluTile (x : FVec Ideal S128x128 .f32) : FVec Ideal S128x128 .f32 :=
  addf (mulf (full 0x3F000000#32) (addf (full 0x3F800000#32) (thTile x)))
    (mulf (mulf (mulf (full 0x3F000000#32) x) (subf (full 0x3F800000#32) (mulf (thTile x) (thTile x))))
      (mulf (full 0x3F4C422A#32) (addf (full 0x3F800000#32) (mulf (mulf (broadcast S128x128
        (Named.named (F := Ideal) κ "gelu_cubic3" (φ := .f32) 0x3E095D4F#32)) x) x))))

/-- The gradient at the first half, on a tile: the incoming gradient times the mixed value times gelu's derivative. -/
def guTile (gy u : FVec Ideal S128x128 .f32) (w vl : FVec Ideal S128x128 .bf16) (b : FVec Ideal S128x1 .f32) :
    FVec Ideal S128x128 .f32 :=
  mulf (mulf gy (addf (matmul dot_S128x128_S128x128_S128x128_1_0_0_1_n_n none w vl
      (constant (F := Ideal) S128x128 .f32 0x00000000#32))
    (broadcastTo S128x128 (shapeCast S128x1 b shapeCasts_S128x1_S128x1) broadcasts_S128x1_S128x128))) (dgeluTile u)

/-- The product of a tile of mixed gradients with a tile of the norm's output, over the lanes. -/
def gwTile (gm vl : FVec Ideal S128x128 .bf16) : FVec Ideal S128x128 .f32 :=
  matmul dot_S128x128_S128x128_S128x128_1_1_0_0_n_n none gm vl (constant (F := Ideal) S128x128 .f32 0x00000000#32)

/-- The transposed triangle against a tile of mixed gradients. -/
def gvTile (w gm : FVec Ideal S128x128 .bf16) : FVec Ideal S128x128 .f32 :=
  matmul dot_S128x128_S128x128_S128x128_0_0_1_1_n_n none w gm (constant (F := Ideal) S128x128 .f32 0x00000000#32)

/-- The row sums of a tile. -/
def sumTile (gm : FVec Ideal S128x128 .f32) : FVec Ideal S128x1 .f32 :=
  shapeCast S128x1 (multiReduction .add [1] S128 gm 0x00000000#32 reduces_S128x128_S128 (.inl rfl) rfl) shapeCasts_S128_S128x1

/-- The mixing matrix's gradient after one more block: what it was plus the lower triangle of four tiles' products. -/
def gwStep (old : FVec Ideal S1x128x128 .f32) (p0 p1 p2 p3 : FVec Ideal S128x128 .f32) : FVec Ideal S1x128x128 .f32 :=
  shapeCast S1x128x128 (addf (shapeCast S128x128 old shapeCasts_S1x128x128_S128x128)
    (select (cmpi .sge (iota .tc S128x128 32 [0] iota_S128x128_d0_w32) (iota .tc S128x128 32 [1] iota_S128x128_d1_w32))
      (addf (addf (addf (addf (full 0x00000000#32) p0) p1) p2) p3) (full 0x00000000#32))) shapeCasts_S128x128_S1x128x128

/-- The mixing bias's gradient after one more block. -/
def gbsStep (old p0 p1 p2 p3 : FVec Ideal S128x1 .f32) : FVec Ideal S128x1 .f32 :=
  addf (shapeCast S128x1 old shapeCasts_S128x1_S128x1)
    (addf (addf (addf (addf (broadcast S128x1 (Scalar.ofBits (F := Ideal) .f32 0x00000000#32)) p0) p1) p2) p3)

theorem dgeluTile_apply (x : FVec Ideal S128x128 .f32) (a : ℝ) (i j : Fin 128) (h : x (ix2 i j) = ((a : ℝ) : EReal)) :
    dgeluTile x (ix2 i j) = ((dgelu a : ℝ) : EReal) := by
  pointwise [dgeluTile, thTile, full]
  simp only [h, named_c, named_c3, ofBits_c0, ofBits_half, ← EReal.coe_one, ← EReal.coe_mul, ← EReal.coe_add,
    ← EReal.coe_sub, Ideal.tanh_coe]
  rfl

theorem guTile_apply (gy u : FVec Ideal S128x128 .f32) (w vl : FVec Ideal S128x128 .bf16) (b : FVec Ideal S128x1 .f32)
    (fgy fu fb : ℝ) (fw fvl : Fin 128 → ℝ) (i j : Fin 128)
    (hgy : gy (ix2 i j) = (fgy : EReal)) (hu : u (ix2 i j) = (fu : EReal)) (hb : b (ix2 i 0) = (fb : EReal))
    (hw : ∀ k, w (ix2 i k) = (fw k : EReal)) (hvl : ∀ k, vl (ix2 k j) = (fvl k : EReal)) :
    guTile gy u w vl b (ix2 i j) = ((fgy * ((∑ k, fw k * fvl k) + fb) * dgelu fu : ℝ) : EReal) := by
  pointwise [guTile]
  simp only [dgeluTile_apply u fu i j hu, hgy, hb, hw, hvl, ← EReal.coe_mul, ← Reals.coe_sum, ← EReal.coe_add]

theorem gwTile_apply (gm vl : FVec Ideal S128x128 .bf16) (fg fv : Fin 128 → ℝ) (i j : Fin 128)
    (hg : ∀ k, gm (ix2 i k) = (fg k : EReal)) (hv : ∀ k, vl (ix2 j k) = (fv k : EReal)) :
    gwTile gm vl (ix2 i j) = ((∑ k, fg k * fv k : ℝ) : EReal) := by
  pointwise [gwTile]
  simp only [hg, hv, ← EReal.coe_mul, ← Reals.coe_sum]

theorem gvTile_apply (w gm : FVec Ideal S128x128 .bf16) (fw fg : Fin 128 → ℝ) (i j : Fin 128)
    (hw : ∀ k, w (ix2 k i) = (fw k : EReal)) (hg : ∀ k, gm (ix2 k j) = (fg k : EReal)) :
    gvTile w gm (ix2 i j) = ((∑ k, fw k * fg k : ℝ) : EReal) := by
  pointwise [gvTile]
  simp only [hg, hw, ← EReal.coe_mul, ← Reals.coe_sum]

theorem sumTile_apply (gm : FVec Ideal S128x128 .f32) (f : Fin 128 → ℝ) (i : Fin 128) (z : Fin 1)
    (hg : ∀ k, gm (ix2 i k) = (f k : EReal)) : sumTile gm (ix2 i z) = ((∑ k, f k : ℝ) : EReal) := by
  pointwise [sumTile]
  simp only [hg, ← Reals.coe_sum]

theorem gwStep_apply (old : FVec Ideal S1x128x128 .f32) (p0 p1 p2 p3 : FVec Ideal S128x128 .f32) (a0 a1 a2 a3 : ℝ)
    (z : Fin 1) (i j : Fin 128) (h0 : p0 (ix2 i j) = (a0 : EReal)) (h1 : p1 (ix2 i j) = (a1 : EReal))
    (h2 : p2 (ix2 i j) = (a2 : EReal)) (h3 : p3 (ix2 i j) = (a3 : EReal)) :
    gwStep old p0 p1 p2 p3 (ix3 z i j)
      = old (ix3 z i j) + (((if j.val ≤ i.val then a0 + a1 + a2 + a3 else 0) : ℝ) : EReal) := by
  pointwise [gwStep, full]
  obtain rfl : z = 0 := Subsingleton.elim _ _
  rw [select_sge]
  simp only [h0, h1, h2, h3, zero_add, ← EReal.coe_add]
  split <;> rfl

theorem gbsStep_apply (old p0 p1 p2 p3 : FVec Ideal S128x1 .f32) (a0 a1 a2 a3 : ℝ)
    (i : Fin 128) (z : Fin 1) (h0 : p0 (ix2 i z) = (a0 : EReal)) (h1 : p1 (ix2 i z) = (a1 : EReal))
    (h2 : p2 (ix2 i z) = (a2 : EReal)) (h3 : p3 (ix2 i z) = (a3 : EReal)) :
    gbsStep old p0 p1 p2 p3 (ix2 i z) = old (ix2 i z) + ((a0 + a1 + a2 + a3 : ℝ) : EReal) := by
  obtain rfl : z = 0 := Subsingleton.elim _ _
  pointwise [gbsStep]
  simp only [h0, h1, h2, h3, zero_add, ← EReal.coe_add]

/-- A tile cut out of a block, at an index. -/
theorem slice_apply {φ : FTy} (o0 o1 : ℕ) (x : FVec Ideal S512x512 φ) (hs : S512x512.Slices ![o0, o1] S128x128)
    (f : ℕ → ℕ → ℝ) (hx : ∀ y l : Fin 512, x (ix2 y l) = ((f y.val l.val : ℝ) : EReal)) (i j : Fin 128) :
    extractStridedSlice S128x128 ![o0, o1] x hs (ix2 i j) = ((f (o0 + i.val) (o1 + j.val) : ℝ) : EReal) := by
  have e := hs.2
  have e0 := e 0
  have e1 := e 1
  refine Eq.trans (congrArg x ?_) (hx ⟨o0 + i.val, ?_⟩ ⟨o1 + j.val, ?_⟩)
  · rw [eq_ix2 (fun a => _)]; rfl

end Cert.Sgu

end
-- ==== Proof.SguBlock.lean ====
/- What the kernel computes for one block of 512 rows, over blocks that hold real numbers. The block starts at row
   `r0`, a whole number of chunks of 128. -/
module

public import proofs.«01_k».proof.Proof.SguTile

@[expose] public section

set_option maxRecDepth 16384

noncomputable section

namespace Cert.Sgu

open Idealize.ShloMosaic Idealize.ShloMosaic.TcCoe Idealize.SL.Sem Idealize.ShloMosaic.StableHlo
open Cert.KernelIdeal Cert.KernelIdeal.Gen

/-- A block of 512 by 512 holds the rows from `r0` on of a real array. -/
abbrev Holds {φ : FTy} (r0 : ℕ) (x : FVec Ideal S512x512 φ) (f : ℕ → ℕ → ℝ) : Prop :=
  ∀ y l : Fin 512, x (ix2 y l) = ((f (r0 + y.val) l.val : ℝ) : EReal)

variable (I : In) (r0 : ℕ) (hr : r0 % 128 = 0)

theorem holds_slice {φ : FTy} (o0 o1 : ℕ) (x : FVec Ideal S512x512 φ) (hs : S512x512.Slices ![o0, o1] S128x128)
    (f : ℕ → ℕ → ℝ) (hx : Holds r0 x f) (i j : Fin 128) :
    extractStridedSlice S128x128 ![o0, o1] x hs (ix2 i j) = ((f (r0 + (o0 + i.val)) (o1 + j.val) : ℝ) : EReal) :=
  slice_apply o0 o1 x hs (fun a b => f (r0 + a) b) hx i j

include hr

/-- The gradient at the first half, on the tile of chunk offset `o0` and group `g`. -/
theorem gu_piece (o0 o1 g : ℕ) (ho : o0 % 128 = 0) (hg : o1 = g * 128)
    (gy u : FVec Ideal S512x512 .f32) (vl : FVec Ideal S512x512 .bf16) (w : FVec Ideal S128x128 .bf16)
    (b : FVec Ideal S128x1 .f32) (hgy : Holds r0 gy I.gy) (hu : Holds r0 u I.u) (hvl : Holds r0 vl I.vln)
    (hw : ∀ i j, w (ix2 i j) = ((I.tri g i.val j.val : ℝ) : EReal))
    (hb : ∀ i z, b (ix2 i z) = ((I.bs g i.val : ℝ) : EReal))
    (hs : S512x512.Slices ![o0, o1] S128x128) (i j : Fin 128) :
    guTile (extractStridedSlice S128x128 ![o0, o1] gy hs) (extractStridedSlice S128x128 ![o0, o1] u hs) w
        (extractStridedSlice S128x128 ![o0, o1] vl hs) b (ix2 i j)
      = ((I.gu (r0 + (o0 + i.val)) (o1 + j.val) : ℝ) : EReal) := by
  have hj := j.isLt
  have hi := i.isLt
  rw [guTile_apply _ _ w _ b _ _ _ _ _ i j (holds_slice r0 o0 o1 gy hs I.gy hgy i j) (holds_slice r0 o0 o1 u hs I.u hu i j)
    (hb i 0) (fun k => hw i k) (fun k => holds_slice r0 o0 o1 vl hs I.vln hvl k j)]
  have e1 : (o1 + j.val) / 128 = g := by omega
  have e2 : (r0 + (o0 + i.val)) % 128 = i.val := by omega
  have e3 : ∀ k : Fin 128, (r0 + (o0 + i.val)) / 128 * 128 + k.val = r0 + (o0 + k.val) := fun k => by omega
  simp only [In.gu, In.mixed, e1, e2, e3]

/-- The product of chunk `o0`'s tiles is that chunk's contribution to the mixing matrix's gradient. -/
theorem gw_piece (o0 o1 g : ℕ) (ho : o0 % 128 = 0) (hg : o1 = g * 128)
    (gm vl : FVec Ideal S512x512 .bf16) (hgm : Holds r0 gm I.gmix) (hvl : Holds r0 vl I.vln)
    (hs : S512x512.Slices ![o0, o1] S128x128) (i j : Fin 128) :
    gwTile (extractStridedSlice S128x128 ![o0, o1] gm hs) (extractStridedSlice S128x128 ![o0, o1] vl hs) (ix2 i j)
      = ((I.gwChunk ((r0 + o0) / 128) g i.val j.val : ℝ) : EReal) := by
  rw [gwTile_apply _ _ _ _ i j (fun k => holds_slice r0 o0 o1 gm hs I.gmix hgm i k)
    (fun k => holds_slice r0 o0 o1 vl hs I.vln hvl j k)]
  have e3 : ∀ k : ℕ, (r0 + o0) / 128 * 128 + k = r0 + (o0 + k) := fun k => by omega
  simp only [In.gwChunk, e3, hg]

/-- The row sums of chunk `o0`'s tile are that chunk's contribution to the mixing bias's gradient. -/
theorem gbs_piece (o0 o1 g : ℕ) (ho : o0 % 128 = 0) (hg : o1 = g * 128)
    (gm : FVec Ideal S512x512 .f32) (hgm : Holds r0 gm I.gmix)
    (hs : S512x512.Slices ![o0, o1] S128x128) (i : Fin 128) (z : Fin 1) :
    sumTile (extractStridedSlice S128x128 ![o0, o1] gm hs) (ix2 i z)
      = ((I.gbsChunk ((r0 + o0) / 128) g i.val : ℝ) : EReal) := by
  rw [sumTile_apply _ _ i z (fun k => holds_slice r0 o0 o1 gm hs I.gmix hgm i k)]
  have e3 : ∀ k : ℕ, (r0 + o0) / 128 * 128 + k = r0 + (o0 + k) := fun k => by omega
  simp only [In.gbsChunk, e3, hg]

/-- The transposed triangle against chunk `o0`'s tile: the gradient at the layer norm's output there. -/
theorem gv_piece (o0 o1 g : ℕ) (ho : o0 % 128 = 0) (hg : o1 = g * 128)
    (gm : FVec Ideal S512x512 .bf16) (w : FVec Ideal S128x128 .bf16) (hgm : Holds r0 gm I.gmix)
    (hw : ∀ i j, w (ix2 i j) = ((I.tri g i.val j.val : ℝ) : EReal))
    (hs : S512x512.Slices ![o0, o1] S128x128) (i j : Fin 128) :
    gvTile w (extractStridedSlice S128x128 ![o0, o1] gm hs) (ix2 i j)
      = ((I.gvln (r0 + (o0 + i.val)) (o1 + j.val) : ℝ) : EReal) := by
  have hj := j.isLt
  have hi := i.isLt
  rw [gvTile_apply w _ _ _ i j (fun k => hw k i) (fun k => holds_slice r0 o0 o1 gm hs I.gmix hgm k j)]
  have e1 : (o1 + j.val) / 128 = g := by omega
  have e2 : (r0 + (o0 + i.val)) % 128 = i.val := by omega
  have e3 : ∀ k : Fin 128, (r0 + (o0 + i.val)) / 128 * 128 + k.val = r0 + (o0 + k.val) := fun k => by omega
  simp only [In.gvln, e1, e2, e3]

omit hr

/-- Four tiles stacked along the rows. -/
theorem stack_apply (p0 p1 p2 p3 : FVec Ideal S128x128 .f32) (f : ℕ → ℕ → ℝ) (o1 : ℕ)
    (h0 : ∀ i j : Fin 128, p0 (ix2 i j) = ((f (r0 + (0 + i.val)) (o1 + j.val) : ℝ) : EReal))
    (h1 : ∀ i j : Fin 128, p1 (ix2 i j) = ((f (r0 + (128 + i.val)) (o1 + j.val) : ℝ) : EReal))
    (h2 : ∀ i j : Fin 128, p2 (ix2 i j) = ((f (r0 + (256 + i.val)) (o1 + j.val) : ℝ) : EReal))
    (h3 : ∀ i j : Fin 128, p3 (ix2 i j) = ((f (r0 + (384 + i.val)) (o1 + j.val) : ℝ) : EReal))
    (y : Fin 512) (j : Fin 128) :
    concatenate S512x128 0 [⟨S128x128, p0⟩, ⟨S128x128, p1⟩, ⟨S128x128, p2⟩, ⟨S128x128, p3⟩]
        concatenates_S128x128_S128x128_S128x128_S128x128_S512x128_d0 (ix2 y j)
      = ((f (r0 + y.val) (o1 + j.val) : ℝ) : EReal) := by
  pointwise []
  split
  · exact (h0 _ _).trans (congrArg₂ (fun a b => ((f a b : ℝ) : EReal)) (by show r0 + (0 + _) = _; dsimp only; omega) (rfl))
  split
  · exact (h1 _ _).trans (congrArg₂ (fun a b => ((f a b : ℝ) : EReal)) (by show r0 + (128 + _) = _; dsimp only; omega) (rfl))
  split
  · exact (h2 _ _).trans (congrArg₂ (fun a b => ((f a b : ℝ) : EReal)) (by show r0 + (256 + _) = _; dsimp only; omega) (rfl))
  · exact (h3 _ _).trans (congrArg₂ (fun a b => ((f a b : ℝ) : EReal)) (by show r0 + (384 + _) = _; dsimp only; omega) (rfl))

/-- Four columns of tiles side by side. -/
theorem beside_apply (p0 p1 p2 p3 : FVec Ideal S512x128 .f32) (f : ℕ → ℕ → ℝ)
    (h0 : ∀ (y : Fin 512) (j : Fin 128), p0 (ix2 y j) = ((f (r0 + y.val) (0 + j.val) : ℝ) : EReal))
    (h1 : ∀ (y : Fin 512) (j : Fin 128), p1 (ix2 y j) = ((f (r0 + y.val) (128 + j.val) : ℝ) : EReal))
    (h2 : ∀ (y : Fin 512) (j : Fin 128), p2 (ix2 y j) = ((f (r0 + y.val) (256 + j.val) : ℝ) : EReal))
    (h3 : ∀ (y : Fin 512) (j : Fin 128), p3 (ix2 y j) = ((f (r0 + y.val) (384 + j.val) : ℝ) : EReal))
    (y l : Fin 512) :
    concatenate S512x512 1 [⟨S512x128, p0⟩, ⟨S512x128, p1⟩, ⟨S512x128, p2⟩, ⟨S512x128, p3⟩]
        concatenates_S512x128_S512x128_S512x128_S512x128_S512x512_d1 (ix2 y l)
      = ((f (r0 + y.val) l.val : ℝ) : EReal) := by
  pointwise []
  split
  · exact (h0 _ _).trans (congrArg₂ (fun a b => ((f a b : ℝ) : EReal)) (rfl) (by show 0 + _ = _; dsimp only; omega))
  split
  · exact (h1 _ _).trans (congrArg₂ (fun a b => ((f a b : ℝ) : EReal)) (rfl) (by show 128 + _ = _; dsimp only; omega))
  split
  · exact (h2 _ _).trans (congrArg₂ (fun a b => ((f a b : ℝ) : EReal)) (rfl) (by show 256 + _ = _; dsimp only; omega))
  · exact (h3 _ _).trans (congrArg₂ (fun a b => ((f a b : ℝ) : EReal)) (rfl) (by show 384 + _ = _; dsimp only; omega))

/-- The gradient of the norm's scale after one more block. -/
theorem pay133_apply (v38 v925 : FVec Ideal S512x512 .f32) (old : FVec Ideal S1x512 .f32)
    (hx : Holds r0 v38 I.xh) (hg : Holds r0 v925 I.gvln) (z : Fin 1) (l : Fin 512) :
    k0_pay133 (F := Ideal) v38 v925 old (ix2 z l)
      = old (ix2 z l) + ((∑ y : Fin 512, I.gvln (r0 + y.val) l.val * I.xh (r0 + y.val) l.val : ℝ) : EReal) := by
  obtain rfl : z = 0 := Subsingleton.elim _ _
  pointwise [k0_pay133]
  simp only [hx _ _, hg _ _, ← EReal.coe_mul, ← Reals.coe_sum]

/-- The gradient of the norm's shift after one more block. -/
theorem pay134_apply (v925 : FVec Ideal S512x512 .f32) (old : FVec Ideal S1x512 .f32)
    (hg : Holds r0 v925 I.gvln) (z : Fin 1) (l : Fin 512) :
    k0_pay134 (F := Ideal) v925 old (ix2 z l)
      = old (ix2 z l) + ((∑ y : Fin 512, I.gvln (r0 + y.val) l.val : ℝ) : EReal) := by
  obtain rfl : z = 0 := Subsingleton.elim _ _
  pointwise [k0_pay134]
  simp only [hg _ _, ← Reals.coe_sum]

/-- The gradient at gelu of the second half. -/
theorem pay135_apply (v36 : FVec Ideal S512x1 .f32) (v38 v925 : FVec Ideal S512x512 .f32) (x4 : FVec Ideal S1x512 .f32)
    (hrs : ∀ (y : Fin 512) (z : Fin 1), v36 (ix2 y z) = ((I.rs (r0 + y.val) : ℝ) : EReal))
    (h4 : ∀ (z : Fin 1) (l : Fin 512), x4 (ix2 z l) = ((I.g l.val : ℝ) : EReal))
    (hx : Holds r0 v38 I.xh) (hg : Holds r0 v925 I.gvln) : Holds r0 (k0_pay135 (F := Ideal) v36 v38 v925 x4) I.ggv := by
  intro y l
  pointwise [k0_pay135]
  simp only [hx _ _, hg _ _, hrs, h4, ofBits_512, ← EReal.coe_mul, ← Reals.coe_sum, div_512, ← EReal.coe_sub]
  rfl

/-- The gradient at the second half. -/
theorem pay1_apply (x3 v957 : FVec Ideal S512x512 .f32) (hv : Holds r0 x3 I.v) (hg : Holds r0 v957 I.ggv) :
    Holds r0 (k0_pay1 (F := Ideal) x3 v957 (k0_pay136 (F := Ideal) x3)) I.gv := by
  intro y l
  pointwise [k0_pay1, k0_pay136]
  simp only [hv _ _, hg _ _, named_c, named_c3, ofBits_c0, ofBits_half, ← EReal.coe_one, ← EReal.coe_mul, ← EReal.coe_add,
    ← EReal.coe_sub, Ideal.tanh_coe]
  rfl

end Cert.Sgu

end
-- ==== Proof.SguPoint.lean ====
/- The gated mixer's backward kernel at one grid point: the blocks it reads are rows `512 t` on of arrays that hold real
   numbers, so every stage of the body holds the plain function of those arrays. -/
module

public import proofs.«01_k».proof.Proof.SguBlock
public import Idealize.ShloMosaic.Lib.Pipeline.ValueKit

@[expose] public section

set_option maxRecDepth 16384

noncomputable section

namespace Cert.Sgu

open Idealize.ShloMosaic Idealize.ShloMosaic.TcCoe Idealize.SL.Sem Idealize.ShloMosaic.StableHlo
open Cert.KernelIdeal Cert.KernelIdeal.Gen

variable (m : (ℓ : Loc nD τ sig) → Buf (Elt Ideal) ℓ) (I : In)

/-- The arrays that the region reads hold the real arguments. -/
structure Reads (c : Dev nD) : Prop where
  h0 : ∀ (r : Fin 4096) (k : Fin 1024), V m c main_arg0 (ix2 r k) = ((I.gyo r.val k.val : ℝ) : EReal)
  h1 : ∀ (l : Fin 512) (k : Fin 1024), V m c main_arg1 (ix2 ⟨512 + l.val, by omega⟩ k) = ((I.wo l.val k.val : ℝ) : EReal)
  h2 : ∀ (r : Fin 4096) (l : Fin 512), V m c main_arg2 (ix2 r ⟨512 + l.val, by omega⟩) = ((I.u r.val l.val : ℝ) : EReal)
  h3 : ∀ (r : Fin 4096) (l : Fin 512), V m c main_arg2 (ix2 r ⟨1024 + l.val, by omega⟩) = ((I.v r.val l.val : ℝ) : EReal)
  h4 : ∀ (z : Fin 1) (l : Fin 512), V m c main_arg3 (ix2 z l) = ((I.g l.val : ℝ) : EReal)
  h5 : ∀ (z : Fin 1) (l : Fin 512), V m c main_arg4 (ix2 z l) = ((I.b l.val : ℝ) : EReal)
  h6 : ∀ (g : Fin 4) (i j : Fin 128), V m c main_arg5 (ix3 g i j) = ((I.ws g.val i.val j.val : ℝ) : EReal)
  h7 : ∀ (i : Fin 128) (g : Fin 4), V m c main_v0 (ix2 i g) = ((I.bs g.val i.val : ℝ) : EReal)

/-- The blocks' indices at each grid point. -/
theorem idx : ∀ t, win0_0.index t = ![t.val, 0] ∧ win0_1.index t = ![1, 0]
    ∧ win0_2.index t = ![t.val, 1] ∧ win0_3.index t = ![t.val, 2]
    ∧ win0_4.index t = ![0, 0] ∧ win0_5.index t = ![0, 0] ∧ win0_6.index t = ![0, 0, 0] ∧ win0_7.index t = ![0, 0]
    ∧ win0_8.index t = ![t.val, 0] ∧ win0_9.index t = ![t.val, 0] ∧ win0_10.index t = ![0, 0, 0]
    ∧ win0_11.index t = ![0, 0] ∧ win0_12.index t = ![0, 0] ∧ win0_13.index t = ![0, 0] := by
  decide +kernel

theorem lt8 (t : Fin cfg0.N) : t.val < 8 := t.isLt

/-- The row of a block, in the whole array. -/
def row (t : Fin cfg0.N) (y : Fin 512) : Fin 4096 := ⟨512 * t.val + y.val, by have := lt8 t; omega⟩

variable {m I} {c : Dev nD} (H : Reads m I c) (t : Fin cfg0.N)
include H

theorem iblk0 (y : Fin 512) (k : Fin 1024) : iblk m c 0 t (ix2 y k) = ((I.gyo (512 * t.val + y.val) k.val : ℝ) : EReal) := by
  have e : iblk m c 0 t (ix2 y k) = V m c main_arg0 (ix2 (row t y) k) := by
    unfold row
    blk_ext [iblk, (idx t).1]
  rw [e, H.h0]; rfl

theorem iblk1 (l : Fin 512) (k : Fin 1024) : iblk m c 1 t (ix2 l k) = ((I.wo l.val k.val : ℝ) : EReal) := by
  have e : iblk m c 1 t (ix2 l k) = V m c main_arg1 (ix2 ⟨512 + l.val, by omega⟩ k) := by
    blk_ext [iblk, (idx t).2.1]
  rw [e, H.h1]

theorem iblk2 : Holds (512 * t.val) (φ := .f32) (iblk m c 2 t) I.u := by
  intro y l
  have e : iblk m c 2 t (ix2 y l) = V m c main_arg2 (ix2 (row t y) ⟨512 + l.val, by omega⟩) := by
    unfold row
    blk_ext [iblk, (idx t).2.2.1]
  rw [e, H.h2]; rfl

theorem iblk3 : Holds (512 * t.val) (φ := .f32) (iblk m c 3 t) I.v := by
  intro y l
  have e : iblk m c 3 t (ix2 y l) = V m c main_arg2 (ix2 (row t y) ⟨1024 + l.val, by omega⟩) := by
    unfold row
    blk_ext [iblk, (idx t).2.2.2.1]
  rw [e, H.h3]; rfl

theorem iblk4 (z : Fin 1) (l : Fin 512) : iblk m c 4 t (ix2 z l) = ((I.g l.val : ℝ) : EReal) := by
  have e : iblk m c 4 t (ix2 z l) = V m c main_arg3 (ix2 z l) := by blk_ext [iblk, (idx t).2.2.2.2.1]
  rw [e, H.h4]

theorem iblk5 (z : Fin 1) (l : Fin 512) : iblk m c 5 t (ix2 z l) = ((I.b l.val : ℝ) : EReal) := by
  have e : iblk m c 5 t (ix2 z l) = V m c main_arg4 (ix2 z l) := by blk_ext [iblk, (idx t).2.2.2.2.2.1]
  rw [e, H.h5]

theorem iblk6 (g : Fin 4) (i j : Fin 128) : iblk m c 6 t (ix3 g i j) = ((I.ws g.val i.val j.val : ℝ) : EReal) := by
  have e : iblk m c 6 t (ix3 g i j) = V m c main_arg5 (ix3 g i j) := by blk_ext [iblk, (idx t).2.2.2.2.2.2.1]
  rw [e, H.h6]

theorem iblk7 (i : Fin 128) (g : Fin 4) : iblk m c 7 t (ix2 i g) = ((I.bs g.val i.val : ℝ) : EReal) := by
  have e : iblk m c 7 t (ix2 i g) = V m c main_v0 (ix2 i g) := by blk_ext [iblk, (idx t).2.2.2.2.2.2.2.1]
  rw [e, H.h7]

omit H in
/-- The norm's epsilon as the body spells it. -/
theorem eps_eq : (FloatOps.ofBits (F := Ideal) FTy.f32 897988541#32) = ((epsR : ℝ) : EReal) := ofBits_eps

/-! The body's stages at the point. -/

theorem gy_at : Holds (512 * t.val) (φ := .f32) (k0_pay6 (F := Ideal) (iblk m c 0 t) (iblk m c 1 t)) I.gy :=
  pay6_apply I _ _ _ (iblk0 H t) (iblk1 H t)

theorem gmix32_at : Holds (512 * t.val) (φ := .f32)
    (k0_pay11 (F := Ideal) (iblk m c 2 t) (k0_pay6 (iblk m c 0 t) (iblk m c 1 t))) I.gmix :=
  pay11_apply I _ _ _ (iblk2 H t) (gy_at H t)

theorem gmix_at : Holds (512 * t.val) (φ := .bf16)
    (k0_pay13 (F := Ideal) (iblk m c 2 t) (k0_pay6 (iblk m c 0 t) (iblk m c 1 t))) I.gmix :=
  pay13_apply I _ _ _ (iblk2 H t) (gy_at H t)

theorem rs_at (y : Fin 512) (z : Fin 1) :
    k0_pay9 (F := Ideal) (k0_pay8 (iblk m c 3 t)) (FloatOps.ofBits FTy.f32 897988541#32) (ix2 y z)
      = ((I.rs (512 * t.val + y.val) : ℝ) : EReal) :=
  pay9_apply I _ _ eps_eq _ (pay8_apply I _ _ (iblk3 H t)) y z

theorem xh_at : Holds (512 * t.val) (φ := .f32)
    (k0_pay10 (F := Ideal) (k0_pay7 (iblk m c 3 t)) (k0_pay8 (iblk m c 3 t)) (FloatOps.ofBits FTy.f32 897988541#32)) I.xh :=
  pay10_apply I _ _ eps_eq _ _ (pay7_apply I _ _ (iblk3 H t)) (pay8_apply I _ _ (iblk3 H t))

theorem vln_at : Holds (512 * t.val) (φ := .bf16)
    (k0_pay12 (F := Ideal) (iblk m c 4 t) (iblk m c 5 t) (k0_pay7 (iblk m c 3 t)) (k0_pay8 (iblk m c 3 t))
      (FloatOps.ofBits FTy.f32 897988541#32)) I.vln :=
  pay12_apply I _ _ eps_eq _ _ _ _ (iblk4 H t) (iblk5 H t) (pay7_apply I _ _ (iblk3 H t)) (pay8_apply I _ _ (iblk3 H t))

/-- The lower triangle of group `g`, loaded from the block of mixing matrices. -/
theorem w_at (g : Fin 4) (hb : ∀ a, (![g.val, 0, 0] : Fin 3 → ℕ) a + (![1, 128, 128] : Fin 3 → ℕ) a ≤ S4x128x128.size a) (i j : Fin 128) :
    k0_pay14 (F := Ideal) (View.ld (iblk m c 6 t) (Rect.unit (s := S4x128x128) ![g.val, 0, 0] ![1, 128, 128] hb)) (ix2 i j)
      = ((I.tri g.val i.val j.val : ℝ) : EReal) := by
  refine tri_apply I g.val _ (fun z i j => ?_) i j
  refine (View.ld_unit_apply_of _ _ _ _ _ (ix3 g i j) fun a => ?_).trans (iblk6 H t g i j)
  obtain rfl : z = 0 := Subsingleton.elim _ _
  match a with
  | ⟨0, _⟩ => rfl
  | ⟨1, _⟩ => exact (Nat.zero_add _).symm
  | ⟨2, _⟩ => exact (Nat.zero_add _).symm

/-- The bias column of group `g`, loaded from the block of biases. -/
theorem b_at (g : Fin 4) (hb : ∀ a, (![0, g.val] : Fin 2 → ℕ) a + (![128, 1] : Fin 2 → ℕ) a ≤ S128x4.size a) (i : Fin 128) (z : Fin 1) :
    View.ld (iblk m c 7 t) (Rect.unit (s := S128x4) ![0, g.val] ![128, 1] hb) (ix2 i z)
      = ((I.bs g.val i.val : ℝ) : EReal) := by
  refine (View.ld_unit_apply_of _ _ _ _ _ (ix2 i g) fun a => ?_).trans (iblk7 H t i g)
  obtain rfl : z = 0 := Subsingleton.elim _ _
  match a with
  | ⟨0, _⟩ => exact (Nat.zero_add _).symm
  | ⟨1, _⟩ => rfl

omit H in
theorem r0_mod : (512 * t.val) % 128 = 0 := by omega

/-- The gradient at the first half on a tile, at an index of the block. -/
theorem gu_fin (o0 o1 : ℕ) (g : Fin 4) (ho : o0 % 128 = 0) (hg : o1 = g.val * 128)
    (hb6 : ∀ a, (![g.val, 0, 0] : Fin 3 → ℕ) a + (![1, 128, 128] : Fin 3 → ℕ) a ≤ S4x128x128.size a)
    (hb7 : ∀ a, (![0, g.val] : Fin 2 → ℕ) a + (![128, 1] : Fin 2 → ℕ) a ≤ S128x4.size a)
    (hs : S512x512.Slices ![o0, o1] S128x128) (x : S128x128.Idx) (y0 y1 : ℕ) (e0 : y0 = o0 + (x 0).val) (e1 : y1 = o1 + (x 1).val) :
    guTile (extractStridedSlice S128x128 ![o0, o1] (k0_pay6 (F := Ideal) (iblk m c 0 t) (iblk m c 1 t)) hs)
      (extractStridedSlice S128x128 ![o0, o1] (iblk m c 2 t) hs)
      (k0_pay14 (F := Ideal) (View.ld (iblk m c 6 t) (Rect.unit (s := S4x128x128) ![g.val, 0, 0] ![1, 128, 128] hb6)))
      (extractStridedSlice S128x128 ![o0, o1] (k0_pay12 (F := Ideal) (iblk m c 4 t) (iblk m c 5 t) (k0_pay7 (iblk m c 3 t))
        (k0_pay8 (iblk m c 3 t)) (FloatOps.ofBits FTy.f32 897988541#32)) hs)
      (View.ld (iblk m c 7 t) (Rect.unit (s := S128x4) ![0, g.val] ![128, 1] hb7)) x
      = ((I.gu (512 * t.val + y0) y1 : ℝ) : EReal) := by
  subst e0 e1
  exact (congrArg _ (eq_ix2 x)).trans (gu_piece I _ (r0_mod t) o0 o1 g.val ho hg _ _ _ _ _ (gy_at H t) (iblk2 H t)
    (vln_at H t) (w_at H t g hb6) (b_at H t g hb7) hs (x 0) (x 1))

end Cert.Sgu

end
-- ==== Proof.SguGu.lean ====
/- THE GATED MIXER'S BACKWARD KERNEL, THE FIRST HALF'S GRADIENT: what a grid point stores in that window, tile by tile. -/
module

public import proofs.«01_k».proof.Proof.SguPoint

@[expose] public section

set_option maxRecDepth 16384

noncomputable section

namespace Cert.Sgu

open Idealize.ShloMosaic Idealize.ShloMosaic.TcCoe Idealize.SL.Sem Idealize.ShloMosaic.StableHlo
open Cert.KernelIdeal Cert.KernelIdeal.Gen Cert.KernelIdeal.Value

variable {m : (ℓ : Loc nD τ sig) → Buf (Elt Ideal) ℓ} {I : In} {c : Dev nD} (H : Reads m I c) (t : Fin cfg0.N)
include H

/-- The gradient at the first half, as a point leaves it. -/
theorem outs_gu (y : S512x512.Idx) :
    (outsAt0 m c t.val t.isLt).1 y = ((I.gu (512 * t.val + (y 0).val) (y 1).val : ℝ) : EReal) := by
  by_cases h : t.val % 8 = 0
  · rw [outsAt0_A m c t h]
    frame_out
    canon_tiles x h
    case piece0 => exact gu_fin H t 384 384 3 rfl rfl _ _ _ x _ _ (by omega) (by omega)
    case piece1 => exact gu_fin H t 256 384 3 rfl rfl _ _ _ x _ _ (by omega) (by omega)
    case piece2 => exact gu_fin H t 128 384 3 rfl rfl _ _ _ x _ _ (by omega) (by omega)
    case piece3 => exact gu_fin H t 0 384 3 rfl rfl _ _ _ x _ _ (by omega) (by omega)
    case piece4 => exact gu_fin H t 384 256 2 rfl rfl _ _ _ x _ _ (by omega) (by omega)
    case piece5 => exact gu_fin H t 256 256 2 rfl rfl _ _ _ x _ _ (by omega) (by omega)
    case piece6 => exact gu_fin H t 128 256 2 rfl rfl _ _ _ x _ _ (by omega) (by omega)
    case piece7 => exact gu_fin H t 0 256 2 rfl rfl _ _ _ x _ _ (by omega) (by omega)
    case piece8 => exact gu_fin H t 384 128 1 rfl rfl _ _ _ x _ _ (by omega) (by omega)
    case piece9 => exact gu_fin H t 256 128 1 rfl rfl _ _ _ x _ _ (by omega) (by omega)
    case piece10 => exact gu_fin H t 128 128 1 rfl rfl _ _ _ x _ _ (by omega) (by omega)
    case piece11 => exact gu_fin H t 0 128 1 rfl rfl _ _ _ x _ _ (by omega) (by omega)
    case piece12 => exact gu_fin H t 384 0 0 rfl rfl _ _ _ x _ _ (by omega) (by omega)
    case piece13 => exact gu_fin H t 256 0 0 rfl rfl _ _ _ x _ _ (by omega) (by omega)
    case piece14 => exact gu_fin H t 128 0 0 rfl rfl _ _ _ x _ _ (by omega) (by omega)
    case piece15 => exact gu_fin H t 0 0 0 rfl rfl _ _ _ x _ _ (by omega) (by omega)
  · rw [outsAt0_B m c t h]
    frame_out
    canon_tiles x h
    case piece0 => exact gu_fin H t 384 384 3 rfl rfl _ _ _ x _ _ (by omega) (by omega)
    case piece1 => exact gu_fin H t 256 384 3 rfl rfl _ _ _ x _ _ (by omega) (by omega)
    case piece2 => exact gu_fin H t 128 384 3 rfl rfl _ _ _ x _ _ (by omega) (by omega)
    case piece3 => exact gu_fin H t 0 384 3 rfl rfl _ _ _ x _ _ (by omega) (by omega)
    case piece4 => exact gu_fin H t 384 256 2 rfl rfl _ _ _ x _ _ (by omega) (by omega)
    case piece5 => exact gu_fin H t 256 256 2 rfl rfl _ _ _ x _ _ (by omega) (by omega)
    case piece6 => exact gu_fin H t 128 256 2 rfl rfl _ _ _ x _ _ (by omega) (by omega)
    case piece7 => exact gu_fin H t 0 256 2 rfl rfl _ _ _ x _ _ (by omega) (by omega)
    case piece8 => exact gu_fin H t 384 128 1 rfl rfl _ _ _ x _ _ (by omega) (by omega)
    case piece9 => exact gu_fin H t 256 128 1 rfl rfl _ _ _ x _ _ (by omega) (by omega)
    case piece10 => exact gu_fin H t 128 128 1 rfl rfl _ _ _ x _ _ (by omega) (by omega)
    case piece11 => exact gu_fin H t 0 128 1 rfl rfl _ _ _ x _ _ (by omega) (by omega)
    case piece12 => exact gu_fin H t 384 0 0 rfl rfl _ _ _ x _ _ (by omega) (by omega)
    case piece13 => exact gu_fin H t 256 0 0 rfl rfl _ _ _ x _ _ (by omega) (by omega)
    case piece14 => exact gu_fin H t 128 0 0 rfl rfl _ _ _ x _ _ (by omega) (by omega)
    case piece15 => exact gu_fin H t 0 0 0 rfl rfl _ _ _ x _ _ (by omega) (by omega)

end Cert.Sgu

end
-- ==== Proof.SguGv.lean ====
/-
  THE GATED MIXER'S BACKWARD KERNEL, THE SECOND HALF'S GRADIENT: the gradient at the layer norm's output as a grid point
  assembles it from sixteen tiles, what it makes of it, and the two running sums over the rows.
-/
module

public import proofs.«01_k».proof.Proof.SguPoint

@[expose] public section

set_option maxRecDepth 16384

noncomputable section

namespace Cert.Sgu

open Idealize.ShloMosaic Idealize.ShloMosaic.TcCoe Idealize.SL.Sem Idealize.ShloMosaic.StableHlo
open Cert.KernelIdeal Cert.KernelIdeal.Gen Cert.KernelIdeal.Value

variable {m : (ℓ : Loc nD τ sig) → Buf (Elt Ideal) ℓ} {I : In} {c : Dev nD} (H : Reads m I c) (t : Fin cfg0.N)
include H

/-- The gradient at the layer norm's output over a block: a column of tiles per group, a tile per chunk of rows. -/
def gvBlock (w : Fin 4 → FVec Ideal S128x128 .bf16) (gm : FVec Ideal S512x512 .bf16) : FVec Ideal S512x512 .f32 :=
  let tile (o0 : ℕ) (g : Fin 4) (o1 : ℕ) (h : S512x512.Slices ![o0, o1] S128x128) := gvTile (w g) (extractStridedSlice S128x128 ![o0, o1] gm h)
  let col (g : Fin 4) (o1 : ℕ) (h0 : S512x512.Slices ![0, o1] S128x128) (h1 : S512x512.Slices ![128, o1] S128x128)
      (h2 : S512x512.Slices ![256, o1] S128x128) (h3 : S512x512.Slices ![384, o1] S128x128) : FVec Ideal S512x128 .f32 :=
    concatenate S512x128 0 [⟨S128x128, tile 0 g o1 h0⟩, ⟨S128x128, tile 128 g o1 h1⟩, ⟨S128x128, tile 256 g o1 h2⟩, ⟨S128x128, tile 384 g o1 h3⟩]
      concatenates_S128x128_S128x128_S128x128_S128x128_S512x128_d0
  concatenate S512x512 1
    [⟨S512x128, col 0 0 (by decide) (by decide) (by decide) (by decide)⟩,
     ⟨S512x128, col 1 128 (by decide) (by decide) (by decide) (by decide)⟩,
     ⟨S512x128, col 2 256 (by decide) (by decide) (by decide) (by decide)⟩,
     ⟨S512x128, col 3 384 (by decide) (by decide) (by decide) (by decide)⟩]
    concatenates_S512x128_S512x128_S512x128_S512x128_S512x512_d1

omit H in
theorem gvBlock_apply (w : Fin 4 → FVec Ideal S128x128 .bf16) (gm : FVec Ideal S512x512 .bf16) (hgm : Holds (512 * t.val) gm I.gmix)
    (hw : ∀ g i j, w g (ix2 i j) = ((I.tri g.val i.val j.val : ℝ) : EReal)) : Holds (512 * t.val) (gvBlock w gm) I.gvln := by
  have p : ∀ (o0 o1 : ℕ) (g : Fin 4) (ho : o0 % 128 = 0) (hg : o1 = g.val * 128) (hs : S512x512.Slices ![o0, o1] S128x128) (i j : Fin 128),
      gvTile (w g) (extractStridedSlice S128x128 ![o0, o1] gm hs) (ix2 i j)
        = ((I.gvln (512 * t.val + (o0 + i.val)) (o1 + j.val) : ℝ) : EReal) :=
    fun o0 o1 g ho hg hs i j => gv_piece I _ (r0_mod t) o0 o1 g.val ho hg gm (w g) hgm (hw g) hs i j
  intro y l
  exact beside_apply _ _ _ _ _ I.gvln
    (stack_apply _ _ _ _ _ I.gvln 0 (p 0 0 0 rfl rfl _) (p 128 0 0 rfl rfl _) (p 256 0 0 rfl rfl _) (p 384 0 0 rfl rfl _))
    (stack_apply _ _ _ _ _ I.gvln 128 (p 0 128 1 rfl rfl _) (p 128 128 1 rfl rfl _) (p 256 128 1 rfl rfl _) (p 384 128 1 rfl rfl _))
    (stack_apply _ _ _ _ _ I.gvln 256 (p 0 256 2 rfl rfl _) (p 128 256 2 rfl rfl _) (p 256 256 2 rfl rfl _) (p 384 256 2 rfl rfl _))
    (stack_apply _ _ _ _ _ I.gvln 384 (p 0 384 3 rfl rfl _) (p 128 384 3 rfl rfl _) (p 256 384 3 rfl rfl _) (p 384 384 3 rfl rfl _)) y l

/-- The gradient at the layer norm's output, as a point assembles it. -/
theorem gvln_at (hb : ∀ (g : Fin 4) a, (![g.val, 0, 0] : Fin 3 → ℕ) a + (![1, 128, 128] : Fin 3 → ℕ) a ≤ S4x128x128.size a) :
    Holds (512 * t.val) (gvBlock (fun g => k0_pay14 (F := Ideal) (View.ld (iblk m c 6 t) (Rect.unit (s := S4x128x128) ![g.val, 0, 0] ![1, 128, 128] (hb g))))
      (k0_pay13 (F := Ideal) (iblk m c 2 t) (k0_pay6 (iblk m c 0 t) (iblk m c 1 t)))) I.gvln :=
  gvBlock_apply t _ _ (gmix_at H t) fun g => w_at H t g (hb g)

omit H in
theorem inb_group (g : Fin 4) (a : Fin 3) : (![g.val, 0, 0] : Fin 3 → ℕ) a + (![1, 128, 128] : Fin 3 → ℕ) a ≤ S4x128x128.size a := by
  revert g a; decide

/-- The gradient at the second half, as a point leaves it. -/
theorem outs_gv (y : S512x512.Idx) :
    (outsAt0 m c t.val t.isLt).2.1 y = ((I.gv (512 * t.val + (y 0).val) (y 1).val : ℝ) : EReal) := by
  by_cases h : t.val % 8 = 0
  · rw [outsAt0_A m c t h]
    frame_out
    exact (congrArg _ (eq_ix2 y)).trans (pay1_apply I _ _ _ (iblk3 H t)
      (pay135_apply I _ _ _ _ _ (rs_at H t) (iblk4 H t) (xh_at H t) (gvln_at H t inb_group)) (y 0) (y 1))
  · rw [outsAt0_B m c t h]
    frame_out
    exact (congrArg _ (eq_ix2 y)).trans (pay1_apply I _ _ _ (iblk3 H t)
      (pay135_apply I _ _ _ _ _ (rs_at H t) (iblk4 H t) (xh_at H t) (gvln_at H t inb_group)) (y 0) (y 1))

/-- What a point adds to the gradient of the norm's scale. -/
def ggPart (I : In) (t l : ℕ) : ℝ := ∑ y : Fin 512, I.gvln (512 * t + y.val) l * I.xh (512 * t + y.val) l
/-- What a point adds to the gradient of the norm's shift. -/
def gbPart (I : In) (t l : ℕ) : ℝ := ∑ y : Fin 512, I.gvln (512 * t + y.val) l

theorem outs_gg_first (h : t.val % 8 = 0) (y : S1x512.Idx) :
    (outsAt0 m c t.val t.isLt).2.2.2.2.1 y = ((ggPart I t.val (y 1).val : ℝ) : EReal) := by
  rw [outsAt0_A m c t h]
  frame_out
  exact ((congrArg _ (eq_ix2 y)).trans (pay133_apply I _ _ _ _ (xh_at H t) (gvln_at H t inb_group) (y 0) (y 1))).trans
    ((congrArg (· + _) (by pointwise [k0_pay4])).trans (zero_add _))

theorem outs_gb_first (h : t.val % 8 = 0) (y : S1x512.Idx) :
    (outsAt0 m c t.val t.isLt).2.2.2.2.2 y = ((gbPart I t.val (y 1).val : ℝ) : EReal) := by
  rw [outsAt0_A m c t h]
  frame_out
  exact ((congrArg _ (eq_ix2 y)).trans (pay134_apply I _ _ _ (gvln_at H t inb_group) (y 0) (y 1))).trans
    ((congrArg (· + _) (by pointwise [k0_pay5])).trans (zero_add _))

theorem outs_gg_next (h : ¬ t.val % 8 = 0) (y : S1x512.Idx) :
    (outsAt0 m c t.val t.isLt).2.2.2.2.1 y
      = (outsAt0 m c (t.val - 1) (by omega)).2.2.2.2.1 y + ((ggPart I t.val (y 1).val : ℝ) : EReal) := by
  rw [outsAt0_B m c t h]
  frame_out
  exact ((congrArg _ (eq_ix2 y)).trans (pay133_apply I _ _ _ _ (xh_at H t) (gvln_at H t inb_group) (y 0) (y 1))).trans
    (congrArg (· + _) (congrArg _ (eq_ix2 y).symm))

theorem outs_gb_next (h : ¬ t.val % 8 = 0) (y : S1x512.Idx) :
    (outsAt0 m c t.val t.isLt).2.2.2.2.2 y
      = (outsAt0 m c (t.val - 1) (by omega)).2.2.2.2.2 y + ((gbPart I t.val (y 1).val : ℝ) : EReal) := by
  rw [outsAt0_B m c t h]
  frame_out
  exact ((congrArg _ (eq_ix2 y)).trans (pay134_apply I _ _ _ (gvln_at H t inb_group) (y 0) (y 1))).trans
    (congrArg (· + _) (congrArg _ (eq_ix2 y).symm))

end Cert.Sgu

end
-- ==== Proof.SguAcc.lean ====
/-
  THE GATED MIXER'S BACKWARD KERNEL, THE MIXING MATRIX'S AND BIAS'S GRADIENTS: what a grid point adds to each.
-/
module

public import proofs.«01_k».proof.Proof.SguPoint
public import Idealize.ShloMosaic.Lib.Pipeline.ReadBack

@[expose] public section

set_option maxRecDepth 16384

noncomputable section

namespace Cert.Sgu

open Idealize.ShloMosaic Idealize.ShloMosaic.TcCoe Idealize.SL.Sem Idealize.ShloMosaic.StableHlo
open Cert.KernelIdeal Cert.KernelIdeal.Gen Cert.KernelIdeal.Value

variable {m : (ℓ : Loc nD τ sig) → Buf (Elt Ideal) ℓ} {I : In} {c : Dev nD} (H : Reads m I c) (t : Fin cfg0.N)
include H

/-- What a point adds to the gradient of group `g`'s mixing matrix: four chunks' products, on the lower triangle. -/
def gwPart (I : In) (t g i j : ℕ) : ℝ :=
  if j ≤ i then I.gwChunk (4 * t) g i j + I.gwChunk (4 * t + 1) g i j + I.gwChunk (4 * t + 2) g i j + I.gwChunk (4 * t + 3) g i j else 0

/-- What a point adds to the gradient of group `g`'s mixing bias. -/
def gbsPart (I : In) (t g i : ℕ) : ℝ :=
  I.gbsChunk (4 * t) g i + I.gbsChunk (4 * t + 1) g i + I.gbsChunk (4 * t + 2) g i + I.gbsChunk (4 * t + 3) g i

omit H in
theorem chunk0 : (512 * t.val + 0) / 128 = 4 * t.val := by omega
omit H in
theorem chunk1 : (512 * t.val + 128) / 128 = 4 * t.val + 1 := by omega
omit H in
theorem chunk2 : (512 * t.val + 256) / 128 = 4 * t.val + 2 := by omega
omit H in
theorem chunk3 : (512 * t.val + 384) / 128 = 4 * t.val + 3 := by omega

/-- A group's step of the mixing matrix's gradient, at an index. -/
theorem gw_fin (o1 g : ℕ) (hg : o1 = g * 128) (old : FVec Ideal S1x128x128 .f32)
    (hs0 : S512x512.Slices ![0, o1] S128x128) (hs1 : S512x512.Slices ![128, o1] S128x128)
    (hs2 : S512x512.Slices ![256, o1] S128x128) (hs3 : S512x512.Slices ![384, o1] S128x128) (x : S1x128x128.Idx)
    (y0 y1 y2 : ℕ) (e0 : y0 = g + (x 0).val) (e1 : y1 = (x 1).val) (e2 : y2 = (x 2).val) :
    let gm := k0_pay13 (F := Ideal) (iblk m c 2 t) (k0_pay6 (iblk m c 0 t) (iblk m c 1 t))
    let vl := k0_pay12 (F := Ideal) (iblk m c 4 t) (iblk m c 5 t) (k0_pay7 (iblk m c 3 t)) (k0_pay8 (iblk m c 3 t))
      (FloatOps.ofBits FTy.f32 897988541#32)
    gwStep old
      (gwTile (extractStridedSlice S128x128 ![0, o1] gm hs0) (extractStridedSlice S128x128 ![0, o1] vl hs0))
      (gwTile (extractStridedSlice S128x128 ![128, o1] gm hs1) (extractStridedSlice S128x128 ![128, o1] vl hs1))
      (gwTile (extractStridedSlice S128x128 ![256, o1] gm hs2) (extractStridedSlice S128x128 ![256, o1] vl hs2))
      (gwTile (extractStridedSlice S128x128 ![384, o1] gm hs3) (extractStridedSlice S128x128 ![384, o1] vl hs3)) x
      = old x + ((gwPart I t.val y0 y1 y2 : ℝ) : EReal) := by
  intro gm vl
  have x0 : (x 0).val = 0 := by have := (x 0).isLt; change _ < 1 at this; omega
  obtain rfl : y0 = g := by omega
  subst e1 e2
  have p : ∀ (o0 : ℕ) (ho : o0 % 128 = 0) (hs : S512x512.Slices ![o0, o1] S128x128), _ :=
    fun o0 ho hs => gw_piece I _ (r0_mod t) o0 o1 y0 ho hg gm vl (gmix_at H t) (vln_at H t) hs (x 1) (x 2)
  refine (congrArg _ (eq_ix3 x)).trans ((gwStep_apply old _ _ _ _ _ _ _ _ (x 0) (x 1) (x 2) (p 0 rfl hs0) (p 128 rfl hs1) (p 256 rfl hs2)
    (p 384 rfl hs3)).trans ?_)
  rw [chunk0, chunk1, chunk2, chunk3]
  exact congrArg (· + _) (congrArg _ (eq_ix3 x).symm)

/-- A group's step of the mixing bias's gradient, at an index. -/
theorem gbs_fin (o1 g : ℕ) (hg : o1 = g * 128) (old : FVec Ideal S128x1 .f32)
    (hs0 : S512x512.Slices ![0, o1] S128x128) (hs1 : S512x512.Slices ![128, o1] S128x128)
    (hs2 : S512x512.Slices ![256, o1] S128x128) (hs3 : S512x512.Slices ![384, o1] S128x128) (x : S128x1.Idx)
    (y0 y1 : ℕ) (e0 : y0 = (x 0).val) (e1 : y1 = g + (x 1).val) :
    let gm := k0_pay11 (F := Ideal) (iblk m c 2 t) (k0_pay6 (iblk m c 0 t) (iblk m c 1 t))
    gbsStep old
      (sumTile (extractStridedSlice S128x128 ![0, o1] gm hs0)) (sumTile (extractStridedSlice S128x128 ![128, o1] gm hs1))
      (sumTile (extractStridedSlice S128x128 ![256, o1] gm hs2)) (sumTile (extractStridedSlice S128x128 ![384, o1] gm hs3)) x
      = old x + ((gbsPart I t.val y1 y0 : ℝ) : EReal) := by
  intro gm
  have x1 : (x 1).val = 0 := by have := (x 1).isLt; change _ < 1 at this; omega
  obtain rfl : y1 = g := by omega
  subst e0
  have p : ∀ (o0 : ℕ) (ho : o0 % 128 = 0) (hs : S512x512.Slices ![o0, o1] S128x128), _ :=
    fun o0 ho hs => gbs_piece I _ (r0_mod t) o0 o1 y1 ho hg gm (gmix32_at H t) hs (x 0) (x 1)
  refine (congrArg _ (eq_ix2 x)).trans ((gbsStep_apply old _ _ _ _ _ _ _ _ (x 0) (x 1) (p 0 rfl hs0) (p 128 rfl hs1) (p 256 rfl hs2)
    (p 384 rfl hs3)).trans ?_)
  rw [chunk0, chunk1, chunk2, chunk3]
  exact congrArg (· + _) (congrArg _ (eq_ix2 x).symm)

omit H in
/-- Earlier stores do not show at an index which a later store covers. -/
theorem canon_append_covered {Val : EltTy → Type} {e : EltTy} [∀ e, Nonempty (Val e)] {S : Shape} (L' : List (View.Piece Val S e)) :
    ∀ (L : List (View.Piece Val S e)) (y : S.Idx), (∃ p ∈ L, y ∈ p.1.set) → View.canon (L ++ L') y = View.canon L y
  | [], _, hy => by obtain ⟨p, hp, _⟩ := hy; simp at hp
  | p :: L, y, hy => by
    by_cases hm : y ∈ p.1.set
    · obtain ⟨x, rfl⟩ := p.1.exists_idx_of_mem hm
      rw [List.cons_append, show p.1.idx x = p.1.emb x from rfl, View.canon_cons_emb, View.canon_cons_emb]
    · rw [List.cons_append, View.canon_cons_of_not_mem _ _ hm, View.canon_cons_of_not_mem _ _ hm]
      obtain ⟨q, hq, hyq⟩ := hy
      rcases List.mem_cons.mp hq with rfl | hq'
      · exact absurd hyq hm
      · exact canon_append_covered L' L y ⟨q, hq', hyq⟩

omit H in
/-- The four groups' matrices cover the array of matrices. -/
theorem gw_cover {Val : EltTy → Type} {e : EltTy} [∀ e, Nonempty (Val e)] (y : S4x128x128.Idx) (w0 w1 w2 w3 : S1x128x128.Idx → Val e) :
    ∃ p ∈ ([⟨Rect.unit ![3, 0, 0] ![1, 128, 128] inb_S4x128x128_S1x128x128_3_0_0, w3⟩,
        ⟨Rect.unit ![2, 0, 0] ![1, 128, 128] inb_S4x128x128_S1x128x128_2_0_0, w2⟩,
        ⟨Rect.unit ![1, 0, 0] ![1, 128, 128] inb_S4x128x128_S1x128x128_1_0_0, w1⟩,
        ⟨Rect.unit ![0, 0, 0] ![1, 128, 128] inb_S4x128x128_S1x128x128_0_0_0, w0⟩] : List (View.Piece Val S4x128x128 e)), y ∈ p.1.set :=
  View.cover_of_tiledL (s := S4x128x128) _ ![1, 128, 128] (by sl_kernel_rfl) y

omit H in
/-- The four groups' columns cover the array of biases. -/
theorem gbs_cover {Val : EltTy → Type} {e : EltTy} [∀ e, Nonempty (Val e)] (y : S128x4.Idx) (w0 w1 w2 w3 : S128x1.Idx → Val e) :
    ∃ p ∈ ([⟨Rect.unit ![0, 3] ![128, 1] inb_S128x4_S128x1_0_3, w3⟩, ⟨Rect.unit ![0, 2] ![128, 1] inb_S128x4_S128x1_0_2, w2⟩,
        ⟨Rect.unit ![0, 1] ![128, 1] inb_S128x4_S128x1_0_1, w1⟩,
        ⟨Rect.unit ![0, 0] ![128, 1] inb_S128x4_S128x1_0_0, w0⟩] : List (View.Piece Val S128x4 e)), y ∈ p.1.set :=
  View.cover_of_tiledL (s := S128x4) _ ![128, 1] (by sl_kernel_rfl) y

omit H in
theorem pay2_zero (y : S4x128x128.Idx) : k0_pay2 (F := Ideal) y = 0 := by
  rw [eq_ix3 y]; pointwise [k0_pay2]
omit H in
theorem pay3_zero (y : S128x4.Idx) : k0_pay3 (F := Ideal) y = 0 := by
  rw [eq_ix2 y]; pointwise [k0_pay3]

theorem outs_gw_first (h : t.val % 8 = 0) (y : S4x128x128.Idx) :
    (outsAt0 m c t.val t.isLt).2.2.1 y = ((gwPart I t.val (y 0).val (y 1).val (y 2).val : ℝ) : EReal) := by
  rw [outsAt0_A m c t h]
  frame_open
  simp (disch := decide) only [↓ View.readCov_skip, ↓ View.readCov_cons_toLoadRect, ↓ View.readCov_fill]
  frame_out
  refine (canon_append_covered [_] [_, _, _, _] y (gw_cover y _ _ _ _)).trans ?_
  canon_tiles x h
  case piece0 => exact (gw_fin H t 384 3 rfl _ slices_S512x512_o0_384_S128x128 slices_S512x512_o128_384_S128x128 slices_S512x512_o256_384_S128x128 slices_S512x512_o384_384_S128x128 x _ _ _ (by omega) (by omega) (by omega)).trans ((congrArg (· + _) (pay2_zero _)).trans (zero_add _))
  case piece1 => exact (gw_fin H t 256 2 rfl _ slices_S512x512_o0_256_S128x128 slices_S512x512_o128_256_S128x128 slices_S512x512_o256_256_S128x128 slices_S512x512_o384_256_S128x128 x _ _ _ (by omega) (by omega) (by omega)).trans ((congrArg (· + _) (pay2_zero _)).trans (zero_add _))
  case piece2 => exact (gw_fin H t 128 1 rfl _ slices_S512x512_o0_128_S128x128 slices_S512x512_o128_128_S128x128 slices_S512x512_o256_128_S128x128 slices_S512x512_o384_128_S128x128 x _ _ _ (by omega) (by omega) (by omega)).trans ((congrArg (· + _) (pay2_zero _)).trans (zero_add _))
  case piece3 => exact (gw_fin H t 0 0 rfl _ slices_S512x512_o0_0_S128x128 slices_S512x512_o128_0_S128x128 slices_S512x512_o256_0_S128x128 slices_S512x512_o384_0_S128x128 x _ _ _ (by omega) (by omega) (by omega)).trans ((congrArg (· + _) (pay2_zero _)).trans (zero_add _))

theorem outs_gw_next (h : ¬ t.val % 8 = 0) (y : S4x128x128.Idx) :
    (outsAt0 m c t.val t.isLt).2.2.1 y
      = (outsAt0 m c (t.val - 1) (by omega)).2.2.1 y + ((gwPart I t.val (y 0).val (y 1).val (y 2).val : ℝ) : EReal) := by
  rw [outsAt0_B m c t h]
  frame_open
  simp (disch := decide) only [↓ View.readCov_skip, ↓ View.readCov_cons_toLoadRect, ↓ View.readCov_fill]
  frame_out
  canon_tiles x h
  case piece0 => exact (gw_fin H t 384 3 rfl _ slices_S512x512_o0_384_S128x128 slices_S512x512_o128_384_S128x128 slices_S512x512_o256_384_S128x128 slices_S512x512_o384_384_S128x128 x _ _ _ (by omega) (by omega) (by omega)).trans (congrArg (· + _) (View.ld_unit_apply_of _ _ _ _ _ y fun a => by match a with | ⟨0, _⟩ => exact h0 | ⟨1, _⟩ => exact h1.trans (Nat.zero_add _).symm | ⟨2, _⟩ => exact h2.trans (Nat.zero_add _).symm))
  case piece1 => exact (gw_fin H t 256 2 rfl _ slices_S512x512_o0_256_S128x128 slices_S512x512_o128_256_S128x128 slices_S512x512_o256_256_S128x128 slices_S512x512_o384_256_S128x128 x _ _ _ (by omega) (by omega) (by omega)).trans (congrArg (· + _) (View.ld_unit_apply_of _ _ _ _ _ y fun a => by match a with | ⟨0, _⟩ => exact h0 | ⟨1, _⟩ => exact h1.trans (Nat.zero_add _).symm | ⟨2, _⟩ => exact h2.trans (Nat.zero_add _).symm))
  case piece2 => exact (gw_fin H t 128 1 rfl _ slices_S512x512_o0_128_S128x128 slices_S512x512_o128_128_S128x128 slices_S512x512_o256_128_S128x128 slices_S512x512_o384_128_S128x128 x _ _ _ (by omega) (by omega) (by omega)).trans (congrArg (· + _) (View.ld_unit_apply_of _ _ _ _ _ y fun a => by match a with | ⟨0, _⟩ => exact h0 | ⟨1, _⟩ => exact h1.trans (Nat.zero_add _).symm | ⟨2, _⟩ => exact h2.trans (Nat.zero_add _).symm))
  case piece3 => exact (gw_fin H t 0 0 rfl _ slices_S512x512_o0_0_S128x128 slices_S512x512_o128_0_S128x128 slices_S512x512_o256_0_S128x128 slices_S512x512_o384_0_S128x128 x _ _ _ (by omega) (by omega) (by omega)).trans (congrArg (· + _) (View.ld_unit_apply_of _ _ _ _ _ y fun a => by match a with | ⟨0, _⟩ => exact h0.trans (Nat.zero_add _).symm | ⟨1, _⟩ => exact h1.trans (Nat.zero_add _).symm | ⟨2, _⟩ => exact h2.trans (Nat.zero_add _).symm))

theorem outs_gbs_first (h : t.val % 8 = 0) (y : S128x4.Idx) :
    (outsAt0 m c t.val t.isLt).2.2.2.1 y = ((gbsPart I t.val (y 1).val (y 0).val : ℝ) : EReal) := by
  rw [outsAt0_A m c t h]
  frame_open
  simp (disch := decide) only [↓ View.readCov_skip, ↓ View.readCov_cons_toLoadRect, ↓ View.readCov_fill]
  frame_out
  refine (canon_append_covered [_] [_, _, _, _] y (gbs_cover y _ _ _ _)).trans ?_
  canon_tiles x h
  case piece0 => exact (gbs_fin H t 384 3 rfl _ slices_S512x512_o0_384_S128x128 slices_S512x512_o128_384_S128x128 slices_S512x512_o256_384_S128x128 slices_S512x512_o384_384_S128x128 x _ _ (by omega) (by omega)).trans ((congrArg (· + _) (pay3_zero _)).trans (zero_add _))
  case piece1 => exact (gbs_fin H t 256 2 rfl _ slices_S512x512_o0_256_S128x128 slices_S512x512_o128_256_S128x128 slices_S512x512_o256_256_S128x128 slices_S512x512_o384_256_S128x128 x _ _ (by omega) (by omega)).trans ((congrArg (· + _) (pay3_zero _)).trans (zero_add _))
  case piece2 => exact (gbs_fin H t 128 1 rfl _ slices_S512x512_o0_128_S128x128 slices_S512x512_o128_128_S128x128 slices_S512x512_o256_128_S128x128 slices_S512x512_o384_128_S128x128 x _ _ (by omega) (by omega)).trans ((congrArg (· + _) (pay3_zero _)).trans (zero_add _))
  case piece3 => exact (gbs_fin H t 0 0 rfl _ slices_S512x512_o0_0_S128x128 slices_S512x512_o128_0_S128x128 slices_S512x512_o256_0_S128x128 slices_S512x512_o384_0_S128x128 x _ _ (by omega) (by omega)).trans ((congrArg (· + _) (pay3_zero _)).trans (zero_add _))

theorem outs_gbs_next (h : ¬ t.val % 8 = 0) (y : S128x4.Idx) :
    (outsAt0 m c t.val t.isLt).2.2.2.1 y
      = (outsAt0 m c (t.val - 1) (by omega)).2.2.2.1 y + ((gbsPart I t.val (y 1).val (y 0).val : ℝ) : EReal) := by
  rw [outsAt0_B m c t h]
  frame_open
  simp (disch := decide) only [↓ View.readCov_skip, ↓ View.readCov_cons_toLoadRect, ↓ View.readCov_fill]
  frame_out
  canon_tiles x h
  case piece0 => exact (gbs_fin H t 384 3 rfl _ slices_S512x512_o0_384_S128x128 slices_S512x512_o128_384_S128x128 slices_S512x512_o256_384_S128x128 slices_S512x512_o384_384_S128x128 x _ _ (by omega) (by omega)).trans (congrArg (· + _) (View.ld_unit_apply_of _ _ _ _ _ y fun a => by match a with | ⟨0, _⟩ => exact h0.trans (Nat.zero_add _).symm | ⟨1, _⟩ => exact h1))
  case piece1 => exact (gbs_fin H t 256 2 rfl _ slices_S512x512_o0_256_S128x128 slices_S512x512_o128_256_S128x128 slices_S512x512_o256_256_S128x128 slices_S512x512_o384_256_S128x128 x _ _ (by omega) (by omega)).trans (congrArg (· + _) (View.ld_unit_apply_of _ _ _ _ _ y fun a => by match a with | ⟨0, _⟩ => exact h0.trans (Nat.zero_add _).symm | ⟨1, _⟩ => exact h1))
  case piece2 => exact (gbs_fin H t 128 1 rfl _ slices_S512x512_o0_128_S128x128 slices_S512x512_o128_128_S128x128 slices_S512x512_o256_128_S128x128 slices_S512x512_o384_128_S128x128 x _ _ (by omega) (by omega)).trans (congrArg (· + _) (View.ld_unit_apply_of _ _ _ _ _ y fun a => by match a with | ⟨0, _⟩ => exact h0.trans (Nat.zero_add _).symm | ⟨1, _⟩ => exact h1))
  case piece3 => exact (gbs_fin H t 0 0 rfl _ slices_S512x512_o0_0_S128x128 slices_S512x512_o128_0_S128x128 slices_S512x512_o256_0_S128x128 slices_S512x512_o384_0_S128x128 x _ _ (by omega) (by omega)).trans (congrArg (· + _) (View.ld_unit_apply_of _ _ _ _ _ y fun a => by match a with | ⟨0, _⟩ => exact h0.trans (Nat.zero_add _).symm | ⟨1, _⟩ => exact h1.trans (Nat.zero_add _).symm))

end Cert.Sgu

end
-- ==== Proof.SguKernel.lean ====
/-
  THE GATED MIXER'S BACKWARD KERNEL, ITS RESULT ARRAYS. The two gradients over the rows are tiled by the grid points'
  blocks; the four gradients of the parameters are sums over the points, in the array after the last one.
-/
module

public import proofs.«01_k».proof.Proof.SguGu
public import proofs.«01_k».proof.Proof.SguGv
public import proofs.«01_k».proof.Proof.SguAcc
public import Idealize.ShloMosaic.Lib.Pipeline.ValueKit

@[expose] public section

set_option maxRecDepth 16384

noncomputable section

namespace Cert.Sgu

open Idealize.ShloMosaic Idealize.ShloMosaic.TcCoe Idealize.SL.Sem Idealize.ShloMosaic.StableHlo
open Cert.KernelIdeal Cert.KernelIdeal.Gen Cert.KernelIdeal.Value

variable {m : (ℓ : Loc nD τ sig) → Buf (Elt Ideal) ℓ} {I : In} {c : Dev nD} (H : Reads m I c)

/-- A quantity that the first point sets and every later point adds to is the sum over the points so far. -/
theorem acc_eq (f : (n : ℕ) → n < cfg0.N → EReal) (C : ℕ → ℝ)
    (h0 : ∀ t : Fin cfg0.N, t.val % 8 = 0 → f t.val t.isLt = ((C t.val : ℝ) : EReal))
    (h1 : ∀ t : Fin cfg0.N, ¬ t.val % 8 = 0 → f t.val t.isLt = f (t.val - 1) (by omega) + ((C t.val : ℝ) : EReal)) :
    ∀ (n : ℕ) (h : n < cfg0.N), f n h = ((∑ k ∈ Finset.range (n + 1), C k : ℝ) : EReal)
  | 0, h => by
    rw [Finset.sum_range_one]
    exact h0 ⟨0, h⟩ rfl
  | n + 1, h => by
    have h8 : n + 1 < 8 := lt8 ⟨n + 1, h⟩
    rw [Finset.sum_range_succ, EReal.coe_add, ← acc_eq f C h0 h1 n (by omega)]
    exact h1 ⟨n + 1, h⟩ (by show ¬ (n + 1) % 8 = 0; omega)

/-- Four chunks per point, over the points, are the chunks. -/
theorem sum_chunks (f : ℕ → ℝ) :
    ∑ k ∈ Finset.range 8, (f (4 * k) + f (4 * k + 1) + f (4 * k + 2) + f (4 * k + 3)) = ∑ n : Fin 32, f n.val := by
  rw [Fin.sum_univ_eq_sum_range]
  simp only [Finset.sum_range_succ, Finset.sum_range_zero]
  norm_num
  ring

/-- The rows of the points' blocks are the rows. -/
theorem sum_rows (f : ℕ → ℝ) : ∑ k ∈ Finset.range 8, ∑ y : Fin 512, f (512 * k + y.val) = ∑ r : Fin 4096, f r.val := by
  have key : ∀ n : ℕ, ∑ k ∈ Finset.range n, ∑ y : Fin 512, f (512 * k + y.val) = ∑ r ∈ Finset.range (512 * n), f r := by
    intro n
    induction n with
    | zero => rfl
    | succ n ih =>
      rw [Finset.sum_range_succ, ih, Nat.mul_succ, Finset.sum_range_add, Fin.sum_univ_eq_sum_range (fun y => f (512 * n + y))]
  rw [key 8, Fin.sum_univ_eq_sum_range]

theorem last10 : ∀ t : Fin cfg0.N, (cfg0.win 10).flush t = true → t.val = 7 := by decide +kernel
theorem last11 : ∀ t : Fin cfg0.N, (cfg0.win 11).flush t = true → t.val = 7 := by decide +kernel
theorem last12 : ∀ t : Fin cfg0.N, (cfg0.win 12).flush t = true → t.val = 7 := by decide +kernel
theorem last13 : ∀ t : Fin cfg0.N, (cfg0.win 13).flush t = true → t.val = 7 := by decide +kernel

/-- The points' parts of a mixing matrix's gradient add up to it. -/
theorem gw_total (g i j : ℕ) : ∑ k ∈ Finset.range (7 + 1), gwPart I k g i j = I.gw g i j := by
  by_cases h : j ≤ i
  · simp only [gwPart, In.gw, if_pos h]
    exact sum_chunks fun n => I.gwChunk n g i j
  · simp only [gwPart, In.gw, if_neg h, Finset.sum_const_zero]

theorem gbs_total (g i : ℕ) : ∑ k ∈ Finset.range (7 + 1), gbsPart I k g i = I.gbs g i := sum_chunks fun n => I.gbsChunk n g i

theorem gg_total (l : ℕ) : ∑ k ∈ Finset.range (7 + 1), ggPart I k l = I.gg l := sum_rows fun r => I.gvln r l * I.xh r l

theorem gb_total (l : ℕ) : ∑ k ∈ Finset.range (7 + 1), gbPart I k l = I.gb l := sum_rows fun r => I.gvln r l

include H

/-- The gradient of the first half. -/
theorem arr8 : (dats m 0 c).arrAt 8 cfg0.N = fun j : S4096x512.Idx => ((I.gu (j 0).val (j 1).val : ℝ) : EReal) := by
  refine (dats m 0 c).arrAt_eq_of_covers 8 _ (by decide +kernel) fun t hf y => ?_
  blk_simp
  rw [after0_8]
  refine (outs_gu H t y).trans ?_
  rw [(idx t).2.2.2.2.2.2.2.2.1]
  exact congrArg₂ (fun a b => ((I.gu a b : ℝ) : EReal)) (by show _ = t.val * 512 + _; omega) (by show _ = 0 * 512 + _; omega)

/-- The gradient of the second half. -/
theorem arr9 : (dats m 0 c).arrAt 9 cfg0.N = fun j : S4096x512.Idx => ((I.gv (j 0).val (j 1).val : ℝ) : EReal) := by
  refine (dats m 0 c).arrAt_eq_of_covers 9 _ (by decide +kernel) fun t hf y => ?_
  blk_simp
  rw [after0_9]
  refine (outs_gv H t y).trans ?_
  rw [(idx t).2.2.2.2.2.2.2.2.2.1]
  exact congrArg₂ (fun a b => ((I.gv a b : ℝ) : EReal)) (by show _ = t.val * 512 + _; omega) (by show _ = 0 * 512 + _; omega)

/-- The gradient of the mixing matrices. -/
theorem arr10 : (dats m 0 c).arrAt 10 cfg0.N = fun j : S4x128x128.Idx => ((I.gw (j 0).val (j 1).val (j 2).val : ℝ) : EReal) := by
  refine (dats m 0 c).arrAt_eq_of_covers 10 _ (by decide +kernel) fun t hf y => ?_
  blk_simp
  rw [after0_10]
  have h7 : t.val = 7 := last10 t hf
  refine (acc_eq (fun n h => (outsAt0 m c n h).2.2.1 y) (fun k => gwPart I k (y 0).val (y 1).val (y 2).val) (fun t h => outs_gw_first H t h y)
    (fun t h => outs_gw_next H t h y) t.val t.isLt).trans ?_
  rw [h7, (idx t).2.2.2.2.2.2.2.2.2.2.1]
  refine congrArg (fun a : ℝ => (a : EReal)) ((gw_total _ _ _).trans ?_)
  show I.gw _ _ _ = I.gw (0 * 4 + (y 0).val) (0 * 128 + (y 1).val) (0 * 128 + (y 2).val)
  simp only [Nat.zero_mul, Nat.zero_add]

/-- The gradient of the mixing biases, a column per group. -/
theorem arr11 : (dats m 0 c).arrAt 11 cfg0.N = fun j : S128x4.Idx => ((I.gbs (j 1).val (j 0).val : ℝ) : EReal) := by
  refine (dats m 0 c).arrAt_eq_of_covers 11 _ (by decide +kernel) fun t hf y => ?_
  blk_simp
  rw [after0_11]
  have h7 : t.val = 7 := last11 t hf
  refine (acc_eq (fun n h => (outsAt0 m c n h).2.2.2.1 y) (fun k => gbsPart I k (y 1).val (y 0).val) (fun t h => outs_gbs_first H t h y)
    (fun t h => outs_gbs_next H t h y) t.val t.isLt).trans ?_
  rw [h7, (idx t).2.2.2.2.2.2.2.2.2.2.2.1]
  refine congrArg (fun a : ℝ => (a : EReal)) ((gbs_total _ _).trans ?_)
  exact congrArg₂ (fun a b => I.gbs a b) (by show _ = 0 * 4 + _; omega) (by show _ = 0 * 128 + _; omega)

/-- The gradient of the norm's scale. -/
theorem arr12 : (dats m 0 c).arrAt 12 cfg0.N = fun j : S1x512.Idx => ((I.gg (j 1).val : ℝ) : EReal) := by
  refine (dats m 0 c).arrAt_eq_of_covers 12 _ (by decide +kernel) fun t hf y => ?_
  blk_simp
  rw [after0_12]
  have h7 : t.val = 7 := last12 t hf
  refine (acc_eq (fun n h => (outsAt0 m c n h).2.2.2.2.1 y) (fun k => ggPart I k (y 1).val) (fun t h => outs_gg_first H t h y)
    (fun t h => outs_gg_next H t h y) t.val t.isLt).trans ?_
  rw [h7, (idx t).2.2.2.2.2.2.2.2.2.2.2.2.1]
  refine congrArg (fun a : ℝ => (a : EReal)) ((gg_total _).trans ?_)
  exact congrArg (fun a => I.gg a) (by show _ = 0 * 512 + _; omega)

/-- The gradient of the norm's shift. -/
theorem arr13 : (dats m 0 c).arrAt 13 cfg0.N = fun j : S1x512.Idx => ((I.gb (j 1).val : ℝ) : EReal) := by
  refine (dats m 0 c).arrAt_eq_of_covers 13 _ (by decide +kernel) fun t hf y => ?_
  blk_simp
  rw [after0_13]
  have h7 : t.val = 7 := last13 t hf
  refine (acc_eq (fun n h => (outsAt0 m c n h).2.2.2.2.2 y) (fun k => gbPart I k (y 1).val) (fun t h => outs_gb_first H t h y)
    (fun t h => outs_gb_next H t h y) t.val t.isLt).trans ?_
  rw [h7, (idx t).2.2.2.2.2.2.2.2.2.2.2.2.2]
  refine congrArg (fun a : ℝ => (a : EReal)) ((gb_total _).trans ?_)
  exact congrArg (fun a => I.gb a) (by show _ = 0 * 512 + _; omega)

end Cert.Sgu

end
-- ==== Proof.SguRef.lean ====
/-
  THE GATED MIXER'S REFERENCE AT AN INDEX: the terms of the vector-Jacobian product, on arguments of real numbers, as
  the real functions of SguSpec, up to the gradient at the layer norm's output.
-/
module

public import proofs.«01_k».proof.Proof.Gen.ReferenceIdeal.Run
public import Idealize.ShloMosaic.Lib.Pointwise
public import proofs.«01_k».proof.Proof.SguPay

@[expose] public section

set_option maxRecDepth 16384

noncomputable section

namespace Cert.SguRef

open Cert.Sgu Cert.ReferenceIdeal Cert.ReferenceIdeal.Gen Cert.ReferenceIdeal.Value Idealize.ShloMosaic Idealize.ShloMosaic.TcCoe Idealize.SL.Sem Idealize.ShloMosaic.StableHlo

/-- The reference's arguments hold the real numbers of `I`. -/
structure Reads (V0 : Valuation τ sig (Elt Ideal)) (I : In) : Prop where
  h0 : ∀ (r : Fin 4096) (k : Fin 1024), (V0 (Proc.devRef .tc main_arg0) : S4096x1024.Idx → EReal) (ix2 r k) = ((I.gyo r.val k.val : ℝ) : EReal)
  h1 : ∀ (l : Fin 512) (k : Fin 1024), (V0 (Proc.devRef .tc main_arg1) : S1024x1024.Idx → EReal) (ix2 ⟨512 + l.val, by omega⟩ k) = ((I.wo l.val k.val : ℝ) : EReal)
  hu : ∀ (r : Fin 4096) (l : Fin 512), (V0 (Proc.devRef .tc main_arg2) : S4096x1536.Idx → EReal) (ix2 r ⟨512 + l.val, by omega⟩) = ((I.u r.val l.val : ℝ) : EReal)
  hv : ∀ (r : Fin 4096) (l : Fin 512), (V0 (Proc.devRef .tc main_arg2) : S4096x1536.Idx → EReal) (ix2 r ⟨1024 + l.val, by omega⟩) = ((I.v r.val l.val : ℝ) : EReal)
  h3 : ∀ l : Fin 512, (V0 (Proc.devRef .tc main_arg3) : S1x512.Idx → EReal) (ix2 0 l) = ((I.g l.val : ℝ) : EReal)
  h4 : ∀ l : Fin 512, (V0 (Proc.devRef .tc main_arg4) : S1x512.Idx → EReal) (ix2 0 l) = ((I.b l.val : ℝ) : EReal)
  h5 : ∀ (g : Fin 4) (i j : Fin 128), (V0 (Proc.devRef .tc main_arg5) : S4x128x128.Idx → EReal) (ix3 g i j) = ((I.ws g.val i.val j.val : ℝ) : EReal)
  h6 : ∀ (g : Fin 4) (i : Fin 128), (V0 (Proc.devRef .tc main_arg6) : S4x128.Idx → EReal) (ix2 g i) = ((I.bs g.val i.val : ℝ) : EReal)

variable (V0 : Valuation τ sig (Elt Ideal)) (I : In) (H : Reads V0 I)

theorem ofBits_cubN : Ideal.ofBits .f32 0x472EAB00#32 = ((44715 : ℝ) : EReal) := by
  simp [Ideal.ofBits, Ideal.ieee, -EReal.coe_mul, -EReal.coe_pow]; norm_num

theorem ofBits_cubD : Ideal.ofBits .f32 0x49742400#32 = ((1000000 : ℝ) : EReal) := by
  simp [Ideal.ofBits, Ideal.ieee, -EReal.coe_mul, -EReal.coe_pow]; norm_num

theorem div_cub : Ideal.div ((44715 : ℝ) : EReal) ((1000000 : ℝ) : EReal) = ((cub : ℝ) : EReal) := by
  rw [Ideal.div_coe (by norm_num), ← EReal.coe_mul]
  exact congrArg _ (by norm_num [cub])

theorem v6_apply (j : S_.Idx) : (res_main_v6 V0 : S_.Idx → EReal) j = ((cub : ℝ) : EReal) := by
  refine Eq.trans ?_ div_cub
  rw [← ofBits_cubN, ← ofBits_cubD]
  rfl

theorem v25_apply (j : S_.Idx) : (res_main_v25 V0 : S_.Idx → EReal) j = ((cub : ℝ) : EReal) := v6_apply V0 j

include H

theorem v4_apply (r : Fin 4096) (l : Fin 512) : (res_main_v4 V0 : S1x4096x512.Idx → EReal) (ix3 0 r l) = ((I.u r.val l.val : ℝ) : EReal) := by
  refine Eq.trans ?_ (H.hu r l)
  pointwise [res_main_v4]

theorem v5_apply (r : Fin 4096) (l : Fin 512) : (res_main_v5 V0 : S1x4096x512.Idx → EReal) (ix3 0 r l) = ((I.v r.val l.val : ℝ) : EReal) := by
  refine Eq.trans ?_ (H.hv r l)
  pointwise [res_main_v5]

theorem v14_apply (r : Fin 4096) (l : Fin 512) : (res_main_v14 V0 : S1x4096x512.Idx → EReal) (ix3 0 r l) = ((th (I.u r.val l.val) : ℝ) : EReal) := by
  pointwise [res_main_v14, res_main_v7]
  simp only [v4_apply V0 I H, v6_apply, ofBits_c0, ← EReal.coe_mul, ← EReal.coe_add, Ideal.tanh_coe]
  exact congrArg (fun x : ℝ => ((Real.tanh x : ℝ) : EReal)) (by ring)

theorem v33_apply (r : Fin 4096) (l : Fin 512) : (res_main_v33 V0 : S1x4096x512.Idx → EReal) (ix3 0 r l) = ((th (I.v r.val l.val) : ℝ) : EReal) := by
  pointwise [res_main_v33, res_main_v26]
  simp only [v5_apply V0 I H, v25_apply, ofBits_c0, ← EReal.coe_mul, ← EReal.coe_add, Ideal.tanh_coe]
  exact congrArg (fun x : ℝ => ((Real.tanh x : ℝ) : EReal)) (by ring)

theorem v23_apply (r : Fin 4096) (l : Fin 512) : (res_main_v23 V0 : S1x4096x512.Idx → EReal) (ix3 0 r l) = ((1 / 2 * (1 + th (I.u r.val l.val)) : ℝ) : EReal) := by
  pointwise [res_main_v23]
  simp only [v14_apply V0 I H, ofBits_half, ← EReal.coe_one, ← EReal.coe_mul, ← EReal.coe_add]

theorem v42_apply (r : Fin 4096) (l : Fin 512) : (res_main_v42 V0 : S1x4096x512.Idx → EReal) (ix3 0 r l) = ((1 / 2 * (1 + th (I.v r.val l.val)) : ℝ) : EReal) := by
  pointwise [res_main_v42]
  simp only [v33_apply V0 I H, ofBits_half, ← EReal.coe_one, ← EReal.coe_mul, ← EReal.coe_add]

theorem v24_apply (r : Fin 4096) (l : Fin 512) : (res_main_v24 V0 : S1x4096x512.Idx → EReal) (ix3 0 r l) = ((gelu (I.u r.val l.val) : ℝ) : EReal) := by
  pointwise [res_main_v24]
  simp only [v4_apply V0 I H, v23_apply V0 I H, ← EReal.coe_mul]
  exact congrArg (fun x : ℝ => (x : EReal)) (by unfold gelu; ring)

theorem v43_apply (r : Fin 4096) (l : Fin 512) : (res_main_v43 V0 : S1x4096x512.Idx → EReal) (ix3 0 r l) = ((gelu (I.v r.val l.val) : ℝ) : EReal) := by
  pointwise [res_main_v43]
  simp only [v5_apply V0 I H, v42_apply V0 I H, ← EReal.coe_mul]
  exact congrArg (fun x : ℝ => (x : EReal)) (by unfold gelu; ring)

theorem v49_apply (r : Fin 4096) (l : Fin 512) : (res_main_v49 V0 : S1x4096x512.Idx → EReal) (ix3 0 r l) = ((I.xc r.val l.val : ℝ) : EReal) := by
  pointwise [res_main_v49]
  simp only [v43_apply V0 I H, ofBits_512, ← Reals.coe_sum, div_512, ← EReal.coe_sub]
  rfl

theorem v56_apply (r : Fin 4096) : (res_main_v56 V0 : S1x4096x1.Idx → EReal) (ix3 0 r 0) = ((I.var r.val + epsR : ℝ) : EReal) := by
  pointwise [res_main_v56]
  simp only [v49_apply V0 I H, ofBits_512, ofBits_eps, ← EReal.coe_mul, ← Reals.coe_sum, div_512, ← EReal.coe_add]
  rfl

theorem v57_apply (r : Fin 4096) : (res_main_v57 V0 : S1x4096x1.Idx → EReal) (ix3 0 r 0) = ((I.rs r.val : ℝ) : EReal) := by
  pointwise [res_main_v57]
  rw [v56_apply V0 I H]
  exact rsqrt_pos (I.var_pos r.val)

theorem v62_apply (r : Fin 4096) (l : Fin 512) : (res_main_v62 V0 : S1x4096x512.Idx → EReal) (ix3 0 r l) = ((I.xh r.val l.val : ℝ) : EReal) := by
  pointwise [res_main_v62]
  simp only [v49_apply V0 I H, v57_apply V0 I H, ← EReal.coe_mul]
  rfl

theorem v63_apply (l : Fin 512) : (res_main_v63 V0 : S1x1x512.Idx → EReal) (ix3 0 0 l) = ((I.g l.val : ℝ) : EReal) := by
  refine Eq.trans ?_ (H.h3 l)
  pointwise [res_main_v63]

theorem v69_apply (n : Fin 32) (i : Fin 128) (g : Fin 4) (e : Fin 128) :
    (res_main_v69 V0 : S1x32x128x4x128.Idx → EReal) (ix5 0 n i g e) = ((I.vln (n.val * 128 + i.val) (g.val * 128 + e.val) : ℝ) : EReal) := by
  pointwise [res_main_v69]
  simp only [v62_apply V0 I H, v63_apply V0 I H, H.h4, ← EReal.coe_mul, ← EReal.coe_add]
  rfl

omit H in
theorem v74_1_apply {α : Type} (g : Fin 4) (i j : Fin 128) (x y : α) :
    Scalar.select ((res_main_v74_1 V0 : S4x128x128.Idx → BitVec 1) (ix3 g i j)) x y = if j.val ≤ i.val then x else y := by
  have e : (res_main_v74_1 V0 : S4x128x128.Idx → BitVec 1) (ix3 g i j)
      = Scalar.select (IntOp.cmpi CmpIPredicate.sge (IntOp.addi (BitVec.ofNat 32 i.val) 0#32) (BitVec.ofNat 32 j.val)) 1#1 0#1 := by
    pointwise [res_main_v74_1]
  have z : IntOp.addi (BitVec.ofNat 32 i.val) 0#32 = BitVec.ofNat 32 i.val := by
    show BitVec.ofNat 32 i.val + 0#32 = _
    exact BitVec.add_zero _
  rw [e, z, select_sge]
  split <;> rfl

theorem v74_0_apply (g : Fin 4) (i j : Fin 128) : (res_main_v74_0 V0 : S4x128x128.Idx → EReal) (ix3 g i j) = ((I.tri g.val i.val j.val : ℝ) : EReal) := by
  have e : (res_main_v74_0 V0 : S4x128x128.Idx → EReal) (ix3 g i j)
      = Scalar.select ((res_main_v74_1 V0 : S4x128x128.Idx → BitVec 1) (ix3 g i j)) (((V0 (Proc.devRef .tc main_arg5) : S4x128x128.Idx → EReal) (ix3 g i j) : EReal)) (0 : EReal) := by
    pointwise [res_main_v74_0]
  rw [e, v74_1_apply, H.h5]
  show _ = (((if j.val ≤ i.val then I.ws g.val i.val j.val else 0) : ℝ) : EReal)
  split <;> rfl

theorem v81_apply (r : Fin 4096) (l : Fin 512) : (res_main_v81 V0 : S1x4096x512.Idx → EReal) (ix3 0 r l) = ((I.mixed r.val l.val : ℝ) : EReal) := by
  pointwise [res_main_v81, dot_S1x32x128x4x128_S4x128x128_S4x1x32x128x128_2_2_014_1_3_0]
  simp only [v69_apply V0 I H, v74_0_apply V0 I H, H.h6, ← EReal.coe_mul, ← Reals.coe_sum, ← EReal.coe_add]
  refine congrArg (fun x : ℝ => (x : EReal)) ?_
  unfold In.mixed
  refine congrArg (· + _) (Finset.sum_congr rfl fun j _ => ?_)
  rw [show l.val / 128 * 128 + l.val % 128 = l.val by omega, mul_comm]

theorem v87_apply (r : Fin 4096) (l : Fin 512) : (res_main_v87 V0 : S1x4096x512.Idx → EReal) (ix3 0 r l) = ((I.gy r.val l.val : ℝ) : EReal) := by
  pointwise [res_main_v87, res_main_v1, dot_S4096x1024_S512x1024_S4096x512_1_1_0_0_n_n]
  simp only [H.h0, H.h1, ← EReal.coe_mul, ← Reals.coe_sum]
  rfl

theorem v90_apply (n : Fin 32) (i : Fin 128) (g : Fin 4) (e : Fin 128) :
    (res_main_v90 V0 : S1x32x128x4x128.Idx → EReal) (ix5 0 n i g e) = ((I.gmix (n.val * 128 + i.val) (g.val * 128 + e.val) : ℝ) : EReal) := by
  pointwise [res_main_v90]
  simp only [v24_apply V0 I H, v87_apply V0 I H, ← EReal.coe_mul]
  exact congrArg (fun x : ℝ => (x : EReal)) (mul_comm _ _)

theorem v95_apply (g : Fin 4) (n : Fin 32) (e i : Fin 128) :
    (res_main_v95 V0 : S4x1x32x128x128.Idx → EReal) (ix5 g 0 n e i) = ((I.gmix (n.val * 128 + i.val) (g.val * 128 + e.val) : ℝ) : EReal) := by
  refine Eq.trans ?_ (v90_apply V0 I H n i g e)
  pointwise [res_main_v95]

theorem v100_apply (r : Fin 4096) (l : Fin 512) : (res_main_v100 V0 : S1x4096x512.Idx → EReal) (ix3 0 r l) = ((I.gvln r.val l.val : ℝ) : EReal) := by
  pointwise [res_main_v100, dot_S4x1x32x128x128_S4x128x128_S4x1x32x128x128_4_1_123_2_0_0]
  simp only [v95_apply V0 I H, v74_0_apply V0 I H, ← EReal.coe_mul, ← Reals.coe_sum]
  refine congrArg (fun x : ℝ => (x : EReal)) ?_
  unfold In.gvln
  refine Finset.sum_congr rfl fun i _ => ?_
  rw [show l.val / 128 * 128 + l.val % 128 = l.val by omega, mul_comm]

theorem v109_apply (r : Fin 4096) (l : Fin 512) : (res_main_v109 V0 : S1x4096x512.Idx → EReal) (ix3 0 r l) = ((I.gxh r.val l.val : ℝ) : EReal) := by
  pointwise [res_main_v109]
  simp only [v100_apply V0 I H, v63_apply V0 I H, ← EReal.coe_mul]
  rfl

/-! ## The gradient through the layer norm -/

omit H in
/-- A sum over two unit axes around a row. -/
theorem unit_02 (h : S1x4096x1.ReducesTo [0, 2] S4096) (v : S1x4096x1.Idx → EReal) (r : Fin 4096) :
    Ideal.hostReduceAdd h v 0 (ix1 r) = v (ix3 0 r 0) := by
  unfold Ideal.hostReduceAdd
  rw [zero_add]
  refine Finset.sum_eq_single_of_mem (ix3 0 r 0) ?_ fun i hi hne => ?_
  · exact Finset.mem_filter.mpr ⟨Finset.mem_univ _, by funext a; apply Fin.ext; match a with | ⟨0, _⟩ => rfl⟩
  · refine absurd ?_ hne
    have e := (Finset.mem_filter.mp hi).2
    have e2 := congrArg Fin.val (congrFun e 0)
    funext a; apply Fin.ext
    match a with
    | ⟨0, _⟩ => have := (i 0).isLt; change (i 0).val < 1 at this; show (i 0).val = 0; omega
    | ⟨1, _⟩ => exact e2
    | ⟨2, _⟩ => have := (i 2).isLt; change (i 2).val < 1 at this; show (i 2).val = 0; omega

omit H in
theorem ofBits_mhalf : Ideal.ofBits .f32 0xBF000000#32 = ((-(1 / 2) : ℝ) : EReal) := by
  simp [Ideal.ofBits, Ideal.ieee, -EReal.coe_mul, -EReal.coe_pow]; norm_num

/-- Half the variance's gradient spread over a row, as the reference computes it. -/
def hvar (I : In) (r : ℕ) : ℝ :=
  (∑ l : Fin 512, I.xc r l * I.gxh r l) * (-(1 / 2) * (I.rs r * (1 / (I.var r + epsR)))) * (1 / 512)

theorem v122_apply (r : Fin 4096) (l : Fin 512) : (res_main_v122 V0 : S1x4096x512.Idx → EReal) (ix3 0 r l) = ((hvar I r.val : ℝ) : EReal) := by
  pointwise [res_main_v122]
  refine (unit_02 _ _ r).trans ?_
  pointwise
  simp only [v49_apply V0 I H, v109_apply V0 I H, v56_apply V0 I H, v57_apply V0 I H, ofBits_512, ofBits_mhalf, Ideal.div_coe (I.var_pos r.val).ne', ← EReal.coe_mul, ← Reals.coe_sum, div_512]
  rfl

theorem v126_apply (r : Fin 4096) (l : Fin 512) : (res_main_v126 V0 : S1x4096x512.Idx → EReal) (ix3 0 r l)
    = ((I.gxh r.val l.val * I.rs r.val + I.xc r.val l.val * hvar I r.val + hvar I r.val * I.xc r.val l.val : ℝ) : EReal) := by
  pointwise [res_main_v126]
  simp only [v49_apply V0 I H, v109_apply V0 I H, v57_apply V0 I H, v122_apply V0 I H, ← EReal.coe_mul, ← EReal.coe_add]

omit H in
/-- The centred row sums to zero. -/
theorem sum_xc (r : ℕ) : ∑ l : Fin 512, I.xc r l = 0 := by
  unfold In.xc
  rw [Finset.sum_sub_distrib, Finset.sum_const, Finset.card_univ, Fintype.card_fin, nsmul_eq_mul]
  unfold In.mean
  push_cast
  ring

omit H in
/-- The reciprocal of the variance is the square of the reciprocal deviation. -/
theorem inv_var (r : ℕ) : 1 / (I.var r + epsR) = I.rs r * I.rs r := by
  unfold In.rs
  rw [← mul_inv, Real.mul_self_sqrt (I.var_pos r).le, one_div]

omit H in
/-- The reference's gradient through the norm is the closed form. -/
theorem ggv_eq (r l : ℕ) :
    (I.gxh r l * I.rs r + I.xc r l * hvar I r + hvar I r * I.xc r l)
      + (∑ l : Fin 512, -(I.gxh r l * I.rs r + I.xc r l * hvar I r + hvar I r * I.xc r l)) * (1 / 512) = I.ggv r l := by
  have s1 : (∑ l : Fin 512, -(I.gxh r l * I.rs r + I.xc r l * hvar I r + hvar I r * I.xc r l)) = -((∑ l : Fin 512, I.gxh r l) * I.rs r) := by
    have e : ∀ l : Fin 512, -(I.gxh r l * I.rs r + I.xc r l * hvar I r + hvar I r * I.xc r l) = -(I.gxh r l * I.rs r) + I.xc r l * (-(2 * hvar I r)) := fun l => by ring
    rw [Finset.sum_congr rfl fun l _ => e l, Finset.sum_add_distrib, ← Finset.sum_mul, sum_xc, Finset.sum_neg_distrib, ← Finset.sum_mul]
    ring
  have s2 : (∑ l : Fin 512, I.gxh r l * I.xh r l) = (∑ l : Fin 512, I.xc r l * I.gxh r l) * I.rs r := by
    rw [Finset.sum_mul]
    exact Finset.sum_congr rfl fun l _ => by unfold In.xh; ring
  rw [s1]
  unfold In.ggv In.m1 In.m2 hvar
  rw [s2, inv_var]
  unfold In.xh
  ring

theorem v135_apply (r : Fin 4096) (l : Fin 512) : (res_main_v135 V0 : S1x4096x512.Idx → EReal) (ix3 0 r l) = ((I.ggv r.val l.val : ℝ) : EReal) := by
  rw [← ggv_eq]
  pointwise [res_main_v135]
  refine Eq.trans (congrArg₂ (fun x y : EReal => x + y) (v126_apply V0 I H r l) ((unit_02 _ _ r).trans ?_)) (EReal.coe_add _ _).symm
  pointwise
  simp only [v126_apply V0 I H, ofBits_512, ← EReal.coe_neg, ← Reals.coe_sum, div_512]

/-! ## The six results -/

/-- The gradient at the first half, as the reference computes it. -/
def guOf : FVec Ideal S4096x512 .f32 := Host.reduceAdd (addf (addf (addf (addf (mulf (res_main_v89 V0) (res_main_v23 V0)) (res_main_v159 V0)) (mulf (res_main_v7 V0) (res_main_v162 V0))) (mulf (res_main_v4 V0) (res_main_v165 V0))) (mulf (res_main_v165 V0) (res_main_v4 V0))) (constant S_ .f32 0x00000000#32) reducesTo_S1x4096x512_S4096x512_d0 h_S_

/-- The gradient at the second half, as the reference computes it. -/
def gvOf : FVec Ideal S4096x512 .f32 := Host.reduceAdd (addf (addf (addf (addf (mulf (res_main_v135 V0) (res_main_v42 V0)) (res_main_v142 V0)) (mulf (res_main_v26 V0) (res_main_v145 V0))) (mulf (res_main_v5 V0) (res_main_v148 V0))) (mulf (res_main_v148 V0) (res_main_v5 V0))) (constant S_ .f32 0x00000000#32) reducesTo_S1x4096x512_S4096x512_d0 h_S_

/-- The gradient of the mixing matrices, as the reference computes it. -/
def gwOf : FVec Ideal S4x128x128 .f32 := select (res_main_v74_1 V0) (Host.dotGeneral (φ₁ := .f32) (φ₂ := .f32) dot_S4x1x32x128x128_S1x32x128x4x128_S4x128x128_123_014_4_2_0_3 none (res_main_v95 V0) (res_main_v69 V0)) (broadcastInDim S4x128x128 ![] bcast_S_S4x128x128 (constant S_ .f32 0x00000000#32))

/-- The gradient of the mixing biases, as the reference computes it. -/
def gbsOf : FVec Ideal S128x4 .f32 := transpose S128x4 [1, 0] (transpose S4x128 [1, 0] (Host.reduceAdd (shapeCast _ (Host.reduceAdd (res_main_v90 V0) (constant S_ .f32 0x00000000#32) reducesTo_S1x32x128x4x128_S1x128x4_d1_4 h_S_) shapeCasts_S1x128x4_S1x1x128x4x1) (constant S_ .f32 0x00000000#32) reducesTo_S1x1x128x4x1_S128x4_d0_1_4 h_S_) transposes_S128x4_S4x128_1_0) transposes_S4x128_S128x4_1_0

/-- The gradient of the norm's scale, as the reference computes it. -/
def ggOf : FVec Ideal S1x512 .f32 := broadcastInDim S1x512 ![1] bcast_S512_S1x512_1 (Host.reduceAdd (shapeCast _ (Host.reduceAdd (mulf (res_main_v62 V0) (res_main_v100 V0)) (constant S_ .f32 0x00000000#32) reducesTo_S1x4096x512_S1x512_d1 h_S_) shapeCasts_S1x512_S1x1x512) (constant S_ .f32 0x00000000#32) reducesTo_S1x1x512_S512_d0_1 h_S_)

/-- The gradient of the norm's shift, as the reference computes it. -/
def gbOf : FVec Ideal S1x512 .f32 := broadcastInDim S1x512 ![1] bcast_S512_S1x512_1 (Host.reduceAdd (shapeCast _ (Host.reduceAdd (res_main_v100 V0) (constant S_ .f32 0x00000000#32) reducesTo_S1x4096x512_S1x512_d1 h_S_) shapeCasts_S1x512_S1x1x512) (constant S_ .f32 0x00000000#32) reducesTo_S1x1x512_S512_d0_1 h_S_)

theorem gu_ref (r : Fin 4096) (l : Fin 512) : guOf V0 (ix2 r l) = ((I.gu r.val l.val : ℝ) : EReal) := by
  pointwise [guOf, res_main_v165, res_main_v162, res_main_v159, res_main_v89, res_main_v7]
  rw [Fin.sum_univ_one]
  simp only [v4_apply V0 I H, v14_apply V0 I H, v23_apply V0 I H, v81_apply V0 I H, v87_apply V0 I H, v6_apply, ofBits_c0, ofBits_half, ofBits_one, ← EReal.coe_one, ← EReal.coe_mul, ← EReal.coe_add, ← EReal.coe_sub]
  refine congrArg (fun x : ℝ => (x : EReal)) ?_
  unfold In.gu dgelu
  ring

theorem gv_ref (r : Fin 4096) (l : Fin 512) : gvOf V0 (ix2 r l) = ((I.gv r.val l.val : ℝ) : EReal) := by
  pointwise [gvOf, res_main_v148, res_main_v145, res_main_v142, res_main_v26]
  rw [Fin.sum_univ_one]
  simp only [v5_apply V0 I H, v33_apply V0 I H, v42_apply V0 I H, v135_apply V0 I H, v25_apply, ofBits_c0, ofBits_half, ofBits_one, ← EReal.coe_one, ← EReal.coe_mul, ← EReal.coe_add, ← EReal.coe_sub]
  refine congrArg (fun x : ℝ => (x : EReal)) ?_
  unfold In.gv dgelu
  ring

omit H in
/-- A sum over the two leading unit axes of a row vector. -/
theorem unit_01 (h : S1x1x512.ReducesTo [0, 1] S512) (v : S1x1x512.Idx → EReal) (l : Fin 512) : Ideal.hostReduceAdd h v 0 (ix1 l) = v (ix3 0 0 l) := by
  unfold Ideal.hostReduceAdd
  rw [zero_add]
  refine Finset.sum_eq_single_of_mem (ix3 0 0 l) ?_ fun i hi hne => ?_
  · exact Finset.mem_filter.mpr ⟨Finset.mem_univ _, by funext a; apply Fin.ext; match a with | ⟨0, _⟩ => rfl⟩
  · refine absurd ?_ hne
    have e := (Finset.mem_filter.mp hi).2
    have e2 := congrArg Fin.val (congrFun e 0)
    funext a; apply Fin.ext
    match a with
    | ⟨0, _⟩ => have := (i 0).isLt; change (i 0).val < 1 at this; show (i 0).val = 0; omega
    | ⟨1, _⟩ => have := (i 1).isLt; change (i 1).val < 1 at this; show (i 1).val = 0; omega
    | ⟨2, _⟩ => exact e2

theorem gg_ref (l : Fin 512) : ggOf V0 (ix2 0 l) = ((I.gg l.val : ℝ) : EReal) := by
  pointwise [ggOf]
  refine (unit_01 _ _ l).trans ?_
  pointwise
  simp only [v62_apply V0 I H, v100_apply V0 I H, ← EReal.coe_mul, ← Reals.coe_sum]
  exact congrArg (fun x : ℝ => (x : EReal)) (Finset.sum_congr rfl fun r _ => mul_comm _ _)

theorem gb_ref (l : Fin 512) : gbOf V0 (ix2 0 l) = ((I.gb l.val : ℝ) : EReal) := by
  pointwise [gbOf]
  refine (unit_01 _ _ l).trans ?_
  pointwise
  simp only [v100_apply V0 I H, ← Reals.coe_sum]
  rfl

/-- The product that contracts a batch axis, the chunks and the lanes of a group. -/
abbrev dotW := dot_S4x1x32x128x128_S1x32x128x4x128_S4x128x128_123_014_4_2_0_3

omit H in
/-- That product at an index: a sum over the chunks and the lanes. -/
theorem dotW_apply (x : S4x1x32x128x128.Idx → EReal) (y : S1x32x128x4x128.Idx → EReal) (g : Fin 4) (i j : Fin 128) :
    Ideal.matmul dotW x y (fun _ => 0) (ix3 g i j) = ∑ n : Fin 32, ∑ e : Fin 128, x (ix5 g 0 n e i) * y (ix5 0 n j g e) := by
  unfold Ideal.matmul
  rw [zero_add, ← Finset.sum_product']
  symm
  refine Finset.sum_bij' (fun p _ a => match a with
      | ⟨0, _⟩ => (0 : Fin 1)
      | ⟨1, _⟩ => p.1
      | ⟨2, _⟩ => p.2
      | ⟨k + 3, h⟩ => absurd h (Nat.not_lt.mpr (Nat.le_add_left 3 k)))
    (fun k _ => ((k ⟨1, by decide⟩ : Fin 32), (k ⟨2, by decide⟩ : Fin 128))) ?_ ?_ ?_ ?_ ?_
  · intro p _
    exact Finset.mem_univ _
  · intro k _
    exact Finset.mem_product.mpr ⟨Finset.mem_univ _, Finset.mem_univ _⟩
  · intro p _
    rfl
  · intro k _
    funext a; apply Fin.ext
    match a with
    | ⟨0, h⟩ => have := (k ⟨0, h⟩).isLt; change (k ⟨0, h⟩).val < 1 at this; show 0 = (k ⟨0, h⟩).val; omega
    | ⟨1, _⟩ => rfl
    | ⟨2, _⟩ => rfl
    | ⟨k + 3, h⟩ => exact absurd h (Nat.not_lt.mpr (Nat.le_add_left 3 k))
  · intro p _
    refine congrArg₂ (· * ·) (congrArg x ?_) (congrArg y ?_)
    · funext a; apply Fin.ext
      match a with
      | ⟨0, _⟩ => rfl
      | ⟨1, _⟩ => rfl
      | ⟨2, _⟩ => rfl
      | ⟨3, _⟩ => rfl
      | ⟨4, _⟩ => rfl
    · funext a; apply Fin.ext
      match a with
      | ⟨0, _⟩ => rfl
      | ⟨1, _⟩ => rfl
      | ⟨2, _⟩ => rfl
      | ⟨3, _⟩ => rfl
      | ⟨4, _⟩ => rfl

theorem gw_ref (g : Fin 4) (i j : Fin 128) : gwOf V0 (ix3 g i j) = ((I.gw g.val i.val j.val : ℝ) : EReal) := by
  pointwise [gwOf]
  refine (congrArg (fun x : EReal => Scalar.select ((res_main_v74_1 V0 : S4x128x128.Idx → BitVec 1) (ix3 g i j)) x (0 : EReal)) (dotW_apply _ _ g i j)).trans ?_
  rw [v74_1_apply]
  simp only [v95_apply V0 I H, v69_apply V0 I H, ← EReal.coe_mul, ← Reals.coe_sum]
  show _ = (((if j.val ≤ i.val then ∑ n : Fin 32, I.gwChunk n g.val i.val j.val else 0) : ℝ) : EReal)
  split
  · rfl
  · rfl

omit H in
/-- A sum over the chunks and the lanes of a group. -/
theorem sum_14 (h : S1x32x128x4x128.ReducesTo [1, 4] S1x128x4) (v : S1x32x128x4x128.Idx → EReal) (i : Fin 128) (g : Fin 4) :
    Ideal.hostReduceAdd h v 0 (ix3 0 i g) = ∑ n : Fin 32, ∑ e : Fin 128, v (ix5 0 n i g e) := by
  unfold Ideal.hostReduceAdd
  rw [zero_add, ← Finset.sum_product']
  symm
  refine Finset.sum_bij' (fun p _ => ix5 0 p.1 i g p.2) (fun x _ => ((x 1 : Fin 32), (x 4 : Fin 128))) ?_ ?_ ?_ ?_ ?_
  · intro p _
    exact Finset.mem_filter.mpr ⟨Finset.mem_univ _, by funext a; apply Fin.ext; match a with | ⟨0, _⟩ => rfl | ⟨1, _⟩ => rfl | ⟨2, _⟩ => rfl⟩
  · intro x _
    exact Finset.mem_product.mpr ⟨Finset.mem_univ _, Finset.mem_univ _⟩
  · intro p _
    rfl
  · intro x hx
    have e := (Finset.mem_filter.mp hx).2
    have e1 := congrArg Fin.val (congrFun e 1)
    have e2 := congrArg Fin.val (congrFun e 2)
    funext a; apply Fin.ext
    match a with
    | ⟨0, _⟩ => have := (x 0).isLt; change (x 0).val < 1 at this; show 0 = (x 0).val; omega
    | ⟨1, _⟩ => rfl
    | ⟨2, _⟩ => exact e1.symm
    | ⟨3, _⟩ => exact e2.symm
    | ⟨4, _⟩ => rfl
  · intro p _
    rfl

omit H in
/-- A sum over three unit axes. -/
theorem unit_014 (h : S1x1x128x4x1.ReducesTo [0, 1, 4] S128x4) (v : S1x1x128x4x1.Idx → EReal) (i : Fin 128) (g : Fin 4) :
    Ideal.hostReduceAdd h v 0 (ix2 i g) = v (ix5 0 0 i g 0) := by
  unfold Ideal.hostReduceAdd
  rw [zero_add]
  refine Finset.sum_eq_single_of_mem (ix5 0 0 i g 0) ?_ fun x hi hne => ?_
  · exact Finset.mem_filter.mpr ⟨Finset.mem_univ _, by funext a; apply Fin.ext; match a with | ⟨0, _⟩ => rfl | ⟨1, _⟩ => rfl⟩
  · refine absurd ?_ hne
    have e := (Finset.mem_filter.mp hi).2
    have e1 := congrArg Fin.val (congrFun e 0)
    have e2 := congrArg Fin.val (congrFun e 1)
    funext a; apply Fin.ext
    match a with
    | ⟨0, _⟩ => have := (x 0).isLt; change (x 0).val < 1 at this; show (x 0).val = 0; omega
    | ⟨1, _⟩ => have := (x 1).isLt; change (x 1).val < 1 at this; show (x 1).val = 0; omega
    | ⟨2, _⟩ => exact e1
    | ⟨3, _⟩ => exact e2
    | ⟨4, _⟩ => have := (x 4).isLt; change (x 4).val < 1 at this; show (x 4).val = 0; omega

theorem gbs_ref (i : Fin 128) (g : Fin 4) : gbsOf V0 (ix2 i g) = ((I.gbs g.val i.val : ℝ) : EReal) := by
  pointwise [gbsOf]
  refine (unit_014 _ _ i g).trans ?_
  pointwise
  refine (sum_14 _ _ i g).trans ?_
  simp only [v90_apply V0 I H, ← Reals.coe_sum]
  rfl

end Cert.SguRef

end
-- ==== Proof.SguClaim.lean ====
/-
  THE GATED MIXER'S CLAIM: over the extended reals the kernel's six gradients are the reference's, on arguments of
  real numbers.
-/
module

public import proofs.«01_k».proof.Defs
public import proofs.«01_k».proof.Proof.Gen.Pre_finite
public import proofs.«01_k».proof.Proof.Gen.KernelIdeal
public import proofs.«01_k».proof.Proof.Gen.ReferenceIdeal
public import Idealize.ShloMosaic.Lib.StableHlo.RunRead
public import proofs.«01_k».proof.Proof.SguKernel
public import proofs.«01_k».proof.Proof.SguRef

@[expose] public section

set_option maxRecDepth 16384

noncomputable section

namespace Cert.Sgu

open Idealize.ShloMosaic Idealize.ShloMosaic.TcCoe Idealize.SL.Sem Idealize.ShloMosaic.StableHlo Cert.Reals Cert.SguRef

/-- Arguments that meet the precondition are real numbers. -/
theorem real_of_pre {a0 : FVec Ideal Cert.Pre_finite.S4096x1024 .bf16} {a1 : FVec Ideal Cert.Pre_finite.S1024x1024 .bf16} {a2 : FVec Ideal Cert.Pre_finite.S4096x1536 .f32}
    {a3 : FVec Ideal Cert.Pre_finite.S1x512 .f32} {a4 : FVec Ideal Cert.Pre_finite.S1x512 .f32} {a5 : FVec Ideal Cert.Pre_finite.S4x128x128 .f32} {a6 : FVec Ideal Cert.Pre_finite.S4x128 .f32}
    (h0 : (Cert.Pre_finite.fn a0 a1 a2 a3 a4 a5 a6).1 = fun _ => 1#1) (h1 : (Cert.Pre_finite.fn a0 a1 a2 a3 a4 a5 a6).2.1 = fun _ => 1#1)
    (h2 : (Cert.Pre_finite.fn a0 a1 a2 a3 a4 a5 a6).2.2.1 = fun _ => 1#1) (h3 : (Cert.Pre_finite.fn a0 a1 a2 a3 a4 a5 a6).2.2.2.1 = fun _ => 1#1)
    (h4 : (Cert.Pre_finite.fn a0 a1 a2 a3 a4 a5 a6).2.2.2.2.1 = fun _ => 1#1) (h5 : (Cert.Pre_finite.fn a0 a1 a2 a3 a4 a5 a6).2.2.2.2.2.1 = fun _ => 1#1)
    (h6 : (Cert.Pre_finite.fn a0 a1 a2 a3 a4 a5 a6).2.2.2.2.2.2 = fun _ => 1#1) :
    (∀ i, IsReal (a0 i)) ∧ (∀ i, IsReal (a1 i)) ∧ (∀ i, IsReal (a2 i)) ∧ (∀ i, IsReal (a3 i)) ∧ (∀ i, IsReal (a4 i)) ∧ (∀ i, IsReal (a5 i)) ∧ ∀ i, IsReal (a6 i) :=
  ⟨fun i => isReal_of_lt (congrFun h0 i), fun i => isReal_of_lt (congrFun h1 i), fun i => isReal_of_lt (congrFun h2 i), fun i => isReal_of_lt (congrFun h3 i),
    fun i => isReal_of_lt (congrFun h4 i), fun i => isReal_of_lt (congrFun h5 i), fun i => isReal_of_lt (congrFun h6 i)⟩

/-- The real number at an index of a matrix; zero outside. -/
def at2 {n p : ℕ} (a : (⟨2, ![n, p]⟩ : Shape).Idx → EReal) (r k : ℕ) : ℝ :=
  if h : r < n ∧ k < p then (a (ix2 ⟨r, h.1⟩ ⟨k, h.2⟩)).toReal else 0

/-- The real number at an index of a stack of matrices; zero outside. -/
def at3 {n p q : ℕ} (a : (⟨3, ![n, p, q]⟩ : Shape).Idx → EReal) (g i j : ℕ) : ℝ :=
  if h : g < n ∧ i < p ∧ j < q then (a (ix3 ⟨g, h.1⟩ ⟨i, h.2.1⟩ ⟨j, h.2.2⟩)).toReal else 0

theorem coe_toReal {x : EReal} (h : IsReal x) : x = ((x.toReal : ℝ) : EReal) := by
  obtain ⟨y, rfl⟩ := h
  rw [EReal.toReal_coe]

theorem at2_eq {n p : ℕ} {a : (⟨2, ![n, p]⟩ : Shape).Idx → EReal} (h : ∀ i, IsReal (a i)) (r : Fin n) (k : Fin p) :
    a (ix2 r k) = ((at2 a r.val k.val : ℝ) : EReal) := by
  unfold at2
  rw [dif_pos ⟨r.isLt, k.isLt⟩]
  exact coe_toReal (h _)

theorem at3_eq {n p q : ℕ} {a : (⟨3, ![n, p, q]⟩ : Shape).Idx → EReal} (h : ∀ i, IsReal (a i)) (g : Fin n) (i : Fin p) (j : Fin q) :
    a (ix3 g i j) = ((at3 a g.val i.val j.val : ℝ) : EReal) := by
  unfold at3
  rw [dif_pos ⟨g.isLt, i.isLt, j.isLt⟩]
  exact coe_toReal (h _)

/-- The real numbers of the seven arguments. -/
def inOf (a0 : Cert.KernelIdeal.S4096x1024.Idx → EReal) (a1 : Cert.KernelIdeal.S1024x1024.Idx → EReal) (a2 : Cert.KernelIdeal.S4096x1536.Idx → EReal)
    (a3 : Cert.KernelIdeal.S1x512.Idx → EReal) (a4 : Cert.KernelIdeal.S1x512.Idx → EReal) (a5 : Cert.KernelIdeal.S4x128x128.Idx → EReal) (a6 : Cert.KernelIdeal.S4x128.Idx → EReal) : In where
  gyo := fun r k => at2 a0 r k
  wo := fun l k => at2 a1 (512 + l) k
  u := fun r l => at2 a2 r (512 + l)
  v := fun r l => at2 a2 r (1024 + l)
  g := fun l => at2 a3 0 l
  b := fun l => at2 a4 0 l
  ws := fun g i j => at3 a5 g i j
  bs := fun g i => at2 a6 g i

variable (m : (ℓ : Loc Cert.KernelIdeal.nD Cert.KernelIdeal.τ Cert.KernelIdeal.sig) → Buf (Elt Ideal) ℓ) (c : Dev Cert.KernelIdeal.nD)
  (V0 : Valuation Cert.ReferenceIdeal.τ Cert.ReferenceIdeal.sig (Elt Ideal))

/-- The real numbers of a device's arguments. -/
def inAt : In :=
  inOf (m ((c.tc : Thread Cert.KernelIdeal.nD Cert.KernelIdeal.τ).loc Cert.KernelIdeal.main_arg0)) (m ((c.tc : Thread Cert.KernelIdeal.nD Cert.KernelIdeal.τ).loc Cert.KernelIdeal.main_arg1))
    (m ((c.tc : Thread Cert.KernelIdeal.nD Cert.KernelIdeal.τ).loc Cert.KernelIdeal.main_arg2)) (m ((c.tc : Thread Cert.KernelIdeal.nD Cert.KernelIdeal.τ).loc Cert.KernelIdeal.main_arg3))
    (m ((c.tc : Thread Cert.KernelIdeal.nD Cert.KernelIdeal.τ).loc Cert.KernelIdeal.main_arg4)) (m ((c.tc : Thread Cert.KernelIdeal.nD Cert.KernelIdeal.τ).loc Cert.KernelIdeal.main_arg5))
    (m ((c.tc : Thread Cert.KernelIdeal.nD Cert.KernelIdeal.τ).loc Cert.KernelIdeal.main_arg6))

/-- The biases as the region finds them: the transposed argument. -/
theorem biases (i : Fin 128) (g : Fin 4) :
    (Cert.KernelIdeal.Gen.V m c Cert.KernelIdeal.main_v0 : Cert.KernelIdeal.S128x4.Idx → EReal) (ix2 i g)
      = (m ((c.tc : Thread Cert.KernelIdeal.nD Cert.KernelIdeal.τ).loc Cert.KernelIdeal.main_arg6) : Cert.KernelIdeal.S4x128.Idx → EReal) (ix2 g i) := by
  have e : (Cert.KernelIdeal.Gen.V m c Cert.KernelIdeal.main_v0 : Cert.KernelIdeal.S128x4.Idx → EReal)
      = transpose Cert.KernelIdeal.S128x4 [1, 0] (m ((c.tc : Thread Cert.KernelIdeal.nD Cert.KernelIdeal.τ).loc Cert.KernelIdeal.main_arg6) : Cert.KernelIdeal.S4x128.Idx → EReal) Cert.KernelIdeal.Gen.transposes_S4x128_S128x4_1_0 := by
    unfold Cert.KernelIdeal.Gen.V
    after_reads_simp
  rw [e]
  pointwise

theorem reads
    (r0 : ∀ i : Cert.KernelIdeal.S4096x1024.Idx, IsReal ((m ((c.tc : Thread Cert.KernelIdeal.nD Cert.KernelIdeal.τ).loc Cert.KernelIdeal.main_arg0) : Cert.KernelIdeal.S4096x1024.Idx → EReal) i))
    (r1 : ∀ i : Cert.KernelIdeal.S1024x1024.Idx, IsReal ((m ((c.tc : Thread Cert.KernelIdeal.nD Cert.KernelIdeal.τ).loc Cert.KernelIdeal.main_arg1) : Cert.KernelIdeal.S1024x1024.Idx → EReal) i))
    (r2 : ∀ i : Cert.KernelIdeal.S4096x1536.Idx, IsReal ((m ((c.tc : Thread Cert.KernelIdeal.nD Cert.KernelIdeal.τ).loc Cert.KernelIdeal.main_arg2) : Cert.KernelIdeal.S4096x1536.Idx → EReal) i))
    (r3 : ∀ i : Cert.KernelIdeal.S1x512.Idx, IsReal ((m ((c.tc : Thread Cert.KernelIdeal.nD Cert.KernelIdeal.τ).loc Cert.KernelIdeal.main_arg3) : Cert.KernelIdeal.S1x512.Idx → EReal) i))
    (r4 : ∀ i : Cert.KernelIdeal.S1x512.Idx, IsReal ((m ((c.tc : Thread Cert.KernelIdeal.nD Cert.KernelIdeal.τ).loc Cert.KernelIdeal.main_arg4) : Cert.KernelIdeal.S1x512.Idx → EReal) i))
    (r5 : ∀ i : Cert.KernelIdeal.S4x128x128.Idx, IsReal ((m ((c.tc : Thread Cert.KernelIdeal.nD Cert.KernelIdeal.τ).loc Cert.KernelIdeal.main_arg5) : Cert.KernelIdeal.S4x128x128.Idx → EReal) i))
    (r6 : ∀ i : Cert.KernelIdeal.S4x128.Idx, IsReal ((m ((c.tc : Thread Cert.KernelIdeal.nD Cert.KernelIdeal.τ).loc Cert.KernelIdeal.main_arg6) : Cert.KernelIdeal.S4x128.Idx → EReal) i)) :
    Reads m (inAt m c) c where
  h0 := fun r k => (congrFun (Cert.KernelIdeal.Gen.V_main_arg0 m c) _).trans (at2_eq r0 r k)
  h1 := fun l k => (congrFun (Cert.KernelIdeal.Gen.V_main_arg1 m c) _).trans (at2_eq r1 ⟨512 + l.val, by omega⟩ k)
  h2 := fun r l => (congrFun (Cert.KernelIdeal.Gen.V_main_arg2 m c) _).trans (at2_eq r2 r ⟨512 + l.val, by omega⟩)
  h3 := fun r l => (congrFun (Cert.KernelIdeal.Gen.V_main_arg2 m c) _).trans (at2_eq r2 r ⟨1024 + l.val, by omega⟩)
  h4 := fun z l => (congrFun (Cert.KernelIdeal.Gen.V_main_arg3 m c) _).trans ((at2_eq r3 z l).trans (by rw [Subsingleton.elim z 0]; rfl))
  h5 := fun z l => (congrFun (Cert.KernelIdeal.Gen.V_main_arg4 m c) _).trans ((at2_eq r4 z l).trans (by rw [Subsingleton.elim z 0]; rfl))
  h6 := fun g i j => (congrFun (Cert.KernelIdeal.Gen.V_main_arg5 m c) _).trans (at3_eq r5 g i j)
  h7 := fun i g => (biases m c i g).trans (at2_eq r6 g i)

/-- The reference reads the same real numbers. -/
theorem reads_ref (H : Reads m (inAt m c) c)
    (h0 : V0 (Proc.devRef .tc Cert.ReferenceIdeal.main_arg0) = m ((c.tc : Thread Cert.KernelIdeal.nD Cert.KernelIdeal.τ).loc Cert.KernelIdeal.main_arg0))
    (h1 : V0 (Proc.devRef .tc Cert.ReferenceIdeal.main_arg1) = m ((c.tc : Thread Cert.KernelIdeal.nD Cert.KernelIdeal.τ).loc Cert.KernelIdeal.main_arg1))
    (h2 : V0 (Proc.devRef .tc Cert.ReferenceIdeal.main_arg2) = m ((c.tc : Thread Cert.KernelIdeal.nD Cert.KernelIdeal.τ).loc Cert.KernelIdeal.main_arg2))
    (h3 : V0 (Proc.devRef .tc Cert.ReferenceIdeal.main_arg3) = m ((c.tc : Thread Cert.KernelIdeal.nD Cert.KernelIdeal.τ).loc Cert.KernelIdeal.main_arg3))
    (h4 : V0 (Proc.devRef .tc Cert.ReferenceIdeal.main_arg4) = m ((c.tc : Thread Cert.KernelIdeal.nD Cert.KernelIdeal.τ).loc Cert.KernelIdeal.main_arg4))
    (h5 : V0 (Proc.devRef .tc Cert.ReferenceIdeal.main_arg5) = m ((c.tc : Thread Cert.KernelIdeal.nD Cert.KernelIdeal.τ).loc Cert.KernelIdeal.main_arg5))
    (h6 : V0 (Proc.devRef .tc Cert.ReferenceIdeal.main_arg6) = m ((c.tc : Thread Cert.KernelIdeal.nD Cert.KernelIdeal.τ).loc Cert.KernelIdeal.main_arg6)) :
    Cert.SguRef.Reads V0 (inAt m c) where
  h0 := fun r k => (congrFun (h0.trans (Cert.KernelIdeal.Gen.V_main_arg0 m c).symm) _).trans (H.h0 r k)
  h1 := fun l k => (congrFun (h1.trans (Cert.KernelIdeal.Gen.V_main_arg1 m c).symm) _).trans (H.h1 l k)
  hu := fun r l => (congrFun (h2.trans (Cert.KernelIdeal.Gen.V_main_arg2 m c).symm) _).trans (H.h2 r l)
  hv := fun r l => (congrFun (h2.trans (Cert.KernelIdeal.Gen.V_main_arg2 m c).symm) _).trans (H.h3 r l)
  h3 := fun l => (congrFun (h3.trans (Cert.KernelIdeal.Gen.V_main_arg3 m c).symm) _).trans (H.h4 0 l)
  h4 := fun l => (congrFun (h4.trans (Cert.KernelIdeal.Gen.V_main_arg4 m c).symm) _).trans (H.h5 0 l)
  h5 := fun g i j => (congrFun (h5.trans (Cert.KernelIdeal.Gen.V_main_arg5 m c).symm) _).trans (H.h6 g i j)
  h6 := fun g i => (congrFun h6 _).trans ((biases m c i g).symm.trans (H.h7 i g))

variable {V0} {I : In} (R : Cert.SguRef.Reads V0 I)
include R

theorem guOf_eq : guOf V0 = fun j : Cert.KernelIdeal.S4096x512.Idx => ((I.gu (j 0).val (j 1).val : ℝ) : EReal) := by
  funext j
  exact (congrArg (guOf V0) (eq_ix2 j)).trans (gu_ref V0 I R (j 0) (j 1))

theorem gvOf_eq : gvOf V0 = fun j : Cert.KernelIdeal.S4096x512.Idx => ((I.gv (j 0).val (j 1).val : ℝ) : EReal) := by
  funext j
  exact (congrArg (gvOf V0) (eq_ix2 j)).trans (gv_ref V0 I R (j 0) (j 1))

theorem gwOf_eq : gwOf V0 = fun j : Cert.KernelIdeal.S4x128x128.Idx => ((I.gw (j 0).val (j 1).val (j 2).val : ℝ) : EReal) := by
  funext j
  exact (congrArg (gwOf V0) (eq_ix3 j)).trans (gw_ref V0 I R (j 0) (j 1) (j 2))

theorem gbsOf_eq : gbsOf V0 = fun j : Cert.KernelIdeal.S128x4.Idx => ((I.gbs (j 1).val (j 0).val : ℝ) : EReal) := by
  funext j
  exact (congrArg (gbsOf V0) (eq_ix2 j)).trans (gbs_ref V0 I R (j 0) (j 1))

theorem ggOf_eq : ggOf V0 = fun j : Cert.KernelIdeal.S1x512.Idx => ((I.gg (j 1).val : ℝ) : EReal) := by
  funext j
  have hj : @Eq (Fin 1) (j 0) 0 := Subsingleton.elim (α := Fin 1) _ _
  exact ((congrArg (ggOf V0) (eq_ix2 j)).trans (congrArg (fun z : Fin 1 => ggOf V0 (ix2 z (j 1))) hj)).trans (gg_ref V0 I R (j 1))

theorem gbOf_eq : gbOf V0 = fun j : Cert.KernelIdeal.S1x512.Idx => ((I.gb (j 1).val : ℝ) : EReal) := by
  funext j
  have hj : @Eq (Fin 1) (j 0) 0 := Subsingleton.elim (α := Fin 1) _ _
  exact ((congrArg (gbOf V0) (eq_ix2 j)).trans (congrArg (fun z : Fin 1 => gbOf V0 (ix2 z (j 1))) hj)).trans (gb_ref V0 I R (j 1))

omit R in
theorem algebraic : Cert.algebraic_KernelIdeal_ReferenceIdeal_pre_finite := by
  intro m ρ m' ρ' hpre hagree
  have H : ∀ c, Reads m (inAt m c) c := fun c => by
    obtain ⟨r0, r1, r2, r3, r4, r5, r6⟩ := real_of_pre (hpre c).1 (hpre c).2.1 (hpre c).2.2.1 (hpre c).2.2.2.1 (hpre c).2.2.2.2.1 (hpre c).2.2.2.2.2.1 (hpre c).2.2.2.2.2.2
    exact reads m c r0 r1 r2 r3 r4 r5 r6
  have R : ∀ c, Cert.SguRef.Reads (launchContents m' c) (inAt m c) := fun c =>
    reads_ref m c _ (H c) (hagree c).1 (hagree c).2.1 (hagree c).2.2.1 (hagree c).2.2.2.1 (hagree c).2.2.2.2.1 (hagree c).2.2.2.2.2.1 (hagree c).2.2.2.2.2.2
  refine ⟨fun c j => (((inAt m c).gu (j 0).val (j 1).val : ℝ) : EReal), fun c j => (((inAt m c).gv (j 0).val (j 1).val : ℝ) : EReal),
    fun c j => (((inAt m c).gw (j 0).val (j 1).val (j 2).val : ℝ) : EReal), fun c j => (((inAt m c).gbs (j 1).val (j 0).val : ℝ) : EReal),
    fun c j => (((inAt m c).gg (j 1).val : ℝ) : EReal), fun c j => (((inAt m c).gb (j 1).val : ℝ) : EReal),
    (θ_run _ _ _).mono (fun r h c => ?_) (Cert.KernelIdeal.Value.run_blocks m ρ), (θ_run _ _ _).mono (fun r h c => ?_) (Cert.ReferenceIdeal.Value.run m' ρ')⟩
  · exact ⟨(h c).1.trans (arr8 (H c)), (h c).2.1.trans (arr9 (H c)), (h c).2.2.1.trans (arr10 (H c)), (h c).2.2.2.1.trans (arr11 (H c)),
      (h c).2.2.2.2.1.trans (arr12 (H c)), (h c).2.2.2.2.2.1.trans (arr13 (H c)), (h c).2.2.2.2.2.2⟩
  · exact ⟨(h c).1.trans (guOf_eq (R c)), (h c).2.1.trans (gvOf_eq (R c)), (h c).2.2.1.trans (gwOf_eq (R c)), (h c).2.2.2.1.trans (gbsOf_eq (R c)),
      (h c).2.2.2.2.1.trans (ggOf_eq (R c)), (h c).2.2.2.2.2.1.trans (gbOf_eq (R c)), (h c).2.2.2.2.2.2⟩

end Cert.Sgu

end
-- ==== Proof.MlpGate.lean ====
/-
  THE GRADIENT THROUGH THE SECOND PRODUCT AND THE SQUARED RELU. Each grid point computes 512 rows of the gradient of the
  hidden layer: a row of the cotangent times a row of the weights, times the derivative `2 · max(p, 0)` of the squared
  relu. The reference's gradient is the same with the relu's gradient as a choice: zero where `p` is not positive, which
  the product with `max(p, 0)` already is, whatever the other factor, since over the extended reals `x · 0 = 0`.
-/
module

public import proofs.«01_k».proof.Defs
public import proofs.«01_k».proof.Proof.Gen.Kernel3Ideal
public import proofs.«01_k».proof.Proof.Gen.Kernel3Ideal.Value
public import proofs.«01_k».proof.Proof.Gen.Reference3Ideal
public import proofs.«01_k».proof.Proof.Gen.Reference3Ideal.Run
public import Idealize.ShloMosaic.Lib.Pointwise
public import Idealize.ShloMosaic.Lib.Pipeline.ReadBack
public import Idealize.ShloMosaic.Lib.Pipeline.ValueKit

@[expose] public section

set_option maxRecDepth 16384

noncomputable section

namespace Cert.MlpGate

open Cert.Kernel3Ideal Cert.Kernel3Ideal.Gen Idealize.ShloMosaic Idealize.ShloMosaic.TcCoe Idealize.SL.Sem Idealize.ShloMosaic.StableHlo

/-- The gradient of the hidden layer at row `t` and lane `n`. -/
def gate (G W : S4096x1024.Idx → EReal) (P : S4096x4096.Idx → EReal) (t n : Fin 4096) : EReal :=
  (∑ k : Fin 1024, G (ix2 t k) * W (ix2 n k)) * (2 * max (P (ix2 t n)) 0)

/-- The same as an array. -/
def gateArr (G W : S4096x1024.Idx → EReal) (P : S4096x4096.Idx → EReal) : S4096x4096.Idx → EReal := fun j => gate G W P (j 0) (j 1)

/-- The word of 2. -/
theorem ofBits_two : Ideal.ofBits .f32 0x40000000#32 = (2 : EReal) := by
  rw [show (2 : EReal) = ((2 : ℝ) : EReal) from rfl]
  simp [Ideal.ofBits, Ideal.ieee, -EReal.coe_mul, -EReal.coe_pow]; norm_num

/-- What a grid point stores, of the blocks it reads. -/
theorem pay_apply (x : Vec Ideal S512x1024 .bf16) (w : Vec Ideal S4096x1024 .bf16) (p : Vec Ideal S512x4096 .bf16) (r : Fin 512) (n : Fin 4096) :
    k0_pay1 x w p (ix2 r n) = (∑ k : Fin 1024, x (ix2 r k) * w (ix2 n k)) * (2 * max (p (ix2 r n)) 0) := by
  pointwise [k0_pay1, dot_S512x1024_S4096x1024_S512x4096_1_1_0_0_n_n]
  rw [ofBits_two]

/-- The reference's gradient. -/
theorem ref_apply (G W : FVec Ideal S4096x1024 .bf16) (P : FVec Ideal S4096x4096 .bf16) (t n : Fin 4096) :
    (truncf .bf16 (select (cmpf .ogt (extf .f32 P bitsLt_bf16_f32) (broadcastInDim S4096x4096 ![] Cert.Reference3Ideal.Gen.bcast_S_S4096x4096 (constant Cert.Reference3Ideal.S_ .f32 0x00000000#32))) (mulf (Host.dotGeneral Cert.Reference3Ideal.dot_S4096x1024_S4096x1024_S4096x4096_1_1_0_0_n_n none (extf .f32 G bitsLt_bf16_f32) (extf .f32 W bitsLt_bf16_f32)) (mulf (broadcastInDim S4096x4096 ![] Cert.Reference3Ideal.Gen.bcast_S_S4096x4096 (constant Cert.Reference3Ideal.S_ .f32 0x40000000#32)) (maximumf (extf .f32 P bitsLt_bf16_f32) (broadcastInDim S4096x4096 ![] Cert.Reference3Ideal.Gen.bcast_S_S4096x4096 (constant Cert.Reference3Ideal.S_ .f32 0x00000000#32))))) (broadcastInDim S4096x4096 ![] Cert.Reference3Ideal.Gen.bcast_S_S4096x4096 (constant Cert.Reference3Ideal.S_ .f32 0x00000000#32))) bitsLt_bf16_f32 : FVec Ideal S4096x4096 .bf16) (ix2 t n)
      = gate G W P t n := by
  pointwise [Cert.Reference3Ideal.dot_S4096x1024_S4096x1024_S4096x4096_1_1_0_0_n_n]
  rw [ofBits_two]
  unfold gate
  split
  · rfl
  · rename_i h
    rw [max_eq_right (not_lt.mp h), mul_zero, mul_zero]

variable (m : (ℓ : Loc nD τ sig) → Buf (Elt Ideal) ℓ)

/-- The blocks' indices at each grid point. -/
theorem idx : ∀ t, win0_0.index t = ![t.val, 0] ∧ win0_1.index t = ![0, 0] ∧ win0_2.index t = ![t.val, 0] ∧ win0_3.index t = ![t.val, 0] := by
  decide +kernel

/-- The row of the whole array at which a grid point's row stands. -/
def row (t : Fin cfg0.N) (r : Fin 512) : Fin 4096 := ⟨512 * t.val + r.val, by have : t.val < 8 := t.isLt; omega⟩

theorem iblk0 (c : Dev nD) (t : Fin cfg0.N) (r : Fin 512) (k : Fin 1024) : iblk m c 0 t (ix2 r k) = V m c main_arg0 (ix2 (row t r) k) := by
  unfold row
  blk_ext [iblk, (idx t).1]

theorem iblk1 (c : Dev nD) (t : Fin cfg0.N) (n : Fin 4096) (k : Fin 1024) : iblk m c 1 t (ix2 n k) = V m c main_arg1 (ix2 n k) := by
  blk_ext [iblk, (idx t).2.1]

theorem iblk2 (c : Dev nD) (t : Fin cfg0.N) (r : Fin 512) (n : Fin 4096) : iblk m c 2 t (ix2 r n) = V m c main_arg2 (ix2 (row t r) n) := by
  unfold row
  blk_ext [iblk, (idx t).2.2.1]

theorem pay_at (c : Dev nD) (t : Fin cfg0.N) (r : Fin 512) (n : Fin 4096) :
    k0_pay1 (iblk m c 0 t) (iblk m c 1 t) (iblk m c 2 t) (ix2 r n) = gate (V m c main_arg0) (V m c main_arg1) (V m c main_arg2) (row t r) n := by
  rw [pay_apply, gate, iblk2]
  exact congrArg (fun x : EReal => x * _) (Finset.sum_congr rfl fun k _ => by rw [iblk0, iblk1])

/-- The kernel's result. -/
theorem arr3 (c : Dev nD) : (dats m 0 c).arrAt 3 cfg0.N = gateArr (V m c main_arg0) (V m c main_arg1) (V m c main_arg2) := by
  refine (dats m 0 c).arrAt_eq_of_covers 3 _ (by decide +kernel) fun t hf y => ?_
  blk_simp
  rw [after0_3]
  frame_out
  have e : ((View.whole main_v0).slice (win0_3.rect t)).emb y = (ix2 (n0 := 4096) (n1 := 4096) (row t (y 0)) (y 1) : S4096x4096.Idx) := by
    unfold row
    blk_ext [(idx t).2.2.2]
  have e' : y = (ix2 (n0 := 512) (n1 := 4096) (y 0) (y 1)) := by blk_ext
  rw [e]
  refine (congrArg _ e').trans ?_
  exact (pay_at m c t (y 0) (y 1))

/-- Over the extended reals the kernel's gradient of the hidden layer is the reference's. -/
theorem algebraic : Cert.algebraic_Kernel3Ideal_Reference3Ideal := by
  intro m ρ m' ρ' _ hagree
  refine ⟨fun c => gateArr (V m c main_arg0) (V m c main_arg1) (V m c main_arg2), (θ_run _ _ _).mono (fun r h c => ?_) (Cert.Kernel3Ideal.Value.run_blocks m ρ), (θ_run _ _ _).mono (fun r h c => ?_) (Cert.Reference3Ideal.Value.run m' ρ')⟩
  · exact ⟨(h c).1.trans (arr3 m c), (h c).2⟩
  · refine ⟨(h c).1.trans ?_, (h c).2⟩
    rw [(hagree c).1, (hagree c).2.1, (hagree c).2.2]
    beta_reduce
    rw [V_main_arg0, V_main_arg1, V_main_arg2]
    funext j
    exact (congrArg _ (eq_ix2 j)).trans (ref_apply _ _ _ (j 0) (j 1))

end Cert.MlpGate

end
-- ==== Proof.MlpWeights.lean ====
/-
  THE GRADIENTS OF THE PERCEPTRON'S TWO WEIGHTS. Each grid point computes 512 rows (of the second weight) or one piece of
  512 columns (of the first) as one product over all 4096 rows of the two arrays. The reference's gradients are the same
  sums with the factors of each product the other way round.
-/
module

public import proofs.«01_k».proof.Defs
public import proofs.«01_k».proof.Proof.Gen.Kernel4Ideal
public import proofs.«01_k».proof.Proof.Gen.Kernel4Ideal.Value
public import proofs.«01_k».proof.Proof.Gen.Reference4Ideal
public import proofs.«01_k».proof.Proof.Gen.Reference4Ideal.Run
public import proofs.«01_k».proof.Proof.Gen.Kernel5Ideal
public import proofs.«01_k».proof.Proof.Gen.Kernel5Ideal.Value
public import proofs.«01_k».proof.Proof.Gen.Reference5Ideal
public import proofs.«01_k».proof.Proof.Gen.Reference5Ideal.Run
public import Idealize.ShloMosaic.Lib.Pointwise
public import Idealize.ShloMosaic.Lib.Pipeline.ReadBack
public import Idealize.ShloMosaic.Lib.Pipeline.ValueKit

@[expose] public section

set_option maxRecDepth 16384

noncomputable section

namespace Cert.MlpW2

open Cert.Kernel4Ideal Cert.Kernel4Ideal.Gen Idealize.ShloMosaic Idealize.ShloMosaic.TcCoe Idealize.SL.Sem Idealize.ShloMosaic.StableHlo

/-- The second weight's gradient at row `n` and column `d`: the sum over the tokens. -/
def gw (A : S4096x4096.Idx → EReal) (G : S4096x1024.Idx → EReal) (n : Fin 4096) (d : Fin 1024) : EReal :=
  ∑ t : Fin 4096, A (ix2 t n) * G (ix2 t d)

/-- The same as an array. -/
def gwArr (A : S4096x4096.Idx → EReal) (G : S4096x1024.Idx → EReal) : S4096x1024.Idx → EReal := fun j => gw A G (j 0) (j 1)

/-- What a grid point stores, of the blocks it reads. -/
theorem pay_apply (x : Vec Ideal S4096x512 .bf16) (g : Vec Ideal S4096x1024 .bf16) (r : Fin 512) (d : Fin 1024) :
    k0_pay1 x g (ix2 r d) = ∑ t : Fin 4096, x (ix2 t r) * g (ix2 t d) := by
  pointwise [k0_pay1, dot_S4096x512_S4096x1024_S512x1024_0_0_1_1_n_n]

/-- The reference's gradient. -/
theorem ref_apply (A : FVec Ideal S4096x4096 .bf16) (G : FVec Ideal S4096x1024 .bf16) (n : Fin 4096) (d : Fin 1024) :
    (transpose S4096x1024 [1, 0] (Host.dotGeneral Cert.Reference4Ideal.dot_S4096x1024_S4096x4096_S1024x4096_0_0_1_1_n_n none (extf .f32 G Cert.Reference4Ideal.Gen.bitsLt_bf16_f32) (extf .f32 A Cert.Reference4Ideal.Gen.bitsLt_bf16_f32)) Cert.Reference4Ideal.Gen.transposes_S1024x4096_S4096x1024_1_0 : FVec Ideal S4096x1024 .f32) (ix2 n d)
      = gw A G n d := by
  unfold gw
  pointwise [Cert.Reference4Ideal.dot_S4096x1024_S4096x4096_S1024x4096_0_0_1_1_n_n]
  exact Finset.sum_congr rfl fun t _ => mul_comm _ _

variable (m : (ℓ : Loc nD τ sig) → Buf (Elt Ideal) ℓ)

/-- The blocks' indices at each grid point. -/
theorem idx : ∀ t, win0_0.index t = ![0, t.val] ∧ win0_1.index t = ![0, 0] ∧ win0_2.index t = ![t.val, 0] := by
  decide +kernel

/-- The row of the weight at which a grid point's row stands. -/
def row (t : Fin cfg0.N) (r : Fin 512) : Fin 4096 := ⟨512 * t.val + r.val, by have : t.val < 8 := t.isLt; omega⟩

theorem iblk0 (c : Dev nD) (t : Fin cfg0.N) (s : Fin 4096) (r : Fin 512) : iblk m c 0 t (ix2 s r) = V m c main_arg0 (ix2 s (row t r)) := by
  unfold row
  blk_ext [iblk, (idx t).1]

theorem iblk1 (c : Dev nD) (t : Fin cfg0.N) (s : Fin 4096) (d : Fin 1024) : iblk m c 1 t (ix2 s d) = V m c main_arg1 (ix2 s d) := by
  blk_ext [iblk, (idx t).2.1]

theorem pay_at (c : Dev nD) (t : Fin cfg0.N) (r : Fin 512) (d : Fin 1024) :
    k0_pay1 (iblk m c 0 t) (iblk m c 1 t) (ix2 r d) = gw (V m c main_arg0) (V m c main_arg1) (row t r) d := by
  rw [pay_apply, gw]
  exact Finset.sum_congr rfl fun k _ => by rw [iblk0, iblk1]

/-- The kernel's result. -/
theorem arr2 (c : Dev nD) : (dats m 0 c).arrAt 2 cfg0.N = gwArr (V m c main_arg0) (V m c main_arg1) := by
  refine (dats m 0 c).arrAt_eq_of_covers 2 _ (by decide +kernel) fun t hf y => ?_
  blk_simp
  rw [after0_2]
  frame_out
  have e : ((View.whole main_v0).slice (win0_2.rect t)).emb y = (ix2 (n0 := 4096) (n1 := 1024) (row t (y 0)) (y 1) : S4096x1024.Idx) := by
    unfold row
    blk_ext [(idx t).2.2]
  have e' : y = (ix2 (n0 := 512) (n1 := 1024) (y 0) (y 1)) := by blk_ext
  rw [e]
  exact (congrArg _ e').trans (pay_at m c t (y 0) (y 1))

/-- Over the extended reals the kernel's gradient of the second weight is the reference's. -/
theorem algebraic : Cert.algebraic_Kernel4Ideal_Reference4Ideal := by
  intro m ρ m' ρ' _ hagree
  refine ⟨fun c => gwArr (V m c main_arg0) (V m c main_arg1), (θ_run _ _ _).mono (fun r h c => ?_) (Cert.Kernel4Ideal.Value.run_blocks m ρ), (θ_run _ _ _).mono (fun r h c => ?_) (Cert.Reference4Ideal.Value.run m' ρ')⟩
  · exact ⟨(h c).1.trans (arr2 m c), (h c).2⟩
  · refine ⟨(h c).1.trans ?_, (h c).2⟩
    rw [(hagree c).1, (hagree c).2]
    beta_reduce
    rw [V_main_arg0, V_main_arg1]
    funext j
    exact (congrArg _ (eq_ix2 j)).trans (ref_apply _ _ (j 0) (j 1))

end Cert.MlpW2

namespace Cert.MlpW1

open Cert.Kernel5Ideal Cert.Kernel5Ideal.Gen Idealize.ShloMosaic Idealize.ShloMosaic.TcCoe Idealize.SL.Sem Idealize.ShloMosaic.StableHlo

/-- Column `e` of piece `q` of the weight's columns. -/
def col (q : Fin 8) (e : Fin 512) : Fin 4096 := ⟨512 * q.val + e.val, by omega⟩

/-- The first weight's gradient at piece `q`, row `d` and column `e` of the piece: the sum over the tokens. -/
def gw (H : S4096x1024.Idx → EReal) (G : S4096x4096.Idx → EReal) (q : Fin 8) (d : Fin 1024) (e : Fin 512) : EReal :=
  ∑ t : Fin 4096, H (ix2 t d) * G (ix2 t (col q e))

/-- The same as an array. -/
def gwArr (H : S4096x1024.Idx → EReal) (G : S4096x4096.Idx → EReal) : S8x1024x512.Idx → EReal := fun j => gw H G (j 0) (j 1) (j 2)

/-- What a grid point stores, of the blocks it reads. -/
theorem pay_apply (x : Vec Ideal S4096x1024 .bf16) (g : Vec Ideal S4096x512 .bf16) (d : Fin 1024) (e : Fin 512) :
    k0_pay1 x g (ix3 0 d e) = ∑ t : Fin 4096, x (ix2 t d) * g (ix2 t e) := by
  pointwise [k0_pay1, dot_S4096x1024_S4096x512_S1024x512_0_0_1_1_n_n]

/-- The reference's gradient. -/
theorem ref_apply (H : FVec Ideal S4096x1024 .bf16) (G : FVec Ideal S4096x4096 .bf16) (q : Fin 8) (d : Fin 1024) (e : Fin 512) :
    (transpose S8x1024x512 [1, 0, 2] (shapeCast Cert.Reference5Ideal.S1024x8x512 (transpose Cert.Reference5Ideal.S1024x4096 [1, 0] (Host.dotGeneral Cert.Reference5Ideal.dot_S4096x4096_S4096x1024_S4096x1024_0_0_1_1_n_n none (extf .f32 G Cert.Reference5Ideal.Gen.bitsLt_bf16_f32) (extf .f32 H Cert.Reference5Ideal.Gen.bitsLt_bf16_f32)) Cert.Reference5Ideal.Gen.transposes_S4096x1024_S1024x4096_1_0) Cert.Reference5Ideal.Gen.shapeCasts_S1024x4096_S1024x8x512) Cert.Reference5Ideal.Gen.transposes_S1024x8x512_S8x1024x512_1_0_2 : FVec Ideal S8x1024x512 .f32) (ix3 q d e)
      = gw H G q d e := by
  unfold gw col
  pointwise [Cert.Reference5Ideal.dot_S4096x4096_S4096x1024_S4096x1024_0_0_1_1_n_n]
  exact Finset.sum_congr rfl fun t _ => (mul_comm _ _).trans (by rw [show (⟨512 * q.val + e.val, by omega⟩ : Fin 4096) = ⟨q.val * 512 + e.val, by omega⟩ from Fin.ext (by simp only []; omega)])

variable (m : (ℓ : Loc nD τ sig) → Buf (Elt Ideal) ℓ)

/-- The blocks' indices at each grid point. -/
theorem idx : ∀ t, win0_0.index t = ![0, 0] ∧ win0_1.index t = ![0, t.val] ∧ win0_2.index t = ![t.val, 0, 0] := by
  decide +kernel

/-- The piece a grid point computes. -/
def piece (t : Fin cfg0.N) : Fin 8 := ⟨t.val, t.isLt⟩

theorem iblk0 (c : Dev nD) (t : Fin cfg0.N) (s : Fin 4096) (d : Fin 1024) : iblk m c 0 t (ix2 s d) = V m c main_arg0 (ix2 s d) := by
  blk_ext [iblk, (idx t).1]

theorem iblk1 (c : Dev nD) (t : Fin cfg0.N) (s : Fin 4096) (e : Fin 512) : iblk m c 1 t (ix2 s e) = V m c main_arg1 (ix2 s (col (piece t) e)) := by
  unfold col piece
  blk_ext [iblk, (idx t).2.1]

theorem pay_at (c : Dev nD) (t : Fin cfg0.N) (d : Fin 1024) (e : Fin 512) :
    k0_pay1 (iblk m c 0 t) (iblk m c 1 t) (ix3 0 d e) = gw (V m c main_arg0) (V m c main_arg1) (piece t) d e := by
  rw [pay_apply, gw]
  exact Finset.sum_congr rfl fun k _ => by rw [iblk0, iblk1]

/-- The kernel's result. -/
theorem arr2 (c : Dev nD) : (dats m 0 c).arrAt 2 cfg0.N = gwArr (V m c main_arg0) (V m c main_arg1) := by
  refine (dats m 0 c).arrAt_eq_of_covers 2 _ (by decide +kernel) fun t hf y => ?_
  blk_simp
  rw [after0_2]
  frame_out
  have e : ((View.whole main_v0).slice (win0_2.rect t)).emb y = (ix3 (n0 := 8) (n1 := 1024) (n2 := 512) (piece t) (y 1) (y 2) : S8x1024x512.Idx) := by
    unfold piece
    blk_ext [(idx t).2.2]
  have e' : y = (ix3 (n0 := 1) (n1 := 1024) (n2 := 512) 0 (y 1) (y 2)) := by blk_ext
  rw [e]
  exact (congrArg _ e').trans (pay_at m c t (y 1) (y 2))

/-- Over the extended reals the kernel's gradient of the first weight is the reference's. -/
theorem algebraic : Cert.algebraic_Kernel5Ideal_Reference5Ideal := by
  intro m ρ m' ρ' _ hagree
  refine ⟨fun c => gwArr (V m c main_arg0) (V m c main_arg1), (θ_run _ _ _).mono (fun r h c => ?_) (Cert.Kernel5Ideal.Value.run_blocks m ρ), (θ_run _ _ _).mono (fun r h c => ?_) (Cert.Reference5Ideal.Value.run m' ρ')⟩
  · exact ⟨(h c).1.trans (arr2 m c), (h c).2⟩
  · refine ⟨(h c).1.trans ?_, (h c).2⟩
    rw [(hagree c).1, (hagree c).2]
    beta_reduce
    rw [V_main_arg0, V_main_arg1]
    funext j
    exact (congrArg _ (eq_ix3 j)).trans (ref_apply _ _ (j 0) (j 1) (j 2))

end Cert.MlpW1

end
-- ==== Proof.MlpHSpec.lean ====
/- The gradient at the perceptron's input, through the two root-mean-square norms around the residual sum, as plain real
   functions of the arrays. Rows are tokens, 0 … 4095; lanes are 0 … 1023; the hidden width is 4096, held by the first
   weight in 8 pieces of 512. Everything is indexed by naturals, so that a block of rows is the same functions at a
   shifted row. -/
module

public import Idealize.ShloMosaic.PureOps.Ideal
public import proofs.«01_k».proof.Proof.Reals
public import proofs.«01_k».proof.Proof.SguSpec

@[expose] public section

noncomputable section

namespace Cert.MlpH

open Idealize.ShloMosaic Cert.Sgu

/-! ## The root-mean-square norm of a row of 1024 lanes -/

/-- The mean square of a row, with the norm's epsilon. -/
def meanSq (x : ℕ → ℝ) : ℝ := (∑ l : Fin 1024, x l * x l) * (1 / 1024) + epsR

/-- The reciprocal root mean square of a row. -/
def rrms (x : ℕ → ℝ) : ℝ := (Real.sqrt (meanSq x))⁻¹

/-- The gradient at the row, where `d` is the gradient at the normalised row. -/
def back (d x : ℕ → ℝ) (l : ℕ) : ℝ := rrms x * (d l - x l * rrms x * ((∑ k : Fin 1024, d k * (x k * rrms x)) * (1 / 1024)))

/-- Half of what the mean square's gradient spreads over the row, as differentiating step by step gives it. -/
def half (d x : ℕ → ℝ) : ℝ := (∑ l : Fin 1024, x l * d l) * (-(1 / 2) * (rrms x * (1 / meanSq x))) * (1 / 1024)

theorem meanSq_pos (x : ℕ → ℝ) : 0 < meanSq x :=
  add_pos_of_nonneg_of_pos (mul_nonneg (Finset.sum_nonneg fun _ _ => mul_self_nonneg _) (by norm_num)) (by norm_num [epsR])

theorem inv_meanSq (x : ℕ → ℝ) : 1 / meanSq x = rrms x * rrms x := by
  unfold rrms
  rw [← mul_inv, Real.mul_self_sqrt (meanSq_pos x).le, one_div]

/-- Differentiating step by step gives the closed form. -/
theorem back_eq (d x : ℕ → ℝ) (l : ℕ) : d l * rrms x + x l * half d x + half d x * x l = back d x l := by
  have s : (∑ k : Fin 1024, d k * (x k * rrms x)) = (∑ k : Fin 1024, x k * d k) * rrms x := by
    rw [Finset.sum_mul]
    exact Finset.sum_congr rfl fun k _ => by ring
  unfold back half
  rw [s, inv_meanSq]
  ring

/-! ## The arguments and the stages -/

/-- The arguments as real functions: the gradient at the hidden layer, the first weight's pieces, the mixer's input, the
    mixer's output, the gradient at the residual sum, the scales of the norm before and of the norm after. -/
structure In where
  gp : ℕ → ℕ → ℝ
  w : ℕ → ℕ → ℕ → ℝ
  x : ℕ → ℕ → ℝ
  y : ℕ → ℕ → ℝ
  go : ℕ → ℕ → ℝ
  gpre : ℕ → ℝ
  gpost : ℕ → ℝ

namespace In

variable (I : In)

/-- The residual sum. -/
def mid (r l : ℕ) : ℝ := I.x r l + I.y r l * rrms (I.y r) * I.gpost l

/-- The gradient at the perceptron's normalised input. -/
def gh (r l : ℕ) : ℝ := ∑ n : Fin 4096, I.gp r n * I.w (n / 512) l (n % 512)

/-- The gradient at the residual sum. -/
def gi (r l : ℕ) : ℝ := I.go r l + back (fun k => I.gh r k * I.gpre k) (I.mid r) l

/-- The gradient at the mixer's output. -/
def gy (r l : ℕ) : ℝ := back (fun k => I.gi r k * I.gpost k) (I.y r) l

/-- The gradient of the scale of the norm before the perceptron. -/
def ggpre (l : ℕ) : ℝ := ∑ r : Fin 4096, I.gh r l * (I.mid r l * rrms (I.mid r))

/-- The gradient of the scale of the norm after the mixer. -/
def ggpost (l : ℕ) : ℝ := ∑ r : Fin 4096, I.gi r l * (I.y r l * rrms (I.y r))

end In

/-! ## The programs' constants -/

theorem ofBits_1024 : Ideal.ofBits .f32 0x44800000#32 = ((1024 : ℝ) : EReal) := by
  simp [Ideal.ofBits, Ideal.ieee, -EReal.coe_mul, -EReal.coe_pow]; norm_num

theorem ofBits_mhalf : Ideal.ofBits .f32 0xBF000000#32 = ((-(1 / 2) : ℝ) : EReal) := by
  simp [Ideal.ofBits, Ideal.ieee, -EReal.coe_mul, -EReal.coe_pow]; norm_num

/-- A quotient by the real 1024. -/
theorem div_1024 (x : ℝ) : Ideal.div (x : EReal) ((1024 : ℝ) : EReal) = ((x * (1 / 1024) : ℝ) : EReal) := by
  rw [Ideal.div_coe (by norm_num), ← EReal.coe_mul]

/-- A sum over the hidden width, piece by piece. -/
theorem sum_pieces (f : ℕ → ℝ) :
    (∑ n : Fin 4096, f n.val) = (∑ k : Fin 512, f k.val) + (∑ k : Fin 512, f (512 + k.val)) + (∑ k : Fin 512, f (1024 + k.val))
      + (∑ k : Fin 512, f (1536 + k.val)) + (∑ k : Fin 512, f (2048 + k.val)) + (∑ k : Fin 512, f (2560 + k.val))
      + (∑ k : Fin 512, f (3072 + k.val)) + (∑ k : Fin 512, f (3584 + k.val)) := by
  have u : ∀ a : ℕ, (∑ k : Fin 512, f (a + k.val)) = ∑ k ∈ Finset.range 512, f (a + k) := fun a => Fin.sum_univ_eq_sum_range (fun k => f (a + k)) 512
  have e : ∀ n : ℕ, ∑ k ∈ Finset.range (n + 512), f k = ∑ k ∈ Finset.range n, f k + ∑ k ∈ Finset.range 512, f (n + k) :=
    fun n => Finset.sum_range_add f n 512
  rw [Fin.sum_univ_eq_sum_range f 4096, Fin.sum_univ_eq_sum_range f 512, u, u, u, u, u, u, u]
  exact (e 3584).trans (congrArg (· + _) ((e 3072).trans (congrArg (· + _) ((e 2560).trans (congrArg (· + _) ((e 2048).trans (congrArg (· + _)
    ((e 1536).trans (congrArg (· + _) ((e 1024).trans (congrArg (· + _) (e 512))))))))))))

end Cert.MlpH

end
-- ==== Proof.MlpHPay.lean ====
/- What the kernel of the gradient at the perceptron's input computes for one block of 512 rows from row `r0` on, over
   blocks that hold real numbers. -/
module

public import proofs.«01_k».proof.Proof.MlpHSpec
public import proofs.«01_k».proof.Proof.Gen.Kernel6Ideal
public import proofs.«01_k».proof.Proof.Gen.Kernel6Ideal.Value
public import Idealize.ShloMosaic.Lib.Pointwise

@[expose] public section

set_option maxRecDepth 16384

noncomputable section

namespace Cert.MlpH.Kernel

open Idealize.ShloMosaic Idealize.ShloMosaic.TcCoe Idealize.SL.Sem Idealize.ShloMosaic.StableHlo Cert.Sgu Cert.MlpH
open Cert.Kernel6Ideal Cert.Kernel6Ideal.Gen

/-- A block of 512 rows holds the rows from `r0` on of a real array. -/
abbrev Holds {φ : FTy} (r0 : ℕ) (x : FVec Ideal S512x1024 φ) (f : ℕ → ℕ → ℝ) : Prop :=
  ∀ (y : Fin 512) (l : Fin 1024), x (ix2 y l) = ((f (r0 + y.val) l.val : ℝ) : EReal)

/-- A block of 512 rows and one column holds the rows from `r0` on of a real column. -/
abbrev HoldsCol (r0 : ℕ) (x : FVec Ideal S512x1 .f32) (f : ℕ → ℝ) : Prop :=
  ∀ (y : Fin 512) (z : Fin 1), x (ix2 y z) = ((f (r0 + y.val) : ℝ) : EReal)

/-- A row of 1024 lanes holds a real row. -/
abbrev HoldsRow (x : FVec Ideal S1x1024 .f32) (f : ℕ → ℝ) : Prop :=
  ∀ (z : Fin 1) (l : Fin 1024), x (ix2 z l) = ((f l.val : ℝ) : EReal)

variable (I : In) (r0 : ℕ)

/-- Columns `512 q` on of the block of the hidden layer's gradient. -/
abbrev Left (q : ℕ) (x : FVec Ideal S512x512 .bf16) : Prop :=
  ∀ (y k : Fin 512), x (ix2 y k) = ((I.gp (r0 + y.val) (512 * q + k.val) : ℝ) : EReal)

/-- Piece `q` of the weight. -/
abbrev Right (q : ℕ) (x : FVec Ideal S1x1024x512 .bf16) : Prop :=
  ∀ (z : Fin 1) (l : Fin 1024) (k : Fin 512), x (ix3 z l k) = ((I.w q l.val k.val : ℝ) : EReal)

/-- The part of the gradient at the normalised input which piece `q` gives. -/
def part (q r l : ℕ) : ℝ := ∑ k : Fin 512, I.gp r (512 * q + k.val) * I.w q l k.val

theorem gh_eq (r l : ℕ) :
    I.gh r l = part I 0 r l + part I 1 r l + part I 2 r l + part I 3 r l + part I 4 r l + part I 5 r l + part I 6 r l + part I 7 r l := by
  have p : ∀ q : ℕ, (∑ k : Fin 512, I.gp r (512 * q + k.val) * I.w ((512 * q + k.val) / 512) l ((512 * q + k.val) % 512)) = part I q r l := fun q =>
    Finset.sum_congr rfl fun k _ => by
      have hk := k.isLt
      rw [show (512 * q + k.val) / 512 = q by omega, show (512 * q + k.val) % 512 = k.val by omega]
  unfold In.gh
  rw [sum_pieces fun n => I.gp r n * I.w (n / 512) l (n % 512), ← p 0, ← p 1, ← p 2, ← p 3, ← p 4, ← p 5, ← p 6, ← p 7]
  simp only [Nat.mul_zero, Nat.zero_add]

/-- The product with the weight, over its eight pieces. -/
theorem gh_apply {a0 a1 a2 a3 a4 a5 a6 a7 : FVec Ideal S512x512 .bf16} {b0 b1 b2 b3 b4 b5 b6 b7 : FVec Ideal S1x1024x512 .bf16}
    (h0 : Left I r0 0 a0) (h1 : Left I r0 1 a1) (h2 : Left I r0 2 a2) (h3 : Left I r0 3 a3) (h4 : Left I r0 4 a4) (h5 : Left I r0 5 a5)
    (h6 : Left I r0 6 a6) (h7 : Left I r0 7 a7) (g0 : Right I 0 b0) (g1 : Right I 1 b1) (g2 : Right I 2 b2) (g3 : Right I 3 b3) (g4 : Right I 4 b4)
    (g5 : Right I 5 b5) (g6 : Right I 6 b6) (g7 : Right I 7 b7) :
    Holds r0 (k0_pay3 (F := Ideal) (k0_pay2 (F := Ideal) a0 b0 a1 b1 a2 b2 a3 b3 a4 b4) a5 b5 a6 b6 a7 b7) I.gh := by
  intro y l
  rw [gh_eq]
  pointwise [k0_pay3, k0_pay2, dot_S512x512_S1024x512_S512x1024_1_1_0_0_n_n]
  simp only [h0 _ _, h1 _ _, h2 _ _, h3 _ _, h4 _ _, h5 _ _, h6 _ _, h7 _ _, g0 _ _ _, g1 _ _ _, g2 _ _ _, g3 _ _ _, g4 _ _ _, g5 _ _ _, g6 _ _ _, g7 _ _ _,
    ← EReal.coe_mul, ← Reals.coe_sum, ← EReal.coe_add]
  rfl

/-- The normalised residual sum. -/
theorem n_apply {x : FVec Ideal S512x1024 .f32} {r : FVec Ideal S512x1 .f32} (hx : Holds r0 x I.mid) (hr : HoldsCol r0 r fun r => rrms (I.mid r)) :
    Holds r0 (k0_pay6 (F := Ideal) x r) (fun r l => I.mid r l * rrms (I.mid r)) := by
  intro y l
  pointwise [k0_pay6, k0_pay4]
  rw [hx, hr, ← EReal.coe_mul]

/-- The gradient at the normalised residual sum. -/
theorem d_apply {g : FVec Ideal S512x1024 .f32} {s : FVec Ideal S1x1024 .f32} (hg : Holds r0 g I.gh) (hs : HoldsRow s I.gpre) :
    Holds r0 (mulf g (broadcastTo S512x1024 s broadcasts_S1x1024_S512x1024)) (fun r l => I.gh r l * I.gpre l) := by
  intro y l
  pointwise
  rw [hg, hs, ← EReal.coe_mul]

/-- The gradient at the residual sum. -/
theorem gi_apply {go n d : FVec Ideal S512x1024 .f32} {r : FVec Ideal S512x1 .f32} (hgo : Holds r0 go I.go) (hr : HoldsCol r0 r fun r => rrms (I.mid r))
    (hn : Holds r0 n fun r l => I.mid r l * rrms (I.mid r)) (hd : Holds r0 d fun r l => I.gh r l * I.gpre l) :
    Holds r0 (k0_pay9 (F := Ideal) go r n d (mulf d n)) I.gi := by
  intro y l
  pointwise [k0_pay9]
  simp only [hgo _ _, hr _ _, hn _ _, hd _ _, ofBits_1024, ← EReal.coe_mul, ← Reals.coe_sum, div_1024, ← EReal.coe_sub, ← EReal.coe_add]
  rfl

/-- The normalised mixer's output. -/
theorem ny_apply {y : FVec Ideal S512x1024 .f32} {r : FVec Ideal S512x1 .f32} (hy : Holds r0 y I.y) (hr : HoldsCol r0 r fun r => rrms (I.y r)) :
    Holds r0 (k0_pay10 (F := Ideal) y r) (fun r l => I.y r l * rrms (I.y r)) := by
  intro t l
  pointwise [k0_pay10]
  rw [hy, hr, ← EReal.coe_mul]

/-- The gradient at the mixer's output. -/
theorem gy_apply {go n d y : FVec Ideal S512x1024 .f32} {r ry : FVec Ideal S512x1 .f32} {s : FVec Ideal S1x1024 .f32} (hgo : Holds r0 go I.go)
    (hr : HoldsCol r0 r fun r => rrms (I.mid r)) (hn : Holds r0 n fun r l => I.mid r l * rrms (I.mid r))
    (hd : Holds r0 d fun r l => I.gh r l * I.gpre l) (hy : Holds r0 y I.y) (hry : HoldsCol r0 ry fun r => rrms (I.y r)) (hs : HoldsRow s I.gpost) :
    Holds r0 (k0_pay14 (F := Ideal) go y r ry s n d (mulf d n)) I.gy := by
  intro t l
  pointwise [k0_pay14]
  simp only [gi_apply I r0 hgo hr hn hd _ _, ny_apply I r0 hy hry _ _, hry _ _, hs _ _, ofBits_1024, ← EReal.coe_mul, ← Reals.coe_sum, div_1024,
    ← EReal.coe_sub]
  rfl

/-- What a block adds to the gradient of the scale before the perceptron. -/
def prePart (r0 l : ℕ) : ℝ := ∑ y : Fin 512, I.gh (r0 + y.val) l * (I.mid (r0 + y.val) l * rrms (I.mid (r0 + y.val)))

/-- What a block adds to the gradient of the scale after the mixer. -/
def postPart (r0 l : ℕ) : ℝ := ∑ y : Fin 512, I.gi (r0 + y.val) l * (I.y (r0 + y.val) l * rrms (I.y (r0 + y.val)))

theorem pre_apply {g n : FVec Ideal S512x1024 .f32} (hg : Holds r0 g I.gh) (hn : Holds r0 n fun r l => I.mid r l * rrms (I.mid r)) :
    HoldsRow (k0_pay11 (F := Ideal) g n) (prePart I r0) := by
  intro z l
  pointwise [k0_pay11]
  simp only [hg _ _, hn _ _, ← EReal.coe_mul, ← Reals.coe_sum]
  rfl

theorem post_apply {go n d y : FVec Ideal S512x1024 .f32} {r ry : FVec Ideal S512x1 .f32} (hgo : Holds r0 go I.go)
    (hr : HoldsCol r0 r fun r => rrms (I.mid r)) (hn : Holds r0 n fun r l => I.mid r l * rrms (I.mid r))
    (hd : Holds r0 d fun r l => I.gh r l * I.gpre l) (hy : Holds r0 y I.y) (hry : HoldsCol r0 ry fun r => rrms (I.y r)) :
    HoldsRow (k0_pay12 (F := Ideal) go y r ry n d (mulf d n)) (postPart I r0) := by
  intro z l
  pointwise [k0_pay12]
  simp only [gi_apply I r0 hgo hr hn hd _ _, ny_apply I r0 hy hry _ _, ← EReal.coe_mul, ← Reals.coe_sum]
  rfl

/-- A later block adds its part to what the earlier ones left. -/
theorem pre_next {g n : FVec Ideal S512x1024 .f32} (old : FVec Ideal S1x1024 .f32) (hg : Holds r0 g I.gh)
    (hn : Holds r0 n fun r l => I.mid r l * rrms (I.mid r)) (z : Fin 1) (l : Fin 1024) :
    k0_pay13 (F := Ideal) g n old (ix2 z l) = old (ix2 z l) + ((prePart I r0 l.val : ℝ) : EReal) := by
  pointwise [k0_pay13]
  rw [pre_apply I r0 hg hn]

theorem post_next (p old : FVec Ideal S1x1024 .f32) (f : ℕ → ℝ) (hp : HoldsRow p f) (z : Fin 1) (l : Fin 1024) :
    k0_pay1 (F := Ideal) p old (ix2 z l) = old (ix2 z l) + ((f l.val : ℝ) : EReal) := by
  pointwise [k0_pay1]
  rw [hp]

end Cert.MlpH.Kernel

end
-- ==== Proof.MlpHPoint.lean ====
/- The kernel of the gradient at the perceptron's input at one grid point: the blocks it reads are rows `512 t` on of
   arrays that hold real numbers, so what it stores holds the plain functions of those arrays. -/
module

public import proofs.«01_k».proof.Proof.MlpHPay
public import Idealize.ShloMosaic.Lib.Pipeline.ReadBack
public import Idealize.ShloMosaic.Lib.Pipeline.ValueKit

@[expose] public section

set_option maxRecDepth 16384

noncomputable section

namespace Cert.MlpH.Kernel

open Idealize.ShloMosaic Idealize.ShloMosaic.TcCoe Idealize.SL.Sem Idealize.ShloMosaic.StableHlo Cert.Sgu Cert.MlpH
open Cert.Kernel6Ideal Cert.Kernel6Ideal.Gen Cert.Kernel6Ideal.Value

variable (m : (ℓ : Loc nD τ sig) → Buf (Elt Ideal) ℓ) (I : In)

/-- The arrays that the region reads hold real numbers: the arguments, the residual sum and the two reciprocal roots. -/
structure Reads (c : Dev nD) : Prop where
  h0 : ∀ (r n : Fin 4096), V m c main_arg0 (ix2 r n) = ((I.gp r.val n.val : ℝ) : EReal)
  h1 : ∀ (q : Fin 8) (l : Fin 1024) (k : Fin 512), V m c main_arg1 (ix3 q l k) = ((I.w q.val l.val k.val : ℝ) : EReal)
  h2 : ∀ (r : Fin 4096) (l : Fin 1024), V m c main_v12 (ix2 r l) = ((I.mid r.val l.val : ℝ) : EReal)
  h3 : ∀ (r : Fin 4096) (l : Fin 1024), V m c main_arg4 (ix2 r l) = ((I.go r.val l.val : ℝ) : EReal)
  h4 : ∀ (r : Fin 4096) (l : Fin 1024), V m c main_arg3 (ix2 r l) = ((I.y r.val l.val : ℝ) : EReal)
  h5 : ∀ (r : Fin 4096) (z : Fin 1), V m c main_v20 (ix2 r z) = ((rrms (I.mid r.val) : ℝ) : EReal)
  h6 : ∀ (r : Fin 4096) (z : Fin 1), V m c main_v28 (ix2 r z) = ((rrms (I.y r.val) : ℝ) : EReal)
  h7 : ∀ (z : Fin 1) (l : Fin 1024), V m c main_arg5 (ix2 z l) = ((I.gpre l.val : ℝ) : EReal)
  h8 : ∀ (z : Fin 1) (l : Fin 1024), V m c main_arg6 (ix2 z l) = ((I.gpost l.val : ℝ) : EReal)

/-- The blocks' indices at each grid point. -/
theorem idx : ∀ t, win0_0.index t = ![t.val, 0] ∧ win0_1.index t = ![0, 0, 0] ∧ win0_2.index t = ![t.val, 0] ∧ win0_3.index t = ![t.val, 0]
    ∧ win0_4.index t = ![t.val, 0] ∧ win0_5.index t = ![t.val, 0] ∧ win0_6.index t = ![t.val, 0] ∧ win0_7.index t = ![0, 0] ∧ win0_8.index t = ![0, 0]
    ∧ win0_9.index t = ![t.val, 0] ∧ win0_10.index t = ![0, 0] ∧ win0_11.index t = ![t.val, 0] ∧ win0_12.index t = ![0, 0] := by
  decide +kernel

theorem lt8 (t : Fin cfg0.N) : t.val < 8 := t.isLt

/-- The row of a block, in the whole array. -/
def row (t : Fin cfg0.N) (y : Fin 512) : Fin 4096 := ⟨512 * t.val + y.val, by have := lt8 t; omega⟩

variable {m I} {c : Dev nD} (H : Reads m I c) (t : Fin cfg0.N)
include H

theorem iblk0 (y : Fin 512) (n : Fin 4096) : iblk m c 0 t (ix2 y n) = ((I.gp (512 * t.val + y.val) n.val : ℝ) : EReal) := by
  have e : iblk m c 0 t (ix2 y n) = V m c main_arg0 (ix2 (row t y) n) := by
    unfold row
    blk_ext [iblk, (idx t).1]
  rw [e, H.h0]; rfl

theorem iblk1 (q : Fin 8) (l : Fin 1024) (k : Fin 512) : iblk m c 1 t (ix3 q l k) = ((I.w q.val l.val k.val : ℝ) : EReal) := by
  have e : iblk m c 1 t (ix3 q l k) = V m c main_arg1 (ix3 q l k) := by blk_ext [iblk, (idx t).2.1]
  rw [e, H.h1]

theorem iblk2 : Holds (512 * t.val) (φ := .f32) (iblk m c 2 t) I.mid := by
  intro y l
  have e : iblk m c 2 t (ix2 y l) = V m c main_v12 (ix2 (row t y) l) := by
    unfold row
    blk_ext [iblk, (idx t).2.2.1]
  rw [e, H.h2]; rfl

theorem iblk3 : Holds (512 * t.val) (φ := .f32) (iblk m c 3 t) I.go := by
  intro y l
  have e : iblk m c 3 t (ix2 y l) = V m c main_arg4 (ix2 (row t y) l) := by
    unfold row
    blk_ext [iblk, (idx t).2.2.2.1]
  rw [e, H.h3]; rfl

theorem iblk4 : Holds (512 * t.val) (φ := .f32) (iblk m c 4 t) I.y := by
  intro y l
  have e : iblk m c 4 t (ix2 y l) = V m c main_arg3 (ix2 (row t y) l) := by
    unfold row
    blk_ext [iblk, (idx t).2.2.2.2.1]
  rw [e, H.h4]; rfl

theorem iblk5 : HoldsCol (512 * t.val) (iblk m c 5 t) (fun r => rrms (I.mid r)) := by
  intro y z
  have e : iblk m c 5 t (ix2 y z) = V m c main_v20 (ix2 (row t y) z) := by
    unfold row
    blk_ext [iblk, (idx t).2.2.2.2.2.1]
  rw [e, H.h5]; rfl

theorem iblk6 : HoldsCol (512 * t.val) (iblk m c 6 t) (fun r => rrms (I.y r)) := by
  intro y z
  have e : iblk m c 6 t (ix2 y z) = V m c main_v28 (ix2 (row t y) z) := by
    unfold row
    blk_ext [iblk, (idx t).2.2.2.2.2.2.1]
  rw [e, H.h6]; rfl

theorem iblk7 : HoldsRow (iblk m c 7 t) I.gpre := by
  intro z l
  have e : iblk m c 7 t (ix2 z l) = V m c main_arg5 (ix2 z l) := by blk_ext [iblk, (idx t).2.2.2.2.2.2.2.1]
  rw [e, H.h7]

theorem iblk8 : HoldsRow (iblk m c 8 t) I.gpost := by
  intro z l
  have e : iblk m c 8 t (ix2 z l) = V m c main_arg6 (ix2 z l) := by blk_ext [iblk, (idx t).2.2.2.2.2.2.2.2.1]
  rw [e, H.h8]

/-- Columns `512 q` on, loaded from the block of the hidden layer's gradient. -/
theorem left_at (q o : ℕ) (hq : q < 8) (ho : o = 512 * q) (hb : ∀ a, (![0, o] : Fin 2 → ℕ) a + (![512, 512] : Fin 2 → ℕ) a ≤ S512x4096.size a) :
    Left I (512 * t.val) q (View.ld (iblk m c 0 t) (Rect.unit (s := S512x4096) ![0, o] ![512, 512] hb)) := by
  intro y k
  subst ho
  refine (View.ld_unit_apply_of _ _ _ _ _ (ix2 y ⟨512 * q + k.val, by omega⟩) fun a => ?_).trans (iblk0 H t y _)
  match a with
  | ⟨0, _⟩ => exact (Nat.zero_add _).symm
  | ⟨1, _⟩ => rfl

/-- Piece `q`, loaded from the weight's block. -/
theorem right_at (q : ℕ) (hq : q < 8) (hb : ∀ a, (![q, 0, 0] : Fin 3 → ℕ) a + (![1, 1024, 512] : Fin 3 → ℕ) a ≤ S8x1024x512.size a) :
    Right I q (View.ld (iblk m c 1 t) (Rect.unit (s := S8x1024x512) ![q, 0, 0] ![1, 1024, 512] hb)) := by
  intro z l k
  refine (View.ld_unit_apply_of _ _ _ _ _ (ix3 ⟨q, hq⟩ l k) fun a => ?_).trans (iblk1 H t ⟨q, hq⟩ l k)
  obtain rfl : z = 0 := Subsingleton.elim _ _
  match a with
  | ⟨0, _⟩ => rfl
  | ⟨1, _⟩ => exact (Nat.zero_add _).symm
  | ⟨2, _⟩ => exact (Nat.zero_add _).symm

/-- The two columns as the body reads them. -/
theorem rx_at : HoldsCol (512 * t.val) (k0_pay4 (F := Ideal) (iblk m c 5 t)) (fun r => rrms (I.mid r)) := by
  intro y z
  pointwise [k0_pay4]
  rw [iblk5 H]

theorem ry_at : HoldsCol (512 * t.val) (k0_pay5 (F := Ideal) (iblk m c 6 t)) (fun r => rrms (I.y r)) := by
  intro y z
  pointwise [k0_pay5]
  rw [iblk6 H]

omit H in
/-- The body's product at the point: eight products of a piece of the rows with a piece of the weight. -/
def ghB (m : (ℓ : Loc nD τ sig) → Buf (Elt Ideal) ℓ) (c : Dev nD) (t : Fin cfg0.N) : FVec Ideal S512x1024 .f32 :=
  k0_pay3 (F := Ideal) (k0_pay2 (F := Ideal)
      (View.ld (iblk m c 0 t) (Rect.unit (s := S512x4096) ![0, 0] ![512, 512] inb_S512x4096_S512x512_0_0)) (View.ld (iblk m c 1 t) (Rect.unit (s := S8x1024x512) ![0, 0, 0] ![1, 1024, 512] inb_S8x1024x512_S1x1024x512_0_0_0))
      (View.ld (iblk m c 0 t) (Rect.unit (s := S512x4096) ![0, 512] ![512, 512] inb_S512x4096_S512x512_0_512)) (View.ld (iblk m c 1 t) (Rect.unit (s := S8x1024x512) ![1, 0, 0] ![1, 1024, 512] inb_S8x1024x512_S1x1024x512_1_0_0))
      (View.ld (iblk m c 0 t) (Rect.unit (s := S512x4096) ![0, 1024] ![512, 512] inb_S512x4096_S512x512_0_1024)) (View.ld (iblk m c 1 t) (Rect.unit (s := S8x1024x512) ![2, 0, 0] ![1, 1024, 512] inb_S8x1024x512_S1x1024x512_2_0_0))
      (View.ld (iblk m c 0 t) (Rect.unit (s := S512x4096) ![0, 1536] ![512, 512] inb_S512x4096_S512x512_0_1536)) (View.ld (iblk m c 1 t) (Rect.unit (s := S8x1024x512) ![3, 0, 0] ![1, 1024, 512] inb_S8x1024x512_S1x1024x512_3_0_0))
      (View.ld (iblk m c 0 t) (Rect.unit (s := S512x4096) ![0, 2048] ![512, 512] inb_S512x4096_S512x512_0_2048)) (View.ld (iblk m c 1 t) (Rect.unit (s := S8x1024x512) ![4, 0, 0] ![1, 1024, 512] inb_S8x1024x512_S1x1024x512_4_0_0)))
    (View.ld (iblk m c 0 t) (Rect.unit (s := S512x4096) ![0, 2560] ![512, 512] inb_S512x4096_S512x512_0_2560)) (View.ld (iblk m c 1 t) (Rect.unit (s := S8x1024x512) ![5, 0, 0] ![1, 1024, 512] inb_S8x1024x512_S1x1024x512_5_0_0))
    (View.ld (iblk m c 0 t) (Rect.unit (s := S512x4096) ![0, 3072] ![512, 512] inb_S512x4096_S512x512_0_3072)) (View.ld (iblk m c 1 t) (Rect.unit (s := S8x1024x512) ![6, 0, 0] ![1, 1024, 512] inb_S8x1024x512_S1x1024x512_6_0_0))
    (View.ld (iblk m c 0 t) (Rect.unit (s := S512x4096) ![0, 3584] ![512, 512] inb_S512x4096_S512x512_0_3584)) (View.ld (iblk m c 1 t) (Rect.unit (s := S8x1024x512) ![7, 0, 0] ![1, 1024, 512] inb_S8x1024x512_S1x1024x512_7_0_0))

omit H in
/-- The body's gradient at the normalised residual sum. -/
def dB (m : (ℓ : Loc nD τ sig) → Buf (Elt Ideal) ℓ) (c : Dev nD) (t : Fin cfg0.N) : FVec Ideal S512x1024 .f32 :=
  mulf (ghB m c t) (broadcastTo S512x1024 (iblk m c 7 t) broadcasts_S1x1024_S512x1024)

omit H in
/-- The body's normalised residual sum. -/
def nB (m : (ℓ : Loc nD τ sig) → Buf (Elt Ideal) ℓ) (c : Dev nD) (t : Fin cfg0.N) : FVec Ideal S512x1024 .f32 :=
  k0_pay6 (F := Ideal) (iblk m c 2 t) (iblk m c 5 t)

theorem gh_at : Holds (512 * t.val) (ghB m c t) I.gh :=
  gh_apply I (512 * t.val)
    (left_at H t 0 0 (by decide) rfl _)
    (left_at H t 1 512 (by decide) rfl _)
    (left_at H t 2 1024 (by decide) rfl _)
    (left_at H t 3 1536 (by decide) rfl _)
    (left_at H t 4 2048 (by decide) rfl _)
    (left_at H t 5 2560 (by decide) rfl _)
    (left_at H t 6 3072 (by decide) rfl _)
    (left_at H t 7 3584 (by decide) rfl _)
    (right_at H t 0 (by decide) _)
    (right_at H t 1 (by decide) _)
    (right_at H t 2 (by decide) _)
    (right_at H t 3 (by decide) _)
    (right_at H t 4 (by decide) _)
    (right_at H t 5 (by decide) _)
    (right_at H t 6 (by decide) _)
    (right_at H t 7 (by decide) _)

theorem n_at : Holds (512 * t.val) (nB m c t) (fun r l => I.mid r l * rrms (I.mid r)) := n_apply I (512 * t.val) (iblk2 H t) (iblk5 H t)

theorem d_at : Holds (512 * t.val) (dB m c t) (fun r l => I.gh r l * I.gpre l) := d_apply I (512 * t.val) (gh_at H t) (iblk7 H t)

/-- What a point stores of the gradient at the residual sum. -/
theorem outs_gi (y : S512x1024.Idx) : (outsAt0 m c t.val t.isLt).1 y = ((I.gi (512 * t.val + (y 0).val) (y 1).val : ℝ) : EReal) := by
  have h8 := lt8 t
  rw [eq_ix2 y]
  by_cases h : t.val % 8 = 0
  · rw [outsAt0_A m c t h (by omega) h (by omega)]
    frame_out
    exact gi_apply I (512 * t.val) (iblk3 H t) (rx_at H t) (n_at H t) (d_at H t) _ _
  · rw [outsAt0_B m c t h (by omega) h (by omega)]
    frame_out
    exact gi_apply I (512 * t.val) (iblk3 H t) (rx_at H t) (n_at H t) (d_at H t) _ _

/-- What a point stores of the gradient at the mixer's output. -/
theorem outs_gy (y : S512x1024.Idx) : (outsAt0 m c t.val t.isLt).2.2.1 y = ((I.gy (512 * t.val + (y 0).val) (y 1).val : ℝ) : EReal) := by
  have h8 := lt8 t
  rw [eq_ix2 y]
  by_cases h : t.val % 8 = 0
  · rw [outsAt0_A m c t h (by omega) h (by omega)]
    frame_out
    exact gy_apply I (512 * t.val) (iblk3 H t) (rx_at H t) (n_at H t) (d_at H t) (iblk4 H t) (ry_at H t) (iblk8 H t) _ _
  · rw [outsAt0_B m c t h (by omega) h (by omega)]
    frame_out
    exact gy_apply I (512 * t.val) (iblk3 H t) (rx_at H t) (n_at H t) (d_at H t) (iblk4 H t) (ry_at H t) (iblk8 H t) _ _

theorem outs_pre_first (h : t.val % 8 = 0) (y : S1x1024.Idx) :
    (outsAt0 m c t.val t.isLt).2.1 y = ((prePart I (512 * t.val) (y 1).val : ℝ) : EReal) := by
  have h8 := lt8 t
  rw [eq_ix2 y, outsAt0_A m c t h (by omega) h (by omega)]
  frame_out
  exact pre_apply I (512 * t.val) (gh_at H t) (n_at H t) _ _

theorem outs_pre_next (h : ¬ t.val % 8 = 0) (y : S1x1024.Idx) :
    (outsAt0 m c t.val t.isLt).2.1 y = (outsAt0 m c (t.val - 1) (by omega)).2.1 y + ((prePart I (512 * t.val) (y 1).val : ℝ) : EReal) := by
  rw [eq_ix2 y, outsAt0_B m c t h (by omega) h (by omega)]
  frame_out
  exact pre_next I _ _ (gh_at H t) (n_at H t) _ _

theorem outs_post_first (h : t.val % 8 = 0) (y : S1x1024.Idx) :
    (outsAt0 m c t.val t.isLt).2.2.2 y = ((postPart I (512 * t.val) (y 1).val : ℝ) : EReal) := by
  have h8 := lt8 t
  rw [eq_ix2 y, outsAt0_A m c t h (by omega) h (by omega)]
  frame_out
  exact post_apply I (512 * t.val) (iblk3 H t) (rx_at H t) (n_at H t) (d_at H t) (iblk4 H t) (ry_at H t) _ _

theorem outs_post_next (h : ¬ t.val % 8 = 0) (y : S1x1024.Idx) :
    (outsAt0 m c t.val t.isLt).2.2.2 y = (outsAt0 m c (t.val - 1) (by omega)).2.2.2 y + ((postPart I (512 * t.val) (y 1).val : ℝ) : EReal) := by
  rw [eq_ix2 y, outsAt0_B m c t h (by omega) h (by omega)]
  frame_out
  exact post_next _ _ _ (post_apply I (512 * t.val) (iblk3 H t) (rx_at H t) (n_at H t) (d_at H t) (iblk4 H t) (ry_at H t)) _ _

end Cert.MlpH.Kernel

end
-- ==== Proof.MlpHKernel.lean ====
/-
  THE KERNEL OF THE GRADIENT AT THE PERCEPTRON'S INPUT, ITS RESULT ARRAYS. The two gradients over the tokens are tiled by
  the grid points' blocks; the gradients of the two scales are sums over the points, in the array after the last one.
-/
module

public import proofs.«01_k».proof.Proof.MlpHPoint
public import proofs.«01_k».proof.Proof.SguKernel

@[expose] public section

set_option maxRecDepth 16384

noncomputable section

namespace Cert.MlpH.Kernel

open Idealize.ShloMosaic Idealize.ShloMosaic.TcCoe Idealize.SL.Sem Idealize.ShloMosaic.StableHlo Cert.MlpH
open Cert.Kernel6Ideal Cert.Kernel6Ideal.Gen Cert.Kernel6Ideal.Value

variable {m : (ℓ : Loc nD τ sig) → Buf (Elt Ideal) ℓ} {I : In} {c : Dev nD} (H : Reads m I c)

theorem last10 : ∀ t : Fin cfg0.N, (cfg0.win 10).flush t = true → t.val = 7 := by decide +kernel
theorem last12 : ∀ t : Fin cfg0.N, (cfg0.win 12).flush t = true → t.val = 7 := by decide +kernel

theorem pre_total (l : ℕ) : ∑ k ∈ Finset.range (7 + 1), prePart I (512 * k) l = I.ggpre l :=
  Cert.Sgu.sum_rows fun r => I.gh r l * (I.mid r l * rrms (I.mid r))

theorem post_total (l : ℕ) : ∑ k ∈ Finset.range (7 + 1), postPart I (512 * k) l = I.ggpost l :=
  Cert.Sgu.sum_rows fun r => I.gi r l * (I.y r l * rrms (I.y r))

include H

/-- The gradient at the residual sum. -/
theorem arr9 : (dats m 0 c).arrAt 9 cfg0.N = fun j : S4096x1024.Idx => ((I.gi (j 0).val (j 1).val : ℝ) : EReal) := by
  refine (dats m 0 c).arrAt_eq_of_covers 9 _ (by decide +kernel) fun t hf y => ?_
  blk_simp
  rw [after0_9]
  refine (outs_gi H t y).trans ?_
  rw [(idx t).2.2.2.2.2.2.2.2.2.1]
  exact congrArg₂ (fun a b => ((I.gi a b : ℝ) : EReal)) (by show _ = t.val * 512 + _; omega) (by show _ = 0 * 1024 + _; omega)

/-- The gradient at the mixer's output. -/
theorem arr11 : (dats m 0 c).arrAt 11 cfg0.N = fun j : S4096x1024.Idx => ((I.gy (j 0).val (j 1).val : ℝ) : EReal) := by
  refine (dats m 0 c).arrAt_eq_of_covers 11 _ (by decide +kernel) fun t hf y => ?_
  blk_simp
  rw [after0_11]
  refine (outs_gy H t y).trans ?_
  rw [(idx t).2.2.2.2.2.2.2.2.2.2.2.1]
  exact congrArg₂ (fun a b => ((I.gy a b : ℝ) : EReal)) (by show _ = t.val * 512 + _; omega) (by show _ = 0 * 1024 + _; omega)

/-- The gradient of the scale before the perceptron. -/
theorem arr10 : (dats m 0 c).arrAt 10 cfg0.N = fun j : S1x1024.Idx => ((I.ggpre (j 1).val : ℝ) : EReal) := by
  refine (dats m 0 c).arrAt_eq_of_covers 10 _ (by decide +kernel) fun t hf y => ?_
  blk_simp
  rw [after0_10]
  have h7 : t.val = 7 := last10 t hf
  refine (Cert.Sgu.acc_eq (fun n h => (outsAt0 m c n h).2.1 y) (fun k => prePart I (512 * k) (y 1).val) (fun t h => outs_pre_first H t h y)
    (fun t h => outs_pre_next H t h y) t.val t.isLt).trans ?_
  rw [h7, (idx t).2.2.2.2.2.2.2.2.2.2.1]
  refine congrArg (fun a : ℝ => (a : EReal)) ((pre_total _).trans ?_)
  exact congrArg (fun a => I.ggpre a) (by show _ = 0 * 1024 + _; omega)

/-- The gradient of the scale after the mixer. -/
theorem arr12 : (dats m 0 c).arrAt 12 cfg0.N = fun j : S1x1024.Idx => ((I.ggpost (j 1).val : ℝ) : EReal) := by
  refine (dats m 0 c).arrAt_eq_of_covers 12 _ (by decide +kernel) fun t hf y => ?_
  blk_simp
  rw [after0_12]
  have h7 : t.val = 7 := last12 t hf
  refine (Cert.Sgu.acc_eq (fun n h => (outsAt0 m c n h).2.2.2 y) (fun k => postPart I (512 * k) (y 1).val) (fun t h => outs_post_first H t h y)
    (fun t h => outs_post_next H t h y) t.val t.isLt).trans ?_
  rw [h7, (idx t).2.2.2.2.2.2.2.2.2.2.2.2]
  refine congrArg (fun a : ℝ => (a : EReal)) ((post_total _).trans ?_)
  exact congrArg (fun a => I.ggpost a) (by show _ = 0 * 1024 + _; omega)

end Cert.MlpH.Kernel

end
-- ==== Proof.MlpHRef.lean ====
/- The reference's gradients at the perceptron's input, over arguments that hold real numbers: each of its four results
   holds the plain function of the arguments. -/
module

public import proofs.«01_k».proof.Proof.MlpHSpec
public import proofs.«01_k».proof.Proof.Gen.Reference6Ideal
public import proofs.«01_k».proof.Proof.Gen.Reference6Ideal.Run
public import Idealize.ShloMosaic.Lib.Pointwise

@[expose] public section

set_option maxRecDepth 16384

noncomputable section

namespace Cert.MlpH

open Idealize.ShloMosaic Idealize.ShloMosaic.TcCoe Idealize.SL.Sem Idealize.ShloMosaic.StableHlo Cert.Sgu
open Cert.Reference6Ideal Cert.Reference6Ideal.Gen Cert.Reference6Ideal.Value

/-! ## The stages as functions of arrays -/

/-- The mean squares of an array's rows, with the epsilon, as a column. -/
def msA (y : FVec Ideal S4096x1024 .f32) : FVec Ideal S4096x1 .f32 :=
  addf (Host.divf (broadcastInDim S4096x1 ![0] bcast_S4096_S4096x1_0 (Host.reduceAdd (mulf y y) (constant S_ .f32 0x00000000#32) reducesTo_S4096x1024_S4096_d1 h_S_)) (broadcastInDim S4096x1 ![] bcast_S_S4096x1 (constant S_ .f32 0x44800000#32))) (broadcastInDim S4096x1 ![] bcast_S_S4096x1 (constant S_ .f32 0x358637BD#32))

/-- The reciprocal root mean squares, as a column. -/
def rrmsA (y : FVec Ideal S4096x1024 .f32) : FVec Ideal S4096x1 .f32 := Host.rsqrt (msA y)

/-- The normalised rows. -/
def normA (y : FVec Ideal S4096x1024 .f32) : FVec Ideal S4096x1024 .f32 :=
  mulf y (broadcastInDim S4096x1024 ![0, 1] bcast_S4096x1_S4096x1024_0_1 (rrmsA y))

/-- The rows times a scale per lane. -/
def scaleA (y : FVec Ideal S4096x1024 .f32) (g : FVec Ideal S1x1024 .f32) : FVec Ideal S4096x1024 .f32 :=
  mulf y (broadcastInDim S4096x1024 ![0, 1] bcast_S1x1024_S4096x1024_0_1 g)

/-- The residual sum. -/
def midA (x y : FVec Ideal S4096x1024 .f32) (g : FVec Ideal S1x1024 .f32) : FVec Ideal S4096x1024 .f32 := addf x (scaleA (normA y) g)

/-- The gradient at the perceptron's input: the product with the first weight, its pieces side by side. -/
def ghA (gp : FVec Ideal S4096x4096 .bf16) (w : FVec Ideal S8x1024x512 .bf16) : FVec Ideal S4096x1024 .f32 :=
  Host.dotGeneral (φ₁ := .f32) (φ₂ := .f32) dot_S4096x4096_S1024x4096_S4096x1024_1_1_0_0_n_n none (extf .f32 gp bitsLt_bf16_f32) (extf .f32 (shapeCast S1024x4096 (transpose S1024x8x512 [1, 0, 2] w transposes_S8x1024x512_S1024x8x512_1_0_2) shapeCasts_S1024x8x512_S1024x4096) bitsLt_bf16_f32)

/-- Half of the mean square's gradient, spread over the rows. -/
def halfA (d x : FVec Ideal S4096x1024 .f32) : FVec Ideal S4096x1024 .f32 :=
  broadcastInDim S4096x1024 ![0] bcast_S4096_S4096x1024_0 (Host.reduceAdd (Host.divf (mulf (shapeCast S4096x1 (Host.reduceAdd (mulf x d) (constant S_ .f32 0x00000000#32) reducesTo_S4096x1024_S4096_d1 h_S_) shapeCasts_S4096_S4096x1) (mulf (broadcastInDim S4096x1 ![] bcast_S_S4096x1 (constant S_ .f32 0xBF000000#32)) (Host.divf (rrmsA x) (msA x)))) (broadcastInDim S4096x1 ![] bcast_S_S4096x1 (constant S_ .f32 0x44800000#32))) (constant S_ .f32 0x00000000#32) reducesTo_S4096x1_S4096_d1 h_S_)

/-- The gradient through the norm's scaling alone. -/
def straightA (d x : FVec Ideal S4096x1024 .f32) : FVec Ideal S4096x1024 .f32 :=
  mulf d (broadcastInDim S4096x1024 ![0, 1] bcast_S4096x1_S4096x1024_0_1 (rrmsA x))

/-- The gradient at the residual sum. -/
def giA (go gh x : FVec Ideal S4096x1024 .f32) (g : FVec Ideal S1x1024 .f32) : FVec Ideal S4096x1024 .f32 :=
  addf (addf (addf go (straightA (scaleA gh g) x)) (mulf x (halfA (scaleA gh g) x))) (mulf (halfA (scaleA gh g) x) x)

/-- The gradient at the mixer's output. -/
def gyA (gi y : FVec Ideal S4096x1024 .f32) (g : FVec Ideal S1x1024 .f32) : FVec Ideal S4096x1024 .bf16 :=
  truncf .bf16 (addf (addf (straightA (scaleA gi g) y) (mulf y (halfA (scaleA gi g) y))) (mulf (halfA (scaleA gi g) y) y)) bitsLt_bf16_f32

/-- The gradient of a scale. -/
def ggA (d x : FVec Ideal S4096x1024 .f32) : FVec Ideal S1x1024 .f32 :=
  shapeCast S1x1024 (Host.reduceAdd (mulf (normA x) d) (constant S_ .f32 0x00000000#32) reducesTo_S4096x1024_S1024_d0 h_S_) shapeCasts_S1024_S1x1024

/-! ## Their values over real arrays -/

/-- An array of rows holds a real function. -/
abbrev Is (a : S4096x1024.Idx → EReal) (f : ℕ → ℕ → ℝ) : Prop := ∀ (r : Fin 4096) (l : Fin 1024), a (ix2 r l) = ((f r.val l.val : ℝ) : EReal)

/-- A row of scales holds a real function. -/
abbrev IsRow (a : S1x1024.Idx → EReal) (f : ℕ → ℝ) : Prop := ∀ (z : Fin 1) (l : Fin 1024), a (ix2 z l) = ((f l.val : ℝ) : EReal)

section stages

variable {f d : ℕ → ℕ → ℝ} {g : ℕ → ℝ} {y : FVec Ideal S4096x1024 .f32} {e : FVec Ideal S4096x1024 .f32} {s : FVec Ideal S1x1024 .f32}
  (hy : Is y f) (he : Is e d) (hs : IsRow s g)

include hy in
theorem msA_apply (r : Fin 4096) (z : Fin 1) : msA y (ix2 r z) = ((meanSq (f r.val) : ℝ) : EReal) := by
  pointwise [msA]
  simp only [hy _ _, ofBits_1024, ofBits_eps, ← EReal.coe_mul, ← Reals.coe_sum, div_1024, ← EReal.coe_add]
  rfl

include hy in
theorem rrmsA_apply (r : Fin 4096) (z : Fin 1) : rrmsA y (ix2 r z) = ((rrms (f r.val) : ℝ) : EReal) := by
  pointwise [rrmsA]
  rw [msA_apply hy, rsqrt_pos (meanSq_pos _)]
  rfl

include hy in
theorem normA_apply : Is (normA y) (fun r l => f r l * rrms (f r)) := by
  intro r l
  pointwise [normA]
  rw [hy, rrmsA_apply hy, ← EReal.coe_mul]

include hy hs in
theorem scaleA_apply : Is (scaleA y s) (fun r l => f r l * g l) := by
  intro r l
  pointwise [scaleA]
  rw [hy, hs, ← EReal.coe_mul]

include hy he in
theorem straightA_apply : Is (straightA e y) (fun r l => d r l * rrms (f r)) := by
  intro r l
  pointwise [straightA]
  rw [he, rrmsA_apply hy, ← EReal.coe_mul]

include hy he in
theorem halfA_apply : Is (halfA e y) (fun r _ => half (d r) (f r)) := by
  intro r l
  pointwise [halfA]
  rw [Fin.sum_univ_one]
  simp only [hy _ _, he _ _, rrmsA_apply hy, msA_apply hy, ofBits_1024, ofBits_mhalf, Ideal.div_coe (meanSq_pos (f r.val)).ne', ← EReal.coe_mul,
    ← Reals.coe_sum, div_1024]
  rfl

include hy he in
theorem ggA_apply : IsRow (ggA e y) (fun l => ∑ r : Fin 4096, d r l * (f r l * rrms (f r))) := by
  intro z l
  pointwise [ggA]
  simp only [normA_apply hy _ _, he _ _, ← EReal.coe_mul, ← Reals.coe_sum]
  exact congrArg (fun x : ℝ => (x : EReal)) (Finset.sum_congr rfl fun r _ => mul_comm _ _)

end stages

variable (I : In) {gh : FVec Ideal S4096x1024 .f32} (hgh : Is gh I.gh) {x y go : FVec Ideal S4096x1024 .f32} {gp : FVec Ideal S4096x4096 .bf16} {w : FVec Ideal S8x1024x512 .bf16}
  {gpre gpost : FVec Ideal S1x1024 .f32}
  (hgp : ∀ (r n : Fin 4096), gp (ix2 r n) = ((I.gp r.val n.val : ℝ) : EReal))
  (hw : ∀ (q : Fin 8) (l : Fin 1024) (k : Fin 512), w (ix3 q l k) = ((I.w q.val l.val k.val : ℝ) : EReal))
  (hx : Is x I.x) (hy : Is y I.y) (hgo : Is go I.go) (hpre : IsRow gpre I.gpre) (hpost : IsRow gpost I.gpost)

include hx hy hpost in
theorem midA_apply : Is (midA x y gpost) I.mid := by
  intro r l
  pointwise [midA]
  rw [hx, scaleA_apply (normA_apply hy) hpost, ← EReal.coe_add]
  rfl

include hgp hw in
theorem ghA_apply : Is (ghA gp w) I.gh := by
  intro r l
  pointwise [ghA, dot_S4096x4096_S1024x4096_S4096x1024_1_1_0_0_n_n]
  simp only [hgp, hw, ← EReal.coe_mul, ← Reals.coe_sum]
  rfl

include hgh hgo hpre in
theorem giA_of {mid : FVec Ideal S4096x1024 .f32} (hm : Is mid I.mid) : Is (giA go gh mid gpre) I.gi := by
  intro r l
  have d := scaleA_apply hgh hpre
  pointwise [giA]
  rw [hgo, hm, straightA_apply hm d, halfA_apply hm d]
  simp only [← EReal.coe_mul, ← EReal.coe_add]
  refine congrArg (fun x : ℝ => (x : EReal)) ?_
  unfold In.gi
  rw [← back_eq]
  ring

include hgh hx hy hgo hpre hpost in
theorem giA_apply : Is (giA go gh (midA x y gpost) gpre) I.gi := giA_of I hgh hgo hpre (midA_apply I hx hy hpost)

include hgh hx hy hgo hpre hpost in
theorem gyA_apply (r : Fin 4096) (l : Fin 1024) :
    gyA (giA go gh (midA x y gpost) gpre) y gpost (ix2 r l) = ((I.gy r.val l.val : ℝ) : EReal) := by
  have d := scaleA_apply (giA_apply I hgh hx hy hgo hpre hpost) hpost
  pointwise [gyA]
  rw [hy, straightA_apply hy d, halfA_apply hy d]
  simp only [← EReal.coe_mul, ← EReal.coe_add]
  refine congrArg (fun x : ℝ => (x : EReal)) ?_
  unfold In.gy
  rw [← back_eq]

include hgh hx hy hpost in
theorem ggpreA_apply : IsRow (ggA gh (midA x y gpost)) I.ggpre :=
  ggA_apply (midA_apply I hx hy hpost) hgh

include hgh hx hy hgo hpre hpost in
theorem ggpostA_apply : IsRow (ggA (giA go gh (midA x y gpost) gpre) y) I.ggpost :=
  ggA_apply hy (giA_apply I hgh hx hy hgo hpre hpost)

/-! ## The reference's results are these functions of its arguments -/

variable (m : (ℓ : Loc nD τ sig) → Buf (Elt Ideal) ℓ) (c : Dev nD)

/-- The residual sum of the arguments. -/
abbrev midR : FVec Ideal S4096x1024 .f32 :=
  midA (m ((c.tc : Thread nD τ).loc main_arg2)) (m ((c.tc : Thread nD τ).loc main_arg3)) (m ((c.tc : Thread nD τ).loc main_arg6))

/-- The gradient at the perceptron's input, of the arguments. -/
abbrev ghR : FVec Ideal S4096x1024 .f32 := ghA (m ((c.tc : Thread nD τ).loc main_arg0)) (m ((c.tc : Thread nD τ).loc main_arg1))

/-- The gradient at the residual sum, of the arguments. -/
abbrev giR : FVec Ideal S4096x1024 .f32 :=
  giA (m ((c.tc : Thread nD τ).loc main_arg4)) (ghR m c) (midR m c) (m ((c.tc : Thread nD τ).loc main_arg5))

theorem res_gi : (res_main_v56 m c : FVec Ideal S4096x1024 .f32) = giR m c := rfl

theorem res_gy : (res_main_v77 m c : FVec Ideal S4096x1024 .bf16)
    = gyA (shapeCast S4096x1024 (giR m c) shapeCasts_S4096x1024_S4096x1024) (m ((c.tc : Thread nD τ).loc main_arg3)) (m ((c.tc : Thread nD τ).loc main_arg6)) := rfl

theorem res_ggpost : (res_main_v60 m c : FVec Ideal S1x1024 .f32)
    = ggA (shapeCast S4096x1024 (giR m c) shapeCasts_S4096x1024_S4096x1024) (m ((c.tc : Thread nD τ).loc main_arg3)) := rfl

/-- A reshape to the same shape changes nothing. -/
theorem same_shape (x : FVec Ideal S4096x1024 .f32) : shapeCast S4096x1024 x shapeCasts_S4096x1024_S4096x1024 = x := by
  funext j
  rw [eq_ix2 j]
  pointwise

/-- The reference's four results hold the plain functions, where its arguments hold real numbers. -/
structure Reads : Prop where
  h0 : ∀ (r n : Fin 4096), (m ((c.tc : Thread nD τ).loc main_arg0) : FVec Ideal S4096x4096 .bf16) (ix2 r n) = ((I.gp r.val n.val : ℝ) : EReal)
  h1 : ∀ (q : Fin 8) (l : Fin 1024) (k : Fin 512), (m ((c.tc : Thread nD τ).loc main_arg1) : FVec Ideal S8x1024x512 .bf16) (ix3 q l k) = ((I.w q.val l.val k.val : ℝ) : EReal)
  h2 : Is (m ((c.tc : Thread nD τ).loc main_arg2)) I.x
  h3 : Is (m ((c.tc : Thread nD τ).loc main_arg3)) I.y
  h4 : Is (m ((c.tc : Thread nD τ).loc main_arg4)) I.go
  h5 : IsRow (m ((c.tc : Thread nD τ).loc main_arg5)) I.gpre
  h6 : IsRow (m ((c.tc : Thread nD τ).loc main_arg6)) I.gpost

variable {I m c} (H : Reads I m c)
include H

theorem gi_ref : Is (res_main_v56 m c) I.gi := by
  rw [res_gi]
  exact giA_apply I (ghA_apply I H.h0 H.h1) H.h2 H.h3 H.h4 H.h5 H.h6

theorem gy_ref : Is (res_main_v77 m c) I.gy := by
  rw [res_gy, same_shape]
  exact gyA_apply I (ghA_apply I H.h0 H.h1) H.h2 H.h3 H.h4 H.h5 H.h6

theorem ggpost_ref : IsRow (res_main_v60 m c) I.ggpost := by
  rw [res_ggpost, same_shape]
  exact ggpostA_apply I (ghA_apply I H.h0 H.h1) H.h2 H.h3 H.h4 H.h5 H.h6

theorem ggpre_ref : IsRow (ggA (ghR m c) (midR m c)) I.ggpre := ggpreA_apply I (ghA_apply I H.h0 H.h1) H.h2 H.h3 H.h6

end Cert.MlpH

end
-- ==== Proof.MlpHClaim.lean ====
/-
  THE CLAIM ON THE GRADIENT AT THE PERCEPTRON'S INPUT: over the extended reals the kernel's four results are the
  reference's, on arguments of real numbers.
-/
module

public import proofs.«01_k».proof.Defs
public import proofs.«01_k».proof.Proof.Gen.Pre_finite6
public import Idealize.ShloMosaic.Lib.StableHlo.RunRead
public import proofs.«01_k».proof.Proof.MlpHKernel
public import proofs.«01_k».proof.Proof.MlpHRef
public import proofs.«01_k».proof.Proof.SguClaim

@[expose] public section

set_option maxRecDepth 16384

noncomputable section

namespace Cert.MlpH

open Idealize.ShloMosaic Idealize.ShloMosaic.TcCoe Idealize.SL.Sem Idealize.ShloMosaic.StableHlo Cert.Reals Cert.Sgu

/-- Arguments that meet the precondition are real numbers. -/
theorem real_of_pre {a0 : FVec Ideal Cert.Pre_finite6.S4096x4096 .bf16} {a1 : FVec Ideal Cert.Pre_finite6.S8x1024x512 .bf16} {a2 a3 a4 : FVec Ideal Cert.Pre_finite6.S4096x1024 .f32}
    {a5 a6 : FVec Ideal Cert.Pre_finite6.S1x1024 .f32}
    (h0 : (Cert.Pre_finite6.fn a0 a1 a2 a3 a4 a5 a6).1 = fun _ => 1#1) (h1 : (Cert.Pre_finite6.fn a0 a1 a2 a3 a4 a5 a6).2.1 = fun _ => 1#1)
    (h2 : (Cert.Pre_finite6.fn a0 a1 a2 a3 a4 a5 a6).2.2.1 = fun _ => 1#1) (h3 : (Cert.Pre_finite6.fn a0 a1 a2 a3 a4 a5 a6).2.2.2.1 = fun _ => 1#1)
    (h4 : (Cert.Pre_finite6.fn a0 a1 a2 a3 a4 a5 a6).2.2.2.2.1 = fun _ => 1#1) (h5 : (Cert.Pre_finite6.fn a0 a1 a2 a3 a4 a5 a6).2.2.2.2.2.1 = fun _ => 1#1)
    (h6 : (Cert.Pre_finite6.fn a0 a1 a2 a3 a4 a5 a6).2.2.2.2.2.2 = fun _ => 1#1) :
    (∀ i, IsReal (a0 i)) ∧ (∀ i, IsReal (a1 i)) ∧ (∀ i, IsReal (a2 i)) ∧ (∀ i, IsReal (a3 i)) ∧ (∀ i, IsReal (a4 i)) ∧ (∀ i, IsReal (a5 i)) ∧ ∀ i, IsReal (a6 i) :=
  ⟨fun i => isReal_of_lt (congrFun h0 i), fun i => isReal_of_lt (congrFun h1 i), fun i => isReal_of_lt (congrFun h2 i), fun i => isReal_of_lt (congrFun h3 i),
    fun i => isReal_of_lt (congrFun h4 i), fun i => isReal_of_lt (congrFun h5 i), fun i => isReal_of_lt (congrFun h6 i)⟩

/-- The real numbers of the seven arguments. -/
def inOf (a0 : Cert.Kernel6Ideal.S4096x4096.Idx → EReal) (a1 : Cert.Kernel6Ideal.S8x1024x512.Idx → EReal) (a2 a3 a4 : Cert.Kernel6Ideal.S4096x1024.Idx → EReal)
    (a5 a6 : Cert.Kernel6Ideal.S1x1024.Idx → EReal) : In where
  gp := fun r n => at2 a0 r n
  w := fun q l k => at3 a1 q l k
  x := fun r l => at2 a2 r l
  y := fun r l => at2 a3 r l
  go := fun r l => at2 a4 r l
  gpre := fun l => at2 a5 0 l
  gpost := fun l => at2 a6 0 l

variable (m : (ℓ : Loc Cert.Kernel6Ideal.nD Cert.Kernel6Ideal.τ Cert.Kernel6Ideal.sig) → Buf (Elt Ideal) ℓ) (c : Dev Cert.Kernel6Ideal.nD)
  (m' : (ℓ : Loc Cert.Reference6Ideal.nD Cert.Reference6Ideal.τ Cert.Reference6Ideal.sig) → Buf (Elt Ideal) ℓ)

/-- An argument of the kernel on a device. -/
abbrev arg (b : Ref Cert.Kernel6Ideal.sig .tc) : Buf (Elt Ideal) ((c.tc : Thread Cert.Kernel6Ideal.nD Cert.Kernel6Ideal.τ).loc b) :=
  m ((c.tc : Thread Cert.Kernel6Ideal.nD Cert.Kernel6Ideal.τ).loc b)

/-- The real numbers of a device's arguments. -/
def inAt : In :=
  inOf (arg m c Cert.Kernel6Ideal.main_arg0) (arg m c Cert.Kernel6Ideal.main_arg1) (arg m c Cert.Kernel6Ideal.main_arg2) (arg m c Cert.Kernel6Ideal.main_arg3)
    (arg m c Cert.Kernel6Ideal.main_arg4) (arg m c Cert.Kernel6Ideal.main_arg5) (arg m c Cert.Kernel6Ideal.main_arg6)

/-- The residual sum as the region finds it. -/
theorem mid_host : (Cert.Kernel6Ideal.Gen.V m c Cert.Kernel6Ideal.main_v12 : FVec Ideal Cert.Kernel6Ideal.S4096x1024 .f32)
    = midA (arg m c Cert.Kernel6Ideal.main_arg2) (arg m c Cert.Kernel6Ideal.main_arg3) (arg m c Cert.Kernel6Ideal.main_arg6) := by
  unfold Cert.Kernel6Ideal.Gen.V
  after_reads_simp <;> rfl

/-- The residual sum's reciprocal roots as the region finds them. -/
theorem rx_host : (Cert.Kernel6Ideal.Gen.V m c Cert.Kernel6Ideal.main_v20 : FVec Ideal Cert.Kernel6Ideal.S4096x1 .f32)
    = rrmsA (midA (arg m c Cert.Kernel6Ideal.main_arg2) (arg m c Cert.Kernel6Ideal.main_arg3) (arg m c Cert.Kernel6Ideal.main_arg6)) := by
  unfold Cert.Kernel6Ideal.Gen.V
  after_reads_simp <;> rfl

/-- The mixer's output's reciprocal roots as the region finds them. -/
theorem ry_host : (Cert.Kernel6Ideal.Gen.V m c Cert.Kernel6Ideal.main_v28 : FVec Ideal Cert.Kernel6Ideal.S4096x1 .f32) = rrmsA (arg m c Cert.Kernel6Ideal.main_arg3) := by
  unfold Cert.Kernel6Ideal.Gen.V
  after_reads_simp <;> rfl

theorem row_eq {a : (⟨2, ![1, 1024]⟩ : Shape).Idx → EReal} (h : ∀ i, IsReal (a i)) : IsRow a (fun l => at2 a 0 l) :=
  fun z l => (at2_eq h z l).trans (by rw [Subsingleton.elim z 0]; rfl)

theorem reads
    (r0 : ∀ i : Cert.Kernel6Ideal.S4096x4096.Idx, IsReal ((arg m c Cert.Kernel6Ideal.main_arg0 : Cert.Kernel6Ideal.S4096x4096.Idx → EReal) i))
    (r1 : ∀ i : Cert.Kernel6Ideal.S8x1024x512.Idx, IsReal ((arg m c Cert.Kernel6Ideal.main_arg1 : Cert.Kernel6Ideal.S8x1024x512.Idx → EReal) i))
    (r2 : ∀ i : Cert.Kernel6Ideal.S4096x1024.Idx, IsReal ((arg m c Cert.Kernel6Ideal.main_arg2 : Cert.Kernel6Ideal.S4096x1024.Idx → EReal) i))
    (r3 : ∀ i : Cert.Kernel6Ideal.S4096x1024.Idx, IsReal ((arg m c Cert.Kernel6Ideal.main_arg3 : Cert.Kernel6Ideal.S4096x1024.Idx → EReal) i))
    (r4 : ∀ i : Cert.Kernel6Ideal.S4096x1024.Idx, IsReal ((arg m c Cert.Kernel6Ideal.main_arg4 : Cert.Kernel6Ideal.S4096x1024.Idx → EReal) i))
    (r5 : ∀ i : Cert.Kernel6Ideal.S1x1024.Idx, IsReal ((arg m c Cert.Kernel6Ideal.main_arg5 : Cert.Kernel6Ideal.S1x1024.Idx → EReal) i))
    (r6 : ∀ i : Cert.Kernel6Ideal.S1x1024.Idx, IsReal ((arg m c Cert.Kernel6Ideal.main_arg6 : Cert.Kernel6Ideal.S1x1024.Idx → EReal) i)) :
    Kernel.Reads m (inAt m c) c := by
  have hx : Is (arg m c Cert.Kernel6Ideal.main_arg2) (inAt m c).x := fun r l => at2_eq r2 r l
  have hy : Is (arg m c Cert.Kernel6Ideal.main_arg3) (inAt m c).y := fun r l => at2_eq r3 r l
  have hm := midA_apply (inAt m c) hx hy (row_eq r6)
  exact {
    h0 := fun r n => (congrFun (Cert.Kernel6Ideal.Gen.V_main_arg0 m c) _).trans (at2_eq r0 r n)
    h1 := fun q l k => (congrFun (Cert.Kernel6Ideal.Gen.V_main_arg1 m c) _).trans (at3_eq r1 q l k)
    h2 := fun r l => (congrFun (mid_host m c) _).trans (hm r l)
    h3 := fun r l => (congrFun (Cert.Kernel6Ideal.Gen.V_main_arg4 m c) _).trans (at2_eq r4 r l)
    h4 := fun r l => (congrFun (Cert.Kernel6Ideal.Gen.V_main_arg3 m c) _).trans (at2_eq r3 r l)
    h5 := fun r z => (congrFun (rx_host m c) _).trans (rrmsA_apply hm r z)
    h6 := fun r z => (congrFun (ry_host m c) _).trans (rrmsA_apply hy r z)
    h7 := fun z l => (congrFun (Cert.Kernel6Ideal.Gen.V_main_arg5 m c) _).trans (row_eq r5 z l)
    h8 := fun z l => (congrFun (Cert.Kernel6Ideal.Gen.V_main_arg6 m c) _).trans (row_eq r6 z l) }

/-- The reference reads the same real numbers. -/
theorem reads_ref (c' : Dev Cert.Reference6Ideal.nD)
    (r0 : ∀ i : Cert.Kernel6Ideal.S4096x4096.Idx, IsReal ((arg m c Cert.Kernel6Ideal.main_arg0 : Cert.Kernel6Ideal.S4096x4096.Idx → EReal) i))
    (r1 : ∀ i : Cert.Kernel6Ideal.S8x1024x512.Idx, IsReal ((arg m c Cert.Kernel6Ideal.main_arg1 : Cert.Kernel6Ideal.S8x1024x512.Idx → EReal) i))
    (r2 : ∀ i : Cert.Kernel6Ideal.S4096x1024.Idx, IsReal ((arg m c Cert.Kernel6Ideal.main_arg2 : Cert.Kernel6Ideal.S4096x1024.Idx → EReal) i))
    (r3 : ∀ i : Cert.Kernel6Ideal.S4096x1024.Idx, IsReal ((arg m c Cert.Kernel6Ideal.main_arg3 : Cert.Kernel6Ideal.S4096x1024.Idx → EReal) i))
    (r4 : ∀ i : Cert.Kernel6Ideal.S4096x1024.Idx, IsReal ((arg m c Cert.Kernel6Ideal.main_arg4 : Cert.Kernel6Ideal.S4096x1024.Idx → EReal) i))
    (r5 : ∀ i : Cert.Kernel6Ideal.S1x1024.Idx, IsReal ((arg m c Cert.Kernel6Ideal.main_arg5 : Cert.Kernel6Ideal.S1x1024.Idx → EReal) i))
    (r6 : ∀ i : Cert.Kernel6Ideal.S1x1024.Idx, IsReal ((arg m c Cert.Kernel6Ideal.main_arg6 : Cert.Kernel6Ideal.S1x1024.Idx → EReal) i))
    (h0 : m' ((c'.tc : Thread Cert.Reference6Ideal.nD Cert.Reference6Ideal.τ).loc Cert.Reference6Ideal.main_arg0) = arg m c Cert.Kernel6Ideal.main_arg0)
    (h1 : m' ((c'.tc : Thread Cert.Reference6Ideal.nD Cert.Reference6Ideal.τ).loc Cert.Reference6Ideal.main_arg1) = arg m c Cert.Kernel6Ideal.main_arg1)
    (h2 : m' ((c'.tc : Thread Cert.Reference6Ideal.nD Cert.Reference6Ideal.τ).loc Cert.Reference6Ideal.main_arg2) = arg m c Cert.Kernel6Ideal.main_arg2)
    (h3 : m' ((c'.tc : Thread Cert.Reference6Ideal.nD Cert.Reference6Ideal.τ).loc Cert.Reference6Ideal.main_arg3) = arg m c Cert.Kernel6Ideal.main_arg3)
    (h4 : m' ((c'.tc : Thread Cert.Reference6Ideal.nD Cert.Reference6Ideal.τ).loc Cert.Reference6Ideal.main_arg4) = arg m c Cert.Kernel6Ideal.main_arg4)
    (h5 : m' ((c'.tc : Thread Cert.Reference6Ideal.nD Cert.Reference6Ideal.τ).loc Cert.Reference6Ideal.main_arg5) = arg m c Cert.Kernel6Ideal.main_arg5)
    (h6 : m' ((c'.tc : Thread Cert.Reference6Ideal.nD Cert.Reference6Ideal.τ).loc Cert.Reference6Ideal.main_arg6) = arg m c Cert.Kernel6Ideal.main_arg6) :
    Cert.MlpH.Reads (inAt m c) m' c' where
  h0 := fun r n => (congrFun h0 _).trans (at2_eq r0 r n)
  h1 := fun q l k => (congrFun h1 _).trans (at3_eq r1 q l k)
  h2 := fun r l => (congrFun h2 _).trans (at2_eq r2 r l)
  h3 := fun r l => (congrFun h3 _).trans (at2_eq r3 r l)
  h4 := fun r l => (congrFun h4 _).trans (at2_eq r4 r l)
  h5 := fun z l => (congrFun h5 _).trans (row_eq r5 z l)
  h6 := fun z l => (congrFun h6 _).trans (row_eq r6 z l)

/-- An array that holds a real function is that function's array. -/
theorem arr_eq {a : Cert.Kernel6Ideal.S4096x1024.Idx → EReal} {f : ℕ → ℕ → ℝ} (h : Is a f) : a = fun j => ((f (j 0).val (j 1).val : ℝ) : EReal) := by
  funext j
  exact (congrArg a (eq_ix2 j)).trans (h (j 0) (j 1))

theorem rowArr_eq {a : Cert.Kernel6Ideal.S1x1024.Idx → EReal} {f : ℕ → ℝ} (h : IsRow a f) : a = fun j => ((f (j 1).val : ℝ) : EReal) := by
  funext j
  exact (congrArg a (eq_ix2 j)).trans (h (j 0) (j 1))

theorem algebraic : Cert.algebraic_Kernel6Ideal_Reference6Ideal_pre_finite6 := by
  intro m ρ m' ρ' hpre hagree
  have H : ∀ c, Kernel.Reads m (inAt m c) c := fun c => by
    obtain ⟨r0, r1, r2, r3, r4, r5, r6⟩ := real_of_pre (hpre c).1 (hpre c).2.1 (hpre c).2.2.1 (hpre c).2.2.2.1 (hpre c).2.2.2.2.1 (hpre c).2.2.2.2.2.1 (hpre c).2.2.2.2.2.2
    exact reads m c r0 r1 r2 r3 r4 r5 r6
  have R : ∀ c, Cert.MlpH.Reads (inAt m c) m' c := fun c => by
    obtain ⟨r0, r1, r2, r3, r4, r5, r6⟩ := real_of_pre (hpre c).1 (hpre c).2.1 (hpre c).2.2.1 (hpre c).2.2.2.1 (hpre c).2.2.2.2.1 (hpre c).2.2.2.2.2.1 (hpre c).2.2.2.2.2.2
    exact reads_ref m c m' c r0 r1 r2 r3 r4 r5 r6 (hagree c).1 (hagree c).2.1 (hagree c).2.2.1 (hagree c).2.2.2.1 (hagree c).2.2.2.2.1 (hagree c).2.2.2.2.2.1 (hagree c).2.2.2.2.2.2
  refine ⟨fun c j => (((inAt m c).gi (j 0).val (j 1).val : ℝ) : EReal), fun c j => (((inAt m c).ggpre (j 1).val : ℝ) : EReal),
    fun c j => (((inAt m c).gy (j 0).val (j 1).val : ℝ) : EReal), fun c j => (((inAt m c).ggpost (j 1).val : ℝ) : EReal),
    (θ_run _ _ _).mono (fun r h c => ?_) (Cert.Kernel6Ideal.Value.run_blocks m ρ), (θ_run _ _ _).mono (fun r h c => ?_) (Cert.Reference6Ideal.Value.run m' ρ')⟩
  · exact ⟨(h c).1.trans (Kernel.arr9 (H c)), (h c).2.1.trans (Kernel.arr10 (H c)), (h c).2.2.1.trans (Kernel.arr11 (H c)), (h c).2.2.2.1.trans (Kernel.arr12 (H c)),
      (h c).2.2.2.2⟩
  · exact ⟨(h c).1.trans (arr_eq (gi_ref (R c))), (h c).2.1.trans (rowArr_eq (ggpre_ref (R c))), (h c).2.2.1.trans (arr_eq (gy_ref (R c))),
      (h c).2.2.2.1.trans (rowArr_eq (ggpost_ref (R c))), (h c).2.2.2.2⟩

end Cert.MlpH

end
-- ==== Proof.MlpUp.lean ====
/-
  THE PERCEPTRON'S FIRST PRODUCT AND ITS SQUARED RELU. Each grid point computes 512 rows of the hidden layer, piece of the
  weight by piece, and lays the pieces side by side; the reference joins the pieces of the weight first. Both results are
  the hidden layer and the square of its positive part.
-/
module

public import proofs.«01_k».proof.Defs
public import proofs.«01_k».proof.Proof.Gen.Kernel13Ideal
public import proofs.«01_k».proof.Proof.Gen.Kernel13Ideal.Value
public import proofs.«01_k».proof.Proof.Gen.Reference13Ideal
public import proofs.«01_k».proof.Proof.Gen.Reference13Ideal.Run
public import Idealize.ShloMosaic.Lib.Pointwise
public import Idealize.ShloMosaic.Lib.Pipeline.ReadBack
public import Idealize.ShloMosaic.Lib.Pipeline.ValueKit

@[expose] public section

set_option maxRecDepth 16384

noncomputable section

namespace Cert.MlpUp

open Cert.Kernel13Ideal Cert.Kernel13Ideal.Gen Idealize.ShloMosaic Idealize.ShloMosaic.TcCoe Idealize.SL.Sem Idealize.ShloMosaic.StableHlo

/-- The hidden layer at row `t` and column `n`: the weight's columns are kept in pieces of 512. -/
def hid (H : S4096x1024.Idx → EReal) (W : S8x1024x512.Idx → EReal) (t n : Fin 4096) : EReal :=
  ∑ k : Fin 1024, H (ix2 t k) * W (ix3 ⟨n.val / 512, by omega⟩ k ⟨n.val % 512, by omega⟩)

/-- The square of the positive part. -/
def act (x : EReal) : EReal := max x 0 * max x 0

/-- The hidden layer as an array. -/
def hidArr (H : S4096x1024.Idx → EReal) (W : S8x1024x512.Idx → EReal) : S4096x4096.Idx → EReal := fun j => hid H W (j 0) (j 1)

/-- The activated hidden layer as an array. -/
def actArr (H : S4096x1024.Idx → EReal) (W : S8x1024x512.Idx → EReal) : S4096x4096.Idx → EReal := fun j => act (hid H W (j 0) (j 1))

/-- Eight arrays side by side, each read at its own columns. -/
theorem beside (p0 p1 p2 p3 p4 p5 p6 p7 : FVec Ideal S512x512 .f32) (f : Fin 4096 → EReal) (r : Fin 512)
    (h0 : ∀ j : Fin 512, p0 (ix2 r j) = f ⟨j.val, by omega⟩) (h1 : ∀ j : Fin 512, p1 (ix2 r j) = f ⟨512 + j.val, by omega⟩)
    (h2 : ∀ j : Fin 512, p2 (ix2 r j) = f ⟨1024 + j.val, by omega⟩) (h3 : ∀ j : Fin 512, p3 (ix2 r j) = f ⟨1536 + j.val, by omega⟩)
    (h4 : ∀ j : Fin 512, p4 (ix2 r j) = f ⟨2048 + j.val, by omega⟩) (h5 : ∀ j : Fin 512, p5 (ix2 r j) = f ⟨2560 + j.val, by omega⟩)
    (h6 : ∀ j : Fin 512, p6 (ix2 r j) = f ⟨3072 + j.val, by omega⟩) (h7 : ∀ j : Fin 512, p7 (ix2 r j) = f ⟨3584 + j.val, by omega⟩) (n : Fin 4096) :
    concatenate S512x4096 1 [⟨S512x512, p0⟩, ⟨S512x512, p1⟩, ⟨S512x512, p2⟩, ⟨S512x512, p3⟩, ⟨S512x512, p4⟩, ⟨S512x512, p5⟩, ⟨S512x512, p6⟩, ⟨S512x512, p7⟩]
        concatenates_S512x512_S512x512_S512x512_S512x512_S512x512_S512x512_S512x512_S512x512_S512x4096_d1 (ix2 r n) = f n := by
  pointwise []
  split
  · exact h0 _
  split
  · exact (h1 _).trans (congrArg f (Fin.ext (by dsimp only; omega)))
  split
  · exact (h2 _).trans (congrArg f (Fin.ext (by dsimp only; omega)))
  split
  · exact (h3 _).trans (congrArg f (Fin.ext (by dsimp only; omega)))
  split
  · exact (h4 _).trans (congrArg f (Fin.ext (by dsimp only; omega)))
  split
  · exact (h5 _).trans (congrArg f (Fin.ext (by dsimp only; omega)))
  split
  · exact (h6 _).trans (congrArg f (Fin.ext (by dsimp only; omega)))
  · exact (h7 _).trans (congrArg f (Fin.ext (by dsimp only; omega)))

/-- The reference's hidden layer. -/
def refHid (H : FVec Ideal S4096x1024 .bf16) (W : FVec Ideal S8x1024x512 .bf16) : FVec Ideal S4096x4096 .f32 :=
  Host.dotGeneral Cert.Reference13Ideal.dot_S4096x1024_S1024x4096_S4096x4096_1_0_0_1_n_n none (extf .f32 H Cert.Reference13Ideal.Gen.bitsLt_bf16_f32)
    (extf .f32 (shapeCast Cert.Reference13Ideal.S1024x4096 (transpose Cert.Reference13Ideal.S1024x8x512 [1, 0, 2] W Cert.Reference13Ideal.Gen.transposes_S8x1024x512_S1024x8x512_1_0_2) Cert.Reference13Ideal.Gen.shapeCasts_S1024x8x512_S1024x4096) Cert.Reference13Ideal.Gen.bitsLt_bf16_f32)

theorem refHid_apply (H : FVec Ideal S4096x1024 .bf16) (W : FVec Ideal S8x1024x512 .bf16) (t n : Fin 4096) : refHid H W (ix2 t n) = hid H W t n := by
  unfold refHid hid
  pointwise [Cert.Reference13Ideal.dot_S4096x1024_S1024x4096_S4096x4096_1_0_0_1_n_n]

theorem refAct_apply (x : FVec Ideal S4096x4096 .f32) (t n : Fin 4096) :
    (truncf .bf16 (mulf (maximumf x (broadcastInDim S4096x4096 ![] Cert.Reference13Ideal.Gen.bcast_S_S4096x4096 (constant Cert.Reference13Ideal.S_ .f32 0x00000000#32)))
      (maximumf x (broadcastInDim S4096x4096 ![] Cert.Reference13Ideal.Gen.bcast_S_S4096x4096 (constant Cert.Reference13Ideal.S_ .f32 0x00000000#32)))) Cert.Reference13Ideal.Gen.bitsLt_bf16_f32 : FVec Ideal S4096x4096 .bf16) (ix2 t n)
      = act (x (ix2 t n)) := by
  pointwise []
  rfl

variable (m : (ℓ : Loc nD τ sig) → Buf (Elt Ideal) ℓ)

/-- The blocks' indices at each grid point. -/
theorem idx : ∀ t, win0_0.index t = ![t.val, 0] ∧ win0_1.index t = ![0, 0, 0] ∧ win0_2.index t = ![t.val, 0] ∧ win0_3.index t = ![t.val, 0] := by
  decide +kernel

/-- The row of the whole array at which a grid point's row stands. -/
def row (t : Fin cfg0.N) (r : Fin 512) : Fin 4096 := ⟨512 * t.val + r.val, by have : t.val < 8 := t.isLt; omega⟩

theorem iblk0 (c : Dev nD) (t : Fin cfg0.N) (r : Fin 512) (k : Fin 1024) : iblk m c 0 t (ix2 r k) = V m c main_arg0 (ix2 (row t r) k) := by
  unfold row
  blk_ext [iblk, (idx t).1]

theorem iblk1 (c : Dev nD) (t : Fin cfg0.N) (q : Fin 8) (k : Fin 1024) (e : Fin 512) : iblk m c 1 t (ix3 q k e) = V m c main_arg1 (ix3 q k e) := by
  blk_ext [iblk, (idx t).2.1]

/-- A piece of the weight, loaded from its block. -/
theorem piece (c : Dev nD) (t : Fin cfg0.N) (q : ℕ) (hq : q < 8) (hb : ∀ a, (![q, 0, 0] : Fin 3 → ℕ) a + (![1, 1024, 512] : Fin 3 → ℕ) a ≤ S8x1024x512.size a) (k : Fin 1024) (e : Fin 512) :
    View.ld (iblk m c 1 t) (Rect.unit (s := S8x1024x512) ![q, 0, 0] ![1, 1024, 512] hb) (ix3 0 k e) = V m c main_arg1 (ix3 ⟨q, hq⟩ k e) := by
  refine (View.ld_unit_apply_of _ _ _ _ _ (ix3 ⟨q, hq⟩ k e) fun a => ?_).trans (iblk1 m c t ⟨q, hq⟩ k e)
  match a with
  | ⟨0, _⟩ => rfl
  | ⟨1, _⟩ => exact (Nat.zero_add _).symm
  | ⟨2, _⟩ => exact (Nat.zero_add _).symm

/-- A product with one piece of the weight. -/
def tile (x : Vec Ideal S512x1024 .bf16) (w : Vec Ideal S1x1024x512 .bf16) : FVec Ideal S512x512 .f32 :=
  matmul dot_S512x1024_S1024x512_S512x512_1_0_0_1_n_n none (φ₁ := .bf16) (φ₂ := .bf16) x (shapeCast S1024x512 w shapeCasts_S1x1024x512_S1024x512) (constant S512x512 .f32 0x00000000#32)

theorem tile_apply (x : Vec Ideal S512x1024 .bf16) (w : Vec Ideal S1x1024x512 .bf16) (r e : Fin 512) :
    tile x w (ix2 r e) = ∑ k : Fin 1024, x (ix2 r k) * w (ix3 0 k e) := by
  pointwise [tile, dot_S512x1024_S1024x512_S512x512_1_0_0_1_n_n]

/-- A grid point's product with piece `q`. -/
theorem tile_at (c : Dev nD) (t : Fin cfg0.N) (q : ℕ) (hq : q < 8) (hb : ∀ a, (![q, 0, 0] : Fin 3 → ℕ) a + (![1, 1024, 512] : Fin 3 → ℕ) a ≤ S8x1024x512.size a) (r e : Fin 512) (n : Fin 4096) (hn : n.val = 512 * q + e.val) :
    tile (iblk m c 0 t) (View.ld (iblk m c 1 t) (Rect.unit (s := S8x1024x512) ![q, 0, 0] ![1, 1024, 512] hb)) (ix2 r e) = hid (V m c main_arg0) (V m c main_arg1) (row t r) n := by
  rw [tile_apply, hid]
  refine Finset.sum_congr rfl fun k _ => ?_
  rw [iblk0, piece m c t q hq]
  have e0 : (⟨q, hq⟩ : Fin 8) = ⟨n.val / 512, by omega⟩ := Fin.ext (by show q = n.val / 512; omega)
  have e1 : e = ⟨n.val % 512, by omega⟩ := Fin.ext (by show e.val = n.val % 512; omega)
  rw [e0, ← e1]

/-- A grid point's piece `q` of the weight. -/
abbrev pc (c : Dev nD) (t : Fin cfg0.N) (q : ℕ) (hb : ∀ a, (![q, 0, 0] : Fin 3 → ℕ) a + (![1, 1024, 512] : Fin 3 → ℕ) a ≤ S8x1024x512.size a) : Vec Ideal S1x1024x512 .bf16 :=
  View.ld (iblk m c 1 t) (Rect.unit (s := S8x1024x512) ![q, 0, 0] ![1, 1024, 512] hb)

/-- A grid point's rows of the hidden layer. -/
def hidB (c : Dev nD) (t : Fin cfg0.N) : FVec Ideal S512x4096 .f32 :=
  k0_pay1 (F := Ideal) (tile (iblk m c 0 t) (pc m c t 0 inb_S8x1024x512_S1x1024x512_0_0_0)) (tile (iblk m c 0 t) (pc m c t 1 inb_S8x1024x512_S1x1024x512_1_0_0))
    (tile (iblk m c 0 t) (pc m c t 2 inb_S8x1024x512_S1x1024x512_2_0_0)) (tile (iblk m c 0 t) (pc m c t 3 inb_S8x1024x512_S1x1024x512_3_0_0))
    (tile (iblk m c 0 t) (pc m c t 4 inb_S8x1024x512_S1x1024x512_4_0_0)) (iblk m c 0 t) (pc m c t 5 inb_S8x1024x512_S1x1024x512_5_0_0)
    (iblk m c 0 t) (pc m c t 6 inb_S8x1024x512_S1x1024x512_6_0_0) (iblk m c 0 t) (pc m c t 7 inb_S8x1024x512_S1x1024x512_7_0_0)

theorem hidB_apply (c : Dev nD) (t : Fin cfg0.N) (r : Fin 512) (n : Fin 4096) : hidB m c t (ix2 r n) = hid (V m c main_arg0) (V m c main_arg1) (row t r) n := by
  refine beside _ _ _ _ _ _ _ _ (fun n => hid (V m c main_arg0) (V m c main_arg1) (row t r) n) r (fun j => ?_) (fun j => ?_) (fun j => ?_) (fun j => ?_) (fun j => ?_) (fun j => ?_) (fun j => ?_) (fun j => ?_) n
  · exact tile_at m c t 0 (by decide) _ r j _ (by dsimp only; omega)
  · exact tile_at m c t 1 (by decide) _ r j _ rfl
  · exact tile_at m c t 2 (by decide) _ r j _ rfl
  · exact tile_at m c t 3 (by decide) _ r j _ rfl
  · exact tile_at m c t 4 (by decide) _ r j _ rfl
  · exact tile_at m c t 5 (by decide) _ r j _ rfl
  · exact tile_at m c t 6 (by decide) _ r j _ rfl
  · exact tile_at m c t 7 (by decide) _ r j _ rfl

/-- The square of the positive part of a block. -/
theorem actB_apply (x : FVec Ideal S512x4096 .f32) (r : Fin 512) (n : Fin 4096) :
    (truncf .bf16 (mulf (maximumf x (broadcast S512x4096 (Scalar.ofBits .f32 0x00000000#32))) (maximumf x (broadcast S512x4096 (Scalar.ofBits .f32 0x00000000#32)))) bitsLt_bf16_f32 : FVec Ideal S512x4096 .bf16) (ix2 r n)
      = act (x (ix2 r n)) := by
  pointwise []
  rfl

/-- The kernel's hidden layer. -/
theorem arr2 (c : Dev nD) : (dats m 0 c).arrAt 2 cfg0.N = hidArr (V m c main_arg0) (V m c main_arg1) := by
  refine (dats m 0 c).arrAt_eq_of_covers 2 _ (by decide +kernel) fun t hf y => ?_
  blk_simp
  rw [after0_2]
  unfold_out out0_2
  frame_out
  have e : ((View.whole main_v0_0).slice (win0_2.rect t)).emb y = (ix2 (n0 := 4096) (n1 := 4096) (row t (y 0)) (y 1) : S4096x4096.Idx) := by
    unfold row
    blk_ext [(idx t).2.2.1]
  have e' : y = (ix2 (n0 := 512) (n1 := 4096) (y 0) (y 1)) := by blk_ext
  rw [e]
  exact (congrArg (hidB m c t) e').trans (hidB_apply m c t (y 0) (y 1))

/-- The kernel's activated hidden layer. -/
theorem arr3 (c : Dev nD) : (dats m 0 c).arrAt 3 cfg0.N = actArr (V m c main_arg0) (V m c main_arg1) := by
  refine (dats m 0 c).arrAt_eq_of_covers 3 _ (by decide +kernel) fun t hf y => ?_
  blk_simp
  rw [after0_3]
  unfold_out out0_3
  frame_out
  have e : ((View.whole main_v0_1).slice (win0_3.rect t)).emb y = (ix2 (n0 := 4096) (n1 := 4096) (row t (y 0)) (y 1) : S4096x4096.Idx) := by
    unfold row
    blk_ext [(idx t).2.2.2]
  have e' : y = (ix2 (n0 := 512) (n1 := 4096) (y 0) (y 1)) := by blk_ext
  rw [e]
  exact (congrArg _ e').trans ((actB_apply (hidB m c t) (y 0) (y 1)).trans (congrArg act (hidB_apply m c t (y 0) (y 1))))

/-- Over the extended reals the kernel's hidden layer and its activation are the reference's. -/
theorem algebraic : Cert.algebraic_Kernel13Ideal_Reference13Ideal := by
  intro m ρ m' ρ' _ hagree
  refine ⟨fun c => hidArr (V m c main_arg0) (V m c main_arg1), fun c => actArr (V m c main_arg0) (V m c main_arg1), (θ_run _ _ _).mono (fun r h c => ?_) (Cert.Kernel13Ideal.Value.run_blocks m ρ), (θ_run _ _ _).mono (fun r h c => ?_) (Cert.Reference13Ideal.Value.run m' ρ')⟩
  · exact ⟨(h c).1.trans (arr2 m c), (h c).2.1.trans (arr3 m c), (h c).2.2⟩
  · refine ⟨(h c).1.trans ?_, (h c).2.1.trans ?_, (h c).2.2⟩
    all_goals
      rw [(hagree c).1, (hagree c).2]
      beta_reduce
      rw [V_main_arg0, V_main_arg1]
      funext j
    · exact (congrArg _ (eq_ix2 j)).trans (refHid_apply _ _ (j 0) (j 1))
    · exact (congrArg _ (eq_ix2 j)).trans ((refAct_apply (refHid _ _) (j 0) (j 1)).trans (congrArg act (refHid_apply _ _ (j 0) (j 1))))

end Cert.MlpUp

end
-- ==== Proof.NormStep.lean ====
/-
  THE RESIDUAL STEP AFTER A PRODUCT AND THE NEXT NORM, over all extended reals. A product's row is divided by its root
  mean square and scaled, added to the stream, and the sum is normed and scaled again. The kernel does this on a block of
  512 rows, the reference on whole arrays; each result element depends on one row alone, and both compute the same
  expression of it.
-/
module

public import proofs.«01_k».proof.Proof.MlpHRef
public import proofs.«01_k».proof.Proof.Gen.Kernel14Ideal
public import proofs.«01_k».proof.Proof.Gen.Kernel14Ideal.Value
public import proofs.«01_k».proof.Proof.Gen.Reference14Ideal
public import Idealize.ShloMosaic.Lib.Pointwise

@[expose] public section

set_option maxRecDepth 16384

noncomputable section

namespace Cert.NormStep

open Idealize.ShloMosaic Idealize.ShloMosaic.TcCoe Idealize.SL.Sem Idealize.ShloMosaic.StableHlo
open Cert.MlpH Cert.Kernel14Ideal Cert.Kernel14Ideal.Gen

/-! ## One row -/

/-- The reciprocal root mean square of a row. -/
def rr (x : Fin 1024 → EReal) : EReal :=
  Ideal.rsqrt (Ideal.div (∑ l : Fin 1024, x l * x l) (Ideal.ofBits .f32 0x44800000#32) + Ideal.ofBits .f32 0x358637BD#32)

/-! ## Whole arrays -/

/-- The rows' reciprocal root mean squares, as a column. -/
def rrArr (Y : S4096x1024.Idx → EReal) : S4096x1.Idx → EReal := fun j => rr fun l => Y (ix2 (j 0) l)

/-- The normed and scaled rows. -/
def normArr (Y : S4096x1024.Idx → EReal) (G : S1x1024.Idx → EReal) : S4096x1024.Idx → EReal :=
  fun j => Y (ix2 (j 0) (j 1)) * rr (fun l => Y (ix2 (j 0) l)) * G (ix2 0 (j 1))

/-- The stream after the step. -/
def stepArr (X Y : S4096x1024.Idx → EReal) (G : S1x1024.Idx → EReal) : S4096x1024.Idx → EReal :=
  fun j => X (ix2 (j 0) (j 1)) + normArr Y G (ix2 (j 0) (j 1))

/-! ## The reference -/

theorem rrmsA_row (Y : FVec Ideal S4096x1024 .f32) (t : Fin 4096) (z : Fin 1) : rrmsA Y (ix2 t z) = rrArr Y (ix2 t z) := by
  unfold rrArr rr
  pointwise [rrmsA, msA]

theorem normA_row (Y : FVec Ideal S4096x1024 .f32) (G : FVec Ideal S1x1024 .f32) (t : Fin 4096) (l : Fin 1024) :
    scaleA (normA Y) G (ix2 t l) = normArr Y G (ix2 t l) := by
  unfold normArr
  pointwise [scaleA, normA]
  rw [rrmsA_row]
  rfl

theorem midA_row (X Y : FVec Ideal S4096x1024 .f32) (G : FVec Ideal S1x1024 .f32) (t : Fin 4096) (l : Fin 1024) :
    midA X Y G (ix2 t l) = stepArr X Y G (ix2 t l) := by
  unfold stepArr
  pointwise [midA]
  rw [normA_row]

theorem midA_eq (X Y : FVec Ideal S4096x1024 .f32) (G : FVec Ideal S1x1024 .f32) : midA X Y G = stepArr X Y G := by
  funext j
  exact (congrArg _ (eq_ix2 j)).trans ((midA_row X Y G (j 0) (j 1)).trans (congrArg _ (eq_ix2 j).symm))

/-! ## A block of the kernel -/

/-- A block's reciprocal root mean squares, as a column. -/
def rrB (y : FVec Ideal S512x1024 .f32) : FVec Ideal S512x1 .f32 :=
  rsqrt (addf (divf (shapeCast S512x1 (multiReduction .add [1] S512 (mulf y y) 0x00000000#32 reduces_S512x1024_S512 (.inl rfl) rfl) shapeCasts_S512_S512x1)
    (broadcast S512x1 (Scalar.ofBits .f32 0x44800000#32))) (broadcast S512x1 (Scalar.ofBits .f32 0x358637BD#32)))

/-- A block's normed and scaled rows. -/
def normB (y : FVec Ideal S512x1024 .f32) (g : FVec Ideal S1x1024 .f32) : FVec Ideal S512x1024 .f32 :=
  mulf (mulf y (broadcastTo S512x1024 (rrB y) broadcasts_S512x1_S512x1024)) (broadcastTo S512x1024 g broadcasts_S1x1024_S512x1024)

/-- A block of the stream after the step. -/
def stepB (x y : FVec Ideal S512x1024 .f32) (g : FVec Ideal S1x1024 .f32) : FVec Ideal S512x1024 .f32 := addf x (normB y g)

section block

variable {x y : FVec Ideal S512x1024 .f32} {g : FVec Ideal S1x1024 .f32} {X Y : S4096x1024.Idx → EReal} {G : S1x1024.Idx → EReal} {r : Fin 512} {t : Fin 4096}
  (hx : ∀ l, x (ix2 r l) = X (ix2 t l)) (hy : ∀ l, y (ix2 r l) = Y (ix2 t l)) (hg : ∀ l, g (ix2 0 l) = G (ix2 0 l))

include hy in
theorem rrB_row (z : Fin 1) : rrB y (ix2 r z) = rrArr Y (ix2 t z) := by
  unfold rrArr rr
  pointwise [rrB]
  simp only [hy]

include hy hg in
theorem normB_row (l : Fin 1024) : normB y g (ix2 r l) = normArr Y G (ix2 t l) := by
  unfold normArr
  pointwise [normB]
  rw [rrB_row hy, hy, hg]
  rfl

include hx hy hg in
theorem stepB_row (l : Fin 1024) : stepB x y g (ix2 r l) = stepArr X Y G (ix2 t l) := by
  unfold stepArr
  pointwise [stepB]
  rw [normB_row hy hg, hx]

end block

end Cert.NormStep

end
-- ==== Proof.MlpDown.lean ====
/-
  THE PERCEPTRON'S SECOND PRODUCT, THE RESIDUAL STEP AND THE NEXT NORM. Each grid point computes 512 rows of the product
  with the whole weight and carries them through the step (NormStep); five results leave it: the stream after the step,
  the product's reciprocal root mean squares, the next layer's normed input, the stream's reciprocal root mean squares and
  the product itself.
-/
module

public import proofs.«01_k».proof.Defs
public import proofs.«01_k».proof.Proof.NormStep
public import proofs.«01_k».proof.Proof.Gen.Kernel14Ideal
public import proofs.«01_k».proof.Proof.Gen.Kernel14Ideal.Value
public import proofs.«01_k».proof.Proof.Gen.Reference14Ideal
public import proofs.«01_k».proof.Proof.Gen.Reference14Ideal.Run
public import Idealize.ShloMosaic.Lib.Pointwise
public import Idealize.ShloMosaic.Lib.Pipeline.ReadBack
public import Idealize.ShloMosaic.Lib.Pipeline.ValueKit

@[expose] public section

set_option maxRecDepth 16384

noncomputable section

namespace Cert.MlpDown

open Cert.Kernel14Ideal Cert.Kernel14Ideal.Gen Idealize.ShloMosaic Idealize.ShloMosaic.TcCoe Idealize.SL.Sem Idealize.ShloMosaic.StableHlo Cert.NormStep Cert.MlpH

/-- The product. -/
def down (A : S4096x4096.Idx → EReal) (W : S4096x1024.Idx → EReal) : S4096x1024.Idx → EReal :=
  fun j => ∑ k : Fin 4096, A (ix2 (j 0) k) * W (ix2 k (j 1))

theorem pay_apply (x : Vec Ideal S512x4096 .bf16) (w : Vec Ideal S4096x1024 .bf16) (r : Fin 512) (l : Fin 1024) :
    k0_pay1 x w (ix2 r l) = ∑ k : Fin 4096, x (ix2 r k) * w (ix2 k l) := by
  pointwise [k0_pay1, dot_S512x4096_S4096x1024_S512x1024_1_0_0_1_n_n]

/-- The reference's product. -/
def refDown (A : FVec Ideal S4096x4096 .bf16) (W : FVec Ideal S4096x1024 .bf16) : FVec Ideal S4096x1024 .f32 :=
  Host.dotGeneral (φ₁ := .f32) (φ₂ := .f32) Cert.Reference14Ideal.dot_S4096x4096_S4096x1024_S4096x1024_1_0_0_1_n_n none (extf .f32 A Cert.Reference14Ideal.Gen.bitsLt_bf16_f32) (extf .f32 W Cert.Reference14Ideal.Gen.bitsLt_bf16_f32)

theorem refDown_apply (A : FVec Ideal S4096x4096 .bf16) (W : FVec Ideal S4096x1024 .bf16) (t : Fin 4096) (l : Fin 1024) : refDown A W (ix2 t l) = down A W (ix2 t l) := by
  unfold down
  pointwise [refDown, Cert.Reference14Ideal.dot_S4096x4096_S4096x1024_S4096x1024_1_0_0_1_n_n]

theorem refDown_eq (A : FVec Ideal S4096x4096 .bf16) (W : FVec Ideal S4096x1024 .bf16) : refDown A W = down A W := by
  funext j
  exact (congrArg _ (eq_ix2 j)).trans ((refDown_apply A W (j 0) (j 1)).trans (congrArg _ (eq_ix2 j).symm))

variable (m : (ℓ : Loc nD τ sig) → Buf (Elt Ideal) ℓ)

/-- The blocks' indices at each grid point. -/
theorem idx : ∀ t, win0_0.index t = ![t.val, 0] ∧ win0_1.index t = ![0, 0] ∧ win0_2.index t = ![t.val, 0] ∧ win0_3.index t = ![0, 0] ∧ win0_4.index t = ![0, 0]
    ∧ win0_5.index t = ![t.val, 0] ∧ win0_6.index t = ![t.val, 0] ∧ win0_7.index t = ![t.val, 0] ∧ win0_8.index t = ![t.val, 0] ∧ win0_9.index t = ![t.val, 0] := by
  decide +kernel

/-- The row of the whole array at which a grid point's row stands. -/
def row (t : Fin cfg0.N) (r : Fin 512) : Fin 4096 := ⟨512 * t.val + r.val, by have : t.val < 8 := t.isLt; omega⟩

/-- The product of the arguments. -/
abbrev Y (c : Dev nD) : S4096x1024.Idx → EReal := down (V m c main_arg0) (V m c main_arg1)

theorem iblk0 (c : Dev nD) (t : Fin cfg0.N) (r : Fin 512) (k : Fin 4096) : iblk m c 0 t (ix2 r k) = V m c main_arg0 (ix2 (row t r) k) := by
  unfold row
  blk_ext [iblk, (idx t).1]

theorem iblk1 (c : Dev nD) (t : Fin cfg0.N) (k : Fin 4096) (l : Fin 1024) : iblk m c 1 t (ix2 k l) = V m c main_arg1 (ix2 k l) := by
  blk_ext [iblk, (idx t).2.1]

theorem iblk2 (c : Dev nD) (t : Fin cfg0.N) (r : Fin 512) (l : Fin 1024) : iblk m c 2 t (ix2 r l) = V m c main_arg2 (ix2 (row t r) l) := by
  unfold row
  blk_ext [iblk, (idx t).2.2.1]

theorem iblk3 (c : Dev nD) (t : Fin cfg0.N) (l : Fin 1024) : iblk m c 3 t (ix2 0 l) = V m c main_arg3 (ix2 0 l) := by
  blk_ext [iblk, (idx t).2.2.2.1]

theorem iblk4 (c : Dev nD) (t : Fin cfg0.N) (l : Fin 1024) : iblk m c 4 t (ix2 0 l) = V m c main_arg4 (ix2 0 l) := by
  blk_ext [iblk, (idx t).2.2.2.2.1]

theorem prod_at (c : Dev nD) (t : Fin cfg0.N) (r : Fin 512) (l : Fin 1024) :
    k0_pay1 (iblk m c 0 t) (iblk m c 1 t) (ix2 r l) = Y m c (ix2 (row t r) l) := by
  rw [pay_apply]
  exact Finset.sum_congr rfl fun k _ => by rw [iblk0, iblk1]; rfl

theorem step_at (c : Dev nD) (t : Fin cfg0.N) (r : Fin 512) (l : Fin 1024) :
    stepB (iblk m c 2 t) (k0_pay1 (iblk m c 0 t) (iblk m c 1 t)) (iblk m c 3 t) (ix2 r l) = stepArr (V m c main_arg2) (Y m c) (V m c main_arg3) (ix2 (row t r) l) :=
  stepB_row (iblk2 m c t r) (prod_at m c t r) (iblk3 m c t) l

/-- The stream after the step. -/
theorem arr5 (c : Dev nD) : (dats m 0 c).arrAt 5 cfg0.N = stepArr (V m c main_arg2) (Y m c) (V m c main_arg3) := by
  refine (dats m 0 c).arrAt_eq_of_covers 5 _ (by decide +kernel) fun t hf y => ?_
  blk_simp
  rw [after0_5]
  frame_out
  have e : ((View.whole main_v0_0).slice (win0_5.rect t)).emb y = (ix2 (n0 := 4096) (n1 := 1024) (row t (y 0)) (y 1) : S4096x1024.Idx) := by
    unfold row
    blk_ext [(idx t).2.2.2.2.2.1]
  have e' : y = (ix2 (n0 := 512) (n1 := 1024) (y 0) (y 1)) := by blk_ext
  rw [e]
  exact (congrArg _ e').trans (step_at m c t (y 0) (y 1))

/-- The product's reciprocal root mean squares. -/
theorem arr6 (c : Dev nD) : (dats m 0 c).arrAt 6 cfg0.N = rrArr (Y m c) := by
  refine (dats m 0 c).arrAt_eq_of_covers 6 _ (by decide +kernel) fun t hf y => ?_
  blk_simp
  rw [after0_6]
  frame_out
  have e : ((View.whole main_v0_1).slice (win0_6.rect t)).emb y = (ix2 (n0 := 4096) (n1 := 1) (row t (y 0)) (y 1) : S4096x1.Idx) := by
    unfold row
    blk_ext [(idx t).2.2.2.2.2.2.1]
  have e' : y = (ix2 (n0 := 512) (n1 := 1) (y 0) (y 1)) := by blk_ext
  rw [e]
  exact (congrArg _ e').trans (rrB_row (y := k0_pay1 (iblk m c 0 t) (iblk m c 1 t)) (prod_at m c t (y 0)) (y 1))

/-- The next layer's normed input. -/
theorem arr7 (c : Dev nD) : (dats m 0 c).arrAt 7 cfg0.N = normArr (stepArr (V m c main_arg2) (Y m c) (V m c main_arg3)) (V m c main_arg4) := by
  refine (dats m 0 c).arrAt_eq_of_covers 7 _ (by decide +kernel) fun t hf y => ?_
  blk_simp
  rw [after0_7]
  frame_out
  have e : ((View.whole main_v0_2).slice (win0_7.rect t)).emb y = (ix2 (n0 := 4096) (n1 := 1024) (row t (y 0)) (y 1) : S4096x1024.Idx) := by
    unfold row
    blk_ext [(idx t).2.2.2.2.2.2.2.1]
  have e' : y = (ix2 (n0 := 512) (n1 := 1024) (y 0) (y 1)) := by blk_ext
  rw [e]
  exact (congrArg _ e').trans (normB_row (y := stepB (iblk m c 2 t) (k0_pay1 (iblk m c 0 t) (iblk m c 1 t)) (iblk m c 3 t)) (step_at m c t (y 0)) (iblk4 m c t) (y 1))

/-- The stream's reciprocal root mean squares. -/
theorem arr8 (c : Dev nD) : (dats m 0 c).arrAt 8 cfg0.N = rrArr (stepArr (V m c main_arg2) (Y m c) (V m c main_arg3)) := by
  refine (dats m 0 c).arrAt_eq_of_covers 8 _ (by decide +kernel) fun t hf y => ?_
  blk_simp
  rw [after0_8]
  frame_out
  have e : ((View.whole main_v0_3).slice (win0_8.rect t)).emb y = (ix2 (n0 := 4096) (n1 := 1) (row t (y 0)) (y 1) : S4096x1.Idx) := by
    unfold row
    blk_ext [(idx t).2.2.2.2.2.2.2.2.1]
  have e' : y = (ix2 (n0 := 512) (n1 := 1) (y 0) (y 1)) := by blk_ext
  rw [e]
  exact (congrArg _ e').trans (rrB_row (y := stepB (iblk m c 2 t) (k0_pay1 (iblk m c 0 t) (iblk m c 1 t)) (iblk m c 3 t)) (step_at m c t (y 0)) (y 1))

/-- The product. -/
theorem arr9 (c : Dev nD) : (dats m 0 c).arrAt 9 cfg0.N = Y m c := by
  refine (dats m 0 c).arrAt_eq_of_covers 9 _ (by decide +kernel) fun t hf y => ?_
  blk_simp
  rw [after0_9]
  frame_out
  have e : ((View.whole main_v0_4).slice (win0_9.rect t)).emb y = (ix2 (n0 := 4096) (n1 := 1024) (row t (y 0)) (y 1) : S4096x1024.Idx) := by
    unfold row
    blk_ext [(idx t).2.2.2.2.2.2.2.2.2]
  have e' : y = (ix2 (n0 := 512) (n1 := 1024) (y 0) (y 1)) := by blk_ext
  rw [e]
  exact (congrArg _ e').trans (prod_at m c t (y 0) (y 1))

/-- Over the extended reals the kernel's five results are the reference's. -/
theorem algebraic : Cert.algebraic_Kernel14Ideal_Reference14Ideal := by
  intro m ρ m' ρ' _ hagree
  refine ⟨fun c => stepArr (V m c main_arg2) (Y m c) (V m c main_arg3), fun c => rrArr (Y m c), fun c => normArr (stepArr (V m c main_arg2) (Y m c) (V m c main_arg3)) (V m c main_arg4),
    fun c => rrArr (stepArr (V m c main_arg2) (Y m c) (V m c main_arg3)), fun c => Y m c,
    (θ_run _ _ _).mono (fun r h c => ?_) (Cert.Kernel14Ideal.Value.run_blocks m ρ), (θ_run _ _ _).mono (fun r h c => ?_) (Cert.Reference14Ideal.Value.run m' ρ')⟩
  · exact ⟨(h c).1.trans (arr5 m c), (h c).2.1.trans (arr6 m c), (h c).2.2.1.trans (arr7 m c), (h c).2.2.2.1.trans (arr8 m c), (h c).2.2.2.2.1.trans (arr9 m c), (h c).2.2.2.2.2⟩
  · have hY := refDown_eq (m' ((c : Thread Cert.Reference14Ideal.nD Cert.Reference14Ideal.τ).loc Cert.Reference14Ideal.main_arg0)) (m' ((c : Thread Cert.Reference14Ideal.nD Cert.Reference14Ideal.τ).loc Cert.Reference14Ideal.main_arg1))
    have e0 := (V_main_arg0 m c).trans (hagree c).1.symm
    have e1 := (V_main_arg1 m c).trans (hagree c).2.1.symm
    have e2 := (V_main_arg2 m c).trans (hagree c).2.2.1.symm
    have e3 := (V_main_arg3 m c).trans (hagree c).2.2.2.1.symm
    have e4 := (V_main_arg4 m c).trans (hagree c).2.2.2.2.symm
    refine ⟨(h c).1.trans ?_, (h c).2.1.trans ?_, (h c).2.2.1.trans ?_, (h c).2.2.2.1.trans ?_, (h c).2.2.2.2.1.trans ?_, (h c).2.2.2.2.2⟩
    all_goals
      beta_reduce
      unfold Y
    · rw [e0, e1, e2, e3, ← hY]
      exact midA_eq _ (refDown _ _) _
    · rw [e0, e1, ← hY]
      funext j
      exact (congrArg _ (eq_ix2 j)).trans (rrmsA_row (refDown _ _) (j 0) (j 1))
    · rw [e0, e1, e2, e3, e4, ← hY, ← midA_eq]
      funext j
      exact (congrArg _ (eq_ix2 j)).trans (normA_row (midA _ (refDown _ _) _) _ (j 0) (j 1))
    · rw [e0, e1, e2, e3, ← hY, ← midA_eq]
      funext j
      exact (congrArg _ (eq_ix2 j)).trans (rrmsA_row (midA _ (refDown _ _) _) (j 0) (j 1))
    · rw [e0, e1, ← hY]
      rfl

end Cert.MlpDown

end
-- ==== Proof.MixOut.lean ====
/-
  THE ODD LAYER'S OUTPUT PROJECTION, THE RESIDUAL STEP AND THE NORM BEFORE THE PERCEPTRON. Each grid point computes 512
  rows of the projection, half of the weight's rows per part of the mixer's output, and carries them through the step
  (NormStep); the same five results leave it as leave the perceptron's second product.
-/
module

public import proofs.«01_k».proof.Defs
public import proofs.«01_k».proof.Proof.NormStep
public import proofs.«01_k».proof.Proof.Gen.Kernel18Ideal
public import proofs.«01_k».proof.Proof.Gen.Kernel18Ideal.Value
public import proofs.«01_k».proof.Proof.Gen.Reference18Ideal
public import proofs.«01_k».proof.Proof.Gen.Reference18Ideal.Run
public import Idealize.ShloMosaic.Lib.Pointwise
public import Idealize.ShloMosaic.Lib.Pipeline.ReadBack
public import Idealize.ShloMosaic.Lib.Pipeline.ValueKit

@[expose] public section

set_option maxRecDepth 16384

noncomputable section

namespace Cert.MixOut

open Cert.Kernel18Ideal Cert.Kernel18Ideal.Gen Idealize.ShloMosaic Idealize.ShloMosaic.TcCoe Idealize.SL.Sem Idealize.ShloMosaic.StableHlo Cert.NormStep Cert.MlpH

/-- Row `512 + k` of the weight. -/
abbrev hi (k : Fin 512) : Fin 1024 := ⟨512 + k.val, by omega⟩

/-- Row `k` of the weight. -/
abbrev lo (k : Fin 512) : Fin 1024 := ⟨k.val, by omega⟩

/-- The projection of the two parts. -/
def out (A B : S4096x512.Idx → EReal) (W : S1024x1024.Idx → EReal) : S4096x1024.Idx → EReal :=
  fun j => (∑ k : Fin 512, A (ix2 (j 0) k) * W (ix2 (lo k) (j 1))) + ∑ k : Fin 512, B (ix2 (j 0) k) * W (ix2 (hi k) (j 1))

theorem pay_apply (x : Vec Ideal S512x512 .bf16) (w : Vec Ideal S512x1024 .bf16) (x' : Vec Ideal S512x512 .bf16) (w' : Vec Ideal S512x1024 .bf16) (r : Fin 512) (l : Fin 1024) :
    k0_pay2 x w x' w' (ix2 r l) = (∑ k : Fin 512, x (ix2 r k) * w (ix2 k l)) + ∑ k : Fin 512, x' (ix2 r k) * w' (ix2 k l) := by
  pointwise [k0_pay2, dot_S512x512_S512x1024_S512x1024_1_0_0_1_n_n]

/-- The reference's projection. -/
def refOut (A B : FVec Ideal S4096x512 .bf16) (W : FVec Ideal S1024x1024 .bf16) : FVec Ideal S4096x1024 .f32 :=
  Host.dotGeneral (φ₁ := .f32) (φ₂ := .f32) Cert.Reference18Ideal.dot_S4096x1024_S1024x1024_S4096x1024_1_0_0_1_n_n none (extf .f32 (concatenate S4096x1024 1 [⟨S4096x512, A⟩, ⟨S4096x512, B⟩] Cert.Reference18Ideal.Gen.concatenates_S4096x512_S4096x512_S4096x1024_d1 : FVec Ideal S4096x1024 .bf16) Cert.Reference18Ideal.Gen.bitsLt_bf16_f32) (extf .f32 W Cert.Reference18Ideal.Gen.bitsLt_bf16_f32)

theorem refOut_apply (A B : FVec Ideal S4096x512 .bf16) (W : FVec Ideal S1024x1024 .bf16) (t : Fin 4096) (l : Fin 1024) : refOut A B W (ix2 t l) = out A B W (ix2 t l) := by
  unfold out
  pointwise [refOut, Cert.Reference18Ideal.dot_S4096x1024_S1024x1024_S4096x1024_1_0_0_1_n_n]
  done

theorem refOut_eq (A B : FVec Ideal S4096x512 .bf16) (W : FVec Ideal S1024x1024 .bf16) : refOut A B W = out A B W := by
  funext j
  exact (congrArg _ (eq_ix2 j)).trans ((refOut_apply A B W (j 0) (j 1)).trans (congrArg _ (eq_ix2 j).symm))

variable (m : (ℓ : Loc nD τ sig) → Buf (Elt Ideal) ℓ)

/-- The blocks' indices at each grid point. -/
theorem idx : ∀ t, win0_0.index t = ![t.val, 0] ∧ win0_1.index t = ![t.val, 0] ∧ win0_2.index t = ![0, 0] ∧ win0_3.index t = ![t.val, 0] ∧ win0_4.index t = ![0, 0] ∧ win0_5.index t = ![0, 0]
    ∧ win0_6.index t = ![t.val, 0] ∧ win0_7.index t = ![t.val, 0] ∧ win0_8.index t = ![t.val, 0] ∧ win0_9.index t = ![t.val, 0] ∧ win0_10.index t = ![t.val, 0] := by
  decide +kernel

/-- The row of the whole array at which a grid point's row stands. -/
def row (t : Fin cfg0.N) (r : Fin 512) : Fin 4096 := ⟨512 * t.val + r.val, by have : t.val < 8 := t.isLt; omega⟩

/-- The projection of the arguments. -/
abbrev Y (c : Dev nD) : S4096x1024.Idx → EReal := out (V m c main_arg0) (V m c main_arg1) (V m c main_arg2)

theorem iblk0 (c : Dev nD) (t : Fin cfg0.N) (r : Fin 512) (k : Fin 512) : iblk m c 0 t (ix2 r k) = V m c main_arg0 (ix2 (row t r) k) := by
  unfold row
  blk_ext [iblk, (idx t).1]

theorem iblk1 (c : Dev nD) (t : Fin cfg0.N) (r : Fin 512) (k : Fin 512) : iblk m c 1 t (ix2 r k) = V m c main_arg1 (ix2 (row t r) k) := by
  unfold row
  blk_ext [iblk, (idx t).2.1]

theorem iblk2 (c : Dev nD) (t : Fin cfg0.N) (k : Fin 1024) (l : Fin 1024) : iblk m c 2 t (ix2 k l) = V m c main_arg2 (ix2 k l) := by
  blk_ext [iblk, (idx t).2.2.1]

theorem iblk3 (c : Dev nD) (t : Fin cfg0.N) (r : Fin 512) (l : Fin 1024) : iblk m c 3 t (ix2 r l) = V m c main_arg3 (ix2 (row t r) l) := by
  unfold row
  blk_ext [iblk, (idx t).2.2.2.1]

theorem iblk4 (c : Dev nD) (t : Fin cfg0.N) (l : Fin 1024) : iblk m c 4 t (ix2 0 l) = V m c main_arg4 (ix2 0 l) := by
  blk_ext [iblk, (idx t).2.2.2.2.1]

theorem iblk5 (c : Dev nD) (t : Fin cfg0.N) (l : Fin 1024) : iblk m c 5 t (ix2 0 l) = V m c main_arg5 (ix2 0 l) := by
  blk_ext [iblk, (idx t).2.2.2.2.2.1]

/-- The two halves of the weight's rows, loaded from its block. -/
theorem lo_at (c : Dev nD) (t : Fin cfg0.N) (k : Fin 512) (l : Fin 1024) : View.ld (iblk m c 2 t) r0_1 (ix2 k l) = V m c main_arg2 (ix2 (lo k) l) := by
  refine (View.ld_unit_apply_of _ _ _ _ _ (ix2 (lo k) l) fun a => ?_).trans (iblk2 m c t (lo k) l)
  match a with
  | ⟨0, _⟩ => exact (Nat.zero_add _).symm
  | ⟨1, _⟩ => exact (Nat.zero_add _).symm

theorem hi_at (c : Dev nD) (t : Fin cfg0.N) (k : Fin 512) (l : Fin 1024) : View.ld (iblk m c 2 t) r0_2 (ix2 k l) = V m c main_arg2 (ix2 (hi k) l) := by
  refine (View.ld_unit_apply_of _ _ _ _ _ (ix2 (hi k) l) fun a => ?_).trans (iblk2 m c t (hi k) l)
  match a with
  | ⟨0, _⟩ => rfl
  | ⟨1, _⟩ => exact (Nat.zero_add _).symm

/-- The projection's rows at a grid point. -/
abbrev P (c : Dev nD) (t : Fin cfg0.N) : FVec Ideal S512x1024 .f32 := k0_pay2 (iblk m c 0 t) (View.ld (iblk m c 2 t) r0_1) (iblk m c 1 t) (View.ld (iblk m c 2 t) r0_2)

theorem prod_at (c : Dev nD) (t : Fin cfg0.N) (r : Fin 512) (l : Fin 1024) : P m c t (ix2 r l) = Y m c (ix2 (row t r) l) := by
  unfold P
  rw [pay_apply]
  exact congrArg₂ (· + ·) (Finset.sum_congr rfl fun k _ => by rw [iblk0, lo_at]; rfl) (Finset.sum_congr rfl fun k _ => by rw [iblk1, hi_at]; rfl)

theorem step_at (c : Dev nD) (t : Fin cfg0.N) (r : Fin 512) (l : Fin 1024) :
    stepB (iblk m c 3 t) (P m c t) (iblk m c 4 t) (ix2 r l) = stepArr (V m c main_arg3) (Y m c) (V m c main_arg4) (ix2 (row t r) l) :=
  stepB_row (iblk3 m c t r) (prod_at m c t r) (iblk4 m c t) l

/-- The stream after the step. -/
theorem arr6 (c : Dev nD) : (dats m 0 c).arrAt 6 cfg0.N = stepArr (V m c main_arg3) (Y m c) (V m c main_arg4) := by
  refine (dats m 0 c).arrAt_eq_of_covers 6 _ (by decide +kernel) fun t hf y => ?_
  blk_simp
  rw [after0_6]
  frame_out
  have e : ((View.whole main_v0_0).slice (win0_6.rect t)).emb y = (ix2 (n0 := 4096) (n1 := 1024) (row t (y 0)) (y 1) : S4096x1024.Idx) := by
    unfold row
    blk_ext [(idx t).2.2.2.2.2.2.1]
  have e' : y = (ix2 (n0 := 512) (n1 := 1024) (y 0) (y 1)) := by blk_ext
  rw [e]
  exact (congrArg _ e').trans (step_at m c t (y 0) (y 1))

/-- The product's reciprocal root mean squares. -/
theorem arr7 (c : Dev nD) : (dats m 0 c).arrAt 7 cfg0.N = rrArr (Y m c) := by
  refine (dats m 0 c).arrAt_eq_of_covers 7 _ (by decide +kernel) fun t hf y => ?_
  blk_simp
  rw [after0_7]
  frame_out
  have e : ((View.whole main_v0_1).slice (win0_7.rect t)).emb y = (ix2 (n0 := 4096) (n1 := 1) (row t (y 0)) (y 1) : S4096x1.Idx) := by
    unfold row
    blk_ext [(idx t).2.2.2.2.2.2.2.1]
  have e' : y = (ix2 (n0 := 512) (n1 := 1) (y 0) (y 1)) := by blk_ext
  rw [e]
  exact (congrArg _ e').trans (rrB_row (y := P m c t) (prod_at m c t (y 0)) (y 1))

/-- The next layer's normed input. -/
theorem arr8 (c : Dev nD) : (dats m 0 c).arrAt 8 cfg0.N = normArr (stepArr (V m c main_arg3) (Y m c) (V m c main_arg4)) (V m c main_arg5) := by
  refine (dats m 0 c).arrAt_eq_of_covers 8 _ (by decide +kernel) fun t hf y => ?_
  blk_simp
  rw [after0_8]
  frame_out
  have e : ((View.whole main_v0_2).slice (win0_8.rect t)).emb y = (ix2 (n0 := 4096) (n1 := 1024) (row t (y 0)) (y 1) : S4096x1024.Idx) := by
    unfold row
    blk_ext [(idx t).2.2.2.2.2.2.2.2.1]
  have e' : y = (ix2 (n0 := 512) (n1 := 1024) (y 0) (y 1)) := by blk_ext
  rw [e]
  exact (congrArg _ e').trans (normB_row (y := stepB (iblk m c 3 t) (P m c t) (iblk m c 4 t)) (step_at m c t (y 0)) (iblk5 m c t) (y 1))

/-- The stream's reciprocal root mean squares. -/
theorem arr9 (c : Dev nD) : (dats m 0 c).arrAt 9 cfg0.N = rrArr (stepArr (V m c main_arg3) (Y m c) (V m c main_arg4)) := by
  refine (dats m 0 c).arrAt_eq_of_covers 9 _ (by decide +kernel) fun t hf y => ?_
  blk_simp
  rw [after0_9]
  frame_out
  have e : ((View.whole main_v0_3).slice (win0_9.rect t)).emb y = (ix2 (n0 := 4096) (n1 := 1) (row t (y 0)) (y 1) : S4096x1.Idx) := by
    unfold row
    blk_ext [(idx t).2.2.2.2.2.2.2.2.2.1]
  have e' : y = (ix2 (n0 := 512) (n1 := 1) (y 0) (y 1)) := by blk_ext
  rw [e]
  exact (congrArg _ e').trans (rrB_row (y := stepB (iblk m c 3 t) (P m c t) (iblk m c 4 t)) (step_at m c t (y 0)) (y 1))

/-- The product. -/
theorem arr10 (c : Dev nD) : (dats m 0 c).arrAt 10 cfg0.N = Y m c := by
  refine (dats m 0 c).arrAt_eq_of_covers 10 _ (by decide +kernel) fun t hf y => ?_
  blk_simp
  rw [after0_10]
  frame_out
  have e : ((View.whole main_v0_4).slice (win0_10.rect t)).emb y = (ix2 (n0 := 4096) (n1 := 1024) (row t (y 0)) (y 1) : S4096x1024.Idx) := by
    unfold row
    blk_ext [(idx t).2.2.2.2.2.2.2.2.2.2]
  have e' : y = (ix2 (n0 := 512) (n1 := 1024) (y 0) (y 1)) := by blk_ext
  rw [e]
  exact (congrArg _ e').trans (prod_at m c t (y 0) (y 1))

/-- Over the extended reals the kernel's five results are the reference's. -/
theorem algebraic : Cert.algebraic_Kernel18Ideal_Reference18Ideal := by
  intro m ρ m' ρ' _ hagree
  refine ⟨fun c => stepArr (V m c main_arg3) (Y m c) (V m c main_arg4), fun c => rrArr (Y m c), fun c => normArr (stepArr (V m c main_arg3) (Y m c) (V m c main_arg4)) (V m c main_arg5),
    fun c => rrArr (stepArr (V m c main_arg3) (Y m c) (V m c main_arg4)), fun c => Y m c,
    (θ_run _ _ _).mono (fun r h c => ?_) (Cert.Kernel18Ideal.Value.run_blocks m ρ), (θ_run _ _ _).mono (fun r h c => ?_) (Cert.Reference18Ideal.Value.run m' ρ')⟩
  · exact ⟨(h c).1.trans (arr6 m c), (h c).2.1.trans (arr7 m c), (h c).2.2.1.trans (arr8 m c), (h c).2.2.2.1.trans (arr9 m c), (h c).2.2.2.2.1.trans (arr10 m c), (h c).2.2.2.2.2⟩
  · have hY := refOut_eq (m' ((c : Thread Cert.Reference18Ideal.nD Cert.Reference18Ideal.τ).loc Cert.Reference18Ideal.main_arg0)) (m' ((c : Thread Cert.Reference18Ideal.nD Cert.Reference18Ideal.τ).loc Cert.Reference18Ideal.main_arg1)) (m' ((c : Thread Cert.Reference18Ideal.nD Cert.Reference18Ideal.τ).loc Cert.Reference18Ideal.main_arg2))
    have e0 := (V_main_arg0 m c).trans (hagree c).1.symm
    have e1 := (V_main_arg1 m c).trans (hagree c).2.1.symm
    have e2 := (V_main_arg2 m c).trans (hagree c).2.2.1.symm
    have e3 := (V_main_arg3 m c).trans (hagree c).2.2.2.1.symm
    have e4 := (V_main_arg4 m c).trans (hagree c).2.2.2.2.1.symm
    have e5 := (V_main_arg5 m c).trans (hagree c).2.2.2.2.2.symm
    refine ⟨(h c).1.trans ?_, (h c).2.1.trans ?_, (h c).2.2.1.trans ?_, (h c).2.2.2.1.trans ?_, (h c).2.2.2.2.1.trans ?_, (h c).2.2.2.2.2⟩
    all_goals
      beta_reduce
      unfold Y
    · rw [e0, e1, e2, e3, e4, ← hY]
      exact midA_eq _ (refOut _ _ _) _
    · rw [e0, e1, e2, ← hY]
      funext j
      exact (congrArg _ (eq_ix2 j)).trans (rrmsA_row (refOut _ _ _) (j 0) (j 1))
    · rw [e0, e1, e2, e3, e4, e5, ← hY, ← midA_eq]
      funext j
      exact (congrArg _ (eq_ix2 j)).trans (normA_row (midA _ (refOut _ _ _) _) _ (j 0) (j 1))
    · rw [e0, e1, e2, e3, e4, ← hY, ← midA_eq]
      funext j
      exact (congrArg _ (eq_ix2 j)).trans (rrmsA_row (midA _ (refOut _ _ _) _) (j 0) (j 1))
    · rw [e0, e1, e2, ← hY]
      rfl

end Cert.MixOut

end
-- ==== Proof.Projections.lean ====
/-
  PLAIN PRODUCTS WHOSE WHOLE SUM IS FORMED AT ONE GRID POINT: the two layers' input projections, and the gradient of the
  attention's output through its rows of the output projection. Each grid point multiplies some rows of the left array
  with the whole of the right one, so each result element is one sum on both sides.
-/
module

public import proofs.«01_k».proof.Defs
public import proofs.«01_k».proof.Proof.Gen.Kernel12Ideal
public import proofs.«01_k».proof.Proof.Gen.Kernel12Ideal.Value
public import proofs.«01_k».proof.Proof.Gen.Reference12Ideal
public import proofs.«01_k».proof.Proof.Gen.Reference12Ideal.Run
public import proofs.«01_k».proof.Proof.Gen.Kernel16Ideal
public import proofs.«01_k».proof.Proof.Gen.Kernel16Ideal.Value
public import proofs.«01_k».proof.Proof.Gen.Reference16Ideal
public import proofs.«01_k».proof.Proof.Gen.Reference16Ideal.Run
public import proofs.«01_k».proof.Proof.Gen.Kernel17Ideal
public import proofs.«01_k».proof.Proof.Gen.Kernel17Ideal.Value
public import proofs.«01_k».proof.Proof.Gen.Reference17Ideal
public import proofs.«01_k».proof.Proof.Gen.Reference17Ideal.Run
public import Idealize.ShloMosaic.Lib.Pointwise
public import Idealize.ShloMosaic.Lib.Pipeline.ReadBack
public import Idealize.ShloMosaic.Lib.Pipeline.ValueKit
public import Idealize.ShloMosaic.Lib.StableHlo.RunRead

@[expose] public section

set_option maxRecDepth 16384

noncomputable section

namespace Cert.Projections

open Idealize.ShloMosaic Idealize.ShloMosaic.TcCoe Idealize.SL.Sem Idealize.ShloMosaic.StableHlo

/-- The product of a matrix with a transposed one, over 1024 terms. -/
def prod {R N : ℕ} (A : (⟨2, ![R, 1024]⟩ : Shape).Idx → EReal) (B : (⟨2, ![N, 1024]⟩ : Shape).Idx → EReal) :
    (⟨2, ![R, N]⟩ : Shape).Idx → EReal := fun j => ∑ k : Fin 1024, A (ix2 (j 0) k) * B (ix2 (j 1) k)

/-! ## The odd layer's input projection -/

namespace Odd

open Cert.Kernel16Ideal Cert.Kernel16Ideal.Gen

/-- What a grid point stores. -/
theorem pay_apply (x : Vec Ideal S1024x1024 .bf16) (w : Vec Ideal S1536x1024 .bf16) (r : Fin 1024) (n : Fin 1536) :
    k0_pay1 x w (ix2 r n) = ∑ k : Fin 1024, x (ix2 r k) * w (ix2 n k) := by
  pointwise [k0_pay1, dot_S1024x1024_S1536x1024_S1024x1536_1_1_0_0_n_n]

/-- The reference's product. -/
theorem ref_apply (H : FVec Ideal S4096x1024 .bf16) (W : FVec Ideal S1536x1024 .bf16) (t : Fin 4096) (n : Fin 1536) :
    (Host.dotGeneral Cert.Reference16Ideal.dot_S4096x1024_S1024x1536_S4096x1536_1_0_0_1_n_n none (extf .f32 H Cert.Reference16Ideal.Gen.bitsLt_bf16_f32)
      (extf .f32 (transpose Cert.Reference16Ideal.S1024x1536 [1, 0] W Cert.Reference16Ideal.Gen.transposes_S1536x1024_S1024x1536_1_0) Cert.Reference16Ideal.Gen.bitsLt_bf16_f32) : FVec Ideal S4096x1536 .f32) (ix2 t n)
      = prod H W (ix2 t n) := by
  pointwise [Cert.Reference16Ideal.dot_S4096x1024_S1024x1536_S4096x1536_1_0_0_1_n_n]
  rfl

variable (m : (ℓ : Loc nD τ sig) → Buf (Elt Ideal) ℓ)

/-- The blocks' indices at each grid point. -/
theorem idx : ∀ t, win0_0.index t = ![t.val, 0] ∧ win0_1.index t = ![0, 0] ∧ win0_2.index t = ![t.val, 0] := by
  decide +kernel

/-- The row of the whole array at which a grid point's row stands. -/
def row (t : Fin cfg0.N) (r : Fin 1024) : Fin 4096 := ⟨1024 * t.val + r.val, by have : t.val < 4 := t.isLt; omega⟩

theorem iblk0 (c : Dev nD) (t : Fin cfg0.N) (r : Fin 1024) (k : Fin 1024) : iblk m c 0 t (ix2 r k) = V m c main_arg0 (ix2 (row t r) k) := by
  unfold row
  blk_ext [iblk, (idx t).1]

theorem iblk1 (c : Dev nD) (t : Fin cfg0.N) (n : Fin 1536) (k : Fin 1024) : iblk m c 1 t (ix2 n k) = V m c main_arg1 (ix2 n k) := by
  blk_ext [iblk, (idx t).2.1]

theorem pay_at (c : Dev nD) (t : Fin cfg0.N) (r : Fin 1024) (n : Fin 1536) :
    k0_pay1 (iblk m c 0 t) (iblk m c 1 t) (ix2 r n) = prod (V m c main_arg0) (V m c main_arg1) (ix2 (row t r) n) := by
  rw [pay_apply]
  exact Finset.sum_congr rfl fun k _ => by rw [iblk0, iblk1]; rfl

/-- The kernel's result. -/
theorem arr2 (c : Dev nD) : (dats m 0 c).arrAt 2 cfg0.N = prod (V m c main_arg0) (V m c main_arg1) := by
  refine (dats m 0 c).arrAt_eq_of_covers 2 _ (by decide +kernel) fun t hf y => ?_
  blk_simp
  rw [after0_2]
  frame_out
  have e : ((View.whole main_v0).slice (win0_2.rect t)).emb y = (ix2 (n0 := 4096) (n1 := 1536) (row t (y 0)) (y 1) : S4096x1536.Idx) := by
    unfold row
    blk_ext [(idx t).2.2]
  have e' : y = (ix2 (n0 := 1024) (n1 := 1536) (y 0) (y 1)) := by blk_ext
  rw [e]
  refine (congrArg _ e').trans ?_
  exact (pay_at m c t (y 0) (y 1))

/-- Over the extended reals the kernel's projection is the reference's. -/
theorem algebraic : Cert.algebraic_Kernel16Ideal_Reference16Ideal := by
  intro m ρ m' ρ' _ hagree
  refine ⟨fun c => prod (V m c main_arg0) (V m c main_arg1), (θ_run _ _ _).mono (fun r h c => ?_) (Cert.Kernel16Ideal.Value.run_blocks m ρ), (θ_run _ _ _).mono (fun r h c => ?_) (Cert.Reference16Ideal.Value.run m' ρ')⟩
  · exact ⟨(h c).1.trans (arr2 m c), (h c).2⟩
  · refine ⟨(h c).1.trans ?_, (h c).2⟩
    rw [(hagree c).1, (hagree c).2]
    beta_reduce
    rw [V_main_arg0, V_main_arg1]
    funext j
    exact (congrArg _ (eq_ix2 j)).trans (ref_apply _ _ (j 0) (j 1))

end Odd

/-! ## The gradient of the attention's output -/

namespace Mix

open Cert.Kernel12Ideal Cert.Kernel12Ideal.Gen

/-- The attention's rows of the output projection's weight. -/
def lower (B : S1024x1024.Idx → EReal) : S512x1024.Idx → EReal := fun j => B (ix2 ⟨512 + (j 0).val, by have : (j 0).val < 512 := (j 0).isLt; omega⟩ (j 1))

/-- What a grid point stores. -/
theorem pay_apply (x : Vec Ideal S1024x1024 .bf16) (w : Vec Ideal S512x1024 .bf16) (r : Fin 1024) (n : Fin 512) :
    k0_pay1 x w (ix2 r n) = ∑ k : Fin 1024, x (ix2 r k) * w (ix2 n k) := by
  pointwise [k0_pay1, dot_S1024x1024_S512x1024_S1024x512_1_1_0_0_n_n]

theorem lower_apply (W : FVec Ideal S1024x1024 .bf16) (n : Fin 512) (k : Fin 1024) :
    (extractStridedSlice S512x1024 ![512, 0] W slices_S1024x1024_S512x1024_512_0 : FVec Ideal S512x1024 .bf16) (ix2 n k) = lower W (ix2 n k) := by
  pointwise
  unfold lower
  blk_ext

/-- The reference's product. -/
theorem ref_apply (G : FVec Ideal S4096x1024 .bf16) (W : FVec Ideal S1024x1024 .bf16) (t : Fin 4096) (n : Fin 512) :
    (Host.dotGeneral Cert.Reference12Ideal.dot_S4096x1024_S512x1024_S4096x512_1_1_0_0_n_n none (extf .f32 G Cert.Reference12Ideal.Gen.bitsLt_bf16_f32)
      (extf .f32 (extractStridedSlice S512x1024 ![512, 0] W slices_S1024x1024_S512x1024_512_0) Cert.Reference12Ideal.Gen.bitsLt_bf16_f32) : FVec Ideal S4096x512 .f32) (ix2 t n)
      = prod G (lower W) (ix2 t n) := by
  refine Eq.trans ?_ (Finset.sum_congr rfl fun k _ => congrArg (fun x : EReal => G (ix2 t k) * x) (lower_apply W n k))
  pointwise [Cert.Reference12Ideal.dot_S4096x1024_S512x1024_S4096x512_1_1_0_0_n_n]

variable (m : (ℓ : Loc nD τ sig) → Buf (Elt Ideal) ℓ)

/-- The blocks' indices at each grid point. -/
theorem idx : ∀ t, win0_0.index t = ![t.val, 0] ∧ win0_1.index t = ![0, 0] ∧ win0_2.index t = ![t.val, 0] := by
  decide +kernel

/-- The row of the whole array at which a grid point's row stands. -/
def row (t : Fin cfg0.N) (r : Fin 1024) : Fin 4096 := ⟨1024 * t.val + r.val, by have : t.val < 4 := t.isLt; omega⟩

/-- The rows of the weight as the region finds them. -/
theorem lower_host (c : Dev nD) : (V m c main_v0 : FVec Ideal S512x1024 .bf16) = extractStridedSlice S512x1024 ![512, 0] (m ((c : Thread nD τ).loc main_arg1)) slices_S1024x1024_S512x1024_512_0 := by
  unfold V
  after_reads_simp <;> rfl

theorem iblk0 (c : Dev nD) (t : Fin cfg0.N) (r : Fin 1024) (k : Fin 1024) : iblk m c 0 t (ix2 r k) = V m c main_arg0 (ix2 (row t r) k) := by
  unfold row
  blk_ext [iblk, (idx t).1]

theorem iblk1 (c : Dev nD) (t : Fin cfg0.N) (n : Fin 512) (k : Fin 1024) : iblk m c 1 t (ix2 n k) = lower (m ((c : Thread nD τ).loc main_arg1)) (ix2 n k) := by
  have e : iblk m c 1 t (ix2 n k) = V m c main_v0 (ix2 n k) := by blk_ext [iblk, (idx t).2.1]
  exact e.trans ((congrFun (lower_host m c) _).trans (lower_apply _ n k))

theorem pay_at (c : Dev nD) (t : Fin cfg0.N) (r : Fin 1024) (n : Fin 512) :
    k0_pay1 (iblk m c 0 t) (iblk m c 1 t) (ix2 r n) = prod (V m c main_arg0) (lower (m ((c : Thread nD τ).loc main_arg1))) (ix2 (row t r) n) := by
  rw [pay_apply]
  exact Finset.sum_congr rfl fun k _ => by rw [iblk0, iblk1]; rfl

/-- The kernel's result. -/
theorem arr2 (c : Dev nD) : (dats m 0 c).arrAt 2 cfg0.N = prod (V m c main_arg0) (lower (m ((c : Thread nD τ).loc main_arg1))) := by
  refine (dats m 0 c).arrAt_eq_of_covers 2 _ (by decide +kernel) fun t hf y => ?_
  blk_simp
  rw [after0_2]
  frame_out
  have e : ((View.whole main_v1).slice (win0_2.rect t)).emb y = (ix2 (n0 := 4096) (n1 := 512) (row t (y 0)) (y 1) : S4096x512.Idx) := by
    unfold row
    blk_ext [(idx t).2.2]
  have e' : y = (ix2 (n0 := 1024) (n1 := 512) (y 0) (y 1)) := by blk_ext
  rw [e]
  refine (congrArg _ e').trans ?_
  exact (pay_at m c t (y 0) (y 1))

/-- Over the extended reals the kernel's gradient of the attention's output is the reference's. -/
theorem algebraic : Cert.algebraic_Kernel12Ideal_Reference12Ideal := by
  intro m ρ m' ρ' _ hagree
  refine ⟨fun c => prod (V m c main_arg0) (lower (m ((c : Thread nD τ).loc main_arg1))), (θ_run _ _ _).mono (fun r h c => ?_) (Cert.Kernel12Ideal.Value.run_blocks m ρ), (θ_run _ _ _).mono (fun r h c => ?_) (Cert.Reference12Ideal.Value.run m' ρ')⟩
  · exact ⟨(h c).1.trans (arr2 m c), (h c).2⟩
  · refine ⟨(h c).1.trans ?_, (h c).2⟩
    rw [(hagree c).1, (hagree c).2]
    beta_reduce
    rw [V_main_arg0]
    funext j
    exact (congrArg _ (eq_ix2 j)).trans (ref_apply _ _ (j 0) (j 1))

end Mix

/-! ## The even layer's input projection -/

namespace Even

open Cert.Kernel17Ideal Cert.Kernel17Ideal.Gen

/-- The weight with rows of zeros after it. -/
def padded (B : S2056x1024.Idx → EReal) : S2176x1024.Idx → EReal := fun j => if h : (j 0).val < 2056 then B (ix2 ⟨(j 0).val, h⟩ (j 1)) else 0

/-- The integer zero as a float. -/
theorem zero_word (φ : FTy) : (FloatOps.sitofp φ 0#32 : Ideal φ) = (0 : EReal) := by
  show (((0#32 : BitVec 32).toInt : ℝ) : EReal) = 0
  simp

/-- What a grid point stores. -/
theorem pay_apply (x : Vec Ideal S512x1024 .bf16) (w : Vec Ideal S2176x1024 .bf16) (r : Fin 512) (n : Fin 2176) :
    k0_pay1 x w (ix2 r n) = ∑ k : Fin 1024, x (ix2 r k) * w (ix2 n k) := by
  pointwise [k0_pay1, dot_S512x1024_S2176x1024_S512x2176_1_1_0_0_n_n]

theorem padded_apply (W : FVec Ideal S2056x1024 .bf16) (n : Fin 2176) (k : Fin 1024) :
    (pad S2176x1024 ![0, 0] ![120, 0] ![0, 0] W (sitofp .bf16 (constantI S_ 32 0#32)) pads_S2056x1024_S2176x1024_01200_000 h_S_ : FVec Ideal S2176x1024 .bf16) (ix2 n k) = padded W (ix2 n k) := by
  unfold padded
  pointwise []
  rw [zero_word]

/-- The reference's product, with columns of zeros after it. -/
theorem ref_apply (H : FVec Ideal S4096x1024 .bf16) (W : FVec Ideal S2056x1024 .bf16) (t : Fin 4096) (n : Fin 2176) :
    (pad S4096x2176 ![0, 0] ![0, 120] ![0, 0] (Host.dotGeneral Cert.Reference17Ideal.dot_S4096x1024_S1024x2056_S4096x2056_1_0_0_1_n_n none (extf .f32 H Cert.Reference17Ideal.Gen.bitsLt_bf16_f32) (extf .f32 (transpose Cert.Reference17Ideal.S1024x2056 [1, 0] W Cert.Reference17Ideal.Gen.transposes_S2056x1024_S1024x2056_1_0) Cert.Reference17Ideal.Gen.bitsLt_bf16_f32)) (sitofp .f32 (constantI S_ 32 0#32)) Cert.Reference17Ideal.Gen.pads_S4096x2056_S4096x2176_000_01200 Cert.Reference17Ideal.Gen.h_S_ : FVec Ideal S4096x2176 .f32) (ix2 t n)
      = prod H (padded W) (ix2 t n) := by
  unfold prod padded
  pointwise [Cert.Reference17Ideal.dot_S4096x1024_S1024x2056_S4096x2056_1_0_0_1_n_n]
  rw [zero_word]
  by_cases h : n.val < 2056
  · simp only [dif_pos h]
  · simp only [dif_neg h, mul_zero, Finset.sum_const_zero]

variable (m : (ℓ : Loc nD τ sig) → Buf (Elt Ideal) ℓ)

/-- The blocks' indices at each grid point. -/
theorem idx : ∀ t, win0_0.index t = ![t.val, 0] ∧ win0_1.index t = ![0, 0] ∧ win0_2.index t = ![t.val, 0] := by
  decide +kernel

/-- The row of the whole array at which a grid point's row stands. -/
def row (t : Fin cfg0.N) (r : Fin 512) : Fin 4096 := ⟨512 * t.val + r.val, by have : t.val < 8 := t.isLt; omega⟩

/-- The padded weight as the region finds it. -/
theorem padded_host (c : Dev nD) : (V m c main_v0 : FVec Ideal S2176x1024 .bf16) = pad S2176x1024 ![0, 0] ![120, 0] ![0, 0] (show FVec Ideal S2056x1024 .bf16 from m ((c : Thread nD τ).loc main_arg1)) (sitofp .bf16 (constantI S_ 32 0#32)) pads_S2056x1024_S2176x1024_01200_000 h_S_ := by
  unfold V
  after_reads_simp <;> rfl

theorem iblk0 (c : Dev nD) (t : Fin cfg0.N) (r : Fin 512) (k : Fin 1024) : iblk m c 0 t (ix2 r k) = V m c main_arg0 (ix2 (row t r) k) := by
  unfold row
  blk_ext [iblk, (idx t).1]

theorem iblk1 (c : Dev nD) (t : Fin cfg0.N) (n : Fin 2176) (k : Fin 1024) : iblk m c 1 t (ix2 n k) = padded (m ((c : Thread nD τ).loc main_arg1)) (ix2 n k) := by
  have e : iblk m c 1 t (ix2 n k) = V m c main_v0 (ix2 n k) := by blk_ext [iblk, (idx t).2.1]
  exact e.trans ((congrFun (padded_host m c) _).trans (padded_apply _ n k))

theorem pay_at (c : Dev nD) (t : Fin cfg0.N) (r : Fin 512) (n : Fin 2176) :
    k0_pay1 (iblk m c 0 t) (iblk m c 1 t) (ix2 r n) = prod (V m c main_arg0) (padded (m ((c : Thread nD τ).loc main_arg1))) (ix2 (row t r) n) := by
  rw [pay_apply]
  exact Finset.sum_congr rfl fun k _ => by rw [iblk0, iblk1]; rfl

/-- The kernel's result. -/
theorem arr2 (c : Dev nD) : (dats m 0 c).arrAt 2 cfg0.N = prod (V m c main_arg0) (padded (m ((c : Thread nD τ).loc main_arg1))) := by
  refine (dats m 0 c).arrAt_eq_of_covers 2 _ (by decide +kernel) fun t hf y => ?_
  blk_simp
  rw [after0_2]
  frame_out
  have e : ((View.whole main_v1).slice (win0_2.rect t)).emb y = (ix2 (n0 := 4096) (n1 := 2176) (row t (y 0)) (y 1) : S4096x2176.Idx) := by
    unfold row
    blk_ext [(idx t).2.2]
  have e' : y = (ix2 (n0 := 512) (n1 := 2176) (y 0) (y 1)) := by blk_ext
  rw [e]
  refine (congrArg _ e').trans ?_
  exact (pay_at m c t (y 0) (y 1))

/-- Over the extended reals the kernel's padded projection is the reference's. -/
theorem algebraic : Cert.algebraic_Kernel17Ideal_Reference17Ideal := by
  intro m ρ m' ρ' _ hagree
  refine ⟨fun c => prod (V m c main_arg0) (padded (m ((c : Thread nD τ).loc main_arg1))), (θ_run _ _ _).mono (fun r h c => ?_) (Cert.Kernel17Ideal.Value.run_blocks m ρ), (θ_run _ _ _).mono (fun r h c => ?_) (Cert.Reference17Ideal.Value.run m' ρ')⟩
  · exact ⟨(h c).1.trans (arr2 m c), (h c).2⟩
  · refine ⟨(h c).1.trans ?_, (h c).2⟩
    rw [(hagree c).1, (hagree c).2]
    beta_reduce
    rw [V_main_arg0]
    funext j
    exact (congrArg _ (eq_ix2 j)).trans (ref_apply _ _ (j 0) (j 1))

end Even

end Cert.Projections

end
-- ==== Proof.LossRef.lean ====
/- The loss at the end of the step: the perceptron's second product, the residual step after its norm, the error against
   the target and the gradients of half the mean square error — as plain real functions of the arrays, and as what the
   reference computes over arguments that hold real numbers. -/
module

public import proofs.«01_k».proof.Proof.MlpHRef
public import proofs.«01_k».proof.Proof.Gen.Reference15Ideal
public import proofs.«01_k».proof.Proof.Gen.Reference15Ideal.Run

@[expose] public section

set_option maxRecDepth 16384

noncomputable section

namespace Cert.Loss

open Idealize.ShloMosaic Idealize.ShloMosaic.TcCoe Idealize.SL.Sem Idealize.ShloMosaic.StableHlo Cert.Sgu Cert.MlpH
open Cert.Reference15Ideal Cert.Reference15Ideal.Gen Cert.Reference15Ideal.Value

/-- The arguments as real functions: the hidden layer, the second weight, the stream, the target and the norm's scale. -/
structure In where
  a : ℕ → ℕ → ℝ
  w : ℕ → ℕ → ℝ
  x : ℕ → ℕ → ℝ
  t : ℕ → ℕ → ℝ
  g : ℕ → ℝ

namespace In

variable (I : In)

/-- The perceptron's second product. -/
def y (r l : ℕ) : ℝ := ∑ n : Fin 4096, I.a r n * I.w n l

/-- The error of the stream after the step. -/
def err (r l : ℕ) : ℝ := I.x r l + I.y r l * rrms (I.y r) * I.g l - I.t r l

/-- The loss's gradient at the stream. -/
def gx (r l : ℕ) : ℝ := I.err r l * (1 / 1024)

/-- The loss's gradient at the product. -/
def gy (r l : ℕ) : ℝ := back (fun k => I.gx r k * I.g k) (I.y r) l

/-- The loss's gradient at the norm's scale. -/
def gg (l : ℕ) : ℝ := ∑ r : Fin 4096, I.gx r l * (I.y r l * rrms (I.y r))

/-- The summed squares of the error. -/
def sq : ℝ := ∑ r : Fin 4096, ∑ l : Fin 1024, I.err r l * I.err r l

end In

/-! ## The programs' constants -/

theorem ofBits_inv : Ideal.ofBits .f32 0x3A800000#32 = ((1 / 1024 : ℝ) : EReal) := by
  simp [Ideal.ofBits, Ideal.ieee, -EReal.coe_mul, -EReal.coe_pow]; norm_num

theorem ofBits_half : Ideal.ofBits .f32 0x3F000000#32 = ((1 / 2 : ℝ) : EReal) := by
  simp [Ideal.ofBits, Ideal.ieee, -EReal.coe_mul, -EReal.coe_pow]; norm_num

theorem ofBits_two : Ideal.ofBits .f32 0x40000000#32 = ((2 : ℝ) : EReal) := by
  simp [Ideal.ofBits, Ideal.ieee, -EReal.coe_mul, -EReal.coe_pow]; norm_num

/-! ## The reference's stages -/

/-- The product. -/
def yA (a : FVec Ideal S4096x4096 .bf16) (w : FVec Ideal S4096x1024 .bf16) : FVec Ideal S4096x1024 .f32 :=
  Host.dotGeneral (φ₁ := .f32) (φ₂ := .f32) dot_S4096x4096_S4096x1024_S4096x1024_1_0_0_1_n_n none (extf .f32 a bitsLt_bf16_f32) (extf .f32 w bitsLt_bf16_f32)

/-- The error. -/
def errA (x y t : FVec Ideal S4096x1024 .f32) (g : FVec Ideal S1x1024 .f32) : FVec Ideal S4096x1024 .f32 := subf (midA x y g) t

/-- The gradient at the stream. -/
def gxA (e : FVec Ideal S4096x1024 .f32) : FVec Ideal S4096x1024 .f32 :=
  mulf (broadcastInDim S4096x1024 ![0] bcast_S4096_S4096x1024_0 (Host.divf (broadcastInDim S4096 ![] bcast_S_S4096 (mulf (constant S_ .f32 0x3F000000#32) (constant S_ .f32 0x3F800000#32))) (broadcastInDim S4096 ![] bcast_S_S4096 (constant S_ .f32 0x44800000#32)))) (mulf (broadcastInDim S4096x1024 ![] bcast_S_S4096x1024 (constant S_ .f32 0x40000000#32)) e)

/-- The summed squares of the error, in every lane of a row. -/
def sqA (e : FVec Ideal S4096x1024 .f32) : FVec Ideal S1x1024 .f32 :=
  broadcastInDim S1x1024 ![] bcast_S_S1x1024 (Host.reduceAdd (mulf e e) (constant S_ .f32 0x00000000#32) reducesTo_S4096x1024_S_d0_1 h_S_)

section stages

variable (I : In) {a : FVec Ideal S4096x4096 .bf16} {w : FVec Ideal S4096x1024 .bf16} {x t e y : FVec Ideal S4096x1024 .f32} {g : FVec Ideal S1x1024 .f32}

theorem yA_apply (ha : ∀ (r n : Fin 4096), a (ix2 r n) = ((I.a r.val n.val : ℝ) : EReal)) (hw : ∀ (n : Fin 4096) (l : Fin 1024), w (ix2 n l) = ((I.w n.val l.val : ℝ) : EReal)) :
    Is (yA a w) I.y := by
  intro r l
  pointwise [yA, dot_S4096x4096_S4096x1024_S4096x1024_1_0_0_1_n_n]
  simp only [ha, hw, ← EReal.coe_mul, ← Reals.coe_sum]
  rfl

theorem errA_apply (hx : Is x I.x) (hy : Is y I.y) (ht : Is t I.t) (hg : IsRow g I.g) : Is (errA x y t g) I.err := by
  intro r l
  pointwise [errA, midA]
  rw [hx, scaleA_apply (normA_apply hy) hg, ht, ← EReal.coe_add, ← EReal.coe_sub]
  rfl

theorem gxA_apply (he : Is e I.err) : Is (gxA e) I.gx := by
  intro r l
  pointwise [gxA]
  rw [he, ofBits_half, ofBits_two, ofBits_1024, div_1024, ← EReal.coe_mul, ← EReal.coe_mul]
  refine congrArg (fun x : ℝ => (x : EReal)) ?_
  unfold In.gx
  ring

theorem gyA_apply (hd : Is e I.gx) (hy : Is y I.y) (hg : IsRow g I.g) : Is (gyA e y g) I.gy := by
  intro r l
  have d := scaleA_apply hd hg
  pointwise [gyA]
  rw [hy, straightA_apply hy d, halfA_apply hy d]
  simp only [← EReal.coe_mul, ← EReal.coe_add]
  refine congrArg (fun x : ℝ => (x : EReal)) ?_
  unfold In.gy
  rw [← back_eq]

theorem sqA_apply (he : Is e I.err) : IsRow (sqA e) (fun _ => I.sq) := by
  intro z l
  pointwise [sqA]
  simp only [he _ _, ← EReal.coe_mul, ← Reals.coe_sum]
  rfl

end stages

/-! ## The reference's results -/

variable (I : In) (m : (ℓ : Loc nD τ sig) → Buf (Elt Ideal) ℓ) (c : Dev nD)

/-- The reference's arguments hold real numbers. -/
structure Reads : Prop where
  h0 : ∀ (r n : Fin 4096), (m ((c.tc : Thread nD τ).loc main_arg0) : FVec Ideal S4096x4096 .bf16) (ix2 r n) = ((I.a r.val n.val : ℝ) : EReal)
  h1 : ∀ (n : Fin 4096) (l : Fin 1024), (m ((c.tc : Thread nD τ).loc main_arg1) : FVec Ideal S4096x1024 .bf16) (ix2 n l) = ((I.w n.val l.val : ℝ) : EReal)
  h2 : Is (m ((c.tc : Thread nD τ).loc main_arg2)) I.x
  h3 : Is (m ((c.tc : Thread nD τ).loc main_arg3)) I.t
  h4 : IsRow (m ((c.tc : Thread nD τ).loc main_arg4)) I.g

/-- The product of the arguments. -/
abbrev yR : FVec Ideal S4096x1024 .f32 := yA (m ((c.tc : Thread nD τ).loc main_arg0)) (m ((c.tc : Thread nD τ).loc main_arg1))

/-- The error, of the arguments. -/
abbrev errR : FVec Ideal S4096x1024 .f32 :=
  errA (m ((c.tc : Thread nD τ).loc main_arg2)) (yR m c) (m ((c.tc : Thread nD τ).loc main_arg3)) (m ((c.tc : Thread nD τ).loc main_arg4))

theorem res_gy : (res_main_v68 m c : FVec Ideal S4096x1024 .bf16) = gyA (gxA (errR m c)) (yR m c) (m ((c.tc : Thread nD τ).loc main_arg4)) := rfl

variable {I m c} (H : Reads I m c)
include H

theorem y_ref : Is (yR m c) I.y := yA_apply I H.h0 H.h1

theorem err_ref : Is (errR m c) I.err := errA_apply I H.h2 (y_ref H) H.h3 H.h4

theorem gx_ref : Is (gxA (errR m c)) I.gx := gxA_apply I (err_ref H)

theorem gy_ref : Is (res_main_v68 m c) I.gy := by
  rw [res_gy]
  exact gyA_apply I (gx_ref H) (y_ref H) H.h4

theorem gg_ref : IsRow (ggA (gxA (errR m c)) (yR m c)) I.gg := ggA_apply (y_ref H) (gx_ref H)

theorem sq_ref : IsRow (sqA (errR m c)) (fun _ => I.sq) := sqA_apply I (err_ref H)

end Cert.Loss

end
-- ==== Proof.LossKernel.lean ====
/-
  THE LOSS'S KERNEL: each grid point carries 512 rows of the product through the step and the error, so the two gradients
  over the tokens are tiled by the points' blocks; the gradient of the scale and the summed squares are sums over the
  points, in the array after the last one.
-/
module

public import proofs.«01_k».proof.Proof.LossRef
public import proofs.«01_k».proof.Proof.MlpHPay
public import proofs.«01_k».proof.Proof.SguKernel
public import proofs.«01_k».proof.Proof.Gen.Kernel15Ideal
public import proofs.«01_k».proof.Proof.Gen.Kernel15Ideal.Value
public import Idealize.ShloMosaic.Lib.Pipeline.ReadBack
public import Idealize.ShloMosaic.Lib.Pipeline.ValueKit

@[expose] public section

set_option maxRecDepth 16384

noncomputable section

namespace Cert.Loss.Kernel

open Idealize.ShloMosaic Idealize.ShloMosaic.TcCoe Idealize.SL.Sem Idealize.ShloMosaic.StableHlo Cert.Sgu Cert.MlpH
open Cert.MlpH.Kernel (Holds HoldsCol HoldsRow)
open Cert.Kernel15Ideal Cert.Kernel15Ideal.Gen Cert.Kernel15Ideal.Value

/-! ## One block of rows -/

section block

variable {I : In} {r0 : ℕ} {a : FVec Ideal S512x4096 .bf16} {w : FVec Ideal S4096x1024 .bf16} {x t : FVec Ideal S512x1024 .f32} {g : FVec Ideal S1x1024 .f32}
  (ha : ∀ (y : Fin 512) (n : Fin 4096), a (ix2 y n) = ((I.a (r0 + y.val) n.val : ℝ) : EReal))
  (hw : ∀ (n : Fin 4096) (l : Fin 1024), w (ix2 n l) = ((I.w n.val l.val : ℝ) : EReal))
  (hx : Holds r0 x I.x) (ht : Holds r0 t I.t) (hg : HoldsRow g I.g)

include ha hw in
theorem y_apply : Holds r0 (k0_pay6 (F := Ideal) a w) I.y := by
  intro y l
  pointwise [k0_pay6, dot_S512x4096_S4096x1024_S512x1024_1_0_0_1_n_n]
  simp only [ha _ _, hw _ _, ← EReal.coe_mul, ← Reals.coe_sum]
  rfl

include ha hw in
theorem r_apply : HoldsCol r0 (k0_pay7 (F := Ideal) a w) (fun r => rrms (I.y r)) := by
  intro y z
  pointwise [k0_pay7]
  simp only [y_apply ha hw _ _, ofBits_1024, ofBits_eps, ← EReal.coe_mul, ← Reals.coe_sum, div_1024, ← EReal.coe_add]
  exact rsqrt_pos (meanSq_pos _)

include ha hw hx ht hg in
theorem err_apply : Holds r0 (k0_pay8 (F := Ideal) a w x t g) I.err := by
  intro y l
  pointwise [k0_pay8]
  simp only [y_apply ha hw _ _, r_apply ha hw _ _, hx _ _, ht _ _, hg _ _, ← EReal.coe_mul, ← EReal.coe_add, ← EReal.coe_sub]
  rfl

include ha hw hx ht hg in
theorem gx_apply : Holds r0 (k0_pay9 (F := Ideal) a w x t g) I.gx := by
  intro y l
  pointwise [k0_pay9]
  rw [err_apply ha hw hx ht hg, ofBits_inv, ← EReal.coe_mul]
  rfl

include ha hw in
theorem n_apply : Holds r0 (k0_pay10 (F := Ideal) a w) (fun r l => I.y r l * rrms (I.y r)) := by
  intro y l
  pointwise [k0_pay10]
  rw [y_apply ha hw, r_apply ha hw, ← EReal.coe_mul]

include ha hw hx ht hg in
theorem gy_apply : Holds r0 (φ := .bf16) (k0_pay3 (F := Ideal) (k0_pay11 (F := Ideal) a w x t g)) I.gy := by
  intro y l
  pointwise [k0_pay3, k0_pay11]
  simp only [gx_apply ha hw hx ht hg _ _, n_apply ha hw _ _, r_apply ha hw _ _, hg _ _, ofBits_1024, ← EReal.coe_mul, ← Reals.coe_sum, div_1024, ← EReal.coe_sub]
  rfl

/-- What a block adds to the gradient of the scale. -/
def ggPart (I : In) (r0 l : ℕ) : ℝ := ∑ y : Fin 512, I.gx (r0 + y.val) l * (I.y (r0 + y.val) l * rrms (I.y (r0 + y.val)))

/-- What a block adds to the summed squares. -/
def sqPart (I : In) (r0 : ℕ) : ℝ := ∑ y : Fin 512, ∑ l : Fin 1024, I.err (r0 + y.val) l * I.err (r0 + y.val) l

include ha hw hx ht hg in
theorem gg_apply : HoldsRow (k0_pay2 (F := Ideal) (k0_pay9 (F := Ideal) a w x t g) (k0_pay10 (F := Ideal) a w)) (ggPart I r0) := by
  intro z l
  pointwise [k0_pay2]
  simp only [gx_apply ha hw hx ht hg _ _, n_apply ha hw _ _, ← EReal.coe_mul, ← Reals.coe_sum]
  rfl

include ha hw hx ht hg in
theorem sq_apply : HoldsRow (k0_pay1 (F := Ideal) (k0_pay12 (F := Ideal) a w x t g)) (fun _ => sqPart I r0) := by
  intro z l
  pointwise [k0_pay1, k0_pay12]
  simp only [err_apply ha hw hx ht hg _ _, ← EReal.coe_mul, ← Reals.coe_sum]
  rfl

include ha hw hx ht hg in
/-- A later block adds its part to what the earlier ones left. -/
theorem gg_next (old : FVec Ideal S1x1024 .f32) (z : Fin 1) (l : Fin 1024) :
    k0_pay4 (F := Ideal) (k0_pay9 (F := Ideal) a w x t g) (k0_pay10 (F := Ideal) a w) old (ix2 z l) = old (ix2 z l) + ((ggPart I r0 l.val : ℝ) : EReal) := by
  pointwise [k0_pay4]
  rw [gg_apply ha hw hx ht hg]

include ha hw hx ht hg in
theorem sq_next (old : FVec Ideal S1x1024 .f32) (z : Fin 1) (l : Fin 1024) :
    k0_pay5 (F := Ideal) (k0_pay12 (F := Ideal) a w x t g) old (ix2 z l) = old (ix2 z l) + ((sqPart I r0 : ℝ) : EReal) := by
  pointwise [k0_pay5]
  rw [sq_apply ha hw hx ht hg]

end block

/-! ## The grid points -/

variable (m : (ℓ : Loc nD τ sig) → Buf (Elt Ideal) ℓ) (I : In)

/-- The arguments hold real numbers. -/
structure Reads (c : Dev nD) : Prop where
  h0 : ∀ (r n : Fin 4096), V m c main_arg0 (ix2 r n) = ((I.a r.val n.val : ℝ) : EReal)
  h1 : ∀ (n : Fin 4096) (l : Fin 1024), V m c main_arg1 (ix2 n l) = ((I.w n.val l.val : ℝ) : EReal)
  h2 : ∀ (r : Fin 4096) (l : Fin 1024), V m c main_arg2 (ix2 r l) = ((I.x r.val l.val : ℝ) : EReal)
  h3 : ∀ (r : Fin 4096) (l : Fin 1024), V m c main_arg3 (ix2 r l) = ((I.t r.val l.val : ℝ) : EReal)
  h4 : ∀ (z : Fin 1) (l : Fin 1024), V m c main_arg4 (ix2 z l) = ((I.g l.val : ℝ) : EReal)

/-- The blocks' indices at each grid point. -/
theorem idx : ∀ t, win0_0.index t = ![t.val, 0] ∧ win0_1.index t = ![0, 0] ∧ win0_2.index t = ![t.val, 0] ∧ win0_3.index t = ![t.val, 0] ∧ win0_4.index t = ![0, 0]
    ∧ win0_5.index t = ![t.val, 0] ∧ win0_6.index t = ![t.val, 0] ∧ win0_7.index t = ![0, 0] ∧ win0_8.index t = ![0, 0] := by
  decide +kernel

theorem lt8 (t : Fin cfg0.N) : t.val < 8 := t.isLt

/-- The row of a block, in the whole array. -/
def row (t : Fin cfg0.N) (y : Fin 512) : Fin 4096 := ⟨512 * t.val + y.val, by have := lt8 t; omega⟩

variable {m I} {c : Dev nD} (H : Reads m I c) (t : Fin cfg0.N)
include H

theorem iblk0 (y : Fin 512) (n : Fin 4096) : iblk m c 0 t (ix2 y n) = ((I.a (512 * t.val + y.val) n.val : ℝ) : EReal) := by
  have e : iblk m c 0 t (ix2 y n) = V m c main_arg0 (ix2 (row t y) n) := by
    unfold row
    blk_ext [iblk, (idx t).1]
  rw [e, H.h0]; rfl

theorem iblk1 (n : Fin 4096) (l : Fin 1024) : iblk m c 1 t (ix2 n l) = ((I.w n.val l.val : ℝ) : EReal) := by
  have e : iblk m c 1 t (ix2 n l) = V m c main_arg1 (ix2 n l) := by blk_ext [iblk, (idx t).2.1]
  rw [e, H.h1]

theorem iblk2 : Holds (512 * t.val) (φ := .f32) (iblk m c 2 t) I.x := by
  intro y l
  have e : iblk m c 2 t (ix2 y l) = V m c main_arg2 (ix2 (row t y) l) := by
    unfold row
    blk_ext [iblk, (idx t).2.2.1]
  rw [e, H.h2]; rfl

theorem iblk3 : Holds (512 * t.val) (φ := .f32) (iblk m c 3 t) I.t := by
  intro y l
  have e : iblk m c 3 t (ix2 y l) = V m c main_arg3 (ix2 (row t y) l) := by
    unfold row
    blk_ext [iblk, (idx t).2.2.2.1]
  rw [e, H.h3]; rfl

theorem iblk4 : HoldsRow (iblk m c 4 t) I.g := by
  intro z l
  have e : iblk m c 4 t (ix2 z l) = V m c main_arg4 (ix2 z l) := by blk_ext [iblk, (idx t).2.2.2.2.1]
  rw [e, H.h4]

/-- What a point stores of the gradient at the stream. -/
theorem outs_gx (y : S512x1024.Idx) : (outsAt0 m c t.val t.isLt).1 y = ((I.gx (512 * t.val + (y 0).val) (y 1).val : ℝ) : EReal) := by
  have h8 := lt8 t
  rw [eq_ix2 y]
  by_cases h : t.val % 8 = 0
  · rw [outsAt0_A m c t h (by omega) h (by omega)]
    frame_out
    exact gx_apply (iblk0 H t) (iblk1 H t) (iblk2 H t) (iblk3 H t) (iblk4 H t) _ _
  · rw [outsAt0_B m c t h (by omega) h (by omega)]
    frame_out
    exact gx_apply (iblk0 H t) (iblk1 H t) (iblk2 H t) (iblk3 H t) (iblk4 H t) _ _

/-- What a point stores of the gradient at the product. -/
theorem outs_gy (y : S512x1024.Idx) : (outsAt0 m c t.val t.isLt).2.1 y = ((I.gy (512 * t.val + (y 0).val) (y 1).val : ℝ) : EReal) := by
  have h8 := lt8 t
  rw [eq_ix2 y]
  by_cases h : t.val % 8 = 0
  · rw [outsAt0_A m c t h (by omega) h (by omega)]
    frame_out
    exact gy_apply (iblk0 H t) (iblk1 H t) (iblk2 H t) (iblk3 H t) (iblk4 H t) _ _
  · rw [outsAt0_B m c t h (by omega) h (by omega)]
    frame_out
    exact gy_apply (iblk0 H t) (iblk1 H t) (iblk2 H t) (iblk3 H t) (iblk4 H t) _ _

theorem outs_gg_first (h : t.val % 8 = 0) (y : S1x1024.Idx) : (outsAt0 m c t.val t.isLt).2.2.1 y = ((ggPart I (512 * t.val) (y 1).val : ℝ) : EReal) := by
  have h8 := lt8 t
  rw [eq_ix2 y, outsAt0_A m c t h (by omega) h (by omega)]
  frame_out
  exact gg_apply (iblk0 H t) (iblk1 H t) (iblk2 H t) (iblk3 H t) (iblk4 H t) _ _

theorem outs_gg_next (h : ¬ t.val % 8 = 0) (y : S1x1024.Idx) :
    (outsAt0 m c t.val t.isLt).2.2.1 y = (outsAt0 m c (t.val - 1) (by omega)).2.2.1 y + ((ggPart I (512 * t.val) (y 1).val : ℝ) : EReal) := by
  rw [eq_ix2 y, outsAt0_B m c t h (by omega) h (by omega)]
  frame_out
  exact gg_next (iblk0 H t) (iblk1 H t) (iblk2 H t) (iblk3 H t) (iblk4 H t) _ _ _

theorem outs_sq_first (h : t.val % 8 = 0) (y : S1x1024.Idx) : (outsAt0 m c t.val t.isLt).2.2.2 y = ((sqPart I (512 * t.val) : ℝ) : EReal) := by
  have h8 := lt8 t
  rw [eq_ix2 y, outsAt0_A m c t h (by omega) h (by omega)]
  frame_out
  exact sq_apply (iblk0 H t) (iblk1 H t) (iblk2 H t) (iblk3 H t) (iblk4 H t) _ _

theorem outs_sq_next (h : ¬ t.val % 8 = 0) (y : S1x1024.Idx) :
    (outsAt0 m c t.val t.isLt).2.2.2 y = (outsAt0 m c (t.val - 1) (by omega)).2.2.2 y + ((sqPart I (512 * t.val) : ℝ) : EReal) := by
  rw [eq_ix2 y, outsAt0_B m c t h (by omega) h (by omega)]
  frame_out
  exact sq_next (iblk0 H t) (iblk1 H t) (iblk2 H t) (iblk3 H t) (iblk4 H t) _ _ _

/-! ## The result arrays -/

omit H in
theorem last7 : ∀ t : Fin cfg0.N, (cfg0.win 7).flush t = true → t.val = 7 := by decide +kernel

omit H in
theorem last8 : ∀ t : Fin cfg0.N, (cfg0.win 8).flush t = true → t.val = 7 := by decide +kernel

omit H in
theorem gg_total (I : In) (l : ℕ) : ∑ k ∈ Finset.range (7 + 1), ggPart I (512 * k) l = I.gg l :=
  Cert.Sgu.sum_rows fun r => I.gx r l * (I.y r l * rrms (I.y r))

omit H in
theorem sq_total (I : In) : ∑ k ∈ Finset.range (7 + 1), sqPart I (512 * k) = I.sq :=
  Cert.Sgu.sum_rows fun r => ∑ l : Fin 1024, I.err r l * I.err r l

omit t in
/-- The gradient at the stream. -/
theorem arr5 : (dats m 0 c).arrAt 5 cfg0.N = fun j : S4096x1024.Idx => ((I.gx (j 0).val (j 1).val : ℝ) : EReal) := by
  refine (dats m 0 c).arrAt_eq_of_covers 5 _ (by decide +kernel) fun t hf y => ?_
  blk_simp
  rw [after0_5]
  refine (outs_gx H t y).trans ?_
  rw [(idx t).2.2.2.2.2.1]
  exact congrArg₂ (fun a b => ((I.gx a b : ℝ) : EReal)) (by show _ = t.val * 512 + _; omega) (by show _ = 0 * 1024 + _; omega)

omit t in
/-- The gradient at the product. -/
theorem arr6 : (dats m 0 c).arrAt 6 cfg0.N = fun j : S4096x1024.Idx => ((I.gy (j 0).val (j 1).val : ℝ) : EReal) := by
  refine (dats m 0 c).arrAt_eq_of_covers 6 _ (by decide +kernel) fun t hf y => ?_
  blk_simp
  rw [after0_6]
  refine (outs_gy H t y).trans ?_
  rw [(idx t).2.2.2.2.2.2.1]
  exact congrArg₂ (fun a b => ((I.gy a b : ℝ) : EReal)) (by show _ = t.val * 512 + _; omega) (by show _ = 0 * 1024 + _; omega)

omit t in
/-- The gradient of the scale. -/
theorem arr7 : (dats m 0 c).arrAt 7 cfg0.N = fun j : S1x1024.Idx => ((I.gg (j 1).val : ℝ) : EReal) := by
  refine (dats m 0 c).arrAt_eq_of_covers 7 _ (by decide +kernel) fun t hf y => ?_
  blk_simp
  rw [after0_7]
  have h7 : t.val = 7 := last7 t hf
  refine (Cert.Sgu.acc_eq (fun n h => (outsAt0 m c n h).2.2.1 y) (fun k => ggPart I (512 * k) (y 1).val) (fun t h => outs_gg_first H t h y)
    (fun t h => outs_gg_next H t h y) t.val t.isLt).trans ?_
  rw [h7, (idx t).2.2.2.2.2.2.2.1]
  refine congrArg (fun a : ℝ => (a : EReal)) ((gg_total I _).trans ?_)
  exact congrArg (fun a => I.gg a) (by show _ = 0 * 1024 + _; omega)

omit t in
/-- The summed squares, in every lane. -/
theorem arr8 : (dats m 0 c).arrAt 8 cfg0.N = fun _ : S1x1024.Idx => ((I.sq : ℝ) : EReal) := by
  refine (dats m 0 c).arrAt_eq_of_covers 8 _ (by decide +kernel) fun t hf y => ?_
  blk_simp
  rw [after0_8]
  have h7 : t.val = 7 := last8 t hf
  refine (Cert.Sgu.acc_eq (fun n h => (outsAt0 m c n h).2.2.2 y) (fun k => sqPart I (512 * k)) (fun t h => outs_sq_first H t h y)
    (fun t h => outs_sq_next H t h y) t.val t.isLt).trans ?_
  rw [h7]
  exact congrArg (fun a : ℝ => (a : EReal)) (sq_total I)

end Cert.Loss.Kernel

end
-- ==== Proof.LossClaim.lean ====
/-
  THE CLAIM ON THE LOSS AND ITS GRADIENTS: over the extended reals the kernel's four results are the reference's, on
  arguments of real numbers.
-/
module

public import proofs.«01_k».proof.Defs
public import proofs.«01_k».proof.Proof.Gen.Pre_finite15
public import proofs.«01_k».proof.Proof.LossKernel
public import proofs.«01_k».proof.Proof.LossRef
public import proofs.«01_k».proof.Proof.MlpHClaim

@[expose] public section

set_option maxRecDepth 16384

noncomputable section

namespace Cert.Loss

open Idealize.ShloMosaic Idealize.ShloMosaic.TcCoe Idealize.SL.Sem Idealize.ShloMosaic.StableHlo Cert.Reals Cert.Sgu Cert.MlpH

/-- Arguments that meet the precondition are real numbers. -/
theorem real_of_pre {a0 : FVec Ideal Cert.Pre_finite15.S4096x4096 .bf16} {a1 : FVec Ideal Cert.Pre_finite15.S4096x1024 .bf16} {a2 a3 : FVec Ideal Cert.Pre_finite15.S4096x1024 .f32}
    {a4 : FVec Ideal Cert.Pre_finite15.S1x1024 .f32}
    (h0 : (Cert.Pre_finite15.fn a0 a1 a2 a3 a4).1 = fun _ => 1#1) (h1 : (Cert.Pre_finite15.fn a0 a1 a2 a3 a4).2.1 = fun _ => 1#1)
    (h2 : (Cert.Pre_finite15.fn a0 a1 a2 a3 a4).2.2.1 = fun _ => 1#1) (h3 : (Cert.Pre_finite15.fn a0 a1 a2 a3 a4).2.2.2.1 = fun _ => 1#1)
    (h4 : (Cert.Pre_finite15.fn a0 a1 a2 a3 a4).2.2.2.2 = fun _ => 1#1) :
    (∀ i, IsReal (a0 i)) ∧ (∀ i, IsReal (a1 i)) ∧ (∀ i, IsReal (a2 i)) ∧ (∀ i, IsReal (a3 i)) ∧ ∀ i, IsReal (a4 i) :=
  ⟨fun i => isReal_of_lt (congrFun h0 i), fun i => isReal_of_lt (congrFun h1 i), fun i => isReal_of_lt (congrFun h2 i), fun i => isReal_of_lt (congrFun h3 i),
    fun i => isReal_of_lt (congrFun h4 i)⟩

variable (m : (ℓ : Loc Cert.Kernel15Ideal.nD Cert.Kernel15Ideal.τ Cert.Kernel15Ideal.sig) → Buf (Elt Ideal) ℓ) (c : Dev Cert.Kernel15Ideal.nD)

/-- An argument of the kernel on a device. -/
abbrev arg (b : Ref Cert.Kernel15Ideal.sig .tc) : Buf (Elt Ideal) ((c.tc : Thread Cert.Kernel15Ideal.nD Cert.Kernel15Ideal.τ).loc b) :=
  m ((c.tc : Thread Cert.Kernel15Ideal.nD Cert.Kernel15Ideal.τ).loc b)

/-- The real numbers of five arrays. -/
def inOf (a0 : Cert.Kernel15Ideal.S4096x4096.Idx → EReal) (a1 a2 a3 : Cert.Kernel15Ideal.S4096x1024.Idx → EReal) (a4 : Cert.Kernel15Ideal.S1x1024.Idx → EReal) : In where
  a := fun r n => at2 a0 r n
  w := fun n l => at2 a1 n l
  x := fun r l => at2 a2 r l
  t := fun r l => at2 a3 r l
  g := fun l => at2 a4 0 l

/-- The real numbers of a device's arguments. -/
def inAt : In :=
  inOf (arg m c Cert.Kernel15Ideal.main_arg0) (arg m c Cert.Kernel15Ideal.main_arg1) (arg m c Cert.Kernel15Ideal.main_arg2) (arg m c Cert.Kernel15Ideal.main_arg3)
    (arg m c Cert.Kernel15Ideal.main_arg4)

/-- Both programs read the same real numbers. -/
theorem reads (m' : (ℓ : Loc Cert.Reference15Ideal.nD Cert.Reference15Ideal.τ Cert.Reference15Ideal.sig) → Buf (Elt Ideal) ℓ) (c' : Dev Cert.Reference15Ideal.nD)
    (r0 : ∀ i : Cert.Kernel15Ideal.S4096x4096.Idx, IsReal ((arg m c Cert.Kernel15Ideal.main_arg0 : Cert.Kernel15Ideal.S4096x4096.Idx → EReal) i))
    (r1 : ∀ i : Cert.Kernel15Ideal.S4096x1024.Idx, IsReal ((arg m c Cert.Kernel15Ideal.main_arg1 : Cert.Kernel15Ideal.S4096x1024.Idx → EReal) i))
    (r2 : ∀ i : Cert.Kernel15Ideal.S4096x1024.Idx, IsReal ((arg m c Cert.Kernel15Ideal.main_arg2 : Cert.Kernel15Ideal.S4096x1024.Idx → EReal) i))
    (r3 : ∀ i : Cert.Kernel15Ideal.S4096x1024.Idx, IsReal ((arg m c Cert.Kernel15Ideal.main_arg3 : Cert.Kernel15Ideal.S4096x1024.Idx → EReal) i))
    (r4 : ∀ i : Cert.Kernel15Ideal.S1x1024.Idx, IsReal ((arg m c Cert.Kernel15Ideal.main_arg4 : Cert.Kernel15Ideal.S1x1024.Idx → EReal) i))
    (h0 : m' ((c'.tc : Thread Cert.Reference15Ideal.nD Cert.Reference15Ideal.τ).loc Cert.Reference15Ideal.main_arg0) = arg m c Cert.Kernel15Ideal.main_arg0)
    (h1 : m' ((c'.tc : Thread Cert.Reference15Ideal.nD Cert.Reference15Ideal.τ).loc Cert.Reference15Ideal.main_arg1) = arg m c Cert.Kernel15Ideal.main_arg1)
    (h2 : m' ((c'.tc : Thread Cert.Reference15Ideal.nD Cert.Reference15Ideal.τ).loc Cert.Reference15Ideal.main_arg2) = arg m c Cert.Kernel15Ideal.main_arg2)
    (h3 : m' ((c'.tc : Thread Cert.Reference15Ideal.nD Cert.Reference15Ideal.τ).loc Cert.Reference15Ideal.main_arg3) = arg m c Cert.Kernel15Ideal.main_arg3)
    (h4 : m' ((c'.tc : Thread Cert.Reference15Ideal.nD Cert.Reference15Ideal.τ).loc Cert.Reference15Ideal.main_arg4) = arg m c Cert.Kernel15Ideal.main_arg4) :
    Kernel.Reads m (inAt m c) c ∧ Reads (inAt m c) m' c' :=
  ⟨{ h0 := fun r n => (congrFun (Cert.Kernel15Ideal.Gen.V_main_arg0 m c) _).trans (at2_eq r0 r n)
     h1 := fun n l => (congrFun (Cert.Kernel15Ideal.Gen.V_main_arg1 m c) _).trans (at2_eq r1 n l)
     h2 := fun r l => (congrFun (Cert.Kernel15Ideal.Gen.V_main_arg2 m c) _).trans (at2_eq r2 r l)
     h3 := fun r l => (congrFun (Cert.Kernel15Ideal.Gen.V_main_arg3 m c) _).trans (at2_eq r3 r l)
     h4 := fun z l => (congrFun (Cert.Kernel15Ideal.Gen.V_main_arg4 m c) _).trans (row_eq r4 z l) },
   { h0 := fun r n => (congrFun h0 _).trans (at2_eq r0 r n)
     h1 := fun n l => (congrFun h1 _).trans (at2_eq r1 n l)
     h2 := fun r l => (congrFun h2 _).trans (at2_eq r2 r l)
     h3 := fun r l => (congrFun h3 _).trans (at2_eq r3 r l)
     h4 := fun z l => (congrFun h4 _).trans (row_eq r4 z l) }⟩

theorem algebraic : Cert.algebraic_Kernel15Ideal_Reference15Ideal_pre_finite15 := by
  intro m ρ m' ρ' hpre hagree
  have H : ∀ c, Kernel.Reads m (inAt m c) c ∧ Reads (inAt m c) m' c := fun c => by
    obtain ⟨r0, r1, r2, r3, r4⟩ := real_of_pre (hpre c).1 (hpre c).2.1 (hpre c).2.2.1 (hpre c).2.2.2.1 (hpre c).2.2.2.2
    exact reads m c m' c r0 r1 r2 r3 r4 (hagree c).1 (hagree c).2.1 (hagree c).2.2.1 (hagree c).2.2.2.1 (hagree c).2.2.2.2
  refine ⟨fun c j => (((inAt m c).gx (j 0).val (j 1).val : ℝ) : EReal), fun c j => (((inAt m c).gy (j 0).val (j 1).val : ℝ) : EReal),
    fun c j => (((inAt m c).gg (j 1).val : ℝ) : EReal), fun c _ => (((inAt m c).sq : ℝ) : EReal),
    (θ_run _ _ _).mono (fun r h c => ?_) (Cert.Kernel15Ideal.Value.run_blocks m ρ), (θ_run _ _ _).mono (fun r h c => ?_) (Cert.Reference15Ideal.Value.run m' ρ')⟩
  · exact ⟨(h c).1.trans (Kernel.arr5 (H c).1), (h c).2.1.trans (Kernel.arr6 (H c).1), (h c).2.2.1.trans (Kernel.arr7 (H c).1), (h c).2.2.2.1.trans (Kernel.arr8 (H c).1),
      (h c).2.2.2.2⟩
  · exact ⟨(h c).1.trans (arr_eq (gx_ref (H c).2)), (h c).2.1.trans (arr_eq (gy_ref (H c).2)), (h c).2.2.1.trans (rowArr_eq (gg_ref (H c).2)),
      (h c).2.2.2.1.trans (rowArr_eq (sq_ref (H c).2)), (h c).2.2.2.2⟩

end Cert.Loss

end
-- ==== Proof.WeightSum.lean ====
/-
  SUMS OVER THE ROWS OF AN ARRAY, BLOCK BY BLOCK. The gradient of a weight is, at an index, the sum over the 4096 rows of
  the product of two columns. A kernel goes through the rows in four blocks of 1024 and adds each block's sum to what it
  keeps. Addition of extended reals is associative and commutative, so nothing is asked of the arguments.
-/
module

public import Idealize.ShloMosaic.Lib.Pointwise

@[expose] public section

noncomputable section

namespace Cert.WeightSum

/-- The product of two columns at a row. -/
def prod (a h : Fin 4096 → EReal) (r : ℕ) : EReal := if e : r < 4096 then a ⟨r, e⟩ * h ⟨r, e⟩ else 0

/-- The sum of the products over the `k`-th block of rows. -/
def part (a h : Fin 4096 → EReal) (k : ℕ) : EReal := ∑ r : Fin 1024, prod a h (1024 * k + r.val)

/-- The sum of the products over all rows. -/
def total (a h : Fin 4096 → EReal) : EReal := ∑ r : Fin 4096, a r * h r

/-- A block's sum, from the block's columns. -/
theorem part_of (a h : Fin 4096 → EReal) (k : ℕ) (hk : k < 4) (a' h' : Fin 1024 → EReal)
    (ha : ∀ r : Fin 1024, a' r = a ⟨1024 * k + r.val, by omega⟩) (hh : ∀ r : Fin 1024, h' r = h ⟨1024 * k + r.val, by omega⟩) :
    ∑ r : Fin 1024, a' r * h' r = part a h k :=
  Finset.sum_congr rfl fun r _ => by rw [ha, hh, prod, dif_pos (show 1024 * k + r.val < 4096 by omega)]

/-- The four blocks' sums are the sum. -/
theorem total_eq (a h : Fin 4096 → EReal) : ∑ k ∈ Finset.range (3 + 1), part a h k = total a h := by
  have key : ∀ n : ℕ, ∑ k ∈ Finset.range n, part a h k = ∑ r ∈ Finset.range (1024 * n), prod a h r := by
    intro n
    induction n with
    | zero => rfl
    | succ n ih =>
      rw [Finset.sum_range_succ, ih, Nat.mul_succ, Finset.sum_range_add, ← Fin.sum_univ_eq_sum_range (fun y => prod a h (1024 * n + y))]
      rfl
  rw [key 4]
  refine (Fin.sum_univ_eq_sum_range (fun r => prod a h r) 4096).symm.trans ?_
  exact Finset.sum_congr rfl fun r _ => by rw [prod, dif_pos r.isLt]

/-- A quantity that the first of four points sets and each later point adds to is, after a point, the sum over the points so far. -/
theorem acc_eq (f : (n : ℕ) → n < 4 → EReal) (C : ℕ → EReal)
    (h0 : f 0 (by omega) = C 0) (h1 : ∀ (n : ℕ) (h : n + 1 < 4), f (n + 1) h = f n (by omega) + C (n + 1)) :
    ∀ (n : ℕ) (h : n < 4), f n h = ∑ k ∈ Finset.range (n + 1), C k
  | 0, h => by
    rw [Finset.sum_range_one]
    exact h0
  | n + 1, h => by
    rw [Finset.sum_range_succ, ← acc_eq f C h0 h1 n (by omega)]
    exact h1 n h

end Cert.WeightSum

end
-- ==== Proof.WinOddW.lean ====
/-
  THE ODD LAYERS' INPUT WEIGHT, ITS GRADIENT. The three gradients at the pieces of the layer's input product stand side by
  side; the gradient of the weight is their transpose times the layer's input. The kernel goes through the rows in four
  blocks and keeps the sums in an array of its own, piece by piece, which the last point copies out.
-/
module

public import proofs.«01_k».proof.Defs
public import proofs.«01_k».proof.Proof.WeightSum
public import proofs.«01_k».proof.Proof.SguAcc
public import proofs.«01_k».proof.Proof.Gen.Kernel8Ideal
public import proofs.«01_k».proof.Proof.Gen.Kernel8Ideal.Value
public import proofs.«01_k».proof.Proof.Gen.Reference8Ideal
public import proofs.«01_k».proof.Proof.Gen.Reference8Ideal.Run
public import Idealize.ShloMosaic.Lib.Pointwise
public import Idealize.ShloMosaic.Lib.Pipeline.ReadBack
public import Idealize.ShloMosaic.Lib.Pipeline.ValueKit

@[expose] public section

set_option maxRecDepth 16384

noncomputable section

namespace Cert.WinOddW

open Cert.Kernel8Ideal Cert.Kernel8Ideal.Gen Idealize.ShloMosaic Idealize.ShloMosaic.TcCoe Idealize.SL.Sem Idealize.ShloMosaic.StableHlo Cert.WeightSum

/-- A column of the three pieces side by side. -/
def col (A B C : S4096x512.Idx → EReal) (j : Fin 1536) (r : Fin 4096) : EReal :=
  if h : j.val < 512 then A (ix2 r ⟨j.val, h⟩) else if h' : j.val - 512 < 512 then B (ix2 r ⟨j.val - 512, h'⟩) else C (ix2 r ⟨j.val - 512 - 512, by omega⟩)

/-- The gradient of the weight. -/
def grad (A B C : S4096x512.Idx → EReal) (H : S4096x1024.Idx → EReal) : S1536x1024.Idx → EReal :=
  fun j => total (col A B C (j 0)) fun r => H (ix2 r (j 1))

/-! ## The reference -/

theorem ref_apply (A B C : FVec Ideal S4096x512 .f32) (H : FVec Ideal S4096x1024 .bf16) (i : Fin 1536) (l : Fin 1024) :
    transpose S1536x1024 [1, 0] (transpose Cert.Reference8Ideal.S1024x1536 [1, 0] (Host.dotGeneral (φ₁ := .f32) (φ₂ := .f32) Cert.Reference8Ideal.dot_S4096x1536_S4096x1024_S1536x1024_0_0_1_1_n_n none
      (concatenate Cert.Reference8Ideal.S4096x1536 1 [⟨S4096x512, A⟩, ⟨S4096x512, B⟩, ⟨S4096x512, C⟩] Cert.Reference8Ideal.Gen.concatenates_S4096x512_S4096x512_S4096x512_S4096x1536_d1 : FVec Ideal Cert.Reference8Ideal.S4096x1536 .f32)
      (extf .f32 H Cert.Reference8Ideal.Gen.bitsLt_bf16_f32) : FVec Ideal S1536x1024 .f32) Cert.Reference8Ideal.Gen.transposes_S1536x1024_S1024x1536_1_0) Cert.Reference8Ideal.Gen.transposes_S1024x1536_S1536x1024_1_0 (ix2 i l)
      = grad A B C H (ix2 i l) := by
  unfold grad total col
  pointwise [Cert.Reference8Ideal.dot_S4096x1536_S4096x1024_S1536x1024_0_0_1_1_n_n]

/-! ## The kernel -/

theorem pay3_apply (v : Vec Ideal S512x1024 .f32) (a : Vec Ideal S1024x512 .f32) (h : Vec Ideal S1024x1024 .bf16) (i : Fin 512) (l : Fin 1024) :
    k0_pay3 v a h (ix2 i l) = v (ix2 i l) + ∑ r : Fin 1024, a (ix2 r i) * h (ix2 r l) := by
  pointwise [k0_pay3, dot_S1024x512_S1024x1024_S512x1024_0_0_1_1_n_n]

theorem pay2_zero (y : S1536x1024.Idx) : k0_pay2 (F := Ideal) y = 0 := by
  rw [eq_ix2 y]
  pointwise [k0_pay2]

variable (m : (ℓ : Loc nD τ sig) → Buf (Elt Ideal) ℓ) (c : Dev nD) (t : Fin cfg0.N)

/-- The blocks' indices at each grid point. -/
theorem idx : ∀ t, win0_0.index t = ![t.val, 0] ∧ win0_1.index t = ![t.val, 0] ∧ win0_2.index t = ![t.val, 0] ∧ win0_3.index t = ![t.val, 0] ∧ win0_4.index t = ![0, 0] := by
  decide +kernel

theorem lt4 : t.val < 4 := t.isLt

/-- The row of the whole array at which a grid point's row stands. -/
def row (r : Fin 1024) : Fin 4096 := ⟨1024 * t.val + r.val, by have := lt4 t; omega⟩

theorem iblk0 (r : Fin 1024) (i : Fin 512) : iblk m c 0 t (ix2 r i) = V m c main_arg0 (ix2 (row t r) i) := by
  unfold row
  blk_ext [iblk, (idx t).1]

theorem iblk1 (r : Fin 1024) (i : Fin 512) : iblk m c 1 t (ix2 r i) = V m c main_arg1 (ix2 (row t r) i) := by
  unfold row
  blk_ext [iblk, (idx t).2.1]

theorem iblk2 (r : Fin 1024) (i : Fin 512) : iblk m c 2 t (ix2 r i) = V m c main_arg2 (ix2 (row t r) i) := by
  unfold row
  blk_ext [iblk, (idx t).2.2.1]

theorem iblk3 (r : Fin 1024) (l : Fin 1024) : iblk m c 3 t (ix2 r l) = V m c main_arg3 (ix2 (row t r) l) := by
  unfold row
  blk_ext [iblk, (idx t).2.2.2.1]

/-- What a grid point adds at an index. -/
abbrev step (k : ℕ) (y : S1536x1024.Idx) : EReal :=
  part (col (V m c main_arg0) (V m c main_arg1) (V m c main_arg2) (y 0)) (fun r => V m c main_arg3 (ix2 r (y 1))) k

/-- A piece's step at an index of the piece that starts at row `o`. -/
theorem piece (o : ℕ) (v : Vec Ideal S512x1024 .f32) (a : Vec Ideal S1024x512 .f32) (x : S512x1024.Idx) (y : S1536x1024.Idx)
    (e0 : (y 0).val = o + (x 0).val) (e1 : (y 1).val = (x 1).val)
    (ha : ∀ (j : Fin 1536) (i : Fin 512) (r : Fin 1024), j.val = o + i.val →
      a (ix2 r i) = col (V m c main_arg0) (V m c main_arg1) (V m c main_arg2) j (row t r)) :
    k0_pay3 v a (iblk m c 3 t) x = v x + step m c t.val y := by
  have e1' : y 1 = x 1 := Fin.ext e1
  refine (congrArg _ (eq_ix2 x)).trans ((pay3_apply v a _ (x 0) (x 1)).trans ?_)
  refine congrArg₂ (· + ·) (congrArg _ (eq_ix2 x).symm) ?_
  refine part_of _ _ t.val (lt4 t) _ _ (fun r => ha (y 0) (x 0) r e0) fun r => ?_
  rw [e1']
  exact iblk3 m c t r (x 1)

theorem col0 (j : Fin 1536) (i : Fin 512) (r : Fin 1024) (e : j.val = 0 + i.val) :
    iblk m c 0 t (ix2 r i) = col (V m c main_arg0) (V m c main_arg1) (V m c main_arg2) j (row t r) := by
  rw [iblk0, col, dif_pos (by omega)]
  exact congrArg (fun i => V m c main_arg0 (ix2 (row t r) i)) (Fin.ext (by show i.val = j.val; omega))

theorem col1 (j : Fin 1536) (i : Fin 512) (r : Fin 1024) (e : j.val = 512 + i.val) :
    iblk m c 1 t (ix2 r i) = col (V m c main_arg0) (V m c main_arg1) (V m c main_arg2) j (row t r) := by
  rw [iblk1, col, dif_neg (by omega), dif_pos (by omega)]
  exact congrArg (fun i => V m c main_arg1 (ix2 (row t r) i)) (Fin.ext (by show i.val = j.val - 512; omega))

theorem col2 (j : Fin 1536) (i : Fin 512) (r : Fin 1024) (e : j.val = 1024 + i.val) :
    iblk m c 2 t (ix2 r i) = col (V m c main_arg0) (V m c main_arg1) (V m c main_arg2) j (row t r) := by
  rw [iblk2, col, dif_neg (by omega), dif_neg (by omega)]
  exact congrArg (fun i => V m c main_arg2 (ix2 (row t r) i)) (Fin.ext (by show i.val = j.val - 512 - 512; omega))

/-- The three pieces' rows cover the kept array. -/
theorem cover {Val : EltTy → Type} {e : EltTy} [∀ e, Nonempty (Val e)] (y : S1536x1024.Idx) (w0 w1 w2 : S512x1024.Idx → Val e) :
    ∃ p ∈ ([⟨Rect.unit ![1024, 0] ![512, 1024] inb_S1536x1024_S512x1024_1024_0, w2⟩, ⟨Rect.unit ![512, 0] ![512, 1024] inb_S1536x1024_S512x1024_512_0, w1⟩,
        ⟨Rect.unit ![0, 0] ![512, 1024] inb_S1536x1024_S512x1024_0_0, w0⟩] : List (View.Piece Val S1536x1024 e)), y ∈ p.1.set :=
  View.cover_of_tiledL (s := S1536x1024) _ ![512, 1024] (by sl_kernel_rfl) y

/-- The kept array after the first point. -/
theorem kept_first (h : t.val % 4 = 0) (y : S1536x1024.Idx) : (outsAt0 m c t.val t.isLt).2 y = step m c t.val y := by
  rw [outsAt0_A m c t h (by omega)]
  frame_open
  simp (disch := decide) only [↓ View.readCov_skip, ↓ View.readCov_cons_toLoadRect, ↓ View.readCov_fill]
  frame_out
  refine (Cert.Sgu.canon_append_covered [_] [_, _, _] y (cover y _ _ _)).trans ?_
  canon_tiles x h
  case piece0 => exact (piece m c t 1024 _ _ x _ h0 h1 (col2 m c t)).trans ((congrArg (· + _) (pay2_zero _)).trans (zero_add _))
  case piece1 => exact (piece m c t 512 _ _ x _ h0 h1 (col1 m c t)).trans ((congrArg (· + _) (pay2_zero _)).trans (zero_add _))
  case piece2 => exact (piece m c t 0 _ _ x _ (h0.trans (Nat.zero_add _).symm) h1 (col0 m c t)).trans ((congrArg (· + _) (pay2_zero _)).trans (zero_add _))

/-- The kept array after a later point. -/
theorem kept_next (h : ¬ t.val % 4 = 0) (y : S1536x1024.Idx) :
    (outsAt0 m c t.val t.isLt).2 y = (outsAt0 m c (t.val - 1) (by have := lt4 t; show _ < 4; omega)).2 y + step m c t.val y := by
  by_cases h' : t.val % 4 = 3
  on_goal 1 => rw [outsAt0_C m c t h h']
  on_goal 2 => rw [outsAt0_B m c t h h']
  all_goals
    frame_open
    simp (disch := decide) only [↓ View.readCov_skip, ↓ View.readCov_cons_toLoadRect, ↓ View.readCov_fill]
    frame_out
    simp only [read_unread_whole]
    canon_tiles x h
    case piece0 => exact (piece m c t 1024 _ _ x _ h0 h1 (col2 m c t)).trans (congrArg (· + _) (View.ld_unit_apply_of _ _ _ _ _ y fun a => match a with | 0 => h0 | 1 => h1.trans (Nat.zero_add _).symm))
    case piece1 => exact (piece m c t 512 _ _ x _ h0 h1 (col1 m c t)).trans (congrArg (· + _) (View.ld_unit_apply_of _ _ _ _ _ y fun a => match a with | 0 => h0 | 1 => h1.trans (Nat.zero_add _).symm))
    case piece2 => exact (piece m c t 0 _ _ x _ (h0.trans (Nat.zero_add _).symm) h1 (col0 m c t)).trans (congrArg (· + _) (View.ld_unit_apply_of _ _ _ _ _ y fun a => match a with | 0 => h0.trans (Nat.zero_add _).symm | 1 => h1.trans (Nat.zero_add _).symm))

/-- The kept array after a point is the sum over the points so far. -/
theorem kept (n : ℕ) (h : n < 4) (y : S1536x1024.Idx) : (outsAt0 m c n h).2 y = ∑ k ∈ Finset.range (n + 1), step m c k y :=
  acc_eq (fun n h => (outsAt0 m c n h).2 y) (fun k => step m c k y) (kept_first m c ⟨0, by decide⟩ rfl y)
    (fun n h => kept_next m c ⟨n + 1, h⟩ (by show ¬ (n + 1) % 4 = 0; omega) y) n h

/-- The whole array's rectangle leaves an index as it is. -/
theorem whole_idx (y : S1536x1024.Idx) : (Rect.unit ![0, 0] ![1536, 1024] inb_S1536x1024_S1536x1024_0_0).idx y = y := by
  show (Rect.unit ![0, 0] ![1536, 1024] inb_S1536x1024_S1536x1024_0_0).emb y = y
  blk_ext

/-- The output after the last point is the kept array. -/
theorem out_last (h : t.val % 4 = 3) (y : S1536x1024.Idx) : (outsAt0 m c t.val t.isLt).1 y = (outsAt0 m c t.val t.isLt).2 y := by
  rw [outsAt0_C m c t (by omega) h]
  frame_open
  simp (disch := decide) only [↓ View.readCov_skip, ↓ View.readCov_cons_toLoadRect, ↓ View.readCov_fill]
  frame_out
  rw [View.readCov_eq_canon']
  beta_reduce
  rw [whole_idx]

theorem last : ∀ t : Fin cfg0.N, (cfg0.win 4).flush t = true → t.val = 3 := by decide +kernel

/-- The gradient of the weight. -/
theorem arr4 : (dats m 0 c).arrAt 4 cfg0.N = grad (V m c main_arg0) (V m c main_arg1) (V m c main_arg2) (V m c main_arg3) := by
  refine (dats m 0 c).arrAt_eq_of_covers 4 _ (by decide +kernel) fun t hf y => ?_
  blk_simp
  rw [after0_4]
  have h3 : t.val = 3 := last t hf
  have e : ((View.whole main_v0).slice (win0_4.rect t)).emb y = (y : S1536x1024.Idx) := by
    blk_ext [(idx t).2.2.2.2]
  rw [e]
  refine (out_last m c t (by omega) y).trans ((kept m c t.val (lt4 t) y).trans ?_)
  rw [h3]
  exact total_eq _ _

/-- Over the extended reals the kernel's result is the reference's. -/
theorem algebraic : Cert.algebraic_Kernel8Ideal_Reference8Ideal := by
  intro m ρ m' ρ' _ hagree
  refine ⟨fun c => grad (V m c main_arg0) (V m c main_arg1) (V m c main_arg2) (V m c main_arg3),
    (θ_run _ _ _).mono (fun r h c => ?_) (Cert.Kernel8Ideal.Value.run_blocks m ρ), (θ_run _ _ _).mono (fun r h c => ?_) (Cert.Reference8Ideal.Value.run m' ρ')⟩
  · exact ⟨(h c).1.trans (arr4 m c), (h c).2⟩
  · have e0 := (V_main_arg0 m c).trans (hagree c).1.symm
    have e1 := (V_main_arg1 m c).trans (hagree c).2.1.symm
    have e2 := (V_main_arg2 m c).trans (hagree c).2.2.1.symm
    have e3 := (V_main_arg3 m c).trans (hagree c).2.2.2.symm
    refine ⟨(h c).1.trans ?_, (h c).2⟩
    beta_reduce
    rw [e0, e1, e2, e3]
    funext j
    exact (congrArg _ (eq_ix2 j)).trans ((ref_apply _ _ _ _ (j 0) (j 1)).trans (congrArg _ (eq_ix2 j).symm))

end Cert.WinOddW

end
-- ==== Proof.WoutOddW.lean ====
/-
  THE ODD LAYERS' OUTPUT WEIGHT, ITS GRADIENT. The layer's two outputs stand side by side; the gradient of the weight is
  their transpose times the gradient at the product. The kernel goes through the rows in four blocks and keeps the sums in
  an array of its own, piece by piece, which the last point copies out.
-/
module

public import proofs.«01_k».proof.Defs
public import proofs.«01_k».proof.Proof.WeightSum
public import proofs.«01_k».proof.Proof.SguAcc
public import proofs.«01_k».proof.Proof.Gen.Kernel9Ideal
public import proofs.«01_k».proof.Proof.Gen.Kernel9Ideal.Value
public import proofs.«01_k».proof.Proof.Gen.Reference9Ideal
public import proofs.«01_k».proof.Proof.Gen.Reference9Ideal.Run
public import Idealize.ShloMosaic.Lib.Pointwise
public import Idealize.ShloMosaic.Lib.Pipeline.ReadBack
public import Idealize.ShloMosaic.Lib.Pipeline.ValueKit

@[expose] public section

set_option maxRecDepth 16384

noncomputable section

namespace Cert.WoutOddW

open Cert.Kernel9Ideal Cert.Kernel9Ideal.Gen Idealize.ShloMosaic Idealize.ShloMosaic.TcCoe Idealize.SL.Sem Idealize.ShloMosaic.StableHlo Cert.WeightSum

/-- A column of the two pieces side by side. -/
def col (A B : S4096x512.Idx → EReal) (j : Fin 1024) (r : Fin 4096) : EReal :=
  if h : j.val < 512 then A (ix2 r ⟨j.val, h⟩) else B (ix2 r ⟨j.val - 512, by omega⟩)

/-- The gradient of the weight. -/
def grad (A B : S4096x512.Idx → EReal) (H : S4096x1024.Idx → EReal) : S1024x1024.Idx → EReal :=
  fun j => total (col A B (j 0)) fun r => H (ix2 r (j 1))

/-! ## The reference -/

theorem ref_apply (A B : FVec Ideal S4096x512 .bf16) (H : FVec Ideal S4096x1024 .bf16) (i l : Fin 1024) :
    transpose S1024x1024 [1, 0] (Host.dotGeneral (φ₁ := .f32) (φ₂ := .f32) Cert.Reference9Ideal.dot_S4096x1024_S4096x1024_S1024x1024_0_0_1_1_n_n none
      (extf .f32 H Cert.Reference9Ideal.Gen.bitsLt_bf16_f32)
      (extf .f32 (concatenate S4096x1024 1 [⟨S4096x512, A⟩, ⟨S4096x512, B⟩] Cert.Reference9Ideal.Gen.concatenates_S4096x512_S4096x512_S4096x1024_d1 : FVec Ideal S4096x1024 .bf16)
        Cert.Reference9Ideal.Gen.bitsLt_bf16_f32) : FVec Ideal S1024x1024 .f32) Cert.Reference9Ideal.Gen.transposes_S1024x1024_S1024x1024_1_0 (ix2 i l)
      = grad A B H (ix2 i l) := by
  unfold grad total col
  pointwise [Cert.Reference9Ideal.dot_S4096x1024_S4096x1024_S1024x1024_0_0_1_1_n_n]
  exact Finset.sum_congr rfl fun _ _ => mul_comm _ _

/-! ## The kernel -/

theorem pay2_apply (v : Vec Ideal S512x1024 .f32) (a : Vec Ideal S1024x512 .bf16) (h : Vec Ideal S1024x1024 .bf16) (i : Fin 512) (l : Fin 1024) :
    k0_pay2 v a h (ix2 i l) = v (ix2 i l) + ∑ r : Fin 1024, a (ix2 r i) * h (ix2 r l) := by
  pointwise [k0_pay2, dot_S1024x512_S1024x1024_S512x1024_0_0_1_1_n_n]

theorem pay1_zero (y : S1024x1024.Idx) : k0_pay1 (F := Ideal) y = 0 := by
  rw [eq_ix2 y]
  pointwise [k0_pay1]

variable (m : (ℓ : Loc nD τ sig) → Buf (Elt Ideal) ℓ) (c : Dev nD) (t : Fin cfg0.N)

/-- The blocks' indices at each grid point. -/
theorem idx : ∀ t, win0_0.index t = ![t.val, 0] ∧ win0_1.index t = ![t.val, 0] ∧ win0_2.index t = ![t.val, 0] ∧ win0_3.index t = ![0, 0] := by
  decide +kernel

theorem lt4 : t.val < 4 := t.isLt

/-- The row of the whole array at which a grid point's row stands. -/
def row (r : Fin 1024) : Fin 4096 := ⟨1024 * t.val + r.val, by have := lt4 t; omega⟩

theorem iblk0 (r : Fin 1024) (i : Fin 512) : iblk m c 0 t (ix2 r i) = V m c main_arg0 (ix2 (row t r) i) := by
  unfold row
  blk_ext [iblk, (idx t).1]

theorem iblk1 (r : Fin 1024) (i : Fin 512) : iblk m c 1 t (ix2 r i) = V m c main_arg1 (ix2 (row t r) i) := by
  unfold row
  blk_ext [iblk, (idx t).2.1]

theorem iblk2 (r : Fin 1024) (l : Fin 1024) : iblk m c 2 t (ix2 r l) = V m c main_arg2 (ix2 (row t r) l) := by
  unfold row
  blk_ext [iblk, (idx t).2.2.1]

/-- What a grid point adds at an index. -/
abbrev step (k : ℕ) (y : S1024x1024.Idx) : EReal :=
  part (col (V m c main_arg0) (V m c main_arg1) (y 0)) (fun r => V m c main_arg2 (ix2 r (y 1))) k

/-- A piece's step at an index of the piece that starts at row `o`. -/
theorem piece (o : ℕ) (v : Vec Ideal S512x1024 .f32) (a : Vec Ideal S1024x512 .bf16) (x : S512x1024.Idx) (y : S1024x1024.Idx)
    (e0 : (y 0).val = o + (x 0).val) (e1 : (y 1).val = (x 1).val)
    (ha : ∀ (j : Fin 1024) (i : Fin 512) (r : Fin 1024), j.val = o + i.val →
      a (ix2 r i) = col (V m c main_arg0) (V m c main_arg1) j (row t r)) :
    k0_pay2 v a (iblk m c 2 t) x = v x + step m c t.val y := by
  have e1' : y 1 = x 1 := Fin.ext e1
  refine (congrArg _ (eq_ix2 x)).trans ((pay2_apply v a _ (x 0) (x 1)).trans ?_)
  refine congrArg₂ (· + ·) (congrArg _ (eq_ix2 x).symm) ?_
  refine part_of _ _ t.val (lt4 t) _ _ (fun r => ha (y 0) (x 0) r e0) fun r => ?_
  rw [e1']
  exact iblk2 m c t r (x 1)

theorem col0 (j : Fin 1024) (i : Fin 512) (r : Fin 1024) (e : j.val = 0 + i.val) :
    iblk m c 0 t (ix2 r i) = col (V m c main_arg0) (V m c main_arg1) j (row t r) := by
  rw [iblk0, col, dif_pos (by omega)]
  exact congrArg (fun i => V m c main_arg0 (ix2 (row t r) i)) (Fin.ext (by show i.val = j.val; omega))

theorem col1 (j : Fin 1024) (i : Fin 512) (r : Fin 1024) (e : j.val = 512 + i.val) :
    iblk m c 1 t (ix2 r i) = col (V m c main_arg0) (V m c main_arg1) j (row t r) := by
  rw [iblk1, col, dif_neg (by omega)]
  exact congrArg (fun i => V m c main_arg1 (ix2 (row t r) i)) (Fin.ext (by show i.val = j.val - 512; omega))

/-- The two pieces' rows cover the kept array. -/
theorem cover {Val : EltTy → Type} {e : EltTy} [∀ e, Nonempty (Val e)] (y : S1024x1024.Idx) (w0 w1 : S512x1024.Idx → Val e) :
    ∃ p ∈ ([⟨Rect.unit ![512, 0] ![512, 1024] inb_S1024x1024_S512x1024_512_0, w1⟩,
        ⟨Rect.unit ![0, 0] ![512, 1024] inb_S1024x1024_S512x1024_0_0, w0⟩] : List (View.Piece Val S1024x1024 e)), y ∈ p.1.set :=
  View.cover_of_tiledL (s := S1024x1024) _ ![512, 1024] (by sl_kernel_rfl) y

/-- The kept array after the first point. -/
theorem kept_first (h : t.val % 4 = 0) (y : S1024x1024.Idx) : (outsAt0 m c t.val t.isLt).2 y = step m c t.val y := by
  rw [outsAt0_A m c t h (by omega)]
  frame_open
  simp (disch := decide) only [↓ View.readCov_skip, ↓ View.readCov_cons_toLoadRect, ↓ View.readCov_fill]
  frame_out
  refine (Cert.Sgu.canon_append_covered [_] [_, _] y (cover y _ _)).trans ?_
  canon_tiles x h
  case piece0 => exact (piece m c t 512 _ _ x _ h0 h1 (col1 m c t)).trans ((congrArg (· + _) (pay1_zero _)).trans (zero_add _))
  case piece1 => exact (piece m c t 0 _ _ x _ (h0.trans (Nat.zero_add _).symm) h1 (col0 m c t)).trans ((congrArg (· + _) (pay1_zero _)).trans (zero_add _))

/-- The kept array after a later point. -/
theorem kept_next (h : ¬ t.val % 4 = 0) (y : S1024x1024.Idx) :
    (outsAt0 m c t.val t.isLt).2 y = (outsAt0 m c (t.val - 1) (by have := lt4 t; show _ < 4; omega)).2 y + step m c t.val y := by
  by_cases h' : t.val % 4 = 3
  on_goal 1 => rw [outsAt0_C m c t h h']
  on_goal 2 => rw [outsAt0_B m c t h h']
  all_goals
    frame_open
    simp (disch := decide) only [↓ View.readCov_skip, ↓ View.readCov_cons_toLoadRect, ↓ View.readCov_fill]
    frame_out
    simp only [read_unread_whole]
    canon_tiles x h
    case piece0 => exact (piece m c t 512 _ _ x _ h0 h1 (col1 m c t)).trans (congrArg (· + _) (View.ld_unit_apply_of _ _ _ _ _ y fun a => match a with | 0 => h0 | 1 => h1.trans (Nat.zero_add _).symm))
    case piece1 => exact (piece m c t 0 _ _ x _ (h0.trans (Nat.zero_add _).symm) h1 (col0 m c t)).trans (congrArg (· + _) (View.ld_unit_apply_of _ _ _ _ _ y fun a => match a with | 0 => h0.trans (Nat.zero_add _).symm | 1 => h1.trans (Nat.zero_add _).symm))

/-- The kept array after a point is the sum over the points so far. -/
theorem kept (n : ℕ) (h : n < 4) (y : S1024x1024.Idx) : (outsAt0 m c n h).2 y = ∑ k ∈ Finset.range (n + 1), step m c k y :=
  acc_eq (fun n h => (outsAt0 m c n h).2 y) (fun k => step m c k y) (kept_first m c ⟨0, by decide⟩ rfl y)
    (fun n h => kept_next m c ⟨n + 1, h⟩ (by show ¬ (n + 1) % 4 = 0; omega) y) n h

/-- The whole array's rectangle leaves an index as it is. -/
theorem whole_idx (y : S1024x1024.Idx) : (Rect.unit ![0, 0] ![1024, 1024] inb_S1024x1024_S1024x1024_0_0).idx y = y := by
  show (Rect.unit ![0, 0] ![1024, 1024] inb_S1024x1024_S1024x1024_0_0).emb y = y
  blk_ext

/-- The output after the last point is the kept array. -/
theorem out_last (h : t.val % 4 = 3) (y : S1024x1024.Idx) : (outsAt0 m c t.val t.isLt).1 y = (outsAt0 m c t.val t.isLt).2 y := by
  rw [outsAt0_C m c t (by omega) h]
  frame_open
  simp (disch := decide) only [↓ View.readCov_skip, ↓ View.readCov_cons_toLoadRect, ↓ View.readCov_fill]
  frame_out
  rw [View.readCov_eq_canon']
  beta_reduce
  rw [whole_idx]

theorem last : ∀ t : Fin cfg0.N, (cfg0.win 3).flush t = true → t.val = 3 := by decide +kernel

/-- The gradient of the weight. -/
theorem arr3 : (dats m 0 c).arrAt 3 cfg0.N = grad (V m c main_arg0) (V m c main_arg1) (V m c main_arg2) := by
  refine (dats m 0 c).arrAt_eq_of_covers 3 _ (by decide +kernel) fun t hf y => ?_
  blk_simp
  rw [after0_3]
  have h3 : t.val = 3 := last t hf
  have e : ((View.whole main_v0).slice (win0_3.rect t)).emb y = (y : S1024x1024.Idx) := by
    blk_ext [(idx t).2.2.2]
  rw [e]
  refine (out_last m c t (by omega) y).trans ((kept m c t.val (lt4 t) y).trans ?_)
  rw [h3]
  exact total_eq _ _

/-- Over the extended reals the kernel's result is the reference's. -/
theorem algebraic : Cert.algebraic_Kernel9Ideal_Reference9Ideal := by
  intro m ρ m' ρ' _ hagree
  refine ⟨fun c => grad (V m c main_arg0) (V m c main_arg1) (V m c main_arg2),
    (θ_run _ _ _).mono (fun r h c => ?_) (Cert.Kernel9Ideal.Value.run_blocks m ρ), (θ_run _ _ _).mono (fun r h c => ?_) (Cert.Reference9Ideal.Value.run m' ρ')⟩
  · exact ⟨(h c).1.trans (arr3 m c), (h c).2⟩
  · have e0 := (V_main_arg0 m c).trans (hagree c).1.symm
    have e1 := (V_main_arg1 m c).trans (hagree c).2.1.symm
    have e2 := (V_main_arg2 m c).trans (hagree c).2.2.symm
    refine ⟨(h c).1.trans ?_, (h c).2⟩
    beta_reduce
    rw [e0, e1, e2]
    funext j
    exact (congrArg _ (eq_ix2 j)).trans ((ref_apply _ _ _ (j 0) (j 1)).trans (congrArg _ (eq_ix2 j).symm))

end Cert.WoutOddW

end
-- ==== Proof.WinEvenW.lean ====
/-
  THE EVEN LAYERS' INPUT WEIGHT, ITS GRADIENT. The five gradients at the pieces of the layer's input product (four of
  512 columns and one of 128, the gates') stand side by side; the gradient of the weight is their transpose times the layer's input. The kernel goes through the rows in four
  blocks and keeps the sums in an array of its own, piece by piece, which the last point copies out.
-/
module

public import proofs.«01_k».proof.Defs
public import proofs.«01_k».proof.Proof.WeightSum
public import proofs.«01_k».proof.Proof.SguAcc
public import proofs.«01_k».proof.Proof.Gen.Kernel11Ideal
public import proofs.«01_k».proof.Proof.Gen.Kernel11Ideal.Value
public import proofs.«01_k».proof.Proof.Gen.Reference11Ideal
public import proofs.«01_k».proof.Proof.Gen.Reference11Ideal.Run
public import Idealize.ShloMosaic.Lib.Pointwise
public import Idealize.ShloMosaic.Lib.Pipeline.ReadBack
public import Idealize.ShloMosaic.Lib.Pipeline.ValueKit

@[expose] public section

set_option maxRecDepth 16384

noncomputable section

namespace Cert.WinEvenW

open Cert.Kernel11Ideal Cert.Kernel11Ideal.Gen Idealize.ShloMosaic Idealize.ShloMosaic.TcCoe Idealize.SL.Sem Idealize.ShloMosaic.StableHlo Cert.WeightSum

/-- A column of the five pieces side by side. -/
def col (A B C D : S4096x512.Idx → EReal) (E : S4096x128.Idx → EReal) (j : Fin 2176) (r : Fin 4096) : EReal :=
  if h : j.val < 512 then A (ix2 r ⟨j.val, h⟩) else if h' : j.val - 512 < 512 then B (ix2 r ⟨j.val - 512, h'⟩)
  else if h'' : j.val - 512 - 512 < 512 then C (ix2 r ⟨j.val - 512 - 512, h''⟩)
  else if h3 : j.val - 512 - 512 - 512 < 512 then D (ix2 r ⟨j.val - 512 - 512 - 512, h3⟩)
  else E (ix2 r ⟨j.val - 512 - 512 - 512 - 512, by omega⟩)

/-- The gradient of the weight. -/
def grad (A B C D : S4096x512.Idx → EReal) (E : S4096x128.Idx → EReal) (H : S4096x1024.Idx → EReal) : S2176x1024.Idx → EReal :=
  fun j => total (col A B C D E (j 0)) fun r => H (ix2 r (j 1))

/-! ## The reference -/

theorem ref_apply (A B C D : FVec Ideal S4096x512 .f32) (E : FVec Ideal S4096x128 .f32) (H : FVec Ideal S4096x1024 .bf16) (i : Fin 2176) (l : Fin 1024) :
    truncf .bf16 (transpose S2176x1024 [1, 0] (transpose Cert.Reference11Ideal.S1024x2176 [1, 0] (Host.dotGeneral (φ₁ := .f32) (φ₂ := .f32) Cert.Reference11Ideal.dot_S4096x2176_S4096x1024_S2176x1024_0_0_1_1_n_n none
      (concatenate Cert.Reference11Ideal.S4096x2176 1 [⟨S4096x512, A⟩, ⟨S4096x512, B⟩, ⟨S4096x512, C⟩, ⟨S4096x512, D⟩, ⟨S4096x128, E⟩] Cert.Reference11Ideal.Gen.concatenates_S4096x512_S4096x512_S4096x512_S4096x512_S4096x128_S4096x2176_d1 : FVec Ideal Cert.Reference11Ideal.S4096x2176 .f32)
      (extf .f32 H Cert.Reference11Ideal.Gen.bitsLt_bf16_f32) : FVec Ideal S2176x1024 .f32) Cert.Reference11Ideal.Gen.transposes_S2176x1024_S1024x2176_1_0) Cert.Reference11Ideal.Gen.transposes_S1024x2176_S2176x1024_1_0) Cert.Reference11Ideal.Gen.bitsLt_bf16_f32 (ix2 i l)
      = grad A B C D E H (ix2 i l) := by
  unfold grad total col
  pointwise [Cert.Reference11Ideal.dot_S4096x2176_S4096x1024_S2176x1024_0_0_1_1_n_n]

/-! ## The kernel -/

theorem pay6_apply (v : Vec Ideal S512x1024 .f32) (a : Vec Ideal S1024x512 .f32) (h : Vec Ideal S1024x1024 .bf16) (i : Fin 512) (l : Fin 1024) :
    k0_pay6 v a h (ix2 i l) = v (ix2 i l) + ∑ r : Fin 1024, a (ix2 r i) * h (ix2 r l) := by
  pointwise [k0_pay6, dot_S1024x512_S1024x1024_S512x1024_0_0_1_1_n_n]

theorem pay3_apply (v : Vec Ideal S128x1024 .f32) (a : Vec Ideal S1024x128 .f32) (h : Vec Ideal S1024x1024 .bf16) (i : Fin 128) (l : Fin 1024) :
    k0_pay3 v a h (ix2 i l) = v (ix2 i l) + ∑ r : Fin 1024, a (ix2 r i) * h (ix2 r l) := by
  pointwise [k0_pay3, dot_S1024x128_S1024x1024_S128x1024_0_0_1_1_n_n]

theorem pay4_apply (v : Vec Ideal S2176x1024 .f32) (y : S2176x1024.Idx) : k0_pay4 v y = v y := rfl

theorem pay5_zero (y : S2176x1024.Idx) : k0_pay5 (F := Ideal) y = 0 := by
  rw [eq_ix2 y]
  pointwise [k0_pay5]

variable (m : (ℓ : Loc nD τ sig) → Buf (Elt Ideal) ℓ) (c : Dev nD) (t : Fin cfg0.N)

/-- The blocks' indices at each grid point. -/
theorem idx : ∀ t, win0_0.index t = ![t.val, 0] ∧ win0_1.index t = ![t.val, 0] ∧ win0_2.index t = ![t.val, 0] ∧ win0_3.index t = ![t.val, 0] ∧ win0_4.index t = ![t.val, 0]
    ∧ win0_5.index t = ![t.val, 0] ∧ win0_6.index t = ![0, 0] := by
  decide +kernel

theorem lt4 : t.val < 4 := t.isLt

/-- The row of the whole array at which a grid point's row stands. -/
def row (r : Fin 1024) : Fin 4096 := ⟨1024 * t.val + r.val, by have := lt4 t; omega⟩

theorem iblk0 (r : Fin 1024) (i : Fin 512) : iblk m c 0 t (ix2 r i) = V m c main_arg0 (ix2 (row t r) i) := by
  unfold row
  blk_ext [iblk, (idx t).1]

theorem iblk1 (r : Fin 1024) (i : Fin 512) : iblk m c 1 t (ix2 r i) = V m c main_arg1 (ix2 (row t r) i) := by
  unfold row
  blk_ext [iblk, (idx t).2.1]

theorem iblk2 (r : Fin 1024) (i : Fin 512) : iblk m c 2 t (ix2 r i) = V m c main_arg2 (ix2 (row t r) i) := by
  unfold row
  blk_ext [iblk, (idx t).2.2.1]

theorem iblk3 (r : Fin 1024) (i : Fin 512) : iblk m c 3 t (ix2 r i) = V m c main_arg3 (ix2 (row t r) i) := by
  unfold row
  blk_ext [iblk, (idx t).2.2.2.1]

theorem iblk4 (r : Fin 1024) (i : Fin 128) : iblk m c 4 t (ix2 r i) = V m c main_arg4 (ix2 (row t r) i) := by
  unfold row
  blk_ext [iblk, (idx t).2.2.2.2.1]

theorem iblk5 (r : Fin 1024) (i : Fin 1024) : iblk m c 5 t (ix2 r i) = V m c main_arg5 (ix2 (row t r) i) := by
  unfold row
  blk_ext [iblk, (idx t).2.2.2.2.2.1]

/-- What a grid point adds at an index. -/
abbrev step (k : ℕ) (y : S2176x1024.Idx) : EReal :=
  part (col (V m c main_arg0) (V m c main_arg1) (V m c main_arg2) (V m c main_arg3) (V m c main_arg4) (y 0)) (fun r => V m c main_arg5 (ix2 r (y 1))) k

/-- A piece's step at an index of the piece that starts at row `o`. -/
theorem piece (o : ℕ) (v : Vec Ideal S512x1024 .f32) (a : Vec Ideal S1024x512 .f32) (x : S512x1024.Idx) (y : S2176x1024.Idx)
    (e0 : (y 0).val = o + (x 0).val) (e1 : (y 1).val = (x 1).val)
    (ha : ∀ (j : Fin 2176) (i : Fin 512) (r : Fin 1024), j.val = o + i.val →
      a (ix2 r i) = col (V m c main_arg0) (V m c main_arg1) (V m c main_arg2) (V m c main_arg3) (V m c main_arg4) j (row t r)) :
    k0_pay6 v a (iblk m c 5 t) x = v x + step m c t.val y := by
  have e1' : y 1 = x 1 := Fin.ext e1
  refine (congrArg _ (eq_ix2 x)).trans ((pay6_apply v a _ (x 0) (x 1)).trans ?_)
  refine congrArg₂ (· + ·) (congrArg _ (eq_ix2 x).symm) ?_
  refine part_of _ _ t.val (lt4 t) _ _ (fun r => ha (y 0) (x 0) r e0) fun r => ?_
  rw [e1']
  exact iblk5 m c t r (x 1)

/-- The same of the narrow piece. -/
theorem piece' (o : ℕ) (v : Vec Ideal S128x1024 .f32) (a : Vec Ideal S1024x128 .f32) (x : S128x1024.Idx) (y : S2176x1024.Idx)
    (e0 : (y 0).val = o + (x 0).val) (e1 : (y 1).val = (x 1).val)
    (ha : ∀ (j : Fin 2176) (i : Fin 128) (r : Fin 1024), j.val = o + i.val →
      a (ix2 r i) = col (V m c main_arg0) (V m c main_arg1) (V m c main_arg2) (V m c main_arg3) (V m c main_arg4) j (row t r)) :
    k0_pay3 v a (iblk m c 5 t) x = v x + step m c t.val y := by
  have e1' : y 1 = x 1 := Fin.ext e1
  refine (congrArg _ (eq_ix2 x)).trans ((pay3_apply v a _ (x 0) (x 1)).trans ?_)
  refine congrArg₂ (· + ·) (congrArg _ (eq_ix2 x).symm) ?_
  refine part_of _ _ t.val (lt4 t) _ _ (fun r => ha (y 0) (x 0) r e0) fun r => ?_
  rw [e1']
  exact iblk5 m c t r (x 1)

theorem col0 (j : Fin 2176) (i : Fin 512) (r : Fin 1024) (e : j.val = 0 + i.val) :
    iblk m c 0 t (ix2 r i) = col (V m c main_arg0) (V m c main_arg1) (V m c main_arg2) (V m c main_arg3) (V m c main_arg4) j (row t r) := by
  rw [iblk0, col, dif_pos (by omega)]
  exact congrArg (fun i => V m c main_arg0 (ix2 (row t r) i)) (Fin.ext (by show i.val = j.val; omega))

theorem col1 (j : Fin 2176) (i : Fin 512) (r : Fin 1024) (e : j.val = 512 + i.val) :
    iblk m c 1 t (ix2 r i) = col (V m c main_arg0) (V m c main_arg1) (V m c main_arg2) (V m c main_arg3) (V m c main_arg4) j (row t r) := by
  rw [iblk1, col, dif_neg (by omega), dif_pos (by omega)]
  exact congrArg (fun i => V m c main_arg1 (ix2 (row t r) i)) (Fin.ext (by show i.val = j.val - 512; omega))

theorem col2 (j : Fin 2176) (i : Fin 512) (r : Fin 1024) (e : j.val = 1024 + i.val) :
    iblk m c 2 t (ix2 r i) = col (V m c main_arg0) (V m c main_arg1) (V m c main_arg2) (V m c main_arg3) (V m c main_arg4) j (row t r) := by
  rw [iblk2, col, dif_neg (by omega), dif_neg (by omega), dif_pos (by omega)]
  exact congrArg (fun i => V m c main_arg2 (ix2 (row t r) i)) (Fin.ext (by show i.val = j.val - 512 - 512; omega))

theorem col3 (j : Fin 2176) (i : Fin 512) (r : Fin 1024) (e : j.val = 1536 + i.val) :
    iblk m c 3 t (ix2 r i) = col (V m c main_arg0) (V m c main_arg1) (V m c main_arg2) (V m c main_arg3) (V m c main_arg4) j (row t r) := by
  rw [iblk3, col, dif_neg (by omega), dif_neg (by omega), dif_neg (by omega), dif_pos (by omega)]
  exact congrArg (fun i => V m c main_arg3 (ix2 (row t r) i)) (Fin.ext (by show i.val = j.val - 512 - 512 - 512; omega))

theorem col4 (j : Fin 2176) (i : Fin 128) (r : Fin 1024) (e : j.val = 2048 + i.val) :
    iblk m c 4 t (ix2 r i) = col (V m c main_arg0) (V m c main_arg1) (V m c main_arg2) (V m c main_arg3) (V m c main_arg4) j (row t r) := by
  rw [iblk4, col, dif_neg (by omega), dif_neg (by omega), dif_neg (by omega), dif_neg (by omega)]
  exact congrArg (fun i => V m c main_arg4 (ix2 (row t r) i)) (Fin.ext (by show i.val = j.val - 512 - 512 - 512 - 512; omega))

/-- The five pieces' rows cover the kept array. -/
theorem cover {Val : EltTy → Type} {e : EltTy} [∀ e, Nonempty (Val e)] (y : S2176x1024.Idx) (w0 w1 w2 w3 : S512x1024.Idx → Val e) (w4 : S128x1024.Idx → Val e) :
    ∃ p ∈ ([⟨Rect.unit ![2048, 0] ![128, 1024] inb_S2176x1024_S128x1024_2048_0, w4⟩, ⟨Rect.unit ![1536, 0] ![512, 1024] inb_S2176x1024_S512x1024_1536_0, w3⟩,
        ⟨Rect.unit ![1024, 0] ![512, 1024] inb_S2176x1024_S512x1024_1024_0, w2⟩, ⟨Rect.unit ![512, 0] ![512, 1024] inb_S2176x1024_S512x1024_512_0, w1⟩,
        ⟨Rect.unit ![0, 0] ![512, 1024] inb_S2176x1024_S512x1024_0_0, w0⟩] : List (View.Piece Val S2176x1024 e)), y ∈ p.1.set :=
  View.cover_of_tiledBy (s := S2176x1024) _ ![128, 1024] (by sl_kernel_rfl) y

/-- The kept array after the first point. -/
theorem kept_first (h : t.val % 4 = 0) (y : S2176x1024.Idx) : (outsAt0 m c t.val t.isLt).2 y = step m c t.val y := by
  rw [outsAt0_A m c t h (by omega)]
  frame_open
  simp (disch := decide) only [↓ View.readCov_skip, ↓ View.readCov_cons_toLoadRect, ↓ View.readCov_fill]
  frame_out
  refine (Cert.Sgu.canon_append_covered [_] [_, _, _, _, _] y (cover y _ _ _ _ _)).trans ?_
  canon_tiles x h using cover y _ _ _ _ _
  case piece0 => exact (piece' m c t 2048 _ _ x _ h0 h1 (col4 m c t)).trans ((congrArg (· + _) (pay5_zero _)).trans (zero_add _))
  case piece1 => exact (piece m c t 1536 _ _ x _ h0 h1 (col3 m c t)).trans ((congrArg (· + _) (pay5_zero _)).trans (zero_add _))
  case piece2 => exact (piece m c t 1024 _ _ x _ h0 h1 (col2 m c t)).trans ((congrArg (· + _) (pay5_zero _)).trans (zero_add _))
  case piece3 => exact (piece m c t 512 _ _ x _ h0 h1 (col1 m c t)).trans ((congrArg (· + _) (pay5_zero _)).trans (zero_add _))
  case piece4 => exact (piece m c t 0 _ _ x _ (h0.trans (Nat.zero_add _).symm) h1 (col0 m c t)).trans ((congrArg (· + _) (pay5_zero _)).trans (zero_add _))

/-- The kept array after a later point. -/
theorem kept_next (h : ¬ t.val % 4 = 0) (y : S2176x1024.Idx) :
    (outsAt0 m c t.val t.isLt).2 y = (outsAt0 m c (t.val - 1) (by have := lt4 t; show _ < 4; omega)).2 y + step m c t.val y := by
  by_cases h' : t.val % 4 = 3
  on_goal 1 => rw [outsAt0_C m c t h h']
  on_goal 2 => rw [outsAt0_B m c t h h']
  all_goals
    frame_open
    simp (disch := decide) only [↓ View.readCov_skip, ↓ View.readCov_cons_toLoadRect, ↓ View.readCov_fill]
    frame_out
    simp only [read_unread_whole]
    canon_tiles x h using cover y _ _ _ _ _
    case piece0 => exact (piece' m c t 2048 _ _ x _ h0 h1 (col4 m c t)).trans (congrArg (· + _) (View.ld_unit_apply_of _ _ _ _ _ y fun a => match a with | 0 => h0 | 1 => h1.trans (Nat.zero_add _).symm))
    case piece1 => exact (piece m c t 1536 _ _ x _ h0 h1 (col3 m c t)).trans (congrArg (· + _) (View.ld_unit_apply_of _ _ _ _ _ y fun a => match a with | 0 => h0 | 1 => h1.trans (Nat.zero_add _).symm))
    case piece2 => exact (piece m c t 1024 _ _ x _ h0 h1 (col2 m c t)).trans (congrArg (· + _) (View.ld_unit_apply_of _ _ _ _ _ y fun a => match a with | 0 => h0 | 1 => h1.trans (Nat.zero_add _).symm))
    case piece3 => exact (piece m c t 512 _ _ x _ h0 h1 (col1 m c t)).trans (congrArg (· + _) (View.ld_unit_apply_of _ _ _ _ _ y fun a => match a with | 0 => h0 | 1 => h1.trans (Nat.zero_add _).symm))
    case piece4 => exact (piece m c t 0 _ _ x _ (h0.trans (Nat.zero_add _).symm) h1 (col0 m c t)).trans (congrArg (· + _) (View.ld_unit_apply_of _ _ _ _ _ y fun a => match a with | 0 => h0.trans (Nat.zero_add _).symm | 1 => h1.trans (Nat.zero_add _).symm))

/-- The kept array after a point is the sum over the points so far. -/
theorem kept (n : ℕ) (h : n < 4) (y : S2176x1024.Idx) : (outsAt0 m c n h).2 y = ∑ k ∈ Finset.range (n + 1), step m c k y :=
  acc_eq (fun n h => (outsAt0 m c n h).2 y) (fun k => step m c k y) (kept_first m c ⟨0, by decide⟩ rfl y)
    (fun n h => kept_next m c ⟨n + 1, h⟩ (by show ¬ (n + 1) % 4 = 0; omega) y) n h

/-- The whole array's rectangle leaves an index as it is. -/
theorem whole_idx (y : S2176x1024.Idx) : (Rect.unit ![0, 0] ![2176, 1024] inb_S2176x1024_S2176x1024_0_0).idx y = y := by
  show (Rect.unit ![0, 0] ![2176, 1024] inb_S2176x1024_S2176x1024_0_0).emb y = y
  blk_ext

/-- The output after the last point is the kept array. -/
theorem out_last (h : t.val % 4 = 3) (y : S2176x1024.Idx) : (outsAt0 m c t.val t.isLt).1 y = (outsAt0 m c t.val t.isLt).2 y := by
  rw [outsAt0_C m c t (by omega) h]
  frame_open
  simp (disch := decide) only [↓ View.readCov_skip, ↓ View.readCov_cons_toLoadRect, ↓ View.readCov_fill]
  frame_out
  rw [View.readCov_eq_canon', pay4_apply]
  beta_reduce
  rw [whole_idx]

theorem last : ∀ t : Fin cfg0.N, (cfg0.win 6).flush t = true → t.val = 3 := by decide +kernel

/-- The gradient of the weight. -/
theorem arr6 : (dats m 0 c).arrAt 6 cfg0.N = grad (V m c main_arg0) (V m c main_arg1) (V m c main_arg2) (V m c main_arg3) (V m c main_arg4) (V m c main_arg5) := by
  refine (dats m 0 c).arrAt_eq_of_covers 6 _ (by decide +kernel) fun t hf y => ?_
  blk_simp
  rw [after0_6]
  have h3 : t.val = 3 := last t hf
  have e : ((View.whole main_v0).slice (win0_6.rect t)).emb y = (y : S2176x1024.Idx) := by
    blk_ext [(idx t).2.2.2.2.2.2]
  rw [e]
  refine (out_last m c t (by omega) y).trans ((kept m c t.val (lt4 t) y).trans ?_)
  rw [h3]
  exact total_eq _ _

/-- Over the extended reals the kernel's result is the reference's. -/
theorem algebraic : Cert.algebraic_Kernel11Ideal_Reference11Ideal := by
  intro m ρ m' ρ' _ hagree
  refine ⟨fun c => grad (V m c main_arg0) (V m c main_arg1) (V m c main_arg2) (V m c main_arg3) (V m c main_arg4) (V m c main_arg5),
    (θ_run _ _ _).mono (fun r h c => ?_) (Cert.Kernel11Ideal.Value.run_blocks m ρ), (θ_run _ _ _).mono (fun r h c => ?_) (Cert.Reference11Ideal.Value.run m' ρ')⟩
  · exact ⟨(h c).1.trans (arr6 m c), (h c).2⟩
  · have e0 := (V_main_arg0 m c).trans (hagree c).1.symm
    have e1 := (V_main_arg1 m c).trans (hagree c).2.1.symm
    have e2 := (V_main_arg2 m c).trans (hagree c).2.2.1.symm
    have e3 := (V_main_arg3 m c).trans (hagree c).2.2.2.1.symm
    have e4 := (V_main_arg4 m c).trans (hagree c).2.2.2.2.1.symm
    have e5 := (V_main_arg5 m c).trans (hagree c).2.2.2.2.2.symm
    refine ⟨(h c).1.trans ?_, (h c).2⟩
    beta_reduce
    rw [e0, e1, e2, e3, e4, e5]
    funext j
    exact (congrArg _ (eq_ix2 j)).trans ((ref_apply _ _ _ _ _ _ (j 0) (j 1)).trans (congrArg _ (eq_ix2 j).symm))

end Cert.WinEvenW

end
-- ==== Proof.WinOddHPoint.lean ====
/- The kernel of the gradient at the gated layer's input at one grid point: the blocks it reads are rows `512 t` on of
   arrays that hold real numbers, so what it stores holds the plain functions of those arrays. The product here is over
   three parts, side by side; past it the functions are those of the gradient at the perceptron's input. -/
module

public import proofs.«01_k».proof.Proof.MlpHPay
public import proofs.«01_k».proof.Proof.Gen.Kernel7Ideal
public import proofs.«01_k».proof.Proof.Gen.Kernel7Ideal.Value
public import Idealize.ShloMosaic.Lib.Pipeline.ReadBack
public import Idealize.ShloMosaic.Lib.Pipeline.ValueKit

@[expose] public section

set_option maxRecDepth 16384

noncomputable section

namespace Cert.MlpH.WinOdd

open Idealize.ShloMosaic Idealize.ShloMosaic.TcCoe Idealize.SL.Sem Idealize.ShloMosaic.StableHlo Cert.Sgu Cert.MlpH
open Cert.MlpH.Kernel (Holds HoldsCol HoldsRow part gh_eq n_apply d_apply gi_apply gy_apply pre_apply post_apply pre_next post_next prePart postPart)
open Cert.Kernel7Ideal Cert.Kernel7Ideal.Gen Cert.Kernel7Ideal.Value

variable (m : (ℓ : Loc nD τ sig) → Buf (Elt Ideal) ℓ) (I : In)

/-- The three parts of the gradient at the projection, side by side, and the rows of the weight: what they give together is
    the sum over the three. -/
structure Three : Prop where
  none : ∀ r n, 1536 ≤ n → I.gp r n = 0

variable {I} in
theorem Three.gh (T : Three I) (r l : ℕ) : I.gh r l = part I 0 r l + part I 1 r l + part I 2 r l := by
  have z : ∀ q, 3 ≤ q → part I q r l = 0 := fun q hq => Finset.sum_eq_zero fun k _ => by rw [T.none r _ (by omega), zero_mul]
  rw [gh_eq, z 3 (by omega), z 4 (by omega), z 5 (by omega), z 6 (by omega), z 7 (by omega)]
  simp only [add_zero]

/-- The arrays that the region reads hold real numbers: the arguments, the residual sum and the two reciprocal roots. -/
structure Reads (c : Dev nD) : Prop where
  three : Three I
  g0 : ∀ (r : Fin 4096) (k : Fin 512), V m c main_arg0 (ix2 r k) = ((I.gp r.val (512 * 0 + k.val) : ℝ) : EReal)
  g1 : ∀ (r : Fin 4096) (k : Fin 512), V m c main_arg1 (ix2 r k) = ((I.gp r.val (512 * 1 + k.val) : ℝ) : EReal)
  g2 : ∀ (r : Fin 4096) (k : Fin 512), V m c main_arg2 (ix2 r k) = ((I.gp r.val (512 * 2 + k.val) : ℝ) : EReal)
  h1 : ∀ (q : ℕ) (k : Fin 512) (l : Fin 1024) (h : 512 * q + k.val < 1536), V m c main_arg3 (ix2 ⟨512 * q + k.val, h⟩ l) = ((I.w q l.val k.val : ℝ) : EReal)
  h2 : ∀ (r : Fin 4096) (l : Fin 1024), V m c main_v12 (ix2 r l) = ((I.mid r.val l.val : ℝ) : EReal)
  h3 : ∀ (r : Fin 4096) (l : Fin 1024), V m c main_arg6 (ix2 r l) = ((I.go r.val l.val : ℝ) : EReal)
  h4 : ∀ (r : Fin 4096) (l : Fin 1024), V m c main_arg5 (ix2 r l) = ((I.y r.val l.val : ℝ) : EReal)
  h5 : ∀ (r : Fin 4096) (z : Fin 1), V m c main_v20 (ix2 r z) = ((rrms (I.mid r.val) : ℝ) : EReal)
  h6 : ∀ (r : Fin 4096) (z : Fin 1), V m c main_v28 (ix2 r z) = ((rrms (I.y r.val) : ℝ) : EReal)
  h7 : ∀ (z : Fin 1) (l : Fin 1024), V m c main_arg7 (ix2 z l) = ((I.gpre l.val : ℝ) : EReal)
  h8 : ∀ (z : Fin 1) (l : Fin 1024), V m c main_arg8 (ix2 z l) = ((I.gpost l.val : ℝ) : EReal)

/-- Part `q` of the gradient at the projection, rows `r0` on. -/
abbrev Left (r0 q : ℕ) (x : FVec Ideal S512x512 .f32) : Prop :=
  ∀ (y k : Fin 512), x (ix2 y k) = ((I.gp (r0 + y.val) (512 * q + k.val) : ℝ) : EReal)

/-- Rows `512 q` on of the weight. -/
abbrev Right (q : ℕ) (x : FVec Ideal S512x1024 .bf16) : Prop :=
  ∀ (k : Fin 512) (l : Fin 1024), x (ix2 k l) = ((I.w q l.val k.val : ℝ) : EReal)

variable {I} in
/-- The product with the weight, over its three parts. -/
theorem gh_apply (T : Three I) (r0 : ℕ) {a0 a1 a2 : FVec Ideal S512x512 .f32} {b0 b1 b2 : FVec Ideal S512x1024 .bf16} (h0 : Left I r0 0 a0)
    (h1 : Left I r0 1 a1) (h2 : Left I r0 2 a2) (g0 : Right I 0 b0) (g1 : Right I 1 b1) (g2 : Right I 2 b2) :
    Holds r0 (k0_pay2 (F := Ideal) a0 b0 a1 b1 a2 b2) I.gh := by
  intro y l
  rw [T.gh]
  pointwise [k0_pay2, dot_S512x512_S512x1024_S512x1024_1_0_0_1_n_n]
  simp only [h0 _ _, h1 _ _, h2 _ _, g0 _ _, g1 _ _, g2 _ _, ← EReal.coe_mul, ← Reals.coe_sum, ← EReal.coe_add]
  rfl

/-- The blocks' indices at each grid point. -/
theorem idx : ∀ t, win0_0.index t = ![t.val, 0] ∧ win0_1.index t = ![t.val, 0] ∧ win0_2.index t = ![t.val, 0] ∧ win0_3.index t = ![0, 0] ∧ win0_4.index t = ![t.val, 0] ∧
    win0_5.index t = ![t.val, 0] ∧ win0_6.index t = ![t.val, 0] ∧ win0_7.index t = ![t.val, 0] ∧ win0_8.index t = ![t.val, 0] ∧ win0_9.index t = ![0, 0] ∧
    win0_10.index t = ![0, 0] ∧ win0_11.index t = ![t.val, 0] ∧ win0_12.index t = ![0, 0] ∧ win0_13.index t = ![t.val, 0] ∧ win0_14.index t = ![0, 0] := by
  decide +kernel

theorem lt8 (t : Fin cfg0.N) : t.val < 8 := t.isLt

/-- The row of a block, in the whole array. -/
def row (t : Fin cfg0.N) (y : Fin 512) : Fin 4096 := ⟨512 * t.val + y.val, by have := lt8 t; omega⟩

variable {m I} {c : Dev nD} (H : Reads m I c) (t : Fin cfg0.N)
include H

theorem iblk0 : Left I (512 * t.val) 0 (iblk m c 0 t) := by
  intro y k
  have e : iblk m c 0 t (ix2 y k) = V m c main_arg0 (ix2 (row t y) k) := by
    unfold row
    blk_ext [iblk, (idx t).1]
  rw [e, H.g0]; rfl

theorem iblk1 : Left I (512 * t.val) 1 (iblk m c 1 t) := by
  intro y k
  have e : iblk m c 1 t (ix2 y k) = V m c main_arg1 (ix2 (row t y) k) := by
    unfold row
    blk_ext [iblk, (idx t).2.1]
  rw [e, H.g1]; rfl

theorem iblk2 : Left I (512 * t.val) 2 (iblk m c 2 t) := by
  intro y k
  have e : iblk m c 2 t (ix2 y k) = V m c main_arg2 (ix2 (row t y) k) := by
    unfold row
    blk_ext [iblk, (idx t).2.2.1]
  rw [e, H.g2]; rfl

theorem iblk3 (n : Fin 1536) (l : Fin 1024) : iblk m c 3 t (ix2 n l) = V m c main_arg3 (ix2 n l) := by
  blk_ext [iblk, (idx t).2.2.2.1]

theorem iblk4 : Holds (512 * t.val) (φ := .f32) (iblk m c 4 t) I.mid := by
  intro y l
  have e : iblk m c 4 t (ix2 y l) = V m c main_v12 (ix2 (row t y) l) := by
    unfold row
    blk_ext [iblk, (idx t).2.2.2.2.1]
  rw [e, H.h2]; rfl

theorem iblk5 : Holds (512 * t.val) (φ := .f32) (iblk m c 5 t) I.go := by
  intro y l
  have e : iblk m c 5 t (ix2 y l) = V m c main_arg6 (ix2 (row t y) l) := by
    unfold row
    blk_ext [iblk, (idx t).2.2.2.2.2.1]
  rw [e, H.h3]; rfl

theorem iblk6 : Holds (512 * t.val) (φ := .f32) (iblk m c 6 t) I.y := by
  intro y l
  have e : iblk m c 6 t (ix2 y l) = V m c main_arg5 (ix2 (row t y) l) := by
    unfold row
    blk_ext [iblk, (idx t).2.2.2.2.2.2.1]
  rw [e, H.h4]; rfl

theorem iblk7 : HoldsCol (512 * t.val) (iblk m c 7 t) (fun r => rrms (I.mid r)) := by
  intro y z
  have e : iblk m c 7 t (ix2 y z) = V m c main_v20 (ix2 (row t y) z) := by
    unfold row
    blk_ext [iblk, (idx t).2.2.2.2.2.2.2.1]
  rw [e, H.h5]; rfl

theorem iblk8 : HoldsCol (512 * t.val) (iblk m c 8 t) (fun r => rrms (I.y r)) := by
  intro y z
  have e : iblk m c 8 t (ix2 y z) = V m c main_v28 (ix2 (row t y) z) := by
    unfold row
    blk_ext [iblk, (idx t).2.2.2.2.2.2.2.2.1]
  rw [e, H.h6]; rfl

theorem iblk9 : HoldsRow (iblk m c 9 t) I.gpre := by
  intro z l
  have e : iblk m c 9 t (ix2 z l) = V m c main_arg7 (ix2 z l) := by blk_ext [iblk, (idx t).2.2.2.2.2.2.2.2.2.1]
  rw [e, H.h7]

theorem iblk10 : HoldsRow (iblk m c 10 t) I.gpost := by
  intro z l
  have e : iblk m c 10 t (ix2 z l) = V m c main_arg8 (ix2 z l) := by blk_ext [iblk, (idx t).2.2.2.2.2.2.2.2.2.2.1]
  rw [e, H.h8]

/-- Rows `512 q` on, loaded from the weight's block. -/
theorem right_at (q o : ℕ) (hq : q < 3) (ho : o = 512 * q) (hb : ∀ a, (![o, 0] : Fin 2 → ℕ) a + (![512, 1024] : Fin 2 → ℕ) a ≤ S1536x1024.size a) :
    Right I q (View.ld (iblk m c 3 t) (Rect.unit (s := S1536x1024) ![o, 0] ![512, 1024] hb)) := by
  intro k l
  subst ho
  refine (View.ld_unit_apply_of _ _ _ _ _ (ix2 ⟨512 * q + k.val, by omega⟩ l) fun a => ?_).trans ((iblk3 H t _ _).trans (H.h1 q k l (by omega)))
  match a with
  | ⟨0, _⟩ => rfl
  | ⟨1, _⟩ => exact (Nat.zero_add _).symm

/-- The two columns as the body reads them. -/
theorem rx_at : HoldsCol (512 * t.val) (k0_pay3 (F := Ideal) (iblk m c 7 t)) (fun r => rrms (I.mid r)) := by
  intro y z
  pointwise [k0_pay3]
  rw [iblk7 H]

theorem ry_at : HoldsCol (512 * t.val) (k0_pay4 (F := Ideal) (iblk m c 8 t)) (fun r => rrms (I.y r)) := by
  intro y z
  pointwise [k0_pay4]
  rw [iblk8 H]

omit H in
/-- The body's product at the point: three products of a part of the rows with rows of the weight. -/
def ghB (m : (ℓ : Loc nD τ sig) → Buf (Elt Ideal) ℓ) (c : Dev nD) (t : Fin cfg0.N) : FVec Ideal S512x1024 .f32 :=
  k0_pay2 (F := Ideal) (iblk m c 0 t) (View.ld (iblk m c 3 t) (Rect.unit (s := S1536x1024) ![0, 0] ![512, 1024] inb_S1536x1024_S512x1024_0_0))
    (iblk m c 1 t) (View.ld (iblk m c 3 t) (Rect.unit (s := S1536x1024) ![512, 0] ![512, 1024] inb_S1536x1024_S512x1024_512_0))
    (iblk m c 2 t) (View.ld (iblk m c 3 t) (Rect.unit (s := S1536x1024) ![1024, 0] ![512, 1024] inb_S1536x1024_S512x1024_1024_0))

omit H in
/-- The body's gradient at the normalised residual sum. -/
def dB (m : (ℓ : Loc nD τ sig) → Buf (Elt Ideal) ℓ) (c : Dev nD) (t : Fin cfg0.N) : FVec Ideal S512x1024 .f32 :=
  mulf (ghB m c t) (broadcastTo S512x1024 (iblk m c 9 t) broadcasts_S1x1024_S512x1024)

omit H in
/-- The body's normalised residual sum. -/
def nB (m : (ℓ : Loc nD τ sig) → Buf (Elt Ideal) ℓ) (c : Dev nD) (t : Fin cfg0.N) : FVec Ideal S512x1024 .f32 :=
  k0_pay5 (F := Ideal) (iblk m c 4 t) (iblk m c 7 t)

theorem gh_at : Holds (512 * t.val) (ghB m c t) I.gh :=
  gh_apply H.three (512 * t.val) (iblk0 H t) (iblk1 H t) (iblk2 H t) (right_at H t 0 0 (by decide) rfl _) (right_at H t 1 512 (by decide) rfl _)
    (right_at H t 2 1024 (by decide) rfl _)

theorem n_at : Holds (512 * t.val) (nB m c t) (fun r l => I.mid r l * rrms (I.mid r)) := n_apply I (512 * t.val) (iblk4 H t) (iblk7 H t)

theorem d_at : Holds (512 * t.val) (dB m c t) (fun r l => I.gh r l * I.gpre l) := d_apply I (512 * t.val) (gh_at H t) (iblk9 H t)

/-- What a point stores of the gradient at the residual sum. -/
theorem outs_gi (y : S512x1024.Idx) : (outsAt0 m c t.val t.isLt).1 y = ((I.gi (512 * t.val + (y 0).val) (y 1).val : ℝ) : EReal) := by
  have h8 := lt8 t
  rw [eq_ix2 y]
  by_cases h : t.val % 8 = 0
  · rw [outsAt0_A m c t h (by omega) h (by omega)]
    frame_out
    exact gi_apply I (512 * t.val) (iblk5 H t) (rx_at H t) (n_at H t) (d_at H t) _ _
  · rw [outsAt0_B m c t h (by omega) h (by omega)]
    frame_out
    exact gi_apply I (512 * t.val) (iblk5 H t) (rx_at H t) (n_at H t) (d_at H t) _ _

/-- What a point stores of the gradient at the mixer's output. -/
theorem outs_gy (y : S512x1024.Idx) : (outsAt0 m c t.val t.isLt).2.2.1 y = ((I.gy (512 * t.val + (y 0).val) (y 1).val : ℝ) : EReal) := by
  have h8 := lt8 t
  rw [eq_ix2 y]
  by_cases h : t.val % 8 = 0
  · rw [outsAt0_A m c t h (by omega) h (by omega)]
    frame_out
    exact gy_apply I (512 * t.val) (iblk5 H t) (rx_at H t) (n_at H t) (d_at H t) (iblk6 H t) (ry_at H t) (iblk10 H t) _ _
  · rw [outsAt0_B m c t h (by omega) h (by omega)]
    frame_out
    exact gy_apply I (512 * t.val) (iblk5 H t) (rx_at H t) (n_at H t) (d_at H t) (iblk6 H t) (ry_at H t) (iblk10 H t) _ _

theorem outs_pre_first (h : t.val % 8 = 0) (y : S1x1024.Idx) :
    (outsAt0 m c t.val t.isLt).2.1 y = ((prePart I (512 * t.val) (y 1).val : ℝ) : EReal) := by
  have h8 := lt8 t
  rw [eq_ix2 y, outsAt0_A m c t h (by omega) h (by omega)]
  frame_out
  exact pre_apply I (512 * t.val) (gh_at H t) (n_at H t) _ _

theorem outs_pre_next (h : ¬ t.val % 8 = 0) (y : S1x1024.Idx) :
    (outsAt0 m c t.val t.isLt).2.1 y = (outsAt0 m c (t.val - 1) (by omega)).2.1 y + ((prePart I (512 * t.val) (y 1).val : ℝ) : EReal) := by
  rw [eq_ix2 y, outsAt0_B m c t h (by omega) h (by omega)]
  frame_out
  exact pre_next I _ _ (gh_at H t) (n_at H t) _ _

theorem outs_post_first (h : t.val % 8 = 0) (y : S1x1024.Idx) :
    (outsAt0 m c t.val t.isLt).2.2.2 y = ((postPart I (512 * t.val) (y 1).val : ℝ) : EReal) := by
  have h8 := lt8 t
  rw [eq_ix2 y, outsAt0_A m c t h (by omega) h (by omega)]
  frame_out
  exact post_apply I (512 * t.val) (iblk5 H t) (rx_at H t) (n_at H t) (d_at H t) (iblk6 H t) (ry_at H t) _ _

theorem outs_post_next (h : ¬ t.val % 8 = 0) (y : S1x1024.Idx) :
    (outsAt0 m c t.val t.isLt).2.2.2 y = (outsAt0 m c (t.val - 1) (by omega)).2.2.2 y + ((postPart I (512 * t.val) (y 1).val : ℝ) : EReal) := by
  rw [eq_ix2 y, outsAt0_B m c t h (by omega) h (by omega)]
  frame_out
  exact post_next _ _ _ (post_apply I (512 * t.val) (iblk5 H t) (rx_at H t) (n_at H t) (d_at H t) (iblk6 H t) (ry_at H t)) _ _

end Cert.MlpH.WinOdd

end
-- ==== Proof.WinOddHKernel.lean ====
/-
  THE KERNEL OF THE GRADIENT AT THE GATED LAYER'S INPUT, ITS RESULT ARRAYS. The two gradients over the tokens are tiled by
  the grid points' blocks; the gradients of the two scales are sums over the points, in the array after the last one.
-/
module

public import proofs.«01_k».proof.Proof.WinOddHPoint
public import proofs.«01_k».proof.Proof.MlpHKernel
public import proofs.«01_k».proof.Proof.SguKernel

@[expose] public section

set_option maxRecDepth 16384

noncomputable section

namespace Cert.MlpH.WinOdd

open Idealize.ShloMosaic Idealize.ShloMosaic.TcCoe Idealize.SL.Sem Idealize.ShloMosaic.StableHlo Cert.MlpH
open Cert.MlpH.Kernel (prePart postPart pre_total post_total)
open Cert.Kernel7Ideal Cert.Kernel7Ideal.Gen Cert.Kernel7Ideal.Value

variable {m : (ℓ : Loc nD τ sig) → Buf (Elt Ideal) ℓ} {I : In} {c : Dev nD} (H : Reads m I c)

theorem last12 : ∀ t : Fin cfg0.N, (cfg0.win 12).flush t = true → t.val = 7 := by decide +kernel
theorem last14 : ∀ t : Fin cfg0.N, (cfg0.win 14).flush t = true → t.val = 7 := by decide +kernel

include H

/-- The gradient at the residual sum. -/
theorem arr11 : (dats m 0 c).arrAt 11 cfg0.N = fun j : S4096x1024.Idx => ((I.gi (j 0).val (j 1).val : ℝ) : EReal) := by
  refine (dats m 0 c).arrAt_eq_of_covers 11 _ (by decide +kernel) fun t hf y => ?_
  blk_simp
  rw [after0_11]
  refine (outs_gi H t y).trans ?_
  rw [(idx t).2.2.2.2.2.2.2.2.2.2.2.1]
  exact congrArg₂ (fun a b => ((I.gi a b : ℝ) : EReal)) (by show _ = t.val * 512 + _; omega) (by show _ = 0 * 1024 + _; omega)

/-- The gradient at the mixer's output. -/
theorem arr13 : (dats m 0 c).arrAt 13 cfg0.N = fun j : S4096x1024.Idx => ((I.gy (j 0).val (j 1).val : ℝ) : EReal) := by
  refine (dats m 0 c).arrAt_eq_of_covers 13 _ (by decide +kernel) fun t hf y => ?_
  blk_simp
  rw [after0_13]
  refine (outs_gy H t y).trans ?_
  rw [(idx t).2.2.2.2.2.2.2.2.2.2.2.2.2.1]
  exact congrArg₂ (fun a b => ((I.gy a b : ℝ) : EReal)) (by show _ = t.val * 512 + _; omega) (by show _ = 0 * 1024 + _; omega)

/-- The gradient of the scale before the gated layer. -/
theorem arr12 : (dats m 0 c).arrAt 12 cfg0.N = fun j : S1x1024.Idx => ((I.ggpre (j 1).val : ℝ) : EReal) := by
  refine (dats m 0 c).arrAt_eq_of_covers 12 _ (by decide +kernel) fun t hf y => ?_
  blk_simp
  rw [after0_12]
  have h7 : t.val = 7 := last12 t hf
  refine (Cert.Sgu.acc_eq (fun n h => (outsAt0 m c n h).2.1 y) (fun k => prePart I (512 * k) (y 1).val) (fun t h => outs_pre_first H t h y)
    (fun t h => outs_pre_next H t h y) t.val t.isLt).trans ?_
  rw [h7, (idx t).2.2.2.2.2.2.2.2.2.2.2.2.1]
  refine congrArg (fun a : ℝ => (a : EReal)) ((pre_total _).trans ?_)
  exact congrArg (fun a => I.ggpre a) (by show _ = 0 * 1024 + _; omega)

/-- The gradient of the scale after the mixer. -/
theorem arr14 : (dats m 0 c).arrAt 14 cfg0.N = fun j : S1x1024.Idx => ((I.ggpost (j 1).val : ℝ) : EReal) := by
  refine (dats m 0 c).arrAt_eq_of_covers 14 _ (by decide +kernel) fun t hf y => ?_
  blk_simp
  rw [after0_14]
  have h7 : t.val = 7 := last14 t hf
  refine (Cert.Sgu.acc_eq (fun n h => (outsAt0 m c n h).2.2.2 y) (fun k => postPart I (512 * k) (y 1).val) (fun t h => outs_post_first H t h y)
    (fun t h => outs_post_next H t h y) t.val t.isLt).trans ?_
  rw [h7, (idx t).2.2.2.2.2.2.2.2.2.2.2.2.2.2]
  refine congrArg (fun a : ℝ => (a : EReal)) ((post_total _).trans ?_)
  exact congrArg (fun a => I.ggpost a) (by show _ = 0 * 1024 + _; omega)

end Cert.MlpH.WinOdd

end
-- ==== Proof.WinOddHClaim.lean ====
/-
  THE CLAIM ON THE GRADIENT AT THE GATED LAYER'S INPUT: over the extended reals the kernel's four results are the
  reference's, on arguments of real numbers.
-/
module

public import proofs.«01_k».proof.Defs
public import proofs.«01_k».proof.Proof.Gen.Pre_finite7
public import proofs.«01_k».proof.Proof.Gen.Reference7Ideal
public import proofs.«01_k».proof.Proof.Gen.Reference7Ideal.Run
public import Idealize.ShloMosaic.Lib.StableHlo.RunRead
public import proofs.«01_k».proof.Proof.WinOddHKernel
public import proofs.«01_k».proof.Proof.MlpHClaim

@[expose] public section

set_option maxRecDepth 16384

noncomputable section

namespace Cert.MlpH.WinOdd

open Idealize.ShloMosaic Idealize.ShloMosaic.TcCoe Idealize.SL.Sem Idealize.ShloMosaic.StableHlo Cert.Reals Cert.Sgu Cert.MlpH
open Cert.MlpH.Kernel (part)
open Cert.Kernel7Ideal (S4096x512 S1536x1024 S4096x1024 S4096x1 S1x1024)

/-- Arguments that meet the precondition are real numbers. -/
theorem real_of_pre {a0 a1 a2 : FVec Ideal S4096x512 .f32} {a3 : FVec Ideal S1536x1024 .bf16} {a4 a5 a6 : FVec Ideal S4096x1024 .f32}
    {a7 a8 : FVec Ideal S1x1024 .f32}
    (h : (Cert.Pre_finite7.fn a0 a1 a2 a3 a4 a5 a6 a7 a8).1 = (fun _ => 1#1) ∧ (Cert.Pre_finite7.fn a0 a1 a2 a3 a4 a5 a6 a7 a8).2.1 = (fun _ => 1#1)
      ∧ (Cert.Pre_finite7.fn a0 a1 a2 a3 a4 a5 a6 a7 a8).2.2.1 = (fun _ => 1#1) ∧ (Cert.Pre_finite7.fn a0 a1 a2 a3 a4 a5 a6 a7 a8).2.2.2.1 = (fun _ => 1#1)
      ∧ (Cert.Pre_finite7.fn a0 a1 a2 a3 a4 a5 a6 a7 a8).2.2.2.2.1 = (fun _ => 1#1) ∧ (Cert.Pre_finite7.fn a0 a1 a2 a3 a4 a5 a6 a7 a8).2.2.2.2.2.1 = (fun _ => 1#1)
      ∧ (Cert.Pre_finite7.fn a0 a1 a2 a3 a4 a5 a6 a7 a8).2.2.2.2.2.2.1 = (fun _ => 1#1) ∧ (Cert.Pre_finite7.fn a0 a1 a2 a3 a4 a5 a6 a7 a8).2.2.2.2.2.2.2.1 = (fun _ => 1#1)
      ∧ (Cert.Pre_finite7.fn a0 a1 a2 a3 a4 a5 a6 a7 a8).2.2.2.2.2.2.2.2 = (fun _ => 1#1)) :
    (∀ i, IsReal (a0 i)) ∧ (∀ i, IsReal (a1 i)) ∧ (∀ i, IsReal (a2 i)) ∧ (∀ i, IsReal (a3 i)) ∧ (∀ i, IsReal (a4 i)) ∧ (∀ i, IsReal (a5 i))
      ∧ (∀ i, IsReal (a6 i)) ∧ (∀ i, IsReal (a7 i)) ∧ ∀ i, IsReal (a8 i) := by
  obtain ⟨h0, h1, h2, h3, h4, h5, h6, h7, h8⟩ := h
  exact ⟨fun i => isReal_of_lt (congrFun h0 i), fun i => isReal_of_lt (congrFun h1 i), fun i => isReal_of_lt (congrFun h2 i), fun i => isReal_of_lt (congrFun h3 i),
    fun i => isReal_of_lt (congrFun h4 i), fun i => isReal_of_lt (congrFun h5 i), fun i => isReal_of_lt (congrFun h6 i), fun i => isReal_of_lt (congrFun h7 i),
    fun i => isReal_of_lt (congrFun h8 i)⟩

/-- A product whose terms are zero from column `n` on is the sum over the columns before. -/
theorem gh_short (I : In) (n : ℕ) (hn : n ≤ 4096) (r l : ℕ) (z : ∀ k, n ≤ k → I.gp r k * I.w (k / 512) l (k % 512) = 0) :
    I.gh r l = ∑ k : Fin n, I.gp r k.val * I.w (k.val / 512) l (k.val % 512) := by
  unfold In.gh
  rw [Fin.sum_univ_eq_sum_range (fun k => I.gp r k * I.w (k / 512) l (k % 512)) 4096, Fin.sum_univ_eq_sum_range (fun k => I.gp r k * I.w (k / 512) l (k % 512)) n]
  exact (Finset.sum_subset (fun k hk => Finset.mem_range.mpr ((Finset.mem_range.mp hk).trans_le hn)) fun k _ hk => z k (by simpa using hk)).symm

/-- The three parts side by side, zero past them. -/
def side (a0 a1 a2 : ℕ → ℕ → ℝ) (r n : ℕ) : ℝ :=
  if n < 512 then a0 r n else if n < 1024 then a1 r (n - 512) else if n < 1536 then a2 r (n - 1024) else 0

theorem side0 (a0 a1 a2 : ℕ → ℕ → ℝ) (r : ℕ) (k : Fin 512) : side a0 a1 a2 r (512 * 0 + k.val) = a0 r k.val := by
  unfold side
  rw [if_pos (by omega), Nat.mul_zero, Nat.zero_add]

theorem side1 (a0 a1 a2 : ℕ → ℕ → ℝ) (r : ℕ) (k : Fin 512) : side a0 a1 a2 r (512 * 1 + k.val) = a1 r k.val := by
  unfold side
  rw [if_neg (by omega), if_pos (by omega), show 512 * 1 + k.val - 512 = k.val by omega]

theorem side2 (a0 a1 a2 : ℕ → ℕ → ℝ) (r : ℕ) (k : Fin 512) : side a0 a1 a2 r (512 * 2 + k.val) = a2 r k.val := by
  unfold side
  rw [if_neg (by omega), if_neg (by omega), if_pos (by omega), show 512 * 2 + k.val - 1024 = k.val by omega]

/-- The real numbers of the nine arguments. -/
def inOf (a0 a1 a2 : S4096x512.Idx → EReal) (a3 : S1536x1024.Idx → EReal) (a4 a5 a6 : S4096x1024.Idx → EReal) (a7 a8 : S1x1024.Idx → EReal) : In where
  gp := side (fun r k => at2 a0 r k) (fun r k => at2 a1 r k) (fun r k => at2 a2 r k)
  w := fun q l k => at2 a3 (512 * q + k) l
  x := fun r l => at2 a4 r l
  y := fun r l => at2 a5 r l
  go := fun r l => at2 a6 r l
  gpre := fun l => at2 a7 0 l
  gpost := fun l => at2 a8 0 l

theorem three (a0 a1 a2 : S4096x512.Idx → EReal) (a3 : S1536x1024.Idx → EReal) (a4 a5 a6 : S4096x1024.Idx → EReal) (a7 a8 : S1x1024.Idx → EReal) :
    Three (inOf a0 a1 a2 a3 a4 a5 a6 a7 a8) where
  none := fun r n h => by
    show side _ _ _ r n = 0
    unfold side
    rw [if_neg (by omega), if_neg (by omega), if_neg (by omega)]

/-- The reference's product: the three parts side by side, times the weight. -/
def ghA (a0 a1 a2 : FVec Ideal S4096x512 .f32) (a3 : FVec Ideal S1536x1024 .bf16) : FVec Ideal S4096x1024 .f32 :=
  Host.dotGeneral (φ₁ := .f32) (φ₂ := .f32) Cert.Reference7Ideal.dot_S4096x1536_S1024x1536_S4096x1024_1_1_0_0_n_n none
    (concatenate Cert.Reference7Ideal.S4096x1536 1 [⟨S4096x512, a0⟩, ⟨S4096x512, a1⟩, ⟨S4096x512, a2⟩]
      Cert.Reference7Ideal.Gen.concatenates_S4096x512_S4096x512_S4096x512_S4096x1536_d1 : FVec Ideal Cert.Reference7Ideal.S4096x1536 .f32)
    (extf .f32 (transpose Cert.Reference7Ideal.S1024x1536 [1, 0] a3 Cert.Reference7Ideal.Gen.transposes_S1536x1024_S1024x1536_1_0) Cert.Reference7Ideal.Gen.bitsLt_bf16_f32)

theorem ghA_apply {a0 a1 a2 : FVec Ideal S4096x512 .f32} {a3 : FVec Ideal S1536x1024 .bf16} {a4 a5 a6 : FVec Ideal S4096x1024 .f32} {a7 a8 : FVec Ideal S1x1024 .f32}
    (r0 : ∀ i, IsReal (a0 i)) (r1 : ∀ i, IsReal (a1 i)) (r2 : ∀ i, IsReal (a2 i)) (r3 : ∀ i, IsReal (a3 i)) :
    Is (ghA a0 a1 a2 a3) (inOf a0 a1 a2 a3 a4 a5 a6 a7 a8).gh := by
  intro r l
  rw [gh_short _ 1536 (by decide) _ _ fun k hk => by rw [(three a0 a1 a2 a3 a4 a5 a6 a7 a8).none _ k hk, zero_mul]]
  pointwise [ghA, Cert.Reference7Ideal.dot_S4096x1536_S1024x1536_S4096x1024_1_1_0_0_n_n]
  simp only [at2_eq r0 _ _, at2_eq r1 _ _, at2_eq r2 _ _, at2_eq r3 _ _]
  rw [Reals.coe_sum]
  refine Finset.sum_congr rfl fun n _ => ?_
  rw [EReal.coe_mul]
  refine congrArg₂ (· * ·) ?_ ?_
  · show _ = ((side _ _ _ r.val n.val : ℝ) : EReal)
    have hn := n.isLt
    unfold side
    by_cases h : n.val < 512
    · rw [dif_pos h, if_pos h]
    · by_cases h' : n.val - 512 < 512
      · rw [dif_neg h, dif_pos h', if_neg h, if_pos (by omega)]
      · rw [dif_neg h, dif_neg h', if_neg h, if_neg (by omega), if_pos (by omega), Nat.sub_sub]
  · exact congrArg (fun k => ((at2 a3 k l.val : ℝ) : EReal)) (Nat.div_add_mod n.val 512).symm

variable (m : (ℓ : Loc Cert.Kernel7Ideal.nD Cert.Kernel7Ideal.τ Cert.Kernel7Ideal.sig) → Buf (Elt Ideal) ℓ) (c : Dev Cert.Kernel7Ideal.nD)
  (m' : (ℓ : Loc Cert.Reference7Ideal.nD Cert.Reference7Ideal.τ Cert.Reference7Ideal.sig) → Buf (Elt Ideal) ℓ)

/-- An argument of the kernel on a device. -/
abbrev arg (b : Ref Cert.Kernel7Ideal.sig .tc) : Buf (Elt Ideal) ((c.tc : Thread Cert.Kernel7Ideal.nD Cert.Kernel7Ideal.τ).loc b) :=
  m ((c.tc : Thread Cert.Kernel7Ideal.nD Cert.Kernel7Ideal.τ).loc b)

/-- The real numbers of a device's arguments. -/
def inAt : In :=
  inOf (arg m c Cert.Kernel7Ideal.main_arg0) (arg m c Cert.Kernel7Ideal.main_arg1) (arg m c Cert.Kernel7Ideal.main_arg2) (arg m c Cert.Kernel7Ideal.main_arg3)
    (arg m c Cert.Kernel7Ideal.main_arg4) (arg m c Cert.Kernel7Ideal.main_arg5) (arg m c Cert.Kernel7Ideal.main_arg6) (arg m c Cert.Kernel7Ideal.main_arg7)
    (arg m c Cert.Kernel7Ideal.main_arg8)

/-- The residual sum as the region finds it. -/
theorem mid_host : (Cert.Kernel7Ideal.Gen.V m c Cert.Kernel7Ideal.main_v12 : FVec Ideal S4096x1024 .f32)
    = midA (arg m c Cert.Kernel7Ideal.main_arg4) (arg m c Cert.Kernel7Ideal.main_arg5) (arg m c Cert.Kernel7Ideal.main_arg8) := by
  unfold Cert.Kernel7Ideal.Gen.V
  after_reads_simp <;> rfl

/-- The residual sum's reciprocal roots as the region finds them. -/
theorem rx_host : (Cert.Kernel7Ideal.Gen.V m c Cert.Kernel7Ideal.main_v20 : FVec Ideal S4096x1 .f32)
    = rrmsA (midA (arg m c Cert.Kernel7Ideal.main_arg4) (arg m c Cert.Kernel7Ideal.main_arg5) (arg m c Cert.Kernel7Ideal.main_arg8)) := by
  unfold Cert.Kernel7Ideal.Gen.V
  after_reads_simp <;> rfl

/-- The mixer's output's reciprocal roots as the region finds them. -/
theorem ry_host : (Cert.Kernel7Ideal.Gen.V m c Cert.Kernel7Ideal.main_v28 : FVec Ideal S4096x1 .f32) = rrmsA (arg m c Cert.Kernel7Ideal.main_arg5) := by
  unfold Cert.Kernel7Ideal.Gen.V
  after_reads_simp <;> rfl

/-- The arguments of the kernel on a device are real numbers. -/
structure Real : Prop where
  r0 : ∀ i : S4096x512.Idx, IsReal ((arg m c Cert.Kernel7Ideal.main_arg0 : S4096x512.Idx → EReal) i)
  r1 : ∀ i : S4096x512.Idx, IsReal ((arg m c Cert.Kernel7Ideal.main_arg1 : S4096x512.Idx → EReal) i)
  r2 : ∀ i : S4096x512.Idx, IsReal ((arg m c Cert.Kernel7Ideal.main_arg2 : S4096x512.Idx → EReal) i)
  r3 : ∀ i : S1536x1024.Idx, IsReal ((arg m c Cert.Kernel7Ideal.main_arg3 : S1536x1024.Idx → EReal) i)
  r4 : ∀ i : S4096x1024.Idx, IsReal ((arg m c Cert.Kernel7Ideal.main_arg4 : S4096x1024.Idx → EReal) i)
  r5 : ∀ i : S4096x1024.Idx, IsReal ((arg m c Cert.Kernel7Ideal.main_arg5 : S4096x1024.Idx → EReal) i)
  r6 : ∀ i : S4096x1024.Idx, IsReal ((arg m c Cert.Kernel7Ideal.main_arg6 : S4096x1024.Idx → EReal) i)
  r7 : ∀ i : S1x1024.Idx, IsReal ((arg m c Cert.Kernel7Ideal.main_arg7 : S1x1024.Idx → EReal) i)
  r8 : ∀ i : S1x1024.Idx, IsReal ((arg m c Cert.Kernel7Ideal.main_arg8 : S1x1024.Idx → EReal) i)

theorem real (h : Cert.Pre_Kernel7Ideal_finite7 m) : Real m c := by
  obtain ⟨r0, r1, r2, r3, r4, r5, r6, r7, r8⟩ := real_of_pre (h c)
  exact ⟨r0, r1, r2, r3, r4, r5, r6, r7, r8⟩

variable {m c} (R : Real m c)
include R

theorem x_is : Is (arg m c Cert.Kernel7Ideal.main_arg4) (inAt m c).x := fun r l => at2_eq R.r4 r l
theorem y_is : Is (arg m c Cert.Kernel7Ideal.main_arg5) (inAt m c).y := fun r l => at2_eq R.r5 r l
theorem go_is : Is (arg m c Cert.Kernel7Ideal.main_arg6) (inAt m c).go := fun r l => at2_eq R.r6 r l
theorem pre_is : IsRow (arg m c Cert.Kernel7Ideal.main_arg7) (inAt m c).gpre := row_eq R.r7
theorem post_is : IsRow (arg m c Cert.Kernel7Ideal.main_arg8) (inAt m c).gpost := row_eq R.r8

theorem gh_is : Is (ghA (arg m c Cert.Kernel7Ideal.main_arg0) (arg m c Cert.Kernel7Ideal.main_arg1) (arg m c Cert.Kernel7Ideal.main_arg2)
    (arg m c Cert.Kernel7Ideal.main_arg3)) (inAt m c).gh := ghA_apply R.r0 R.r1 R.r2 R.r3

theorem reads : Reads m (inAt m c) c := by
  have hm := midA_apply (inAt m c) (x_is R) (y_is R) (post_is R)
  exact {
    three := three _ _ _ _ _ _ _ _ _
    g0 := fun r k => (congrFun (Cert.Kernel7Ideal.Gen.V_main_arg0 m c) _).trans ((at2_eq R.r0 r k).trans (congrArg (fun a : ℝ => (a : EReal)) (side0 _ _ _ _ _).symm))
    g1 := fun r k => (congrFun (Cert.Kernel7Ideal.Gen.V_main_arg1 m c) _).trans ((at2_eq R.r1 r k).trans (congrArg (fun a : ℝ => (a : EReal)) (side1 _ _ _ _ _).symm))
    g2 := fun r k => (congrFun (Cert.Kernel7Ideal.Gen.V_main_arg2 m c) _).trans ((at2_eq R.r2 r k).trans (congrArg (fun a : ℝ => (a : EReal)) (side2 _ _ _ _ _).symm))
    h1 := fun q k l h => (congrFun (Cert.Kernel7Ideal.Gen.V_main_arg3 m c) _).trans (at2_eq R.r3 ⟨512 * q + k.val, h⟩ l)
    h2 := fun r l => (congrFun (mid_host m c) _).trans (hm r l)
    h3 := fun r l => (congrFun (Cert.Kernel7Ideal.Gen.V_main_arg6 m c) _).trans (go_is R r l)
    h4 := fun r l => (congrFun (Cert.Kernel7Ideal.Gen.V_main_arg5 m c) _).trans (y_is R r l)
    h5 := fun r z => (congrFun (rx_host m c) _).trans (rrmsA_apply hm r z)
    h6 := fun r z => (congrFun (ry_host m c) _).trans (rrmsA_apply (y_is R) r z)
    h7 := fun z l => (congrFun (Cert.Kernel7Ideal.Gen.V_main_arg7 m c) _).trans (pre_is R z l)
    h8 := fun z l => (congrFun (Cert.Kernel7Ideal.Gen.V_main_arg8 m c) _).trans (post_is R z l) }

omit R

/-- An argument of the reference on a device. -/
abbrev arg' (m' : (ℓ : Loc Cert.Reference7Ideal.nD Cert.Reference7Ideal.τ Cert.Reference7Ideal.sig) → Buf (Elt Ideal) ℓ) (c' : Dev Cert.Reference7Ideal.nD)
    (b : Ref Cert.Reference7Ideal.sig .tc) : Buf (Elt Ideal) ((c'.tc : Thread Cert.Reference7Ideal.nD Cert.Reference7Ideal.τ).loc b) :=
  m' ((c'.tc : Thread Cert.Reference7Ideal.nD Cert.Reference7Ideal.τ).loc b)

/-- The reference's gradient at the residual sum on a device. -/
abbrev giR (c' : Dev Cert.Reference7Ideal.nD) : FVec Ideal S4096x1024 .f32 :=
  giA (arg' m' c' Cert.Reference7Ideal.main_arg6)
    (ghA (arg' m' c' Cert.Reference7Ideal.main_arg0) (arg' m' c' Cert.Reference7Ideal.main_arg1) (arg' m' c' Cert.Reference7Ideal.main_arg2)
      (arg' m' c' Cert.Reference7Ideal.main_arg3))
    (midA (arg' m' c' Cert.Reference7Ideal.main_arg4) (arg' m' c' Cert.Reference7Ideal.main_arg5) (arg' m' c' Cert.Reference7Ideal.main_arg8))
    (arg' m' c' Cert.Reference7Ideal.main_arg7)

theorem res_gy (c' : Dev Cert.Reference7Ideal.nD) : (Cert.Reference7Ideal.Value.res_main_v76 m' c' : FVec Ideal S4096x1024 .bf16)
    = gyA (shapeCast S4096x1024 (giR m' c') Cert.Reference6Ideal.Gen.shapeCasts_S4096x1024_S4096x1024) (arg' m' c' Cert.Reference7Ideal.main_arg5)
        (arg' m' c' Cert.Reference7Ideal.main_arg8) := rfl

theorem res_ggpost (c' : Dev Cert.Reference7Ideal.nD) : (Cert.Reference7Ideal.Value.res_main_v59 m' c' : FVec Ideal S1x1024 .f32)
    = ggA (shapeCast S4096x1024 (giR m' c') Cert.Reference6Ideal.Gen.shapeCasts_S4096x1024_S4096x1024) (arg' m' c' Cert.Reference7Ideal.main_arg5) := rfl

theorem algebraic : Cert.algebraic_Kernel7Ideal_Reference7Ideal_pre_finite7 := by
  intro m ρ m' ρ' hpre hagree
  have R : ∀ c, Real m c := fun c => real m c hpre
  refine ⟨fun c j => (((inAt m c).gi (j 0).val (j 1).val : ℝ) : EReal), fun c j => (((inAt m c).ggpre (j 1).val : ℝ) : EReal),
    fun c j => (((inAt m c).gy (j 0).val (j 1).val : ℝ) : EReal), fun c j => (((inAt m c).ggpost (j 1).val : ℝ) : EReal),
    (θ_run _ _ _).mono (fun r h c => ?_) (Cert.Kernel7Ideal.Value.run_blocks m ρ), (θ_run _ _ _).mono (fun r h c => ?_) (Cert.Reference7Ideal.Value.run m' ρ')⟩
  · exact ⟨(h c).1.trans (arr11 (reads (R c))), (h c).2.1.trans (arr12 (reads (R c))), (h c).2.2.1.trans (arr13 (reads (R c))), (h c).2.2.2.1.trans (arr14 (reads (R c))),
      (h c).2.2.2.2⟩
  · obtain ⟨h0, h1, h2, h3, h4, h5, h6, h7, h8⟩ := hagree c
    have e0 : Is (ghA (arg' m' c Cert.Reference7Ideal.main_arg0) (arg' m' c Cert.Reference7Ideal.main_arg1) (arg' m' c Cert.Reference7Ideal.main_arg2)
        (arg' m' c Cert.Reference7Ideal.main_arg3)) (inAt m c).gh := by
      unfold arg'
      rw [h0, h1, h2, h3]
      exact gh_is (R c)
    have e4 : Is (arg' m' c Cert.Reference7Ideal.main_arg4) (inAt m c).x := fun r l => (congrFun h4 _).trans (x_is (R c) r l)
    have e5 : Is (arg' m' c Cert.Reference7Ideal.main_arg5) (inAt m c).y := fun r l => (congrFun h5 _).trans (y_is (R c) r l)
    have e6 : Is (arg' m' c Cert.Reference7Ideal.main_arg6) (inAt m c).go := fun r l => (congrFun h6 _).trans (go_is (R c) r l)
    have e7 : IsRow (arg' m' c Cert.Reference7Ideal.main_arg7) (inAt m c).gpre := fun z l => (congrFun h7 _).trans (pre_is (R c) z l)
    have e8 : IsRow (arg' m' c Cert.Reference7Ideal.main_arg8) (inAt m c).gpost := fun z l => (congrFun h8 _).trans (post_is (R c) z l)
    exact ⟨(h c).1.trans (arr_eq (giA_apply _ e0 e4 e5 e6 e7 e8)), (h c).2.1.trans (rowArr_eq (ggpreA_apply _ e0 e4 e5 e8)),
      (h c).2.2.1.trans ((Cert.MlpH.WinOdd.res_gy m' c).trans (arr_eq (by rw [same_shape]; exact gyA_apply _ e0 e4 e5 e6 e7 e8))),
      (h c).2.2.2.1.trans ((Cert.MlpH.WinOdd.res_ggpost m' c).trans (rowArr_eq (by rw [same_shape]; exact ggpostA_apply _ e0 e4 e5 e6 e7 e8))), (h c).2.2.2.2⟩

end Cert.MlpH.WinOdd

end
-- ==== Proof.WinEvenHPoint.lean ====
/- The kernel of the gradient at the attention layer's input at one grid point: the blocks it reads are rows `512 t` on
   of arrays that hold real numbers, so what it stores holds the plain functions of those arrays. The product here is over
   four parts of 512 columns and one of 128, side by side; past it the functions are those of the gradient at the
   perceptron's input, with the layer's input in the place of the residual sum. -/
module

public import proofs.«01_k».proof.Proof.MlpHPay
public import proofs.«01_k».proof.Proof.Gen.Kernel10Ideal
public import proofs.«01_k».proof.Proof.Gen.Kernel10Ideal.Value
public import Idealize.ShloMosaic.Lib.Pipeline.ReadBack
public import Idealize.ShloMosaic.Lib.Pipeline.ValueKit

@[expose] public section

set_option maxRecDepth 16384

noncomputable section

namespace Cert.MlpH.WinEven

open Idealize.ShloMosaic Idealize.ShloMosaic.TcCoe Idealize.SL.Sem Idealize.ShloMosaic.StableHlo Cert.Sgu Cert.MlpH
open Cert.MlpH.Kernel (Holds HoldsCol HoldsRow part gh_eq d_apply gi_apply pre_apply pre_next prePart)
open Cert.Kernel10Ideal Cert.Kernel10Ideal.Gen Cert.Kernel10Ideal.Value

variable (m : (ℓ : Loc nD τ sig) → Buf (Elt Ideal) ℓ) (I : In)

/-- The five parts of the gradient at the projection stand side by side, and nothing past them. -/
structure Five : Prop where
  none : ∀ r n, 2176 ≤ n → I.gp r n = 0

/-- What the last part, of 128 columns, gives. -/
def last (r l : ℕ) : ℝ := ∑ k : Fin 128, I.gp r (512 * 4 + k.val) * I.w 4 l k.val

variable {I} in
theorem Five.gh (T : Five I) (r l : ℕ) : I.gh r l = part I 0 r l + part I 1 r l + part I 2 r l + part I 3 r l + last I r l := by
  have z : ∀ q, 5 ≤ q → part I q r l = 0 := fun q hq => Finset.sum_eq_zero fun k _ => by rw [T.none r _ (by omega), zero_mul]
  have f : part I 4 r l = last I r l := by
    unfold part last
    rw [Fin.sum_univ_eq_sum_range (fun k => I.gp r (512 * 4 + k) * I.w 4 l k) 512, Fin.sum_univ_eq_sum_range (fun k => I.gp r (512 * 4 + k) * I.w 4 l k) 128]
    refine (Finset.sum_subset (fun k hk => Finset.mem_range.mpr ((Finset.mem_range.mp hk).trans_le (by decide))) fun k _ hk => ?_).symm
    have hk' : 128 ≤ k := by simpa using hk
    rw [T.none r _ (by omega), zero_mul]
  rw [gh_eq, z 5 (by omega), z 6 (by omega), z 7 (by omega), f]
  simp only [add_zero]

/-- The arrays that the region reads hold real numbers: the arguments, the padded weight and the reciprocal roots. -/
structure Reads (c : Dev nD) : Prop where
  five : Five I
  g0 : ∀ (r : Fin 4096) (k : Fin 512), V m c main_arg0 (ix2 r k) = ((I.gp r.val (512 * 0 + k.val) : ℝ) : EReal)
  g1 : ∀ (r : Fin 4096) (k : Fin 512), V m c main_arg1 (ix2 r k) = ((I.gp r.val (512 * 1 + k.val) : ℝ) : EReal)
  g2 : ∀ (r : Fin 4096) (k : Fin 512), V m c main_arg2 (ix2 r k) = ((I.gp r.val (512 * 2 + k.val) : ℝ) : EReal)
  g3 : ∀ (r : Fin 4096) (k : Fin 512), V m c main_arg3 (ix2 r k) = ((I.gp r.val (512 * 3 + k.val) : ℝ) : EReal)
  g4 : ∀ (r : Fin 4096) (k : Fin 128), V m c main_arg4 (ix2 r k) = ((I.gp r.val (512 * 4 + k.val) : ℝ) : EReal)
  h1 : ∀ (q k : ℕ) (l : Fin 1024) (h : 512 * q + k < 2176), V m c main_v0 (ix2 ⟨512 * q + k, h⟩ l) = ((I.w q l.val k : ℝ) : EReal)
  h2 : ∀ (r : Fin 4096) (l : Fin 1024), V m c main_arg6 (ix2 r l) = ((I.mid r.val l.val : ℝ) : EReal)
  h3 : ∀ (r : Fin 4096) (l : Fin 1024), V m c main_arg7 (ix2 r l) = ((I.go r.val l.val : ℝ) : EReal)
  h5 : ∀ (r : Fin 4096) (z : Fin 1), V m c main_v8 (ix2 r z) = ((rrms (I.mid r.val) : ℝ) : EReal)
  h7 : ∀ (z : Fin 1) (l : Fin 1024), V m c main_arg8 (ix2 z l) = ((I.gpre l.val : ℝ) : EReal)

/-- Part `q` of the gradient at the projection, rows `r0` on. -/
abbrev Left (r0 q : ℕ) {n : ℕ} (x : FVec Ideal ⟨2, ![512, n]⟩ .f32) : Prop :=
  ∀ (y : Fin 512) (k : Fin n), x (ix2 y k) = ((I.gp (r0 + y.val) (512 * q + k.val) : ℝ) : EReal)

/-- Rows `512 q` on of the weight. -/
abbrev Right (q : ℕ) {n : ℕ} (x : FVec Ideal ⟨2, ![n, 1024]⟩ .bf16) : Prop :=
  ∀ (k : Fin n) (l : Fin 1024), x (ix2 k l) = ((I.w q l.val k.val : ℝ) : EReal)

variable {I} in
/-- The product with the weight, over its five parts. -/
theorem gh_apply (T : Five I) (r0 : ℕ) {a0 a1 a2 a3 : FVec Ideal S512x512 .f32} {a4 : FVec Ideal S512x128 .f32} {b0 b1 b2 b3 : FVec Ideal S512x1024 .bf16}
    {b4 : FVec Ideal S128x1024 .bf16} (h0 : Left I r0 0 a0) (h1 : Left I r0 1 a1) (h2 : Left I r0 2 a2) (h3 : Left I r0 3 a3) (h4 : Left I r0 4 a4)
    (g0 : Right I 0 b0) (g1 : Right I 1 b1) (g2 : Right I 2 b2) (g3 : Right I 3 b3) (g4 : Right I 4 b4) :
    Holds r0 (k0_pay6 (F := Ideal) a0 b0 a1 b1 a2 b2 a3 b3 a4 b4) I.gh := by
  intro y l
  rw [T.gh]
  pointwise [k0_pay6, dot_S512x512_S512x1024_S512x1024_1_0_0_1_n_n, dot_S512x128_S128x1024_S512x1024_1_0_0_1_n_n]
  simp only [h0 _ _, h1 _ _, h2 _ _, h3 _ _, h4 _ _, g0 _ _, g1 _ _, g2 _ _, g3 _ _, g4 _ _, ← EReal.coe_mul, ← Reals.coe_sum, ← EReal.coe_add]
  rfl

/-- The blocks' indices at each grid point. -/
theorem idx : ∀ t, win0_0.index t = ![t.val, 0] ∧ win0_1.index t = ![t.val, 0] ∧ win0_2.index t = ![t.val, 0] ∧ win0_3.index t = ![t.val, 0] ∧ win0_4.index t = ![t.val, 0] ∧
    win0_5.index t = ![0, 0] ∧ win0_6.index t = ![t.val, 0] ∧ win0_7.index t = ![t.val, 0] ∧ win0_8.index t = ![t.val, 0] ∧ win0_9.index t = ![0, 0] ∧ win0_10.index t = ![t.val, 0] ∧ win0_11.index t = ![0, 0] := by
  decide +kernel

theorem lt8 (t : Fin cfg0.N) : t.val < 8 := t.isLt

/-- The row of a block, in the whole array. -/
def row (t : Fin cfg0.N) (y : Fin 512) : Fin 4096 := ⟨512 * t.val + y.val, by have := lt8 t; omega⟩

variable {m I} {c : Dev nD} (H : Reads m I c) (t : Fin cfg0.N)
include H

theorem iblk0 : Left I (512 * t.val) 0 (n := 512) (iblk m c 0 t) := by
  intro y k
  have e : iblk m c 0 t (ix2 y k) = V m c main_arg0 (ix2 (row t y) k) := by
    unfold row
    blk_ext [iblk, (idx t).1]
  rw [e, H.g0]; rfl

theorem iblk1 : Left I (512 * t.val) 1 (n := 512) (iblk m c 1 t) := by
  intro y k
  have e : iblk m c 1 t (ix2 y k) = V m c main_arg1 (ix2 (row t y) k) := by
    unfold row
    blk_ext [iblk, (idx t).2.1]
  rw [e, H.g1]; rfl

theorem iblk2 : Left I (512 * t.val) 2 (n := 512) (iblk m c 2 t) := by
  intro y k
  have e : iblk m c 2 t (ix2 y k) = V m c main_arg2 (ix2 (row t y) k) := by
    unfold row
    blk_ext [iblk, (idx t).2.2.1]
  rw [e, H.g2]; rfl

theorem iblk3 : Left I (512 * t.val) 3 (n := 512) (iblk m c 3 t) := by
  intro y k
  have e : iblk m c 3 t (ix2 y k) = V m c main_arg3 (ix2 (row t y) k) := by
    unfold row
    blk_ext [iblk, (idx t).2.2.2.1]
  rw [e, H.g3]; rfl

theorem iblk4 : Left I (512 * t.val) 4 (n := 128) (iblk m c 4 t) := by
  intro y k
  have e : iblk m c 4 t (ix2 y k) = V m c main_arg4 (ix2 (row t y) k) := by
    unfold row
    blk_ext [iblk, (idx t).2.2.2.2.1]
  rw [e, H.g4]; rfl

theorem iblk5 (n : Fin 2176) (l : Fin 1024) : iblk m c 5 t (ix2 n l) = V m c main_v0 (ix2 n l) := by
  blk_ext [iblk, (idx t).2.2.2.2.2.1]

theorem iblk6 : Holds (512 * t.val) (φ := .f32) (iblk m c 6 t) I.mid := by
  intro y l
  have e : iblk m c 6 t (ix2 y l) = V m c main_arg6 (ix2 (row t y) l) := by
    unfold row
    blk_ext [iblk, (idx t).2.2.2.2.2.2.1]
  rw [e, H.h2]; rfl

theorem iblk7 : Holds (512 * t.val) (φ := .f32) (iblk m c 7 t) I.go := by
  intro y l
  have e : iblk m c 7 t (ix2 y l) = V m c main_arg7 (ix2 (row t y) l) := by
    unfold row
    blk_ext [iblk, (idx t).2.2.2.2.2.2.2.1]
  rw [e, H.h3]; rfl

theorem iblk8 : HoldsCol (512 * t.val) (iblk m c 8 t) (fun r => rrms (I.mid r)) := by
  intro y z
  have e : iblk m c 8 t (ix2 y z) = V m c main_v8 (ix2 (row t y) z) := by
    unfold row
    blk_ext [iblk, (idx t).2.2.2.2.2.2.2.2.1]
  rw [e, H.h5]; rfl

theorem iblk9 : HoldsRow (iblk m c 9 t) I.gpre := by
  intro z l
  have e : iblk m c 9 t (ix2 z l) = V m c main_arg8 (ix2 z l) := by blk_ext [iblk, (idx t).2.2.2.2.2.2.2.2.2.1]
  rw [e, H.h7]

/-- Rows `512 q` on, loaded from the weight's block. -/
theorem right_at (q n o : ℕ) (hn : 512 * q + n ≤ 2176) (ho : o = 512 * q) (hb : ∀ a, (![o, 0] : Fin 2 → ℕ) a + (![n, 1024] : Fin 2 → ℕ) a ≤ S2176x1024.size a) :
    Right I q (n := n) (View.ld (iblk m c 5 t) (Rect.unit (s := S2176x1024) ![o, 0] ![n, 1024] hb)) := by
  intro k l
  have hk := k.isLt
  subst ho
  refine (View.ld_unit_apply_of _ _ _ _ _ (ix2 ⟨512 * q + k.val, by omega⟩ l) fun a => ?_).trans ((iblk5 H t _ _).trans (H.h1 q k.val l (by omega)))
  match a with
  | ⟨0, _⟩ => rfl
  | ⟨1, _⟩ => exact (Nat.zero_add _).symm

/-- The column of reciprocal roots as the body reads it. -/
theorem rx_at : HoldsCol (512 * t.val) (k0_pay1 (F := Ideal) (iblk m c 8 t)) (fun r => rrms (I.mid r)) := by
  intro y z
  pointwise [k0_pay1]
  rw [iblk8 H]

omit H in
/-- The body's product at the point: five products of a part of the rows with rows of the weight. -/
def ghB (m : (ℓ : Loc nD τ sig) → Buf (Elt Ideal) ℓ) (c : Dev nD) (t : Fin cfg0.N) : FVec Ideal S512x1024 .f32 :=
  k0_pay6 (F := Ideal) (iblk m c 0 t) (View.ld (iblk m c 5 t) (Rect.unit (s := S2176x1024) ![0, 0] ![512, 1024] inb_S2176x1024_S512x1024_0_0))
    (iblk m c 1 t) (View.ld (iblk m c 5 t) (Rect.unit (s := S2176x1024) ![512, 0] ![512, 1024] inb_S2176x1024_S512x1024_512_0))
    (iblk m c 2 t) (View.ld (iblk m c 5 t) (Rect.unit (s := S2176x1024) ![1024, 0] ![512, 1024] inb_S2176x1024_S512x1024_1024_0))
    (iblk m c 3 t) (View.ld (iblk m c 5 t) (Rect.unit (s := S2176x1024) ![1536, 0] ![512, 1024] inb_S2176x1024_S512x1024_1536_0))
    (iblk m c 4 t) (View.ld (iblk m c 5 t) (Rect.unit (s := S2176x1024) ![2048, 0] ![128, 1024] inb_S2176x1024_S128x1024_2048_0))

omit H in
/-- The body's gradient at the normalised input. -/
def dB (m : (ℓ : Loc nD τ sig) → Buf (Elt Ideal) ℓ) (c : Dev nD) (t : Fin cfg0.N) : FVec Ideal S512x1024 .f32 :=
  mulf (ghB m c t) (broadcastTo S512x1024 (iblk m c 9 t) broadcasts_S1x1024_S512x1024)

omit H in
/-- The body's normalised input. -/
def nB (m : (ℓ : Loc nD τ sig) → Buf (Elt Ideal) ℓ) (c : Dev nD) (t : Fin cfg0.N) : FVec Ideal S512x1024 .f32 :=
  k0_pay2 (F := Ideal) (iblk m c 6 t) (iblk m c 8 t)

theorem gh_at : Holds (512 * t.val) (ghB m c t) I.gh :=
  gh_apply H.five (512 * t.val) (iblk0 H t) (iblk1 H t) (iblk2 H t) (iblk3 H t) (iblk4 H t) (right_at H t 0 512 0 (by decide) rfl _)
    (right_at H t 1 512 512 (by decide) rfl _) (right_at H t 2 512 1024 (by decide) rfl _) (right_at H t 3 512 1536 (by decide) rfl _)
    (right_at H t 4 128 2048 (by decide) rfl _)

theorem n_at : Holds (512 * t.val) (nB m c t) (fun r l => I.mid r l * rrms (I.mid r)) := by
  intro y l
  unfold nB
  pointwise [k0_pay2, k0_pay1]
  rw [iblk6 H, iblk8 H, ← EReal.coe_mul]

theorem d_at : Holds (512 * t.val) (dB m c t) (fun r l => I.gh r l * I.gpre l) := d_apply I (512 * t.val) (gh_at H t) (iblk9 H t)

/-- What a point stores of the gradient at the input. -/
theorem outs_gi (y : S512x1024.Idx) : (outsAt0 m c t.val t.isLt).1 y = ((I.gi (512 * t.val + (y 0).val) (y 1).val : ℝ) : EReal) := by
  have h8 := lt8 t
  rw [eq_ix2 y]
  by_cases h : t.val % 8 = 0
  · rw [outsAt0_A m c t h (by omega)]
    frame_out
    exact gi_apply I (512 * t.val) (iblk7 H t) (rx_at H t) (n_at H t) (d_at H t) _ _
  · rw [outsAt0_B m c t h (by omega)]
    frame_out
    exact gi_apply I (512 * t.val) (iblk7 H t) (rx_at H t) (n_at H t) (d_at H t) _ _

theorem outs_pre_first (h : t.val % 8 = 0) (y : S1x1024.Idx) :
    (outsAt0 m c t.val t.isLt).2 y = ((prePart I (512 * t.val) (y 1).val : ℝ) : EReal) := by
  have h8 := lt8 t
  rw [eq_ix2 y, outsAt0_A m c t h (by omega)]
  frame_out
  exact pre_apply I (512 * t.val) (gh_at H t) (n_at H t) _ _

theorem outs_pre_next (h : ¬ t.val % 8 = 0) (y : S1x1024.Idx) :
    (outsAt0 m c t.val t.isLt).2 y = (outsAt0 m c (t.val - 1) (by omega)).2 y + ((prePart I (512 * t.val) (y 1).val : ℝ) : EReal) := by
  rw [eq_ix2 y, outsAt0_B m c t h (by omega)]
  frame_out
  exact pre_next I _ _ (gh_at H t) (n_at H t) _ _

end Cert.MlpH.WinEven

end
-- ==== Proof.WinEvenHKernel.lean ====
/-
  THE KERNEL OF THE GRADIENT AT THE ATTENTION LAYER'S INPUT, ITS RESULT ARRAYS. The gradient over the tokens is tiled by
  the grid points' blocks; the gradient of the scale is a sum over the points, in the array after the last one.
-/
module

public import proofs.«01_k».proof.Proof.WinEvenHPoint
public import proofs.«01_k».proof.Proof.MlpHKernel
public import proofs.«01_k».proof.Proof.SguKernel

@[expose] public section

set_option maxRecDepth 16384

noncomputable section

namespace Cert.MlpH.WinEven

open Idealize.ShloMosaic Idealize.ShloMosaic.TcCoe Idealize.SL.Sem Idealize.ShloMosaic.StableHlo Cert.MlpH
open Cert.MlpH.Kernel (prePart pre_total)
open Cert.Kernel10Ideal Cert.Kernel10Ideal.Gen Cert.Kernel10Ideal.Value

variable {m : (ℓ : Loc nD τ sig) → Buf (Elt Ideal) ℓ} {I : In} {c : Dev nD} (H : Reads m I c)

theorem last11 : ∀ t : Fin cfg0.N, (cfg0.win 11).flush t = true → t.val = 7 := by decide +kernel

include H

/-- The gradient at the layer's input. -/
theorem arr10 : (dats m 0 c).arrAt 10 cfg0.N = fun j : S4096x1024.Idx => ((I.gi (j 0).val (j 1).val : ℝ) : EReal) := by
  refine (dats m 0 c).arrAt_eq_of_covers 10 _ (by decide +kernel) fun t hf y => ?_
  blk_simp
  rw [after0_10]
  refine (outs_gi H t y).trans ?_
  rw [(idx t).2.2.2.2.2.2.2.2.2.2.1]
  exact congrArg₂ (fun a b => ((I.gi a b : ℝ) : EReal)) (by show _ = t.val * 512 + _; omega) (by show _ = 0 * 1024 + _; omega)

/-- The gradient of the scale before the attention layer. -/
theorem arr11 : (dats m 0 c).arrAt 11 cfg0.N = fun j : S1x1024.Idx => ((I.ggpre (j 1).val : ℝ) : EReal) := by
  refine (dats m 0 c).arrAt_eq_of_covers 11 _ (by decide +kernel) fun t hf y => ?_
  blk_simp
  rw [after0_11]
  have h7 : t.val = 7 := last11 t hf
  refine (Cert.Sgu.acc_eq (fun n h => (outsAt0 m c n h).2 y) (fun k => prePart I (512 * k) (y 1).val) (fun t h => outs_pre_first H t h y)
    (fun t h => outs_pre_next H t h y) t.val t.isLt).trans ?_
  rw [h7, (idx t).2.2.2.2.2.2.2.2.2.2.2]
  refine congrArg (fun a : ℝ => (a : EReal)) ((pre_total _).trans ?_)
  exact congrArg (fun a => I.ggpre a) (by show _ = 0 * 1024 + _; omega)

end Cert.MlpH.WinEven

end
-- ==== Proof.WinEvenHClaim.lean ====
/-
  THE CLAIM ON THE GRADIENT AT THE ATTENTION LAYER'S INPUT: over the extended reals the kernel's two results are the
  reference's, on arguments of real numbers.
-/
module

public import proofs.«01_k».proof.Defs
public import proofs.«01_k».proof.Proof.Gen.Pre_finite10
public import proofs.«01_k».proof.Proof.Gen.Reference10Ideal
public import proofs.«01_k».proof.Proof.Gen.Reference10Ideal.Run
public import Idealize.ShloMosaic.Lib.StableHlo.RunRead
public import proofs.«01_k».proof.Proof.WinEvenHKernel
public import proofs.«01_k».proof.Proof.WinOddHClaim
public import proofs.«01_k».proof.Proof.Projections

@[expose] public section

set_option maxRecDepth 16384

noncomputable section

namespace Cert.MlpH.WinEven

open Idealize.ShloMosaic Idealize.ShloMosaic.TcCoe Idealize.SL.Sem Idealize.ShloMosaic.StableHlo Cert.Reals Cert.Sgu Cert.MlpH
open Cert.Kernel10Ideal (S4096x512 S4096x128 S2056x1024 S2176x1024 S4096x1024 S4096x1 S1x1024)
open Cert.MlpH.WinOdd (gh_short)

/-- Arguments that meet the precondition are real numbers. -/
theorem real_of_pre {a0 a1 a2 a3 : FVec Ideal S4096x512 .f32} {a4 : FVec Ideal S4096x128 .f32} {a5 : FVec Ideal S2056x1024 .bf16}
    {a6 a7 : FVec Ideal S4096x1024 .f32} {a8 : FVec Ideal S1x1024 .f32}
    (h : (Cert.Pre_finite10.fn a0 a1 a2 a3 a4 a5 a6 a7 a8).1 = (fun _ => 1#1) ∧ (Cert.Pre_finite10.fn a0 a1 a2 a3 a4 a5 a6 a7 a8).2.1 = (fun _ => 1#1)
      ∧ (Cert.Pre_finite10.fn a0 a1 a2 a3 a4 a5 a6 a7 a8).2.2.1 = (fun _ => 1#1) ∧ (Cert.Pre_finite10.fn a0 a1 a2 a3 a4 a5 a6 a7 a8).2.2.2.1 = (fun _ => 1#1)
      ∧ (Cert.Pre_finite10.fn a0 a1 a2 a3 a4 a5 a6 a7 a8).2.2.2.2.1 = (fun _ => 1#1) ∧ (Cert.Pre_finite10.fn a0 a1 a2 a3 a4 a5 a6 a7 a8).2.2.2.2.2.1 = (fun _ => 1#1)
      ∧ (Cert.Pre_finite10.fn a0 a1 a2 a3 a4 a5 a6 a7 a8).2.2.2.2.2.2.1 = (fun _ => 1#1) ∧ (Cert.Pre_finite10.fn a0 a1 a2 a3 a4 a5 a6 a7 a8).2.2.2.2.2.2.2.1 = (fun _ => 1#1)
      ∧ (Cert.Pre_finite10.fn a0 a1 a2 a3 a4 a5 a6 a7 a8).2.2.2.2.2.2.2.2 = (fun _ => 1#1)) :
    (∀ i, IsReal (a0 i)) ∧ (∀ i, IsReal (a1 i)) ∧ (∀ i, IsReal (a2 i)) ∧ (∀ i, IsReal (a3 i)) ∧ (∀ i, IsReal (a4 i)) ∧ (∀ i, IsReal (a5 i))
      ∧ (∀ i, IsReal (a6 i)) ∧ (∀ i, IsReal (a7 i)) ∧ ∀ i, IsReal (a8 i) := by
  obtain ⟨h0, h1, h2, h3, h4, h5, h6, h7, h8⟩ := h
  exact ⟨fun i => isReal_of_lt (congrFun h0 i), fun i => isReal_of_lt (congrFun h1 i), fun i => isReal_of_lt (congrFun h2 i), fun i => isReal_of_lt (congrFun h3 i),
    fun i => isReal_of_lt (congrFun h4 i), fun i => isReal_of_lt (congrFun h5 i), fun i => isReal_of_lt (congrFun h6 i), fun i => isReal_of_lt (congrFun h7 i),
    fun i => isReal_of_lt (congrFun h8 i)⟩

/-- The five parts side by side, zero past them. -/
def side (a0 a1 a2 a3 a4 : ℕ → ℕ → ℝ) (r n : ℕ) : ℝ :=
  if n < 512 then a0 r n else if n < 1024 then a1 r (n - 512) else if n < 1536 then a2 r (n - 1024) else if n < 2048 then a3 r (n - 1536)
  else if n < 2176 then a4 r (n - 2048) else 0

theorem side0 (a0 a1 a2 a3 a4 : ℕ → ℕ → ℝ) (r : ℕ) (k : Fin 512) : side a0 a1 a2 a3 a4 r (512 * 0 + k.val) = a0 r k.val := by
  unfold side
  rw [if_pos (by omega), Nat.mul_zero, Nat.zero_add]

theorem side1 (a0 a1 a2 a3 a4 : ℕ → ℕ → ℝ) (r : ℕ) (k : Fin 512) : side a0 a1 a2 a3 a4 r (512 * 1 + k.val) = a1 r k.val := by
  unfold side
  rw [if_neg (by omega), if_pos (by omega), show 512 * 1 + k.val - 512 = k.val by omega]

theorem side2 (a0 a1 a2 a3 a4 : ℕ → ℕ → ℝ) (r : ℕ) (k : Fin 512) : side a0 a1 a2 a3 a4 r (512 * 2 + k.val) = a2 r k.val := by
  unfold side
  rw [if_neg (by omega), if_neg (by omega), if_pos (by omega), show 512 * 2 + k.val - 1024 = k.val by omega]

theorem side3 (a0 a1 a2 a3 a4 : ℕ → ℕ → ℝ) (r : ℕ) (k : Fin 512) : side a0 a1 a2 a3 a4 r (512 * 3 + k.val) = a3 r k.val := by
  unfold side
  rw [if_neg (by omega), if_neg (by omega), if_neg (by omega), if_pos (by omega), show 512 * 3 + k.val - 1536 = k.val by omega]

theorem side4 (a0 a1 a2 a3 a4 : ℕ → ℕ → ℝ) (r : ℕ) (k : Fin 128) : side a0 a1 a2 a3 a4 r (512 * 4 + k.val) = a4 r k.val := by
  unfold side
  rw [if_neg (by omega), if_neg (by omega), if_neg (by omega), if_neg (by omega), if_pos (by omega), show 512 * 4 + k.val - 2048 = k.val by omega]

/-- The real numbers of the nine arguments. The weight is zero past its last row; there is no second norm. -/
def inOf (a0 a1 a2 a3 : S4096x512.Idx → EReal) (a4 : S4096x128.Idx → EReal) (a5 : S2056x1024.Idx → EReal) (a6 a7 : S4096x1024.Idx → EReal) (a8 : S1x1024.Idx → EReal) : In where
  gp := side (fun r k => at2 a0 r k) (fun r k => at2 a1 r k) (fun r k => at2 a2 r k) (fun r k => at2 a3 r k) (fun r k => at2 a4 r k)
  w := fun q l k => at2 a5 (512 * q + k) l
  x := fun r l => at2 a6 r l
  y := fun _ _ => 0
  go := fun r l => at2 a7 r l
  gpre := fun l => at2 a8 0 l
  gpost := fun _ => 0

theorem five (a0 a1 a2 a3 : S4096x512.Idx → EReal) (a4 : S4096x128.Idx → EReal) (a5 : S2056x1024.Idx → EReal) (a6 a7 : S4096x1024.Idx → EReal) (a8 : S1x1024.Idx → EReal) :
    Five (inOf a0 a1 a2 a3 a4 a5 a6 a7 a8) where
  none := fun r n h => by
    show side _ _ _ _ _ r n = 0
    unfold side
    rw [if_neg (by omega), if_neg (by omega), if_neg (by omega), if_neg (by omega), if_neg (by omega)]

theorem mid_eq (a0 a1 a2 a3 : S4096x512.Idx → EReal) (a4 : S4096x128.Idx → EReal) (a5 : S2056x1024.Idx → EReal) (a6 a7 : S4096x1024.Idx → EReal) (a8 : S1x1024.Idx → EReal) (r l : ℕ) :
    (inOf a0 a1 a2 a3 a4 a5 a6 a7 a8).mid r l = at2 a6 r l := by
  show at2 a6 r l + 0 * _ * 0 = _
  rw [mul_zero, add_zero]

/-- The weight's rows past its last one are zero. -/
theorem at2_past (a5 : S2056x1024.Idx → EReal) (n l : ℕ) (h : 2056 ≤ n) : at2 a5 n l = 0 := by
  unfold at2
  rw [dif_neg (by omega)]

/-- The reference's product: the five parts side by side, the last cut to eight columns, times the weight. -/
def ghA (a0 a1 a2 a3 : FVec Ideal S4096x512 .f32) (a4 : FVec Ideal S4096x128 .f32) (a5 : FVec Ideal S2056x1024 .bf16) : FVec Ideal S4096x1024 .f32 :=
  Host.dotGeneral (φ₁ := .f32) (φ₂ := .f32) Cert.Reference10Ideal.dot_S4096x2056_S1024x2056_S4096x1024_1_1_0_0_n_n none
    (concatenate Cert.Reference10Ideal.S4096x2056 1 [⟨S4096x512, a0⟩, ⟨S4096x512, a1⟩, ⟨S4096x512, a2⟩, ⟨S4096x512, a3⟩,
        ⟨Cert.Reference10Ideal.S4096x8, extractStridedSlice Cert.Reference10Ideal.S4096x8 ![0, 0] a4 Cert.Reference10Ideal.Gen.slices_S4096x128_S4096x8_0_0⟩]
      Cert.Reference10Ideal.Gen.concatenates_S4096x512_S4096x512_S4096x512_S4096x512_S4096x8_S4096x2056_d1 : FVec Ideal Cert.Reference10Ideal.S4096x2056 .f32)
    (extf .f32 (transpose Cert.Reference10Ideal.S1024x2056 [1, 0] a5 Cert.Reference10Ideal.Gen.transposes_S2056x1024_S1024x2056_1_0) Cert.Reference10Ideal.Gen.bitsLt_bf16_f32)

theorem ghA_apply {a0 a1 a2 a3 : FVec Ideal S4096x512 .f32} {a4 : FVec Ideal S4096x128 .f32} {a5 : FVec Ideal S2056x1024 .bf16} {a6 a7 : FVec Ideal S4096x1024 .f32} {a8 : FVec Ideal S1x1024 .f32}
    (r0 : ∀ i, IsReal (a0 i)) (r1 : ∀ i, IsReal (a1 i)) (r2 : ∀ i, IsReal (a2 i)) (r3 : ∀ i, IsReal (a3 i)) (r4 : ∀ i, IsReal (a4 i)) (r5 : ∀ i, IsReal (a5 i)) :
    Is (ghA a0 a1 a2 a3 a4 a5) (inOf a0 a1 a2 a3 a4 a5 a6 a7 a8).gh := by
  intro r l
  rw [gh_short _ 2056 (by decide) _ _ fun k hk => by
    show _ * at2 a5 (512 * (k / 512) + k % 512) l.val = 0
    rw [Nat.div_add_mod, at2_past a5 k l.val hk, mul_zero]]
  pointwise [ghA, Cert.Reference10Ideal.dot_S4096x2056_S1024x2056_S4096x1024_1_1_0_0_n_n]
  simp only [at2_eq r0 _ _, at2_eq r1 _ _, at2_eq r2 _ _, at2_eq r3 _ _, at2_eq r4 _ _, at2_eq r5 _ _]
  rw [Reals.coe_sum]
  refine Finset.sum_congr rfl fun n _ => ?_
  rw [EReal.coe_mul]
  refine congrArg₂ (· * ·) ?_ ?_
  · show _ = ((side _ _ _ _ _ r.val n.val : ℝ) : EReal)
    have hn := n.isLt
    unfold side
    by_cases h : n.val < 512
    · rw [dif_pos h, if_pos h]
    rw [dif_neg h, if_neg h]
    by_cases h1 : n.val - 512 < 512
    · rw [dif_pos h1, if_pos (by omega)]
    rw [dif_neg h1, if_neg (by omega)]
    by_cases h2 : n.val - 512 - 512 < 512
    · rw [dif_pos h2, if_pos (by omega), Nat.sub_sub]
    rw [dif_neg h2, if_neg (by omega)]
    by_cases h3 : n.val - 512 - 512 - 512 < 512
    · rw [dif_pos h3, if_pos (by omega), Nat.sub_sub, Nat.sub_sub]
    · rw [dif_neg h3, if_neg (by omega), if_pos (by omega), Nat.sub_sub, Nat.sub_sub, Nat.sub_sub]
  · exact congrArg (fun k => ((at2 a5 k l.val : ℝ) : EReal)) (Nat.div_add_mod n.val 512).symm

variable (m : (ℓ : Loc Cert.Kernel10Ideal.nD Cert.Kernel10Ideal.τ Cert.Kernel10Ideal.sig) → Buf (Elt Ideal) ℓ) (c : Dev Cert.Kernel10Ideal.nD)
  (m' : (ℓ : Loc Cert.Reference10Ideal.nD Cert.Reference10Ideal.τ Cert.Reference10Ideal.sig) → Buf (Elt Ideal) ℓ)

/-- An argument of the kernel on a device. -/
abbrev arg (b : Ref Cert.Kernel10Ideal.sig .tc) : Buf (Elt Ideal) ((c.tc : Thread Cert.Kernel10Ideal.nD Cert.Kernel10Ideal.τ).loc b) :=
  m ((c.tc : Thread Cert.Kernel10Ideal.nD Cert.Kernel10Ideal.τ).loc b)

/-- The real numbers of a device's arguments. -/
def inAt : In :=
  inOf (arg m c Cert.Kernel10Ideal.main_arg0) (arg m c Cert.Kernel10Ideal.main_arg1) (arg m c Cert.Kernel10Ideal.main_arg2) (arg m c Cert.Kernel10Ideal.main_arg3)
    (arg m c Cert.Kernel10Ideal.main_arg4) (arg m c Cert.Kernel10Ideal.main_arg5) (arg m c Cert.Kernel10Ideal.main_arg6) (arg m c Cert.Kernel10Ideal.main_arg7)
    (arg m c Cert.Kernel10Ideal.main_arg8)

/-- The padded weight as the region finds it. -/
theorem padded_host : (Cert.Kernel10Ideal.Gen.V m c Cert.Kernel10Ideal.main_v0 : FVec Ideal S2176x1024 .bf16)
    = pad S2176x1024 ![0, 0] ![120, 0] ![0, 0] (show FVec Ideal S2056x1024 .bf16 from arg m c Cert.Kernel10Ideal.main_arg5)
        (sitofp .bf16 (constantI Cert.Kernel10Ideal.S_ 32 0#32)) Cert.Kernel10Ideal.Gen.pads_S2056x1024_S2176x1024_01200_000 Cert.Kernel10Ideal.Gen.h_S_ := by
  unfold Cert.Kernel10Ideal.Gen.V
  after_reads_simp <;> rfl

/-- The input's reciprocal roots as the region finds them. -/
theorem rx_host : (Cert.Kernel10Ideal.Gen.V m c Cert.Kernel10Ideal.main_v8 : FVec Ideal S4096x1 .f32) = rrmsA (arg m c Cert.Kernel10Ideal.main_arg6) := by
  unfold Cert.Kernel10Ideal.Gen.V
  after_reads_simp <;> rfl

/-- The arguments of the kernel on a device are real numbers. -/
structure Real : Prop where
  r0 : ∀ i : S4096x512.Idx, IsReal ((arg m c Cert.Kernel10Ideal.main_arg0 : S4096x512.Idx → EReal) i)
  r1 : ∀ i : S4096x512.Idx, IsReal ((arg m c Cert.Kernel10Ideal.main_arg1 : S4096x512.Idx → EReal) i)
  r2 : ∀ i : S4096x512.Idx, IsReal ((arg m c Cert.Kernel10Ideal.main_arg2 : S4096x512.Idx → EReal) i)
  r3 : ∀ i : S4096x512.Idx, IsReal ((arg m c Cert.Kernel10Ideal.main_arg3 : S4096x512.Idx → EReal) i)
  r4 : ∀ i : S4096x128.Idx, IsReal ((arg m c Cert.Kernel10Ideal.main_arg4 : S4096x128.Idx → EReal) i)
  r5 : ∀ i : S2056x1024.Idx, IsReal ((arg m c Cert.Kernel10Ideal.main_arg5 : S2056x1024.Idx → EReal) i)
  r6 : ∀ i : S4096x1024.Idx, IsReal ((arg m c Cert.Kernel10Ideal.main_arg6 : S4096x1024.Idx → EReal) i)
  r7 : ∀ i : S4096x1024.Idx, IsReal ((arg m c Cert.Kernel10Ideal.main_arg7 : S4096x1024.Idx → EReal) i)
  r8 : ∀ i : S1x1024.Idx, IsReal ((arg m c Cert.Kernel10Ideal.main_arg8 : S1x1024.Idx → EReal) i)

theorem real (h : Cert.Pre_Kernel10Ideal_finite10 m) : Real m c := by
  obtain ⟨r0, r1, r2, r3, r4, r5, r6, r7, r8⟩ := real_of_pre (h c)
  exact ⟨r0, r1, r2, r3, r4, r5, r6, r7, r8⟩

variable {m c} (R : Real m c)
include R

theorem x_is : Is (arg m c Cert.Kernel10Ideal.main_arg6) (inAt m c).mid := fun r l =>
  (at2_eq R.r6 r l).trans (congrArg (fun a : ℝ => (a : EReal)) (mid_eq _ _ _ _ _ _ _ _ _ r.val l.val).symm)
theorem go_is : Is (arg m c Cert.Kernel10Ideal.main_arg7) (inAt m c).go := fun r l => at2_eq R.r7 r l
theorem pre_is : IsRow (arg m c Cert.Kernel10Ideal.main_arg8) (inAt m c).gpre := row_eq R.r8

theorem gh_is : Is (ghA (arg m c Cert.Kernel10Ideal.main_arg0) (arg m c Cert.Kernel10Ideal.main_arg1) (arg m c Cert.Kernel10Ideal.main_arg2)
    (arg m c Cert.Kernel10Ideal.main_arg3) (arg m c Cert.Kernel10Ideal.main_arg4) (arg m c Cert.Kernel10Ideal.main_arg5)) (inAt m c).gh :=
  ghA_apply R.r0 R.r1 R.r2 R.r3 R.r4 R.r5

/-- The padded weight holds the weight's numbers, and zero past its last row. -/
theorem w_is (n : Fin 2176) (l : Fin 1024) :
    Cert.Kernel10Ideal.Gen.V m c Cert.Kernel10Ideal.main_v0 (ix2 n l) = ((at2 (n := 2056) (p := 1024) (arg m c Cert.Kernel10Ideal.main_arg5) n.val l.val : ℝ) : EReal) := by
  refine (congrFun (padded_host m c) _).trans ((Cert.Projections.Even.padded_apply _ n l).trans ?_)
  unfold Cert.Projections.Even.padded
  by_cases h : n.val < 2056
  · exact (dif_pos h).trans (at2_eq R.r5 ⟨n.val, h⟩ l)
  · exact (dif_neg h).trans (congrArg (fun a : ℝ => (a : EReal)) (at2_past _ _ _ (by omega)).symm)

theorem reads : Reads m (inAt m c) c where
  five := five _ _ _ _ _ _ _ _ _
  g0 := fun r k => (congrFun (Cert.Kernel10Ideal.Gen.V_main_arg0 m c) _).trans ((at2_eq R.r0 r k).trans (congrArg (fun a : ℝ => (a : EReal)) (side0 _ _ _ _ _ _ _).symm))
  g1 := fun r k => (congrFun (Cert.Kernel10Ideal.Gen.V_main_arg1 m c) _).trans ((at2_eq R.r1 r k).trans (congrArg (fun a : ℝ => (a : EReal)) (side1 _ _ _ _ _ _ _).symm))
  g2 := fun r k => (congrFun (Cert.Kernel10Ideal.Gen.V_main_arg2 m c) _).trans ((at2_eq R.r2 r k).trans (congrArg (fun a : ℝ => (a : EReal)) (side2 _ _ _ _ _ _ _).symm))
  g3 := fun r k => (congrFun (Cert.Kernel10Ideal.Gen.V_main_arg3 m c) _).trans ((at2_eq R.r3 r k).trans (congrArg (fun a : ℝ => (a : EReal)) (side3 _ _ _ _ _ _ _).symm))
  g4 := fun r k => (congrFun (Cert.Kernel10Ideal.Gen.V_main_arg4 m c) _).trans ((at2_eq R.r4 r k).trans (congrArg (fun a : ℝ => (a : EReal)) (side4 _ _ _ _ _ _ _).symm))
  h1 := fun q k l h => w_is R ⟨512 * q + k, h⟩ l
  h2 := fun r l => (congrFun (Cert.Kernel10Ideal.Gen.V_main_arg6 m c) _).trans (x_is R r l)
  h3 := fun r l => (congrFun (Cert.Kernel10Ideal.Gen.V_main_arg7 m c) _).trans (go_is R r l)
  h5 := fun r z => (congrFun (rx_host m c) _).trans (rrmsA_apply (x_is R) r z)
  h7 := fun z l => (congrFun (Cert.Kernel10Ideal.Gen.V_main_arg8 m c) _).trans (pre_is R z l)

omit R

/-- An argument of the reference on a device. -/
abbrev arg' (m' : (ℓ : Loc Cert.Reference10Ideal.nD Cert.Reference10Ideal.τ Cert.Reference10Ideal.sig) → Buf (Elt Ideal) ℓ) (c' : Dev Cert.Reference10Ideal.nD)
    (b : Ref Cert.Reference10Ideal.sig .tc) : Buf (Elt Ideal) ((c'.tc : Thread Cert.Reference10Ideal.nD Cert.Reference10Ideal.τ).loc b) :=
  m' ((c'.tc : Thread Cert.Reference10Ideal.nD Cert.Reference10Ideal.τ).loc b)

theorem algebraic : Cert.algebraic_Kernel10Ideal_Reference10Ideal_pre_finite10 := by
  intro m ρ m' ρ' hpre hagree
  have R : ∀ c, Real m c := fun c => real m c hpre
  refine ⟨fun c j => (((inAt m c).gi (j 0).val (j 1).val : ℝ) : EReal), fun c j => (((inAt m c).ggpre (j 1).val : ℝ) : EReal),
    (θ_run _ _ _).mono (fun r h c => ?_) (Cert.Kernel10Ideal.Value.run_blocks m ρ), (θ_run _ _ _).mono (fun r h c => ?_) (Cert.Reference10Ideal.Value.run m' ρ')⟩
  · exact ⟨(h c).1.trans (arr10 (reads (R c))), (h c).2.1.trans (arr11 (reads (R c))), (h c).2.2⟩
  · obtain ⟨h0, h1, h2, h3, h4, h5, h6, h7, h8⟩ := hagree c
    have e0 : Is (ghA (arg' m' c Cert.Reference10Ideal.main_arg0) (arg' m' c Cert.Reference10Ideal.main_arg1) (arg' m' c Cert.Reference10Ideal.main_arg2)
        (arg' m' c Cert.Reference10Ideal.main_arg3) (arg' m' c Cert.Reference10Ideal.main_arg4) (arg' m' c Cert.Reference10Ideal.main_arg5)) (inAt m c).gh := by
      unfold arg'
      rw [h0, h1, h2, h3, h4, h5]
      exact gh_is (R c)
    have e6 : Is (arg' m' c Cert.Reference10Ideal.main_arg6) (inAt m c).mid := fun r l => (congrFun h6 _).trans (x_is (R c) r l)
    have e7 : Is (arg' m' c Cert.Reference10Ideal.main_arg7) (inAt m c).go := fun r l => (congrFun h7 _).trans (go_is (R c) r l)
    have e8 : IsRow (arg' m' c Cert.Reference10Ideal.main_arg8) (inAt m c).gpre := fun z l => (congrFun h8 _).trans (pre_is (R c) z l)
    exact ⟨(h c).1.trans (arr_eq (giA_of _ e0 e7 e8 e6)), (h c).2.1.trans (rowArr_eq (ggA_apply e6 e0)), (h c).2.2⟩

end Cert.MlpH.WinEven

end
-- ==== Proof.GateForward.lean ====
/-
  THE STATE-SPACE MIXER'S GATE. Gelu of the scan's output, times the logistic function of its product with the gate's
  weight. Each grid point computes 1024 rows. Both programs compute the same expression over all extended reals: gelu's
  products are only grouped differently.
-/
module

public import proofs.«01_k».proof.Defs
public import proofs.«01_k».proof.Proof.SguRef
public import proofs.«01_k».proof.Proof.Gen.Kernel21Ideal
public import proofs.«01_k».proof.Proof.Gen.Kernel21Ideal.Value
public import proofs.«01_k».proof.Proof.Gen.Reference21Ideal
public import proofs.«01_k».proof.Proof.Gen.Reference21Ideal.Run
public import Idealize.ShloMosaic.Lib.Pointwise
public import Idealize.ShloMosaic.Lib.Pipeline.ReadBack
public import Idealize.ShloMosaic.Lib.Pipeline.ValueKit

@[expose] public section

set_option maxRecDepth 16384

noncomputable section

namespace Cert.Gate

open Cert.Kernel21Ideal Cert.Kernel21Ideal.Gen Idealize.ShloMosaic Idealize.ShloMosaic.TcCoe Idealize.SL.Sem Idealize.ShloMosaic.StableHlo

/-- Gelu in its tanh form, over the extended reals. -/
def geluE (x : EReal) : EReal :=
  ((1 / 2 : ℝ) : EReal) * x * (1 + Ideal.tanh (((Sgu.c0 : ℝ) : EReal) * (x + ((Sgu.cub : ℝ) : EReal) * x * x * x)))

/-- The gate's argument. -/
def pre (Y : S4096x512.Idx → EReal) (W : S512x512.Idx → EReal) (t : Fin 4096) (l : Fin 512) : EReal :=
  ∑ k : Fin 512, geluE (Y (ix2 t k)) * W (ix2 k l)

/-- The gated output. -/
def out (Y : S4096x512.Idx → EReal) (W : S512x512.Idx → EReal) : S4096x512.Idx → EReal :=
  fun j => geluE (Y (ix2 (j 0) (j 1))) * Ideal.div 1 (1 + Ideal.exp (-(pre Y W (j 0) (j 1))))

/-- Subtraction from zero is negation. -/
theorem zero_sub' (x : EReal) : 0 - x = -x := by
  rw [sub_eq_add_neg, zero_add]

/-- The kernel's constant of gelu's cube. -/
theorem named_c : Named.named (F := Ideal) κ "gelu_cubic" (φ := .f32) 0x3D372713#32 = ((Sgu.cub : ℝ) : EReal) := by
  show ((8943 / 200000 : ℝ) : EReal) = _
  rfl

/-- One row of the kernel's block. -/
theorem pay_apply (y : Vec Ideal S1024x512 .f32) (w : Vec Ideal S512x512 .bf16) (r : Fin 1024) (l : Fin 512) :
    k0_pay1 y w (ix2 r l) = geluE (y (ix2 r l)) * Ideal.div 1 (1 + Ideal.exp (-(∑ k : Fin 512, geluE (y (ix2 r k)) * w (ix2 k l)))) := by
  unfold geluE
  pointwise [k0_pay1, dot_S1024x512_S512x512_S1024x512_1_0_0_1_n_n]
  simp only [named_c, Sgu.ofBits_c0, Sgu.ofBits_half, zero_sub']

/-- Gelu with its products grouped as the reference groups them, its constants as they are written there. -/
theorem gelu_group (y : EReal) :
    y * (Ideal.ofBits .f32 0x3F000000#32 * (1 + Ideal.tanh (Ideal.ofBits .f32 0x3F4C422A#32 *
      (y + Ideal.div (Ideal.ofBits .f32 0x472EAB00#32) (Ideal.ofBits .f32 0x49742400#32) * (y * y * y))))) = geluE y := by
  unfold geluE
  rw [Sgu.ofBits_half, Sgu.ofBits_c0, SguRef.ofBits_cubN, SguRef.ofBits_cubD, SguRef.div_cub]
  have e (a x : EReal) : a * (x * x * x) = a * x * x * x := by rw [← mul_assoc, ← mul_assoc]
  rw [e, ← mul_assoc, mul_comm y _]

/-- The reference's gelu. -/
def geluA (y : FVec Ideal S4096x512 .f32) : FVec Ideal S4096x512 .f32 :=
  mulf y (mulf (broadcastInDim S4096x512 ![] Cert.Reference21Ideal.Gen.bcast_S_S4096x512 (constant Cert.Reference21Ideal.S_ .f32 0x3F000000#32))
    (addf (broadcastInDim S4096x512 ![] Cert.Reference21Ideal.Gen.bcast_S_S4096x512 (constant Cert.Reference21Ideal.S_ .f32 0x3F800000#32))
      (Host.tanh (mulf (broadcastInDim S4096x512 ![] Cert.Reference21Ideal.Gen.bcast_S_S4096x512 (constant Cert.Reference21Ideal.S_ .f32 0x3F4C422A#32))
        (addf y (mulf (broadcastInDim S4096x512 ![] Cert.Reference21Ideal.Gen.bcast_S_S4096x512
          (Host.divf (constant Cert.Reference21Ideal.S_ .f32 0x472EAB00#32) (constant Cert.Reference21Ideal.S_ .f32 0x49742400#32))) (mulf (mulf y y) y)))))))

/-- Its elements: the kernel's, with the products grouped differently. -/
theorem geluA_apply (y : FVec Ideal S4096x512 .f32) (t : Fin 4096) (l : Fin 512) : geluA y (ix2 t l) = geluE (y (ix2 t l)) := by
  pointwise [geluA]
  exact gelu_group _

/-- The reference's result. -/
def gateA (y : FVec Ideal S4096x512 .f32) (w : FVec Ideal S512x512 .f32) : FVec Ideal S4096x512 .f32 :=
  mulf (geluA y) (Host.divf (broadcastInDim S4096x512 ![] Cert.Reference21Ideal.Gen.bcast_S_S4096x512 (constant Cert.Reference21Ideal.S_ .f32 0x3F800000#32))
    (addf (broadcastInDim S4096x512 ![] Cert.Reference21Ideal.Gen.bcast_S_S4096x512 (constant Cert.Reference21Ideal.S_ .f32 0x3F800000#32))
      (Host.exp (Host.negf (Host.dotGeneral Cert.Reference21Ideal.dot_S4096x512_S512x512_S4096x512_1_0_0_1_n_n none (geluA y) w)))))

theorem gateA_apply (y : FVec Ideal S4096x512 .f32) (w : FVec Ideal S512x512 .f32) (t : Fin 4096) (l : Fin 512) :
    gateA y w (ix2 t l) = out y w (ix2 t l) := by
  unfold out pre
  pointwise [gateA, geluA_apply, Cert.Reference21Ideal.dot_S4096x512_S512x512_S4096x512_1_0_0_1_n_n]

variable (m : (ℓ : Loc nD τ sig) → Buf (Elt Ideal) ℓ)

/-- The blocks' indices at each grid point. -/
theorem idx : ∀ t, win0_0.index t = ![t.val, 0] ∧ win0_1.index t = ![0, 0] ∧ win0_2.index t = ![t.val, 0] := by
  decide +kernel

/-- The row of the whole array at which a grid point's row stands. -/
def row (t : Fin cfg0.N) (r : Fin 1024) : Fin 4096 := ⟨1024 * t.val + r.val, by have : t.val < 4 := t.isLt; omega⟩

theorem iblk0 (c : Dev nD) (t : Fin cfg0.N) (r : Fin 1024) (l : Fin 512) : iblk m c 0 t (ix2 r l) = V m c main_arg0 (ix2 (row t r) l) := by
  unfold row
  blk_ext [iblk, (idx t).1]

theorem iblk1 (c : Dev nD) (t : Fin cfg0.N) (k l : Fin 512) : iblk m c 1 t (ix2 k l) = V m c main_arg1 (ix2 k l) := by
  blk_ext [iblk, (idx t).2.1]

theorem pay_at (c : Dev nD) (t : Fin cfg0.N) (r : Fin 1024) (l : Fin 512) :
    k0_pay1 (iblk m c 0 t) (iblk m c 1 t) (ix2 r l) = out (V m c main_arg0) (V m c main_arg1) (ix2 (row t r) l) := by
  rw [pay_apply, iblk0]
  exact congrArg (fun z => geluE (V m c main_arg0 (ix2 (row t r) l)) * Ideal.div 1 (1 + Ideal.exp (-z))) (Finset.sum_congr rfl fun k _ => by rw [iblk0, iblk1]; rfl)

/-- The gated rows. -/
theorem arr2 (c : Dev nD) : (dats m 0 c).arrAt 2 cfg0.N = out (V m c main_arg0) (V m c main_arg1) := by
  refine (dats m 0 c).arrAt_eq_of_covers 2 _ (by decide +kernel) fun t hf y => ?_
  blk_simp
  rw [after0_2]
  frame_out
  have e : ((View.whole main_v0).slice (win0_2.rect t)).emb y = (ix2 (n0 := 4096) (n1 := 512) (row t (y 0)) (y 1) : S4096x512.Idx) := by
    unfold row
    blk_ext [(idx t).2.2]
  have e' : y = (ix2 (n0 := 1024) (n1 := 512) (y 0) (y 1)) := by blk_ext
  rw [e]
  exact (congrArg _ e').trans (pay_at m c t (y 0) (y 1))

/-- Over the extended reals the kernel's result is the reference's. -/
theorem algebraic : Cert.algebraic_Kernel21Ideal_Reference21Ideal := by
  intro m ρ m' ρ' _ hagree
  refine ⟨fun c => out (V m c main_arg0) (V m c main_arg1),
    (θ_run _ _ _).mono (fun r h c => ?_) (Cert.Kernel21Ideal.Value.run_blocks m ρ), (θ_run _ _ _).mono (fun r h c => ?_) (Cert.Reference21Ideal.Value.run m' ρ')⟩
  · exact ⟨(h c).1.trans (arr2 m c), (h c).2⟩
  · have e0 := (V_main_arg0 m c).trans (hagree c).1.symm
    have e1 := (V_main_arg1 m c).trans (hagree c).2.symm
    refine ⟨(h c).1.trans ?_, (h c).2⟩
    beta_reduce
    rw [e0, e1]
    funext j
    exact (congrArg _ (eq_ix2 j)).trans ((gateA_apply _ _ (j 0) (j 1)).trans (congrArg _ (eq_ix2 j).symm))

end Cert.Gate

end
-- ==== Proof.SguFwdRef.lean ====
/-
  THE GATING UNIT'S FORWARD, WHAT IT COMPUTES, AND THE REFERENCE. A row's second half goes through gelu and the layer norm;
  within a chunk of 128 rows a lower triangular matrix per group of 128 lanes mixes it, a bias per row is added, and the
  gelu of the first half multiplies it. All over the extended reals.
-/
module

public import proofs.«01_k».proof.Proof.GateForward
public import proofs.«01_k».proof.Proof.SguPay
public import proofs.«01_k».proof.Proof.Gen.Reference19Ideal
public import proofs.«01_k».proof.Proof.Gen.Reference19Ideal.Run
public import Idealize.ShloMosaic.Lib.Pointwise

@[expose] public section

set_option maxRecDepth 16384

noncomputable section

namespace Cert.SguFwd

open Idealize.ShloMosaic Idealize.ShloMosaic.TcCoe Idealize.SL.Sem Idealize.ShloMosaic.StableHlo Cert.Reference19Ideal Cert.Reference19Ideal.Gen
open Cert.Gate (geluE)

/-- The mean of a row. -/
def mean (x : Fin 512 → EReal) : EReal := Ideal.div (∑ k, x k) (Ideal.ofBits .f32 0x44000000#32)

/-- The reciprocal root of a row's variance. -/
def rsd (x : Fin 512 → EReal) : EReal :=
  Ideal.rsqrt (mean (fun k => (x k - mean x) * (x k - mean x)) + Ideal.ofBits .f32 0x358637BD#32)

/-- The layer norm of a row. -/
def norm (x g b : Fin 512 → EReal) (l : Fin 512) : EReal := (x l - mean x) * rsd x * g l + b l

/-- The lower triangle of a group's mixing matrix. -/
def tri (w : S4x128x128.Idx → EReal) (g : Fin 4) (i j : Fin 128) : EReal := if j.val ≤ i.val then w (ix3 g i j) else 0

/-- The row that stands at place `j` of the chunk of row `r`. -/
abbrev mate (r : Fin 4096) (j : Fin 128) : Fin 4096 := ⟨r.val / 128 * 128 + j.val, by omega⟩

/-- A row's place in its chunk. -/
abbrev place (r : Fin 4096) : Fin 128 := ⟨r.val % 128, by omega⟩

/-- A lane's group. -/
abbrev grp (l : Fin 512) : Fin 4 := ⟨l.val / 128, by omega⟩

/-- A row's second half, normed. -/
def vln (z : S4096x1536.Idx → EReal) (g b : S1x512.Idx → EReal) (r : Fin 4096) (l : Fin 512) : EReal :=
  norm (fun k => geluE (z (ix2 r ⟨1024 + k.val, by omega⟩))) (fun k => g (ix2 0 k)) (fun k => b (ix2 0 k)) l

/-- The unit's output. -/
def out (z : S4096x1536.Idx → EReal) (g b : S1x512.Idx → EReal) (w : S4x128x128.Idx → EReal) (bs : S4x128.Idx → EReal) : S4096x512.Idx → EReal :=
  fun y => geluE (z (ix2 (y 0) ⟨512 + (y 1).val, by have : (y 1).val < 512 := (y 1).isLt; omega⟩))
    * ((∑ j : Fin 128, tri w (grp (y 1)) (place (y 0)) j * vln z g b (mate (y 0) j) (y 1)) + bs (ix2 (grp (y 1)) (place (y 0))))

/-! ## The reference, stage by stage -/

/-- Gelu. -/
def geluR (y : FVec Ideal S1x4096x512 .f32) : FVec Ideal S1x4096x512 .f32 :=
  mulf y (mulf (broadcastInDim S1x4096x512 ![] bcast_S_S1x4096x512 (constant S_ .f32 0x3F000000#32)) (addf (broadcastInDim S1x4096x512 ![] bcast_S_S1x4096x512 (constant S_ .f32 0x3F800000#32)) (Host.tanh (mulf (broadcastInDim S1x4096x512 ![] bcast_S_S1x4096x512 (constant S_ .f32 0x3F4C422A#32)) (addf y (mulf (broadcastInDim S1x4096x512 ![] bcast_S_S1x4096x512 (Host.divf (constant S_ .f32 0x472EAB00#32) (constant S_ .f32 0x49742400#32))) (mulf (mulf y y) y)))))))

theorem geluR_apply (y : FVec Ideal S1x4096x512 .f32) (r : Fin 4096) (l : Fin 512) : geluR y (ix3 0 r l) = geluE (y (ix3 0 r l)) := by
  pointwise [geluR]
  exact Cert.Gate.gelu_group _

/-- The two halves of the rows. -/
def uR (z : FVec Ideal S4096x1536 .f32) : FVec Ideal S1x4096x512 .f32 :=
  broadcastInDim S1x4096x512 ![1, 2] bcast_S4096x512_S1x4096x512_1_2 (extractStridedSlice S4096x512 ![0, 512] z slices_S4096x1536_S4096x512_0_512)

def vR (z : FVec Ideal S4096x1536 .f32) : FVec Ideal S1x4096x512 .f32 :=
  broadcastInDim S1x4096x512 ![1, 2] bcast_S4096x512_S1x4096x512_1_2 (extractStridedSlice S4096x512 ![0, 1024] z slices_S4096x1536_S4096x512_0_1024)

theorem uR_apply (z : FVec Ideal S4096x1536 .f32) (r : Fin 4096) (l : Fin 512) : uR z (ix3 0 r l) = z (ix2 r ⟨512 + l.val, by omega⟩) := by
  pointwise [uR]

theorem vR_apply (z : FVec Ideal S4096x1536 .f32) (r : Fin 4096) (l : Fin 512) : vR z (ix3 0 r l) = z (ix2 r ⟨1024 + l.val, by omega⟩) := by
  pointwise [vR]

/-- The rows' means. -/
def meanR (x : FVec Ideal S1x4096x512 .f32) : FVec Ideal S1x4096x1 .f32 :=
  Host.divf (broadcastInDim S1x4096x1 ![0, 1] bcast_S1x4096_S1x4096x1_0_1 (Host.reduceAdd x (constant S_ .f32 0x00000000#32) reducesTo_S1x4096x512_S1x4096_d2 h_S_)) (broadcastInDim S1x4096x1 ![] bcast_S_S1x4096x1 (constant S_ .f32 0x44000000#32))

theorem meanR_apply (x : FVec Ideal S1x4096x512 .f32) (r : Fin 4096) : meanR x (ix3 0 r 0) = mean fun k => x (ix3 0 r k) := by
  unfold mean
  pointwise [meanR]

/-- The rows less their means. -/
def xcR (x : FVec Ideal S1x4096x512 .f32) : FVec Ideal S1x4096x512 .f32 :=
  subf x (broadcastInDim S1x4096x512 ![0, 1, 2] bcast_S1x4096x1_S1x4096x512_0_1_2 (meanR x))

theorem xcR_apply (x : FVec Ideal S1x4096x512 .f32) (r : Fin 4096) (l : Fin 512) : xcR x (ix3 0 r l) = x (ix3 0 r l) - mean fun k => x (ix3 0 r k) := by
  pointwise [xcR]
  rw [meanR_apply]

/-- The rows' reciprocal root variances. -/
def rsdR (x : FVec Ideal S1x4096x512 .f32) : FVec Ideal S1x4096x1 .f32 :=
  Host.rsqrt (addf (meanR (mulf (xcR x) (xcR x))) (broadcastInDim S1x4096x1 ![] bcast_S_S1x4096x1 (constant S_ .f32 0x358637BD#32)))

theorem rsdR_apply (x : FVec Ideal S1x4096x512 .f32) (r : Fin 4096) : rsdR x (ix3 0 r 0) = rsd fun k => x (ix3 0 r k) := by
  unfold rsd
  pointwise [rsdR]
  rw [meanR_apply]
  pointwise [xcR_apply]

/-- The layer norm. -/
def normR (x : FVec Ideal S1x4096x512 .f32) (g b : FVec Ideal S1x512 .f32) : FVec Ideal S1x4096x512 .f32 :=
  addf (mulf (mulf (xcR x) (broadcastInDim S1x4096x512 ![0, 1, 2] bcast_S1x4096x1_S1x4096x512_0_1_2 (rsdR x))) (broadcastInDim S1x4096x512 ![0, 1, 2] bcast_S1x1x512_S1x4096x512_0_1_2 (broadcastInDim S1x1x512 ![1, 2] bcast_S1x512_S1x1x512_1_2 g))) (broadcastInDim S1x4096x512 ![0, 1, 2] bcast_S1x1x512_S1x4096x512_0_1_2 (broadcastInDim S1x1x512 ![1, 2] bcast_S1x512_S1x1x512_1_2 b))

theorem normR_apply (x : FVec Ideal S1x4096x512 .f32) (g b : FVec Ideal S1x512 .f32) (r : Fin 4096) (l : Fin 512) :
    normR x g b (ix3 0 r l) = norm (fun k => x (ix3 0 r k)) (fun k => g (ix2 0 k)) (fun k => b (ix2 0 k)) l := by
  unfold norm
  pointwise [normR]
  rw [xcR_apply, rsdR_apply]

/-- Which places the triangle keeps. -/
def keepR : IVec S4x128x128 1 :=
  broadcastInDim S4x128x128 ![0, 1, 2] bcast_S1x128x128_S4x128x128_0_1_2 (broadcastInDim S1x128x128 ![1, 2] bcast_S128x128_S1x128x128_1_2 (select (cmpi .sge (addi (iotaInDim S128x128 32 0) (broadcastInDim S128x128 ![] bcast_S_S128x128 (constantI S_ 32 0#32))) (iotaInDim S128x128 32 1)) (broadcastInDim S128x128 ![] bcast_S_S128x128 (constantI S_ 1 1#1)) (broadcastInDim S128x128 ![] bcast_S_S128x128 (constantI S_ 1 0#1))))

theorem keepR_apply {α : Type} (g : Fin 4) (i j : Fin 128) (x y : α) :
    Scalar.select (keepR (ix3 g i j)) x y = if j.val ≤ i.val then x else y := by
  have e : keepR (ix3 g i j)
      = Scalar.select (IntOp.cmpi CmpIPredicate.sge (IntOp.addi (BitVec.ofNat 32 i.val) 0#32) (BitVec.ofNat 32 j.val)) 1#1 0#1 := by
    pointwise [keepR]
  have z : IntOp.addi (BitVec.ofNat 32 i.val) 0#32 = BitVec.ofNat 32 i.val := by
    show BitVec.ofNat 32 i.val + 0#32 = _
    exact BitVec.add_zero _
  rw [e, z, Cert.Sgu.select_sge]
  split <;> rfl

/-- The triangles. -/
def triR (w : FVec Ideal S4x128x128 .f32) : FVec Ideal S4x128x128 .f32 :=
  select keepR w (broadcastInDim S4x128x128 ![] bcast_S_S4x128x128 (constant S_ .f32 0x00000000#32))

theorem triR_apply (w : FVec Ideal S4x128x128 .f32) (g : Fin 4) (i j : Fin 128) : triR w (ix3 g i j) = tri w g i j := by
  unfold tri
  pointwise [triR]
  exact keepR_apply g i j _ _

/-- The mixed rows. -/
def mixR (v : FVec Ideal S1x4096x512 .f32) (w : FVec Ideal S4x128x128 .f32) (bs : FVec Ideal S4x128 .f32) : FVec Ideal S1x4096x512 .f32 :=
  shapeCast _ (addf (transpose S1x32x128x4x128 [1, 2, 4, 0, 3] (Host.dotGeneral dot_S1x32x128x4x128_S4x128x128_S4x1x32x128x128_2_2_014_1_3_0 none (shapeCast _ v shapeCasts_S1x4096x512_S1x32x128x4x128 : FVec Ideal S1x32x128x4x128 .f32) (triR w)) transposes_S4x1x32x128x128_S1x32x128x4x128_1_2_4_0_3) (broadcastInDim S1x32x128x4x128 ![0, 1, 2, 3, 4] bcast_S1x1x128x4x1_S1x32x128x4x128_0_1_2_3_4 (broadcastInDim S1x1x128x4x1 ![2, 3] bcast_S128x4_S1x1x128x4x1_2_3 (transpose S128x4 [1, 0] bs transposes_S4x128_S128x4_1_0)))) shapeCasts_S1x32x128x4x128_S1x4096x512

theorem mixR_apply (v : FVec Ideal S1x4096x512 .f32) (w : FVec Ideal S4x128x128 .f32) (bs : FVec Ideal S4x128 .f32) (r : Fin 4096) (l : Fin 512) :
    mixR v w bs (ix3 0 r l) = (∑ j : Fin 128, tri w (grp l) (place r) j * v (ix3 0 (mate r j) l)) + bs (ix2 (grp l) (place r)) := by
  pointwise [mixR, dot_S1x32x128x4x128_S4x128x128_S4x1x32x128x128_2_2_014_1_3_0]
  refine congrArg (· + _) (Finset.sum_congr rfl fun j _ => ?_)
  rw [triR_apply, mul_comm]

/-- The reference's result. -/
def outR (z : FVec Ideal S4096x1536 .f32) (g b : FVec Ideal S1x512 .f32) (w : FVec Ideal S4x128x128 .f32) (bs : FVec Ideal S4x128 .f32) : FVec Ideal S4096x512 .bf16 :=
  truncf .bf16 (shapeCast _ (mulf (geluR (uR z)) (mixR (normR (geluR (vR z)) g b) w bs)) shapeCasts_S1x4096x512_S4096x512 : FVec Ideal S4096x512 .f32) bitsLt_bf16_f32

theorem outR_apply (z : FVec Ideal S4096x1536 .f32) (g b : FVec Ideal S1x512 .f32) (w : FVec Ideal S4x128x128 .f32) (bs : FVec Ideal S4x128 .f32) (r : Fin 4096) (l : Fin 512) :
    outR z g b w bs (ix2 r l) = out z g b w bs (ix2 r l) := by
  pointwise [outR]
  rw [geluR_apply, uR_apply, mixR_apply]
  simp only [normR_apply, geluR_apply, vR_apply]
  rfl

/-- The run's term is those stages. -/
theorem run_eq (m : (ℓ : Loc nD τ sig) → Buf (Elt Ideal) ℓ) (c : Dev nD) :
    Cert.Reference19Ideal.Value.res_main_v69 m c = outR (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) := rfl

end Cert.SguFwd

end
-- ==== Proof.SguFwd.lean ====
/-
  THE GATING UNIT'S FORWARD, THE KERNEL AND THE CLAIM. Each grid point computes 512 rows in sixteen tiles of 128 rows by
  128 lanes: four chunks by four groups. A tile is one expression of the tile's part of gelu's rows, of the normed rows,
  of the group's triangle and of its column of biases; the argument of biases comes transposed.
-/
module

public import proofs.«01_k».proof.Defs
public import proofs.«01_k».proof.Proof.SguFwdRef
public import proofs.«01_k».proof.Proof.Gen.Kernel19Ideal
public import proofs.«01_k».proof.Proof.Gen.Kernel19Ideal.Value
public import Idealize.ShloMosaic.Lib.Pointwise
public import Idealize.ShloMosaic.Lib.StableHlo.RunRead
public import Idealize.ShloMosaic.Lib.Pipeline.ReadBack
public import Idealize.ShloMosaic.Lib.Pipeline.ValueKit

@[expose] public section

set_option maxRecDepth 16384

noncomputable section

namespace Cert.SguFwd

open Cert.Kernel19Ideal Cert.Kernel19Ideal.Gen Idealize.ShloMosaic Idealize.ShloMosaic.TcCoe Idealize.SL.Sem Idealize.ShloMosaic.StableHlo
open Cert.Gate (geluE)

/-! ## The stages of the body -/

/-- The kernel's constant of gelu's cube. -/
theorem named_c : Named.named (F := Ideal) κ "gelu_cubic" (φ := .f32) 0x3D372713#32 = ((Sgu.cub : ℝ) : EReal) := by
  show ((8943 / 200000 : ℝ) : EReal) = _
  rfl

theorem gelu_apply (x : FVec Ideal S512x512 .f32) (y l : Fin 512) : k0_pay4 (F := Ideal) x (k0_pay3 x) (ix2 y l) = geluE (x (ix2 y l)) := by
  unfold geluE
  pointwise [k0_pay4, k0_pay3]
  rw [named_c, Sgu.ofBits_c0, Sgu.ofBits_half]

theorem norm_apply (x : FVec Ideal S512x512 .f32) (g b : FVec Ideal S1x512 .f32) (y l : Fin 512) :
    k0_pay2 (F := Ideal) x g b (ix2 y l) = norm (fun k => geluE (x (ix2 y k))) (fun k => g (ix2 0 k)) (fun k => b (ix2 0 k)) l := by
  unfold norm rsd mean geluE
  pointwise [k0_pay2]
  simp only [named_c, Sgu.ofBits_c0, Sgu.ofBits_half]

theorem tri_apply (w : FVec Ideal S1x128x128 .f32) (W : S4x128x128.Idx → EReal) (g : Fin 4)
    (h : ∀ i j : Fin 128, w (ix3 0 i j) = W (ix3 g i j)) (i j : Fin 128) : k0_pay6 (F := Ideal) w (ix2 i j) = tri W g i j := by
  unfold tri
  pointwise [k0_pay6]
  rw [Cert.Sgu.select_sge, h]

/-- A tile of the output, of the tile of gelu's rows, of the normed rows, a triangle and a column of biases. -/
def tile (gu : FVec Ideal S128x128 .f32) (vl w : FVec Ideal S128x128 .bf16) (b : FVec Ideal S128x1 .f32) : FVec Ideal S128x128 .f32 :=
  mulf gu (addf (matmul dot_S128x128_S128x128_S128x128_1_0_0_1_n_n none w vl (constant (F := Ideal) S128x128 .f32 0x00000000#32))
    (broadcastTo S128x128 (shapeCast S128x1 b shapeCasts_S128x1_S128x1) broadcasts_S128x1_S128x128))

theorem tile_apply (gu : FVec Ideal S128x128 .f32) (vl w : FVec Ideal S128x128 .bf16) (b : FVec Ideal S128x1 .f32) (i j : Fin 128) :
    tile gu vl w b (ix2 i j) = gu (ix2 i j) * ((∑ k : Fin 128, w (ix2 i k) * vl (ix2 k j)) + b (ix2 i 0)) := by
  pointwise [tile, dot_S128x128_S128x128_S128x128_1_0_0_1_n_n]

/-- An index of a tile, within the block. -/
theorem slice_at {φ : FTy} (x : FVec Ideal S512x512 φ) (o0 o1 : ℕ) (hs : S512x512.Slices ![o0, o1] S128x128) (i j : Fin 128) (p q : Fin 512)
    (hp : p.val = o0 + i.val) (hq : q.val = o1 + j.val) : extractStridedSlice S128x128 ![o0, o1] x hs (ix2 i j) = x (ix2 p q) := by
  unfold extractStridedSlice
  refine congrArg x (funext fun a => Fin.ext ?_)
  match a with
  | ⟨0, _⟩ => exact hp.symm
  | ⟨1, _⟩ => exact hq.symm

/-! ## At a grid point -/

variable (m : (ℓ : Loc nD τ sig) → Buf (Elt Ideal) ℓ) (c : Dev nD) (t : Fin cfg0.N)

/-- The blocks' indices at each grid point. -/
theorem idx : ∀ t, win0_0.index t = ![t.val, 1] ∧ win0_1.index t = ![t.val, 2] ∧ win0_2.index t = ![0, 0] ∧ win0_3.index t = ![0, 0]
    ∧ win0_4.index t = ![0, 0, 0] ∧ win0_5.index t = ![0, 0] ∧ win0_6.index t = ![t.val, 0] := by
  decide +kernel

/-- The row of the whole array at which a grid point's row stands. -/
def row (r : Fin 512) : Fin 4096 := ⟨512 * t.val + r.val, by have : t.val < 8 := t.isLt; omega⟩

theorem iblk0 (r l : Fin 512) : iblk m c 0 t (ix2 r l) = V m c main_arg0 (ix2 (row t r) ⟨512 + l.val, by omega⟩) := by
  unfold row
  blk_ext [iblk, (idx t).1]

theorem iblk1 (r l : Fin 512) : iblk m c 1 t (ix2 r l) = V m c main_arg0 (ix2 (row t r) ⟨1024 + l.val, by omega⟩) := by
  unfold row
  blk_ext [iblk, (idx t).2.1]

theorem iblk2 (l : Fin 512) : iblk m c 2 t (ix2 0 l) = V m c main_arg1 (ix2 0 l) := by
  blk_ext [iblk, (idx t).2.2.1]

theorem iblk3 (l : Fin 512) : iblk m c 3 t (ix2 0 l) = V m c main_arg2 (ix2 0 l) := by
  blk_ext [iblk, (idx t).2.2.2.1]

theorem iblk4 (g : Fin 4) (i j : Fin 128) : iblk m c 4 t (ix3 g i j) = V m c main_arg3 (ix3 g i j) := by
  blk_ext [iblk, (idx t).2.2.2.2.1]

/-- The biases as the region finds them: the transposed argument. -/
theorem iblk5 (i : Fin 128) (g : Fin 4) : iblk m c 5 t (ix2 i g) = V m c main_arg4 (ix2 g i) := by
  have e : iblk m c 5 t (ix2 i g) = V m c main_v0 (ix2 i g) := by blk_ext [iblk, (idx t).2.2.2.2.2.1]
  have e' : (V m c main_v0 : S128x4.Idx → EReal)
      = transpose S128x4 [1, 0] (m ((c.tc : Thread nD τ).loc main_arg4) : S4x128.Idx → EReal) transposes_S4x128_S128x4_1_0 := by
    unfold V
    after_reads_simp
  rw [e, V_main_arg4]
  refine (congrFun e' _).trans ?_
  pointwise

/-- The gelu of the rows' first halves. -/
theorem gelu_at (r l : Fin 512) : k0_pay4 (F := Ideal) (iblk m c 0 t) (k0_pay3 (iblk m c 0 t)) (ix2 r l) = geluE (V m c main_arg0 (ix2 (row t r) ⟨512 + l.val, by omega⟩)) := by
  rw [gelu_apply, iblk0]

/-- The rows' second halves, normed. -/
theorem norm_at (r l : Fin 512) : k0_pay2 (F := Ideal) (iblk m c 1 t) (iblk m c 2 t) (iblk m c 3 t) (ix2 r l) = vln (V m c main_arg0) (V m c main_arg1) (V m c main_arg2) (row t r) l := by
  rw [norm_apply]
  unfold vln
  simp only [iblk1, iblk2, iblk3]

/-- The lower triangle of group `g`, loaded from the block of mixing matrices. -/
theorem tri_at (g : Fin 4) (hb : ∀ a, (![g.val, 0, 0] : Fin 3 → ℕ) a + (![1, 128, 128] : Fin 3 → ℕ) a ≤ S4x128x128.size a) (i j : Fin 128) :
    k0_pay6 (F := Ideal) (View.ld (iblk m c 4 t) (Rect.unit (s := S4x128x128) ![g.val, 0, 0] ![1, 128, 128] hb)) (ix2 i j) = tri (V m c main_arg3) g i j := by
  refine tri_apply _ _ g (fun i j => ?_) i j
  refine (View.ld_unit_apply_of _ _ _ _ _ (ix3 g i j) fun a => ?_).trans (iblk4 m c t g i j)
  match a with
  | ⟨0, _⟩ => rfl
  | ⟨1, _⟩ => exact (Nat.zero_add _).symm
  | ⟨2, _⟩ => exact (Nat.zero_add _).symm

/-- The bias column of group `g`, loaded from the block of biases. -/
theorem bias_at (g : Fin 4) (hb : ∀ a, (![0, g.val] : Fin 2 → ℕ) a + (![128, 1] : Fin 2 → ℕ) a ≤ S128x4.size a) (i : Fin 128) :
    View.ld (iblk m c 5 t) (Rect.unit (s := S128x4) ![0, g.val] ![128, 1] hb) (ix2 i 0) = V m c main_arg4 (ix2 g i) := by
  refine (View.ld_unit_apply_of _ _ _ _ _ (ix2 i g) fun a => ?_).trans (iblk5 m c t i g)
  match a with
  | ⟨0, _⟩ => exact (Nat.zero_add _).symm
  | ⟨1, _⟩ => rfl

/-- The unit's output of the arguments. -/
abbrev Out : S4096x512.Idx → EReal := out (V m c main_arg0) (V m c main_arg1) (V m c main_arg2) (V m c main_arg3) (V m c main_arg4)

/-- A tile of the output, at an index of the block: chunk offset `o0`, group `g`. -/
theorem tile_at (o0 o1 : ℕ) (g : Fin 4) (ho : o0 % 128 = 0) (hg : o1 = g.val * 128)
    (hb6 : ∀ a, (![g.val, 0, 0] : Fin 3 → ℕ) a + (![1, 128, 128] : Fin 3 → ℕ) a ≤ S4x128x128.size a)
    (hb7 : ∀ a, (![0, g.val] : Fin 2 → ℕ) a + (![128, 1] : Fin 2 → ℕ) a ≤ S128x4.size a)
    (hs : S512x512.Slices ![o0, o1] S128x128) (x : S128x128.Idx) (y0 y1 : Fin 512) (e0 : y0.val = o0 + (x 0).val) (e1 : y1.val = o1 + (x 1).val) :
    tile (extractStridedSlice S128x128 ![o0, o1] (k0_pay4 (F := Ideal) (iblk m c 0 t) (k0_pay3 (iblk m c 0 t))) hs)
      (extractStridedSlice S128x128 ![o0, o1] (k0_pay5 (k0_pay2 (F := Ideal) (iblk m c 1 t) (iblk m c 2 t) (iblk m c 3 t))) hs)
      (k0_pay6 (F := Ideal) (View.ld (iblk m c 4 t) (Rect.unit (s := S4x128x128) ![g.val, 0, 0] ![1, 128, 128] hb6)))
      (View.ld (iblk m c 5 t) (Rect.unit (s := S128x4) ![0, g.val] ![128, 1] hb7)) x
      = Out m c (ix2 (row t y0) y1) := by
  have h0 : (x 0).val < 128 := (x 0).isLt
  have h1 : (x 1).val < 128 := (x 1).isLt
  have ho0 : o0 + 128 ≤ 512 := hs.2 0
  have eg : grp y1 = g := Fin.ext (by show y1.val / 128 = g.val; omega)
  have ep : place (row t y0) = x 0 := Fin.ext (by show (512 * t.val + y0.val) % 128 = (x 0).val; omega)
  have em : ∀ k : Fin 128, mate (row t y0) k = row t ⟨o0 + k.val, by omega⟩ := fun k =>
    Fin.ext (by show (512 * t.val + y0.val) / 128 * 128 + k.val = 512 * t.val + (o0 + k.val); omega)
  refine (congrArg _ (eq_ix2 x)).trans ((tile_apply _ _ _ _ (x 0) (x 1)).trans ?_)
  refine congrArg₂ (· * ·) ((slice_at _ o0 o1 hs (x 0) (x 1) y0 y1 e0 e1).trans (gelu_at m c t y0 y1)) (congrArg₂ (· + ·) (Finset.sum_congr rfl fun k _ => ?_) ?_)
  · show _ = tri (V m c main_arg3) (grp y1) (place (row t y0)) k * vln (V m c main_arg0) (V m c main_arg1) (V m c main_arg2) (mate (row t y0) k) y1
    rw [eg, ep, em]
    exact congrArg₂ (· * ·) (tri_at m c t g hb6 (x 0) k) ((slice_at _ o0 o1 hs k (x 1) ⟨o0 + k.val, by omega⟩ y1 rfl e1).trans (norm_at m c t _ y1))
  · show _ = V m c main_arg4 (ix2 (grp y1) (place (row t y0)))
    rw [eg, ep]
    exact bias_at m c t g hb7 (x 0)

/-- The block that a point leaves. -/
theorem block (y : S512x512.Idx) :
    out0_6 (F := Ideal) (iblk m c 0 t) (iblk m c 1 t) (iblk m c 2 t) (iblk m c 3 t) (iblk m c 4 t) (iblk m c 5 t) y = Out m c (ix2 (row t (y 0)) (y 1)) := by
  unfold_out out0_6
  frame_out
  canon_tiles x h
  case piece0 => exact tile_at m c t 384 384 3 rfl rfl _ _ _ x _ _ h0 h1
  case piece1 => exact tile_at m c t 256 384 3 rfl rfl _ _ _ x _ _ h0 h1
  case piece2 => exact tile_at m c t 128 384 3 rfl rfl _ _ _ x _ _ h0 h1
  case piece3 => exact tile_at m c t 0 384 3 rfl rfl _ _ _ x _ _ (h0.trans (Nat.zero_add _).symm) h1
  case piece4 => exact tile_at m c t 384 256 2 rfl rfl _ _ _ x _ _ h0 h1
  case piece5 => exact tile_at m c t 256 256 2 rfl rfl _ _ _ x _ _ h0 h1
  case piece6 => exact tile_at m c t 128 256 2 rfl rfl _ _ _ x _ _ h0 h1
  case piece7 => exact tile_at m c t 0 256 2 rfl rfl _ _ _ x _ _ (h0.trans (Nat.zero_add _).symm) h1
  case piece8 => exact tile_at m c t 384 128 1 rfl rfl _ _ _ x _ _ h0 h1
  case piece9 => exact tile_at m c t 256 128 1 rfl rfl _ _ _ x _ _ h0 h1
  case piece10 => exact tile_at m c t 128 128 1 rfl rfl _ _ _ x _ _ h0 h1
  case piece11 => exact tile_at m c t 0 128 1 rfl rfl _ _ _ x _ _ (h0.trans (Nat.zero_add _).symm) h1
  case piece12 => exact tile_at m c t 384 0 0 rfl rfl _ _ _ x _ _ h0 (h1.trans (Nat.zero_add _).symm)
  case piece13 => exact tile_at m c t 256 0 0 rfl rfl _ _ _ x _ _ h0 (h1.trans (Nat.zero_add _).symm)
  case piece14 => exact tile_at m c t 128 0 0 rfl rfl _ _ _ x _ _ h0 (h1.trans (Nat.zero_add _).symm)
  case piece15 => exact tile_at m c t 0 0 0 rfl rfl _ _ _ x _ _ (h0.trans (Nat.zero_add _).symm) (h1.trans (Nat.zero_add _).symm)

/-- The unit's output. -/
theorem arr6 : (dats m 0 c).arrAt 6 cfg0.N = Out m c := by
  refine (dats m 0 c).arrAt_eq_of_covers 6 _ (by decide +kernel) fun t hf y => ?_
  blk_simp
  rw [after0_6]
  have e : ((View.whole main_v1).slice (win0_6.rect t)).emb y = (ix2 (n0 := 4096) (n1 := 512) (row t (y 0)) (y 1) : S4096x512.Idx) := by
    unfold row
    blk_ext [(idx t).2.2.2.2.2.2]
  rw [e]
  exact block m c t y

/-- Over the extended reals the kernel's result is the reference's. -/
theorem algebraic : Cert.algebraic_Kernel19Ideal_Reference19Ideal := by
  intro m ρ m' ρ' _ hagree
  refine ⟨fun c => Out m c,
    (θ_run _ _ _).mono (fun r h c => ?_) (Cert.Kernel19Ideal.Value.run_blocks m ρ), (θ_run _ _ _).mono (fun r h c => ?_) (Cert.Reference19Ideal.Value.run m' ρ')⟩
  · exact ⟨(h c).1.trans (arr6 m c), (h c).2⟩
  · have e0 := (V_main_arg0 m c).trans (hagree c).1.symm
    have e1 := (V_main_arg1 m c).trans (hagree c).2.1.symm
    have e2 := (V_main_arg2 m c).trans (hagree c).2.2.1.symm
    have e3 := (V_main_arg3 m c).trans (hagree c).2.2.2.1.symm
    have e4 := (V_main_arg4 m c).trans (hagree c).2.2.2.2.symm
    refine ⟨((h c).1.trans (run_eq m' c)).trans ?_, (h c).2⟩
    beta_reduce
    unfold Out
    rw [e0, e1, e2, e3, e4]
    funext j
    exact (congrArg _ (eq_ix2 j)).trans ((outR_apply _ _ _ _ _ (j 0) (j 1)).trans (congrArg _ (eq_ix2 j).symm))

end Cert.SguFwd

end
-- ==== Proof.PoolFwdSpec.lean ====
/-
  THE POOL MIXER, as formulas over the extended reals: the windows reach back from a row, and the running sum to a row is
  the running sum to the row before its window and the window.
-/
module

public import proofs.«01_k».proof.Proof.PoolSpec
public import proofs.«01_k».proof.Proof.Reals

@[expose] public section

noncomputable section

namespace Cert.PoolFwd

open Idealize.ShloMosaic Cert.Pool Cert.Reals

/-- The sum of `f` over the `w` rows up to row `t`, fewer where the first row cuts them off. -/
def back {M : Type} [AddCommMonoid M] (f : Nat → M) (w t : Nat) : M := ∑ j ∈ Finset.range w, if j ≤ t then f (t - j) else 0

/-- A window twice as long is two windows. -/
theorem back_double {M : Type} [AddCommMonoid M] (f : Nat → M) (w t : Nat) :
    back f (2 * w) t = back f w t + if w ≤ t then back f w (t - w) else 0 := by
  unfold back
  rw [two_mul, Finset.sum_range_add]
  refine congrArg (_ + ·) ?_
  by_cases h : w ≤ t
  · rw [if_pos h]
    refine Finset.sum_congr rfl fun j _ => ?_
    by_cases hj : w + j ≤ t
    · rw [if_pos hj, if_pos (by omega), Nat.sub_sub]
    · rw [if_neg hj, if_neg (by omega)]
  · rw [if_neg h]
    exact Finset.sum_eq_zero fun j _ => if_neg (by omega)

/-- The running sum up to row `t`. -/
def upto {M : Type} [AddCommMonoid M] (f : Nat → M) (t : Nat) : M := ∑ i ∈ Finset.range (t + 1), f i

/-- The running sum to the row `w` rows before `t`; zero before the first row. -/
def lag {M : Type} [AddCommMonoid M] (f : Nat → M) (w t : Nat) : M := if w ≤ t then upto f (t - w) else 0

/-- The running sum is the window's and what came before it. -/
theorem upto_eq {M : Type} [AddCommMonoid M] (f : Nat → M) (w t : Nat) : upto f t = back f w t + lag f w t := by
  induction w with
  | zero => simp [back, lag]
  | succ w ih =>
    have e : lag f w t = (if w ≤ t then f (t - w) else 0) + lag f (w + 1) t := by
      unfold lag
      by_cases h : w + 1 ≤ t
      · rw [if_pos (by omega), if_pos (by omega), if_pos h]
        unfold upto
        rw [Finset.sum_range_succ, add_comm, show t - (w + 1) + 1 = t - w by omega]
      · rw [if_neg h, add_zero]
        by_cases h' : w ≤ t
        · rw [if_pos h', if_pos h', show t - w = 0 by omega]
          simp [upto]
        · rw [if_neg h', if_neg h']
    rw [ih, e, ← add_assoc]
    unfold back
    rw [Finset.sum_range_succ]

/-- Over real numbers the running sums' difference is the window's sum. -/
theorem back_eq (f : Nat → EReal) (hf : ∀ n, IsReal (f n)) (w t : Nat) : upto f t - lag f w t = back f w t := by
  have hb : IsReal (back f w t) := isReal_sum _ fun j => by split; exacts [hf _, isReal_zero]
  have hl : IsReal (lag f w t) := by unfold lag; split; exacts [isReal_sum _ fun i => hf _, isReal_zero]
  rw [upto_eq f w t]
  obtain ⟨a, ha⟩ := hb
  obtain ⟨b, hb⟩ := hl
  rw [ha, hb, ← EReal.coe_add, ← EReal.coe_sub, add_sub_cancel_right]

variable (X : Fin 4096 → Fin 512 → EReal) (PW : Fin 4 → Fin 128 → Fin 128 → EReal) (S : Fin 512 → EReal)

/-- A lane of a group, down the rows; zero past the last. -/
def col (g : Fin 4) (d : Fin 128) (n : Nat) : EReal := if h : n < 4096 then X ⟨n, h⟩ (lane g d) else 0

theorem col_of (g : Fin 4) (d : Fin 128) (t : Fin 4096) : col X g d t.val = X t (lane g d) := dif_pos t.isLt

theorem col_real (hX : ∀ t l, IsReal (X t l)) (g : Fin 4) (d : Fin 128) (n : Nat) : IsReal (col X g d n) := by
  unfold col
  split
  exacts [hX _ _, isReal_zero]

/-- The mean over a row's window less the row. -/
def pooled (g : Fin 4) (t : Fin 4096) (d : Fin 128) : EReal := back (col X g d) (2 ^ (g.val + 1)) t.val * ((1 / cnt g t.val : ℝ) : EReal) - X t (lane g d)

/-- The mixer's output. -/
def mixed (g : Fin 4) (t : Fin 4096) (e : Fin 128) : EReal := (∑ d : Fin 128, pooled X g t d * PW g d e) * S (lane g e)

/-- The pooled windows, as the reference computes them. -/
theorem pooled_eq (hX : ∀ t l, IsReal (X t l)) (g : Fin 4) (t : Fin 4096) (d : Fin 128) :
    Ideal.div (upto (col X g d) t.val - lag (col X g d) (2 ^ (g.val + 1)) t.val) ((cnt g t.val : ℝ) : EReal) - X t (lane g d) = pooled X g t d := by
  rw [back_eq _ (col_real X hX g d), Ideal.div_coe (cnt_pos g t.val).ne']
  rfl

/-- A running sum as a sum over every offset. -/
theorem upto_sum (f : Nat → EReal) (t : Fin 4096) : (∑ s : Fin 4096, if 4095 ≤ t.val + s.val then f (t.val + s.val - 4095) else 0) = upto f t.val := by
  rw [Fin.sum_univ_eq_sum_range (fun s : Nat => if 4095 ≤ t.val + s then f (t.val + s - 4095) else 0) 4096]
  have ht := t.isLt
  generalize t.val = t at ht ⊢
  rw [show 4096 = (4095 - t) + (t + 1) by omega, Finset.sum_range_add,
    Finset.sum_eq_zero (s := Finset.range (4095 - t)) fun j hj => if_neg (by have := Finset.mem_range.mp hj; omega), zero_add]
  unfold upto
  refine Finset.sum_congr rfl fun i _ => ?_
  rw [if_pos (by omega)]
  exact congrArg f (by omega)

end Cert.PoolFwd

end
-- ==== Proof.PoolFwdRef.lean ====
/-
  THE POOL MIXER'S REFERENCE AT AN INDEX. Its windows are differences of running sums; over real numbers they are the
  windows of PoolFwdSpec.
-/
module

public import proofs.«01_k».proof.Proof.Gen.Reference20Ideal.Run
public import Idealize.ShloMosaic.Lib.Pointwise
public import proofs.«01_k».proof.Proof.PoolRef
public import proofs.«01_k».proof.Proof.PoolFwdSpec

@[expose] public section

set_option maxRecDepth 16384

noncomputable section

namespace Cert.PoolFwd

open Cert.Pool Cert.Reals Cert.Reference20Ideal Cert.Reference20Ideal.Gen Cert.Reference20Ideal.Value Idealize.ShloMosaic Idealize.ShloMosaic.TcCoe Idealize.SL.Sem Idealize.ShloMosaic.StableHlo

/-- A float running sum from the first row to each. -/
theorem prefix_sum {n m p r : Nat} (x : (⟨4, ![1, n, p, r]⟩ : Shape).Idx → EReal) (h : (⟨4, ![1, n, p, r]⟩ : Shape).ReduceWindows ![1, n, 1, 1] ![1, 1, 1, 1] ![0, m, 0, 0] ![0, 0, 0, 0] ⟨4, ![1, n, p, r]⟩) (t : Fin n) (g : Fin p) (d : Fin r) :
    Ideal.hostReduceWindowAdd ![1, n, 1, 1] ![1, 1, 1, 1] ![0, m, 0, 0] ![0, 0, 0, 0] h x 0 (ix4 0 t g d) = ∑ s : Fin n, if hs : m ≤ t.val + s.val ∧ t.val + s.val - m < n then x (ix4 0 ⟨t.val + s.val - m, hs.2⟩ g d) else 0 := by
  rw [PoolRef.window_sum]
  refine (sum_idx4 (n0 := 1) (n1 := n) (n2 := 1) (n3 := 1) _).trans ?_
  refine (Fin.sum_univ_one _).trans (Finset.sum_congr rfl fun s _ => (Fin.sum_univ_one _).trans ((Fin.sum_univ_one _).trans ?_))
  by_cases hs : m ≤ t.val + s.val ∧ t.val + s.val - m < n
  · rw [dif_pos hs, dif_pos]
    · refine congrArg x (funext fun a => Fin.ext ?_)
      match a with
      | ⟨0, _⟩ => rfl
      | ⟨1, _⟩ => show t.val * 1 + s.val - m = t.val + s.val - m; omega
      | ⟨2, _⟩ => show g.val * 1 + 0 - 0 = g.val; omega
      | ⟨3, _⟩ => show d.val * 1 + 0 - 0 = d.val; omega
    · intro a
      have := g.isLt
      have := d.isLt
      match a with
      | ⟨0, _⟩ => exact ⟨Nat.zero_le _, Nat.one_pos⟩
      | ⟨1, _⟩ => exact ⟨by show m ≤ t.val * 1 + s.val; omega, by show t.val * 1 + s.val - m < n; omega⟩
      | ⟨2, _⟩ => exact ⟨Nat.zero_le _, by show g.val * 1 + 0 - 0 < p; omega⟩
      | ⟨3, _⟩ => exact ⟨Nat.zero_le _, by show d.val * 1 + 0 - 0 < r; omega⟩
  · rw [dif_neg hs, dif_neg]
    intro hin
    have := hin ⟨1, (by decide : 1 < 4)⟩
    change m ≤ t.val * 1 + s.val ∧ t.val * 1 + s.val - m < n at this
    omega

variable (V0 : Valuation τ sig (Elt Ideal))

/-- The mixer's input. -/
def refX (t : Fin 4096) (l : Fin 512) : EReal := (V0 (Proc.devRef .tc main_arg0) : S4096x1536.Idx → EReal) (ix2 t ⟨l.val, by omega⟩)
/-- The groups' weights. -/
def refPW (g : Fin 4) (d e : Fin 128) : EReal := (V0 (Proc.devRef .tc main_arg1) : S4x128x128.Idx → EReal) (ix3 g d e)
/-- The scale. -/
def refS (l : Fin 512) : EReal := (V0 (Proc.devRef .tc main_arg2) : S1x512.Idx → EReal) (ix2 0 l)

theorem v86_apply (t : Fin 4096) (g : Fin 4) (d : Fin 128) : (res_main_v86 V0 : S1x4096x4x128.Idx → EReal) (ix4 0 t g d) = refX V0 t (lane g d) := by
  pointwise [res_main_v86, res_main_v1, refX, lane]

theorem v87_apply (t : Fin 4096) (g : Fin 4) (d : Fin 128) : (res_main_v87 V0 : S1x4096x4x128.Idx → EReal) (ix4 0 t g d) = upto (col (refX V0) g d) t.val := by
  have e : (res_main_v87 V0 : S1x4096x4x128.Idx → EReal) (ix4 0 t g d) = Ideal.hostReduceWindowAdd ![1, 4096, 1, 1] ![1, 1, 1, 1] ![0, 4095, 0, 0] ![0, 0, 0, 0]
      reduceWindows_S1x4096x4x128_S1x4096x4x128_w1s1p0_0_w4096s1p4095_0_w1s1p0_0_w1s1p0_0 (res_main_v86 V0) 0 (ix4 0 t g d) := by
    unfold res_main_v87
    simp only [Host.reduceWindowAdd, Ideal.hostReduceWindowAdd_def]
    refine congrArg (fun z => Ideal.hostReduceWindowAdd _ _ _ _ _ (res_main_v86 V0) z (ix4 0 t g d)) ?_
    exact Ideal.ofBits_zero_f32
  rw [e]
  refine (prefix_sum (m := 4095) _ _ t g d).trans (Eq.trans (Finset.sum_congr rfl fun s _ => ?_) (upto_sum (col (refX V0) g d) t))
  by_cases h : 4095 ≤ t.val + s.val
  · have hlt : t.val + s.val - 4095 < 4096 := by omega
    rw [dif_pos ⟨h, hlt⟩, if_pos h, v86_apply]
    exact (col_of (refX V0) g d ⟨_, hlt⟩).symm
  · rw [dif_neg (fun hs => h hs.1), if_neg h]

theorem lag_if (f : Nat → EReal) (w t : Nat) : (if _ : t < w then (0 : EReal) else upto f (t - w)) = lag f w t := by
  unfold lag
  by_cases h : w ≤ t
  · rw [if_pos h, dif_neg (by omega)]
  · rw [if_neg h, dif_pos (by omega)]

/-- One group's windows, from the parts the reference computes. -/
theorem window_of (g : Fin 4) (t : Fin 4096) (d : Fin 128) (w : EReal) (hw : w = ((2 ^ (g.val + 1) : ℝ) : EReal)) :
    Ideal.div (upto (col (refX V0) g d) t.val - if _ : t.val < 2 ^ (g.val + 1) then (0 : EReal) else upto (col (refX V0) g d) (t.val - 2 ^ (g.val + 1)))
        (min (FloatOps.sitofp (F := Ideal) FTy.f32 (BitVec.ofNat 32 t.val) + 1) w) - refX V0 t (lane g d)
      = Ideal.div (upto (col (refX V0) g d) t.val - lag (col (refX V0) g d) (2 ^ (g.val + 1)) t.val) ((cnt g t.val : ℝ) : EReal) - refX V0 t (lane g d) := by
  rw [lag_if, PoolRef.cnt_eq g t w hw]

/-- The pooled windows. -/
theorem v161_apply (hX : ∀ t l, IsReal (refX V0 t l)) (t : Fin 4096) (g : Fin 4) (d : Fin 128) :
    (res_main_v161 V0 : S1x4096x4x128.Idx → EReal) (ix4 0 t g d) = pooled (refX V0) g t d := by
  rw [← pooled_eq _ hX]
  match g with
  | 0 =>
    pointwise [res_main_v161, res_main_v90, res_main_v88, v86_apply V0, v87_apply V0]
    exact window_of V0 0 t d _ (by simp [Ideal.ofBits, Ideal.ieee, -EReal.coe_mul, -EReal.coe_pow]; norm_num)
  | 1 =>
    pointwise [res_main_v161, res_main_v107, res_main_v88, v86_apply V0, v87_apply V0]
    exact window_of V0 1 t d _ (by simp [Ideal.ofBits, Ideal.ieee, -EReal.coe_mul, -EReal.coe_pow]; norm_num)
  | 2 =>
    pointwise [res_main_v161, res_main_v124, res_main_v88, v86_apply V0, v87_apply V0]
    exact window_of V0 2 t d _ (by simp [Ideal.ofBits, Ideal.ieee, -EReal.coe_mul, -EReal.coe_pow]; norm_num)
  | 3 =>
    pointwise [res_main_v161, res_main_v141, res_main_v88, v86_apply V0, v87_apply V0]
    exact window_of V0 3 t d _ (by simp [Ideal.ofBits, Ideal.ieee, -EReal.coe_mul, -EReal.coe_pow]; norm_num)

/-- The windows that the mixer's output reads are the pooled windows. -/
theorem v78_eq : res_main_v78 V0 = Host.dotGeneral (F := Ideal) (φ₁ := .f32) (φ₂ := .f32) dot_S4x128x128_S1x4096x4x128_S4x128x1x4096_1_3_2_01_0_2 none (V0 (Proc.devRef .tc main_arg1) : FVec Ideal S4x128x128 .f32) (res_main_v161 V0 : FVec Ideal S1x4096x4x128 .f32) := rfl

/-- The mixer's output, as the reference computes it. -/
def yOf : FVec Ideal S4096x512 .bf16 :=
  truncf .bf16 (shapeCast _ (mulf (shapeCast _ (transpose S1x4096x4x128 [2, 3, 0, 1] (res_main_v78 V0) transposes_S4x128x1x4096_S1x4096x4x128_2_3_0_1) shapeCasts_S1x4096x4x128_S1x4096x512) (broadcastInDim S1x4096x512 ![0, 1, 2] bcast_S1x1x512_S1x4096x512_0_1_2 (broadcastInDim S1x1x512 ![1, 2] bcast_S1x512_S1x1x512_1_2 (V0 (Proc.devRef .tc main_arg2))))) shapeCasts_S1x4096x512_S4096x512 : FVec Ideal S4096x512 .f32) bitsLt_bf16_f32

/-- The pooled windows, laid side by side. -/
def pOf : FVec Ideal S4096x512 .bf16 :=
  truncf .bf16 (shapeCast _ (shapeCast _ (res_main_v161 V0) shapeCasts_S1x4096x4x128_S4096x4x128) shapeCasts_S4096x4x128_S4096x512 : FVec Ideal S4096x512 .f32) bitsLt_bf16_f32

theorem pOf_apply (hX : ∀ t l, IsReal (refX V0 t l)) (t : Fin 4096) (g : Fin 4) (d : Fin 128) : pOf V0 (ix2 t (lane g d)) = pooled (refX V0) g t d := by
  have h1 : (lane g d).val / 128 = g.val := by simp only [lane]; omega
  have h2 : (lane g d).val % 128 = d.val := by simp only [lane]; omega
  rw [← v161_apply V0 hX]
  pointwise [pOf]
  simp only [h1, h2]

theorem yOf_apply (hX : ∀ t l, IsReal (refX V0 t l)) (t : Fin 4096) (g : Fin 4) (e : Fin 128) :
    yOf V0 (ix2 t (lane g e)) = mixed (refX V0) (refPW V0) (refS V0) g t e := by
  have h1 : (lane g e).val / 128 = g.val := by simp only [lane]; omega
  have h2 : (lane g e).val % 128 = e.val := by simp only [lane]; omega
  unfold mixed
  have h : ∀ d, pooled (refX V0) g t d = (res_main_v161 V0 : S1x4096x4x128.Idx → EReal) (ix4 0 t g d) := fun d => (v161_apply V0 hX t g d).symm
  simp only [h]
  have v := v78_eq V0
  unfold yOf
  rw [v]
  generalize (res_main_v161 V0 : FVec Ideal S1x4096x4x128 .f32) = P
  pointwise [dot_S4x128x128_S1x4096x4x128_S4x128x1x4096_1_3_2_01_0_2]
  simp only [h1, h2]
  exact congrArg (· * _) (Finset.sum_congr (M := EReal) rfl fun d _ => mul_comm _ _)

end Cert.PoolFwd

end
-- ==== Proof.PoolFwd.lean ====
/-
  THE POOL MIXER, THE KERNEL AND THE CLAIM. Each grid point computes one group of 128 lanes: its windows by doubling, the
  window less the row, the group's weights and scale.
-/
module

public import proofs.«01_k».proof.Defs
public import proofs.«01_k».proof.Proof.PoolFwdRef
public import proofs.«01_k».proof.Proof.PoolKernel
public import proofs.«01_k».proof.Proof.Gen.Kernel20Ideal
public import proofs.«01_k».proof.Proof.Gen.Kernel20Ideal.Value
public import proofs.«01_k».proof.Proof.Gen.Reference20Ideal
public import proofs.«01_k».proof.Proof.Gen.Pre_finite20
public import Idealize.ShloMosaic.Lib.Pointwise
public import Idealize.ShloMosaic.Lib.StableHlo.RunRead
public import Idealize.ShloMosaic.Lib.Pipeline.ValueKit

@[expose] public section

set_option maxRecDepth 16384

noncomputable section

namespace Cert.PoolFwd

open Cert.Pool Cert.Reals Cert.Kernel20Ideal Cert.Kernel20Ideal.Gen Idealize.ShloMosaic Idealize.ShloMosaic.TcCoe Idealize.SL.Sem Idealize.ShloMosaic.StableHlo

/-- One doubling of a window sum: rows `n` further up, nothing above the first row. -/
def stepUp (n : BitVec 32) (v : FVec Ideal S4096x128 .f32) : FVec Ideal S4096x128 .f32 :=
  addf v (select (cmpi .sge (iota .tc S4096x128 32 [0] iota_S4096x128_d0_w32) (broadcast S4096x128 n))
      (dynamicRotate 0 n none v rotates_S4096x128_d0) (broadcast S4096x128 (Scalar.ofBits (F := Ideal) .f32 0x00000000#32)))

/-- A doubling makes of windows of `w` rows the windows of `2 w` rows. -/
theorem stepUp_apply (w : Nat) (hw : w < 4096) (v : FVec Ideal S4096x128 .f32) (f : Fin 128 → Nat → EReal)
    (hv : ∀ (t : Fin 4096) (d : Fin 128), v (ix2 t d) = back (f d) w t.val)
    (t : Fin 4096) (d : Fin 128) : stepUp (BitVec.ofNat 32 w) v (ix2 t d) = back (f d) (2 * w) t.val := by
  unfold stepUp
  pointwise
  have hn : (BitVec.ofNat 32 w).toNat = w := by
    rw [BitVec.toNat_ofNat]; exact Nat.mod_eq_of_lt (by omega)
  have hc : IntOp.cmpi .sge (BitVec.ofNat 32 t.val) (BitVec.ofNat 32 w) = if w ≤ t.val then 1#1 else 0#1 := by
    have h1 : (BitVec.ofNat 32 t.val).toInt = t.val := toInt_small _ (by omega)
    have h2 : (BitVec.ofNat 32 w).toInt = (w : Int) := toInt_small _ (by omega)
    generalize BitVec.ofNat 32 w = n at h2 ⊢
    by_cases h : w ≤ t.val
    · rw [if_pos h]; simp only [IntOp.cmpi, BitVec.sle, h1, h2]; exact congrArg BitVec.ofBool (decide_eq_true (by omega))
    · rw [if_neg h]; simp only [IntOp.cmpi, BitVec.sle, h1, h2]; exact congrArg BitVec.ofBool (decide_eq_false (by omega))
  rw [hc, back_double, hv]
  congr 1
  by_cases h : w ≤ t.val
  · rw [if_pos h, if_pos h]
    have e : (⟨(t.val + 4096 - (BitVec.ofNat 32 w).toNat % 4096) % 4096, Nat.mod_lt _ (by decide)⟩ : Fin 4096) = ⟨t.val - w, by omega⟩ :=
      Fin.ext (by show _ % 4096 = t.val - w; rw [hn]; omega)
    simp only [Scalar.select]
    rw [e]
    simpa using hv ⟨t.val - w, by omega⟩ d
  · rw [if_neg h, if_neg h]
    simp [Scalar.select]

/-- The window of the point's group, as the body computes it. -/
theorem pay3_eq (i : grid0.Coords) (v : FVec Ideal S4096x128 .f32) :
    k0_pay3 (F := Ideal) i v
      = Scalar.select (Scalar.cmpi .eq (BitVec.ofNat 32 (i 0).val) 3#32) (stepUp 8#32 (stepUp 4#32 (stepUp 2#32 (stepUp 1#32 v))))
          (Scalar.select (Scalar.cmpi .eq (BitVec.ofNat 32 (i 0).val) 2#32) (stepUp 4#32 (stepUp 2#32 (stepUp 1#32 v)))
            (Scalar.select (Scalar.cmpi .eq (BitVec.ofNat 32 (i 0).val) 1#32) (stepUp 2#32 (stepUp 1#32 v))
              (Scalar.select (Scalar.cmpi .eq (BitVec.ofNat 32 (i 0).val) 0#32) (stepUp 1#32 v)
                (broadcast S4096x128 (Scalar.ofBits (F := Ideal) .f32 0x00000000#32))))) := rfl

/-- At group `k` that is the window of `2 ^ (k + 1)` rows. -/
theorem pay3_apply (i : grid0.Coords) (k : Fin 4) (hk : (i 0).val = k.val) (v : FVec Ideal S4096x128 .f32) (f : Fin 128 → Nat → EReal)
    (hv : ∀ (t : Fin 4096) (d : Fin 128), v (ix2 t d) = f d t.val) (t : Fin 4096) (d : Fin 128) :
    k0_pay3 (F := Ideal) i v (ix2 t d) = back (f d) (2 ^ (k.val + 1)) t.val := by
  have h1 := stepUp_apply 1 (by decide) v f (fun t d => by rw [hv]; simp [back])
  have h2 := stepUp_apply 2 (by decide) _ f h1
  have h3 := stepUp_apply 4 (by decide) _ f h2
  have h4 := stepUp_apply 8 (by decide) _ f h3
  rw [pay3_eq, hk]
  fin_cases k
  · exact h1 t d
  · exact h2 t d
  · exact h3 t d
  · exact h4 t d

/-- The window over its row's count, less the row. -/
theorem pay1_apply (i : grid0.Coords) (v s : FVec Ideal S4096x128 .f32) (t : Fin 4096) (d : Fin 128) :
    k0_pay1 (F := Ideal) v s (k0_pay4 i) k0_pay5 (Scalar.ofBits (F := Ideal) .f32 0x3F800000#32) (ix2 t d)
      = s (ix2 t d) * Ideal.div 1 (min (FloatOps.sitofp (F := Ideal) FTy.f32 (BitVec.ofNat 32 t.val) + 1)
          (((Scalar.shli 2#32 (BitVec.ofNat 32 (i 0).val)).toInt : ℝ) : EReal)) - v (ix2 t d) := by
  pointwise [k0_pay1, k0_pay4, k0_pay5]

/-- The group's output: the windows times the weights, scaled. -/
theorem pay2_apply (v s : FVec Ideal S4096x128 .f32) (a : Ideal .f32) (b : FVec Ideal S4096x128 .f32) (o : Ideal .f32) (w : FVec Ideal S1x128x128 .f32) (c : FVec Ideal S1x128 .f32) (t : Fin 4096) (e : Fin 128) :
    k0_pay2 (F := Ideal) v s a b o w c (ix2 t e) = (∑ d : Fin 128, k0_pay1 (F := Ideal) v s a b o (ix2 t d) * w (ix3 0 d e)) * c (ix2 0 e) := by
  unfold k0_pay2
  generalize k0_pay1 (F := Ideal) v s a b o = P
  pointwise [dot_S4096x128_S128x128_S4096x128_1_0_0_1_n_n]

variable (m : (ℓ : Loc nD τ sig) → Buf (Elt Ideal) ℓ) (c : Dev nD)

/-- The mixer's input. -/
def kX (t : Fin 4096) (l : Fin 512) : EReal := V m c main_arg0 (ix2 t ⟨l.val, by omega⟩)
/-- The groups' weights. -/
def kPW (g : Fin 4) (d e : Fin 128) : EReal := V m c main_arg1 (ix3 g d e)
/-- The scale. -/
def kS (l : Fin 512) : EReal := V m c main_arg2 (ix2 0 l)

/-- The blocks' indices at each grid point. -/
theorem pidx : ∀ t, win0_0.index t = ![0, (grid0.coords t 0).val] ∧ win0_1.index t = ![(grid0.coords t 0).val, 0, 0]
    ∧ win0_2.index t = ![0, (grid0.coords t 0).val] ∧ win0_3.index t = ![0, (grid0.coords t 0).val] ∧ win0_4.index t = ![0, (grid0.coords t 0).val] := by
  decide +kernel

/-- The group a grid point computes. -/
def pgrp (t : Fin cfg0.N) : Fin 4 := grid0.coords t 0

variable (t : Fin cfg0.N)

theorem pblk0 (r : Fin 4096) (d : Fin 128) : iblk m c 0 t (ix2 r d) = kX m c r (lane (pgrp t) d) := by
  unfold kX lane pgrp
  blk_ext [iblk, (pidx t).1]

theorem pblk1 (d e : Fin 128) : iblk m c 1 t (ix3 0 d e) = kPW m c (pgrp t) d e := by
  unfold kPW pgrp
  blk_ext [iblk, (pidx t).2.1]

theorem pblk2 (e : Fin 128) : iblk m c 2 t (ix2 0 e) = kS m c (lane (pgrp t) e) := by
  unfold kS lane pgrp
  blk_ext [iblk, (pidx t).2.2.1]

/-- A point's pooled windows. -/
theorem pooled_at (r : Fin 4096) (d : Fin 128) :
    k0_pay1 (F := Ideal) (iblk m c 0 t) (k0_pay3 (grid0.coords t) (iblk m c 0 t)) (k0_pay4 (grid0.coords t)) k0_pay5 (Scalar.ofBits (F := Ideal) .f32 0x3F800000#32) (ix2 r d)
      = pooled (kX m c) (pgrp t) r d := by
  rw [pay1_apply, pay3_apply (grid0.coords t) (pgrp t) rfl (iblk m c 0 t) (col (kX m c) (pgrp t)) (fun r d => (pblk0 m c t r d).trans (col_of _ _ _ _).symm), pblk0]
  erw [cnt_eq (pgrp t) r]
  rw [Ideal.div_coe (cnt_pos _ _).ne', one_mul]
  rfl

/-- A point's output. -/
theorem mixed_at (r : Fin 4096) (e : Fin 128) :
    k0_pay2 (F := Ideal) (iblk m c 0 t) (k0_pay3 (grid0.coords t) (iblk m c 0 t)) (k0_pay4 (grid0.coords t)) k0_pay5 (Scalar.ofBits (F := Ideal) .f32 0x3F800000#32) (iblk m c 1 t) (iblk m c 2 t) (ix2 r e)
      = mixed (kX m c) (kPW m c) (kS m c) (pgrp t) r e := by
  rw [pay2_apply, pblk2]
  unfold mixed
  refine congrArg (· * _) (Finset.sum_congr rfl fun d _ => ?_)
  rw [pooled_at, pblk1]

/-- The pooled windows. -/
abbrev POut : S4096x512.Idx → EReal := fun j => pooled (kX m c) (grpOf (j 1)) (j 0) (inGrp (j 1))
/-- The mixer's output. -/
abbrev YOut : S4096x512.Idx → EReal := fun j => mixed (kX m c) (kPW m c) (kS m c) (grpOf (j 1)) (j 0) (inGrp (j 1))

theorem mixed_lane (g : Fin 4) (r : Fin 4096) (e : Fin 128) : mixed (kX m c) (kPW m c) (kS m c) g r e = YOut m c (ix2 r (lane g e)) := by
  show _ = mixed (kX m c) (kPW m c) (kS m c) (grpOf (lane g e)) r (inGrp (lane g e))
  rw [grpOf_lane, inGrp_lane]

theorem pooled_lane (g : Fin 4) (r : Fin 4096) (d : Fin 128) : pooled (kX m c) g r d = POut m c (ix2 r (lane g d)) := by
  show _ = pooled (kX m c) (grpOf (lane g d)) r (inGrp (lane g d))
  rw [grpOf_lane, inGrp_lane]

/-- The mixer's output after the run. -/
theorem parr3 : (dats m 0 c).arrAt 3 cfg0.N = YOut m c := by
  refine (dats m 0 c).arrAt_eq_of_covers 3 _ (by decide +kernel) fun t hf y => ?_
  blk_simp
  rw [after0_3]
  unfold_out out0_3
  frame_out
  have e : ((View.whole main_v0_0).slice (win0_3.rect t)).emb y = (ix2 (n0 := 4096) (n1 := 512) (y 0) (lane (pgrp t) (y 1)) : S4096x512.Idx) := by
    unfold lane pgrp
    blk_ext [(pidx t).2.2.2.1]
  have e' : y = (ix2 (n0 := 4096) (n1 := 128) (y 0) (y 1)) := by blk_ext
  rw [e]
  exact (congrArg _ e').trans ((mixed_at m c t (y 0) (y 1)).trans (mixed_lane m c _ _ _))

/-- The pooled windows after the run. -/
theorem parr4 : (dats m 0 c).arrAt 4 cfg0.N = POut m c := by
  refine (dats m 0 c).arrAt_eq_of_covers 4 _ (by decide +kernel) fun t hf y => ?_
  blk_simp
  rw [after0_4]
  unfold_out out0_4
  frame_out
  have e : ((View.whole main_v0_1).slice (win0_4.rect t)).emb y = (ix2 (n0 := 4096) (n1 := 512) (y 0) (lane (pgrp t) (y 1)) : S4096x512.Idx) := by
    unfold lane pgrp
    blk_ext [(pidx t).2.2.2.2]
  have e' : y = (ix2 (n0 := 4096) (n1 := 128) (y 0) (y 1)) := by blk_ext
  rw [e]
  exact (congrArg _ e').trans ((pooled_at m c t (y 0) (y 1)).trans (pooled_lane m c _ _ _))

/-- What the precondition says: the mixer's input is real. -/
theorem real_of_pre {a0 : FVec Ideal Cert.Pre_finite20.S4096x1536 .f32} {a1 : FVec Ideal Cert.Pre_finite20.S4x128x128 .f32} {a2 : FVec Ideal Cert.Pre_finite20.S1x512 .f32}
    (h : Cert.Pre_finite20.fn a0 a1 a2 = fun _ => 1#1) (t : Fin 4096) (l : Fin 512) : IsReal (a0 (ix2 t ⟨l.val, by omega⟩)) := by
  have e := isReal_of_lt (congrFun h (ix2 t l))
  have e' : extractStridedSlice Cert.Pre_finite20.S4096x512 ![0, 0] a0 Cert.Pre_finite20.Facts.slices_S4096x1536_S4096x512_0_0 (ix2 t l) = a0 (ix2 t ⟨l.val, by omega⟩) := by pointwise
  exact e' ▸ e

theorem lane_of (l : Fin 512) : lane (grpOf l) (inGrp l) = l := Fin.ext (by simp only [lane, grpOf, inGrp]; omega)

/-- A row of lanes is known from its groups. -/
theorem by_lane (R G : S4096x512.Idx → EReal) (h : ∀ (t : Fin 4096) (g : Fin 4) (d : Fin 128), R (ix2 t (lane g d)) = G (ix2 t (lane g d))) : R = G := by
  funext j
  have e : j = (ix2 (j 0) (lane (grpOf (j 1)) (inGrp (j 1))) : S4096x512.Idx) :=
    (eq_ix2 j).trans (congrArg (fun l : Fin 512 => (ix2 (j 0) l : S4096x512.Idx)) (lane_of (j 1)).symm)
  exact (congrArg R e).trans ((h _ _ _).trans (congrArg G e).symm)

/-- Over the extended reals the kernel's results are the reference's, where the mixer's input is real. -/
theorem algebraic : Cert.algebraic_Kernel20Ideal_Reference20Ideal_pre_finite20 := by
  intro m ρ m' ρ' hpre hagree
  refine ⟨fun c => YOut m c, fun c => POut m c, (θ_run _ _ _).mono (fun r h c => ?_) (Cert.Kernel20Ideal.Value.run_blocks m ρ), (θ_run _ _ _).mono (fun r h c => ?_) (Cert.Reference20Ideal.Value.run m' ρ')⟩
  · exact ⟨(h c).1.trans (parr3 m c), (h c).2.1.trans (parr4 m c), (h c).2.2⟩
  · have eX : refX (launchContents m' c) = kX m c := by
      funext t l
      exact congrFun ((hagree c).1.trans (V_main_arg0 m c).symm) _
    have ePW : refPW (launchContents m' c) = kPW m c := by
      funext g d e
      exact congrFun ((hagree c).2.1.trans (V_main_arg1 m c).symm) _
    have eS : refS (launchContents m' c) = kS m c := by
      funext l
      exact congrFun ((hagree c).2.2.trans (V_main_arg2 m c).symm) _
    have hX : ∀ t l, IsReal (refX (launchContents m' c) t l) := fun t l => by
      rw [eX]
      unfold kX
      rw [V_main_arg0]
      exact real_of_pre (hpre c) t l
    refine ⟨(h c).1.trans ?_, (h c).2.1.trans ?_, (h c).2.2⟩
    · refine by_lane (yOf (launchContents m' c)) (YOut m c) fun t g d => (yOf_apply _ hX t g d).trans ?_
      rw [eX, ePW, eS, mixed_lane]
    · refine by_lane (pOf (launchContents m' c)) (POut m c) fun t g d => (pOf_apply _ hX t g d).trans ?_
      rw [eX, pooled_lane]

end Cert.PoolFwd

end
-- ==== Proof.FirstNorm.lean ====
/-
  THE FIRST NORM. Each grid point norms and scales 512 rows of the stream and keeps their reciprocal root mean squares.
-/
module

public import proofs.«01_k».proof.Defs
public import proofs.«01_k».proof.Proof.NormStep
public import proofs.«01_k».proof.Proof.Gen.Kernel22Ideal
public import proofs.«01_k».proof.Proof.Gen.Kernel22Ideal.Value
public import proofs.«01_k».proof.Proof.Gen.Reference22Ideal
public import proofs.«01_k».proof.Proof.Gen.Reference22Ideal.Run
public import Idealize.ShloMosaic.Lib.Pointwise
public import Idealize.ShloMosaic.Lib.Pipeline.ReadBack
public import Idealize.ShloMosaic.Lib.Pipeline.ValueKit

@[expose] public section

set_option maxRecDepth 16384

noncomputable section

namespace Cert.FirstNorm

open Cert.Kernel22Ideal Cert.Kernel22Ideal.Gen Idealize.ShloMosaic Idealize.ShloMosaic.TcCoe Idealize.SL.Sem Idealize.ShloMosaic.StableHlo Cert.NormStep Cert.MlpH

variable (m : (ℓ : Loc nD τ sig) → Buf (Elt Ideal) ℓ)

/-- The blocks' indices at each grid point. -/
theorem idx : ∀ t, win0_0.index t = ![t.val, 0] ∧ win0_1.index t = ![0, 0] ∧ win0_2.index t = ![t.val, 0] ∧ win0_3.index t = ![t.val, 0] := by
  decide +kernel

/-- The row of the whole array at which a grid point's row stands. -/
def row (t : Fin cfg0.N) (r : Fin 512) : Fin 4096 := ⟨512 * t.val + r.val, by have : t.val < 8 := t.isLt; omega⟩

theorem iblk0 (c : Dev nD) (t : Fin cfg0.N) (r : Fin 512) (l : Fin 1024) : iblk m c 0 t (ix2 r l) = V m c main_arg0 (ix2 (row t r) l) := by
  unfold row
  blk_ext [iblk, (idx t).1]

theorem iblk1 (c : Dev nD) (t : Fin cfg0.N) (l : Fin 1024) : iblk m c 1 t (ix2 0 l) = V m c main_arg1 (ix2 0 l) := by
  blk_ext [iblk, (idx t).2.1]

/-- The normed and scaled rows. -/
theorem arr2 (c : Dev nD) : (dats m 0 c).arrAt 2 cfg0.N = normArr (V m c main_arg0) (V m c main_arg1) := by
  refine (dats m 0 c).arrAt_eq_of_covers 2 _ (by decide +kernel) fun t hf y => ?_
  blk_simp
  rw [after0_2]
  frame_out
  have e : ((View.whole main_v0_0).slice (win0_2.rect t)).emb y = (ix2 (n0 := 4096) (n1 := 1024) (row t (y 0)) (y 1) : S4096x1024.Idx) := by
    unfold row
    blk_ext [(idx t).2.2.1]
  have e' : y = (ix2 (n0 := 512) (n1 := 1024) (y 0) (y 1)) := by blk_ext
  rw [e]
  exact (congrArg _ e').trans (normB_row (y := iblk m c 0 t) (iblk0 m c t (y 0)) (iblk1 m c t) (y 1))

/-- The rows' reciprocal root mean squares. -/
theorem arr3 (c : Dev nD) : (dats m 0 c).arrAt 3 cfg0.N = rrArr (V m c main_arg0) := by
  refine (dats m 0 c).arrAt_eq_of_covers 3 _ (by decide +kernel) fun t hf y => ?_
  blk_simp
  rw [after0_3]
  frame_out
  have e : ((View.whole main_v0_1).slice (win0_3.rect t)).emb y = (ix2 (n0 := 4096) (n1 := 1) (row t (y 0)) (y 1) : S4096x1.Idx) := by
    unfold row
    blk_ext [(idx t).2.2.2]
  have e' : y = (ix2 (n0 := 512) (n1 := 1) (y 0) (y 1)) := by blk_ext
  rw [e]
  exact (congrArg _ e').trans (rrB_row (y := iblk m c 0 t) (iblk0 m c t (y 0)) (y 1))

/-- Over the extended reals the kernel's two results are the reference's. -/
theorem algebraic : Cert.algebraic_Kernel22Ideal_Reference22Ideal := by
  intro m ρ m' ρ' _ hagree
  refine ⟨fun c => normArr (V m c main_arg0) (V m c main_arg1), fun c => rrArr (V m c main_arg0),
    (θ_run _ _ _).mono (fun r h c => ?_) (Cert.Kernel22Ideal.Value.run_blocks m ρ), (θ_run _ _ _).mono (fun r h c => ?_) (Cert.Reference22Ideal.Value.run m' ρ')⟩
  · exact ⟨(h c).1.trans (arr2 m c), (h c).2.1.trans (arr3 m c), (h c).2.2⟩
  · have e0 := (V_main_arg0 m c).trans (hagree c).1.symm
    have e1 := (V_main_arg1 m c).trans (hagree c).2.symm
    refine ⟨(h c).1.trans ?_, (h c).2.1.trans ?_, (h c).2.2⟩
    all_goals beta_reduce
    · rw [e0, e1]
      funext j
      exact (congrArg _ (eq_ix2 j)).trans (normA_row _ _ (j 0) (j 1))
    · rw [e0]
      funext j
      exact (congrArg _ (eq_ix2 j)).trans (rrmsA_row _ (j 0) (j 1))

end Cert.FirstNorm

end
-- ==== Proof.MixEven.lean ====
/-
  THE EVEN LAYER'S OUTPUT PROJECTION, THE RESIDUAL STEP AND THE NORM BEFORE THE PERCEPTRON. As for the odd layer (MixOut),
  except that the second part, attention's, comes in single precision and is rounded before the product: over the
  extended reals the projection is the same.
-/
module

public import proofs.«01_k».proof.Defs
public import proofs.«01_k».proof.Proof.MixOut
public import proofs.«01_k».proof.Proof.Gen.Kernel23Ideal
public import proofs.«01_k».proof.Proof.Gen.Kernel23Ideal.Value
public import proofs.«01_k».proof.Proof.Gen.Reference23Ideal
public import proofs.«01_k».proof.Proof.Gen.Reference23Ideal.Run
public import Idealize.ShloMosaic.Lib.Pointwise
public import Idealize.ShloMosaic.Lib.Pipeline.ReadBack
public import Idealize.ShloMosaic.Lib.Pipeline.ValueKit

@[expose] public section

set_option maxRecDepth 16384

noncomputable section

namespace Cert.MixEven

open Cert.Kernel23Ideal Cert.Kernel23Ideal.Gen Idealize.ShloMosaic Idealize.ShloMosaic.TcCoe Idealize.SL.Sem Idealize.ShloMosaic.StableHlo Cert.NormStep Cert.MlpH
open Cert.MixOut (out lo hi)

theorem pay_apply (x : Vec Ideal S512x512 .bf16) (w : Vec Ideal S512x1024 .bf16) (x' : Vec Ideal S512x512 .f32) (w' : Vec Ideal S512x1024 .bf16) (r : Fin 512) (l : Fin 1024) :
    k0_pay2 x w x' w' (ix2 r l) = (∑ k : Fin 512, x (ix2 r k) * w (ix2 k l)) + ∑ k : Fin 512, x' (ix2 r k) * w' (ix2 k l) := by
  pointwise [k0_pay2, dot_S512x512_S512x1024_S512x1024_1_0_0_1_n_n]

/-- The reference's projection. -/
def refOut (A : FVec Ideal S4096x512 .bf16) (B : FVec Ideal S4096x512 .f32) (W : FVec Ideal S1024x1024 .bf16) : FVec Ideal S4096x1024 .f32 :=
  Host.dotGeneral (φ₁ := .f32) (φ₂ := .f32) Cert.Reference23Ideal.dot_S4096x1024_S1024x1024_S4096x1024_1_0_0_1_n_n none (concatenate S4096x1024 1 [⟨S4096x512, extf .f32 A Cert.Reference23Ideal.Gen.bitsLt_bf16_f32⟩, ⟨S4096x512, B⟩] Cert.Reference23Ideal.Gen.concatenates_S4096x512_S4096x512_S4096x1024_d1 : FVec Ideal S4096x1024 .f32) (extf .f32 W Cert.Reference23Ideal.Gen.bitsLt_bf16_f32)

theorem refOut_apply (A : FVec Ideal S4096x512 .bf16) (B : FVec Ideal S4096x512 .f32) (W : FVec Ideal S1024x1024 .bf16) (t : Fin 4096) (l : Fin 1024) : refOut A B W (ix2 t l) = out A B W (ix2 t l) := by
  unfold out
  pointwise [refOut, Cert.Reference23Ideal.dot_S4096x1024_S1024x1024_S4096x1024_1_0_0_1_n_n]
  done

theorem refOut_eq (A : FVec Ideal S4096x512 .bf16) (B : FVec Ideal S4096x512 .f32) (W : FVec Ideal S1024x1024 .bf16) : refOut A B W = out A B W := by
  funext j
  exact (congrArg _ (eq_ix2 j)).trans ((refOut_apply A B W (j 0) (j 1)).trans (congrArg _ (eq_ix2 j).symm))

variable (m : (ℓ : Loc nD τ sig) → Buf (Elt Ideal) ℓ)

/-- The blocks' indices at each grid point. -/
theorem idx : ∀ t, win0_0.index t = ![t.val, 0] ∧ win0_1.index t = ![t.val, 0] ∧ win0_2.index t = ![0, 0] ∧ win0_3.index t = ![t.val, 0] ∧ win0_4.index t = ![0, 0] ∧ win0_5.index t = ![0, 0]
    ∧ win0_6.index t = ![t.val, 0] ∧ win0_7.index t = ![t.val, 0] ∧ win0_8.index t = ![t.val, 0] ∧ win0_9.index t = ![t.val, 0] ∧ win0_10.index t = ![t.val, 0] := by
  decide +kernel

/-- The row of the whole array at which a grid point's row stands. -/
def row (t : Fin cfg0.N) (r : Fin 512) : Fin 4096 := ⟨512 * t.val + r.val, by have : t.val < 8 := t.isLt; omega⟩

/-- The projection of the arguments. -/
abbrev Y (c : Dev nD) : S4096x1024.Idx → EReal := out (V m c main_arg0) (V m c main_arg1) (V m c main_arg2)

theorem iblk0 (c : Dev nD) (t : Fin cfg0.N) (r : Fin 512) (k : Fin 512) : iblk m c 0 t (ix2 r k) = V m c main_arg0 (ix2 (row t r) k) := by
  unfold row
  blk_ext [iblk, (idx t).1]

theorem iblk1 (c : Dev nD) (t : Fin cfg0.N) (r : Fin 512) (k : Fin 512) : iblk m c 1 t (ix2 r k) = V m c main_arg1 (ix2 (row t r) k) := by
  unfold row
  blk_ext [iblk, (idx t).2.1]

theorem iblk2 (c : Dev nD) (t : Fin cfg0.N) (k : Fin 1024) (l : Fin 1024) : iblk m c 2 t (ix2 k l) = V m c main_arg2 (ix2 k l) := by
  blk_ext [iblk, (idx t).2.2.1]

theorem iblk3 (c : Dev nD) (t : Fin cfg0.N) (r : Fin 512) (l : Fin 1024) : iblk m c 3 t (ix2 r l) = V m c main_arg3 (ix2 (row t r) l) := by
  unfold row
  blk_ext [iblk, (idx t).2.2.2.1]

theorem iblk4 (c : Dev nD) (t : Fin cfg0.N) (l : Fin 1024) : iblk m c 4 t (ix2 0 l) = V m c main_arg4 (ix2 0 l) := by
  blk_ext [iblk, (idx t).2.2.2.2.1]

theorem iblk5 (c : Dev nD) (t : Fin cfg0.N) (l : Fin 1024) : iblk m c 5 t (ix2 0 l) = V m c main_arg5 (ix2 0 l) := by
  blk_ext [iblk, (idx t).2.2.2.2.2.1]

/-- The two halves of the weight's rows, loaded from its block. -/
theorem lo_at (c : Dev nD) (t : Fin cfg0.N) (k : Fin 512) (l : Fin 1024) : View.ld (iblk m c 2 t) r0_1 (ix2 k l) = V m c main_arg2 (ix2 (lo k) l) := by
  refine (View.ld_unit_apply_of _ _ _ _ _ (ix2 (lo k) l) fun a => ?_).trans (iblk2 m c t (lo k) l)
  match a with
  | ⟨0, _⟩ => exact (Nat.zero_add _).symm
  | ⟨1, _⟩ => exact (Nat.zero_add _).symm

theorem hi_at (c : Dev nD) (t : Fin cfg0.N) (k : Fin 512) (l : Fin 1024) : View.ld (iblk m c 2 t) r0_2 (ix2 k l) = V m c main_arg2 (ix2 (hi k) l) := by
  refine (View.ld_unit_apply_of _ _ _ _ _ (ix2 (hi k) l) fun a => ?_).trans (iblk2 m c t (hi k) l)
  match a with
  | ⟨0, _⟩ => rfl
  | ⟨1, _⟩ => exact (Nat.zero_add _).symm

/-- The projection's rows at a grid point. -/
abbrev P (c : Dev nD) (t : Fin cfg0.N) : FVec Ideal S512x1024 .f32 := k0_pay2 (iblk m c 0 t) (View.ld (iblk m c 2 t) r0_1) (iblk m c 1 t) (View.ld (iblk m c 2 t) r0_2)

theorem prod_at (c : Dev nD) (t : Fin cfg0.N) (r : Fin 512) (l : Fin 1024) : P m c t (ix2 r l) = Y m c (ix2 (row t r) l) := by
  unfold P
  rw [pay_apply]
  exact congrArg₂ (· + ·) (Finset.sum_congr rfl fun k _ => by rw [iblk0, lo_at]; rfl) (Finset.sum_congr rfl fun k _ => by rw [iblk1, hi_at]; rfl)

theorem step_at (c : Dev nD) (t : Fin cfg0.N) (r : Fin 512) (l : Fin 1024) :
    stepB (iblk m c 3 t) (P m c t) (iblk m c 4 t) (ix2 r l) = stepArr (V m c main_arg3) (Y m c) (V m c main_arg4) (ix2 (row t r) l) :=
  stepB_row (iblk3 m c t r) (prod_at m c t r) (iblk4 m c t) l

/-- The stream after the step. -/
theorem arr6 (c : Dev nD) : (dats m 0 c).arrAt 6 cfg0.N = stepArr (V m c main_arg3) (Y m c) (V m c main_arg4) := by
  refine (dats m 0 c).arrAt_eq_of_covers 6 _ (by decide +kernel) fun t hf y => ?_
  blk_simp
  rw [after0_6]
  frame_out
  have e : ((View.whole main_v0_0).slice (win0_6.rect t)).emb y = (ix2 (n0 := 4096) (n1 := 1024) (row t (y 0)) (y 1) : S4096x1024.Idx) := by
    unfold row
    blk_ext [(idx t).2.2.2.2.2.2.1]
  have e' : y = (ix2 (n0 := 512) (n1 := 1024) (y 0) (y 1)) := by blk_ext
  rw [e]
  exact (congrArg _ e').trans (step_at m c t (y 0) (y 1))

/-- The product's reciprocal root mean squares. -/
theorem arr7 (c : Dev nD) : (dats m 0 c).arrAt 7 cfg0.N = rrArr (Y m c) := by
  refine (dats m 0 c).arrAt_eq_of_covers 7 _ (by decide +kernel) fun t hf y => ?_
  blk_simp
  rw [after0_7]
  frame_out
  have e : ((View.whole main_v0_1).slice (win0_7.rect t)).emb y = (ix2 (n0 := 4096) (n1 := 1) (row t (y 0)) (y 1) : S4096x1.Idx) := by
    unfold row
    blk_ext [(idx t).2.2.2.2.2.2.2.1]
  have e' : y = (ix2 (n0 := 512) (n1 := 1) (y 0) (y 1)) := by blk_ext
  rw [e]
  exact (congrArg _ e').trans (rrB_row (y := P m c t) (prod_at m c t (y 0)) (y 1))

/-- The next layer's normed input. -/
theorem arr8 (c : Dev nD) : (dats m 0 c).arrAt 8 cfg0.N = normArr (stepArr (V m c main_arg3) (Y m c) (V m c main_arg4)) (V m c main_arg5) := by
  refine (dats m 0 c).arrAt_eq_of_covers 8 _ (by decide +kernel) fun t hf y => ?_
  blk_simp
  rw [after0_8]
  frame_out
  have e : ((View.whole main_v0_2).slice (win0_8.rect t)).emb y = (ix2 (n0 := 4096) (n1 := 1024) (row t (y 0)) (y 1) : S4096x1024.Idx) := by
    unfold row
    blk_ext [(idx t).2.2.2.2.2.2.2.2.1]
  have e' : y = (ix2 (n0 := 512) (n1 := 1024) (y 0) (y 1)) := by blk_ext
  rw [e]
  exact (congrArg _ e').trans (normB_row (y := stepB (iblk m c 3 t) (P m c t) (iblk m c 4 t)) (step_at m c t (y 0)) (iblk5 m c t) (y 1))

/-- The stream's reciprocal root mean squares. -/
theorem arr9 (c : Dev nD) : (dats m 0 c).arrAt 9 cfg0.N = rrArr (stepArr (V m c main_arg3) (Y m c) (V m c main_arg4)) := by
  refine (dats m 0 c).arrAt_eq_of_covers 9 _ (by decide +kernel) fun t hf y => ?_
  blk_simp
  rw [after0_9]
  frame_out
  have e : ((View.whole main_v0_3).slice (win0_9.rect t)).emb y = (ix2 (n0 := 4096) (n1 := 1) (row t (y 0)) (y 1) : S4096x1.Idx) := by
    unfold row
    blk_ext [(idx t).2.2.2.2.2.2.2.2.2.1]
  have e' : y = (ix2 (n0 := 512) (n1 := 1) (y 0) (y 1)) := by blk_ext
  rw [e]
  exact (congrArg _ e').trans (rrB_row (y := stepB (iblk m c 3 t) (P m c t) (iblk m c 4 t)) (step_at m c t (y 0)) (y 1))

/-- The product. -/
theorem arr10 (c : Dev nD) : (dats m 0 c).arrAt 10 cfg0.N = Y m c := by
  refine (dats m 0 c).arrAt_eq_of_covers 10 _ (by decide +kernel) fun t hf y => ?_
  blk_simp
  rw [after0_10]
  frame_out
  have e : ((View.whole main_v0_4).slice (win0_10.rect t)).emb y = (ix2 (n0 := 4096) (n1 := 1024) (row t (y 0)) (y 1) : S4096x1024.Idx) := by
    unfold row
    blk_ext [(idx t).2.2.2.2.2.2.2.2.2.2]
  have e' : y = (ix2 (n0 := 512) (n1 := 1024) (y 0) (y 1)) := by blk_ext
  rw [e]
  exact (congrArg _ e').trans (prod_at m c t (y 0) (y 1))

/-- Over the extended reals the kernel's five results are the reference's. -/
theorem algebraic : Cert.algebraic_Kernel23Ideal_Reference23Ideal := by
  intro m ρ m' ρ' _ hagree
  refine ⟨fun c => stepArr (V m c main_arg3) (Y m c) (V m c main_arg4), fun c => rrArr (Y m c), fun c => normArr (stepArr (V m c main_arg3) (Y m c) (V m c main_arg4)) (V m c main_arg5),
    fun c => rrArr (stepArr (V m c main_arg3) (Y m c) (V m c main_arg4)), fun c => Y m c,
    (θ_run _ _ _).mono (fun r h c => ?_) (Cert.Kernel23Ideal.Value.run_blocks m ρ), (θ_run _ _ _).mono (fun r h c => ?_) (Cert.Reference23Ideal.Value.run m' ρ')⟩
  · exact ⟨(h c).1.trans (arr6 m c), (h c).2.1.trans (arr7 m c), (h c).2.2.1.trans (arr8 m c), (h c).2.2.2.1.trans (arr9 m c), (h c).2.2.2.2.1.trans (arr10 m c), (h c).2.2.2.2.2⟩
  · have hY := refOut_eq (m' ((c : Thread Cert.Reference23Ideal.nD Cert.Reference23Ideal.τ).loc Cert.Reference23Ideal.main_arg0)) (m' ((c : Thread Cert.Reference23Ideal.nD Cert.Reference23Ideal.τ).loc Cert.Reference23Ideal.main_arg1)) (m' ((c : Thread Cert.Reference23Ideal.nD Cert.Reference23Ideal.τ).loc Cert.Reference23Ideal.main_arg2))
    have e0 := (V_main_arg0 m c).trans (hagree c).1.symm
    have e1 := (V_main_arg1 m c).trans (hagree c).2.1.symm
    have e2 := (V_main_arg2 m c).trans (hagree c).2.2.1.symm
    have e3 := (V_main_arg3 m c).trans (hagree c).2.2.2.1.symm
    have e4 := (V_main_arg4 m c).trans (hagree c).2.2.2.2.1.symm
    have e5 := (V_main_arg5 m c).trans (hagree c).2.2.2.2.2.symm
    refine ⟨(h c).1.trans ?_, (h c).2.1.trans ?_, (h c).2.2.1.trans ?_, (h c).2.2.2.1.trans ?_, (h c).2.2.2.2.1.trans ?_, (h c).2.2.2.2.2⟩
    all_goals
      beta_reduce
      unfold Y
    · rw [e0, e1, e2, e3, e4, ← hY]
      exact midA_eq _ (refOut _ _ _) _
    · rw [e0, e1, e2, ← hY]
      funext j
      exact (congrArg _ (eq_ix2 j)).trans (rrmsA_row (refOut _ _ _) (j 0) (j 1))
    · rw [e0, e1, e2, e3, e4, e5, ← hY, ← midA_eq]
      funext j
      exact (congrArg _ (eq_ix2 j)).trans (normA_row (midA _ (refOut _ _ _) _) _ (j 0) (j 1))
    · rw [e0, e1, e2, e3, e4, ← hY, ← midA_eq]
      funext j
      exact (congrArg _ (eq_ix2 j)).trans (rrmsA_row (midA _ (refOut _ _ _) _) (j 0) (j 1))
    · rw [e0, e1, e2, ← hY]
      rfl

end Cert.MixEven

end
-- ==== Proof.WoutEvenW.lean ====
/-
  THE EVEN LAYERS' OUTPUT WEIGHT, ITS GRADIENT. As for the odd layers (WoutOddW), except that the second of the layer's two
  outputs, attention's, comes in single precision and is rounded before its product.
-/
module

public import proofs.«01_k».proof.Defs
public import proofs.«01_k».proof.Proof.WoutOddW
public import proofs.«01_k».proof.Proof.Gen.Kernel24Ideal
public import proofs.«01_k».proof.Proof.Gen.Kernel24Ideal.Value
public import proofs.«01_k».proof.Proof.Gen.Reference24Ideal
public import proofs.«01_k».proof.Proof.Gen.Reference24Ideal.Run
public import Idealize.ShloMosaic.Lib.Pointwise
public import Idealize.ShloMosaic.Lib.Pipeline.ReadBack
public import Idealize.ShloMosaic.Lib.Pipeline.ValueKit

@[expose] public section

set_option maxRecDepth 16384

noncomputable section

namespace Cert.WoutEvenW

open Cert.Kernel24Ideal Cert.Kernel24Ideal.Gen Idealize.ShloMosaic Idealize.ShloMosaic.TcCoe Idealize.SL.Sem Idealize.ShloMosaic.StableHlo Cert.WeightSum
open Cert.WoutOddW (col grad)

/-! ## The reference -/

theorem ref_apply (A : FVec Ideal S4096x512 .bf16) (B : FVec Ideal S4096x512 .f32) (H : FVec Ideal S4096x1024 .bf16) (i l : Fin 1024) :
    transpose S1024x1024 [1, 0] (Host.dotGeneral (φ₁ := .f32) (φ₂ := .f32) Cert.Reference24Ideal.dot_S4096x1024_S4096x1024_S1024x1024_0_0_1_1_n_n none
      (extf .f32 H Cert.Reference24Ideal.Gen.bitsLt_bf16_f32)
      (concatenate S4096x1024 1 [⟨S4096x512, extf .f32 A Cert.Reference24Ideal.Gen.bitsLt_bf16_f32⟩, ⟨S4096x512, B⟩] Cert.Reference24Ideal.Gen.concatenates_S4096x512_S4096x512_S4096x1024_d1 : FVec Ideal S4096x1024 .f32) : FVec Ideal S1024x1024 .f32) Cert.Reference24Ideal.Gen.transposes_S1024x1024_S1024x1024_1_0 (ix2 i l)
      = grad A B H (ix2 i l) := by
  unfold grad total col
  pointwise [Cert.Reference24Ideal.dot_S4096x1024_S4096x1024_S1024x1024_0_0_1_1_n_n]
  exact Finset.sum_congr rfl fun _ _ => mul_comm _ _

/-! ## The kernel -/

theorem pay2_apply (v : Vec Ideal S512x1024 .f32) (a : Vec Ideal S1024x512 .bf16) (h : Vec Ideal S1024x1024 .bf16) (i : Fin 512) (l : Fin 1024) :
    k0_pay2 v a h (ix2 i l) = v (ix2 i l) + ∑ r : Fin 1024, a (ix2 r i) * h (ix2 r l) := by
  pointwise [k0_pay2, dot_S1024x512_S1024x1024_S512x1024_0_0_1_1_n_n]

/-- The second piece's payload rounds its part first, which changes nothing over the extended reals. -/
theorem pay3_eq (v : Vec Ideal S512x1024 .f32) (a : Vec Ideal S1024x512 .f32) (h : Vec Ideal S1024x1024 .bf16) : k0_pay3 v a h = k0_pay2 v a h := rfl

theorem pay1_zero (y : S1024x1024.Idx) : k0_pay1 (F := Ideal) y = 0 := by
  rw [eq_ix2 y]
  pointwise [k0_pay1]

variable (m : (ℓ : Loc nD τ sig) → Buf (Elt Ideal) ℓ) (c : Dev nD) (t : Fin cfg0.N)

/-- The blocks' indices at each grid point. -/
theorem idx : ∀ t, win0_0.index t = ![t.val, 0] ∧ win0_1.index t = ![t.val, 0] ∧ win0_2.index t = ![t.val, 0] ∧ win0_3.index t = ![0, 0] := by
  decide +kernel

theorem lt4 : t.val < 4 := t.isLt

/-- The row of the whole array at which a grid point's row stands. -/
def row (r : Fin 1024) : Fin 4096 := ⟨1024 * t.val + r.val, by have := lt4 t; omega⟩

theorem iblk0 (r : Fin 1024) (i : Fin 512) : iblk m c 0 t (ix2 r i) = V m c main_arg0 (ix2 (row t r) i) := by
  unfold row
  blk_ext [iblk, (idx t).1]

theorem iblk1 (r : Fin 1024) (i : Fin 512) : iblk m c 1 t (ix2 r i) = V m c main_arg1 (ix2 (row t r) i) := by
  unfold row
  blk_ext [iblk, (idx t).2.1]

theorem iblk2 (r : Fin 1024) (l : Fin 1024) : iblk m c 2 t (ix2 r l) = V m c main_arg2 (ix2 (row t r) l) := by
  unfold row
  blk_ext [iblk, (idx t).2.2.1]

/-- What a grid point adds at an index. -/
abbrev step (k : ℕ) (y : S1024x1024.Idx) : EReal :=
  part (col (V m c main_arg0) (V m c main_arg1) (y 0)) (fun r => V m c main_arg2 (ix2 r (y 1))) k

/-- A piece's step at an index of the piece that starts at row `o`. -/
theorem piece (o : ℕ) (v : Vec Ideal S512x1024 .f32) (a : Vec Ideal S1024x512 .bf16) (x : S512x1024.Idx) (y : S1024x1024.Idx)
    (e0 : (y 0).val = o + (x 0).val) (e1 : (y 1).val = (x 1).val)
    (ha : ∀ (j : Fin 1024) (i : Fin 512) (r : Fin 1024), j.val = o + i.val →
      a (ix2 r i) = col (V m c main_arg0) (V m c main_arg1) j (row t r)) :
    k0_pay2 v a (iblk m c 2 t) x = v x + step m c t.val y := by
  have e1' : y 1 = x 1 := Fin.ext e1
  refine (congrArg _ (eq_ix2 x)).trans ((pay2_apply v a _ (x 0) (x 1)).trans ?_)
  refine congrArg₂ (· + ·) (congrArg _ (eq_ix2 x).symm) ?_
  refine part_of _ _ t.val (lt4 t) _ _ (fun r => ha (y 0) (x 0) r e0) fun r => ?_
  rw [e1']
  exact iblk2 m c t r (x 1)

theorem col0 (j : Fin 1024) (i : Fin 512) (r : Fin 1024) (e : j.val = 0 + i.val) :
    iblk m c 0 t (ix2 r i) = col (V m c main_arg0) (V m c main_arg1) j (row t r) := by
  rw [iblk0, col, dif_pos (by omega)]
  exact congrArg (fun i => V m c main_arg0 (ix2 (row t r) i)) (Fin.ext (by show i.val = j.val; omega))

theorem col1 (j : Fin 1024) (i : Fin 512) (r : Fin 1024) (e : j.val = 512 + i.val) :
    iblk m c 1 t (ix2 r i) = col (V m c main_arg0) (V m c main_arg1) j (row t r) := by
  rw [iblk1, col, dif_neg (by omega)]
  exact congrArg (fun i => V m c main_arg1 (ix2 (row t r) i)) (Fin.ext (by show i.val = j.val - 512; omega))

/-- The two pieces' rows cover the kept array. -/
theorem cover {Val : EltTy → Type} {e : EltTy} [∀ e, Nonempty (Val e)] (y : S1024x1024.Idx) (w0 w1 : S512x1024.Idx → Val e) :
    ∃ p ∈ ([⟨Rect.unit ![512, 0] ![512, 1024] inb_S1024x1024_S512x1024_512_0, w1⟩,
        ⟨Rect.unit ![0, 0] ![512, 1024] inb_S1024x1024_S512x1024_0_0, w0⟩] : List (View.Piece Val S1024x1024 e)), y ∈ p.1.set :=
  View.cover_of_tiledL (s := S1024x1024) _ ![512, 1024] (by sl_kernel_rfl) y

/-- The kept array after the first point. -/
theorem kept_first (h : t.val % 4 = 0) (y : S1024x1024.Idx) : (outsAt0 m c t.val t.isLt).2 y = step m c t.val y := by
  rw [outsAt0_A m c t h (by omega)]
  frame_open
  simp (disch := decide) only [↓ View.readCov_skip, ↓ View.readCov_cons_toLoadRect, ↓ View.readCov_fill]
  frame_out
  refine (Cert.Sgu.canon_append_covered [_] [_, _] y (cover y _ _)).trans ?_
  canon_tiles x h
  case piece0 => exact (congrFun (pay3_eq _ _ _) x).trans <| (piece m c t 512 _ _ x _ h0 h1 (col1 m c t)).trans ((congrArg (· + _) (pay1_zero _)).trans (zero_add _))
  case piece1 => exact (piece m c t 0 _ _ x _ (h0.trans (Nat.zero_add _).symm) h1 (col0 m c t)).trans ((congrArg (· + _) (pay1_zero _)).trans (zero_add _))

/-- The kept array after a later point. -/
theorem kept_next (h : ¬ t.val % 4 = 0) (y : S1024x1024.Idx) :
    (outsAt0 m c t.val t.isLt).2 y = (outsAt0 m c (t.val - 1) (by have := lt4 t; show _ < 4; omega)).2 y + step m c t.val y := by
  by_cases h' : t.val % 4 = 3
  on_goal 1 => rw [outsAt0_C m c t h h']
  on_goal 2 => rw [outsAt0_B m c t h h']
  all_goals
    frame_open
    simp (disch := decide) only [↓ View.readCov_skip, ↓ View.readCov_cons_toLoadRect, ↓ View.readCov_fill]
    frame_out
    simp only [read_unread_whole]
    canon_tiles x h
    case piece0 => exact (congrFun (pay3_eq _ _ _) x).trans <| (piece m c t 512 _ _ x _ h0 h1 (col1 m c t)).trans (congrArg (· + _) (View.ld_unit_apply_of _ _ _ _ _ y fun a => match a with | 0 => h0 | 1 => h1.trans (Nat.zero_add _).symm))
    case piece1 => exact (piece m c t 0 _ _ x _ (h0.trans (Nat.zero_add _).symm) h1 (col0 m c t)).trans (congrArg (· + _) (View.ld_unit_apply_of _ _ _ _ _ y fun a => match a with | 0 => h0.trans (Nat.zero_add _).symm | 1 => h1.trans (Nat.zero_add _).symm))

/-- The kept array after a point is the sum over the points so far. -/
theorem kept (n : ℕ) (h : n < 4) (y : S1024x1024.Idx) : (outsAt0 m c n h).2 y = ∑ k ∈ Finset.range (n + 1), step m c k y :=
  acc_eq (fun n h => (outsAt0 m c n h).2 y) (fun k => step m c k y) (kept_first m c ⟨0, by decide⟩ rfl y)
    (fun n h => kept_next m c ⟨n + 1, h⟩ (by show ¬ (n + 1) % 4 = 0; omega) y) n h

/-- The whole array's rectangle leaves an index as it is. -/
theorem whole_idx (y : S1024x1024.Idx) : (Rect.unit ![0, 0] ![1024, 1024] inb_S1024x1024_S1024x1024_0_0).idx y = y := by
  show (Rect.unit ![0, 0] ![1024, 1024] inb_S1024x1024_S1024x1024_0_0).emb y = y
  blk_ext

/-- The output after the last point is the kept array. -/
theorem out_last (h : t.val % 4 = 3) (y : S1024x1024.Idx) : (outsAt0 m c t.val t.isLt).1 y = (outsAt0 m c t.val t.isLt).2 y := by
  rw [outsAt0_C m c t (by omega) h]
  frame_open
  simp (disch := decide) only [↓ View.readCov_skip, ↓ View.readCov_cons_toLoadRect, ↓ View.readCov_fill]
  frame_out
  rw [View.readCov_eq_canon']
  beta_reduce
  rw [whole_idx]

theorem last : ∀ t : Fin cfg0.N, (cfg0.win 3).flush t = true → t.val = 3 := by decide +kernel

/-- The gradient of the weight. -/
theorem arr3 : (dats m 0 c).arrAt 3 cfg0.N = grad (V m c main_arg0) (V m c main_arg1) (V m c main_arg2) := by
  refine (dats m 0 c).arrAt_eq_of_covers 3 _ (by decide +kernel) fun t hf y => ?_
  blk_simp
  rw [after0_3]
  have h3 : t.val = 3 := last t hf
  have e : ((View.whole main_v0).slice (win0_3.rect t)).emb y = (y : S1024x1024.Idx) := by
    blk_ext [(idx t).2.2.2]
  rw [e]
  refine (out_last m c t (by omega) y).trans ((kept m c t.val (lt4 t) y).trans ?_)
  rw [h3]
  exact total_eq _ _

/-- Over the extended reals the kernel's result is the reference's. -/
theorem algebraic : Cert.algebraic_Kernel24Ideal_Reference24Ideal := by
  intro m ρ m' ρ' _ hagree
  refine ⟨fun c => grad (V m c main_arg0) (V m c main_arg1) (V m c main_arg2),
    (θ_run _ _ _).mono (fun r h c => ?_) (Cert.Kernel24Ideal.Value.run_blocks m ρ), (θ_run _ _ _).mono (fun r h c => ?_) (Cert.Reference24Ideal.Value.run m' ρ')⟩
  · exact ⟨(h c).1.trans (arr3 m c), (h c).2⟩
  · have e0 := (V_main_arg0 m c).trans (hagree c).1.symm
    have e1 := (V_main_arg1 m c).trans (hagree c).2.1.symm
    have e2 := (V_main_arg2 m c).trans (hagree c).2.2.symm
    refine ⟨(h c).1.trans ?_, (h c).2⟩
    beta_reduce
    rw [e0, e1, e2]
    funext j
    exact (congrArg _ (eq_ix2 j)).trans ((ref_apply _ _ _ (j 0) (j 1)).trans (congrArg _ (eq_ix2 j).symm))

end Cert.WoutEvenW

end
-- ==== Proof.lean ====
module

public import proofs.«01_k».proof.Proof.PoolClaim
public import proofs.«01_k».proof.Proof.SguClaim
public import proofs.«01_k».proof.Proof.MlpGate
public import proofs.«01_k».proof.Proof.MlpWeights
public import proofs.«01_k».proof.Proof.MlpHClaim
public import proofs.«01_k».proof.Proof.MlpUp
public import proofs.«01_k».proof.Proof.MlpDown
public import proofs.«01_k».proof.Proof.MixOut
public import proofs.«01_k».proof.Proof.Projections
public import proofs.«01_k».proof.Proof.LossClaim
public import proofs.«01_k».proof.Proof.WinOddW
public import proofs.«01_k».proof.Proof.WoutOddW
public import proofs.«01_k».proof.Proof.WinEvenW
public import proofs.«01_k».proof.Proof.WinOddHClaim
public import proofs.«01_k».proof.Proof.WinEvenHClaim
public import proofs.«01_k».proof.Proof.SguFwd
public import proofs.«01_k».proof.Proof.PoolFwd
public import proofs.«01_k».proof.Proof.GateForward
public import proofs.«01_k».proof.Proof.FirstNorm
public import proofs.«01_k».proof.Proof.MixEven
public import proofs.«01_k».proof.Proof.WoutEvenW
public import Idealize.ShloMosaic.PureOps.IdealRules
public import proofs.«01_k».proof.Proof.Gen.Reference2Ideal.Run
public import proofs.«01_k».proof.Proof.Gen.ReferenceIdeal.Run
public import proofs.«01_k».proof.Proof.Gen.Kernel2Ideal.Value
public import proofs.«01_k».proof.Proof.Gen.KernelIdeal.Value
public import proofs.«01_k».proof.Proof.Gen.Kernel3Ideal.Value
public import proofs.«01_k».proof.Proof.Gen.Reference3Ideal.Run
public import proofs.«01_k».proof.Proof.Gen.Kernel4Ideal.Value
public import proofs.«01_k».proof.Proof.Gen.Reference4Ideal.Run
public import proofs.«01_k».proof.Proof.Gen.Kernel5Ideal.Value
public import proofs.«01_k».proof.Proof.Gen.Reference5Ideal.Run
public import proofs.«01_k».proof.Proof.Gen.Kernel6Ideal.Value
public import proofs.«01_k».proof.Proof.Gen.Reference6Ideal.Run
public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.Kernel2
public import proofs.«01_k».proof.Proof.Gen.Kernel2.Skeleton
public import proofs.«01_k».proof.Proof.Gen.Kernel2.Launch
public import proofs.«01_k».proof.Proof.Gen.Kernel2.Points
public import proofs.«01_k».proof.Proof.Gen.Kernel2.Frame
public import proofs.«01_k».proof.Proof.Gen.Kernel2Ideal
public import proofs.«01_k».proof.Proof.Gen.Kernel2Ideal.Skeleton
public import proofs.«01_k».proof.Proof.Gen.Kernel2Ideal.Launch
public import proofs.«01_k».proof.Proof.Gen.Kernel2Ideal.Points
public import proofs.«01_k».proof.Proof.Gen.Kernel2Ideal.Frame
public import proofs.«01_k».proof.Proof.Gen.Reference2Ideal
public import proofs.«01_k».proof.Proof.Gen.Pre_finite
public import proofs.«01_k».proof.Proof.Gen.Pre_finite2
public import proofs.«01_k».proof.Proof.Gen.Kernel3.Frame
public import proofs.«01_k».proof.Proof.Gen.Kernel3Ideal.Frame
public import proofs.«01_k».proof.Proof.Gen.Reference3Ideal
public import proofs.«01_k».proof.Proof.Gen.Kernel4.Frame
public import proofs.«01_k».proof.Proof.Gen.Kernel4Ideal.Frame
public import proofs.«01_k».proof.Proof.Gen.Reference4Ideal
public import proofs.«01_k».proof.Proof.Gen.Kernel5.Frame
public import proofs.«01_k».proof.Proof.Gen.Kernel5Ideal.Frame
public import proofs.«01_k».proof.Proof.Gen.Reference5Ideal
public import proofs.«01_k».proof.Proof.Gen.Kernel6.Frame
public import proofs.«01_k».proof.Proof.Gen.Kernel6Ideal.Frame
public import proofs.«01_k».proof.Proof.Gen.Reference6Ideal
public import proofs.«01_k».proof.Proof.Gen.Pre_finite6
public import proofs.«01_k».proof.Proof.Gen.Kernel7Ideal.Value
public import proofs.«01_k».proof.Proof.Gen.Reference7Ideal.Run
public import proofs.«01_k».proof.Proof.Gen.Kernel7.Frame
public import proofs.«01_k».proof.Proof.Gen.Pre_finite7
public import proofs.«01_k».proof.Proof.Gen.Kernel8Ideal.Value
public import proofs.«01_k».proof.Proof.Gen.Reference8Ideal.Run
public import proofs.«01_k».proof.Proof.Gen.Kernel8.Frame
public import proofs.«01_k».proof.Proof.Gen.Kernel9Ideal.Value
public import proofs.«01_k».proof.Proof.Gen.Reference9Ideal.Run
public import proofs.«01_k».proof.Proof.Gen.Kernel9.Frame
public import proofs.«01_k».proof.Proof.Gen.Kernel10Ideal.Value
public import proofs.«01_k».proof.Proof.Gen.Reference10Ideal.Run
public import proofs.«01_k».proof.Proof.Gen.Kernel10.Frame
public import proofs.«01_k».proof.Proof.Gen.Pre_finite10
public import proofs.«01_k».proof.Proof.Gen.Kernel11Ideal.Value
public import proofs.«01_k».proof.Proof.Gen.Reference11Ideal.Run
public import proofs.«01_k».proof.Proof.Gen.Kernel11.Frame
public import proofs.«01_k».proof.Proof.Gen.Kernel12Ideal.Value
public import proofs.«01_k».proof.Proof.Gen.Reference12Ideal.Run
public import proofs.«01_k».proof.Proof.Gen.Kernel12.Frame
public import proofs.«01_k».proof.Proof.Gen.Kernel13Ideal.Value
public import proofs.«01_k».proof.Proof.Gen.Reference13Ideal.Run
public import proofs.«01_k».proof.Proof.Gen.Kernel13.Frame
public import proofs.«01_k».proof.Proof.Gen.Kernel14Ideal.Value
public import proofs.«01_k».proof.Proof.Gen.Reference14Ideal.Run
public import proofs.«01_k».proof.Proof.Gen.Kernel14.Frame
public import proofs.«01_k».proof.Proof.Gen.Kernel15Ideal.Value
public import proofs.«01_k».proof.Proof.Gen.Reference15Ideal.Run
public import proofs.«01_k».proof.Proof.Gen.Kernel15.Frame
public import proofs.«01_k».proof.Proof.Gen.Pre_finite15
public import proofs.«01_k».proof.Proof.Gen.Kernel16Ideal.Value
public import proofs.«01_k».proof.Proof.Gen.Reference16Ideal.Run
public import proofs.«01_k».proof.Proof.Gen.Kernel16.Frame
public import proofs.«01_k».proof.Proof.Gen.Kernel17Ideal.Value
public import proofs.«01_k».proof.Proof.Gen.Reference17Ideal.Run
public import proofs.«01_k».proof.Proof.Gen.Kernel17.Frame
public import proofs.«01_k».proof.Proof.Gen.Kernel18Ideal.Value
public import proofs.«01_k».proof.Proof.Gen.Reference18Ideal.Run
public import proofs.«01_k».proof.Proof.Gen.Kernel18.Frame
public import proofs.«01_k».proof.Proof.Gen.Kernel19Ideal.Value
public import proofs.«01_k».proof.Proof.Gen.Reference19Ideal.Run
public import proofs.«01_k».proof.Proof.Gen.Kernel19.Frame
public import proofs.«01_k».proof.Proof.Gen.Kernel20Ideal.Value
public import proofs.«01_k».proof.Proof.Gen.Reference20Ideal.Run
public import proofs.«01_k».proof.Proof.Gen.Kernel20.Frame
public import proofs.«01_k».proof.Proof.Gen.Pre_finite20
public import proofs.«01_k».proof.Proof.Gen.Kernel21Ideal.Value
public import proofs.«01_k».proof.Proof.Gen.Reference21Ideal.Run
public import proofs.«01_k».proof.Proof.Gen.Kernel21.Frame
public import proofs.«01_k».proof.Proof.Gen.Kernel22Ideal.Value
public import proofs.«01_k».proof.Proof.Gen.Reference22Ideal.Run
public import proofs.«01_k».proof.Proof.Gen.Kernel22.Frame
public import proofs.«01_k».proof.Proof.Gen.Kernel23Ideal.Value
public import proofs.«01_k».proof.Proof.Gen.Reference23Ideal.Run
public import proofs.«01_k».proof.Proof.Gen.Kernel23.Frame
public import proofs.«01_k».proof.Proof.Gen.Kernel24Ideal.Value
public import proofs.«01_k».proof.Proof.Gen.Reference24Ideal.Run
public import proofs.«01_k».proof.Proof.Gen.Kernel24.Frame
public import Idealize.ShloMosaic.Adequacy
public import Idealize.ShloMosaic.Init

@[expose] public section

noncomputable section

namespace Cert.Proof

open Idealize.ShloMosaic Idealize.SL.Sem Cert.Kernel

/-- The SGU reference runs, changes no argument and leaves every counter at zero. -/
theorem frame_reference : Cert.quiescent_ReferenceIdeal := fun m ρ _ =>
  (θ_run _ _ _).mono (fun r h => ⟨fun c => (h c).2.2.2.2.2.2, sem_eq_zero_of_no_sems (by decide) r.2⟩) (Cert.ReferenceIdeal.Value.run m ρ)

/-- The pool reference runs, changes no argument and leaves every counter at zero. -/
theorem frame_reference2 : Cert.quiescent_Reference2Ideal := fun m ρ _ =>
  (θ_run _ _ _).mono (fun r h => ⟨fun c => (h c).2.2.2, sem_eq_zero_of_no_sems (by decide) r.2⟩) (Cert.Reference2Ideal.Value.run m ρ)

/-- The reference of the gradient at the hidden layer runs, changes no argument and leaves every counter at zero. -/
theorem frame_reference3 : Cert.quiescent_Reference3Ideal := fun m ρ _ =>
  (θ_run _ _ _).mono (fun r h => ⟨fun c => (h c).2, sem_eq_zero_of_no_sems (by decide) r.2⟩) (Cert.Reference3Ideal.Value.run m ρ)

/-- The reference of the gradient of the second weight runs, changes no argument and leaves every counter at zero. -/
theorem frame_reference4 : Cert.quiescent_Reference4Ideal := fun m ρ _ =>
  (θ_run _ _ _).mono (fun r h => ⟨fun c => (h c).2, sem_eq_zero_of_no_sems (by decide) r.2⟩) (Cert.Reference4Ideal.Value.run m ρ)

/-- The reference of the gradient of the first weight runs, changes no argument and leaves every counter at zero. -/
theorem frame_reference5 : Cert.quiescent_Reference5Ideal := fun m ρ _ =>
  (θ_run _ _ _).mono (fun r h => ⟨fun c => (h c).2, sem_eq_zero_of_no_sems (by decide) r.2⟩) (Cert.Reference5Ideal.Value.run m ρ)

/-- The reference of the gradient at the perceptron's input runs, changes no argument and leaves every counter at zero. -/
theorem frame_reference6 : Cert.quiescent_Reference6Ideal := fun m ρ _ =>
  (θ_run _ _ _).mono (fun r h => ⟨fun c => (h c).2.2.2.2, sem_eq_zero_of_no_sems (by decide) r.2⟩) (Cert.Reference6Ideal.Value.run m ρ)

/-- The reference of the gradient at the gated layer's input runs, changes no argument and leaves every counter at zero. -/
theorem frame_reference7 : Cert.quiescent_Reference7Ideal := fun m ρ _ =>
  (θ_run _ _ _).mono (fun r h => ⟨fun c => (h c).2.2.2.2, sem_eq_zero_of_no_sems (by decide) r.2⟩) (Cert.Reference7Ideal.Value.run m ρ)

/-- The reference of the gradient of the gated layer's input weight runs, changes no argument and leaves every counter at zero. -/
theorem frame_reference8 : Cert.quiescent_Reference8Ideal := fun m ρ _ =>
  (θ_run _ _ _).mono (fun r h => ⟨fun c => (h c).2, sem_eq_zero_of_no_sems (by decide) r.2⟩) (Cert.Reference8Ideal.Value.run m ρ)

/-- The reference of the gradient of the gated layer's output weight runs, changes no argument and leaves every counter at zero. -/
theorem frame_reference9 : Cert.quiescent_Reference9Ideal := fun m ρ _ =>
  (θ_run _ _ _).mono (fun r h => ⟨fun c => (h c).2, sem_eq_zero_of_no_sems (by decide) r.2⟩) (Cert.Reference9Ideal.Value.run m ρ)

/-- The reference of the gradient at the attention layer's input runs, changes no argument and leaves every counter at zero. -/
theorem frame_reference10 : Cert.quiescent_Reference10Ideal := fun m ρ _ =>
  (θ_run _ _ _).mono (fun r h => ⟨fun c => (h c).2.2, sem_eq_zero_of_no_sems (by decide) r.2⟩) (Cert.Reference10Ideal.Value.run m ρ)

/-- The reference of the gradient of the attention layer's input weight runs, changes no argument and leaves every counter at zero. -/
theorem frame_reference11 : Cert.quiescent_Reference11Ideal := fun m ρ _ =>
  (θ_run _ _ _).mono (fun r h => ⟨fun c => (h c).2, sem_eq_zero_of_no_sems (by decide) r.2⟩) (Cert.Reference11Ideal.Value.run m ρ)

/-- The reference of the mixing projection runs, changes no argument and leaves every counter at zero. -/
theorem frame_reference12 : Cert.quiescent_Reference12Ideal := fun m ρ _ =>
  (θ_run _ _ _).mono (fun r h => ⟨fun c => (h c).2, sem_eq_zero_of_no_sems (by decide) r.2⟩) (Cert.Reference12Ideal.Value.run m ρ)

/-- The reference of the perceptron's first product runs, changes no argument and leaves every counter at zero. -/
theorem frame_reference13 : Cert.quiescent_Reference13Ideal := fun m ρ _ =>
  (θ_run _ _ _).mono (fun r h => ⟨fun c => (h c).2.2, sem_eq_zero_of_no_sems (by decide) r.2⟩) (Cert.Reference13Ideal.Value.run m ρ)

/-- The reference of the perceptron's second product runs, changes no argument and leaves every counter at zero. -/
theorem frame_reference14 : Cert.quiescent_Reference14Ideal := fun m ρ _ =>
  (θ_run _ _ _).mono (fun r h => ⟨fun c => (h c).2.2.2.2.2, sem_eq_zero_of_no_sems (by decide) r.2⟩) (Cert.Reference14Ideal.Value.run m ρ)

/-- The reference of the loss head runs, changes no argument and leaves every counter at zero. -/
theorem frame_reference15 : Cert.quiescent_Reference15Ideal := fun m ρ _ =>
  (θ_run _ _ _).mono (fun r h => ⟨fun c => (h c).2.2.2.2, sem_eq_zero_of_no_sems (by decide) r.2⟩) (Cert.Reference15Ideal.Value.run m ρ)

/-- The reference of the gated layer's projection runs, changes no argument and leaves every counter at zero. -/
theorem frame_reference16 : Cert.quiescent_Reference16Ideal := fun m ρ _ =>
  (θ_run _ _ _).mono (fun r h => ⟨fun c => (h c).2, sem_eq_zero_of_no_sems (by decide) r.2⟩) (Cert.Reference16Ideal.Value.run m ρ)

/-- The reference of the attention layer's projection runs, changes no argument and leaves every counter at zero. -/
theorem frame_reference17 : Cert.quiescent_Reference17Ideal := fun m ρ _ =>
  (θ_run _ _ _).mono (fun r h => ⟨fun c => (h c).2, sem_eq_zero_of_no_sems (by decide) r.2⟩) (Cert.Reference17Ideal.Value.run m ρ)

/-- The reference of the mixer's output product runs, changes no argument and leaves every counter at zero. -/
theorem frame_reference18 : Cert.quiescent_Reference18Ideal := fun m ρ _ =>
  (θ_run _ _ _).mono (fun r h => ⟨fun c => (h c).2.2.2.2.2, sem_eq_zero_of_no_sems (by decide) r.2⟩) (Cert.Reference18Ideal.Value.run m ρ)

/-- The reference of the gating unit runs, changes no argument and leaves every counter at zero. -/
theorem frame_reference19 : Cert.quiescent_Reference19Ideal := fun m ρ _ =>
  (θ_run _ _ _).mono (fun r h => ⟨fun c => (h c).2, sem_eq_zero_of_no_sems (by decide) r.2⟩) (Cert.Reference19Ideal.Value.run m ρ)

/-- The reference of the pooling mixer runs, changes no argument and leaves every counter at zero. -/
theorem frame_reference20 : Cert.quiescent_Reference20Ideal := fun m ρ _ =>
  (θ_run _ _ _).mono (fun r h => ⟨fun c => (h c).2.2, sem_eq_zero_of_no_sems (by decide) r.2⟩) (Cert.Reference20Ideal.Value.run m ρ)

/-- The reference of the state-space mixer's gate runs, changes no argument and leaves every counter at zero. -/
theorem frame_reference21 : Cert.quiescent_Reference21Ideal := fun m ρ _ =>
  (θ_run _ _ _).mono (fun r h => ⟨fun c => (h c).2, sem_eq_zero_of_no_sems (by decide) r.2⟩) (Cert.Reference21Ideal.Value.run m ρ)

/-- The reference of the first norm runs, changes no argument and leaves every counter at zero. -/
theorem frame_reference22 : Cert.quiescent_Reference22Ideal := fun m ρ _ =>
  (θ_run _ _ _).mono (fun r h => ⟨fun c => (h c).2.2, sem_eq_zero_of_no_sems (by decide) r.2⟩) (Cert.Reference22Ideal.Value.run m ρ)

/-- The reference of the even layer's output projection runs, changes no argument and leaves every counter at zero. -/
theorem frame_reference23 : Cert.quiescent_Reference23Ideal := fun m ρ _ =>
  (θ_run _ _ _).mono (fun r h => ⟨fun c => (h c).2.2.2.2.2, sem_eq_zero_of_no_sems (by decide) r.2⟩) (Cert.Reference23Ideal.Value.run m ρ)

/-- The reference of the gradient of the even layer's output weight runs, changes no argument and leaves every counter at zero. -/
theorem frame_reference24 : Cert.quiescent_Reference24Ideal := fun m ρ _ =>
  (θ_run _ _ _).mono (fun r h => ⟨fun c => (h c).2, sem_eq_zero_of_no_sems (by decide) r.2⟩) (Cert.Reference24Ideal.Value.run m ρ)

theorem claim : Cert.Claim := ⟨Cert.Kernel.Gen.facts, Cert.KernelIdeal.Gen.facts, Cert.ReferenceIdeal.Gen.facts, Cert.Kernel2.Gen.facts, Cert.Kernel2Ideal.Gen.facts, Cert.Reference2Ideal.Gen.facts,
  Cert.Kernel3.Gen.facts, Cert.Kernel3Ideal.Gen.facts, Cert.Reference3Ideal.Gen.facts, Cert.Kernel4.Gen.facts, Cert.Kernel4Ideal.Gen.facts, Cert.Reference4Ideal.Gen.facts, Cert.Kernel5.Gen.facts, Cert.Kernel5Ideal.Gen.facts, Cert.Reference5Ideal.Gen.facts, Cert.Kernel6.Gen.facts, Cert.Kernel6Ideal.Gen.facts, Cert.Reference6Ideal.Gen.facts,
  Cert.Kernel7.Gen.facts, Cert.Kernel7Ideal.Gen.facts, Cert.Reference7Ideal.Gen.facts,
  Cert.Kernel8.Gen.facts, Cert.Kernel8Ideal.Gen.facts, Cert.Reference8Ideal.Gen.facts,
  Cert.Kernel9.Gen.facts, Cert.Kernel9Ideal.Gen.facts, Cert.Reference9Ideal.Gen.facts,
  Cert.Kernel10.Gen.facts, Cert.Kernel10Ideal.Gen.facts, Cert.Reference10Ideal.Gen.facts,
  Cert.Kernel11.Gen.facts, Cert.Kernel11Ideal.Gen.facts, Cert.Reference11Ideal.Gen.facts,
  Cert.Kernel12.Gen.facts, Cert.Kernel12Ideal.Gen.facts, Cert.Reference12Ideal.Gen.facts,
  Cert.Kernel13.Gen.facts, Cert.Kernel13Ideal.Gen.facts, Cert.Reference13Ideal.Gen.facts,
  Cert.Kernel14.Gen.facts, Cert.Kernel14Ideal.Gen.facts, Cert.Reference14Ideal.Gen.facts,
  Cert.Kernel15.Gen.facts, Cert.Kernel15Ideal.Gen.facts, Cert.Reference15Ideal.Gen.facts,
  Cert.Kernel16.Gen.facts, Cert.Kernel16Ideal.Gen.facts, Cert.Reference16Ideal.Gen.facts,
  Cert.Kernel17.Gen.facts, Cert.Kernel17Ideal.Gen.facts, Cert.Reference17Ideal.Gen.facts,
  Cert.Kernel18.Gen.facts, Cert.Kernel18Ideal.Gen.facts, Cert.Reference18Ideal.Gen.facts,
  Cert.Kernel19.Gen.facts, Cert.Kernel19Ideal.Gen.facts, Cert.Reference19Ideal.Gen.facts,
  Cert.Kernel20.Gen.facts, Cert.Kernel20Ideal.Gen.facts, Cert.Reference20Ideal.Gen.facts,
  Cert.Kernel21.Gen.facts, Cert.Kernel21Ideal.Gen.facts, Cert.Reference21Ideal.Gen.facts,
  Cert.Kernel22.Gen.facts, Cert.Kernel22Ideal.Gen.facts, Cert.Reference22Ideal.Gen.facts,
  Cert.Kernel23.Gen.facts, Cert.Kernel23Ideal.Gen.facts, Cert.Reference23Ideal.Gen.facts,
  Cert.Kernel24.Gen.facts, Cert.Kernel24Ideal.Gen.facts, Cert.Reference24Ideal.Gen.facts,
  Cert.Pre_finite.Gen.facts, Cert.Pre_finite2.Gen.facts, Cert.Pre_finite6.Gen.facts, Cert.Pre_finite7.Gen.facts, Cert.Pre_finite10.Gen.facts, Cert.Pre_finite15.Gen.facts, Cert.Pre_finite20.Gen.facts,
  fun m ρ _ => Cert.Kernel.Gen.frame m ρ,
  fun m ρ _ => Cert.KernelIdeal.Gen.frame m ρ,
  fun m ρ _ => Cert.KernelIdeal.Gen.frame m ρ,
  frame_reference,
  fun m ρ _ => frame_reference m ρ trivial,
  fun m ρ _ => Cert.Kernel2.Gen.frame m ρ,
  fun m ρ _ => Cert.Kernel2Ideal.Gen.frame m ρ,
  fun m ρ _ => Cert.Kernel2Ideal.Gen.frame m ρ,
  frame_reference2,
  fun m ρ _ => frame_reference2 m ρ trivial,
  fun m ρ _ => Cert.Kernel3.Gen.frame m ρ,
  fun m ρ _ => Cert.Kernel3Ideal.Gen.frame m ρ,
  frame_reference3,
  fun m ρ _ => Cert.Kernel4.Gen.frame m ρ,
  fun m ρ _ => Cert.Kernel4Ideal.Gen.frame m ρ,
  frame_reference4,
  fun m ρ _ => Cert.Kernel5.Gen.frame m ρ,
  fun m ρ _ => Cert.Kernel5Ideal.Gen.frame m ρ,
  frame_reference5,
  fun m ρ _ => Cert.Kernel6.Gen.frame m ρ,
  fun m ρ _ => Cert.Kernel6Ideal.Gen.frame m ρ,
  fun m ρ _ => Cert.Kernel6Ideal.Gen.frame m ρ,
  frame_reference6,
  fun m ρ _ => frame_reference6 m ρ trivial,
  fun m ρ _ => Cert.Kernel7.Gen.frame m ρ,
  fun m ρ _ => Cert.Kernel7Ideal.Gen.frame m ρ,
  fun m ρ _ => Cert.Kernel7Ideal.Gen.frame m ρ,
  frame_reference7,
  fun m ρ _ => frame_reference7 m ρ trivial,
  fun m ρ _ => Cert.Kernel8.Gen.frame m ρ,
  fun m ρ _ => Cert.Kernel8Ideal.Gen.frame m ρ,
  frame_reference8,
  fun m ρ _ => Cert.Kernel9.Gen.frame m ρ,
  fun m ρ _ => Cert.Kernel9Ideal.Gen.frame m ρ,
  frame_reference9,
  fun m ρ _ => Cert.Kernel10.Gen.frame m ρ,
  fun m ρ _ => Cert.Kernel10Ideal.Gen.frame m ρ,
  fun m ρ _ => Cert.Kernel10Ideal.Gen.frame m ρ,
  frame_reference10,
  fun m ρ _ => frame_reference10 m ρ trivial,
  fun m ρ _ => Cert.Kernel11.Gen.frame m ρ,
  fun m ρ _ => Cert.Kernel11Ideal.Gen.frame m ρ,
  frame_reference11,
  fun m ρ _ => Cert.Kernel12.Gen.frame m ρ,
  fun m ρ _ => Cert.Kernel12Ideal.Gen.frame m ρ,
  frame_reference12,
  fun m ρ _ => Cert.Kernel13.Gen.frame m ρ,
  fun m ρ _ => Cert.Kernel13Ideal.Gen.frame m ρ,
  frame_reference13,
  fun m ρ _ => Cert.Kernel14.Gen.frame m ρ,
  fun m ρ _ => Cert.Kernel14Ideal.Gen.frame m ρ,
  frame_reference14,
  fun m ρ _ => Cert.Kernel15.Gen.frame m ρ,
  fun m ρ _ => Cert.Kernel15Ideal.Gen.frame m ρ,
  fun m ρ _ => Cert.Kernel15Ideal.Gen.frame m ρ,
  frame_reference15,
  fun m ρ _ => frame_reference15 m ρ trivial,
  fun m ρ _ => Cert.Kernel16.Gen.frame m ρ,
  fun m ρ _ => Cert.Kernel16Ideal.Gen.frame m ρ,
  frame_reference16,
  fun m ρ _ => Cert.Kernel17.Gen.frame m ρ,
  fun m ρ _ => Cert.Kernel17Ideal.Gen.frame m ρ,
  frame_reference17,
  fun m ρ _ => Cert.Kernel18.Gen.frame m ρ,
  fun m ρ _ => Cert.Kernel18Ideal.Gen.frame m ρ,
  frame_reference18,
  fun m ρ _ => Cert.Kernel19.Gen.frame m ρ,
  fun m ρ _ => Cert.Kernel19Ideal.Gen.frame m ρ,
  frame_reference19,
  fun m ρ _ => Cert.Kernel20.Gen.frame m ρ,
  fun m ρ _ => Cert.Kernel20Ideal.Gen.frame m ρ,
  fun m ρ _ => Cert.Kernel20Ideal.Gen.frame m ρ,
  frame_reference20,
  fun m ρ _ => frame_reference20 m ρ trivial,
  fun m ρ _ => Cert.Kernel21.Gen.frame m ρ,
  fun m ρ _ => Cert.Kernel21Ideal.Gen.frame m ρ,
  frame_reference21,
  fun m ρ _ => Cert.Kernel22.Gen.frame m ρ,
  fun m ρ _ => Cert.Kernel22Ideal.Gen.frame m ρ,
  frame_reference22,
  fun m ρ _ => Cert.Kernel23.Gen.frame m ρ,
  fun m ρ _ => Cert.Kernel23Ideal.Gen.frame m ρ,
  frame_reference23,
  fun m ρ _ => Cert.Kernel24.Gen.frame m ρ,
  fun m ρ _ => Cert.Kernel24Ideal.Gen.frame m ρ,
  frame_reference24,
  ⟨IdealRules.named_const.statement Cert.KernelIdeal.κ "gelu_cubic" .f32 0x3D372713#32 ((8943 / 200000 : ℝ) : EReal) rfl,
    IdealRules.named_const.statement Cert.KernelIdeal.κ "gelu_cubic3" .f32 0x3E095D4F#32 ((26829 / 200000 : ℝ) : EReal) rfl⟩,
  Cert.Sgu.algebraic,
  trivial,
  Cert.Pool.algebraic,
  trivial,
  Cert.MlpGate.algebraic,
  trivial,
  Cert.MlpW2.algebraic,
  trivial,
  Cert.MlpW1.algebraic,
  trivial,
  Cert.MlpH.algebraic,
  trivial,
  Cert.MlpH.WinOdd.algebraic,
  trivial,
  Cert.WinOddW.algebraic,
  trivial,
  Cert.WoutOddW.algebraic,
  trivial,
  Cert.MlpH.WinEven.algebraic,
  trivial,
  Cert.WinEvenW.algebraic,
  trivial,
  Cert.Projections.Mix.algebraic,
  trivial,
  Cert.MlpUp.algebraic,
  trivial,
  Cert.MlpDown.algebraic,
  trivial,
  Cert.Loss.algebraic,
  trivial,
  Cert.Projections.Odd.algebraic,
  trivial,
  Cert.Projections.Even.algebraic,
  trivial,
  Cert.MixOut.algebraic,
  IdealRules.named_const.statement Cert.Kernel19Ideal.κ "gelu_cubic" .f32 0x3D372713#32 ((8943 / 200000 : ℝ) : EReal) rfl,
  Cert.SguFwd.algebraic,
  trivial,
  Cert.PoolFwd.algebraic,
  IdealRules.named_const.statement Cert.Kernel21Ideal.κ "gelu_cubic" .f32 0x3D372713#32 ((8943 / 200000 : ℝ) : EReal) rfl,
  Cert.Gate.algebraic,
  trivial,
  Cert.FirstNorm.algebraic,
  trivial,
  Cert.MixEven.algebraic,
  trivial,
  Cert.WoutEvenW.algebraic⟩

end Cert.Proof

end
